-- ==== Defs.lean ====
def Pre_Nsa (m : (ℓ : Loc Cert.Nsa.nD Cert.Nsa.τ Cert.Nsa.sig) → Buf (Elt Bits) ℓ) : Prop :=
  True

def Pre_NsaIdeal (m : (ℓ : Loc Cert.NsaIdeal.nD Cert.NsaIdeal.τ Cert.NsaIdeal.sig) → Buf (Elt Ideal) ℓ) : Prop :=
  True

def Pre_Ffn1 (m : (ℓ : Loc Cert.Ffn1.nD Cert.Ffn1.τ Cert.Ffn1.sig) → Buf (Elt Bits) ℓ) : Prop :=
  True

def Pre_Ffn1Ideal (m : (ℓ : Loc Cert.Ffn1Ideal.nD Cert.Ffn1Ideal.τ Cert.Ffn1Ideal.sig) → Buf (Elt Ideal) ℓ) : Prop :=
  True

def Pre_Ffn1RefIdeal (m : (ℓ : Loc Cert.Ffn1RefIdeal.nD Cert.Ffn1RefIdeal.τ Cert.Ffn1RefIdeal.sig) → Buf (Elt Ideal) ℓ) : Prop :=
  True

def Pre_Ffn2 (m : (ℓ : Loc Cert.Ffn2.nD Cert.Ffn2.τ Cert.Ffn2.sig) → Buf (Elt Bits) ℓ) : Prop :=
  True

def Pre_Ffn2Ideal (m : (ℓ : Loc Cert.Ffn2Ideal.nD Cert.Ffn2Ideal.τ Cert.Ffn2Ideal.sig) → Buf (Elt Ideal) ℓ) : Prop :=
  True

def Pre_Ffn2RefIdeal (m : (ℓ : Loc Cert.Ffn2RefIdeal.nD Cert.Ffn2RefIdeal.τ Cert.Ffn2RefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_Cmpk (m : (ℓ : Loc Cert.Cmpk.nD Cert.Cmpk.τ Cert.Cmpk.sig) → Buf (Elt Bits) ℓ) : Prop :=
  True

def Pre_CmpkIdeal (m : (ℓ : Loc Cert.CmpkIdeal.nD Cert.CmpkIdeal.τ Cert.CmpkIdeal.sig) → Buf (Elt Ideal) ℓ) : Prop :=
  True

def Pre_CmpkRefIdeal (m : (ℓ : Loc Cert.CmpkRefIdeal.nD Cert.CmpkRefIdeal.τ Cert.CmpkRefIdeal.sig) → Buf (Elt Ideal) ℓ) : Prop :=
  True

def Pre_Cmpv (m : (ℓ : Loc Cert.Cmpv.nD Cert.Cmpv.τ Cert.Cmpv.sig) → Buf (Elt Bits) ℓ) : Prop :=
  True

def Pre_CmpvIdeal (m : (ℓ : Loc Cert.CmpvIdeal.nD Cert.CmpvIdeal.τ Cert.CmpvIdeal.sig) → Buf (Elt Ideal) ℓ) : Prop :=
  True

def Pre_CmpvRefIdeal (m : (ℓ : Loc Cert.CmpvRefIdeal.nD Cert.CmpvRefIdeal.τ Cert.CmpvRefIdeal.sig) → Buf (Elt Ideal) ℓ) : Prop :=
  True

def quiescent_Nsa [hNsa : Cert.Nsa.Facts] : Prop :=
  ∀ (m : (ℓ : Loc Cert.Nsa.nD Cert.Nsa.τ Cert.Nsa.sig) → Buf (Elt Bits) ℓ) (g : Dev Cert.Nsa.nD → PrngReg), Pre_Nsa m →
    θ_run (Cert.Nsa.defs (F := Bits)) (onTc (τ := Cert.Nsa.τ) (Cert.Nsa.main (F := Bits))) ⟨m, fun _ => 0, g⟩ (fun r => (∀ c : Dev Cert.Nsa.nD,
      r.2.mem ((c.tc : Thread Cert.Nsa.nD Cert.Nsa.τ).loc Cert.Nsa.main_arg0) = m ((c.tc : Thread Cert.Nsa.nD Cert.Nsa.τ).loc Cert.Nsa.main_arg0)
      ∧ r.2.mem ((c.tc : Thread Cert.Nsa.nD Cert.Nsa.τ).loc Cert.Nsa.main_arg1) = m ((c.tc : Thread Cert.Nsa.nD Cert.Nsa.τ).loc Cert.Nsa.main_arg1)
      ∧ r.2.mem ((c.tc : Thread Cert.Nsa.nD Cert.Nsa.τ).loc Cert.Nsa.main_arg2) = m ((c.tc : Thread Cert.Nsa.nD Cert.Nsa.τ).loc Cert.Nsa.main_arg2)
      ∧ r.2.mem ((c.tc : Thread Cert.Nsa.nD Cert.Nsa.τ).loc Cert.Nsa.main_arg3) = m ((c.tc : Thread Cert.Nsa.nD Cert.Nsa.τ).loc Cert.Nsa.main_arg3)
      ∧ r.2.mem ((c.tc : Thread Cert.Nsa.nD Cert.Nsa.τ).loc Cert.Nsa.main_arg4) = m ((c.tc : Thread Cert.Nsa.nD Cert.Nsa.τ).loc Cert.Nsa.main_arg4)
      ∧ r.2.mem ((c.tc : Thread Cert.Nsa.nD Cert.Nsa.τ).loc Cert.Nsa.main_arg5) = m ((c.tc : Thread Cert.Nsa.nD Cert.Nsa.τ).loc Cert.Nsa.main_arg5)
      ∧ r.2.mem ((c.tc : Thread Cert.Nsa.nD Cert.Nsa.τ).loc Cert.Nsa.main_arg6) = m ((c.tc : Thread Cert.Nsa.nD Cert.Nsa.τ).loc Cert.Nsa.main_arg6)
      ∧ r.2.mem ((c.tc : Thread Cert.Nsa.nD Cert.Nsa.τ).loc Cert.Nsa.main_arg7) = m ((c.tc : Thread Cert.Nsa.nD Cert.Nsa.τ).loc Cert.Nsa.main_arg7))
      ∧ r.2.sem = fun _ => 0)

def quiescent_NsaIdeal [hNsaIdeal : Cert.NsaIdeal.Facts] : Prop :=
  ∀ (m : (ℓ : Loc Cert.NsaIdeal.nD Cert.NsaIdeal.τ Cert.NsaIdeal.sig) → Buf (Elt Ideal) ℓ) (g : Dev Cert.NsaIdeal.nD → PrngReg), Pre_NsaIdeal m →
    θ_run (Cert.NsaIdeal.defs (F := Ideal)) (onTc (τ := Cert.NsaIdeal.τ) (Cert.NsaIdeal.main (F := Ideal))) ⟨m, fun _ => 0, g⟩ (fun r => (∀ c : Dev Cert.NsaIdeal.nD,
      r.2.mem ((c.tc : Thread Cert.NsaIdeal.nD Cert.NsaIdeal.τ).loc Cert.NsaIdeal.main_arg0) = m ((c.tc : Thread Cert.NsaIdeal.nD Cert.NsaIdeal.τ).loc Cert.NsaIdeal.main_arg0)
      ∧ r.2.mem ((c.tc : Thread Cert.NsaIdeal.nD Cert.NsaIdeal.τ).loc Cert.NsaIdeal.main_arg1) = m ((c.tc : Thread Cert.NsaIdeal.nD Cert.NsaIdeal.τ).loc Cert.NsaIdeal.main_arg1)
      ∧ r.2.mem ((c.tc : Thread Cert.NsaIdeal.nD Cert.NsaIdeal.τ).loc Cert.NsaIdeal.main_arg2) = m ((c.tc : Thread Cert.NsaIdeal.nD Cert.NsaIdeal.τ).loc Cert.NsaIdeal.main_arg2)
      ∧ r.2.mem ((c.tc : Thread Cert.NsaIdeal.nD Cert.NsaIdeal.τ).loc Cert.NsaIdeal.main_arg3) = m ((c.tc : Thread Cert.NsaIdeal.nD Cert.NsaIdeal.τ).loc Cert.NsaIdeal.main_arg3)
      ∧ r.2.mem ((c.tc : Thread Cert.NsaIdeal.nD Cert.NsaIdeal.τ).loc Cert.NsaIdeal.main_arg4) = m ((c.tc : Thread Cert.NsaIdeal.nD Cert.NsaIdeal.τ).loc Cert.NsaIdeal.main_arg4)
      ∧ r.2.mem ((c.tc : Thread Cert.NsaIdeal.nD Cert.NsaIdeal.τ).loc Cert.NsaIdeal.main_arg5) = m ((c.tc : Thread Cert.NsaIdeal.nD Cert.NsaIdeal.τ).loc Cert.NsaIdeal.main_arg5)
      ∧ r.2.mem ((c.tc : Thread Cert.NsaIdeal.nD Cert.NsaIdeal.τ).loc Cert.NsaIdeal.main_arg6) = m ((c.tc : Thread Cert.NsaIdeal.nD Cert.NsaIdeal.τ).loc Cert.NsaIdeal.main_arg6)
      ∧ r.2.mem ((c.tc : Thread Cert.NsaIdeal.nD Cert.NsaIdeal.τ).loc Cert.NsaIdeal.main_arg7) = m ((c.tc : Thread Cert.NsaIdeal.nD Cert.NsaIdeal.τ).loc Cert.NsaIdeal.main_arg7))
      ∧ r.2.sem = fun _ => 0)

def quiescent_Ffn1 [hFfn1 : Cert.Ffn1.Facts] : Prop :=
  ∀ (m : (ℓ : Loc Cert.Ffn1.nD Cert.Ffn1.τ Cert.Ffn1.sig) → Buf (Elt Bits) ℓ) (g : Dev Cert.Ffn1.nD → PrngReg), Pre_Ffn1 m →
    θ_run (Cert.Ffn1.defs (F := Bits)) (onTc (τ := Cert.Ffn1.τ) (Cert.Ffn1.main (F := Bits))) ⟨m, fun _ => 0, g⟩ (fun r => (∀ c : Dev Cert.Ffn1.nD,
      r.2.mem ((c.tc : Thread Cert.Ffn1.nD Cert.Ffn1.τ).loc Cert.Ffn1.main_arg0) = m ((c.tc : Thread Cert.Ffn1.nD Cert.Ffn1.τ).loc Cert.Ffn1.main_arg0)
      ∧ r.2.mem ((c.tc : Thread Cert.Ffn1.nD Cert.Ffn1.τ).loc Cert.Ffn1.main_arg1) = m ((c.tc : Thread Cert.Ffn1.nD Cert.Ffn1.τ).loc Cert.Ffn1.main_arg1)
      ∧ r.2.mem ((c.tc : Thread Cert.Ffn1.nD Cert.Ffn1.τ).loc Cert.Ffn1.main_arg2) = m ((c.tc : Thread Cert.Ffn1.nD Cert.Ffn1.τ).loc Cert.Ffn1.main_arg2)
      ∧ r.2.mem ((c.tc : Thread Cert.Ffn1.nD Cert.Ffn1.τ).loc Cert.Ffn1.main_arg3) = m ((c.tc : Thread Cert.Ffn1.nD Cert.Ffn1.τ).loc Cert.Ffn1.main_arg3)
      ∧ r.2.mem ((c.tc : Thread Cert.Ffn1.nD Cert.Ffn1.τ).loc Cert.Ffn1.main_arg4) = m ((c.tc : Thread Cert.Ffn1.nD Cert.Ffn1.τ).loc Cert.Ffn1.main_arg4)
      ∧ r.2.mem ((c.tc : Thread Cert.Ffn1.nD Cert.Ffn1.τ).loc Cert.Ffn1.main_arg5) = m ((c.tc : Thread Cert.Ffn1.nD Cert.Ffn1.τ).loc Cert.Ffn1.main_arg5)
      ∧ r.2.mem ((c.tc : Thread Cert.Ffn1.nD Cert.Ffn1.τ).loc Cert.Ffn1.main_arg6) = m ((c.tc : Thread Cert.Ffn1.nD Cert.Ffn1.τ).loc Cert.Ffn1.main_arg6)
      ∧ r.2.mem ((c.tc : Thread Cert.Ffn1.nD Cert.Ffn1.τ).loc Cert.Ffn1.main_arg7) = m ((c.tc : Thread Cert.Ffn1.nD Cert.Ffn1.τ).loc Cert.Ffn1.main_arg7)
      ∧ r.2.mem ((c.tc : Thread Cert.Ffn1.nD Cert.Ffn1.τ).loc Cert.Ffn1.main_arg8) = m ((c.tc : Thread Cert.Ffn1.nD Cert.Ffn1.τ).loc Cert.Ffn1.main_arg8))
      ∧ r.2.sem = fun _ => 0)

def quiescent_Ffn1Ideal [hFfn1Ideal : Cert.Ffn1Ideal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg), Pre_Ffn1Ideal m →
    θ_run (Cert.Ffn1Ideal.defs (F := Ideal)) (onTc (τ := Cert.Ffn1Ideal.τ) (Cert.Ffn1Ideal.main (F := Ideal))) ⟨m, fun _ => 0, g⟩ (fun r => (∀ c : Dev Cert.Ffn1Ideal.nD,
      r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
      ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
      ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
      ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
      ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4)
      ∧ r.2.mem ((c.tc : Thread Cert.Ffn1Ideal.nD Cert.Ffn1Ideal.τ).loc Cert.Ffn1Ideal.main_arg5) = m ((c.tc : Thread Cert.Ffn1Ideal.nD Cert.Ffn1Ideal.τ).loc Cert.Ffn1Ideal.main_arg5)
      ∧ r.2.mem ((c.tc : Thread Cert.Ffn1Ideal.nD Cert.Ffn1Ideal.τ).loc Cert.Ffn1Ideal.main_arg6) = m ((c.tc : Thread Cert.Ffn1Ideal.nD Cert.Ffn1Ideal.τ).loc Cert.Ffn1Ideal.main_arg6)
      ∧ r.2.mem ((c.tc : Thread Cert.Ffn1Ideal.nD Cert.Ffn1Ideal.τ).loc Cert.Ffn1Ideal.main_arg7) = m ((c.tc : Thread Cert.Ffn1Ideal.nD Cert.Ffn1Ideal.τ).loc Cert.Ffn1Ideal.main_arg7)
      ∧ r.2.mem ((c.tc : Thread Cert.Ffn1Ideal.nD Cert.Ffn1Ideal.τ).loc Cert.Ffn1Ideal.main_arg8) = m ((c.tc : Thread Cert.Ffn1Ideal.nD Cert.Ffn1Ideal.τ).loc Cert.Ffn1Ideal.main_arg8))
      ∧ r.2.sem = fun _ => 0)

def quiescent_Ffn1RefIdeal [hFfn1RefIdeal : Cert.Ffn1RefIdeal.Facts] : Prop :=
  ∀ (m : (ℓ : Loc Cert.Ffn1RefIdeal.nD Cert.Ffn1RefIdeal.τ Cert.Ffn1RefIdeal.sig) → Buf (Elt Ideal) ℓ) (g : Dev Cert.Ffn1RefIdeal.nD → PrngReg), Pre_Ffn1RefIdeal m →
    θ_run (Cert.Ffn1RefIdeal.defs (F := Ideal)) (onTc (τ := Cert.Ffn1RefIdeal.τ) (Cert.Ffn1RefIdeal.main (F := Ideal))) ⟨m, fun _ => 0, g⟩ (fun r => (∀ c : Dev Cert.Ffn1RefIdeal.nD,
      r.2.mem ((c.tc : Thread Cert.Ffn1RefIdeal.nD Cert.Ffn1RefIdeal.τ).loc Cert.Ffn1RefIdeal.main_arg0) = m ((c.tc : Thread Cert.Ffn1RefIdeal.nD Cert.Ffn1RefIdeal.τ).loc Cert.Ffn1RefIdeal.main_arg0)
      ∧ r.2.mem ((c.tc : Thread Cert.Ffn1RefIdeal.nD Cert.Ffn1RefIdeal.τ).loc Cert.Ffn1RefIdeal.main_arg1) = m ((c.tc : Thread Cert.Ffn1RefIdeal.nD Cert.Ffn1RefIdeal.τ).loc Cert.Ffn1RefIdeal.main_arg1)
      ∧ r.2.mem ((c.tc : Thread Cert.Ffn1RefIdeal.nD Cert.Ffn1RefIdeal.τ).loc Cert.Ffn1RefIdeal.main_arg2) = m ((c.tc : Thread Cert.Ffn1RefIdeal.nD Cert.Ffn1RefIdeal.τ).loc Cert.Ffn1RefIdeal.main_arg2)
      ∧ r.2.mem ((c.tc : Thread Cert.Ffn1RefIdeal.nD Cert.Ffn1RefIdeal.τ).loc Cert.Ffn1RefIdeal.main_arg3) = m ((c.tc : Thread Cert.Ffn1RefIdeal.nD Cert.Ffn1RefIdeal.τ).loc Cert.Ffn1RefIdeal.main_arg3)
      ∧ r.2.mem ((c.tc : Thread Cert.Ffn1RefIdeal.nD Cert.Ffn1RefIdeal.τ).loc Cert.Ffn1RefIdeal.main_arg4) = m ((c.tc : Thread Cert.Ffn1RefIdeal.nD Cert.Ffn1RefIdeal.τ).loc Cert.Ffn1RefIdeal.main_arg4)
      ∧ r.2.mem ((c.tc : Thread Cert.Ffn1RefIdeal.nD Cert.Ffn1RefIdeal.τ).loc Cert.Ffn1RefIdeal.main_arg5) = m ((c.tc : Thread Cert.Ffn1RefIdeal.nD Cert.Ffn1RefIdeal.τ).loc Cert.Ffn1RefIdeal.main_arg5)
      ∧ r.2.mem ((c.tc : Thread Cert.Ffn1RefIdeal.nD Cert.Ffn1RefIdeal.τ).loc Cert.Ffn1RefIdeal.main_arg6) = m ((c.tc : Thread Cert.Ffn1RefIdeal.nD Cert.Ffn1RefIdeal.τ).loc Cert.Ffn1RefIdeal.main_arg6)
      ∧ r.2.mem ((c.tc : Thread Cert.Ffn1RefIdeal.nD Cert.Ffn1RefIdeal.τ).loc Cert.Ffn1RefIdeal.main_arg7) = m ((c.tc : Thread Cert.Ffn1RefIdeal.nD Cert.Ffn1RefIdeal.τ).loc Cert.Ffn1RefIdeal.main_arg7)
      ∧ r.2.mem ((c.tc : Thread Cert.Ffn1RefIdeal.nD Cert.Ffn1RefIdeal.τ).loc Cert.Ffn1RefIdeal.main_arg8) = m ((c.tc : Thread Cert.Ffn1RefIdeal.nD Cert.Ffn1RefIdeal.τ).loc Cert.Ffn1RefIdeal.main_arg8))
      ∧ r.2.sem = fun _ => 0)

def quiescent_Ffn2 [hFfn2 : Cert.Ffn2.Facts] : Prop :=
  ∀ (m : (ℓ : Loc Cert.Ffn2.nD Cert.Ffn2.τ Cert.Ffn2.sig) → Buf (Elt Bits) ℓ) (g : Dev Cert.Ffn2.nD → PrngReg), Pre_Ffn2 m →
    θ_run (Cert.Ffn2.defs (F := Bits)) (onTc (τ := Cert.Ffn2.τ) (Cert.Ffn2.main (F := Bits))) ⟨m, fun _ => 0, g⟩ (fun r => (∀ c : Dev Cert.Ffn2.nD,
      r.2.mem ((c.tc : Thread Cert.Ffn2.nD Cert.Ffn2.τ).loc Cert.Ffn2.main_arg0) = m ((c.tc : Thread Cert.Ffn2.nD Cert.Ffn2.τ).loc Cert.Ffn2.main_arg0)
      ∧ r.2.mem ((c.tc : Thread Cert.Ffn2.nD Cert.Ffn2.τ).loc Cert.Ffn2.main_arg1) = m ((c.tc : Thread Cert.Ffn2.nD Cert.Ffn2.τ).loc Cert.Ffn2.main_arg1)
      ∧ r.2.mem ((c.tc : Thread Cert.Ffn2.nD Cert.Ffn2.τ).loc Cert.Ffn2.main_arg2) = m ((c.tc : Thread Cert.Ffn2.nD Cert.Ffn2.τ).loc Cert.Ffn2.main_arg2)
      ∧ r.2.mem ((c.tc : Thread Cert.Ffn2.nD Cert.Ffn2.τ).loc Cert.Ffn2.main_arg3) = m ((c.tc : Thread Cert.Ffn2.nD Cert.Ffn2.τ).loc Cert.Ffn2.main_arg3)
      ∧ r.2.mem ((c.tc : Thread Cert.Ffn2.nD Cert.Ffn2.τ).loc Cert.Ffn2.main_arg4) = m ((c.tc : Thread Cert.Ffn2.nD Cert.Ffn2.τ).loc Cert.Ffn2.main_arg4)
      ∧ r.2.mem ((c.tc : Thread Cert.Ffn2.nD Cert.Ffn2.τ).loc Cert.Ffn2.main_arg5) = m ((c.tc : Thread Cert.Ffn2.nD Cert.Ffn2.τ).loc Cert.Ffn2.main_arg5))
      ∧ r.2.sem = fun _ => 0)

def quiescent_Ffn2Ideal [hFfn2Ideal : Cert.Ffn2Ideal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg), Pre_Ffn2Ideal m →
    θ_run (Cert.Ffn2Ideal.defs (F := Ideal)) (onTc (τ := Cert.Ffn2Ideal.τ) (Cert.Ffn2Ideal.main (F := Ideal))) ⟨m, fun _ => 0, g⟩ (fun r => (∀ c : Dev Cert.Ffn2Ideal.nD,
      r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
      ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
      ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
      ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3)
      ∧ r.2.mem ((c.tc : Thread Cert.Ffn2Ideal.nD Cert.Ffn2Ideal.τ).loc Cert.Ffn2Ideal.main_arg4) = m ((c.tc : Thread Cert.Ffn2Ideal.nD Cert.Ffn2Ideal.τ).loc Cert.Ffn2Ideal.main_arg4)
      ∧ r.2.mem ((c.tc : Thread Cert.Ffn2Ideal.nD Cert.Ffn2Ideal.τ).loc Cert.Ffn2Ideal.main_arg5) = m ((c.tc : Thread Cert.Ffn2Ideal.nD Cert.Ffn2Ideal.τ).loc Cert.Ffn2Ideal.main_arg5))
      ∧ r.2.sem = fun _ => 0)

def quiescent_Ffn2RefIdeal [hFfn2RefIdeal : Cert.Ffn2RefIdeal.Facts] : Prop :=
  ∀ (m : (ℓ : Loc Cert.Ffn2RefIdeal.nD Cert.Ffn2RefIdeal.τ Cert.Ffn2RefIdeal.sig) → Buf (Elt Ideal) ℓ) (g : Dev Cert.Ffn2RefIdeal.nD → PrngReg), Pre_Ffn2RefIdeal m →
    θ_run (Cert.Ffn2RefIdeal.defs (F := Ideal)) (onTc (τ := Cert.Ffn2RefIdeal.τ) (Cert.Ffn2RefIdeal.main (F := Ideal))) ⟨m, fun _ => 0, g⟩ (fun r => (∀ c : Dev Cert.Ffn2RefIdeal.nD,
      r.2.mem ((c.tc : Thread Cert.Ffn2RefIdeal.nD Cert.Ffn2RefIdeal.τ).loc Cert.Ffn2RefIdeal.main_arg0) = m ((c.tc : Thread Cert.Ffn2RefIdeal.nD Cert.Ffn2RefIdeal.τ).loc Cert.Ffn2RefIdeal.main_arg0)
      ∧ r.2.mem ((c.tc : Thread Cert.Ffn2RefIdeal.nD Cert.Ffn2RefIdeal.τ).loc Cert.Ffn2RefIdeal.main_arg1) = m ((c.tc : Thread Cert.Ffn2RefIdeal.nD Cert.Ffn2RefIdeal.τ).loc Cert.Ffn2RefIdeal.main_arg1)
      ∧ r.2.mem ((c.tc : Thread Cert.Ffn2RefIdeal.nD Cert.Ffn2RefIdeal.τ).loc Cert.Ffn2RefIdeal.main_arg2) = m ((c.tc : Thread Cert.Ffn2RefIdeal.nD Cert.Ffn2RefIdeal.τ).loc Cert.Ffn2RefIdeal.main_arg2)
      ∧ r.2.mem ((c.tc : Thread Cert.Ffn2RefIdeal.nD Cert.Ffn2RefIdeal.τ).loc Cert.Ffn2RefIdeal.main_arg3) = m ((c.tc : Thread Cert.Ffn2RefIdeal.nD Cert.Ffn2RefIdeal.τ).loc Cert.Ffn2RefIdeal.main_arg3)
      ∧ r.2.mem ((c.tc : Thread Cert.Ffn2RefIdeal.nD Cert.Ffn2RefIdeal.τ).loc Cert.Ffn2RefIdeal.main_arg4) = m ((c.tc : Thread Cert.Ffn2RefIdeal.nD Cert.Ffn2RefIdeal.τ).loc Cert.Ffn2RefIdeal.main_arg4)
      ∧ r.2.mem ((c.tc : Thread Cert.Ffn2RefIdeal.nD Cert.Ffn2RefIdeal.τ).loc Cert.Ffn2RefIdeal.main_arg5) = m ((c.tc : Thread Cert.Ffn2RefIdeal.nD Cert.Ffn2RefIdeal.τ).loc Cert.Ffn2RefIdeal.main_arg5))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Cmpk [hCmpk : Cert.Cmpk.Facts] : Prop :=
  ∀ (m : (ℓ : Loc Cert.Cmpk.nD Cert.Cmpk.τ Cert.Cmpk.sig) → Buf (Elt Bits) ℓ) (g : Dev Cert.Cmpk.nD → PrngReg), Pre_Cmpk m →
    θ_run (Cert.Cmpk.defs (F := Bits)) (onTc (τ := Cert.Cmpk.τ) (Cert.Cmpk.main (F := Bits))) ⟨m, fun _ => 0, g⟩ (fun r => (∀ c : Dev Cert.Cmpk.nD,
      r.2.mem ((c.tc : Thread Cert.Cmpk.nD Cert.Cmpk.τ).loc Cert.Cmpk.main_arg0) = m ((c.tc : Thread Cert.Cmpk.nD Cert.Cmpk.τ).loc Cert.Cmpk.main_arg0)
      ∧ r.2.mem ((c.tc : Thread Cert.Cmpk.nD Cert.Cmpk.τ).loc Cert.Cmpk.main_arg1) = m ((c.tc : Thread Cert.Cmpk.nD Cert.Cmpk.τ).loc Cert.Cmpk.main_arg1)
      ∧ r.2.mem ((c.tc : Thread Cert.Cmpk.nD Cert.Cmpk.τ).loc Cert.Cmpk.main_arg2) = m ((c.tc : Thread Cert.Cmpk.nD Cert.Cmpk.τ).loc Cert.Cmpk.main_arg2)
      ∧ r.2.mem ((c.tc : Thread Cert.Cmpk.nD Cert.Cmpk.τ).loc Cert.Cmpk.main_arg3) = m ((c.tc : Thread Cert.Cmpk.nD Cert.Cmpk.τ).loc Cert.Cmpk.main_arg3))
      ∧ r.2.sem = fun _ => 0)

def quiescent_CmpkIdeal [hCmpkIdeal : Cert.CmpkIdeal.Facts] : Prop :=
  ∀ (m : (ℓ : Loc Cert.CmpkIdeal.nD Cert.CmpkIdeal.τ Cert.CmpkIdeal.sig) → Buf (Elt Ideal) ℓ) (g : Dev Cert.CmpkIdeal.nD → PrngReg), Pre_CmpkIdeal m →
    θ_run (Cert.CmpkIdeal.defs (F := Ideal)) (onTc (τ := Cert.CmpkIdeal.τ) (Cert.CmpkIdeal.main (F := Ideal))) ⟨m, fun _ => 0, g⟩ (fun r => (∀ c : Dev Cert.CmpkIdeal.nD,
      r.2.mem ((c.tc : Thread Cert.CmpkIdeal.nD Cert.CmpkIdeal.τ).loc Cert.CmpkIdeal.main_arg0) = m ((c.tc : Thread Cert.CmpkIdeal.nD Cert.CmpkIdeal.τ).loc Cert.CmpkIdeal.main_arg0)
      ∧ r.2.mem ((c.tc : Thread Cert.CmpkIdeal.nD Cert.CmpkIdeal.τ).loc Cert.CmpkIdeal.main_arg1) = m ((c.tc : Thread Cert.CmpkIdeal.nD Cert.CmpkIdeal.τ).loc Cert.CmpkIdeal.main_arg1)
      ∧ r.2.mem ((c.tc : Thread Cert.CmpkIdeal.nD Cert.CmpkIdeal.τ).loc Cert.CmpkIdeal.main_arg2) = m ((c.tc : Thread Cert.CmpkIdeal.nD Cert.CmpkIdeal.τ).loc Cert.CmpkIdeal.main_arg2)
      ∧ r.2.mem ((c.tc : Thread Cert.CmpkIdeal.nD Cert.CmpkIdeal.τ).loc Cert.CmpkIdeal.main_arg3) = m ((c.tc : Thread Cert.CmpkIdeal.nD Cert.CmpkIdeal.τ).loc Cert.CmpkIdeal.main_arg3))
      ∧ r.2.sem = fun _ => 0)

def quiescent_CmpkRefIdeal [hCmpkRefIdeal : Cert.CmpkRefIdeal.Facts] : Prop :=
  ∀ (m : (ℓ : Loc Cert.CmpkRefIdeal.nD Cert.CmpkRefIdeal.τ Cert.CmpkRefIdeal.sig) → Buf (Elt Ideal) ℓ) (g : Dev Cert.CmpkRefIdeal.nD → PrngReg), Pre_CmpkRefIdeal m →
    θ_run (Cert.CmpkRefIdeal.defs (F := Ideal)) (onTc (τ := Cert.CmpkRefIdeal.τ) (Cert.CmpkRefIdeal.main (F := Ideal))) ⟨m, fun _ => 0, g⟩ (fun r => (∀ c : Dev Cert.CmpkRefIdeal.nD,
      r.2.mem ((c.tc : Thread Cert.CmpkRefIdeal.nD Cert.CmpkRefIdeal.τ).loc Cert.CmpkRefIdeal.main_arg0) = m ((c.tc : Thread Cert.CmpkRefIdeal.nD Cert.CmpkRefIdeal.τ).loc Cert.CmpkRefIdeal.main_arg0)
      ∧ r.2.mem ((c.tc : Thread Cert.CmpkRefIdeal.nD Cert.CmpkRefIdeal.τ).loc Cert.CmpkRefIdeal.main_arg1) = m ((c.tc : Thread Cert.CmpkRefIdeal.nD Cert.CmpkRefIdeal.τ).loc Cert.CmpkRefIdeal.main_arg1)
      ∧ r.2.mem ((c.tc : Thread Cert.CmpkRefIdeal.nD Cert.CmpkRefIdeal.τ).loc Cert.CmpkRefIdeal.main_arg2) = m ((c.tc : Thread Cert.CmpkRefIdeal.nD Cert.CmpkRefIdeal.τ).loc Cert.CmpkRefIdeal.main_arg2)
      ∧ r.2.mem ((c.tc : Thread Cert.CmpkRefIdeal.nD Cert.CmpkRefIdeal.τ).loc Cert.CmpkRefIdeal.main_arg3) = m ((c.tc : Thread Cert.CmpkRefIdeal.nD Cert.CmpkRefIdeal.τ).loc Cert.CmpkRefIdeal.main_arg3))
      ∧ r.2.sem = fun _ => 0)

def quiescent_Cmpv [hCmpv : Cert.Cmpv.Facts] : Prop :=
  ∀ (m : (ℓ : Loc Cert.Cmpv.nD Cert.Cmpv.τ Cert.Cmpv.sig) → Buf (Elt Bits) ℓ) (g : Dev Cert.Cmpv.nD → PrngReg), Pre_Cmpv m →
    θ_run (Cert.Cmpv.defs (F := Bits)) (onTc (τ := Cert.Cmpv.τ) (Cert.Cmpv.main (F := Bits))) ⟨m, fun _ => 0, g⟩ (fun r => (∀ c : Dev Cert.Cmpv.nD,
      r.2.mem ((c.tc : Thread Cert.Cmpv.nD Cert.Cmpv.τ).loc Cert.Cmpv.main_arg0) = m ((c.tc : Thread Cert.Cmpv.nD Cert.Cmpv.τ).loc Cert.Cmpv.main_arg0)
      ∧ r.2.mem ((c.tc : Thread Cert.Cmpv.nD Cert.Cmpv.τ).loc Cert.Cmpv.main_arg1) = m ((c.tc : Thread Cert.Cmpv.nD Cert.Cmpv.τ).loc Cert.Cmpv.main_arg1)
      ∧ r.2.mem ((c.tc : Thread Cert.Cmpv.nD Cert.Cmpv.τ).loc Cert.Cmpv.main_arg2) = m ((c.tc : Thread Cert.Cmpv.nD Cert.Cmpv.τ).loc Cert.Cmpv.main_arg2)
      ∧ r.2.mem ((c.tc : Thread Cert.Cmpv.nD Cert.Cmpv.τ).loc Cert.Cmpv.main_arg3) = m ((c.tc : Thread Cert.Cmpv.nD Cert.Cmpv.τ).loc Cert.Cmpv.main_arg3))
      ∧ r.2.sem = fun _ => 0)

def quiescent_CmpvIdeal [hCmpvIdeal : Cert.CmpvIdeal.Facts] : Prop :=
  ∀ (m : (ℓ : Loc Cert.CmpvIdeal.nD Cert.CmpvIdeal.τ Cert.CmpvIdeal.sig) → Buf (Elt Ideal) ℓ) (g : Dev Cert.CmpvIdeal.nD → PrngReg), Pre_CmpvIdeal m →
    θ_run (Cert.CmpvIdeal.defs (F := Ideal)) (onTc (τ := Cert.CmpvIdeal.τ) (Cert.CmpvIdeal.main (F := Ideal))) ⟨m, fun _ => 0, g⟩ (fun r => (∀ c : Dev Cert.CmpvIdeal.nD,
      r.2.mem ((c.tc : Thread Cert.CmpvIdeal.nD Cert.CmpvIdeal.τ).loc Cert.CmpvIdeal.main_arg0) = m ((c.tc : Thread Cert.CmpvIdeal.nD Cert.CmpvIdeal.τ).loc Cert.CmpvIdeal.main_arg0)
      ∧ r.2.mem ((c.tc : Thread Cert.CmpvIdeal.nD Cert.CmpvIdeal.τ).loc Cert.CmpvIdeal.main_arg1) = m ((c.tc : Thread Cert.CmpvIdeal.nD Cert.CmpvIdeal.τ).loc Cert.CmpvIdeal.main_arg1)
      ∧ r.2.mem ((c.tc : Thread Cert.CmpvIdeal.nD Cert.CmpvIdeal.τ).loc Cert.CmpvIdeal.main_arg2) = m ((c.tc : Thread Cert.CmpvIdeal.nD Cert.CmpvIdeal.τ).loc Cert.CmpvIdeal.main_arg2)
      ∧ r.2.mem ((c.tc : Thread Cert.CmpvIdeal.nD Cert.CmpvIdeal.τ).loc Cert.CmpvIdeal.main_arg3) = m ((c.tc : Thread Cert.CmpvIdeal.nD Cert.CmpvIdeal.τ).loc Cert.CmpvIdeal.main_arg3))
      ∧ r.2.sem = fun _ => 0)

def quiescent_CmpvRefIdeal [hCmpvRefIdeal : Cert.CmpvRefIdeal.Facts] : Prop :=
  ∀ (m : (ℓ : Loc Cert.CmpvRefIdeal.nD Cert.CmpvRefIdeal.τ Cert.CmpvRefIdeal.sig) → Buf (Elt Ideal) ℓ) (g : Dev Cert.CmpvRefIdeal.nD → PrngReg), Pre_CmpvRefIdeal m →
    θ_run (Cert.CmpvRefIdeal.defs (F := Ideal)) (onTc (τ := Cert.CmpvRefIdeal.τ) (Cert.CmpvRefIdeal.main (F := Ideal))) ⟨m, fun _ => 0, g⟩ (fun r => (∀ c : Dev Cert.CmpvRefIdeal.nD,
      r.2.mem ((c.tc : Thread Cert.CmpvRefIdeal.nD Cert.CmpvRefIdeal.τ).loc Cert.CmpvRefIdeal.main_arg0) = m ((c.tc : Thread Cert.CmpvRefIdeal.nD Cert.CmpvRefIdeal.τ).loc Cert.CmpvRefIdeal.main_arg0)
      ∧ r.2.mem ((c.tc : Thread Cert.CmpvRefIdeal.nD Cert.CmpvRefIdeal.τ).loc Cert.CmpvRefIdeal.main_arg1) = m ((c.tc : Thread Cert.CmpvRefIdeal.nD Cert.CmpvRefIdeal.τ).loc Cert.CmpvRefIdeal.main_arg1)
      ∧ r.2.mem ((c.tc : Thread Cert.CmpvRefIdeal.nD Cert.CmpvRefIdeal.τ).loc Cert.CmpvRefIdeal.main_arg2) = m ((c.tc : Thread Cert.CmpvRefIdeal.nD Cert.CmpvRefIdeal.τ).loc Cert.CmpvRefIdeal.main_arg2)
      ∧ r.2.mem ((c.tc : Thread Cert.CmpvRefIdeal.nD Cert.CmpvRefIdeal.τ).loc Cert.CmpvRefIdeal.main_arg3) = m ((c.tc : Thread Cert.CmpvRefIdeal.nD Cert.CmpvRefIdeal.τ).loc Cert.CmpvRefIdeal.main_arg3))
      ∧ r.2.sem = fun _ => 0)

def preserves_Nsa_NsaIdeal : Prop :=
  True

def preserves_Ffn1_Ffn1Ideal : Prop :=
  True

def algebraic_Ffn1Ideal_Ffn1RefIdeal [hFfn1Ideal : Cert.Ffn1Ideal.Facts] [hFfn1RefIdeal : Cert.Ffn1RefIdeal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg)
    (m' : (ℓ : Loc Cert.Ffn1RefIdeal.nD Cert.Ffn1RefIdeal.τ Cert.Ffn1RefIdeal.sig) → Buf (Elt Ideal) ℓ) (g' : Dev Cert.Ffn1RefIdeal.nD → PrngReg), Pre_Ffn1Ideal m →
    (∀ c : Dev Cert.Ffn1Ideal.nD,
      m' ((c.tc : Thread Cert.Ffn1RefIdeal.nD Cert.Ffn1RefIdeal.τ).loc Cert.Ffn1RefIdeal.main_arg0) = m ((c.tc : Thread Cert.Ffn1Ideal.nD Cert.Ffn1Ideal.τ).loc Cert.Ffn1Ideal.main_arg0)
      ∧ m' ((c.tc : Thread Cert.Ffn1RefIdeal.nD Cert.Ffn1RefIdeal.τ).loc Cert.Ffn1RefIdeal.main_arg1) = m ((c.tc : Thread Cert.Ffn1Ideal.nD Cert.Ffn1Ideal.τ).loc Cert.Ffn1Ideal.main_arg1)
      ∧ m' ((c.tc : Thread Cert.Ffn1RefIdeal.nD Cert.Ffn1RefIdeal.τ).loc Cert.Ffn1RefIdeal.main_arg2) = m ((c.tc : Thread Cert.Ffn1Ideal.nD Cert.Ffn1Ideal.τ).loc Cert.Ffn1Ideal.main_arg2)
      ∧ m' ((c.tc : Thread Cert.Ffn1RefIdeal.nD Cert.Ffn1RefIdeal.τ).loc Cert.Ffn1RefIdeal.main_arg3) = m ((c.tc : Thread Cert.Ffn1Ideal.nD Cert.Ffn1Ideal.τ).loc Cert.Ffn1Ideal.main_arg3)
      ∧ m' ((c.tc : Thread Cert.Ffn1RefIdeal.nD Cert.Ffn1RefIdeal.τ).loc Cert.Ffn1RefIdeal.main_arg4) = m ((c.tc : Thread Cert.Ffn1Ideal.nD Cert.Ffn1Ideal.τ).loc Cert.Ffn1Ideal.main_arg4)
      ∧ m' ((c.tc : Thread Cert.Ffn1RefIdeal.nD Cert.Ffn1RefIdeal.τ).loc Cert.Ffn1RefIdeal.main_arg5) = m ((c.tc : Thread Cert.Ffn1Ideal.nD Cert.Ffn1Ideal.τ).loc Cert.Ffn1Ideal.main_arg5)
      ∧ m' ((c.tc : Thread Cert.Ffn1RefIdeal.nD Cert.Ffn1RefIdeal.τ).loc Cert.Ffn1RefIdeal.main_arg6) = m ((c.tc : Thread Cert.Ffn1Ideal.nD Cert.Ffn1Ideal.τ).loc Cert.Ffn1Ideal.main_arg6)
      ∧ m' ((c.tc : Thread Cert.Ffn1RefIdeal.nD Cert.Ffn1RefIdeal.τ).loc Cert.Ffn1RefIdeal.main_arg7) = m ((c.tc : Thread Cert.Ffn1Ideal.nD Cert.Ffn1Ideal.τ).loc Cert.Ffn1Ideal.main_arg7)
      ∧ m' ((c.tc : Thread Cert.Ffn1RefIdeal.nD Cert.Ffn1RefIdeal.τ).loc Cert.Ffn1RefIdeal.main_arg8) = m ((c.tc : Thread Cert.Ffn1Ideal.nD Cert.Ffn1Ideal.τ).loc Cert.Ffn1Ideal.main_arg8)) →
    ∃ (v0 : (c : Dev Cert.Ffn1Ideal.nD) → Buf (Elt Ideal) ((c.tc : Thread Cert.Ffn1Ideal.nD Cert.Ffn1Ideal.τ).loc Cert.Ffn1Ideal.main_v11_0)) (v1 : (c : Dev Cert.Ffn1Ideal.nD) → Buf (Elt Ideal) ((c.tc : Thread Cert.Ffn1Ideal.nD Cert.Ffn1Ideal.τ).loc Cert.Ffn1Ideal.main_v11_1)) (v2 : (c : Dev Cert.Ffn1Ideal.nD) → Buf (Elt Ideal) ((c.tc : Thread Cert.Ffn1Ideal.nD Cert.Ffn1Ideal.τ).loc Cert.Ffn1Ideal.main_v11_2)) (v3 : (c : Dev Cert.Ffn1Ideal.nD) → Buf (Elt Ideal) ((c.tc : Thread Cert.Ffn1Ideal.nD Cert.Ffn1Ideal.τ).loc Cert.Ffn1Ideal.main_v11_3)) (v4 : (c : Dev Cert.Ffn1Ideal.nD) → Buf (Elt Ideal) ((c.tc : Thread Cert.Ffn1Ideal.nD Cert.Ffn1Ideal.τ).loc Cert.Ffn1Ideal.main_v11_4)),
      θ_run (Cert.Ffn1Ideal.defs (F := Ideal)) (onTc (τ := Cert.Ffn1Ideal.τ) (Cert.Ffn1Ideal.main (F := Ideal))) ⟨m, fun _ => 0, g⟩ (fun r => ∀ c : Dev Cert.Ffn1Ideal.nD,
          r.2.mem ((c.tc : Thread Cert.Ffn1Ideal.nD Cert.Ffn1Ideal.τ).loc Cert.Ffn1Ideal.main_v11_0) = v0 c
          ∧ r.2.mem ((c.tc : Thread Cert.Ffn1Ideal.nD Cert.Ffn1Ideal.τ).loc Cert.Ffn1Ideal.main_v11_1) = v1 c
          ∧ r.2.mem ((c.tc : Thread Cert.Ffn1Ideal.nD Cert.Ffn1Ideal.τ).loc Cert.Ffn1Ideal.main_v11_2) = v2 c
          ∧ r.2.mem ((c.tc : Thread Cert.Ffn1Ideal.nD Cert.Ffn1Ideal.τ).loc Cert.Ffn1Ideal.main_v11_3) = v3 c
          ∧ r.2.mem ((c.tc : Thread Cert.Ffn1Ideal.nD Cert.Ffn1Ideal.τ).loc Cert.Ffn1Ideal.main_v11_4) = v4 c
          ∧ r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
          ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
          ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
          ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
          ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4)
          ∧ r.2.mem ((c.tc : Thread Cert.Ffn1Ideal.nD Cert.Ffn1Ideal.τ).loc Cert.Ffn1Ideal.main_arg5) = m ((c.tc : Thread Cert.Ffn1Ideal.nD Cert.Ffn1Ideal.τ).loc Cert.Ffn1Ideal.main_arg5)
          ∧ r.2.mem ((c.tc : Thread Cert.Ffn1Ideal.nD Cert.Ffn1Ideal.τ).loc Cert.Ffn1Ideal.main_arg6) = m ((c.tc : Thread Cert.Ffn1Ideal.nD Cert.Ffn1Ideal.τ).loc Cert.Ffn1Ideal.main_arg6)
          ∧ r.2.mem ((c.tc : Thread Cert.Ffn1Ideal.nD Cert.Ffn1Ideal.τ).loc Cert.Ffn1Ideal.main_arg7) = m ((c.tc : Thread Cert.Ffn1Ideal.nD Cert.Ffn1Ideal.τ).loc Cert.Ffn1Ideal.main_arg7)
          ∧ r.2.mem ((c.tc : Thread Cert.Ffn1Ideal.nD Cert.Ffn1Ideal.τ).loc Cert.Ffn1Ideal.main_arg8) = m ((c.tc : Thread Cert.Ffn1Ideal.nD Cert.Ffn1Ideal.τ).loc Cert.Ffn1Ideal.main_arg8))
      ∧ θ_run (Cert.Ffn1RefIdeal.defs (F := Ideal)) (onTc (τ := Cert.Ffn1RefIdeal.τ) (Cert.Ffn1RefIdeal.main (F := Ideal))) ⟨m', fun _ => 0, g'⟩ (fun r => ∀ c : Dev Cert.Ffn1RefIdeal.nD,
          r.2.mem ((c.tc : Thread Cert.Ffn1RefIdeal.nD Cert.Ffn1RefIdeal.τ).loc Cert.Ffn1RefIdeal.main_v25) = v0 c
          ∧ r.2.mem ((c.tc : Thread Cert.Ffn1RefIdeal.nD Cert.Ffn1RefIdeal.τ).loc Cert.Ffn1RefIdeal.main_v27) = v1 c
          ∧ r.2.mem ((c.tc : Thread Cert.Ffn1RefIdeal.nD Cert.Ffn1RefIdeal.τ).loc Cert.Ffn1RefIdeal.main_v29) = v2 c
          ∧ r.2.mem ((c.tc : Thread Cert.Ffn1RefIdeal.nD Cert.Ffn1RefIdeal.τ).loc Cert.Ffn1RefIdeal.main_v31) = v3 c
          ∧ r.2.mem ((c.tc : Thread Cert.Ffn1RefIdeal.nD Cert.Ffn1RefIdeal.τ).loc Cert.Ffn1RefIdeal.main_v33) = v4 c
          ∧ r.2.mem ((c.tc : Thread Cert.Ffn1RefIdeal.nD Cert.Ffn1RefIdeal.τ).loc Cert.Ffn1RefIdeal.main_arg0) = m' ((c.tc : Thread Cert.Ffn1RefIdeal.nD Cert.Ffn1RefIdeal.τ).loc Cert.Ffn1RefIdeal.main_arg0)
          ∧ r.2.mem ((c.tc : Thread Cert.Ffn1RefIdeal.nD Cert.Ffn1RefIdeal.τ).loc Cert.Ffn1RefIdeal.main_arg1) = m' ((c.tc : Thread Cert.Ffn1RefIdeal.nD Cert.Ffn1RefIdeal.τ).loc Cert.Ffn1RefIdeal.main_arg1)
          ∧ r.2.mem ((c.tc : Thread Cert.Ffn1RefIdeal.nD Cert.Ffn1RefIdeal.τ).loc Cert.Ffn1RefIdeal.main_arg2) = m' ((c.tc : Thread Cert.Ffn1RefIdeal.nD Cert.Ffn1RefIdeal.τ).loc Cert.Ffn1RefIdeal.main_arg2)
          ∧ r.2.mem ((c.tc : Thread Cert.Ffn1RefIdeal.nD Cert.Ffn1RefIdeal.τ).loc Cert.Ffn1RefIdeal.main_arg3) = m' ((c.tc : Thread Cert.Ffn1RefIdeal.nD Cert.Ffn1RefIdeal.τ).loc Cert.Ffn1RefIdeal.main_arg3)
          ∧ r.2.mem ((c.tc : Thread Cert.Ffn1RefIdeal.nD Cert.Ffn1RefIdeal.τ).loc Cert.Ffn1RefIdeal.main_arg4) = m' ((c.tc : Thread Cert.Ffn1RefIdeal.nD Cert.Ffn1RefIdeal.τ).loc Cert.Ffn1RefIdeal.main_arg4)
          ∧ r.2.mem ((c.tc : Thread Cert.Ffn1RefIdeal.nD Cert.Ffn1RefIdeal.τ).loc Cert.Ffn1RefIdeal.main_arg5) = m' ((c.tc : Thread Cert.Ffn1RefIdeal.nD Cert.Ffn1RefIdeal.τ).loc Cert.Ffn1RefIdeal.main_arg5)
          ∧ r.2.mem ((c.tc : Thread Cert.Ffn1RefIdeal.nD Cert.Ffn1RefIdeal.τ).loc Cert.Ffn1RefIdeal.main_arg6) = m' ((c.tc : Thread Cert.Ffn1RefIdeal.nD Cert.Ffn1RefIdeal.τ).loc Cert.Ffn1RefIdeal.main_arg6)
          ∧ r.2.mem ((c.tc : Thread Cert.Ffn1RefIdeal.nD Cert.Ffn1RefIdeal.τ).loc Cert.Ffn1RefIdeal.main_arg7) = m' ((c.tc : Thread Cert.Ffn1RefIdeal.nD Cert.Ffn1RefIdeal.τ).loc Cert.Ffn1RefIdeal.main_arg7)
          ∧ r.2.mem ((c.tc : Thread Cert.Ffn1RefIdeal.nD Cert.Ffn1RefIdeal.τ).loc Cert.Ffn1RefIdeal.main_arg8) = m' ((c.tc : Thread Cert.Ffn1RefIdeal.nD Cert.Ffn1RefIdeal.τ).loc Cert.Ffn1RefIdeal.main_arg8))

def preserves_Ffn2_Ffn2Ideal : Prop :=
  True

def algebraic_Ffn2Ideal_Ffn2RefIdeal [hFfn2Ideal : Cert.Ffn2Ideal.Facts] [hFfn2RefIdeal : Cert.Ffn2RefIdeal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg)
    (m' : (ℓ : Loc Cert.Ffn2RefIdeal.nD Cert.Ffn2RefIdeal.τ Cert.Ffn2RefIdeal.sig) → Buf (Elt Ideal) ℓ) (g' : Dev Cert.Ffn2RefIdeal.nD → PrngReg), Pre_Ffn2Ideal m →
    (∀ c : Dev Cert.Ffn2Ideal.nD,
      m' ((c.tc : Thread Cert.Ffn2RefIdeal.nD Cert.Ffn2RefIdeal.τ).loc Cert.Ffn2RefIdeal.main_arg0) = m ((c.tc : Thread Cert.Ffn2Ideal.nD Cert.Ffn2Ideal.τ).loc Cert.Ffn2Ideal.main_arg0)
      ∧ m' ((c.tc : Thread Cert.Ffn2RefIdeal.nD Cert.Ffn2RefIdeal.τ).loc Cert.Ffn2RefIdeal.main_arg1) = m ((c.tc : Thread Cert.Ffn2Ideal.nD Cert.Ffn2Ideal.τ).loc Cert.Ffn2Ideal.main_arg1)
      ∧ m' ((c.tc : Thread Cert.Ffn2RefIdeal.nD Cert.Ffn2RefIdeal.τ).loc Cert.Ffn2RefIdeal.main_arg2) = m ((c.tc : Thread Cert.Ffn2Ideal.nD Cert.Ffn2Ideal.τ).loc Cert.Ffn2Ideal.main_arg2)
      ∧ m' ((c.tc : Thread Cert.Ffn2RefIdeal.nD Cert.Ffn2RefIdeal.τ).loc Cert.Ffn2RefIdeal.main_arg3) = m ((c.tc : Thread Cert.Ffn2Ideal.nD Cert.Ffn2Ideal.τ).loc Cert.Ffn2Ideal.main_arg3)
      ∧ m' ((c.tc : Thread Cert.Ffn2RefIdeal.nD Cert.Ffn2RefIdeal.τ).loc Cert.Ffn2RefIdeal.main_arg4) = m ((c.tc : Thread Cert.Ffn2Ideal.nD Cert.Ffn2Ideal.τ).loc Cert.Ffn2Ideal.main_arg4)
      ∧ m' ((c.tc : Thread Cert.Ffn2RefIdeal.nD Cert.Ffn2RefIdeal.τ).loc Cert.Ffn2RefIdeal.main_arg5) = m ((c.tc : Thread Cert.Ffn2Ideal.nD Cert.Ffn2Ideal.τ).loc Cert.Ffn2Ideal.main_arg5)) →
    ∃ (v0 : (c : Dev Cert.Ffn2Ideal.nD) → Buf (Elt Ideal) ((c.tc : Thread Cert.Ffn2Ideal.nD Cert.Ffn2Ideal.τ).loc Cert.Ffn2Ideal.main_v8)),
      θ_run (Cert.Ffn2Ideal.defs (F := Ideal)) (onTc (τ := Cert.Ffn2Ideal.τ) (Cert.Ffn2Ideal.main (F := Ideal))) ⟨m, fun _ => 0, g⟩ (fun r => ∀ c : Dev Cert.Ffn2Ideal.nD,
          r.2.mem ((c.tc : Thread Cert.Ffn2Ideal.nD Cert.Ffn2Ideal.τ).loc Cert.Ffn2Ideal.main_v8) = v0 c
          ∧ r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
          ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
          ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
          ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3)
          ∧ r.2.mem ((c.tc : Thread Cert.Ffn2Ideal.nD Cert.Ffn2Ideal.τ).loc Cert.Ffn2Ideal.main_arg4) = m ((c.tc : Thread Cert.Ffn2Ideal.nD Cert.Ffn2Ideal.τ).loc Cert.Ffn2Ideal.main_arg4)
          ∧ r.2.mem ((c.tc : Thread Cert.Ffn2Ideal.nD Cert.Ffn2Ideal.τ).loc Cert.Ffn2Ideal.main_arg5) = m ((c.tc : Thread Cert.Ffn2Ideal.nD Cert.Ffn2Ideal.τ).loc Cert.Ffn2Ideal.main_arg5))
      ∧ θ_run (Cert.Ffn2RefIdeal.defs (F := Ideal)) (onTc (τ := Cert.Ffn2RefIdeal.τ) (Cert.Ffn2RefIdeal.main (F := Ideal))) ⟨m', fun _ => 0, g'⟩ (fun r => ∀ c : Dev Cert.Ffn2RefIdeal.nD,
          r.2.mem ((c.tc : Thread Cert.Ffn2RefIdeal.nD Cert.Ffn2RefIdeal.τ).loc Cert.Ffn2RefIdeal.main_v38) = v0 c
          ∧ r.2.mem ((c.tc : Thread Cert.Ffn2RefIdeal.nD Cert.Ffn2RefIdeal.τ).loc Cert.Ffn2RefIdeal.main_arg0) = m' ((c.tc : Thread Cert.Ffn2RefIdeal.nD Cert.Ffn2RefIdeal.τ).loc Cert.Ffn2RefIdeal.main_arg0)
          ∧ r.2.mem ((c.tc : Thread Cert.Ffn2RefIdeal.nD Cert.Ffn2RefIdeal.τ).loc Cert.Ffn2RefIdeal.main_arg1) = m' ((c.tc : Thread Cert.Ffn2RefIdeal.nD Cert.Ffn2RefIdeal.τ).loc Cert.Ffn2RefIdeal.main_arg1)
          ∧ r.2.mem ((c.tc : Thread Cert.Ffn2RefIdeal.nD Cert.Ffn2RefIdeal.τ).loc Cert.Ffn2RefIdeal.main_arg2) = m' ((c.tc : Thread Cert.Ffn2RefIdeal.nD Cert.Ffn2RefIdeal.τ).loc Cert.Ffn2RefIdeal.main_arg2)
          ∧ r.2.mem ((c.tc : Thread Cert.Ffn2RefIdeal.nD Cert.Ffn2RefIdeal.τ).loc Cert.Ffn2RefIdeal.main_arg3) = m' ((c.tc : Thread Cert.Ffn2RefIdeal.nD Cert.Ffn2RefIdeal.τ).loc Cert.Ffn2RefIdeal.main_arg3)
          ∧ r.2.mem ((c.tc : Thread Cert.Ffn2RefIdeal.nD Cert.Ffn2RefIdeal.τ).loc Cert.Ffn2RefIdeal.main_arg4) = m' ((c.tc : Thread Cert.Ffn2RefIdeal.nD Cert.Ffn2RefIdeal.τ).loc Cert.Ffn2RefIdeal.main_arg4)
          ∧ r.2.mem ((c.tc : Thread Cert.Ffn2RefIdeal.nD Cert.Ffn2RefIdeal.τ).loc Cert.Ffn2RefIdeal.main_arg5) = m' ((c.tc : Thread Cert.Ffn2RefIdeal.nD Cert.Ffn2RefIdeal.τ).loc Cert.Ffn2RefIdeal.main_arg5))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)) →
    ∃ (v0 : (c : Dev Cert.ConvIdeal.nD) → Buf (Elt Ideal) ((c.tc : Thread Cert.ConvIdeal.nD Cert.ConvIdeal.τ).loc Cert.ConvIdeal.main_v5)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v5) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v60) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v4)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v4) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v20) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_Attn_AttnIdeal : Prop :=
  True

def algebraic_AttnIdeal_AttnRefIdeal [hAttnIdeal : Cert.AttnIdeal.Facts] [hAttnRefIdeal : Cert.AttnRefIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v35_0)) (v1 : (c : Dev Cert.AttnIdeal.nD) → Buf (Elt Ideal) ((c.tc : Thread Cert.AttnIdeal.nD Cert.AttnIdeal.τ).loc Cert.AttnIdeal.main_v35_1)) (v2 : (c : Dev Cert.AttnIdeal.nD) → Buf (Elt Ideal) ((c.tc : Thread Cert.AttnIdeal.nD Cert.AttnIdeal.τ).loc Cert.AttnIdeal.main_v35_2)) (v3 : (c : Dev Cert.AttnIdeal.nD) → Buf (Elt Ideal) ((c.tc : Thread Cert.AttnIdeal.nD Cert.AttnIdeal.τ).loc Cert.AttnIdeal.main_v35_3)) (v4 : (c : Dev Cert.AttnIdeal.nD) → Buf (Elt Ideal) ((c.tc : Thread Cert.AttnIdeal.nD Cert.AttnIdeal.τ).loc Cert.AttnIdeal.main_v35_4)) (v5 : (c : Dev Cert.AttnIdeal.nD) → Buf (Elt Ideal) ((c.tc : Thread Cert.AttnIdeal.nD Cert.AttnIdeal.τ).loc Cert.AttnIdeal.main_v35_5)) (v6 : (c : Dev Cert.AttnIdeal.nD) → Buf (Elt Ideal) ((c.tc : Thread Cert.AttnIdeal.nD Cert.AttnIdeal.τ).loc Cert.AttnIdeal.main_v35_6)) (v7 : (c : Dev Cert.AttnIdeal.nD) → Buf (Elt Ideal) ((c.tc : Thread Cert.AttnIdeal.nD Cert.AttnIdeal.τ).loc Cert.AttnIdeal.main_v35_7)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v35_0) = v0 c
          ∧ r.2.mem ((c.tc : Thread Cert.AttnIdeal.nD Cert.AttnIdeal.τ).loc Cert.AttnIdeal.main_v35_1) = v1 c
          ∧ r.2.mem ((c.tc : Thread Cert.AttnIdeal.nD Cert.AttnIdeal.τ).loc Cert.AttnIdeal.main_v35_2) = v2 c
          ∧ r.2.mem ((c.tc : Thread Cert.AttnIdeal.nD Cert.AttnIdeal.τ).loc Cert.AttnIdeal.main_v35_3) = v3 c
          ∧ r.2.mem ((c.tc : Thread Cert.AttnIdeal.nD Cert.AttnIdeal.τ).loc Cert.AttnIdeal.main_v35_4) = v4 c
          ∧ r.2.mem ((c.tc : Thread Cert.AttnIdeal.nD Cert.AttnIdeal.τ).loc Cert.AttnIdeal.main_v35_5) = v5 c
          ∧ r.2.mem ((c.tc : Thread Cert.AttnIdeal.nD Cert.AttnIdeal.τ).loc Cert.AttnIdeal.main_v35_6) = v6 c
          ∧ r.2.mem ((c.tc : Thread Cert.AttnIdeal.nD Cert.AttnIdeal.τ).loc Cert.AttnIdeal.main_v35_7) = v7 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v70) = v0 c
          ∧ r.2.mem ((c.tc : Thread Cert.AttnRefIdeal.nD Cert.AttnRefIdeal.τ).loc Cert.AttnRefIdeal.main_v88) = v1 c
          ∧ r.2.mem ((c.tc : Thread Cert.AttnRefIdeal.nD Cert.AttnRefIdeal.τ).loc Cert.AttnRefIdeal.main_v89) = v2 c
          ∧ r.2.mem ((c.tc : Thread Cert.AttnRefIdeal.nD Cert.AttnRefIdeal.τ).loc Cert.AttnRefIdeal.main_v108) = v3 c
          ∧ r.2.mem ((c.tc : Thread Cert.AttnRefIdeal.nD Cert.AttnRefIdeal.τ).loc Cert.AttnRefIdeal.main_v127) = v4 c
          ∧ r.2.mem ((c.tc : Thread Cert.AttnRefIdeal.nD Cert.AttnRefIdeal.τ).loc Cert.AttnRefIdeal.main_v130) = v5 c
          ∧ r.2.mem ((c.tc : Thread Cert.AttnRefIdeal.nD Cert.AttnRefIdeal.τ).loc Cert.AttnRefIdeal.main_v133) = v6 c
          ∧ r.2.mem ((c.tc : Thread Cert.AttnRefIdeal.nD Cert.AttnRefIdeal.τ).loc Cert.AttnRefIdeal.main_v134) = v7 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Cmpk_CmpkIdeal : Prop :=
  True

def algebraic_CmpkIdeal_CmpkRefIdeal [hCmpkIdeal : Cert.CmpkIdeal.Facts] [hCmpkRefIdeal : Cert.CmpkRefIdeal.Facts] : Prop :=
  ∀ (m : (ℓ : Loc Cert.CmpkIdeal.nD Cert.CmpkIdeal.τ Cert.CmpkIdeal.sig) → Buf (Elt Ideal) ℓ) (g : Dev Cert.CmpkIdeal.nD → PrngReg)
    (m' : (ℓ : Loc Cert.CmpkRefIdeal.nD Cert.CmpkRefIdeal.τ Cert.CmpkRefIdeal.sig) → Buf (Elt Ideal) ℓ) (g' : Dev Cert.CmpkRefIdeal.nD → PrngReg), Pre_CmpkIdeal m →
    (∀ c : Dev Cert.CmpkIdeal.nD,
      m' ((c.tc : Thread Cert.CmpkRefIdeal.nD Cert.CmpkRefIdeal.τ).loc Cert.CmpkRefIdeal.main_arg0) = m ((c.tc : Thread Cert.CmpkIdeal.nD Cert.CmpkIdeal.τ).loc Cert.CmpkIdeal.main_arg0)
      ∧ m' ((c.tc : Thread Cert.CmpkRefIdeal.nD Cert.CmpkRefIdeal.τ).loc Cert.CmpkRefIdeal.main_arg1) = m ((c.tc : Thread Cert.CmpkIdeal.nD Cert.CmpkIdeal.τ).loc Cert.CmpkIdeal.main_arg1)
      ∧ m' ((c.tc : Thread Cert.CmpkRefIdeal.nD Cert.CmpkRefIdeal.τ).loc Cert.CmpkRefIdeal.main_arg2) = m ((c.tc : Thread Cert.CmpkIdeal.nD Cert.CmpkIdeal.τ).loc Cert.CmpkIdeal.main_arg2)
      ∧ m' ((c.tc : Thread Cert.CmpkRefIdeal.nD Cert.CmpkRefIdeal.τ).loc Cert.CmpkRefIdeal.main_arg3) = m ((c.tc : Thread Cert.CmpkIdeal.nD Cert.CmpkIdeal.τ).loc Cert.CmpkIdeal.main_arg3)) →
    ∃ (v0 : (c : Dev Cert.CmpkIdeal.nD) → Buf (Elt Ideal) ((c.tc : Thread Cert.CmpkIdeal.nD Cert.CmpkIdeal.τ).loc Cert.CmpkIdeal.main_v22)),
      θ_run (Cert.CmpkIdeal.defs (F := Ideal)) (onTc (τ := Cert.CmpkIdeal.τ) (Cert.CmpkIdeal.main (F := Ideal))) ⟨m, fun _ => 0, g⟩ (fun r => ∀ c : Dev Cert.CmpkIdeal.nD,
          r.2.mem ((c.tc : Thread Cert.CmpkIdeal.nD Cert.CmpkIdeal.τ).loc Cert.CmpkIdeal.main_v22) = v0 c
          ∧ r.2.mem ((c.tc : Thread Cert.CmpkIdeal.nD Cert.CmpkIdeal.τ).loc Cert.CmpkIdeal.main_arg0) = m ((c.tc : Thread Cert.CmpkIdeal.nD Cert.CmpkIdeal.τ).loc Cert.CmpkIdeal.main_arg0)
          ∧ r.2.mem ((c.tc : Thread Cert.CmpkIdeal.nD Cert.CmpkIdeal.τ).loc Cert.CmpkIdeal.main_arg1) = m ((c.tc : Thread Cert.CmpkIdeal.nD Cert.CmpkIdeal.τ).loc Cert.CmpkIdeal.main_arg1)
          ∧ r.2.mem ((c.tc : Thread Cert.CmpkIdeal.nD Cert.CmpkIdeal.τ).loc Cert.CmpkIdeal.main_arg2) = m ((c.tc : Thread Cert.CmpkIdeal.nD Cert.CmpkIdeal.τ).loc Cert.CmpkIdeal.main_arg2)
          ∧ r.2.mem ((c.tc : Thread Cert.CmpkIdeal.nD Cert.CmpkIdeal.τ).loc Cert.CmpkIdeal.main_arg3) = m ((c.tc : Thread Cert.CmpkIdeal.nD Cert.CmpkIdeal.τ).loc Cert.CmpkIdeal.main_arg3))
      ∧ θ_run (Cert.CmpkRefIdeal.defs (F := Ideal)) (onTc (τ := Cert.CmpkRefIdeal.τ) (Cert.CmpkRefIdeal.main (F := Ideal))) ⟨m', fun _ => 0, g'⟩ (fun r => ∀ c : Dev Cert.CmpkRefIdeal.nD,
          r.2.mem ((c.tc : Thread Cert.CmpkRefIdeal.nD Cert.CmpkRefIdeal.τ).loc Cert.CmpkRefIdeal.main_v28) = v0 c
          ∧ r.2.mem ((c.tc : Thread Cert.CmpkRefIdeal.nD Cert.CmpkRefIdeal.τ).loc Cert.CmpkRefIdeal.main_arg0) = m' ((c.tc : Thread Cert.CmpkRefIdeal.nD Cert.CmpkRefIdeal.τ).loc Cert.CmpkRefIdeal.main_arg0)
          ∧ r.2.mem ((c.tc : Thread Cert.CmpkRefIdeal.nD Cert.CmpkRefIdeal.τ).loc Cert.CmpkRefIdeal.main_arg1) = m' ((c.tc : Thread Cert.CmpkRefIdeal.nD Cert.CmpkRefIdeal.τ).loc Cert.CmpkRefIdeal.main_arg1)
          ∧ r.2.mem ((c.tc : Thread Cert.CmpkRefIdeal.nD Cert.CmpkRefIdeal.τ).loc Cert.CmpkRefIdeal.main_arg2) = m' ((c.tc : Thread Cert.CmpkRefIdeal.nD Cert.CmpkRefIdeal.τ).loc Cert.CmpkRefIdeal.main_arg2)
          ∧ r.2.mem ((c.tc : Thread Cert.CmpkRefIdeal.nD Cert.CmpkRefIdeal.τ).loc Cert.CmpkRefIdeal.main_arg3) = m' ((c.tc : Thread Cert.CmpkRefIdeal.nD Cert.CmpkRefIdeal.τ).loc Cert.CmpkRefIdeal.main_arg3))

def preserves_Cmpv_CmpvIdeal : Prop :=
  True

def algebraic_CmpvIdeal_CmpvRefIdeal [hCmpvIdeal : Cert.CmpvIdeal.Facts] [hCmpvRefIdeal : Cert.CmpvRefIdeal.Facts] : Prop :=
  ∀ (m : (ℓ : Loc Cert.CmpvIdeal.nD Cert.CmpvIdeal.τ Cert.CmpvIdeal.sig) → Buf (Elt Ideal) ℓ) (g : Dev Cert.CmpvIdeal.nD → PrngReg)
    (m' : (ℓ : Loc Cert.CmpvRefIdeal.nD Cert.CmpvRefIdeal.τ Cert.CmpvRefIdeal.sig) → Buf (Elt Ideal) ℓ) (g' : Dev Cert.CmpvRefIdeal.nD → PrngReg), Pre_CmpvIdeal m →
    (∀ c : Dev Cert.CmpvIdeal.nD,
      m' ((c.tc : Thread Cert.CmpvRefIdeal.nD Cert.CmpvRefIdeal.τ).loc Cert.CmpvRefIdeal.main_arg0) = m ((c.tc : Thread Cert.CmpvIdeal.nD Cert.CmpvIdeal.τ).loc Cert.CmpvIdeal.main_arg0)
      ∧ m' ((c.tc : Thread Cert.CmpvRefIdeal.nD Cert.CmpvRefIdeal.τ).loc Cert.CmpvRefIdeal.main_arg1) = m ((c.tc : Thread Cert.CmpvIdeal.nD Cert.CmpvIdeal.τ).loc Cert.CmpvIdeal.main_arg1)
      ∧ m' ((c.tc : Thread Cert.CmpvRefIdeal.nD Cert.CmpvRefIdeal.τ).loc Cert.CmpvRefIdeal.main_arg2) = m ((c.tc : Thread Cert.CmpvIdeal.nD Cert.CmpvIdeal.τ).loc Cert.CmpvIdeal.main_arg2)
      ∧ m' ((c.tc : Thread Cert.CmpvRefIdeal.nD Cert.CmpvRefIdeal.τ).loc Cert.CmpvRefIdeal.main_arg3) = m ((c.tc : Thread Cert.CmpvIdeal.nD Cert.CmpvIdeal.τ).loc Cert.CmpvIdeal.main_arg3)) →
    ∃ (v0 : (c : Dev Cert.CmpvIdeal.nD) → Buf (Elt Ideal) ((c.tc : Thread Cert.CmpvIdeal.nD Cert.CmpvIdeal.τ).loc Cert.CmpvIdeal.main_v22)),
      θ_run (Cert.CmpvIdeal.defs (F := Ideal)) (onTc (τ := Cert.CmpvIdeal.τ) (Cert.CmpvIdeal.main (F := Ideal))) ⟨m, fun _ => 0, g⟩ (fun r => ∀ c : Dev Cert.CmpvIdeal.nD,
          r.2.mem ((c.tc : Thread Cert.CmpvIdeal.nD Cert.CmpvIdeal.τ).loc Cert.CmpvIdeal.main_v22) = v0 c
          ∧ r.2.mem ((c.tc : Thread Cert.CmpvIdeal.nD Cert.CmpvIdeal.τ).loc Cert.CmpvIdeal.main_arg0) = m ((c.tc : Thread Cert.CmpvIdeal.nD Cert.CmpvIdeal.τ).loc Cert.CmpvIdeal.main_arg0)
          ∧ r.2.mem ((c.tc : Thread Cert.CmpvIdeal.nD Cert.CmpvIdeal.τ).loc Cert.CmpvIdeal.main_arg1) = m ((c.tc : Thread Cert.CmpvIdeal.nD Cert.CmpvIdeal.τ).loc Cert.CmpvIdeal.main_arg1)
          ∧ r.2.mem ((c.tc : Thread Cert.CmpvIdeal.nD Cert.CmpvIdeal.τ).loc Cert.CmpvIdeal.main_arg2) = m ((c.tc : Thread Cert.CmpvIdeal.nD Cert.CmpvIdeal.τ).loc Cert.CmpvIdeal.main_arg2)
          ∧ r.2.mem ((c.tc : Thread Cert.CmpvIdeal.nD Cert.CmpvIdeal.τ).loc Cert.CmpvIdeal.main_arg3) = m ((c.tc : Thread Cert.CmpvIdeal.nD Cert.CmpvIdeal.τ).loc Cert.CmpvIdeal.main_arg3))
      ∧ θ_run (Cert.CmpvRefIdeal.defs (F := Ideal)) (onTc (τ := Cert.CmpvRefIdeal.τ) (Cert.CmpvRefIdeal.main (F := Ideal))) ⟨m', fun _ => 0, g'⟩ (fun r => ∀ c : Dev Cert.CmpvRefIdeal.nD,
          r.2.mem ((c.tc : Thread Cert.CmpvRefIdeal.nD Cert.CmpvRefIdeal.τ).loc Cert.CmpvRefIdeal.main_v27) = v0 c
          ∧ r.2.mem ((c.tc : Thread Cert.CmpvRefIdeal.nD Cert.CmpvRefIdeal.τ).loc Cert.CmpvRefIdeal.main_arg0) = m' ((c.tc : Thread Cert.CmpvRefIdeal.nD Cert.CmpvRefIdeal.τ).loc Cert.CmpvRefIdeal.main_arg0)
          ∧ r.2.mem ((c.tc : Thread Cert.CmpvRefIdeal.nD Cert.CmpvRefIdeal.τ).loc Cert.CmpvRefIdeal.main_arg1) = m' ((c.tc : Thread Cert.CmpvRefIdeal.nD Cert.CmpvRefIdeal.τ).loc Cert.CmpvRefIdeal.main_arg1)
          ∧ r.2.mem ((c.tc : Thread Cert.CmpvRefIdeal.nD Cert.CmpvRefIdeal.τ).loc Cert.CmpvRefIdeal.main_arg2) = m' ((c.tc : Thread Cert.CmpvRefIdeal.nD Cert.CmpvRefIdeal.τ).loc Cert.CmpvRefIdeal.main_arg2)
          ∧ r.2.mem ((c.tc : Thread Cert.CmpvRefIdeal.nD Cert.CmpvRefIdeal.τ).loc Cert.CmpvRefIdeal.main_arg3) = m' ((c.tc : Thread Cert.CmpvRefIdeal.nD Cert.CmpvRefIdeal.τ).loc Cert.CmpvRefIdeal.main_arg3))

def Claim : Prop :=
  ∃ (hNsa : Cert.Nsa.Facts) (hNsaIdeal : Cert.NsaIdeal.Facts) (hFfn1 : Cert.Ffn1.Facts) (hFfn1Ideal : Cert.Ffn1Ideal.Facts) (hFfn1RefIdeal : Cert.Ffn1RefIdeal.Facts) (hFfn2 : Cert.Ffn2.Facts) (hFfn2Ideal : Cert.Ffn2Ideal.Facts) (hFfn2RefIdeal : Cert.Ffn2RefIdeal.Facts) (hConv : Cert.Conv.Facts) (hConvIdeal : Cert.ConvIdeal.Facts) (hConvRefIdeal : Cert.ConvRefIdeal.Facts) (hOut : Cert.Out.Facts) (hOutIdeal : Cert.OutIdeal.Facts) (hOutRefIdeal : Cert.OutRefIdeal.Facts) (hAttn : Cert.Attn.Facts) (hAttnIdeal : Cert.AttnIdeal.Facts) (hAttnRefIdeal : Cert.AttnRefIdeal.Facts) (hCmpk : Cert.Cmpk.Facts) (hCmpkIdeal : Cert.CmpkIdeal.Facts) (hCmpkRefIdeal : Cert.CmpkRefIdeal.Facts) (hCmpv : Cert.Cmpv.Facts) (hCmpvIdeal : Cert.CmpvIdeal.Facts) (hCmpvRefIdeal : Cert.CmpvRefIdeal.Facts),
    quiescent_Nsa (hNsa := hNsa)
    ∧ quiescent_NsaIdeal (hNsaIdeal := hNsaIdeal)
    ∧ quiescent_Ffn1 (hFfn1 := hFfn1)
    ∧ quiescent_Ffn1Ideal (hFfn1Ideal := hFfn1Ideal)
    ∧ quiescent_Ffn1RefIdeal (hFfn1RefIdeal := hFfn1RefIdeal)
    ∧ quiescent_Ffn2 (hFfn2 := hFfn2)
    ∧ quiescent_Ffn2Ideal (hFfn2Ideal := hFfn2Ideal)
    ∧ quiescent_Ffn2RefIdeal (hFfn2RefIdeal := hFfn2RefIdeal)
    ∧ quiescent_Conv (hConv := hConv)
    ∧ quiescent_ConvIdeal (hConvIdeal := hConvIdeal)
    ∧ quiescent_ConvRefIdeal (hConvRefIdeal := hConvRefIdeal)
    ∧ quiescent_Out (hOut := hOut)
    ∧ quiescent_OutIdeal (hOutIdeal := hOutIdeal)
    ∧ quiescent_OutRefIdeal (hOutRefIdeal := hOutRefIdeal)
    ∧ quiescent_Attn (hAttn := hAttn)
    ∧ quiescent_AttnIdeal (hAttnIdeal := hAttnIdeal)
    ∧ quiescent_AttnRefIdeal (hAttnRefIdeal := hAttnRefIdeal)
    ∧ quiescent_Cmpk (hCmpk := hCmpk)
    ∧ quiescent_CmpkIdeal (hCmpkIdeal := hCmpkIdeal)
    ∧ quiescent_CmpkRefIdeal (hCmpkRefIdeal := hCmpkRefIdeal)
    ∧ quiescent_Cmpv (hCmpv := hCmpv)
    ∧ quiescent_CmpvIdeal (hCmpvIdeal := hCmpvIdeal)
    ∧ quiescent_CmpvRefIdeal (hCmpvRefIdeal := hCmpvRefIdeal)
    ∧ preserves_Nsa_NsaIdeal
    ∧ preserves_Ffn1_Ffn1Ideal
    ∧ algebraic_Ffn1Ideal_Ffn1RefIdeal (hFfn1Ideal := hFfn1Ideal) (hFfn1RefIdeal := hFfn1RefIdeal)
    ∧ preserves_Ffn2_Ffn2Ideal
    ∧ algebraic_Ffn2Ideal_Ffn2RefIdeal (hFfn2Ideal := hFfn2Ideal) (hFfn2RefIdeal := hFfn2RefIdeal)
    ∧ preserves_Conv_ConvIdeal
    ∧ algebraic_ConvIdeal_ConvRefIdeal (hConvIdeal := hConvIdeal) (hConvRefIdeal := hConvRefIdeal)
    ∧ preserves_Out_OutIdeal
    ∧ algebraic_OutIdeal_OutRefIdeal (hOutIdeal := hOutIdeal) (hOutRefIdeal := hOutRefIdeal)
    ∧ preserves_Attn_AttnIdeal
    ∧ algebraic_AttnIdeal_AttnRefIdeal (hAttnIdeal := hAttnIdeal) (hAttnRefIdeal := hAttnRefIdeal)
    ∧ preserves_Cmpk_CmpkIdeal
    ∧ algebraic_CmpkIdeal_CmpkRefIdeal (hCmpkIdeal := hCmpkIdeal) (hCmpkRefIdeal := hCmpkRefIdeal)
    ∧ preserves_Cmpv_CmpvIdeal
    ∧ algebraic_CmpvIdeal_CmpvRefIdeal (hCmpvIdeal := hCmpvIdeal) (hCmpvRefIdeal := hCmpvRefIdeal)
-- ==== Nsa.lean ====
abbrev S4x1024x4096 : Shape := ⟨3, ![4, 1024, 4096]⟩
abbrev S4x128x4096 : Shape := ⟨3, ![4, 128, 4096]⟩
abbrev S4x4x256x128 : Shape := ⟨4, ![4, 4, 256, 128]⟩
abbrev S4x4x64x256 : Shape := ⟨4, ![4, 4, 64, 256]⟩
abbrev S4x4096x256 : Shape := ⟨3, ![4, 4096, 256]⟩
abbrev S4x32x256x128 : Shape := ⟨4, ![4, 32, 256, 128]⟩
abbrev S1x1024x128 : Shape := ⟨3, ![1, 1024, 128]⟩
abbrev S1x128x128 : Shape := ⟨3, ![1, 128, 128]⟩
abbrev S1x4x256x128 : Shape := ⟨4, ![1, 4, 256, 128]⟩
abbrev S1x4x64x256 : Shape := ⟨4, ![1, 4, 64, 256]⟩
abbrev S1x4096x256 : Shape := ⟨3, ![1, 4096, 256]⟩
abbrev S1x32x256x128 : Shape := ⟨4, ![1, 32, 256, 128]⟩
abbrev S4x4224x256 : Shape := ⟨3, ![4, 4224, 256]⟩
abbrev S4x64x128 : Shape := ⟨3, ![4, 64, 128]⟩
abbrev S256x256 : Shape := ⟨2, ![256, 256]⟩
abbrev S1x256x256 : Shape := ⟨3, ![1, 256, 256]⟩
abbrev S128x256 : Shape := ⟨2, ![128, 256]⟩
abbrev S1x128x256 : Shape := ⟨3, ![1, 128, 256]⟩
abbrev S128x128 : Shape := ⟨2, ![128, 128]⟩
abbrev S128x512 : Shape := ⟨2, ![128, 512]⟩
abbrev S64x512 : Shape := ⟨2, ![64, 512]⟩
abbrev S64x256 : Shape := ⟨2, ![64, 256]⟩
abbrev S256x128 : Shape := ⟨2, ![256, 128]⟩
abbrev S256x512 : Shape := ⟨2, ![256, 512]⟩
abbrev S1x512 : Shape := ⟨2, ![1, 512]⟩
abbrev S64x128 : Shape := ⟨2, ![64, 128]⟩
abbrev S8x128 : Shape := ⟨2, ![8, 128]⟩
abbrev S1x256x128 : Shape := ⟨3, ![1, 256, 128]⟩
abbrev S1x1x256x128 : Shape := ⟨4, ![1, 1, 256, 128]⟩
abbrev S512 : Shape := ⟨1, ![512]⟩
abbrev S1x1x64x256 : Shape := ⟨4, ![1, 1, 64, 256]⟩
abbrev S1x64x128 : Shape := ⟨3, ![1, 64, 128]⟩
abbrev S1x1x128 : Shape := ⟨3, ![1, 1, 128]⟩
abbrev S1x128 : Shape := ⟨2, ![1, 128]⟩
abbrev S1x1x64x128 : Shape := ⟨4, ![1, 1, 64, 128]⟩
abbrev S16x128 : Shape := ⟨2, ![16, 128]⟩
abbrev S80x128 : Shape := ⟨2, ![80, 128]⟩
abbrev S80x512 : Shape := ⟨2, ![80, 512]⟩
abbrev S16x256 : Shape := ⟨2, ![16, 256]⟩
abbrev S80x256 : Shape := ⟨2, ![80, 256]⟩
abbrev S1x12x128 : Shape := ⟨3, ![1, 12, 128]⟩
abbrev S12x128 : Shape := ⟨2, ![12, 128]⟩

abbrev nBuf : Space → Nat
  | .hbm => 9
  | .vmem => 21
  | .smem => 0
  | _ => 0

abbrev bufTy : (tb : Table) → Fin (tcTables nBuf tb) → BufTy
  | .hbm, ⟨0, _⟩ => ⟨S4x1024x4096, .bf16⟩
  | .hbm, ⟨1, _⟩ => ⟨S4x128x4096, .f32⟩
  | .hbm, ⟨2, _⟩ => ⟨S4x4x256x128, .bf16⟩
  | .hbm, ⟨3, _⟩ => ⟨S4x4x64x256, .bf16⟩
  | .hbm, ⟨4, _⟩ => ⟨S4x4096x256, .bf16⟩
  | .hbm, ⟨5, _⟩ => ⟨S4x4096x256, .bf16⟩
  | .hbm, ⟨6, _⟩ => ⟨S4x32x256x128, .bf16⟩
  | .hbm, ⟨7, _⟩ => ⟨S4x32x256x128, .bf16⟩
  | .hbm, ⟨8, _⟩ => ⟨S4x1024x4096, .f32⟩
  | .local _ .vmem, ⟨0, _⟩ => ⟨S1x1024x128, .bf16⟩
  | .local _ .vmem, ⟨1, _⟩ => ⟨S1x1024x128, .bf16⟩
  | .local _ .vmem, ⟨2, _⟩ => ⟨S1x128x128, .f32⟩
  | .local _ .vmem, ⟨3, _⟩ => ⟨S1x128x128, .f32⟩
  | .local _ .vmem, ⟨4, _⟩ => ⟨S1x4x256x128, .bf16⟩
  | .local _ .vmem, ⟨5, _⟩ => ⟨S1x4x256x128, .bf16⟩
  | .local _ .vmem, ⟨6, _⟩ => ⟨S1x4x64x256, .bf16⟩
  | .local _ .vmem, ⟨7, _⟩ => ⟨S1x4x64x256, .bf16⟩
  | .local _ .vmem, ⟨8, _⟩ => ⟨S1x4096x256, .bf16⟩
  | .local _ .vmem, ⟨9, _⟩ => ⟨S1x4096x256, .bf16⟩
  | .local _ .vmem, ⟨10, _⟩ => ⟨S1x4096x256, .bf16⟩
  | .local _ .vmem, ⟨11, _⟩ => ⟨S1x4096x256, .bf16⟩
  | .local _ .vmem, ⟨12, _⟩ => ⟨S1x32x256x128, .bf16⟩
  | .local _ .vmem, ⟨13, _⟩ => ⟨S1x32x256x128, .bf16⟩
  | .local _ .vmem, ⟨14, _⟩ => ⟨S1x32x256x128, .bf16⟩
  | .local _ .vmem, ⟨15, _⟩ => ⟨S1x32x256x128, .bf16⟩
  | .local _ .vmem, ⟨16, _⟩ => ⟨S1x1024x128, .f32⟩
  | .local _ .vmem, ⟨17, _⟩ => ⟨S1x1024x128, .f32⟩
  | .local _ .vmem, ⟨18, _⟩ => ⟨S4x4096x256, .bf16⟩
  | .local _ .vmem, ⟨19, _⟩ => ⟨S4x4224x256, .bf16⟩
  | .local _ .vmem, ⟨20, _⟩ => ⟨S4x64x128, .f32⟩
  | _, _ => ⟨S4x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 1, 32], ![false, false, false]⟩

def k0_cond1 (i : grid0.Coords) : BitVec 1 :=
  let arg2 : BitVec 32 := BitVec.ofNat 32 (i 2).val
  let c0_i32 : BitVec 32 := 0#32
  let v1 : BitVec 1 := Scalar.cmpi .eq arg2 c0_i32
  let v2 : BitVec 32 := Scalar.extui v1
  let c0_i32_0 : BitVec 32 := 0#32
  let v3 : BitVec 1 := Scalar.cmpi .ne v2 c0_i32_0
  v3

@[reducible] def k0_t1_loop : Scf.Loop 32 :=
  let c0_i32_5513 : BitVec 32 := 0#32
  let c16_i32_5514 : BitVec 32 := 16#32
  let v15594 : BitVec 32 := Scalar.addi c0_i32_5513 c16_i32_5514
  let c1_i32_5515 : BitVec 32 := 1#32
  ⟨c0_i32_5513, v15594, c1_i32_5515⟩
def k0_mult1 (k0_t1 : Fin k0_t1_loop.trips) : BitVec 32 :=
  let c0_i32_5513 : BitVec 32 := 0#32
  let c1_i32_5515 : BitVec 32 := 1#32
  let arg15 : BitVec 32 := Scf.iv c0_i32_5513 c1_i32_5515 k0_t1
  let c256_i32_5540 : BitVec 32 := 256#32
  let v15635 : BitVec 32 := Scalar.muli arg15 c256_i32_5540
  v15635
def k0_off1 (k0_t1 : Fin k0_t1_loop.trips) : Fin 3 → Nat :=
  let c0_5550 : Index := 0#32
  let c0_i32_5513 : BitVec 32 := 0#32
  let c1_i32_5515 : BitVec 32 := 1#32
  let arg15 : BitVec 32 := Scf.iv c0_i32_5513 c1_i32_5515 k0_t1
  let c256_i32_5540 : BitVec 32 := 256#32
  let v15635 : BitVec 32 := Scalar.muli arg15 c256_i32_5540
  let v15636 : BitVec 32 := v15635
  let v15659 : Index := Scalar.indexCast v15636
  let c0_5551 : Index := 0#32
  ![0, v15659.toNat, 0]
def k0_off2 (k0_t1 : Fin k0_t1_loop.trips) : Fin 3 → Nat :=
  let c0_5555 : Index := 0#32
  let c0_i32_5513 : BitVec 32 := 0#32
  let c1_i32_5515 : BitVec 32 := 1#32
  let arg15 : BitVec 32 := Scf.iv c0_i32_5513 c1_i32_5515 k0_t1
  let c256_i32_5540 : BitVec 32 := 256#32
  let v15635 : BitVec 32 := Scalar.muli arg15 c256_i32_5540
  let v15636 : BitVec 32 := v15635
  let v15668 : Index := Scalar.indexCast v15636
  let c0_5556 : Index := 0#32
  ![0, v15668.toNat, 0]
def k0_off3 (k0_t1 : Fin k0_t1_loop.trips) : Fin 3 → Nat :=
  let c0_5558 : Index := 0#32
  let c0_i32_5513 : BitVec 32 := 0#32
  let c1_i32_5515 : BitVec 32 := 1#32
  let arg15 : BitVec 32 := Scf.iv c0_i32_5513 c1_i32_5515 k0_t1
  let c256_i32_5540 : BitVec 32 := 256#32
  let v15635 : BitVec 32 := Scalar.muli arg15 c256_i32_5540
  let v15636 : BitVec 32 := v15635
  let v15675 : Index := Scalar.indexCast v15636
  let c0_5559 : Index := 0#32
  ![0, v15675.toNat, 0]
def k0_off4 (k0_t1 : Fin k0_t1_loop.trips) : Fin 3 → Nat :=
  let c1_5561 : Index := 1#32
  let c0_i32_5513 : BitVec 32 := 0#32
  let c1_i32_5515 : BitVec 32 := 1#32
  let arg15 : BitVec 32 := Scf.iv c0_i32_5513 c1_i32_5515 k0_t1
  let c256_i32_5540 : BitVec 32 := 256#32
  let v15635 : BitVec 32 := Scalar.muli arg15 c256_i32_5540
  let v15636 : BitVec 32 := v15635
  let v15682 : Index := Scalar.indexCast v15636
  let c0_5562 : Index := 0#32
  ![1, v15682.toNat, 0]
def k0_off5 (k0_t1 : Fin k0_t1_loop.trips) : Fin 3 → Nat :=
  let c1_5564 : Index := 1#32
  let c0_i32_5513 : BitVec 32 := 0#32
  let c1_i32_5515 : BitVec 32 := 1#32
  let arg15 : BitVec 32 := Scf.iv c0_i32_5513 c1_i32_5515 k0_t1
  let c256_i32_5540 : BitVec 32 := 256#32
  let v15635 : BitVec 32 := Scalar.muli arg15 c256_i32_5540
  let v15636 : BitVec 32 := v15635
  let v15689 : Index := Scalar.indexCast v15636
  let c0_5565 : Index := 0#32
  ![1, v15689.toNat, 0]
def k0_off6 (k0_t1 : Fin k0_t1_loop.trips) : Fin 3 → Nat :=
  let c2_5567 : Index := 2#32
  let c0_i32_5513 : BitVec 32 := 0#32
  let c1_i32_5515 : BitVec 32 := 1#32
  let arg15 : BitVec 32 := Scf.iv c0_i32_5513 c1_i32_5515 k0_t1
  let c256_i32_5540 : BitVec 32 := 256#32
  let v15635 : BitVec 32 := Scalar.muli arg15 c256_i32_5540
  let v15636 : BitVec 32 := v15635
  let v15696 : Index := Scalar.indexCast v15636
  let c0_5568 : Index := 0#32
  ![2, v15696.toNat, 0]
def k0_off7 (k0_t1 : Fin k0_t1_loop.trips) : Fin 3 → Nat :=
  let c2_5570 : Index := 2#32
  let c0_i32_5513 : BitVec 32 := 0#32
  let c1_i32_5515 : BitVec 32 := 1#32
  let arg15 : BitVec 32 := Scf.iv c0_i32_5513 c1_i32_5515 k0_t1
  let c256_i32_5540 : BitVec 32 := 256#32
  let v15635 : BitVec 32 := Scalar.muli arg15 c256_i32_5540
  let v15636 : BitVec 32 := v15635
  let v15703 : Index := Scalar.indexCast v15636
  let c0_5571 : Index := 0#32
  ![2, v15703.toNat, 0]
def k0_off8 (k0_t1 : Fin k0_t1_loop.trips) : Fin 3 → Nat :=
  let c3_5573 : Index := 3#32
  let c0_i32_5513 : BitVec 32 := 0#32
  let c1_i32_5515 : BitVec 32 := 1#32
  let arg15 : BitVec 32 := Scf.iv c0_i32_5513 c1_i32_5515 k0_t1
  let c256_i32_5540 : BitVec 32 := 256#32
  let v15635 : BitVec 32 := Scalar.muli arg15 c256_i32_5540
  let v15636 : BitVec 32 := v15635
  let v15710 : Index := Scalar.indexCast v15636
  let c0_5574 : Index := 0#32
  ![3, v15710.toNat, 0]
def k0_off9 (k0_t1 : Fin k0_t1_loop.trips) : Fin 3 → Nat :=
  let c3_5576 : Index := 3#32
  let c0_i32_5513 : BitVec 32 := 0#32
  let c1_i32_5515 : BitVec 32 := 1#32
  let arg15 : BitVec 32 := Scf.iv c0_i32_5513 c1_i32_5515 k0_t1
  let c256_i32_5540 : BitVec 32 := 256#32
  let v15635 : BitVec 32 := Scalar.muli arg15 c256_i32_5540
  let v15636 : BitVec 32 := v15635
  let v15717 : Index := Scalar.indexCast v15636
  let c0_5577 : Index := 0#32
  ![3, v15717.toNat, 0]
def k0_mult2 (i : grid0.Coords) : BitVec 32 :=
  let arg2 : BitVec 32 := BitVec.ofNat 32 (i 2).val
  let c4_i32 : BitVec 32 := 4#32
  let v84 : BitVec 32 := Scalar.subi arg2 c4_i32
  let c0_i32_18 : BitVec 32 := 0#32
  let v85 : BitVec 32 := Scalar.addi v84 c0_i32_18
  let c0_i32_19 : BitVec 32 := 0#32
  let v86 : BitVec 1 := Scalar.cmpi .sge v85 c0_i32_19
  let c0_i32_20 : BitVec 32 := 0#32
  let v87 : BitVec 32 := Scalar.addi v84 c0_i32_20
  let c32_i32_21 : BitVec 32 := 32#32
  let v88 : BitVec 32 := Scalar.select v86 v87 c32_i32_21
  let c128_i32_46 : BitVec 32 := 128#32
  let v115 : BitVec 32 := Scalar.muli v88 c128_i32_46
  v115
def k0_mult3 (i : grid0.Coords) : BitVec 32 :=
  let arg2 : BitVec 32 := BitVec.ofNat 32 (i 2).val
  let c4_i32 : BitVec 32 := 4#32
  let v84 : BitVec 32 := Scalar.subi arg2 c4_i32
  let c1_i32 : BitVec 32 := 1#32
  let v89 : BitVec 32 := Scalar.addi v84 c1_i32
  let c0_i32_22 : BitVec 32 := 0#32
  let v90 : BitVec 1 := Scalar.cmpi .sge v89 c0_i32_22
  let c1_i32_23 : BitVec 32 := 1#32
  let v91 : BitVec 32 := Scalar.addi v84 c1_i32_23
  let c32_i32_24 : BitVec 32 := 32#32
  let v92 : BitVec 32 := Scalar.select v90 v91 c32_i32_24
  let c128_i32_47 : BitVec 32 := 128#32
  let v117 : BitVec 32 := Scalar.muli v92 c128_i32_47
  v117
def k0_mult4 (i : grid0.Coords) : BitVec 32 :=
  let arg2 : BitVec 32 := BitVec.ofNat 32 (i 2).val
  let c4_i32 : BitVec 32 := 4#32
  let v84 : BitVec 32 := Scalar.subi arg2 c4_i32
  let c2_i32_25 : BitVec 32 := 2#32
  let v93 : BitVec 32 := Scalar.addi v84 c2_i32_25
  let c0_i32_26 : BitVec 32 := 0#32
  let v94 : BitVec 1 := Scalar.cmpi .sge v93 c0_i32_26
  let c2_i32_27 : BitVec 32 := 2#32
  let v95 : BitVec 32 := Scalar.addi v84 c2_i32_27
  let c32_i32_28 : BitVec 32 := 32#32
  let v96 : BitVec 32 := Scalar.select v94 v95 c32_i32_28
  let c128_i32_48 : BitVec 32 := 128#32
  let v119 : BitVec 32 := Scalar.muli v96 c128_i32_48
  v119
def k0_mult5 (i : grid0.Coords) : BitVec 32 :=
  let arg2 : BitVec 32 := BitVec.ofNat 32 (i 2).val
  let c4_i32 : BitVec 32 := 4#32
  let v84 : BitVec 32 := Scalar.subi arg2 c4_i32
  let c3_i32 : BitVec 32 := 3#32
  let v97 : BitVec 32 := Scalar.addi v84 c3_i32
  let c0_i32_29 : BitVec 32 := 0#32
  let v98 : BitVec 1 := Scalar.cmpi .sge v97 c0_i32_29
  let c3_i32_30 : BitVec 32 := 3#32
  let v99 : BitVec 32 := Scalar.addi v84 c3_i32_30
  let c32_i32_31 : BitVec 32 := 32#32
  let v100 : BitVec 32 := Scalar.select v98 v99 c32_i32_31
  let c128_i32_49 : BitVec 32 := 128#32
  let v121 : BitVec 32 := Scalar.muli v100 c128_i32_49
  v121
def k0_mult6 (i : grid0.Coords) : BitVec 32 :=
  let arg2 : BitVec 32 := BitVec.ofNat 32 (i 2).val
  let c4_i32 : BitVec 32 := 4#32
  let v84 : BitVec 32 := Scalar.subi arg2 c4_i32
  let c4_i32_32 : BitVec 32 := 4#32
  let v101 : BitVec 32 := Scalar.addi v84 c4_i32_32
  let c0_i32_33 : BitVec 32 := 0#32
  let v102 : BitVec 1 := Scalar.cmpi .sge v101 c0_i32_33
  let c4_i32_34 : BitVec 32 := 4#32
  let v103 : BitVec 32 := Scalar.addi v84 c4_i32_34
  let c32_i32_35 : BitVec 32 := 32#32
  let v104 : BitVec 32 := Scalar.select v102 v103 c32_i32_35
  let c128_i32_50 : BitVec 32 := 128#32
  let v123 : BitVec 32 := Scalar.muli v104 c128_i32_50
  v123
def k0_off10 (i : grid0.Coords) (c0_i32_18 : BitVec 32) (c0_i32_20 : BitVec 32) : Fin 3 → Nat :=
  let c0_90 : Index := 0#32
  let arg2 : BitVec 32 := BitVec.ofNat 32 (i 2).val
  let c4_i32 : BitVec 32 := 4#32
  let v84 : BitVec 32 := Scalar.subi arg2 c4_i32
  let v85 : BitVec 32 := Scalar.addi v84 c0_i32_18
  let c0_i32_19 : BitVec 32 := 0#32
  let v86 : BitVec 1 := Scalar.cmpi .sge v85 c0_i32_19
  let v87 : BitVec 32 := Scalar.addi v84 c0_i32_20
  let c32_i32_21 : BitVec 32 := 32#32
  let v88 : BitVec 32 := Scalar.select v86 v87 c32_i32_21
  let c128_i32_46 : BitVec 32 := 128#32
  let v115 : BitVec 32 := Scalar.muli v88 c128_i32_46
  let v116 : BitVec 32 := v115
  let v216 : Index := Scalar.indexCast v116
  let c0_91 : Index := 0#32
  ![0, v216.toNat, 0]
def k0_off10_at (r : Fin 2) : BitVec 32 × BitVec 32 :=
  if r.val < 1 then
    (0#32, 0#32)
  else
    (4#32, 4#32)
def k0_off11 (i : grid0.Coords) (c1_i32 : BitVec 32) (c1_i32_23 : BitVec 32) : Fin 3 → Nat :=
  let c0_93 : Index := 0#32
  let arg2 : BitVec 32 := BitVec.ofNat 32 (i 2).val
  let c4_i32 : BitVec 32 := 4#32
  let v84 : BitVec 32 := Scalar.subi arg2 c4_i32
  let v89 : BitVec 32 := Scalar.addi v84 c1_i32
  let c0_i32_22 : BitVec 32 := 0#32
  let v90 : BitVec 1 := Scalar.cmpi .sge v89 c0_i32_22
  let v91 : BitVec 32 := Scalar.addi v84 c1_i32_23
  let c32_i32_24 : BitVec 32 := 32#32
  let v92 : BitVec 32 := Scalar.select v90 v91 c32_i32_24
  let c128_i32_47 : BitVec 32 := 128#32
  let v117 : BitVec 32 := Scalar.muli v92 c128_i32_47
  let v118 : BitVec 32 := v117
  let v220 : Index := Scalar.indexCast v118
  let c0_94 : Index := 0#32
  ![0, v220.toNat, 0]
def k0_off11_at (r : Fin 3) : BitVec 32 × BitVec 32 :=
  if r.val < 1 then
    (1#32, 1#32)
  else
    if r.val < 2 then
      (2#32, 2#32)
    else
      (3#32, 3#32)
def k0_mult7 (i : grid0.Coords) : BitVec 32 :=
  let arg2 : BitVec 32 := BitVec.ofNat 32 (i 2).val
  let c128_i32 : BitVec 32 := 128#32
  let v0 : BitVec 32 := Scalar.muli arg2 c128_i32
  v0
def k0_off12 (i : grid0.Coords) : Fin 3 → Nat :=
  let c0_105 : Index := 0#32
  let arg2 : BitVec 32 := BitVec.ofNat 32 (i 2).val
  let c128_i32 : BitVec 32 := 128#32
  let v0 : BitVec 32 := Scalar.muli arg2 c128_i32
  let v236 : BitVec 32 := v0
  let v237 : Index := Scalar.indexCast v236
  let c0_106 : Index := 0#32
  ![0, v237.toNat, 0]
def k0_off13 (i : grid0.Coords) (c0_i32_18 : BitVec 32) (c0_i32_20 : BitVec 32) : Fin 3 → Nat :=
  let c1_285 : Index := 1#32
  let arg2 : BitVec 32 := BitVec.ofNat 32 (i 2).val
  let c4_i32 : BitVec 32 := 4#32
  let v84 : BitVec 32 := Scalar.subi arg2 c4_i32
  let v85 : BitVec 32 := Scalar.addi v84 c0_i32_18
  let c0_i32_19 : BitVec 32 := 0#32
  let v86 : BitVec 1 := Scalar.cmpi .sge v85 c0_i32_19
  let v87 : BitVec 32 := Scalar.addi v84 c0_i32_20
  let c32_i32_21 : BitVec 32 := 32#32
  let v88 : BitVec 32 := Scalar.select v86 v87 c32_i32_21
  let c128_i32_46 : BitVec 32 := 128#32
  let v115 : BitVec 32 := Scalar.muli v88 c128_i32_46
  let v116 : BitVec 32 := v115
  let v746 : Index := Scalar.indexCast v116
  let c0_286 : Index := 0#32
  ![1, v746.toNat, 0]
def k0_off13_at (r : Fin 2) : BitVec 32 × BitVec 32 :=
  if r.val < 1 then
    (0#32, 0#32)
  else
    (4#32, 4#32)
def k0_off14 (i : grid0.Coords) (c1_i32 : BitVec 32) (c1_i32_23 : BitVec 32) : Fin 3 → Nat :=
  let c1_288 : Index := 1#32
  let arg2 : BitVec 32 := BitVec.ofNat 32 (i 2).val
  let c4_i32 : BitVec 32 := 4#32
  let v84 : BitVec 32 := Scalar.subi arg2 c4_i32
  let v89 : BitVec 32 := Scalar.addi v84 c1_i32
  let c0_i32_22 : BitVec 32 := 0#32
  let v90 : BitVec 1 := Scalar.cmpi .sge v89 c0_i32_22
  let v91 : BitVec 32 := Scalar.addi v84 c1_i32_23
  let c32_i32_24 : BitVec 32 := 32#32
  let v92 : BitVec 32 := Scalar.select v90 v91 c32_i32_24
  let c128_i32_47 : BitVec 32 := 128#32
  let v117 : BitVec 32 := Scalar.muli v92 c128_i32_47
  let v118 : BitVec 32 := v117
  let v750 : Index := Scalar.indexCast v118
  let c0_289 : Index := 0#32
  ![1, v750.toNat, 0]
def k0_off14_at (r : Fin 3) : BitVec 32 × BitVec 32 :=
  if r.val < 1 then
    (1#32, 1#32)
  else
    if r.val < 2 then
      (2#32, 2#32)
    else
      (3#32, 3#32)
def k0_mult8 (i : grid0.Coords) : BitVec 32 :=
  let arg2 : BitVec 32 := BitVec.ofNat 32 (i 2).val
  let c128_i32 : BitVec 32 := 128#32
  let v0 : BitVec 32 := Scalar.muli arg2 c128_i32
  v0
def k0_off15 (i : grid0.Coords) : Fin 3 → Nat :=
  let c1_300 : Index := 1#32
  let arg2 : BitVec 32 := BitVec.ofNat 32 (i 2).val
  let c128_i32 : BitVec 32 := 128#32
  let v0 : BitVec 32 := Scalar.muli arg2 c128_i32
  let v766 : BitVec 32 := v0
  let v767 : Index := Scalar.indexCast v766
  let c0_301 : Index := 0#32
  ![1, v767.toNat, 0]
def k0_off16 (i : grid0.Coords) (c0_i32_18 : BitVec 32) (c0_i32_20 : BitVec 32) : Fin 3 → Nat :=
  let c2_630 : Index := 2#32
  let arg2 : BitVec 32 := BitVec.ofNat 32 (i 2).val
  let c4_i32 : BitVec 32 := 4#32
  let v84 : BitVec 32 := Scalar.subi arg2 c4_i32
  let v85 : BitVec 32 := Scalar.addi v84 c0_i32_18
  let c0_i32_19 : BitVec 32 := 0#32
  let v86 : BitVec 1 := Scalar.cmpi .sge v85 c0_i32_19
  let v87 : BitVec 32 := Scalar.addi v84 c0_i32_20
  let c32_i32_21 : BitVec 32 := 32#32
  let v88 : BitVec 32 := Scalar.select v86 v87 c32_i32_21
  let c128_i32_46 : BitVec 32 := 128#32
  let v115 : BitVec 32 := Scalar.muli v88 c128_i32_46
  let v116 : BitVec 32 := v115
  let v1706 : Index := Scalar.indexCast v116
  let c0_631 : Index := 0#32
  ![2, v1706.toNat, 0]
def k0_off16_at (r : Fin 2) : BitVec 32 × BitVec 32 :=
  if r.val < 1 then
    (0#32, 0#32)
  else
    (4#32, 4#32)
def k0_off17 (i : grid0.Coords) (c1_i32 : BitVec 32) (c1_i32_23 : BitVec 32) : Fin 3 → Nat :=
  let c2_633 : Index := 2#32
  let arg2 : BitVec 32 := BitVec.ofNat 32 (i 2).val
  let c4_i32 : BitVec 32 := 4#32
  let v84 : BitVec 32 := Scalar.subi arg2 c4_i32
  let v89 : BitVec 32 := Scalar.addi v84 c1_i32
  let c0_i32_22 : BitVec 32 := 0#32
  let v90 : BitVec 1 := Scalar.cmpi .sge v89 c0_i32_22
  let v91 : BitVec 32 := Scalar.addi v84 c1_i32_23
  let c32_i32_24 : BitVec 32 := 32#32
  let v92 : BitVec 32 := Scalar.select v90 v91 c32_i32_24
  let c128_i32_47 : BitVec 32 := 128#32
  let v117 : BitVec 32 := Scalar.muli v92 c128_i32_47
  let v118 : BitVec 32 := v117
  let v1710 : Index := Scalar.indexCast v118
  let c0_634 : Index := 0#32
  ![2, v1710.toNat, 0]
def k0_off17_at (r : Fin 3) : BitVec 32 × BitVec 32 :=
  if r.val < 1 then
    (1#32, 1#32)
  else
    if r.val < 2 then
      (2#32, 2#32)
    else
      (3#32, 3#32)
def k0_mult9 (i : grid0.Coords) : BitVec 32 :=
  let arg2 : BitVec 32 := BitVec.ofNat 32 (i 2).val
  let c128_i32 : BitVec 32 := 128#32
  let v0 : BitVec 32 := Scalar.muli arg2 c128_i32
  v0
def k0_off18 (i : grid0.Coords) : Fin 3 → Nat :=
  let c2_645 : Index := 2#32
  let arg2 : BitVec 32 := BitVec.ofNat 32 (i 2).val
  let c128_i32 : BitVec 32 := 128#32
  let v0 : BitVec 32 := Scalar.muli arg2 c128_i32
  let v1726 : BitVec 32 := v0
  let v1727 : Index := Scalar.indexCast v1726
  let c0_646 : Index := 0#32
  ![2, v1727.toNat, 0]
def k0_off19 (i : grid0.Coords) (c0_i32_18 : BitVec 32) (c0_i32_20 : BitVec 32) : Fin 3 → Nat :=
  let c3_1130 : Index := 3#32
  let arg2 : BitVec 32 := BitVec.ofNat 32 (i 2).val
  let c4_i32 : BitVec 32 := 4#32
  let v84 : BitVec 32 := Scalar.subi arg2 c4_i32
  let v85 : BitVec 32 := Scalar.addi v84 c0_i32_18
  let c0_i32_19 : BitVec 32 := 0#32
  let v86 : BitVec 1 := Scalar.cmpi .sge v85 c0_i32_19
  let v87 : BitVec 32 := Scalar.addi v84 c0_i32_20
  let c32_i32_21 : BitVec 32 := 32#32
  let v88 : BitVec 32 := Scalar.select v86 v87 c32_i32_21
  let c128_i32_46 : BitVec 32 := 128#32
  let v115 : BitVec 32 := Scalar.muli v88 c128_i32_46
  let v116 : BitVec 32 := v115
  let v3095 : Index := Scalar.indexCast v116
  let c0_1131 : Index := 0#32
  ![3, v3095.toNat, 0]
def k0_off19_at (r : Fin 2) : BitVec 32 × BitVec 32 :=
  if r.val < 1 then
    (0#32, 0#32)
  else
    (4#32, 4#32)
def k0_off20 (i : grid0.Coords) (c1_i32 : BitVec 32) (c1_i32_23 : BitVec 32) : Fin 3 → Nat :=
  let c3_1133 : Index := 3#32
  let arg2 : BitVec 32 := BitVec.ofNat 32 (i 2).val
  let c4_i32 : BitVec 32 := 4#32
  let v84 : BitVec 32 := Scalar.subi arg2 c4_i32
  let v89 : BitVec 32 := Scalar.addi v84 c1_i32
  let c0_i32_22 : BitVec 32 := 0#32
  let v90 : BitVec 1 := Scalar.cmpi .sge v89 c0_i32_22
  let v91 : BitVec 32 := Scalar.addi v84 c1_i32_23
  let c32_i32_24 : BitVec 32 := 32#32
  let v92 : BitVec 32 := Scalar.select v90 v91 c32_i32_24
  let c128_i32_47 : BitVec 32 := 128#32
  let v117 : BitVec 32 := Scalar.muli v92 c128_i32_47
  let v118 : BitVec 32 := v117
  let v3099 : Index := Scalar.indexCast v118
  let c0_1134 : Index := 0#32
  ![3, v3099.toNat, 0]
def k0_off20_at (r : Fin 3) : BitVec 32 × BitVec 32 :=
  if r.val < 1 then
    (1#32, 1#32)
  else
    if r.val < 2 then
      (2#32, 2#32)
    else
      (3#32, 3#32)
def k0_mult10 (i : grid0.Coords) : BitVec 32 :=
  let arg2 : BitVec 32 := BitVec.ofNat 32 (i 2).val
  let c128_i32 : BitVec 32 := 128#32
  let v0 : BitVec 32 := Scalar.muli arg2 c128_i32
  v0
def k0_off21 (i : grid0.Coords) : Fin 3 → Nat :=
  let c3_1145 : Index := 3#32
  let arg2 : BitVec 32 := BitVec.ofNat 32 (i 2).val
  let c128_i32 : BitVec 32 := 128#32
  let v0 : BitVec 32 := Scalar.muli arg2 c128_i32
  let v3115 : BitVec 32 := v0
  let v3116 : Index := Scalar.indexCast v3115
  let c0_1146 : Index := 0#32
  ![3, v3116.toNat, 0]
def k0_off22 (i : grid0.Coords) (c0_i32_36 : BitVec 32) : Fin 4 → Nat :=
  let c0_5104 : Index := 0#32
  let arg2 : BitVec 32 := BitVec.ofNat 32 (i 2).val
  let c4_i32 : BitVec 32 := 4#32
  let v84 : BitVec 32 := Scalar.subi arg2 c4_i32
  let v105 : BitVec 32 := Scalar.addi v84 c0_i32_36
  let c0_i32_37 : BitVec 32 := 0#32
  let v106 : BitVec 32 := Scalar.maxsi v105 c0_i32_37
  let v14261 : Index := Scalar.indexCast v106
  let c0_5105 : Index := 0#32
  let c0_5106 : Index := 0#32
  ![0, v14261.toNat, 0, 0]
def k0_off23 (i : grid0.Coords) : Fin 4 → Nat :=
  let c0_5140 : Index := 0#32
  let arg2 : BitVec 32 := BitVec.ofNat 32 (i 2).val
  let v14327 : Index := Scalar.indexCast arg2
  let c0_5141 : Index := 0#32
  let c0_5142 : Index := 0#32
  ![0, v14327.toNat, 0, 0]
def k0_off24 (i : grid0.Coords) (c0_i32_36 : BitVec 32) : Fin 4 → Nat :=
  let c0_5316 : Index := 0#32
  let arg2 : BitVec 32 := BitVec.ofNat 32 (i 2).val
  let c4_i32 : BitVec 32 := 4#32
  let v84 : BitVec 32 := Scalar.subi arg2 c4_i32
  let v105 : BitVec 32 := Scalar.addi v84 c0_i32_36
  let c0_i32_37 : BitVec 32 := 0#32
  let v106 : BitVec 32 := Scalar.maxsi v105 c0_i32_37
  let v14836 : Index := Scalar.indexCast v106
  let c64 : Index := 64#32
  let c0_5317 : Index := 0#32
  ![0, v14836.toNat, 64, 0]
def k0_off25 (i : grid0.Coords) : Fin 4 → Nat :=
  let c0_5351 : Index := 0#32
  let arg2 : BitVec 32 := BitVec.ofNat 32 (i 2).val
  let v14902 : Index := Scalar.indexCast arg2
  let c64_5352 : Index := 64#32
  let c0_5353 : Index := 0#32
  ![0, v14902.toNat, 64, 0]
def k0_off26 (i : grid0.Coords) (c0_i32_36 : BitVec 32) : Fin 4 → Nat :=
  let c0_5368 : Index := 0#32
  let arg2 : BitVec 32 := BitVec.ofNat 32 (i 2).val
  let c4_i32 : BitVec 32 := 4#32
  let v84 : BitVec 32 := Scalar.subi arg2 c4_i32
  let v105 : BitVec 32 := Scalar.addi v84 c0_i32_36
  let c0_i32_37 : BitVec 32 := 0#32
  let v106 : BitVec 32 := Scalar.maxsi v105 c0_i32_37
  let v14969 : Index := Scalar.indexCast v106
  let c128 : Index := 128#32
  let c0_5369 : Index := 0#32
  ![0, v14969.toNat, 128, 0]
def k0_off27 (i : grid0.Coords) : Fin 4 → Nat :=
  let c0_5403 : Index := 0#32
  let arg2 : BitVec 32 := BitVec.ofNat 32 (i 2).val
  let v15035 : Index := Scalar.indexCast arg2
  let c128_5404 : Index := 128#32
  let c0_5405 : Index := 0#32
  ![0, v15035.toNat, 128, 0]
def k0_off28 (i : grid0.Coords) (c0_i32_36 : BitVec 32) : Fin 4 → Nat :=
  let c0_5410 : Index := 0#32
  let arg2 : BitVec 32 := BitVec.ofNat 32 (i 2).val
  let c4_i32 : BitVec 32 := 4#32
  let v84 : BitVec 32 := Scalar.subi arg2 c4_i32
  let v105 : BitVec 32 := Scalar.addi v84 c0_i32_36
  let c0_i32_37 : BitVec 32 := 0#32
  let v106 : BitVec 32 := Scalar.maxsi v105 c0_i32_37
  let v15071 : Index := Scalar.indexCast v106
  let c192 : Index := 192#32
  let c0_5411 : Index := 0#32
  ![0, v15071.toNat, 192, 0]
def k0_off29 (i : grid0.Coords) : Fin 4 → Nat :=
  let c0_5445 : Index := 0#32
  let arg2 : BitVec 32 := BitVec.ofNat 32 (i 2).val
  let v15137 : Index := Scalar.indexCast arg2
  let c192_5446 : Index := 192#32
  let c0_5447 : Index := 0#32
  ![0, v15137.toNat, 192, 0]
@[reducible] def k0_t2_loop (i : grid0.Coords) : Scf.Loop 32 :=
  let c0_i32_5454 : BitVec 32 := 0#32
  let arg2 : BitVec 32 := BitVec.ofNat 32 (i 2).val
  let c128_i32 : BitVec 32 := 128#32
  let v0 : BitVec 32 := Scalar.muli arg2 c128_i32
  let c256_i32 : BitVec 32 := 256#32
  let v15153 : BitVec 32 := Scalar.addi v0 c256_i32
  let c1_i32_5452 : BitVec 32 := 1#32
  let v15154 : BitVec 32 := Scalar.subi v15153 c1_i32_5452
  let c8_i32 : BitVec 32 := 8#32
  let v15155 : BitVec 32 := Scalar.shrsi v15154 c8_i32
  let c2_i32_5453 : BitVec 32 := 2#32
  let v15156 : BitVec 32 := Scalar.shrsi v15155 c2_i32_5453
  let v15157 : BitVec 32 := Scalar.subi v15156 c0_i32_5454
  let c1_i32_5455 : BitVec 32 := 1#32
  let v15159 : BitVec 32 := Scalar.divsi v15157 c1_i32_5455
  let v15160 : BitVec 32 := Scalar.muli v15159 c1_i32_5455
  let v15161 : BitVec 32 := Scalar.addi c0_i32_5454 v15160
  let c1_i32_5456 : BitVec 32 := 1#32
  ⟨c0_i32_5454, v15161, c1_i32_5456⟩
def k0_mult11 (i : grid0.Coords) (k0_t2 : Fin (k0_t2_loop i).trips) : BitVec 32 :=
  let c4_i32_5497 : BitVec 32 := 4#32
  let c0_i32_5454 : BitVec 32 := 0#32
  let c1_i32_5456 : BitVec 32 := 1#32
  let arg15 : BitVec 32 := Scf.iv c0_i32_5454 c1_i32_5456 k0_t2
  let v15544 : BitVec 32 := Scalar.muli c4_i32_5497 arg15
  let c0_i32_5498 : BitVec 32 := 0#32
  let v15545 : BitVec 32 := Scalar.addi v15544 c0_i32_5498
  let c256_i32_5514 : BitVec 32 := 256#32
  let v15561 : BitVec 32 := Scalar.muli v15545 c256_i32_5514
  v15561
def k0_off30 (i : grid0.Coords) (k0_t2 : Fin (k0_t2_loop i).trips) (c0_i32_5498 : BitVec 32) : Fin 3 → Nat :=
  let c0_5515 : Index := 0#32
  let c4_i32_5497 : BitVec 32 := 4#32
  let c0_i32_5454 : BitVec 32 := 0#32
  let c1_i32_5456 : BitVec 32 := 1#32
  let arg15 : BitVec 32 := Scf.iv c0_i32_5454 c1_i32_5456 k0_t2
  let v15544 : BitVec 32 := Scalar.muli c4_i32_5497 arg15
  let v15545 : BitVec 32 := Scalar.addi v15544 c0_i32_5498
  let c256_i32_5514 : BitVec 32 := 256#32
  let v15561 : BitVec 32 := Scalar.muli v15545 c256_i32_5514
  let v15562 : BitVec 32 := v15561
  let v15563 : Index := Scalar.indexCast v15562
  let c0_5516 : Index := 0#32
  ![0, v15563.toNat, 0]
def k0_mult12 (i : grid0.Coords) (k0_t2 : Fin (k0_t2_loop i).trips) : BitVec 32 :=
  let c4_i32_5497 : BitVec 32 := 4#32
  let c0_i32_5454 : BitVec 32 := 0#32
  let c1_i32_5456 : BitVec 32 := 1#32
  let arg15 : BitVec 32 := Scf.iv c0_i32_5454 c1_i32_5456 k0_t2
  let v15544 : BitVec 32 := Scalar.muli c4_i32_5497 arg15
  let c0_i32_5499 : BitVec 32 := 0#32
  let v15546 : BitVec 32 := Scalar.addi v15544 c0_i32_5499
  let c256_i32_5518 : BitVec 32 := 256#32
  let v15567 : BitVec 32 := Scalar.muli v15546 c256_i32_5518
  v15567
def k0_off31 (i : grid0.Coords) (k0_t2 : Fin (k0_t2_loop i).trips) (c0_i32_5499 : BitVec 32) : Fin 3 → Nat :=
  let c1_5519 : Index := 1#32
  let c4_i32_5497 : BitVec 32 := 4#32
  let c0_i32_5454 : BitVec 32 := 0#32
  let c1_i32_5456 : BitVec 32 := 1#32
  let arg15 : BitVec 32 := Scf.iv c0_i32_5454 c1_i32_5456 k0_t2
  let v15544 : BitVec 32 := Scalar.muli c4_i32_5497 arg15
  let v15546 : BitVec 32 := Scalar.addi v15544 c0_i32_5499
  let c256_i32_5518 : BitVec 32 := 256#32
  let v15567 : BitVec 32 := Scalar.muli v15546 c256_i32_5518
  let v15568 : BitVec 32 := v15567
  let v15569 : Index := Scalar.indexCast v15568
  let c0_5520 : Index := 0#32
  ![1, v15569.toNat, 0]
def k0_mult13 (i : grid0.Coords) (k0_t2 : Fin (k0_t2_loop i).trips) : BitVec 32 :=
  let c4_i32_5497 : BitVec 32 := 4#32
  let c0_i32_5454 : BitVec 32 := 0#32
  let c1_i32_5456 : BitVec 32 := 1#32
  let arg15 : BitVec 32 := Scf.iv c0_i32_5454 c1_i32_5456 k0_t2
  let v15544 : BitVec 32 := Scalar.muli c4_i32_5497 arg15
  let c0_i32_5500 : BitVec 32 := 0#32
  let v15547 : BitVec 32 := Scalar.addi v15544 c0_i32_5500
  let c256_i32_5523 : BitVec 32 := 256#32
  let v15576 : BitVec 32 := Scalar.muli v15547 c256_i32_5523
  v15576
def k0_off32 (i : grid0.Coords) (k0_t2 : Fin (k0_t2_loop i).trips) (c0_i32_5500 : BitVec 32) : Fin 3 → Nat :=
  let c2_5524 : Index := 2#32
  let c4_i32_5497 : BitVec 32 := 4#32
  let c0_i32_5454 : BitVec 32 := 0#32
  let c1_i32_5456 : BitVec 32 := 1#32
  let arg15 : BitVec 32 := Scf.iv c0_i32_5454 c1_i32_5456 k0_t2
  let v15544 : BitVec 32 := Scalar.muli c4_i32_5497 arg15
  let v15547 : BitVec 32 := Scalar.addi v15544 c0_i32_5500
  let c256_i32_5523 : BitVec 32 := 256#32
  let v15576 : BitVec 32 := Scalar.muli v15547 c256_i32_5523
  let v15577 : BitVec 32 := v15576
  let v15578 : Index := Scalar.indexCast v15577
  let c0_5525 : Index := 0#32
  ![2, v15578.toNat, 0]
def k0_mult14 (i : grid0.Coords) (k0_t2 : Fin (k0_t2_loop i).trips) : BitVec 32 :=
  let c4_i32_5497 : BitVec 32 := 4#32
  let c0_i32_5454 : BitVec 32 := 0#32
  let c1_i32_5456 : BitVec 32 := 1#32
  let arg15 : BitVec 32 := Scf.iv c0_i32_5454 c1_i32_5456 k0_t2
  let v15544 : BitVec 32 := Scalar.muli c4_i32_5497 arg15
  let c0_i32_5501 : BitVec 32 := 0#32
  let v15548 : BitVec 32 := Scalar.addi v15544 c0_i32_5501
  let c256_i32_5528 : BitVec 32 := 256#32
  let v15589 : BitVec 32 := Scalar.muli v15548 c256_i32_5528
  v15589
def k0_off33 (i : grid0.Coords) (k0_t2 : Fin (k0_t2_loop i).trips) (c0_i32_5501 : BitVec 32) : Fin 3 → Nat :=
  let c3_5529 : Index := 3#32
  let c4_i32_5497 : BitVec 32 := 4#32
  let c0_i32_5454 : BitVec 32 := 0#32
  let c1_i32_5456 : BitVec 32 := 1#32
  let arg15 : BitVec 32 := Scf.iv c0_i32_5454 c1_i32_5456 k0_t2
  let v15544 : BitVec 32 := Scalar.muli c4_i32_5497 arg15
  let v15548 : BitVec 32 := Scalar.addi v15544 c0_i32_5501
  let c256_i32_5528 : BitVec 32 := 256#32
  let v15589 : BitVec 32 := Scalar.muli v15548 c256_i32_5528
  let v15590 : BitVec 32 := v15589
  let v15591 : Index := Scalar.indexCast v15590
  let c0_5530 : Index := 0#32
  ![3, v15591.toNat, 0]
def k0_off34 (i : grid0.Coords) (k0_t2 : Fin (k0_t2_loop i).trips) (c0_i32_5498 : BitVec 32) (c0_i32_5533 : BitVec 32) : Fin 4 → Nat :=
  let c0_5534 : Index := 0#32
  let c4_i32_5497 : BitVec 32 := 4#32
  let c0_i32_5454 : BitVec 32 := 0#32
  let c1_i32_5456 : BitVec 32 := 1#32
  let arg15 : BitVec 32 := Scf.iv c0_i32_5454 c1_i32_5456 k0_t2
  let v15544 : BitVec 32 := Scalar.muli c4_i32_5497 arg15
  let v15545 : BitVec 32 := Scalar.addi v15544 c0_i32_5498
  let c2_i32_5532 : BitVec 32 := 2#32
  let v15603 : BitVec 32 := Scalar.muli v15545 c2_i32_5532
  let v15604 : BitVec 32 := Scalar.addi v15603 c0_i32_5533
  let v15605 : Index := Scalar.indexCast v15604
  let c0_5535 : Index := 0#32
  let c0_5536 : Index := 0#32
  ![0, v15605.toNat, 0, 0]
def k0_mult15 (i : grid0.Coords) (k0_t2 : Fin (k0_t2_loop i).trips) : BitVec 32 :=
  let c4_i32_5497 : BitVec 32 := 4#32
  let c0_i32_5454 : BitVec 32 := 0#32
  let c1_i32_5456 : BitVec 32 := 1#32
  let arg15 : BitVec 32 := Scf.iv c0_i32_5454 c1_i32_5456 k0_t2
  let v15544 : BitVec 32 := Scalar.muli c4_i32_5497 arg15
  let c1_i32_5502 : BitVec 32 := 1#32
  let v15549 : BitVec 32 := Scalar.addi v15544 c1_i32_5502
  let c256_i32_5547 : BitVec 32 := 256#32
  let v15627 : BitVec 32 := Scalar.muli v15549 c256_i32_5547
  v15627
def k0_off35 (i : grid0.Coords) (k0_t2 : Fin (k0_t2_loop i).trips) (c0_i32_5499 : BitVec 32) (c0_i32_5552 : BitVec 32) : Fin 4 → Nat :=
  let c0_5553 : Index := 0#32
  let c4_i32_5497 : BitVec 32 := 4#32
  let c0_i32_5454 : BitVec 32 := 0#32
  let c1_i32_5456 : BitVec 32 := 1#32
  let arg15 : BitVec 32 := Scf.iv c0_i32_5454 c1_i32_5456 k0_t2
  let v15544 : BitVec 32 := Scalar.muli c4_i32_5497 arg15
  let v15546 : BitVec 32 := Scalar.addi v15544 c0_i32_5499
  let c2_i32_5551 : BitVec 32 := 2#32
  let v15641 : BitVec 32 := Scalar.muli v15546 c2_i32_5551
  let v15642 : BitVec 32 := Scalar.addi v15641 c0_i32_5552
  let v15643 : Index := Scalar.indexCast v15642
  let c64_5554 : Index := 64#32
  let c0_5555 : Index := 0#32
  ![0, v15643.toNat, 64, 0]
def k0_mult16 (i : grid0.Coords) (k0_t2 : Fin (k0_t2_loop i).trips) : BitVec 32 :=
  let c4_i32_5497 : BitVec 32 := 4#32
  let c0_i32_5454 : BitVec 32 := 0#32
  let c1_i32_5456 : BitVec 32 := 1#32
  let arg15 : BitVec 32 := Scf.iv c0_i32_5454 c1_i32_5456 k0_t2
  let v15544 : BitVec 32 := Scalar.muli c4_i32_5497 arg15
  let c1_i32_5503 : BitVec 32 := 1#32
  let v15550 : BitVec 32 := Scalar.addi v15544 c1_i32_5503
  let c256_i32_5566 : BitVec 32 := 256#32
  let v15665 : BitVec 32 := Scalar.muli v15550 c256_i32_5566
  v15665
def k0_off36 (i : grid0.Coords) (k0_t2 : Fin (k0_t2_loop i).trips) (c0_i32_5500 : BitVec 32) (c0_i32_5571 : BitVec 32) : Fin 4 → Nat :=
  let c0_5572 : Index := 0#32
  let c4_i32_5497 : BitVec 32 := 4#32
  let c0_i32_5454 : BitVec 32 := 0#32
  let c1_i32_5456 : BitVec 32 := 1#32
  let arg15 : BitVec 32 := Scf.iv c0_i32_5454 c1_i32_5456 k0_t2
  let v15544 : BitVec 32 := Scalar.muli c4_i32_5497 arg15
  let v15547 : BitVec 32 := Scalar.addi v15544 c0_i32_5500
  let c2_i32_5570 : BitVec 32 := 2#32
  let v15679 : BitVec 32 := Scalar.muli v15547 c2_i32_5570
  let v15680 : BitVec 32 := Scalar.addi v15679 c0_i32_5571
  let v15681 : Index := Scalar.indexCast v15680
  let c128_5573 : Index := 128#32
  let c0_5574 : Index := 0#32
  ![0, v15681.toNat, 128, 0]
def k0_mult17 (i : grid0.Coords) (k0_t2 : Fin (k0_t2_loop i).trips) : BitVec 32 :=
  let c4_i32_5497 : BitVec 32 := 4#32
  let c0_i32_5454 : BitVec 32 := 0#32
  let c1_i32_5456 : BitVec 32 := 1#32
  let arg15 : BitVec 32 := Scf.iv c0_i32_5454 c1_i32_5456 k0_t2
  let v15544 : BitVec 32 := Scalar.muli c4_i32_5497 arg15
  let c1_i32_5504 : BitVec 32 := 1#32
  let v15551 : BitVec 32 := Scalar.addi v15544 c1_i32_5504
  let c256_i32_5585 : BitVec 32 := 256#32
  let v15703 : BitVec 32 := Scalar.muli v15551 c256_i32_5585
  v15703
def k0_off37 (i : grid0.Coords) (k0_t2 : Fin (k0_t2_loop i).trips) (c0_i32_5501 : BitVec 32) (c0_i32_5590 : BitVec 32) : Fin 4 → Nat :=
  let c0_5591 : Index := 0#32
  let c4_i32_5497 : BitVec 32 := 4#32
  let c0_i32_5454 : BitVec 32 := 0#32
  let c1_i32_5456 : BitVec 32 := 1#32
  let arg15 : BitVec 32 := Scf.iv c0_i32_5454 c1_i32_5456 k0_t2
  let v15544 : BitVec 32 := Scalar.muli c4_i32_5497 arg15
  let v15548 : BitVec 32 := Scalar.addi v15544 c0_i32_5501
  let c2_i32_5589 : BitVec 32 := 2#32
  let v15717 : BitVec 32 := Scalar.muli v15548 c2_i32_5589
  let v15718 : BitVec 32 := Scalar.addi v15717 c0_i32_5590
  let v15719 : Index := Scalar.indexCast v15718
  let c192_5592 : Index := 192#32
  let c0_5593 : Index := 0#32
  ![0, v15719.toNat, 192, 0]
def k0_mult18 (i : grid0.Coords) (k0_t2 : Fin (k0_t2_loop i).trips) : BitVec 32 :=
  let c4_i32_5497 : BitVec 32 := 4#32
  let c0_i32_5454 : BitVec 32 := 0#32
  let c1_i32_5456 : BitVec 32 := 1#32
  let arg15 : BitVec 32 := Scf.iv c0_i32_5454 c1_i32_5456 k0_t2
  let v15544 : BitVec 32 := Scalar.muli c4_i32_5497 arg15
  let c1_i32_5505 : BitVec 32 := 1#32
  let v15552 : BitVec 32 := Scalar.addi v15544 c1_i32_5505
  let c256_i32_5604 : BitVec 32 := 256#32
  let v15741 : BitVec 32 := Scalar.muli v15552 c256_i32_5604
  v15741
def k0_mult19 (i : grid0.Coords) (k0_t2 : Fin (k0_t2_loop i).trips) : BitVec 32 :=
  let c4_i32_5497 : BitVec 32 := 4#32
  let c0_i32_5454 : BitVec 32 := 0#32
  let c1_i32_5456 : BitVec 32 := 1#32
  let arg15 : BitVec 32 := Scf.iv c0_i32_5454 c1_i32_5456 k0_t2
  let v15544 : BitVec 32 := Scalar.muli c4_i32_5497 arg15
  let c2_i32_5506 : BitVec 32 := 2#32
  let v15553 : BitVec 32 := Scalar.addi v15544 c2_i32_5506
  let c256_i32_5623 : BitVec 32 := 256#32
  let v15779 : BitVec 32 := Scalar.muli v15553 c256_i32_5623
  v15779
def k0_mult20 (i : grid0.Coords) (k0_t2 : Fin (k0_t2_loop i).trips) : BitVec 32 :=
  let c4_i32_5497 : BitVec 32 := 4#32
  let c0_i32_5454 : BitVec 32 := 0#32
  let c1_i32_5456 : BitVec 32 := 1#32
  let arg15 : BitVec 32 := Scf.iv c0_i32_5454 c1_i32_5456 k0_t2
  let v15544 : BitVec 32 := Scalar.muli c4_i32_5497 arg15
  let c2_i32_5507 : BitVec 32 := 2#32
  let v15554 : BitVec 32 := Scalar.addi v15544 c2_i32_5507
  let c256_i32_5642 : BitVec 32 := 256#32
  let v15817 : BitVec 32 := Scalar.muli v15554 c256_i32_5642
  v15817
def k0_mult21 (i : grid0.Coords) (k0_t2 : Fin (k0_t2_loop i).trips) : BitVec 32 :=
  let c4_i32_5497 : BitVec 32 := 4#32
  let c0_i32_5454 : BitVec 32 := 0#32
  let c1_i32_5456 : BitVec 32 := 1#32
  let arg15 : BitVec 32 := Scf.iv c0_i32_5454 c1_i32_5456 k0_t2
  let v15544 : BitVec 32 := Scalar.muli c4_i32_5497 arg15
  let c2_i32_5508 : BitVec 32 := 2#32
  let v15555 : BitVec 32 := Scalar.addi v15544 c2_i32_5508
  let c256_i32_5661 : BitVec 32 := 256#32
  let v15855 : BitVec 32 := Scalar.muli v15555 c256_i32_5661
  v15855
def k0_mult22 (i : grid0.Coords) (k0_t2 : Fin (k0_t2_loop i).trips) : BitVec 32 :=
  let c4_i32_5497 : BitVec 32 := 4#32
  let c0_i32_5454 : BitVec 32 := 0#32
  let c1_i32_5456 : BitVec 32 := 1#32
  let arg15 : BitVec 32 := Scf.iv c0_i32_5454 c1_i32_5456 k0_t2
  let v15544 : BitVec 32 := Scalar.muli c4_i32_5497 arg15
  let c2_i32_5509 : BitVec 32 := 2#32
  let v15556 : BitVec 32 := Scalar.addi v15544 c2_i32_5509
  let c256_i32_5680 : BitVec 32 := 256#32
  let v15893 : BitVec 32 := Scalar.muli v15556 c256_i32_5680
  v15893
def k0_mult23 (i : grid0.Coords) (k0_t2 : Fin (k0_t2_loop i).trips) : BitVec 32 :=
  let c4_i32_5497 : BitVec 32 := 4#32
  let c0_i32_5454 : BitVec 32 := 0#32
  let c1_i32_5456 : BitVec 32 := 1#32
  let arg15 : BitVec 32 := Scf.iv c0_i32_5454 c1_i32_5456 k0_t2
  let v15544 : BitVec 32 := Scalar.muli c4_i32_5497 arg15
  let c3_i32_5510 : BitVec 32 := 3#32
  let v15557 : BitVec 32 := Scalar.addi v15544 c3_i32_5510
  let c256_i32_5699 : BitVec 32 := 256#32
  let v15931 : BitVec 32 := Scalar.muli v15557 c256_i32_5699
  v15931
def k0_mult24 (i : grid0.Coords) (k0_t2 : Fin (k0_t2_loop i).trips) : BitVec 32 :=
  let c4_i32_5497 : BitVec 32 := 4#32
  let c0_i32_5454 : BitVec 32 := 0#32
  let c1_i32_5456 : BitVec 32 := 1#32
  let arg15 : BitVec 32 := Scf.iv c0_i32_5454 c1_i32_5456 k0_t2
  let v15544 : BitVec 32 := Scalar.muli c4_i32_5497 arg15
  let c3_i32_5511 : BitVec 32 := 3#32
  let v15558 : BitVec 32 := Scalar.addi v15544 c3_i32_5511
  let c256_i32_5718 : BitVec 32 := 256#32
  let v15969 : BitVec 32 := Scalar.muli v15558 c256_i32_5718
  v15969
def k0_mult25 (i : grid0.Coords) (k0_t2 : Fin (k0_t2_loop i).trips) : BitVec 32 :=
  let c4_i32_5497 : BitVec 32 := 4#32
  let c0_i32_5454 : BitVec 32 := 0#32
  let c1_i32_5456 : BitVec 32 := 1#32
  let arg15 : BitVec 32 := Scf.iv c0_i32_5454 c1_i32_5456 k0_t2
  let v15544 : BitVec 32 := Scalar.muli c4_i32_5497 arg15
  let c3_i32_5512 : BitVec 32 := 3#32
  let v15559 : BitVec 32 := Scalar.addi v15544 c3_i32_5512
  let c256_i32_5737 : BitVec 32 := 256#32
  let v16007 : BitVec 32 := Scalar.muli v15559 c256_i32_5737
  v16007
def k0_mult26 (i : grid0.Coords) (k0_t2 : Fin (k0_t2_loop i).trips) : BitVec 32 :=
  let c4_i32_5497 : BitVec 32 := 4#32
  let c0_i32_5454 : BitVec 32 := 0#32
  let c1_i32_5456 : BitVec 32 := 1#32
  let arg15 : BitVec 32 := Scf.iv c0_i32_5454 c1_i32_5456 k0_t2
  let v15544 : BitVec 32 := Scalar.muli c4_i32_5497 arg15
  let c3_i32_5513 : BitVec 32 := 3#32
  let v15560 : BitVec 32 := Scalar.addi v15544 c3_i32_5513
  let c256_i32_5756 : BitVec 32 := 256#32
  let v16045 : BitVec 32 := Scalar.muli v15560 c256_i32_5756
  v16045
@[reducible] def k0_t3_loop (i : grid0.Coords) : Scf.Loop 32 :=
  let c0_i32_5454 : BitVec 32 := 0#32
  let arg2 : BitVec 32 := BitVec.ofNat 32 (i 2).val
  let c128_i32 : BitVec 32 := 128#32
  let v0 : BitVec 32 := Scalar.muli arg2 c128_i32
  let c256_i32 : BitVec 32 := 256#32
  let v15153 : BitVec 32 := Scalar.addi v0 c256_i32
  let c1_i32_5452 : BitVec 32 := 1#32
  let v15154 : BitVec 32 := Scalar.subi v15153 c1_i32_5452
  let c8_i32 : BitVec 32 := 8#32
  let v15155 : BitVec 32 := Scalar.shrsi v15154 c8_i32
  let c2_i32_5453 : BitVec 32 := 2#32
  let v15156 : BitVec 32 := Scalar.shrsi v15155 c2_i32_5453
  let v15157 : BitVec 32 := Scalar.subi v15156 c0_i32_5454
  let c1_i32_5455 : BitVec 32 := 1#32
  let v15159 : BitVec 32 := Scalar.divsi v15157 c1_i32_5455
  let v15160 : BitVec 32 := Scalar.muli v15159 c1_i32_5455
  let v15161 : BitVec 32 := Scalar.addi c0_i32_5454 v15160
  let v15158 : BitVec 32 := Scalar.addi c0_i32_5454 v15157
  let c1_i32_5457 : BitVec 32 := 1#32
  ⟨v15161, v15158, c1_i32_5457⟩
def k0_mult27 (i : grid0.Coords) (k0_t3 : Fin (k0_t3_loop i).trips) : BitVec 32 :=
  let c4_i32_5497 : BitVec 32 := 4#32
  let c0_i32_5454 : BitVec 32 := 0#32
  let arg2 : BitVec 32 := BitVec.ofNat 32 (i 2).val
  let c128_i32 : BitVec 32 := 128#32
  let v0 : BitVec 32 := Scalar.muli arg2 c128_i32
  let c256_i32 : BitVec 32 := 256#32
  let v15153 : BitVec 32 := Scalar.addi v0 c256_i32
  let c1_i32_5452 : BitVec 32 := 1#32
  let v15154 : BitVec 32 := Scalar.subi v15153 c1_i32_5452
  let c8_i32 : BitVec 32 := 8#32
  let v15155 : BitVec 32 := Scalar.shrsi v15154 c8_i32
  let c2_i32_5453 : BitVec 32 := 2#32
  let v15156 : BitVec 32 := Scalar.shrsi v15155 c2_i32_5453
  let v15157 : BitVec 32 := Scalar.subi v15156 c0_i32_5454
  let c1_i32_5455 : BitVec 32 := 1#32
  let v15159 : BitVec 32 := Scalar.divsi v15157 c1_i32_5455
  let v15160 : BitVec 32 := Scalar.muli v15159 c1_i32_5455
  let v15161 : BitVec 32 := Scalar.addi c0_i32_5454 v15160
  let c1_i32_5457 : BitVec 32 := 1#32
  let arg15 : BitVec 32 := Scf.iv v15161 c1_i32_5457 k0_t3
  let v15544 : BitVec 32 := Scalar.muli c4_i32_5497 arg15
  let c0_i32_5498 : BitVec 32 := 0#32
  let v15545 : BitVec 32 := Scalar.addi v15544 c0_i32_5498
  let c256_i32_5514 : BitVec 32 := 256#32
  let v15561 : BitVec 32 := Scalar.muli v15545 c256_i32_5514
  v15561
def k0_off38 (i : grid0.Coords) (k0_t3 : Fin (k0_t3_loop i).trips) (c0_i32_5498 : BitVec 32) : Fin 3 → Nat :=
  let c0_5515 : Index := 0#32
  let c4_i32_5497 : BitVec 32 := 4#32
  let c0_i32_5454 : BitVec 32 := 0#32
  let arg2 : BitVec 32 := BitVec.ofNat 32 (i 2).val
  let c128_i32 : BitVec 32 := 128#32
  let v0 : BitVec 32 := Scalar.muli arg2 c128_i32
  let c256_i32 : BitVec 32 := 256#32
  let v15153 : BitVec 32 := Scalar.addi v0 c256_i32
  let c1_i32_5452 : BitVec 32 := 1#32
  let v15154 : BitVec 32 := Scalar.subi v15153 c1_i32_5452
  let c8_i32 : BitVec 32 := 8#32
  let v15155 : BitVec 32 := Scalar.shrsi v15154 c8_i32
  let c2_i32_5453 : BitVec 32 := 2#32
  let v15156 : BitVec 32 := Scalar.shrsi v15155 c2_i32_5453
  let v15157 : BitVec 32 := Scalar.subi v15156 c0_i32_5454
  let c1_i32_5455 : BitVec 32 := 1#32
  let v15159 : BitVec 32 := Scalar.divsi v15157 c1_i32_5455
  let v15160 : BitVec 32 := Scalar.muli v15159 c1_i32_5455
  let v15161 : BitVec 32 := Scalar.addi c0_i32_5454 v15160
  let c1_i32_5457 : BitVec 32 := 1#32
  let arg15 : BitVec 32 := Scf.iv v15161 c1_i32_5457 k0_t3
  let v15544 : BitVec 32 := Scalar.muli c4_i32_5497 arg15
  let v15545 : BitVec 32 := Scalar.addi v15544 c0_i32_5498
  let c256_i32_5514 : BitVec 32 := 256#32
  let v15561 : BitVec 32 := Scalar.muli v15545 c256_i32_5514
  let v15562 : BitVec 32 := v15561
  let v15563 : Index := Scalar.indexCast v15562
  let c0_5516 : Index := 0#32
  ![0, v15563.toNat, 0]
def k0_mult28 (i : grid0.Coords) (k0_t3 : Fin (k0_t3_loop i).trips) : BitVec 32 :=
  let c4_i32_5497 : BitVec 32 := 4#32
  let c0_i32_5454 : BitVec 32 := 0#32
  let arg2 : BitVec 32 := BitVec.ofNat 32 (i 2).val
  let c128_i32 : BitVec 32 := 128#32
  let v0 : BitVec 32 := Scalar.muli arg2 c128_i32
  let c256_i32 : BitVec 32 := 256#32
  let v15153 : BitVec 32 := Scalar.addi v0 c256_i32
  let c1_i32_5452 : BitVec 32 := 1#32
  let v15154 : BitVec 32 := Scalar.subi v15153 c1_i32_5452
  let c8_i32 : BitVec 32 := 8#32
  let v15155 : BitVec 32 := Scalar.shrsi v15154 c8_i32
  let c2_i32_5453 : BitVec 32 := 2#32
  let v15156 : BitVec 32 := Scalar.shrsi v15155 c2_i32_5453
  let v15157 : BitVec 32 := Scalar.subi v15156 c0_i32_5454
  let c1_i32_5455 : BitVec 32 := 1#32
  let v15159 : BitVec 32 := Scalar.divsi v15157 c1_i32_5455
  let v15160 : BitVec 32 := Scalar.muli v15159 c1_i32_5455
  let v15161 : BitVec 32 := Scalar.addi c0_i32_5454 v15160
  let c1_i32_5457 : BitVec 32 := 1#32
  let arg15 : BitVec 32 := Scf.iv v15161 c1_i32_5457 k0_t3
  let v15544 : BitVec 32 := Scalar.muli c4_i32_5497 arg15
  let c0_i32_5499 : BitVec 32 := 0#32
  let v15546 : BitVec 32 := Scalar.addi v15544 c0_i32_5499
  let c256_i32_5518 : BitVec 32 := 256#32
  let v15567 : BitVec 32 := Scalar.muli v15546 c256_i32_5518
  v15567
def k0_off39 (i : grid0.Coords) (k0_t3 : Fin (k0_t3_loop i).trips) (c0_i32_5499 : BitVec 32) : Fin 3 → Nat :=
  let c1_5519 : Index := 1#32
  let c4_i32_5497 : BitVec 32 := 4#32
  let c0_i32_5454 : BitVec 32 := 0#32
  let arg2 : BitVec 32 := BitVec.ofNat 32 (i 2).val
  let c128_i32 : BitVec 32 := 128#32
  let v0 : BitVec 32 := Scalar.muli arg2 c128_i32
  let c256_i32 : BitVec 32 := 256#32
  let v15153 : BitVec 32 := Scalar.addi v0 c256_i32
  let c1_i32_5452 : BitVec 32 := 1#32
  let v15154 : BitVec 32 := Scalar.subi v15153 c1_i32_5452
  let c8_i32 : BitVec 32 := 8#32
  let v15155 : BitVec 32 := Scalar.shrsi v15154 c8_i32
  let c2_i32_5453 : BitVec 32 := 2#32
  let v15156 : BitVec 32 := Scalar.shrsi v15155 c2_i32_5453
  let v15157 : BitVec 32 := Scalar.subi v15156 c0_i32_5454
  let c1_i32_5455 : BitVec 32 := 1#32
  let v15159 : BitVec 32 := Scalar.divsi v15157 c1_i32_5455
  let v15160 : BitVec 32 := Scalar.muli v15159 c1_i32_5455
  let v15161 : BitVec 32 := Scalar.addi c0_i32_5454 v15160
  let c1_i32_5457 : BitVec 32 := 1#32
  let arg15 : BitVec 32 := Scf.iv v15161 c1_i32_5457 k0_t3
  let v15544 : BitVec 32 := Scalar.muli c4_i32_5497 arg15
  let v15546 : BitVec 32 := Scalar.addi v15544 c0_i32_5499
  let c256_i32_5518 : BitVec 32 := 256#32
  let v15567 : BitVec 32 := Scalar.muli v15546 c256_i32_5518
  let v15568 : BitVec 32 := v15567
  let v15569 : Index := Scalar.indexCast v15568
  let c0_5520 : Index := 0#32
  ![1, v15569.toNat, 0]
def k0_mult29 (i : grid0.Coords) (k0_t3 : Fin (k0_t3_loop i).trips) : BitVec 32 :=
  let c4_i32_5497 : BitVec 32 := 4#32
  let c0_i32_5454 : BitVec 32 := 0#32
  let arg2 : BitVec 32 := BitVec.ofNat 32 (i 2).val
  let c128_i32 : BitVec 32 := 128#32
  let v0 : BitVec 32 := Scalar.muli arg2 c128_i32
  let c256_i32 : BitVec 32 := 256#32
  let v15153 : BitVec 32 := Scalar.addi v0 c256_i32
  let c1_i32_5452 : BitVec 32 := 1#32
  let v15154 : BitVec 32 := Scalar.subi v15153 c1_i32_5452
  let c8_i32 : BitVec 32 := 8#32
  let v15155 : BitVec 32 := Scalar.shrsi v15154 c8_i32
  let c2_i32_5453 : BitVec 32 := 2#32
  let v15156 : BitVec 32 := Scalar.shrsi v15155 c2_i32_5453
  let v15157 : BitVec 32 := Scalar.subi v15156 c0_i32_5454
  let c1_i32_5455 : BitVec 32 := 1#32
  let v15159 : BitVec 32 := Scalar.divsi v15157 c1_i32_5455
  let v15160 : BitVec 32 := Scalar.muli v15159 c1_i32_5455
  let v15161 : BitVec 32 := Scalar.addi c0_i32_5454 v15160
  let c1_i32_5457 : BitVec 32 := 1#32
  let arg15 : BitVec 32 := Scf.iv v15161 c1_i32_5457 k0_t3
  let v15544 : BitVec 32 := Scalar.muli c4_i32_5497 arg15
  let c0_i32_5500 : BitVec 32 := 0#32
  let v15547 : BitVec 32 := Scalar.addi v15544 c0_i32_5500
  let c256_i32_5523 : BitVec 32 := 256#32
  let v15576 : BitVec 32 := Scalar.muli v15547 c256_i32_5523
  v15576
def k0_off40 (i : grid0.Coords) (k0_t3 : Fin (k0_t3_loop i).trips) (c0_i32_5500 : BitVec 32) : Fin 3 → Nat :=
  let c2_5524 : Index := 2#32
  let c4_i32_5497 : BitVec 32 := 4#32
  let c0_i32_5454 : BitVec 32 := 0#32
  let arg2 : BitVec 32 := BitVec.ofNat 32 (i 2).val
  let c128_i32 : BitVec 32 := 128#32
  let v0 : BitVec 32 := Scalar.muli arg2 c128_i32
  let c256_i32 : BitVec 32 := 256#32
  let v15153 : BitVec 32 := Scalar.addi v0 c256_i32
  let c1_i32_5452 : BitVec 32 := 1#32
  let v15154 : BitVec 32 := Scalar.subi v15153 c1_i32_5452
  let c8_i32 : BitVec 32 := 8#32
  let v15155 : BitVec 32 := Scalar.shrsi v15154 c8_i32
  let c2_i32_5453 : BitVec 32 := 2#32
  let v15156 : BitVec 32 := Scalar.shrsi v15155 c2_i32_5453
  let v15157 : BitVec 32 := Scalar.subi v15156 c0_i32_5454
  let c1_i32_5455 : BitVec 32 := 1#32
  let v15159 : BitVec 32 := Scalar.divsi v15157 c1_i32_5455
  let v15160 : BitVec 32 := Scalar.muli v15159 c1_i32_5455
  let v15161 : BitVec 32 := Scalar.addi c0_i32_5454 v15160
  let c1_i32_5457 : BitVec 32 := 1#32
  let arg15 : BitVec 32 := Scf.iv v15161 c1_i32_5457 k0_t3
  let v15544 : BitVec 32 := Scalar.muli c4_i32_5497 arg15
  let v15547 : BitVec 32 := Scalar.addi v15544 c0_i32_5500
  let c256_i32_5523 : BitVec 32 := 256#32
  let v15576 : BitVec 32 := Scalar.muli v15547 c256_i32_5523
  let v15577 : BitVec 32 := v15576
  let v15578 : Index := Scalar.indexCast v15577
  let c0_5525 : Index := 0#32
  ![2, v15578.toNat, 0]
def k0_mult30 (i : grid0.Coords) (k0_t3 : Fin (k0_t3_loop i).trips) : BitVec 32 :=
  let c4_i32_5497 : BitVec 32 := 4#32
  let c0_i32_5454 : BitVec 32 := 0#32
  let arg2 : BitVec 32 := BitVec.ofNat 32 (i 2).val
  let c128_i32 : BitVec 32 := 128#32
  let v0 : BitVec 32 := Scalar.muli arg2 c128_i32
  let c256_i32 : BitVec 32 := 256#32
  let v15153 : BitVec 32 := Scalar.addi v0 c256_i32
  let c1_i32_5452 : BitVec 32 := 1#32
  let v15154 : BitVec 32 := Scalar.subi v15153 c1_i32_5452
  let c8_i32 : BitVec 32 := 8#32
  let v15155 : BitVec 32 := Scalar.shrsi v15154 c8_i32
  let c2_i32_5453 : BitVec 32 := 2#32
  let v15156 : BitVec 32 := Scalar.shrsi v15155 c2_i32_5453
  let v15157 : BitVec 32 := Scalar.subi v15156 c0_i32_5454
  let c1_i32_5455 : BitVec 32 := 1#32
  let v15159 : BitVec 32 := Scalar.divsi v15157 c1_i32_5455
  let v15160 : BitVec 32 := Scalar.muli v15159 c1_i32_5455
  let v15161 : BitVec 32 := Scalar.addi c0_i32_5454 v15160
  let c1_i32_5457 : BitVec 32 := 1#32
  let arg15 : BitVec 32 := Scf.iv v15161 c1_i32_5457 k0_t3
  let v15544 : BitVec 32 := Scalar.muli c4_i32_5497 arg15
  let c0_i32_5501 : BitVec 32 := 0#32
  let v15548 : BitVec 32 := Scalar.addi v15544 c0_i32_5501
  let c256_i32_5528 : BitVec 32 := 256#32
  let v15589 : BitVec 32 := Scalar.muli v15548 c256_i32_5528
  v15589
def k0_off41 (i : grid0.Coords) (k0_t3 : Fin (k0_t3_loop i).trips) (c0_i32_5501 : BitVec 32) : Fin 3 → Nat :=
  let c3_5529 : Index := 3#32
  let c4_i32_5497 : BitVec 32 := 4#32
  let c0_i32_5454 : BitVec 32 := 0#32
  let arg2 : BitVec 32 := BitVec.ofNat 32 (i 2).val
  let c128_i32 : BitVec 32 := 128#32
  let v0 : BitVec 32 := Scalar.muli arg2 c128_i32
  let c256_i32 : BitVec 32 := 256#32
  let v15153 : BitVec 32 := Scalar.addi v0 c256_i32
  let c1_i32_5452 : BitVec 32 := 1#32
  let v15154 : BitVec 32 := Scalar.subi v15153 c1_i32_5452
  let c8_i32 : BitVec 32 := 8#32
  let v15155 : BitVec 32 := Scalar.shrsi v15154 c8_i32
  let c2_i32_5453 : BitVec 32 := 2#32
  let v15156 : BitVec 32 := Scalar.shrsi v15155 c2_i32_5453
  let v15157 : BitVec 32 := Scalar.subi v15156 c0_i32_5454
  let c1_i32_5455 : BitVec 32 := 1#32
  let v15159 : BitVec 32 := Scalar.divsi v15157 c1_i32_5455
  let v15160 : BitVec 32 := Scalar.muli v15159 c1_i32_5455
  let v15161 : BitVec 32 := Scalar.addi c0_i32_5454 v15160
  let c1_i32_5457 : BitVec 32 := 1#32
  let arg15 : BitVec 32 := Scf.iv v15161 c1_i32_5457 k0_t3
  let v15544 : BitVec 32 := Scalar.muli c4_i32_5497 arg15
  let v15548 : BitVec 32 := Scalar.addi v15544 c0_i32_5501
  let c256_i32_5528 : BitVec 32 := 256#32
  let v15589 : BitVec 32 := Scalar.muli v15548 c256_i32_5528
  let v15590 : BitVec 32 := v15589
  let v15591 : Index := Scalar.indexCast v15590
  let c0_5530 : Index := 0#32
  ![3, v15591.toNat, 0]
def k0_off42 (i : grid0.Coords) (k0_t3 : Fin (k0_t3_loop i).trips) (c0_i32_5498 : BitVec 32) (c0_i32_5533 : BitVec 32) : Fin 4 → Nat :=
  let c0_5534 : Index := 0#32
  let c4_i32_5497 : BitVec 32 := 4#32
  let c0_i32_5454 : BitVec 32 := 0#32
  let arg2 : BitVec 32 := BitVec.ofNat 32 (i 2).val
  let c128_i32 : BitVec 32 := 128#32
  let v0 : BitVec 32 := Scalar.muli arg2 c128_i32
  let c256_i32 : BitVec 32 := 256#32
  let v15153 : BitVec 32 := Scalar.addi v0 c256_i32
  let c1_i32_5452 : BitVec 32 := 1#32
  let v15154 : BitVec 32 := Scalar.subi v15153 c1_i32_5452
  let c8_i32 : BitVec 32 := 8#32
  let v15155 : BitVec 32 := Scalar.shrsi v15154 c8_i32
  let c2_i32_5453 : BitVec 32 := 2#32
  let v15156 : BitVec 32 := Scalar.shrsi v15155 c2_i32_5453
  let v15157 : BitVec 32 := Scalar.subi v15156 c0_i32_5454
  let c1_i32_5455 : BitVec 32 := 1#32
  let v15159 : BitVec 32 := Scalar.divsi v15157 c1_i32_5455
  let v15160 : BitVec 32 := Scalar.muli v15159 c1_i32_5455
  let v15161 : BitVec 32 := Scalar.addi c0_i32_5454 v15160
  let c1_i32_5457 : BitVec 32 := 1#32
  let arg15 : BitVec 32 := Scf.iv v15161 c1_i32_5457 k0_t3
  let v15544 : BitVec 32 := Scalar.muli c4_i32_5497 arg15
  let v15545 : BitVec 32 := Scalar.addi v15544 c0_i32_5498
  let c2_i32_5532 : BitVec 32 := 2#32
  let v15603 : BitVec 32 := Scalar.muli v15545 c2_i32_5532
  let v15604 : BitVec 32 := Scalar.addi v15603 c0_i32_5533
  let v15605 : Index := Scalar.indexCast v15604
  let c0_5535 : Index := 0#32
  let c0_5536 : Index := 0#32
  ![0, v15605.toNat, 0, 0]
def k0_mult31 (i : grid0.Coords) (k0_t3 : Fin (k0_t3_loop i).trips) : BitVec 32 :=
  let c4_i32_5497 : BitVec 32 := 4#32
  let c0_i32_5454 : BitVec 32 := 0#32
  let arg2 : BitVec 32 := BitVec.ofNat 32 (i 2).val
  let c128_i32 : BitVec 32 := 128#32
  let v0 : BitVec 32 := Scalar.muli arg2 c128_i32
  let c256_i32 : BitVec 32 := 256#32
  let v15153 : BitVec 32 := Scalar.addi v0 c256_i32
  let c1_i32_5452 : BitVec 32 := 1#32
  let v15154 : BitVec 32 := Scalar.subi v15153 c1_i32_5452
  let c8_i32 : BitVec 32 := 8#32
  let v15155 : BitVec 32 := Scalar.shrsi v15154 c8_i32
  let c2_i32_5453 : BitVec 32 := 2#32
  let v15156 : BitVec 32 := Scalar.shrsi v15155 c2_i32_5453
  let v15157 : BitVec 32 := Scalar.subi v15156 c0_i32_5454
  let c1_i32_5455 : BitVec 32 := 1#32
  let v15159 : BitVec 32 := Scalar.divsi v15157 c1_i32_5455
  let v15160 : BitVec 32 := Scalar.muli v15159 c1_i32_5455
  let v15161 : BitVec 32 := Scalar.addi c0_i32_5454 v15160
  let c1_i32_5457 : BitVec 32 := 1#32
  let arg15 : BitVec 32 := Scf.iv v15161 c1_i32_5457 k0_t3
  let v15544 : BitVec 32 := Scalar.muli c4_i32_5497 arg15
  let c1_i32_5502 : BitVec 32 := 1#32
  let v15549 : BitVec 32 := Scalar.addi v15544 c1_i32_5502
  let c256_i32_5547 : BitVec 32 := 256#32
  let v15627 : BitVec 32 := Scalar.muli v15549 c256_i32_5547
  v15627
def k0_off43 (i : grid0.Coords) (k0_t3 : Fin (k0_t3_loop i).trips) (c0_i32_5499 : BitVec 32) (c0_i32_5552 : BitVec 32) : Fin 4 → Nat :=
  let c0_5553 : Index := 0#32
  let c4_i32_5497 : BitVec 32 := 4#32
  let c0_i32_5454 : BitVec 32 := 0#32
  let arg2 : BitVec 32 := BitVec.ofNat 32 (i 2).val
  let c128_i32 : BitVec 32 := 128#32
  let v0 : BitVec 32 := Scalar.muli arg2 c128_i32
  let c256_i32 : BitVec 32 := 256#32
  let v15153 : BitVec 32 := Scalar.addi v0 c256_i32
  let c1_i32_5452 : BitVec 32 := 1#32
  let v15154 : BitVec 32 := Scalar.subi v15153 c1_i32_5452
  let c8_i32 : BitVec 32 := 8#32
  let v15155 : BitVec 32 := Scalar.shrsi v15154 c8_i32
  let c2_i32_5453 : BitVec 32 := 2#32
  let v15156 : BitVec 32 := Scalar.shrsi v15155 c2_i32_5453
  let v15157 : BitVec 32 := Scalar.subi v15156 c0_i32_5454
  let c1_i32_5455 : BitVec 32 := 1#32
  let v15159 : BitVec 32 := Scalar.divsi v15157 c1_i32_5455
  let v15160 : BitVec 32 := Scalar.muli v15159 c1_i32_5455
  let v15161 : BitVec 32 := Scalar.addi c0_i32_5454 v15160
  let c1_i32_5457 : BitVec 32 := 1#32
  let arg15 : BitVec 32 := Scf.iv v15161 c1_i32_5457 k0_t3
  let v15544 : BitVec 32 := Scalar.muli c4_i32_5497 arg15
  let v15546 : BitVec 32 := Scalar.addi v15544 c0_i32_5499
  let c2_i32_5551 : BitVec 32 := 2#32
  let v15641 : BitVec 32 := Scalar.muli v15546 c2_i32_5551
  let v15642 : BitVec 32 := Scalar.addi v15641 c0_i32_5552
  let v15643 : Index := Scalar.indexCast v15642
  let c64_5554 : Index := 64#32
  let c0_5555 : Index := 0#32
  ![0, v15643.toNat, 64, 0]
def k0_mult32 (i : grid0.Coords) (k0_t3 : Fin (k0_t3_loop i).trips) : BitVec 32 :=
  let c4_i32_5497 : BitVec 32 := 4#32
  let c0_i32_5454 : BitVec 32 := 0#32
  let arg2 : BitVec 32 := BitVec.ofNat 32 (i 2).val
  let c128_i32 : BitVec 32 := 128#32
  let v0 : BitVec 32 := Scalar.muli arg2 c128_i32
  let c256_i32 : BitVec 32 := 256#32
  let v15153 : BitVec 32 := Scalar.addi v0 c256_i32
  let c1_i32_5452 : BitVec 32 := 1#32
  let v15154 : BitVec 32 := Scalar.subi v15153 c1_i32_5452
  let c8_i32 : BitVec 32 := 8#32
  let v15155 : BitVec 32 := Scalar.shrsi v15154 c8_i32
  let c2_i32_5453 : BitVec 32 := 2#32
  let v15156 : BitVec 32 := Scalar.shrsi v15155 c2_i32_5453
  let v15157 : BitVec 32 := Scalar.subi v15156 c0_i32_5454
  let c1_i32_5455 : BitVec 32 := 1#32
  let v15159 : BitVec 32 := Scalar.divsi v15157 c1_i32_5455
  let v15160 : BitVec 32 := Scalar.muli v15159 c1_i32_5455
  let v15161 : BitVec 32 := Scalar.addi c0_i32_5454 v15160
  let c1_i32_5457 : BitVec 32 := 1#32
  let arg15 : BitVec 32 := Scf.iv v15161 c1_i32_5457 k0_t3
  let v15544 : BitVec 32 := Scalar.muli c4_i32_5497 arg15
  let c1_i32_5503 : BitVec 32 := 1#32
  let v15550 : BitVec 32 := Scalar.addi v15544 c1_i32_5503
  let c256_i32_5566 : BitVec 32 := 256#32
  let v15665 : BitVec 32 := Scalar.muli v15550 c256_i32_5566
  v15665
def k0_off44 (i : grid0.Coords) (k0_t3 : Fin (k0_t3_loop i).trips) (c0_i32_5500 : BitVec 32) (c0_i32_5571 : BitVec 32) : Fin 4 → Nat :=
  let c0_5572 : Index := 0#32
  let c4_i32_5497 : BitVec 32 := 4#32
  let c0_i32_5454 : BitVec 32 := 0#32
  let arg2 : BitVec 32 := BitVec.ofNat 32 (i 2).val
  let c128_i32 : BitVec 32 := 128#32
  let v0 : BitVec 32 := Scalar.muli arg2 c128_i32
  let c256_i32 : BitVec 32 := 256#32
  let v15153 : BitVec 32 := Scalar.addi v0 c256_i32
  let c1_i32_5452 : BitVec 32 := 1#32
  let v15154 : BitVec 32 := Scalar.subi v15153 c1_i32_5452
  let c8_i32 : BitVec 32 := 8#32
  let v15155 : BitVec 32 := Scalar.shrsi v15154 c8_i32
  let c2_i32_5453 : BitVec 32 := 2#32
  let v15156 : BitVec 32 := Scalar.shrsi v15155 c2_i32_5453
  let v15157 : BitVec 32 := Scalar.subi v15156 c0_i32_5454
  let c1_i32_5455 : BitVec 32 := 1#32
  let v15159 : BitVec 32 := Scalar.divsi v15157 c1_i32_5455
  let v15160 : BitVec 32 := Scalar.muli v15159 c1_i32_5455
  let v15161 : BitVec 32 := Scalar.addi c0_i32_5454 v15160
  let c1_i32_5457 : BitVec 32 := 1#32
  let arg15 : BitVec 32 := Scf.iv v15161 c1_i32_5457 k0_t3
  let v15544 : BitVec 32 := Scalar.muli c4_i32_5497 arg15
  let v15547 : BitVec 32 := Scalar.addi v15544 c0_i32_5500
  let c2_i32_5570 : BitVec 32 := 2#32
  let v15679 : BitVec 32 := Scalar.muli v15547 c2_i32_5570
  let v15680 : BitVec 32 := Scalar.addi v15679 c0_i32_5571
  let v15681 : Index := Scalar.indexCast v15680
  let c128_5573 : Index := 128#32
  let c0_5574 : Index := 0#32
  ![0, v15681.toNat, 128, 0]
def k0_mult33 (i : grid0.Coords) (k0_t3 : Fin (k0_t3_loop i).trips) : BitVec 32 :=
  let c4_i32_5497 : BitVec 32 := 4#32
  let c0_i32_5454 : BitVec 32 := 0#32
  let arg2 : BitVec 32 := BitVec.ofNat 32 (i 2).val
  let c128_i32 : BitVec 32 := 128#32
  let v0 : BitVec 32 := Scalar.muli arg2 c128_i32
  let c256_i32 : BitVec 32 := 256#32
  let v15153 : BitVec 32 := Scalar.addi v0 c256_i32
  let c1_i32_5452 : BitVec 32 := 1#32
  let v15154 : BitVec 32 := Scalar.subi v15153 c1_i32_5452
  let c8_i32 : BitVec 32 := 8#32
  let v15155 : BitVec 32 := Scalar.shrsi v15154 c8_i32
  let c2_i32_5453 : BitVec 32 := 2#32
  let v15156 : BitVec 32 := Scalar.shrsi v15155 c2_i32_5453
  let v15157 : BitVec 32 := Scalar.subi v15156 c0_i32_5454
  let c1_i32_5455 : BitVec 32 := 1#32
  let v15159 : BitVec 32 := Scalar.divsi v15157 c1_i32_5455
  let v15160 : BitVec 32 := Scalar.muli v15159 c1_i32_5455
  let v15161 : BitVec 32 := Scalar.addi c0_i32_5454 v15160
  let c1_i32_5457 : BitVec 32 := 1#32
  let arg15 : BitVec 32 := Scf.iv v15161 c1_i32_5457 k0_t3
  let v15544 : BitVec 32 := Scalar.muli c4_i32_5497 arg15
  let c1_i32_5504 : BitVec 32 := 1#32
  let v15551 : BitVec 32 := Scalar.addi v15544 c1_i32_5504
  let c256_i32_5585 : BitVec 32 := 256#32
  let v15703 : BitVec 32 := Scalar.muli v15551 c256_i32_5585
  v15703
def k0_off45 (i : grid0.Coords) (k0_t3 : Fin (k0_t3_loop i).trips) (c0_i32_5501 : BitVec 32) (c0_i32_5590 : BitVec 32) : Fin 4 → Nat :=
  let c0_5591 : Index := 0#32
  let c4_i32_5497 : BitVec 32 := 4#32
  let c0_i32_5454 : BitVec 32 := 0#32
  let arg2 : BitVec 32 := BitVec.ofNat 32 (i 2).val
  let c128_i32 : BitVec 32 := 128#32
  let v0 : BitVec 32 := Scalar.muli arg2 c128_i32
  let c256_i32 : BitVec 32 := 256#32
  let v15153 : BitVec 32 := Scalar.addi v0 c256_i32
  let c1_i32_5452 : BitVec 32 := 1#32
  let v15154 : BitVec 32 := Scalar.subi v15153 c1_i32_5452
  let c8_i32 : BitVec 32 := 8#32
  let v15155 : BitVec 32 := Scalar.shrsi v15154 c8_i32
  let c2_i32_5453 : BitVec 32 := 2#32
  let v15156 : BitVec 32 := Scalar.shrsi v15155 c2_i32_5453
  let v15157 : BitVec 32 := Scalar.subi v15156 c0_i32_5454
  let c1_i32_5455 : BitVec 32 := 1#32
  let v15159 : BitVec 32 := Scalar.divsi v15157 c1_i32_5455
  let v15160 : BitVec 32 := Scalar.muli v15159 c1_i32_5455
  let v15161 : BitVec 32 := Scalar.addi c0_i32_5454 v15160
  let c1_i32_5457 : BitVec 32 := 1#32
  let arg15 : BitVec 32 := Scf.iv v15161 c1_i32_5457 k0_t3
  let v15544 : BitVec 32 := Scalar.muli c4_i32_5497 arg15
  let v15548 : BitVec 32 := Scalar.addi v15544 c0_i32_5501
  let c2_i32_5589 : BitVec 32 := 2#32
  let v15717 : BitVec 32 := Scalar.muli v15548 c2_i32_5589
  let v15718 : BitVec 32 := Scalar.addi v15717 c0_i32_5590
  let v15719 : Index := Scalar.indexCast v15718
  let c192_5592 : Index := 192#32
  let c0_5593 : Index := 0#32
  ![0, v15719.toNat, 192, 0]
def k0_mult34 (i : grid0.Coords) (k0_t3 : Fin (k0_t3_loop i).trips) : BitVec 32 :=
  let c4_i32_5497 : BitVec 32 := 4#32
  let c0_i32_5454 : BitVec 32 := 0#32
  let arg2 : BitVec 32 := BitVec.ofNat 32 (i 2).val
  let c128_i32 : BitVec 32 := 128#32
  let v0 : BitVec 32 := Scalar.muli arg2 c128_i32
  let c256_i32 : BitVec 32 := 256#32
  let v15153 : BitVec 32 := Scalar.addi v0 c256_i32
  let c1_i32_5452 : BitVec 32 := 1#32
  let v15154 : BitVec 32 := Scalar.subi v15153 c1_i32_5452
  let c8_i32 : BitVec 32 := 8#32
  let v15155 : BitVec 32 := Scalar.shrsi v15154 c8_i32
  let c2_i32_5453 : BitVec 32 := 2#32
  let v15156 : BitVec 32 := Scalar.shrsi v15155 c2_i32_5453
  let v15157 : BitVec 32 := Scalar.subi v15156 c0_i32_5454
  let c1_i32_5455 : BitVec 32 := 1#32
  let v15159 : BitVec 32 := Scalar.divsi v15157 c1_i32_5455
  let v15160 : BitVec 32 := Scalar.muli v15159 c1_i32_5455
  let v15161 : BitVec 32 := Scalar.addi c0_i32_5454 v15160
  let c1_i32_5457 : BitVec 32 := 1#32
  let arg15 : BitVec 32 := Scf.iv v15161 c1_i32_5457 k0_t3
  let v15544 : BitVec 32 := Scalar.muli c4_i32_5497 arg15
  let c1_i32_5505 : BitVec 32 := 1#32
  let v15552 : BitVec 32 := Scalar.addi v15544 c1_i32_5505
  let c256_i32_5604 : BitVec 32 := 256#32
  let v15741 : BitVec 32 := Scalar.muli v15552 c256_i32_5604
  v15741
def k0_mult35 (i : grid0.Coords) (k0_t3 : Fin (k0_t3_loop i).trips) : BitVec 32 :=
  let c4_i32_5497 : BitVec 32 := 4#32
  let c0_i32_5454 : BitVec 32 := 0#32
  let arg2 : BitVec 32 := BitVec.ofNat 32 (i 2).val
  let c128_i32 : BitVec 32 := 128#32
  let v0 : BitVec 32 := Scalar.muli arg2 c128_i32
  let c256_i32 : BitVec 32 := 256#32
  let v15153 : BitVec 32 := Scalar.addi v0 c256_i32
  let c1_i32_5452 : BitVec 32 := 1#32
  let v15154 : BitVec 32 := Scalar.subi v15153 c1_i32_5452
  let c8_i32 : BitVec 32 := 8#32
  let v15155 : BitVec 32 := Scalar.shrsi v15154 c8_i32
  let c2_i32_5453 : BitVec 32 := 2#32
  let v15156 : BitVec 32 := Scalar.shrsi v15155 c2_i32_5453
  let v15157 : BitVec 32 := Scalar.subi v15156 c0_i32_5454
  let c1_i32_5455 : BitVec 32 := 1#32
  let v15159 : BitVec 32 := Scalar.divsi v15157 c1_i32_5455
  let v15160 : BitVec 32 := Scalar.muli v15159 c1_i32_5455
  let v15161 : BitVec 32 := Scalar.addi c0_i32_5454 v15160
  let c1_i32_5457 : BitVec 32 := 1#32
  let arg15 : BitVec 32 := Scf.iv v15161 c1_i32_5457 k0_t3
  let v15544 : BitVec 32 := Scalar.muli c4_i32_5497 arg15
  let c2_i32_5506 : BitVec 32 := 2#32
  let v15553 : BitVec 32 := Scalar.addi v15544 c2_i32_5506
  let c256_i32_5623 : BitVec 32 := 256#32
  let v15779 : BitVec 32 := Scalar.muli v15553 c256_i32_5623
  v15779
def k0_mult36 (i : grid0.Coords) (k0_t3 : Fin (k0_t3_loop i).trips) : BitVec 32 :=
  let c4_i32_5497 : BitVec 32 := 4#32
  let c0_i32_5454 : BitVec 32 := 0#32
  let arg2 : BitVec 32 := BitVec.ofNat 32 (i 2).val
  let c128_i32 : BitVec 32 := 128#32
  let v0 : BitVec 32 := Scalar.muli arg2 c128_i32
  let c256_i32 : BitVec 32 := 256#32
  let v15153 : BitVec 32 := Scalar.addi v0 c256_i32
  let c1_i32_5452 : BitVec 32 := 1#32
  let v15154 : BitVec 32 := Scalar.subi v15153 c1_i32_5452
  let c8_i32 : BitVec 32 := 8#32
  let v15155 : BitVec 32 := Scalar.shrsi v15154 c8_i32
  let c2_i32_5453 : BitVec 32 := 2#32
  let v15156 : BitVec 32 := Scalar.shrsi v15155 c2_i32_5453
  let v15157 : BitVec 32 := Scalar.subi v15156 c0_i32_5454
  let c1_i32_5455 : BitVec 32 := 1#32
  let v15159 : BitVec 32 := Scalar.divsi v15157 c1_i32_5455
  let v15160 : BitVec 32 := Scalar.muli v15159 c1_i32_5455
  let v15161 : BitVec 32 := Scalar.addi c0_i32_5454 v15160
  let c1_i32_5457 : BitVec 32 := 1#32
  let arg15 : BitVec 32 := Scf.iv v15161 c1_i32_5457 k0_t3
  let v15544 : BitVec 32 := Scalar.muli c4_i32_5497 arg15
  let c2_i32_5507 : BitVec 32 := 2#32
  let v15554 : BitVec 32 := Scalar.addi v15544 c2_i32_5507
  let c256_i32_5642 : BitVec 32 := 256#32
  let v15817 : BitVec 32 := Scalar.muli v15554 c256_i32_5642
  v15817
def k0_mult37 (i : grid0.Coords) (k0_t3 : Fin (k0_t3_loop i).trips) : BitVec 32 :=
  let c4_i32_5497 : BitVec 32 := 4#32
  let c0_i32_5454 : BitVec 32 := 0#32
  let arg2 : BitVec 32 := BitVec.ofNat 32 (i 2).val
  let c128_i32 : BitVec 32 := 128#32
  let v0 : BitVec 32 := Scalar.muli arg2 c128_i32
  let c256_i32 : BitVec 32 := 256#32
  let v15153 : BitVec 32 := Scalar.addi v0 c256_i32
  let c1_i32_5452 : BitVec 32 := 1#32
  let v15154 : BitVec 32 := Scalar.subi v15153 c1_i32_5452
  let c8_i32 : BitVec 32 := 8#32
  let v15155 : BitVec 32 := Scalar.shrsi v15154 c8_i32
  let c2_i32_5453 : BitVec 32 := 2#32
  let v15156 : BitVec 32 := Scalar.shrsi v15155 c2_i32_5453
  let v15157 : BitVec 32 := Scalar.subi v15156 c0_i32_5454
  let c1_i32_5455 : BitVec 32 := 1#32
  let v15159 : BitVec 32 := Scalar.divsi v15157 c1_i32_5455
  let v15160 : BitVec 32 := Scalar.muli v15159 c1_i32_5455
  let v15161 : BitVec 32 := Scalar.addi c0_i32_5454 v15160
  let c1_i32_5457 : BitVec 32 := 1#32
  let arg15 : BitVec 32 := Scf.iv v15161 c1_i32_5457 k0_t3
  let v15544 : BitVec 32 := Scalar.muli c4_i32_5497 arg15
  let c2_i32_5508 : BitVec 32 := 2#32
  let v15555 : BitVec 32 := Scalar.addi v15544 c2_i32_5508
  let c256_i32_5661 : BitVec 32 := 256#32
  let v15855 : BitVec 32 := Scalar.muli v15555 c256_i32_5661
  v15855
def k0_mult38 (i : grid0.Coords) (k0_t3 : Fin (k0_t3_loop i).trips) : BitVec 32 :=
  let c4_i32_5497 : BitVec 32 := 4#32
  let c0_i32_5454 : BitVec 32 := 0#32
  let arg2 : BitVec 32 := BitVec.ofNat 32 (i 2).val
  let c128_i32 : BitVec 32 := 128#32
  let v0 : BitVec 32 := Scalar.muli arg2 c128_i32
  let c256_i32 : BitVec 32 := 256#32
  let v15153 : BitVec 32 := Scalar.addi v0 c256_i32
  let c1_i32_5452 : BitVec 32 := 1#32
  let v15154 : BitVec 32 := Scalar.subi v15153 c1_i32_5452
  let c8_i32 : BitVec 32 := 8#32
  let v15155 : BitVec 32 := Scalar.shrsi v15154 c8_i32
  let c2_i32_5453 : BitVec 32 := 2#32
  let v15156 : BitVec 32 := Scalar.shrsi v15155 c2_i32_5453
  let v15157 : BitVec 32 := Scalar.subi v15156 c0_i32_5454
  let c1_i32_5455 : BitVec 32 := 1#32
  let v15159 : BitVec 32 := Scalar.divsi v15157 c1_i32_5455
  let v15160 : BitVec 32 := Scalar.muli v15159 c1_i32_5455
  let v15161 : BitVec 32 := Scalar.addi c0_i32_5454 v15160
  let c1_i32_5457 : BitVec 32 := 1#32
  let arg15 : BitVec 32 := Scf.iv v15161 c1_i32_5457 k0_t3
  let v15544 : BitVec 32 := Scalar.muli c4_i32_5497 arg15
  let c2_i32_5509 : BitVec 32 := 2#32
  let v15556 : BitVec 32 := Scalar.addi v15544 c2_i32_5509
  let c256_i32_5680 : BitVec 32 := 256#32
  let v15893 : BitVec 32 := Scalar.muli v15556 c256_i32_5680
  v15893
def k0_mult39 (i : grid0.Coords) (k0_t3 : Fin (k0_t3_loop i).trips) : BitVec 32 :=
  let c4_i32_5497 : BitVec 32 := 4#32
  let c0_i32_5454 : BitVec 32 := 0#32
  let arg2 : BitVec 32 := BitVec.ofNat 32 (i 2).val
  let c128_i32 : BitVec 32 := 128#32
  let v0 : BitVec 32 := Scalar.muli arg2 c128_i32
  let c256_i32 : BitVec 32 := 256#32
  let v15153 : BitVec 32 := Scalar.addi v0 c256_i32
  let c1_i32_5452 : BitVec 32 := 1#32
  let v15154 : BitVec 32 := Scalar.subi v15153 c1_i32_5452
  let c8_i32 : BitVec 32 := 8#32
  let v15155 : BitVec 32 := Scalar.shrsi v15154 c8_i32
  let c2_i32_5453 : BitVec 32 := 2#32
  let v15156 : BitVec 32 := Scalar.shrsi v15155 c2_i32_5453
  let v15157 : BitVec 32 := Scalar.subi v15156 c0_i32_5454
  let c1_i32_5455 : BitVec 32 := 1#32
  let v15159 : BitVec 32 := Scalar.divsi v15157 c1_i32_5455
  let v15160 : BitVec 32 := Scalar.muli v15159 c1_i32_5455
  let v15161 : BitVec 32 := Scalar.addi c0_i32_5454 v15160
  let c1_i32_5457 : BitVec 32 := 1#32
  let arg15 : BitVec 32 := Scf.iv v15161 c1_i32_5457 k0_t3
  let v15544 : BitVec 32 := Scalar.muli c4_i32_5497 arg15
  let c3_i32_5510 : BitVec 32 := 3#32
  let v15557 : BitVec 32 := Scalar.addi v15544 c3_i32_5510
  let c256_i32_5699 : BitVec 32 := 256#32
  let v15931 : BitVec 32 := Scalar.muli v15557 c256_i32_5699
  v15931
def k0_mult40 (i : grid0.Coords) (k0_t3 : Fin (k0_t3_loop i).trips) : BitVec 32 :=
  let c4_i32_5497 : BitVec 32 := 4#32
  let c0_i32_5454 : BitVec 32 := 0#32
  let arg2 : BitVec 32 := BitVec.ofNat 32 (i 2).val
  let c128_i32 : BitVec 32 := 128#32
  let v0 : BitVec 32 := Scalar.muli arg2 c128_i32
  let c256_i32 : BitVec 32 := 256#32
  let v15153 : BitVec 32 := Scalar.addi v0 c256_i32
  let c1_i32_5452 : BitVec 32 := 1#32
  let v15154 : BitVec 32 := Scalar.subi v15153 c1_i32_5452
  let c8_i32 : BitVec 32 := 8#32
  let v15155 : BitVec 32 := Scalar.shrsi v15154 c8_i32
  let c2_i32_5453 : BitVec 32 := 2#32
  let v15156 : BitVec 32 := Scalar.shrsi v15155 c2_i32_5453
  let v15157 : BitVec 32 := Scalar.subi v15156 c0_i32_5454
  let c1_i32_5455 : BitVec 32 := 1#32
  let v15159 : BitVec 32 := Scalar.divsi v15157 c1_i32_5455
  let v15160 : BitVec 32 := Scalar.muli v15159 c1_i32_5455
  let v15161 : BitVec 32 := Scalar.addi c0_i32_5454 v15160
  let c1_i32_5457 : BitVec 32 := 1#32
  let arg15 : BitVec 32 := Scf.iv v15161 c1_i32_5457 k0_t3
  let v15544 : BitVec 32 := Scalar.muli c4_i32_5497 arg15
  let c3_i32_5511 : BitVec 32 := 3#32
  let v15558 : BitVec 32 := Scalar.addi v15544 c3_i32_5511
  let c256_i32_5718 : BitVec 32 := 256#32
  let v15969 : BitVec 32 := Scalar.muli v15558 c256_i32_5718
  v15969
def k0_mult41 (i : grid0.Coords) (k0_t3 : Fin (k0_t3_loop i).trips) : BitVec 32 :=
  let c4_i32_5497 : BitVec 32 := 4#32
  let c0_i32_5454 : BitVec 32 := 0#32
  let arg2 : BitVec 32 := BitVec.ofNat 32 (i 2).val
  let c128_i32 : BitVec 32 := 128#32
  let v0 : BitVec 32 := Scalar.muli arg2 c128_i32
  let c256_i32 : BitVec 32 := 256#32
  let v15153 : BitVec 32 := Scalar.addi v0 c256_i32
  let c1_i32_5452 : BitVec 32 := 1#32
  let v15154 : BitVec 32 := Scalar.subi v15153 c1_i32_5452
  let c8_i32 : BitVec 32 := 8#32
  let v15155 : BitVec 32 := Scalar.shrsi v15154 c8_i32
  let c2_i32_5453 : BitVec 32 := 2#32
  let v15156 : BitVec 32 := Scalar.shrsi v15155 c2_i32_5453
  let v15157 : BitVec 32 := Scalar.subi v15156 c0_i32_5454
  let c1_i32_5455 : BitVec 32 := 1#32
  let v15159 : BitVec 32 := Scalar.divsi v15157 c1_i32_5455
  let v15160 : BitVec 32 := Scalar.muli v15159 c1_i32_5455
  let v15161 : BitVec 32 := Scalar.addi c0_i32_5454 v15160
  let c1_i32_5457 : BitVec 32 := 1#32
  let arg15 : BitVec 32 := Scf.iv v15161 c1_i32_5457 k0_t3
  let v15544 : BitVec 32 := Scalar.muli c4_i32_5497 arg15
  let c3_i32_5512 : BitVec 32 := 3#32
  let v15559 : BitVec 32 := Scalar.addi v15544 c3_i32_5512
  let c256_i32_5737 : BitVec 32 := 256#32
  let v16007 : BitVec 32 := Scalar.muli v15559 c256_i32_5737
  v16007
def k0_mult42 (i : grid0.Coords) (k0_t3 : Fin (k0_t3_loop i).trips) : BitVec 32 :=
  let c4_i32_5497 : BitVec 32 := 4#32
  let c0_i32_5454 : BitVec 32 := 0#32
  let arg2 : BitVec 32 := BitVec.ofNat 32 (i 2).val
  let c128_i32 : BitVec 32 := 128#32
  let v0 : BitVec 32 := Scalar.muli arg2 c128_i32
  let c256_i32 : BitVec 32 := 256#32
  let v15153 : BitVec 32 := Scalar.addi v0 c256_i32
  let c1_i32_5452 : BitVec 32 := 1#32
  let v15154 : BitVec 32 := Scalar.subi v15153 c1_i32_5452
  let c8_i32 : BitVec 32 := 8#32
  let v15155 : BitVec 32 := Scalar.shrsi v15154 c8_i32
  let c2_i32_5453 : BitVec 32 := 2#32
  let v15156 : BitVec 32 := Scalar.shrsi v15155 c2_i32_5453
  let v15157 : BitVec 32 := Scalar.subi v15156 c0_i32_5454
  let c1_i32_5455 : BitVec 32 := 1#32
  let v15159 : BitVec 32 := Scalar.divsi v15157 c1_i32_5455
  let v15160 : BitVec 32 := Scalar.muli v15159 c1_i32_5455
  let v15161 : BitVec 32 := Scalar.addi c0_i32_5454 v15160
  let c1_i32_5457 : BitVec 32 := 1#32
  let arg15 : BitVec 32 := Scf.iv v15161 c1_i32_5457 k0_t3
  let v15544 : BitVec 32 := Scalar.muli c4_i32_5497 arg15
  let c3_i32_5513 : BitVec 32 := 3#32
  let v15560 : BitVec 32 := Scalar.addi v15544 c3_i32_5513
  let c256_i32_5756 : BitVec 32 := 256#32
  let v16045 : BitVec 32 := Scalar.muli v15560 c256_i32_5756
  v16045
def k0_cond2 (i : grid0.Coords) : BitVec 1 :=
  let arg2 : BitVec 32 := BitVec.ofNat 32 (i 2).val
  let c128_i32 : BitVec 32 := 128#32
  let v0 : BitVec 32 := Scalar.muli arg2 c128_i32
  let c256_i32 : BitVec 32 := 256#32
  let v15153 : BitVec 32 := Scalar.addi v0 c256_i32
  let c1_i32_5452 : BitVec 32 := 1#32
  let v15154 : BitVec 32 := Scalar.subi v15153 c1_i32_5452
  let c8_i32 : BitVec 32 := 8#32
  let v15155 : BitVec 32 := Scalar.shrsi v15154 c8_i32
  let c2_i32_5458 : BitVec 32 := 2#32
  let v15164 : BitVec 32 := Scalar.andi v15155 c2_i32_5458
  let c2_i32_5459 : BitVec 32 := 2#32
  let v15165 : BitVec 1 := Scalar.cmpi .eq v15164 c2_i32_5459
  let v15167 : BitVec 32 := Scalar.extui v15165
  let c0_i32_5460 : BitVec 32 := 0#32
  let v15168 : BitVec 1 := Scalar.cmpi .ne v15167 c0_i32_5460
  v15168

def k0_mult43 (i : grid0.Coords) : BitVec 32 :=
  let arg2 : BitVec 32 := BitVec.ofNat 32 (i 2).val
  let c128_i32 : BitVec 32 := 128#32
  let v0 : BitVec 32 := Scalar.muli arg2 c128_i32
  let c256_i32 : BitVec 32 := 256#32
  let v15153 : BitVec 32 := Scalar.addi v0 c256_i32
  let c1_i32_5452 : BitVec 32 := 1#32
  let v15154 : BitVec 32 := Scalar.subi v15153 c1_i32_5452
  let c8_i32 : BitVec 32 := 8#32
  let v15155 : BitVec 32 := Scalar.shrsi v15154 c8_i32
  let c_m4_i32 : BitVec 32 := 4294967292#32
  let v15166 : BitVec 32 := Scalar.andi v15155 c_m4_i32
  let c0_i32_5497 : BitVec 32 := 0#32
  let v15544 : BitVec 32 := Scalar.addi v15166 c0_i32_5497
  let c256_i32_5505 : BitVec 32 := 256#32
  let v15552 : BitVec 32 := Scalar.muli v15544 c256_i32_5505
  v15552
def k0_off46 (i : grid0.Coords) (c0_i32_5497 : BitVec 32) : Fin 3 → Nat :=
  let c0_5506 : Index := 0#32
  let arg2 : BitVec 32 := BitVec.ofNat 32 (i 2).val
  let c128_i32 : BitVec 32 := 128#32
  let v0 : BitVec 32 := Scalar.muli arg2 c128_i32
  let c256_i32 : BitVec 32 := 256#32
  let v15153 : BitVec 32 := Scalar.addi v0 c256_i32
  let c1_i32_5452 : BitVec 32 := 1#32
  let v15154 : BitVec 32 := Scalar.subi v15153 c1_i32_5452
  let c8_i32 : BitVec 32 := 8#32
  let v15155 : BitVec 32 := Scalar.shrsi v15154 c8_i32
  let c_m4_i32 : BitVec 32 := 4294967292#32
  let v15166 : BitVec 32 := Scalar.andi v15155 c_m4_i32
  let v15544 : BitVec 32 := Scalar.addi v15166 c0_i32_5497
  let c256_i32_5505 : BitVec 32 := 256#32
  let v15552 : BitVec 32 := Scalar.muli v15544 c256_i32_5505
  let v15553 : BitVec 32 := v15552
  let v15554 : Index := Scalar.indexCast v15553
  let c0_5507 : Index := 0#32
  ![0, v15554.toNat, 0]
def k0_mult44 (i : grid0.Coords) : BitVec 32 :=
  let arg2 : BitVec 32 := BitVec.ofNat 32 (i 2).val
  let c128_i32 : BitVec 32 := 128#32
  let v0 : BitVec 32 := Scalar.muli arg2 c128_i32
  let c256_i32 : BitVec 32 := 256#32
  let v15153 : BitVec 32 := Scalar.addi v0 c256_i32
  let c1_i32_5452 : BitVec 32 := 1#32
  let v15154 : BitVec 32 := Scalar.subi v15153 c1_i32_5452
  let c8_i32 : BitVec 32 := 8#32
  let v15155 : BitVec 32 := Scalar.shrsi v15154 c8_i32
  let c_m4_i32 : BitVec 32 := 4294967292#32
  let v15166 : BitVec 32 := Scalar.andi v15155 c_m4_i32
  let c0_i32_5498 : BitVec 32 := 0#32
  let v15545 : BitVec 32 := Scalar.addi v15166 c0_i32_5498
  let c256_i32_5509 : BitVec 32 := 256#32
  let v15558 : BitVec 32 := Scalar.muli v15545 c256_i32_5509
  v15558
def k0_off47 (i : grid0.Coords) (c0_i32_5498 : BitVec 32) : Fin 3 → Nat :=
  let c1_5510 : Index := 1#32
  let arg2 : BitVec 32 := BitVec.ofNat 32 (i 2).val
  let c128_i32 : BitVec 32 := 128#32
  let v0 : BitVec 32 := Scalar.muli arg2 c128_i32
  let c256_i32 : BitVec 32 := 256#32
  let v15153 : BitVec 32 := Scalar.addi v0 c256_i32
  let c1_i32_5452 : BitVec 32 := 1#32
  let v15154 : BitVec 32 := Scalar.subi v15153 c1_i32_5452
  let c8_i32 : BitVec 32 := 8#32
  let v15155 : BitVec 32 := Scalar.shrsi v15154 c8_i32
  let c_m4_i32 : BitVec 32 := 4294967292#32
  let v15166 : BitVec 32 := Scalar.andi v15155 c_m4_i32
  let v15545 : BitVec 32 := Scalar.addi v15166 c0_i32_5498
  let c256_i32_5509 : BitVec 32 := 256#32
  let v15558 : BitVec 32 := Scalar.muli v15545 c256_i32_5509
  let v15559 : BitVec 32 := v15558
  let v15560 : Index := Scalar.indexCast v15559
  let c0_5511 : Index := 0#32
  ![1, v15560.toNat, 0]
def k0_mult45 (i : grid0.Coords) : BitVec 32 :=
  let arg2 : BitVec 32 := BitVec.ofNat 32 (i 2).val
  let c128_i32 : BitVec 32 := 128#32
  let v0 : BitVec 32 := Scalar.muli arg2 c128_i32
  let c256_i32 : BitVec 32 := 256#32
  let v15153 : BitVec 32 := Scalar.addi v0 c256_i32
  let c1_i32_5452 : BitVec 32 := 1#32
  let v15154 : BitVec 32 := Scalar.subi v15153 c1_i32_5452
  let c8_i32 : BitVec 32 := 8#32
  let v15155 : BitVec 32 := Scalar.shrsi v15154 c8_i32
  let c_m4_i32 : BitVec 32 := 4294967292#32
  let v15166 : BitVec 32 := Scalar.andi v15155 c_m4_i32
  let c0_i32_5499 : BitVec 32 := 0#32
  let v15546 : BitVec 32 := Scalar.addi v15166 c0_i32_5499
  let c256_i32_5514 : BitVec 32 := 256#32
  let v15567 : BitVec 32 := Scalar.muli v15546 c256_i32_5514
  v15567
def k0_off48 (i : grid0.Coords) (c0_i32_5499 : BitVec 32) : Fin 3 → Nat :=
  let c2_5515 : Index := 2#32
  let arg2 : BitVec 32 := BitVec.ofNat 32 (i 2).val
  let c128_i32 : BitVec 32 := 128#32
  let v0 : BitVec 32 := Scalar.muli arg2 c128_i32
  let c256_i32 : BitVec 32 := 256#32
  let v15153 : BitVec 32 := Scalar.addi v0 c256_i32
  let c1_i32_5452 : BitVec 32 := 1#32
  let v15154 : BitVec 32 := Scalar.subi v15153 c1_i32_5452
  let c8_i32 : BitVec 32 := 8#32
  let v15155 : BitVec 32 := Scalar.shrsi v15154 c8_i32
  let c_m4_i32 : BitVec 32 := 4294967292#32
  let v15166 : BitVec 32 := Scalar.andi v15155 c_m4_i32
  let v15546 : BitVec 32 := Scalar.addi v15166 c0_i32_5499
  let c256_i32_5514 : BitVec 32 := 256#32
  let v15567 : BitVec 32 := Scalar.muli v15546 c256_i32_5514
  let v15568 : BitVec 32 := v15567
  let v15569 : Index := Scalar.indexCast v15568
  let c0_5516 : Index := 0#32
  ![2, v15569.toNat, 0]
def k0_mult46 (i : grid0.Coords) : BitVec 32 :=
  let arg2 : BitVec 32 := BitVec.ofNat 32 (i 2).val
  let c128_i32 : BitVec 32 := 128#32
  let v0 : BitVec 32 := Scalar.muli arg2 c128_i32
  let c256_i32 : BitVec 32 := 256#32
  let v15153 : BitVec 32 := Scalar.addi v0 c256_i32
  let c1_i32_5452 : BitVec 32 := 1#32
  let v15154 : BitVec 32 := Scalar.subi v15153 c1_i32_5452
  let c8_i32 : BitVec 32 := 8#32
  let v15155 : BitVec 32 := Scalar.shrsi v15154 c8_i32
  let c_m4_i32 : BitVec 32 := 4294967292#32
  let v15166 : BitVec 32 := Scalar.andi v15155 c_m4_i32
  let c0_i32_5500 : BitVec 32 := 0#32
  let v15547 : BitVec 32 := Scalar.addi v15166 c0_i32_5500
  let c256_i32_5519 : BitVec 32 := 256#32
  let v15580 : BitVec 32 := Scalar.muli v15547 c256_i32_5519
  v15580
def k0_off49 (i : grid0.Coords) (c0_i32_5500 : BitVec 32) : Fin 3 → Nat :=
  let c3_5520 : Index := 3#32
  let arg2 : BitVec 32 := BitVec.ofNat 32 (i 2).val
  let c128_i32 : BitVec 32 := 128#32
  let v0 : BitVec 32 := Scalar.muli arg2 c128_i32
  let c256_i32 : BitVec 32 := 256#32
  let v15153 : BitVec 32 := Scalar.addi v0 c256_i32
  let c1_i32_5452 : BitVec 32 := 1#32
  let v15154 : BitVec 32 := Scalar.subi v15153 c1_i32_5452
  let c8_i32 : BitVec 32 := 8#32
  let v15155 : BitVec 32 := Scalar.shrsi v15154 c8_i32
  let c_m4_i32 : BitVec 32 := 4294967292#32
  let v15166 : BitVec 32 := Scalar.andi v15155 c_m4_i32
  let v15547 : BitVec 32 := Scalar.addi v15166 c0_i32_5500
  let c256_i32_5519 : BitVec 32 := 256#32
  let v15580 : BitVec 32 := Scalar.muli v15547 c256_i32_5519
  let v15581 : BitVec 32 := v15580
  let v15582 : Index := Scalar.indexCast v15581
  let c0_5521 : Index := 0#32
  ![3, v15582.toNat, 0]
def k0_off50 (i : grid0.Coords) (c0_i32_5497 : BitVec 32) (c0_i32_5524 : BitVec 32) : Fin 4 → Nat :=
  let c0_5525 : Index := 0#32
  let arg2 : BitVec 32 := BitVec.ofNat 32 (i 2).val
  let c128_i32 : BitVec 32 := 128#32
  let v0 : BitVec 32 := Scalar.muli arg2 c128_i32
  let c256_i32 : BitVec 32 := 256#32
  let v15153 : BitVec 32 := Scalar.addi v0 c256_i32
  let c1_i32_5452 : BitVec 32 := 1#32
  let v15154 : BitVec 32 := Scalar.subi v15153 c1_i32_5452
  let c8_i32 : BitVec 32 := 8#32
  let v15155 : BitVec 32 := Scalar.shrsi v15154 c8_i32
  let c_m4_i32 : BitVec 32 := 4294967292#32
  let v15166 : BitVec 32 := Scalar.andi v15155 c_m4_i32
  let v15544 : BitVec 32 := Scalar.addi v15166 c0_i32_5497
  let c2_i32_5523 : BitVec 32 := 2#32
  let v15594 : BitVec 32 := Scalar.muli v15544 c2_i32_5523
  let v15595 : BitVec 32 := Scalar.addi v15594 c0_i32_5524
  let v15596 : Index := Scalar.indexCast v15595
  let c0_5526 : Index := 0#32
  let c0_5527 : Index := 0#32
  ![0, v15596.toNat, 0, 0]
def k0_mult47 (i : grid0.Coords) : BitVec 32 :=
  let arg2 : BitVec 32 := BitVec.ofNat 32 (i 2).val
  let c128_i32 : BitVec 32 := 128#32
  let v0 : BitVec 32 := Scalar.muli arg2 c128_i32
  let c256_i32 : BitVec 32 := 256#32
  let v15153 : BitVec 32 := Scalar.addi v0 c256_i32
  let c1_i32_5452 : BitVec 32 := 1#32
  let v15154 : BitVec 32 := Scalar.subi v15153 c1_i32_5452
  let c8_i32 : BitVec 32 := 8#32
  let v15155 : BitVec 32 := Scalar.shrsi v15154 c8_i32
  let c_m4_i32 : BitVec 32 := 4294967292#32
  let v15166 : BitVec 32 := Scalar.andi v15155 c_m4_i32
  let c1_i32_5501 : BitVec 32 := 1#32
  let v15548 : BitVec 32 := Scalar.addi v15166 c1_i32_5501
  let c256_i32_5538 : BitVec 32 := 256#32
  let v15618 : BitVec 32 := Scalar.muli v15548 c256_i32_5538
  v15618
def k0_off51 (i : grid0.Coords) (c0_i32_5498 : BitVec 32) (c0_i32_5543 : BitVec 32) : Fin 4 → Nat :=
  let c0_5544 : Index := 0#32
  let arg2 : BitVec 32 := BitVec.ofNat 32 (i 2).val
  let c128_i32 : BitVec 32 := 128#32
  let v0 : BitVec 32 := Scalar.muli arg2 c128_i32
  let c256_i32 : BitVec 32 := 256#32
  let v15153 : BitVec 32 := Scalar.addi v0 c256_i32
  let c1_i32_5452 : BitVec 32 := 1#32
  let v15154 : BitVec 32 := Scalar.subi v15153 c1_i32_5452
  let c8_i32 : BitVec 32 := 8#32
  let v15155 : BitVec 32 := Scalar.shrsi v15154 c8_i32
  let c_m4_i32 : BitVec 32 := 4294967292#32
  let v15166 : BitVec 32 := Scalar.andi v15155 c_m4_i32
  let v15545 : BitVec 32 := Scalar.addi v15166 c0_i32_5498
  let c2_i32_5542 : BitVec 32 := 2#32
  let v15632 : BitVec 32 := Scalar.muli v15545 c2_i32_5542
  let v15633 : BitVec 32 := Scalar.addi v15632 c0_i32_5543
  let v15634 : Index := Scalar.indexCast v15633
  let c64_5545 : Index := 64#32
  let c0_5546 : Index := 0#32
  ![0, v15634.toNat, 64, 0]
def k0_mult48 (i : grid0.Coords) : BitVec 32 :=
  let arg2 : BitVec 32 := BitVec.ofNat 32 (i 2).val
  let c128_i32 : BitVec 32 := 128#32
  let v0 : BitVec 32 := Scalar.muli arg2 c128_i32
  let c256_i32 : BitVec 32 := 256#32
  let v15153 : BitVec 32 := Scalar.addi v0 c256_i32
  let c1_i32_5452 : BitVec 32 := 1#32
  let v15154 : BitVec 32 := Scalar.subi v15153 c1_i32_5452
  let c8_i32 : BitVec 32 := 8#32
  let v15155 : BitVec 32 := Scalar.shrsi v15154 c8_i32
  let c_m4_i32 : BitVec 32 := 4294967292#32
  let v15166 : BitVec 32 := Scalar.andi v15155 c_m4_i32
  let c1_i32_5502 : BitVec 32 := 1#32
  let v15549 : BitVec 32 := Scalar.addi v15166 c1_i32_5502
  let c256_i32_5557 : BitVec 32 := 256#32
  let v15656 : BitVec 32 := Scalar.muli v15549 c256_i32_5557
  v15656
def k0_off52 (i : grid0.Coords) (c0_i32_5499 : BitVec 32) (c0_i32_5562 : BitVec 32) : Fin 4 → Nat :=
  let c0_5563 : Index := 0#32
  let arg2 : BitVec 32 := BitVec.ofNat 32 (i 2).val
  let c128_i32 : BitVec 32 := 128#32
  let v0 : BitVec 32 := Scalar.muli arg2 c128_i32
  let c256_i32 : BitVec 32 := 256#32
  let v15153 : BitVec 32 := Scalar.addi v0 c256_i32
  let c1_i32_5452 : BitVec 32 := 1#32
  let v15154 : BitVec 32 := Scalar.subi v15153 c1_i32_5452
  let c8_i32 : BitVec 32 := 8#32
  let v15155 : BitVec 32 := Scalar.shrsi v15154 c8_i32
  let c_m4_i32 : BitVec 32 := 4294967292#32
  let v15166 : BitVec 32 := Scalar.andi v15155 c_m4_i32
  let v15546 : BitVec 32 := Scalar.addi v15166 c0_i32_5499
  let c2_i32_5561 : BitVec 32 := 2#32
  let v15670 : BitVec 32 := Scalar.muli v15546 c2_i32_5561
  let v15671 : BitVec 32 := Scalar.addi v15670 c0_i32_5562
  let v15672 : Index := Scalar.indexCast v15671
  let c128_5564 : Index := 128#32
  let c0_5565 : Index := 0#32
  ![0, v15672.toNat, 128, 0]
def k0_mult49 (i : grid0.Coords) : BitVec 32 :=
  let arg2 : BitVec 32 := BitVec.ofNat 32 (i 2).val
  let c128_i32 : BitVec 32 := 128#32
  let v0 : BitVec 32 := Scalar.muli arg2 c128_i32
  let c256_i32 : BitVec 32 := 256#32
  let v15153 : BitVec 32 := Scalar.addi v0 c256_i32
  let c1_i32_5452 : BitVec 32 := 1#32
  let v15154 : BitVec 32 := Scalar.subi v15153 c1_i32_5452
  let c8_i32 : BitVec 32 := 8#32
  let v15155 : BitVec 32 := Scalar.shrsi v15154 c8_i32
  let c_m4_i32 : BitVec 32 := 4294967292#32
  let v15166 : BitVec 32 := Scalar.andi v15155 c_m4_i32
  let c1_i32_5503 : BitVec 32 := 1#32
  let v15550 : BitVec 32 := Scalar.addi v15166 c1_i32_5503
  let c256_i32_5576 : BitVec 32 := 256#32
  let v15694 : BitVec 32 := Scalar.muli v15550 c256_i32_5576
  v15694
def k0_off53 (i : grid0.Coords) (c0_i32_5500 : BitVec 32) (c0_i32_5581 : BitVec 32) : Fin 4 → Nat :=
  let c0_5582 : Index := 0#32
  let arg2 : BitVec 32 := BitVec.ofNat 32 (i 2).val
  let c128_i32 : BitVec 32 := 128#32
  let v0 : BitVec 32 := Scalar.muli arg2 c128_i32
  let c256_i32 : BitVec 32 := 256#32
  let v15153 : BitVec 32 := Scalar.addi v0 c256_i32
  let c1_i32_5452 : BitVec 32 := 1#32
  let v15154 : BitVec 32 := Scalar.subi v15153 c1_i32_5452
  let c8_i32 : BitVec 32 := 8#32
  let v15155 : BitVec 32 := Scalar.shrsi v15154 c8_i32
  let c_m4_i32 : BitVec 32 := 4294967292#32
  let v15166 : BitVec 32 := Scalar.andi v15155 c_m4_i32
  let v15547 : BitVec 32 := Scalar.addi v15166 c0_i32_5500
  let c2_i32_5580 : BitVec 32 := 2#32
  let v15708 : BitVec 32 := Scalar.muli v15547 c2_i32_5580
  let v15709 : BitVec 32 := Scalar.addi v15708 c0_i32_5581
  let v15710 : Index := Scalar.indexCast v15709
  let c192_5583 : Index := 192#32
  let c0_5584 : Index := 0#32
  ![0, v15710.toNat, 192, 0]
def k0_mult50 (i : grid0.Coords) : BitVec 32 :=
  let arg2 : BitVec 32 := BitVec.ofNat 32 (i 2).val
  let c128_i32 : BitVec 32 := 128#32
  let v0 : BitVec 32 := Scalar.muli arg2 c128_i32
  let c256_i32 : BitVec 32 := 256#32
  let v15153 : BitVec 32 := Scalar.addi v0 c256_i32
  let c1_i32_5452 : BitVec 32 := 1#32
  let v15154 : BitVec 32 := Scalar.subi v15153 c1_i32_5452
  let c8_i32 : BitVec 32 := 8#32
  let v15155 : BitVec 32 := Scalar.shrsi v15154 c8_i32
  let c_m4_i32 : BitVec 32 := 4294967292#32
  let v15166 : BitVec 32 := Scalar.andi v15155 c_m4_i32
  let c1_i32_5504 : BitVec 32 := 1#32
  let v15551 : BitVec 32 := Scalar.addi v15166 c1_i32_5504
  let c256_i32_5595 : BitVec 32 := 256#32
  let v15732 : BitVec 32 := Scalar.muli v15551 c256_i32_5595
  v15732
def k0_cond3 (i : grid0.Coords) : BitVec 1 :=
  let arg2 : BitVec 32 := BitVec.ofNat 32 (i 2).val
  let c128_i32 : BitVec 32 := 128#32
  let v0 : BitVec 32 := Scalar.muli arg2 c128_i32
  let c256_i32 : BitVec 32 := 256#32
  let v15153 : BitVec 32 := Scalar.addi v0 c256_i32
  let c1_i32_5452 : BitVec 32 := 1#32
  let v15154 : BitVec 32 := Scalar.subi v15153 c1_i32_5452
  let c8_i32 : BitVec 32 := 8#32
  let v15155 : BitVec 32 := Scalar.shrsi v15154 c8_i32
  let c1_i32_5461 : BitVec 32 := 1#32
  let v15170 : BitVec 32 := Scalar.andi v15155 c1_i32_5461
  let c1_i32_5462 : BitVec 32 := 1#32
  let v15171 : BitVec 1 := Scalar.cmpi .eq v15170 c1_i32_5462
  let v15173 : BitVec 32 := Scalar.extui v15171
  let c0_i32_5464 : BitVec 32 := 0#32
  let v15174 : BitVec 1 := Scalar.cmpi .ne v15173 c0_i32_5464
  v15174

def k0_mult51 (i : grid0.Coords) : BitVec 32 :=
  let arg2 : BitVec 32 := BitVec.ofNat 32 (i 2).val
  let c128_i32 : BitVec 32 := 128#32
  let v0 : BitVec 32 := Scalar.muli arg2 c128_i32
  let c256_i32 : BitVec 32 := 256#32
  let v15153 : BitVec 32 := Scalar.addi v0 c256_i32
  let c1_i32_5452 : BitVec 32 := 1#32
  let v15154 : BitVec 32 := Scalar.subi v15153 c1_i32_5452
  let c8_i32 : BitVec 32 := 8#32
  let v15155 : BitVec 32 := Scalar.shrsi v15154 c8_i32
  let c1_i32_5463 : BitVec 32 := 1#32
  let v15172 : BitVec 32 := Scalar.subi v15155 c1_i32_5463
  let c0_i32_5497 : BitVec 32 := 0#32
  let v15544 : BitVec 32 := Scalar.addi v15172 c0_i32_5497
  let c256_i32_5501 : BitVec 32 := 256#32
  let v15548 : BitVec 32 := Scalar.muli v15544 c256_i32_5501
  v15548
def k0_off54 (i : grid0.Coords) : Fin 3 → Nat :=
  let c0_5502 : Index := 0#32
  let arg2 : BitVec 32 := BitVec.ofNat 32 (i 2).val
  let c128_i32 : BitVec 32 := 128#32
  let v0 : BitVec 32 := Scalar.muli arg2 c128_i32
  let c256_i32 : BitVec 32 := 256#32
  let v15153 : BitVec 32 := Scalar.addi v0 c256_i32
  let c1_i32_5452 : BitVec 32 := 1#32
  let v15154 : BitVec 32 := Scalar.subi v15153 c1_i32_5452
  let c8_i32 : BitVec 32 := 8#32
  let v15155 : BitVec 32 := Scalar.shrsi v15154 c8_i32
  let c1_i32_5463 : BitVec 32 := 1#32
  let v15172 : BitVec 32 := Scalar.subi v15155 c1_i32_5463
  let c0_i32_5497 : BitVec 32 := 0#32
  let v15544 : BitVec 32 := Scalar.addi v15172 c0_i32_5497
  let c256_i32_5501 : BitVec 32 := 256#32
  let v15548 : BitVec 32 := Scalar.muli v15544 c256_i32_5501
  let v15549 : BitVec 32 := v15548
  let v15550 : Index := Scalar.indexCast v15549
  let c0_5503 : Index := 0#32
  ![0, v15550.toNat, 0]
def k0_mult52 (i : grid0.Coords) : BitVec 32 :=
  let arg2 : BitVec 32 := BitVec.ofNat 32 (i 2).val
  let c128_i32 : BitVec 32 := 128#32
  let v0 : BitVec 32 := Scalar.muli arg2 c128_i32
  let c256_i32 : BitVec 32 := 256#32
  let v15153 : BitVec 32 := Scalar.addi v0 c256_i32
  let c1_i32_5452 : BitVec 32 := 1#32
  let v15154 : BitVec 32 := Scalar.subi v15153 c1_i32_5452
  let c8_i32 : BitVec 32 := 8#32
  let v15155 : BitVec 32 := Scalar.shrsi v15154 c8_i32
  let c1_i32_5463 : BitVec 32 := 1#32
  let v15172 : BitVec 32 := Scalar.subi v15155 c1_i32_5463
  let c0_i32_5498 : BitVec 32 := 0#32
  let v15545 : BitVec 32 := Scalar.addi v15172 c0_i32_5498
  let c256_i32_5505 : BitVec 32 := 256#32
  let v15554 : BitVec 32 := Scalar.muli v15545 c256_i32_5505
  v15554
def k0_off55 (i : grid0.Coords) : Fin 3 → Nat :=
  let c1_5506 : Index := 1#32
  let arg2 : BitVec 32 := BitVec.ofNat 32 (i 2).val
  let c128_i32 : BitVec 32 := 128#32
  let v0 : BitVec 32 := Scalar.muli arg2 c128_i32
  let c256_i32 : BitVec 32 := 256#32
  let v15153 : BitVec 32 := Scalar.addi v0 c256_i32
  let c1_i32_5452 : BitVec 32 := 1#32
  let v15154 : BitVec 32 := Scalar.subi v15153 c1_i32_5452
  let c8_i32 : BitVec 32 := 8#32
  let v15155 : BitVec 32 := Scalar.shrsi v15154 c8_i32
  let c1_i32_5463 : BitVec 32 := 1#32
  let v15172 : BitVec 32 := Scalar.subi v15155 c1_i32_5463
  let c0_i32_5498 : BitVec 32 := 0#32
  let v15545 : BitVec 32 := Scalar.addi v15172 c0_i32_5498
  let c256_i32_5505 : BitVec 32 := 256#32
  let v15554 : BitVec 32 := Scalar.muli v15545 c256_i32_5505
  let v15555 : BitVec 32 := v15554
  let v15556 : Index := Scalar.indexCast v15555
  let c0_5507 : Index := 0#32
  ![1, v15556.toNat, 0]
def k0_mult53 (i : grid0.Coords) : BitVec 32 :=
  let arg2 : BitVec 32 := BitVec.ofNat 32 (i 2).val
  let c128_i32 : BitVec 32 := 128#32
  let v0 : BitVec 32 := Scalar.muli arg2 c128_i32
  let c256_i32 : BitVec 32 := 256#32
  let v15153 : BitVec 32 := Scalar.addi v0 c256_i32
  let c1_i32_5452 : BitVec 32 := 1#32
  let v15154 : BitVec 32 := Scalar.subi v15153 c1_i32_5452
  let c8_i32 : BitVec 32 := 8#32
  let v15155 : BitVec 32 := Scalar.shrsi v15154 c8_i32
  let c1_i32_5463 : BitVec 32 := 1#32
  let v15172 : BitVec 32 := Scalar.subi v15155 c1_i32_5463
  let c0_i32_5499 : BitVec 32 := 0#32
  let v15546 : BitVec 32 := Scalar.addi v15172 c0_i32_5499
  let c256_i32_5510 : BitVec 32 := 256#32
  let v15563 : BitVec 32 := Scalar.muli v15546 c256_i32_5510
  v15563
def k0_off56 (i : grid0.Coords) : Fin 3 → Nat :=
  let c2_5511 : Index := 2#32
  let arg2 : BitVec 32 := BitVec.ofNat 32 (i 2).val
  let c128_i32 : BitVec 32 := 128#32
  let v0 : BitVec 32 := Scalar.muli arg2 c128_i32
  let c256_i32 : BitVec 32 := 256#32
  let v15153 : BitVec 32 := Scalar.addi v0 c256_i32
  let c1_i32_5452 : BitVec 32 := 1#32
  let v15154 : BitVec 32 := Scalar.subi v15153 c1_i32_5452
  let c8_i32 : BitVec 32 := 8#32
  let v15155 : BitVec 32 := Scalar.shrsi v15154 c8_i32
  let c1_i32_5463 : BitVec 32 := 1#32
  let v15172 : BitVec 32 := Scalar.subi v15155 c1_i32_5463
  let c0_i32_5499 : BitVec 32 := 0#32
  let v15546 : BitVec 32 := Scalar.addi v15172 c0_i32_5499
  let c256_i32_5510 : BitVec 32 := 256#32
  let v15563 : BitVec 32 := Scalar.muli v15546 c256_i32_5510
  let v15564 : BitVec 32 := v15563
  let v15565 : Index := Scalar.indexCast v15564
  let c0_5512 : Index := 0#32
  ![2, v15565.toNat, 0]
def k0_mult54 (i : grid0.Coords) : BitVec 32 :=
  let arg2 : BitVec 32 := BitVec.ofNat 32 (i 2).val
  let c128_i32 : BitVec 32 := 128#32
  let v0 : BitVec 32 := Scalar.muli arg2 c128_i32
  let c256_i32 : BitVec 32 := 256#32
  let v15153 : BitVec 32 := Scalar.addi v0 c256_i32
  let c1_i32_5452 : BitVec 32 := 1#32
  let v15154 : BitVec 32 := Scalar.subi v15153 c1_i32_5452
  let c8_i32 : BitVec 32 := 8#32
  let v15155 : BitVec 32 := Scalar.shrsi v15154 c8_i32
  let c1_i32_5463 : BitVec 32 := 1#32
  let v15172 : BitVec 32 := Scalar.subi v15155 c1_i32_5463
  let c0_i32_5500 : BitVec 32 := 0#32
  let v15547 : BitVec 32 := Scalar.addi v15172 c0_i32_5500
  let c256_i32_5515 : BitVec 32 := 256#32
  let v15576 : BitVec 32 := Scalar.muli v15547 c256_i32_5515
  v15576
def k0_off57 (i : grid0.Coords) : Fin 3 → Nat :=
  let c3_5516 : Index := 3#32
  let arg2 : BitVec 32 := BitVec.ofNat 32 (i 2).val
  let c128_i32 : BitVec 32 := 128#32
  let v0 : BitVec 32 := Scalar.muli arg2 c128_i32
  let c256_i32 : BitVec 32 := 256#32
  let v15153 : BitVec 32 := Scalar.addi v0 c256_i32
  let c1_i32_5452 : BitVec 32 := 1#32
  let v15154 : BitVec 32 := Scalar.subi v15153 c1_i32_5452
  let c8_i32 : BitVec 32 := 8#32
  let v15155 : BitVec 32 := Scalar.shrsi v15154 c8_i32
  let c1_i32_5463 : BitVec 32 := 1#32
  let v15172 : BitVec 32 := Scalar.subi v15155 c1_i32_5463
  let c0_i32_5500 : BitVec 32 := 0#32
  let v15547 : BitVec 32 := Scalar.addi v15172 c0_i32_5500
  let c256_i32_5515 : BitVec 32 := 256#32
  let v15576 : BitVec 32 := Scalar.muli v15547 c256_i32_5515
  let v15577 : BitVec 32 := v15576
  let v15578 : Index := Scalar.indexCast v15577
  let c0_5517 : Index := 0#32
  ![3, v15578.toNat, 0]
def k0_off58 (i : grid0.Coords) (c0_i32_5520 : BitVec 32) : Fin 4 → Nat :=
  let c0_5521 : Index := 0#32
  let arg2 : BitVec 32 := BitVec.ofNat 32 (i 2).val
  let c128_i32 : BitVec 32 := 128#32
  let v0 : BitVec 32 := Scalar.muli arg2 c128_i32
  let c256_i32 : BitVec 32 := 256#32
  let v15153 : BitVec 32 := Scalar.addi v0 c256_i32
  let c1_i32_5452 : BitVec 32 := 1#32
  let v15154 : BitVec 32 := Scalar.subi v15153 c1_i32_5452
  let c8_i32 : BitVec 32 := 8#32
  let v15155 : BitVec 32 := Scalar.shrsi v15154 c8_i32
  let c1_i32_5463 : BitVec 32 := 1#32
  let v15172 : BitVec 32 := Scalar.subi v15155 c1_i32_5463
  let c0_i32_5497 : BitVec 32 := 0#32
  let v15544 : BitVec 32 := Scalar.addi v15172 c0_i32_5497
  let c2_i32_5519 : BitVec 32 := 2#32
  let v15590 : BitVec 32 := Scalar.muli v15544 c2_i32_5519
  let v15591 : BitVec 32 := Scalar.addi v15590 c0_i32_5520
  let v15592 : Index := Scalar.indexCast v15591
  let c0_5522 : Index := 0#32
  let c0_5523 : Index := 0#32
  ![0, v15592.toNat, 0, 0]
def k0_off59 (i : grid0.Coords) (c0_i32_5535 : BitVec 32) : Fin 4 → Nat :=
  let c0_5536 : Index := 0#32
  let arg2 : BitVec 32 := BitVec.ofNat 32 (i 2).val
  let c128_i32 : BitVec 32 := 128#32
  let v0 : BitVec 32 := Scalar.muli arg2 c128_i32
  let c256_i32 : BitVec 32 := 256#32
  let v15153 : BitVec 32 := Scalar.addi v0 c256_i32
  let c1_i32_5452 : BitVec 32 := 1#32
  let v15154 : BitVec 32 := Scalar.subi v15153 c1_i32_5452
  let c8_i32 : BitVec 32 := 8#32
  let v15155 : BitVec 32 := Scalar.shrsi v15154 c8_i32
  let c1_i32_5463 : BitVec 32 := 1#32
  let v15172 : BitVec 32 := Scalar.subi v15155 c1_i32_5463
  let c0_i32_5498 : BitVec 32 := 0#32
  let v15545 : BitVec 32 := Scalar.addi v15172 c0_i32_5498
  let c2_i32_5534 : BitVec 32 := 2#32
  let v15622 : BitVec 32 := Scalar.muli v15545 c2_i32_5534
  let v15623 : BitVec 32 := Scalar.addi v15622 c0_i32_5535
  let v15624 : Index := Scalar.indexCast v15623
  let c64_5537 : Index := 64#32
  let c0_5538 : Index := 0#32
  ![0, v15624.toNat, 64, 0]
def k0_off60 (i : grid0.Coords) (c0_i32_5550 : BitVec 32) : Fin 4 → Nat :=
  let c0_5551 : Index := 0#32
  let arg2 : BitVec 32 := BitVec.ofNat 32 (i 2).val
  let c128_i32 : BitVec 32 := 128#32
  let v0 : BitVec 32 := Scalar.muli arg2 c128_i32
  let c256_i32 : BitVec 32 := 256#32
  let v15153 : BitVec 32 := Scalar.addi v0 c256_i32
  let c1_i32_5452 : BitVec 32 := 1#32
  let v15154 : BitVec 32 := Scalar.subi v15153 c1_i32_5452
  let c8_i32 : BitVec 32 := 8#32
  let v15155 : BitVec 32 := Scalar.shrsi v15154 c8_i32
  let c1_i32_5463 : BitVec 32 := 1#32
  let v15172 : BitVec 32 := Scalar.subi v15155 c1_i32_5463
  let c0_i32_5499 : BitVec 32 := 0#32
  let v15546 : BitVec 32 := Scalar.addi v15172 c0_i32_5499
  let c2_i32_5549 : BitVec 32 := 2#32
  let v15654 : BitVec 32 := Scalar.muli v15546 c2_i32_5549
  let v15655 : BitVec 32 := Scalar.addi v15654 c0_i32_5550
  let v15656 : Index := Scalar.indexCast v15655
  let c128_5552 : Index := 128#32
  let c0_5553 : Index := 0#32
  ![0, v15656.toNat, 128, 0]
def k0_off61 (i : grid0.Coords) (c0_i32_5564 : BitVec 32) : Fin 4 → Nat :=
  let c0_5565 : Index := 0#32
  let arg2 : BitVec 32 := BitVec.ofNat 32 (i 2).val
  let c128_i32 : BitVec 32 := 128#32
  let v0 : BitVec 32 := Scalar.muli arg2 c128_i32
  let c256_i32 : BitVec 32 := 256#32
  let v15153 : BitVec 32 := Scalar.addi v0 c256_i32
  let c1_i32_5452 : BitVec 32 := 1#32
  let v15154 : BitVec 32 := Scalar.subi v15153 c1_i32_5452
  let c8_i32 : BitVec 32 := 8#32
  let v15155 : BitVec 32 := Scalar.shrsi v15154 c8_i32
  let c1_i32_5463 : BitVec 32 := 1#32
  let v15172 : BitVec 32 := Scalar.subi v15155 c1_i32_5463
  let c0_i32_5500 : BitVec 32 := 0#32
  let v15547 : BitVec 32 := Scalar.addi v15172 c0_i32_5500
  let c2_i32_5563 : BitVec 32 := 2#32
  let v15679 : BitVec 32 := Scalar.muli v15547 c2_i32_5563
  let v15680 : BitVec 32 := Scalar.addi v15679 c0_i32_5564
  let v15681 : Index := Scalar.indexCast v15680
  let c192_5566 : Index := 192#32
  let c0_5567 : Index := 0#32
  ![0, v15681.toNat, 192, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x4x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4x64x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x32x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x32x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Ffn1.lean ====
abbrev S4x4096x2048 : Shape := ⟨3, ![4, 4096, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S1x2048x2048 : Shape := ⟨3, ![1, 2048, 2048]⟩
abbrev S16384x2048 : Shape := ⟨2, ![16384, 2048]⟩
abbrev S2048x5632 : Shape := ⟨2, ![2048, 5632]⟩
abbrev S5632x2048 : Shape := ⟨2, ![5632, 2048]⟩
abbrev S2048x2048 : Shape := ⟨2, ![2048, 2048]⟩
abbrev S1024x2048 : Shape := ⟨2, ![1024, 2048]⟩
abbrev S2048x512 : Shape := ⟨2, ![2048, 512]⟩
abbrev S512x2048 : Shape := ⟨2, ![512, 2048]⟩
abbrev S128x512 : Shape := ⟨2, ![128, 512]⟩
abbrev S32x2048 : Shape := ⟨2, ![32, 2048]⟩
abbrev S128x2048 : Shape := ⟨2, ![128, 2048]⟩
abbrev S512 : Shape := ⟨1, ![512]⟩
abbrev S512x1 : Shape := ⟨2, ![512, 1]⟩
abbrev S512x512 : Shape := ⟨2, ![512, 512]⟩
abbrev S1024x512 : Shape := ⟨2, ![1024, 512]⟩

abbrev nBuf : Space → Nat
  | .hbm => 25
  | .vmem => 28
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S1x2048x5632, .f32⟩
  | .hbm, ⟨6, _⟩ => ⟨S1x2048x5632, .f32⟩
  | .hbm, ⟨7, _⟩ => ⟨S1x5632x2048, .f32⟩
  | .hbm, ⟨8, _⟩ => ⟨S1x2048x2048, .f32⟩
  | .hbm, ⟨9, _⟩ => ⟨S16384x2048, .f32⟩
  | .hbm, ⟨10, _⟩ => ⟨S2048x5632, .f32⟩
  | .hbm, ⟨11, _⟩ => ⟨S2048x5632, .bf16⟩
  | .hbm, ⟨12, _⟩ => ⟨S2048x5632, .f32⟩
  | .hbm, ⟨13, _⟩ => ⟨S2048x5632, .bf16⟩
  | .hbm, ⟨14, _⟩ => ⟨S5632x2048, .f32⟩
  | .hbm, ⟨15, _⟩ => ⟨S5632x2048, .bf16⟩
  | .hbm, ⟨16, _⟩ => ⟨S2048x5632, .f32⟩
  | .hbm, ⟨17, _⟩ => ⟨S2048x5632, .f32⟩
  | .hbm, ⟨18, _⟩ => ⟨S5632x2048, .f32⟩
  | .hbm, ⟨19, _⟩ => ⟨S2048x2048, .f32⟩
  | .hbm, ⟨20, _⟩ => ⟨S16384x2048, .f32⟩
  | .hbm, ⟨21, _⟩ => ⟨S2048x5632, .bf16⟩
  | .hbm, ⟨22, _⟩ => ⟨S2048x5632, .bf16⟩
  | .hbm, ⟨23, _⟩ => ⟨S5632x2048, .bf16⟩
  | .hbm, ⟨24, _⟩ => ⟨S2048x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S32x2048, .f32⟩
  | .local _ .vmem, ⟨14, _⟩ => ⟨S32x2048, .f32⟩
  | .local _ .vmem, ⟨15, _⟩ => ⟨S128x2048, .f32⟩
  | .local _ .vmem, ⟨16, _⟩ => ⟨S128x2048, .f32⟩
  | .local _ .vmem, ⟨17, _⟩ => ⟨S1024x2048, .f32⟩
  | .local _ .vmem, ⟨18, _⟩ => ⟨S1024x2048, .f32⟩
  | .local _ .vmem, ⟨19, _⟩ => ⟨S128x512, .bf16⟩
  | .local _ .vmem, ⟨20, _⟩ => ⟨S128x512, .bf16⟩
  | .local _ .vmem, ⟨21, _⟩ => ⟨S128x512, .bf16⟩
  | .local _ .vmem, ⟨22, _⟩ => ⟨S128x512, .bf16⟩
  | .local _ .vmem, ⟨23, _⟩ => ⟨S32x2048, .bf16⟩
  | .local _ .vmem, ⟨24, _⟩ => ⟨S32x2048, .bf16⟩
  | .local _ .vmem, ⟨25, _⟩ => ⟨S128x2048, .bf16⟩
  | .local _ .vmem, ⟨26, _⟩ => ⟨S128x2048, .bf16⟩
  | .local _ .vmem, ⟨27, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v11_2 : Ref sig .tc := ⟨.hbm, 22, rfl⟩
abbrev main_v11_3 : Ref sig .tc := ⟨.hbm, 23, rfl⟩
abbrev main_v11_4 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v16 : BitVec 1 := Scalar.cmpi .eq arg1 c0_i32
  let v17 : BitVec 32 := Scalar.extui v16
  let c0_i32_15 : BitVec 32 := 0#32
  let v18 : BitVec 1 := Scalar.cmpi .ne v17 c0_i32_15
  v18

def k0_cond2 (i : grid0.Coords) : BitVec 1 :=
  let arg1 : BitVec 32 := BitVec.ofNat 32 (i 1).val
  let c0_i32_16 : BitVec 32 := 0#32
  let v19 : BitVec 1 := Scalar.cmpi .sgt arg1 c0_i32_16
  let c10_i32 : BitVec 32 := 10#32
  let v20 : BitVec 1 := Scalar.cmpi .slt arg1 c10_i32
  let v21 : BitVec 1 := Scalar.andi v19 v20
  let v22 : BitVec 32 := Scalar.extui v21
  let c0_i32_17 : BitVec 32 := 0#32
  let v23 : BitVec 1 := Scalar.cmpi .ne v22 c0_i32_17
  v23

def k0_cond3 (i : grid0.Coords) : BitVec 1 :=
  let arg1 : BitVec 32 := BitVec.ofNat 32 (i 1).val
  let c10_i32_18 : BitVec 32 := 10#32
  let v24 : BitVec 1 := Scalar.cmpi .eq arg1 c10_i32_18
  let v25 : BitVec 32 := Scalar.extui v24
  let c0_i32_19 : BitVec 32 := 0#32
  let v26 : BitVec 1 := Scalar.cmpi .ne v25 c0_i32_19
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S32x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S128x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== Ffn1RefIdeal.lean ====
abbrev S4x4096x2048 : Shape := ⟨3, ![4, 4096, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S1x2048x2048 : Shape := ⟨3, ![1, 2048, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S2048x5632 : Shape := ⟨2, ![2048, 5632]⟩
abbrev S5632x2048 : Shape := ⟨2, ![5632, 2048]⟩
abbrev S4x4096x5632 : Shape := ⟨3, ![4, 4096, 5632]⟩
abbrev S16384x2048 : Shape := ⟨2, ![16384, 2048]⟩
abbrev S2048x2048 : Shape := ⟨2, ![2048, 2048]⟩

abbrev nBuf : Space → Nat
  | .hbm => 55
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S1x2048x5632, .f32⟩
  | .hbm, ⟨6, _⟩ => ⟨S1x2048x5632, .f32⟩
  | .hbm, ⟨7, _⟩ => ⟨S1x5632x2048, .f32⟩
  | .hbm, ⟨8, _⟩ => ⟨S1x2048x2048, .f32⟩
  | .hbm, ⟨9, _⟩ => ⟨S2048, .f32⟩
  | .hbm, ⟨10, _⟩ => ⟨S4x4096x2048, .f32⟩
  | .hbm, ⟨11, _⟩ => ⟨S_, .f32⟩
  | .hbm, ⟨12, _⟩ => ⟨S4x4096, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S4x4096x1, .f32⟩
  | .hbm, ⟨21, _⟩ => ⟨S4x4096x2048, .f32⟩
  | .hbm, ⟨22, _⟩ => ⟨S4x4096x2048, .f32⟩
  | .hbm, ⟨23, _⟩ => ⟨S1x1x2048, .f32⟩
  | .hbm, ⟨24, _⟩ => ⟨S4x4096x2048, .f32⟩
  | .hbm, ⟨25, _⟩ => ⟨S4x4096x2048, .f32⟩
  | .hbm, ⟨26, _⟩ => ⟨S2048x5632, .f32⟩
  | .hbm, ⟨27, _⟩ => ⟨S2048x5632, .f32⟩
  | .hbm, ⟨28, _⟩ => ⟨S5632x2048, .f32⟩
  | .hbm, ⟨29, _⟩ => ⟨S4x4096x5632, .f32⟩
  | .hbm, ⟨30, _⟩ => ⟨S4x4096x5632, .f32⟩
  | .hbm, ⟨31, _⟩ => ⟨S4x4096x5632, .f32⟩
  | .hbm, ⟨32, _⟩ => ⟨S_, .f32⟩
  | .hbm, ⟨33, _⟩ => ⟨S4x4096x5632, .f32⟩
  | .hbm, ⟨34, _⟩ => ⟨S4x4096x5632, .f32⟩
  | .hbm, ⟨35, _⟩ => ⟨S_, .f32⟩
  | .hbm, ⟨36, _⟩ => ⟨S4x4096x5632, .f32⟩
  | .hbm, ⟨37, _⟩ => ⟨S4x4096x5632, .f32⟩
  | .hbm, ⟨38, _⟩ => ⟨S4x4096x5632, .f32⟩
  | .hbm, ⟨39, _⟩ => ⟨S4x4096x5632, .f32⟩
  | .hbm, ⟨40, _⟩ => ⟨S4x4096x5632, .f32⟩
  | .hbm, ⟨41, _⟩ => ⟨S4x4096x2048, .f32⟩
  | .hbm, ⟨42, _⟩ => ⟨S_, .f32⟩
  | .hbm, ⟨43, _⟩ => ⟨S4x4096x2048, .f32⟩
  | .hbm, ⟨44, _⟩ => ⟨S4x4096x2048, .f32⟩
  | .hbm, ⟨45, _⟩ => ⟨S4x4096x2048, .f32⟩
  | .hbm, ⟨46, _⟩ => ⟨S16384x2048, .f32⟩
  | .hbm, ⟨47, _⟩ => ⟨S2048x5632, .f32⟩
  | .hbm, ⟨48, _⟩ => ⟨S2048x5632, .bf16⟩
  | .hbm, ⟨49, _⟩ => ⟨S2048x5632, .f32⟩
  | .hbm, ⟨50, _⟩ => ⟨S2048x5632, .bf16⟩
  | .hbm, ⟨51, _⟩ => ⟨S5632x2048, .f32⟩
  | .hbm, ⟨52, _⟩ => ⟨S5632x2048, .bf16⟩
  | .hbm, ⟨53, _⟩ => ⟨S2048x2048, .f32⟩
  | .hbm, ⟨54, _⟩ => ⟨S2048x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_2 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Ffn2.lean ====
abbrev S4x4096x2048 : Shape := ⟨3, ![4, 4096, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S16384x2048 : Shape := ⟨2, ![16384, 2048]⟩
abbrev S2048x5632 : Shape := ⟨2, ![2048, 5632]⟩
abbrev S5632x2048 : Shape := ⟨2, ![5632, 2048]⟩
abbrev S1024x2048 : Shape := ⟨2, ![1024, 2048]⟩
abbrev S2048x512 : Shape := ⟨2, ![2048, 512]⟩
abbrev S512x2048 : Shape := ⟨2, ![512, 2048]⟩
abbrev S512 : Shape := ⟨1, ![512]⟩
abbrev S512x1 : Shape := ⟨2, ![512, 1]⟩
abbrev S512x512 : Shape := ⟨2, ![512, 512]⟩
abbrev S1024x512 : Shape := ⟨2, ![1024, 512]⟩

abbrev nBuf : Space → Nat
  | .hbm => 15
  | .vmem => 13
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S16384x2048, .f32⟩
  | .hbm, ⟨7, _⟩ => ⟨S2048x5632, .f32⟩
  | .hbm, ⟨8, _⟩ => ⟨S2048x5632, .bf16⟩
  | .hbm, ⟨9, _⟩ => ⟨S2048x5632, .f32⟩
  | .hbm, ⟨10, _⟩ => ⟨S2048x5632, .bf16⟩
  | .hbm, ⟨11, _⟩ => ⟨S5632x2048, .f32⟩
  | .hbm, ⟨12, _⟩ => ⟨S5632x2048, .bf16⟩
  | .hbm, ⟨13, _⟩ => ⟨S1x2048, .f32⟩
  | .hbm, ⟨14, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c10_i32 : BitVec 32 := 10#32
  let v4 : BitVec 1 := Scalar.cmpi .slt arg1 c10_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Ffn2RefIdeal.lean ====
abbrev S4x4096x2048 : Shape := ⟨3, ![4, 4096, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S2048x5632 : Shape := ⟨2, ![2048, 5632]⟩
abbrev S5632x2048 : Shape := ⟨2, ![5632, 2048]⟩
abbrev S4x4096x5632 : Shape := ⟨3, ![4, 4096, 5632]⟩
abbrev S16384x2048 : Shape := ⟨2, ![16384, 2048]⟩

abbrev nBuf : Space → Nat
  | .hbm => 60
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S2048, .f32⟩
  | .hbm, ⟨7, _⟩ => ⟨S4x4096x2048, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x2048, .f32⟩
  | .hbm, ⟨19, _⟩ => ⟨S4x4096x2048, .f32⟩
  | .hbm, ⟨20, _⟩ => ⟨S1x1x2048, .f32⟩
  | .hbm, ⟨21, _⟩ => ⟨S4x4096x2048, .f32⟩
  | .hbm, ⟨22, _⟩ => ⟨S4x4096x2048, .f32⟩
  | .hbm, ⟨23, _⟩ => ⟨S2048x5632, .f32⟩
  | .hbm, ⟨24, _⟩ => ⟨S2048x5632, .f32⟩
  | .hbm, ⟨25, _⟩ => ⟨S5632x2048, .f32⟩
  | .hbm, ⟨26, _⟩ => ⟨S4x4096x5632, .f32⟩
  | .hbm, ⟨27, _⟩ => ⟨S4x4096x5632, .f32⟩
  | .hbm, ⟨28, _⟩ => ⟨S4x4096x5632, .f32⟩
  | .hbm, ⟨29, _⟩ => ⟨S_, .f32⟩
  | .hbm, ⟨30, _⟩ => ⟨S4x4096x5632, .f32⟩
  | .hbm, ⟨31, _⟩ => ⟨S4x4096x5632, .f32⟩
  | .hbm, ⟨32, _⟩ => ⟨S_, .f32⟩
  | .hbm, ⟨33, _⟩ => ⟨S4x4096x5632, .f32⟩
  | .hbm, ⟨34, _⟩ => ⟨S4x4096x5632, .f32⟩
  | .hbm, ⟨35, _⟩ => ⟨S4x4096x5632, .f32⟩
  | .hbm, ⟨36, _⟩ => ⟨S4x4096x5632, .f32⟩
  | .hbm, ⟨37, _⟩ => ⟨S4x4096x5632, .f32⟩
  | .hbm, ⟨38, _⟩ => ⟨S4x4096x2048, .f32⟩
  | .hbm, ⟨39, _⟩ => ⟨S_, .f32⟩
  | .hbm, ⟨40, _⟩ => ⟨S4x4096x2048, .f32⟩
  | .hbm, ⟨41, _⟩ => ⟨S4x4096x2048, .f32⟩
  | .hbm, ⟨42, _⟩ => ⟨S4x4096x2048, .f32⟩
  | .hbm, ⟨43, _⟩ => ⟨S4x4096x2048, .f32⟩
  | .hbm, ⟨44, _⟩ => ⟨S_, .f32⟩
  | .hbm, ⟨45, _⟩ => ⟨S4x4096, .f32⟩
  | .hbm, ⟨46, _⟩ => ⟨S4x4096x1, .f32⟩
  | .hbm, ⟨47, _⟩ => ⟨S_, .f32⟩
  | .hbm, ⟨48, _⟩ => ⟨S4x4096x1, .f32⟩
  | .hbm, ⟨49, _⟩ => ⟨S4x4096x1, .f32⟩
  | .hbm, ⟨50, _⟩ => ⟨S_, .f32⟩
  | .hbm, ⟨51, _⟩ => ⟨S4x4096x1, .f32⟩
  | .hbm, ⟨52, _⟩ => ⟨S4x4096x1, .f32⟩
  | .hbm, ⟨53, _⟩ => ⟨S4x4096x1, .f32⟩
  | .hbm, ⟨54, _⟩ => ⟨S4x4096x2048, .f32⟩
  | .hbm, ⟨55, _⟩ => ⟨S4x4096x2048, .f32⟩
  | .hbm, ⟨56, _⟩ => ⟨S1x1x2048, .f32⟩
  | .hbm, ⟨57, _⟩ => ⟨S4x4096x2048, .f32⟩
  | .hbm, ⟨58, _⟩ => ⟨S4x4096x2048, .f32⟩
  | .hbm, ⟨59, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]
-- ==== Conv.lean ====
abbrev S4x4096x2048 : Shape := ⟨3, ![4, 4096, 2048]⟩
abbrev S1x2048 : Shape := ⟨2, ![1, 2048]⟩
abbrev S1x2048x5680 : Shape := ⟨3, ![1, 2048, 5680]⟩
abbrev S1x3x1024 : Shape := ⟨3, ![1, 3, 1024]⟩
abbrev S1x1024 : Shape := ⟨2, ![1, 1024]⟩
abbrev S2048x5680 : Shape := ⟨2, ![2048, 5680]⟩
abbrev S_ : Shape := ⟨0, ![]⟩
abbrev S2048x5760 : Shape := ⟨2, ![2048, 5760]⟩
abbrev S16384x2048 : Shape := ⟨2, ![16384, 2048]⟩
abbrev S3x1024 : Shape := ⟨2, ![3, 1024]⟩
abbrev S16384x1024 : Shape := ⟨2, ![16384, 1024]⟩
abbrev S512x2048 : Shape := ⟨2, ![512, 2048]⟩
abbrev S2048x3072 : Shape := ⟨2, ![2048, 3072]⟩
abbrev S512x1024 : Shape := ⟨2, ![512, 1024]⟩
abbrev S8x1024 : Shape := ⟨2, ![8, 1024]⟩
abbrev S256x2048 : Shape := ⟨2, ![256, 2048]⟩
abbrev S256 : Shape := ⟨1, ![256]⟩
abbrev S256x1 : Shape := ⟨2, ![256, 1]⟩
abbrev S2048x1024 : Shape := ⟨2, ![2048, 1024]⟩
abbrev S256x1024 : Shape := ⟨2, ![256, 1024]⟩

abbrev nBuf : Space → Nat
  | .hbm => 13
  | .vmem => 9
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S1x2048x5680, .f32⟩
  | .hbm, ⟨3, _⟩ => ⟨S1x3x1024, .f32⟩
  | .hbm, ⟨4, _⟩ => ⟨S1x1024, .f32⟩
  | .hbm, ⟨5, _⟩ => ⟨S2048x5680, .f32⟩
  | .hbm, ⟨6, _⟩ => ⟨S2048x5680, .bf16⟩
  | .hbm, ⟨7, _⟩ => ⟨S_, .i32⟩
  | .hbm, ⟨8, _⟩ => ⟨S_, .bf16⟩
  | .hbm, ⟨9, _⟩ => ⟨S2048x5760, .bf16⟩
  | .hbm, ⟨10, _⟩ => ⟨S16384x2048, .f32⟩
  | .hbm, ⟨11, _⟩ => ⟨S3x1024, .f32⟩
  | .hbm, ⟨12, _⟩ => ⟨S16384x1024, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x3072, .bf16⟩
  | .local _ .vmem, ⟨4, _⟩ => ⟨S3x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S8x1024, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ConvRefIdeal.lean ====
abbrev S4x4096x2048 : Shape := ⟨3, ![4, 4096, 2048]⟩
abbrev S1x2048 : Shape := ⟨2, ![1, 2048]⟩
abbrev S1x2048x5680 : Shape := ⟨3, ![1, 2048, 5680]⟩
abbrev S1x3x1024 : Shape := ⟨3, ![1, 3, 1024]⟩
abbrev S1x1024 : Shape := ⟨2, ![1, 1024]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S2048x5680 : Shape := ⟨2, ![2048, 5680]⟩
abbrev S4x4096x5680 : Shape := ⟨3, ![4, 4096, 5680]⟩
abbrev S4x4096x1024 : Shape := ⟨3, ![4, 4096, 1024]⟩
abbrev S4x4096x2608 : Shape := ⟨3, ![4, 4096, 2608]⟩
abbrev S4x4098x1024 : Shape := ⟨3, ![4, 4098, 1024]⟩
abbrev S1x1x1024 : Shape := ⟨3, ![1, 1, 1024]⟩
abbrev S1024 : Shape := ⟨1, ![1024]⟩
abbrev S16384x1024 : Shape := ⟨2, ![16384, 1024]⟩

abbrev nBuf : Space → Nat
  | .hbm => 75
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S1x2048x5680, .f32⟩
  | .hbm, ⟨3, _⟩ => ⟨S1x3x1024, .f32⟩
  | .hbm, ⟨4, _⟩ => ⟨S1x1024, .f32⟩
  | .hbm, ⟨5, _⟩ => ⟨S2048, .f32⟩
  | .hbm, ⟨6, _⟩ => ⟨S4x4096x2048, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x1, .f32⟩
  | .hbm, ⟨17, _⟩ => ⟨S4x4096x2048, .f32⟩
  | .hbm, ⟨18, _⟩ => ⟨S4x4096x2048, .f32⟩
  | .hbm, ⟨19, _⟩ => ⟨S1x1x2048, .f32⟩
  | .hbm, ⟨20, _⟩ => ⟨S4x4096x2048, .f32⟩
  | .hbm, ⟨21, _⟩ => ⟨S4x4096x2048, .f32⟩
  | .hbm, ⟨22, _⟩ => ⟨S2048x5680, .f32⟩
  | .hbm, ⟨23, _⟩ => ⟨S4x4096x5680, .f32⟩
  | .hbm, ⟨24, _⟩ => ⟨S4x4096x1024, .f32⟩
  | .hbm, ⟨25, _⟩ => ⟨S4x4096x1024, .f32⟩
  | .hbm, ⟨26, _⟩ => ⟨S4x4096x1024, .f32⟩
  | .hbm, ⟨27, _⟩ => ⟨S4x4096x2608, .f32⟩
  | .hbm, ⟨28, _⟩ => ⟨S4x4096x1024, .f32⟩
  | .hbm, ⟨29, _⟩ => ⟨S_, .i32⟩
  | .hbm, ⟨30, _⟩ => ⟨S_, .f32⟩
  | .hbm, ⟨31, _⟩ => ⟨S4x4098x1024, .f32⟩
  | .hbm, ⟨32, _⟩ => ⟨S4x4096x1024, .f32⟩
  | .hbm, ⟨33, _⟩ => ⟨S1x1x1024, .f32⟩
  | .hbm, ⟨34, _⟩ => ⟨S1024, .f32⟩
  | .hbm, ⟨35, _⟩ => ⟨S1x1x1024, .f32⟩
  | .hbm, ⟨36, _⟩ => ⟨S4x4096x1024, .f32⟩
  | .hbm, ⟨37, _⟩ => ⟨S4x4096x1024, .f32⟩
  | .hbm, ⟨38, _⟩ => ⟨S_, .f32⟩
  | .hbm, ⟨39, _⟩ => ⟨S4x4096x1024, .f32⟩
  | .hbm, ⟨40, _⟩ => ⟨S4x4096x1024, .f32⟩
  | .hbm, ⟨41, _⟩ => ⟨S4x4096x1024, .f32⟩
  | .hbm, ⟨42, _⟩ => ⟨S1x1x1024, .f32⟩
  | .hbm, ⟨43, _⟩ => ⟨S1024, .f32⟩
  | .hbm, ⟨44, _⟩ => ⟨S1x1x1024, .f32⟩
  | .hbm, ⟨45, _⟩ => ⟨S4x4096x1024, .f32⟩
  | .hbm, ⟨46, _⟩ => ⟨S4x4096x1024, .f32⟩
  | .hbm, ⟨47, _⟩ => ⟨S4x4096x1024, .f32⟩
  | .hbm, ⟨48, _⟩ => ⟨S4x4096x1024, .f32⟩
  | .hbm, ⟨49, _⟩ => ⟨S1x1x1024, .f32⟩
  | .hbm, ⟨50, _⟩ => ⟨S1024, .f32⟩
  | .hbm, ⟨51, _⟩ => ⟨S1x1x1024, .f32⟩
  | .hbm, ⟨52, _⟩ => ⟨S4x4096x1024, .f32⟩
  | .hbm, ⟨53, _⟩ => ⟨S4x4096x1024, .f32⟩
  | .hbm, ⟨54, _⟩ => ⟨S4x4096x1024, .f32⟩
  | .hbm, ⟨55, _⟩ => ⟨S4x4096x1024, .f32⟩
  | .hbm, ⟨56, _⟩ => ⟨S1024, .f32⟩
  | .hbm, ⟨57, _⟩ => ⟨S4x4096x1024, .f32⟩
  | .hbm, ⟨58, _⟩ => ⟨S_, .f32⟩
  | .hbm, ⟨59, _⟩ => ⟨S4x4096, .f32⟩
  | .hbm, ⟨60, _⟩ => ⟨S4x4096x1, .f32⟩
  | .hbm, ⟨61, _⟩ => ⟨S_, .f32⟩
  | .hbm, ⟨62, _⟩ => ⟨S4x4096x1, .f32⟩
  | .hbm, ⟨63, _⟩ => ⟨S4x4096x1, .f32⟩
  | .hbm, ⟨64, _⟩ => ⟨S_, .f32⟩
  | .hbm, ⟨65, _⟩ => ⟨S4x4096x1, .f32⟩
  | .hbm, ⟨66, _⟩ => ⟨S4x4096x1, .f32⟩
  | .hbm, ⟨67, _⟩ => ⟨S4x4096x1, .f32⟩
  | .hbm, ⟨68, _⟩ => ⟨S4x4096x1024, .f32⟩
  | .hbm, ⟨69, _⟩ => ⟨S4x4096x1024, .f32⟩
  | .hbm, ⟨70, _⟩ => ⟨S1x1x1024, .f32⟩
  | .hbm, ⟨71, _⟩ => ⟨S4x4096x1024, .f32⟩
  | .hbm, ⟨72, _⟩ => ⟨S4x4096x1024, .f32⟩
  | .hbm, ⟨73, _⟩ => ⟨S16384x1024, .f32⟩
  | .hbm, ⟨74, _⟩ => ⟨S16384x1024, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c : Ref sig .tc := ⟨.hbm, 29, rfl⟩
abbrev main_call0_v0 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_3 : Ref sig .tc := ⟨.hbm, 58, rfl⟩
abbrev main_v47 : Ref sig .tc := ⟨.hbm, 59, rfl⟩
abbrev main_v48 : Ref sig .tc := ⟨.hbm, 60, rfl⟩
abbrev main_cst_4 : Ref sig .tc := ⟨.hbm, 61, rfl⟩
abbrev main_v49 : Ref sig .tc := ⟨.hbm, 62, rfl⟩
abbrev main_v50 : Ref sig .tc := ⟨.hbm, 63, rfl⟩
abbrev main_cst_5 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩

abbrev nD : Nat := 1
abbrev τ : Topo := Topo.v7x

variable {F : FTy → Type} [FloatOps F]
-- ==== Out.lean ====
abbrev S4x4096x2048 : Shape := ⟨3, ![4, 4096, 2048]⟩
abbrev S4x4096x1024 : Shape := ⟨3, ![4, 4096, 1024]⟩
abbrev S4x1024x4096 : Shape := ⟨3, ![4, 1024, 4096]⟩
abbrev S1x1024 : Shape := ⟨2, ![1, 1024]⟩
abbrev S1x2048x2048 : Shape := ⟨3, ![1, 2048, 2048]⟩
abbrev S16384x2048 : Shape := ⟨2, ![16384, 2048]⟩
abbrev S16384x1024 : Shape := ⟨2, ![16384, 1024]⟩
abbrev S2048x2048 : Shape := ⟨2, ![2048, 2048]⟩
abbrev S512x2048 : Shape := ⟨2, ![512, 2048]⟩
abbrev S512x1024 : Shape := ⟨2, ![512, 1024]⟩
abbrev S1x1024x512 : Shape := ⟨3, ![1, 1024, 512]⟩
abbrev S1x1024x256 : Shape := ⟨3, ![1, 1024, 256]⟩
abbrev S1024x256 : Shape := ⟨2, ![1024, 256]⟩
abbrev S256x1024 : Shape := ⟨2, ![256, 1024]⟩
abbrev S256 : Shape := ⟨1, ![256]⟩
abbrev S256x1 : Shape := ⟨2, ![256, 1]⟩
abbrev S1024x2048 : Shape := ⟨2, ![1024, 2048]⟩
abbrev S256x2048 : Shape := ⟨2, ![256, 2048]⟩

abbrev nBuf : Space → Nat
  | .hbm => 10
  | .vmem => 10
  | .smem => 0
  | _ => 0

abbrev bufTy : (tb : Table) → Fin (tcTables nBuf tb) → BufTy
  | .hbm, ⟨0, _⟩ => ⟨S4x4096x2048, .f32⟩
  | .hbm, ⟨1, _⟩ => ⟨S4x4096x1024, .bf16⟩
  | .hbm, ⟨2, _⟩ => ⟨S4x1024x4096, .f32⟩
  | .hbm, ⟨3, _⟩ => ⟨S1x1024, .f32⟩
  | .hbm, ⟨4, _⟩ => ⟨S1x2048x2048, .f32⟩
  | .hbm, ⟨5, _⟩ => ⟨S16384x2048, .f32⟩
  | .hbm, ⟨6, _⟩ => ⟨S16384x1024, .bf16⟩
  | .hbm, ⟨7, _⟩ => ⟨S2048x2048, .f32⟩
  | .hbm, ⟨8, _⟩ => ⟨S2048x2048, .bf16⟩
  | .hbm, ⟨9, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S1x1024x512, .f32⟩
  | .local _ .vmem, ⟨5, _⟩ => ⟨S1x1024x512, .f32⟩
  | .local _ .vmem, ⟨6, _⟩ => ⟨S1x1024, .f32⟩
  | .local _ .vmem, ⟨7, _⟩ => ⟨S2048x2048, .bf16⟩
  | .local _ .vmem, ⟨8, _⟩ => ⟨S512x2048, .f32⟩
  | .local _ .vmem, ⟨9, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutRefIdeal.lean ====
abbrev S4x4096x2048 : Shape := ⟨3, ![4, 4096, 2048]⟩
abbrev S4x4096x1024 : Shape := ⟨3, ![4, 4096, 1024]⟩
abbrev S4x1024x4096 : Shape := ⟨3, ![4, 1024, 4096]⟩
abbrev S1x1024 : Shape := ⟨2, ![1, 1024]⟩
abbrev S1x2048x2048 : Shape := ⟨3, ![1, 2048, 2048]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S2048x2048 : Shape := ⟨2, ![2048, 2048]⟩
abbrev S16384x2048 : Shape := ⟨2, ![16384, 2048]⟩

abbrev nBuf : Space → Nat
  | .hbm => 29
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x1024, .bf16⟩
  | .hbm, ⟨2, _⟩ => ⟨S4x1024x4096, .f32⟩
  | .hbm, ⟨3, _⟩ => ⟨S1x1024, .f32⟩
  | .hbm, ⟨4, _⟩ => ⟨S1x2048x2048, .f32⟩
  | .hbm, ⟨5, _⟩ => ⟨S4x4096x1024, .f32⟩
  | .hbm, ⟨6, _⟩ => ⟨S4x4096x1024, .f32⟩
  | .hbm, ⟨7, _⟩ => ⟨S1024, .f32⟩
  | .hbm, ⟨8, _⟩ => ⟨S4x4096x1024, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x1024, .f32⟩
  | .hbm, ⟨20, _⟩ => ⟨S4x4096x1024, .f32⟩
  | .hbm, ⟨21, _⟩ => ⟨S1x1x1024, .f32⟩
  | .hbm, ⟨22, _⟩ => ⟨S4x4096x1024, .f32⟩
  | .hbm, ⟨23, _⟩ => ⟨S4x4096x1024, .f32⟩
  | .hbm, ⟨24, _⟩ => ⟨S4x4096x2048, .f32⟩
  | .hbm, ⟨25, _⟩ => ⟨S2048x2048, .f32⟩
  | .hbm, ⟨26, _⟩ => ⟨S4x4096x2048, .f32⟩
  | .hbm, ⟨27, _⟩ => ⟨S4x4096x2048, .f32⟩
  | .hbm, ⟨28, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Attn.lean ====
abbrev S4x4096x2048 : Shape := ⟨3, ![4, 4096, 2048]⟩
abbrev S1x2048 : Shape := ⟨2, ![1, 2048]⟩
abbrev S1x2048x5680 : Shape := ⟨3, ![1, 2048, 5680]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S2048x5680 : Shape := ⟨2, ![2048, 5680]⟩
abbrev S2048x5760 : Shape := ⟨2, ![2048, 5760]⟩
abbrev S2048x256 : Shape := ⟨2, ![2048, 256]⟩
abbrev S2048x512 : Shape := ⟨2, ![2048, 512]⟩
abbrev S512x2048 : Shape := ⟨2, ![512, 2048]⟩
abbrev S16384x2048 : Shape := ⟨2, ![16384, 2048]⟩
abbrev S4x1024x4096 : Shape := ⟨3, ![4, 1024, 4096]⟩
abbrev S16384x256 : Shape := ⟨2, ![16384, 256]⟩
abbrev S4x32x256x128 : Shape := ⟨4, ![4, 32, 256, 128]⟩
abbrev S4x128x4096 : Shape := ⟨3, ![4, 128, 4096]⟩
abbrev S2048x1024 : Shape := ⟨2, ![2048, 1024]⟩
abbrev S2048x128 : Shape := ⟨2, ![2048, 128]⟩
abbrev S512x128 : Shape := ⟨2, ![512, 128]⟩
abbrev S1x1024x512 : Shape := ⟨3, ![1, 1024, 512]⟩
abbrev S512x256 : Shape := ⟨2, ![512, 256]⟩
abbrev S1x4x256x128 : Shape := ⟨4, ![1, 4, 256, 128]⟩
abbrev S1x128x512 : Shape := ⟨3, ![1, 128, 512]⟩
abbrev S256x128 : Shape := ⟨2, ![256, 128]⟩
abbrev S256x2048 : Shape := ⟨2, ![256, 2048]⟩
abbrev S256 : Shape := ⟨1, ![256]⟩
abbrev S256x1 : Shape := ⟨2, ![256, 1]⟩
abbrev S256x1024 : Shape := ⟨2, ![256, 1024]⟩
abbrev S128x256 : Shape := ⟨2, ![128, 256]⟩
abbrev S1x128x256 : Shape := ⟨3, ![1, 128, 256]⟩
abbrev S256x256 : Shape := ⟨2, ![256, 256]⟩
abbrev S1x1x256x128 : Shape := ⟨4, ![1, 1, 256, 128]⟩

abbrev nBuf : Space → Nat
  | .hbm => 52
  | .vmem => 30
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S1x2048x5680, .f32⟩
  | .hbm, ⟨3, _⟩ => ⟨S4096, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S4096x1, .f32⟩
  | .hbm, ⟨19, _⟩ => ⟨S1x32, .f32⟩
  | .hbm, ⟨20, _⟩ => ⟨S4096x32, .f32⟩
  | .hbm, ⟨21, _⟩ => ⟨S4096x32, .f32⟩
  | .hbm, ⟨22, _⟩ => ⟨S4096x32, .f32⟩
  | .hbm, ⟨23, _⟩ => ⟨S4096x32, .f32⟩
  | .hbm, ⟨24, _⟩ => ⟨S4096x32, .f32⟩
  | .hbm, ⟨25, _⟩ => ⟨S4096x64, .f32⟩
  | .hbm, ⟨26, _⟩ => ⟨S1x4096x1x64, .f32⟩
  | .hbm, ⟨27, _⟩ => ⟨S1x4096x2x64, .f32⟩
  | .hbm, ⟨28, _⟩ => ⟨S4096x128, .f32⟩
  | .hbm, ⟨29, _⟩ => ⟨S4096x32, .f32⟩
  | .hbm, ⟨30, _⟩ => ⟨S4096x64, .f32⟩
  | .hbm, ⟨31, _⟩ => ⟨S1x4096x1x64, .f32⟩
  | .hbm, ⟨32, _⟩ => ⟨S1x4096x2x64, .f32⟩
  | .hbm, ⟨33, _⟩ => ⟨S4096x128, .f32⟩
  | .hbm, ⟨34, _⟩ => ⟨S2048x5680, .f32⟩
  | .hbm, ⟨35, _⟩ => ⟨S2048x5680, .bf16⟩
  | .hbm, ⟨36, _⟩ => ⟨S_, .i32⟩
  | .hbm, ⟨37, _⟩ => ⟨S_, .bf16⟩
  | .hbm, ⟨38, _⟩ => ⟨S2048x5760, .bf16⟩
  | .hbm, ⟨39, _⟩ => ⟨S2048x256, .bf16⟩
  | .hbm, ⟨40, _⟩ => ⟨S2048x256, .bf16⟩
  | .hbm, ⟨41, _⟩ => ⟨S2048x512, .bf16⟩
  | .hbm, ⟨42, _⟩ => ⟨S512x2048, .bf16⟩
  | .hbm, ⟨43, _⟩ => ⟨S16384x2048, .f32⟩
  | .hbm, ⟨44, _⟩ => ⟨S4x1024x4096, .bf16⟩
  | .hbm, ⟨45, _⟩ => ⟨S16384x256, .f32⟩
  | .hbm, ⟨46, _⟩ => ⟨S16384x256, .f32⟩
  | .hbm, ⟨47, _⟩ => ⟨S16384x256, .bf16⟩
  | .hbm, ⟨48, _⟩ => ⟨S16384x256, .bf16⟩
  | .hbm, ⟨49, _⟩ => ⟨S4x32x256x128, .bf16⟩
  | .hbm, ⟨50, _⟩ => ⟨S4x32x256x128, .bf16⟩
  | .hbm, ⟨51, _⟩ => ⟨S4x128x4096, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x128, .bf16⟩
  | .local _ .vmem, ⟨9, _⟩ => ⟨S512x2048, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S1x1024x512, .bf16⟩
  | .local _ .vmem, ⟨15, _⟩ => ⟨S1x1024x512, .bf16⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x256, .bf16⟩
  | .local _ .vmem, ⟨21, _⟩ => ⟨S512x256, .bf16⟩
  | .local _ .vmem, ⟨22, _⟩ => ⟨S512x256, .bf16⟩
  | .local _ .vmem, ⟨23, _⟩ => ⟨S512x256, .bf16⟩
  | .local _ .vmem, ⟨24, _⟩ => ⟨S1x4x256x128, .bf16⟩
  | .local _ .vmem, ⟨25, _⟩ => ⟨S1x4x256x128, .bf16⟩
  | .local _ .vmem, ⟨26, _⟩ => ⟨S1x4x256x128, .bf16⟩
  | .local _ .vmem, ⟨27, _⟩ => ⟨S1x4x256x128, .bf16⟩
  | .local _ .vmem, ⟨28, _⟩ => ⟨S1x128x512, .f32⟩
  | .local _ .vmem, ⟨29, _⟩ => ⟨S1x128x512, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_c : Ref sig .tc := ⟨.hbm, 36, rfl⟩
abbrev main_call0_v0 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35_0 : Ref sig .tc := ⟨.hbm, 44, rfl⟩
abbrev main_v35_1 : Ref sig .tc := ⟨.hbm, 45, rfl⟩
abbrev main_v35_2 : Ref sig .tc := ⟨.hbm, 46, rfl⟩
abbrev main_v35_3 : Ref sig .tc := ⟨.hbm, 47, rfl⟩
abbrev main_v35_4 : Ref sig .tc := ⟨.hbm, 48, rfl⟩
abbrev main_v35_5 : Ref sig .tc := ⟨.hbm, 49, rfl⟩
abbrev main_v35_6 : Ref sig .tc := ⟨.hbm, 50, rfl⟩
abbrev main_v35_7 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_3 (i : grid0.Coords) : Fin 2 → Nat :=
  let arg0 : BitVec 32 := BitVec.ofNat 32 (i 0).val
  let c0_i32 : BitVec 32 := 0#32
  let c16_i32 : BitVec 32 := 16#32
  let c0_i32_0 : BitVec 32 := 0#32
  ![c0_i32.toNat, c16_i32.toNat]

def cc0_transform_4 (i : grid0.Coords) : Fin 2 → Nat :=
  let arg0 : BitVec 32 := BitVec.ofNat 32 (i 0).val
  let c0_i32 : BitVec 32 := 0#32
  let c17_i32 : BitVec 32 := 17#32
  let c0_i32_0 : BitVec 32 := 0#32
  ![c0_i32.toNat, c17_i32.toNat]

def cc0_transform_5 (i : grid0.Coords) : Fin 2 → Nat :=
  let arg0 : BitVec 32 := BitVec.ofNat 32 (i 0).val
  let c0_i32 : BitVec 32 := 0#32
  let c18_i32 : BitVec 32 := 18#32
  let c0_i32_0 : BitVec 32 := 0#32
  ![c0_i32.toNat, c18_i32.toNat]

def cc0_transform_6 (i : grid0.Coords) : Fin 2 → Nat :=
  let arg0 : BitVec 32 := BitVec.ofNat 32 (i 0).val
  let c0_i32 : BitVec 32 := 0#32
  let c20_i32 : BitVec 32 := 20#32
  let c0_i32_0 : BitVec 32 := 0#32
  ![c0_i32.toNat, c20_i32.toNat]

def cc0_transform_7 (i : grid0.Coords) : Fin 2 → Nat :=
  let arg0 : BitVec 32 := BitVec.ofNat 32 (i 0).val
  let c0_i32 : BitVec 32 := 0#32
  let c44_i32 : BitVec 32 := 44#32
  let c0_i32_0 : BitVec 32 := 0#32
  ![c0_i32.toNat, c44_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_17 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_18 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x4x256x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x4x256x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x128x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== AttnRefIdeal.lean ====
abbrev S4x4096x2048 : Shape := ⟨3, ![4, 4096, 2048]⟩
abbrev S1x2048 : Shape := ⟨2, ![1, 2048]⟩
abbrev S1x2048x5680 : Shape := ⟨3, ![1, 2048, 5680]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S2048 : Shape := ⟨1, ![2048]⟩
abbrev S4x4096 : Shape := ⟨2, ![4, 4096]⟩
abbrev S4x4096x1 : Shape := ⟨3, ![4, 4096, 1]⟩
abbrev S1x1x2048 : Shape := ⟨3, ![1, 1, 2048]⟩
abbrev S2048x5680 : Shape := ⟨2, ![2048, 5680]⟩
abbrev S4x4096x5680 : Shape := ⟨3, ![4, 4096, 5680]⟩
abbrev S4x4096x3072 : Shape := ⟨3, ![4, 4096, 3072]⟩
abbrev S4x4096x1024 : Shape := ⟨3, ![4, 4096, 1024]⟩
abbrev S4x4096x256 : Shape := ⟨3, ![4, 4096, 256]⟩
abbrev S4x4096x48 : Shape := ⟨3, ![4, 4096, 48]⟩
abbrev S4x4096x16x64 : Shape := ⟨4, ![4, 4096, 16, 64]⟩
abbrev S4x4096x16x32 : Shape := ⟨4, ![4, 4096, 16, 32]⟩
abbrev S1x4096x1x32 : Shape := ⟨4, ![1, 4096, 1, 32]⟩
abbrev S4x4096x128 : Shape := ⟨3, ![4, 4096, 128]⟩
abbrev S4x1024x4096 : Shape := ⟨3, ![4, 1024, 4096]⟩
abbrev S4x4096x4x64 : Shape := ⟨4, ![4, 4096, 4, 64]⟩
abbrev S4x4096x4x32 : Shape := ⟨4, ![4, 4096, 4, 32]⟩
abbrev S16384x256 : Shape := ⟨2, ![16384, 256]⟩
abbrev S4x32x128x256 : Shape := ⟨4, ![4, 32, 128, 256]⟩
abbrev S4x32x256x128 : Shape := ⟨4, ![4, 32, 256, 128]⟩
abbrev S4x128x4096 : Shape := ⟨3, ![4, 128, 4096]⟩

abbrev nBuf : Space → Nat
  | .hbm => 150
  | .vmem => 0
  | .smem => 0
  | _ => 0

abbrev hbmTy0_0 (i : Nat) : BufTy := match i % 128 with
  | 0 => ⟨S4x4096x2048, .f32⟩
  | 1 => ⟨S1x2048, .f32⟩
  | 2 => ⟨S1x2048x5680, .f32⟩
  | 3 => ⟨S4096, .f32⟩
  | 4 => ⟨S32, .f32⟩
  | 5 => ⟨S_, .f32⟩
  | 6 => ⟨S32, .f32⟩
  | 7 => ⟨S32, .f32⟩
  | 8 => ⟨S_, .f32⟩
  | 9 => ⟨S32, .f32⟩
  | 10 => ⟨S32, .f32⟩
  | 11 => ⟨S32, .f32⟩
  | 12 => ⟨S_, .f32⟩
  | 13 => ⟨S32, .f32⟩
  | 14 => ⟨S32, .f32⟩
  | 15 => ⟨S_, .f32⟩
  | 16 => ⟨S32, .f32⟩
  | 17 => ⟨S32, .f32⟩
  | 18 => ⟨S4096x1, .f32⟩
  | 19 => ⟨S1x32, .f32⟩
  | 20 => ⟨S4096x32, .f32⟩
  | 21 => ⟨S4096x32, .f32⟩
  | 22 => ⟨S4096x32, .f32⟩
  | 23 => ⟨S4096x32, .f32⟩
  | 24 => ⟨S4096x32, .f32⟩
  | 25 => ⟨S2048, .f32⟩
  | 26 => ⟨S4x4096x2048, .f32⟩
  | 27 => ⟨S_, .f32⟩
  | 28 => ⟨S4x4096, .f32⟩
  | 29 => ⟨S4x4096x1, .f32⟩
  | 30 => ⟨S_, .f32⟩
  | 31 => ⟨S4x4096x1, .f32⟩
  | 32 => ⟨S4x4096x1, .f32⟩
  | 33 => ⟨S_, .f32⟩
  | 34 => ⟨S4x4096x1, .f32⟩
  | 35 => ⟨S4x4096x1, .f32⟩
  | 36 => ⟨S4x4096x1, .f32⟩
  | 37 => ⟨S4x4096x2048, .f32⟩
  | 38 => ⟨S4x4096x2048, .f32⟩
  | 39 => ⟨S1x1x2048, .f32⟩
  | 40 => ⟨S4x4096x2048, .f32⟩
  | 41 => ⟨S4x4096x2048, .f32⟩
  | 42 => ⟨S2048x5680, .f32⟩
  | 43 => ⟨S4x4096x5680, .f32⟩
  | 44 => ⟨S4x4096x3072, .f32⟩
  | 45 => ⟨S4x4096x1024, .f32⟩
  | 46 => ⟨S4x4096x256, .f32⟩
  | 47 => ⟨S4x4096x256, .f32⟩
  | 48 => ⟨S4x4096x256, .f32⟩
  | 49 => ⟨S4x4096x256, .f32⟩
  | 50 => ⟨S4x4096x256, .f32⟩
  | 51 => ⟨S4x4096x256, .f32⟩
  | 52 => ⟨S4x4096x48, .f32⟩
  | 53 => ⟨S4x4096x16x64, .f32⟩
  | 54 => ⟨S4x4096x16x32, .f32⟩
  | 55 => ⟨S4x4096x16x32, .f32⟩
  | 56 => ⟨S1x4096x1x32, .f32⟩
  | 57 => ⟨S1x4096x1x32, .f32⟩
  | 58 => ⟨S4x4096x16x32, .f32⟩
  | 59 => ⟨S4x4096x16x32, .f32⟩
  | 60 => ⟨S4x4096x16x32, .f32⟩
  | 61 => ⟨S4x4096x16x32, .f32⟩
  | 62 => ⟨S4x4096x16x32, .f32⟩
  | 63 => ⟨S4x4096x16x32, .f32⟩
  | 64 => ⟨S4x4096x16x32, .f32⟩
  | 65 => ⟨S4x4096x16x32, .f32⟩
  | 66 => ⟨S4x4096x16x32, .f32⟩
  | 67 => ⟨S4x4096x16x32, .f32⟩
  | 68 => ⟨S4x4096x16x64, .f32⟩
  | 69 => ⟨S4x4096x1024, .f32⟩
  | 70 => ⟨S_, .f32⟩
  | 71 => ⟨S4x4096x1024, .f32⟩
  | 72 => ⟨S4x4096x1024, .f32⟩
  | 73 => ⟨S_, .i32⟩
  | 74 => ⟨S_, .f32⟩
  | 75 => ⟨S4x4096x128, .f32⟩
  | 76 => ⟨S4x4096x128, .f32⟩
  | 77 => ⟨S4x4096x128, .f32⟩
  | 78 => ⟨S_, .f32⟩
  | 79 => ⟨S4x4096x128, .f32⟩
  | 80 => ⟨S4x4096x128, .f32⟩
  | 81 => ⟨S_, .f32⟩
  | 82 => ⟨S4x4096x128, .f32⟩
  | 83 => ⟨S4x4096x128, .f32⟩
  | 84 => ⟨S4x1024x4096, .f32⟩
  | 85 => ⟨S4x1024x4096, .bf16⟩
  | 86 => ⟨S4x4096x4x64, .f32⟩
  | 87 => ⟨S4x4096x4x32, .f32⟩
  | 88 => ⟨S4x4096x4x32, .f32⟩
  | 89 => ⟨S1x4096x1x32, .f32⟩
  | 90 => ⟨S1x4096x1x32, .f32⟩
  | 91 => ⟨S4x4096x4x32, .f32⟩
  | 92 => ⟨S4x4096x4x32, .f32⟩
  | 93 => ⟨S4x4096x4x32, .f32⟩
  | 94 => ⟨S4x4096x4x32, .f32⟩
  | 95 => ⟨S4x4096x4x32, .f32⟩
  | 96 => ⟨S4x4096x4x32, .f32⟩
  | 97 => ⟨S4x4096x4x32, .f32⟩
  | 98 => ⟨S4x4096x4x32, .f32⟩
  | 99 => ⟨S4x4096x4x32, .f32⟩
  | 100 => ⟨S4x4096x4x32, .f32⟩
  | 101 => ⟨S4x4096x4x64, .f32⟩
  | 102 => ⟨S4x4096x256, .f32⟩
  | 103 => ⟨S16384x256, .f32⟩
  | 104 => ⟨S16384x256, .f32⟩
  | 105 => ⟨S4x4096x4x64, .f32⟩
  | 106 => ⟨S4x4096x4x32, .f32⟩
  | 107 => ⟨S4x4096x4x32, .f32⟩
  | 108 => ⟨S1x4096x1x32, .f32⟩
  | 109 => ⟨S1x4096x1x32, .f32⟩
  | 110 => ⟨S4x4096x4x32, .f32⟩
  | 111 => ⟨S4x4096x4x32, .f32⟩
  | 112 => ⟨S4x4096x4x32, .f32⟩
  | 113 => ⟨S4x4096x4x32, .f32⟩
  | 114 => ⟨S4x4096x4x32, .f32⟩
  | 115 => ⟨S4x4096x4x32, .f32⟩
  | 116 => ⟨S4x4096x4x32, .f32⟩
  | 117 => ⟨S4x4096x4x32, .f32⟩
  | 118 => ⟨S4x4096x4x32, .f32⟩
  | 119 => ⟨S4x4096x4x32, .f32⟩
  | 120 => ⟨S4x4096x4x64, .f32⟩
  | 121 => ⟨S4x4096x256, .f32⟩
  | 122 => ⟨S16384x256, .f32⟩
  | 123 => ⟨S16384x256, .bf16⟩
  | 124 => ⟨S4x4096x4x64, .f32⟩
  | 125 => ⟨S4x4096x4x32, .f32⟩
  | 126 => ⟨S4x4096x4x32, .f32⟩
  | 127 => ⟨S1x4096x1x32, .f32⟩
  | _ => ⟨S4x4096x2048, .f32⟩

abbrev hbmTy0_1 (i : Nat) : BufTy := match i % 128 with
  | 0 => ⟨S1x4096x1x32, .f32⟩
  | 1 => ⟨S4x4096x4x32, .f32⟩
  | 2 => ⟨S4x4096x4x32, .f32⟩
  | 3 => ⟨S4x4096x4x32, .f32⟩
  | 4 => ⟨S4x4096x4x32, .f32⟩
  | 5 => ⟨S4x4096x4x32, .f32⟩
  | 6 => ⟨S4x4096x4x32, .f32⟩
  | 7 => ⟨S4x4096x4x32, .f32⟩
  | 8 => ⟨S4x4096x4x32, .f32⟩
  | 9 => ⟨S4x4096x4x32, .f32⟩
  | 10 => ⟨S4x4096x4x32, .f32⟩
  | 11 => ⟨S4x4096x4x64, .f32⟩
  | 12 => ⟨S4x4096x256, .f32⟩
  | 13 => ⟨S16384x256, .f32⟩
  | 14 => ⟨S16384x256, .bf16⟩
  | 15 => ⟨S4x32x128x256, .f32⟩
  | 16 => ⟨S4x32x256x128, .f32⟩
  | 17 => ⟨S4x32x256x128, .bf16⟩
  | 18 => ⟨S4x32x128x256, .f32⟩
  | 19 => ⟨S4x32x256x128, .f32⟩
  | 20 => ⟨S4x32x256x128, .bf16⟩
  | 21 => ⟨S4x128x4096, .f32⟩
  | _ => ⟨S4x4096x2048, .f32⟩

abbrev hbmTy (i : Nat) : BufTy := match i / 128 with
  | 0 => hbmTy0_0 i
  | 1 => hbmTy0_1 i
  | _ => ⟨S4x4096x2048, .f32⟩

abbrev bufTy : (tb : Table) → Fin (tcTables nBuf tb) → BufTy
  | .hbm, ⟨i, _⟩ => hbmTy i
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_cst_6 : Ref sig .tc := ⟨.hbm, 70, rfl⟩
abbrev main_v60 : Ref sig .tc := ⟨.hbm, 71, rfl⟩
abbrev main_v61 : Ref sig .tc := ⟨.hbm, 72, rfl⟩
abbrev main_c : Ref sig .tc := ⟨.hbm, 73, rfl⟩
abbrev main_call0_v0 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_cst_7 : Ref sig .tc := ⟨.hbm, 78, rfl⟩
abbrev main_v65 : Ref sig .tc := ⟨.hbm, 79, rfl⟩
abbrev main_v66 : Ref sig .tc := ⟨.hbm, 80, rfl⟩
abbrev main_cst_8 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩

abbrev nD : Nat := 1
abbrev τ : Topo := Topo.v7x

variable {F : FTy → Type} [FloatOps F]
-- ==== Cmpk.lean ====
abbrev S16384x256 : Shape := ⟨2, ![16384, 256]⟩
abbrev S1x32x64x256 : Shape := ⟨4, ![1, 32, 64, 256]⟩
abbrev S1x256x64 : Shape := ⟨3, ![1, 256, 64]⟩
abbrev S1x32x64 : Shape := ⟨3, ![1, 32, 64]⟩
abbrev S32x64x256 : Shape := ⟨3, ![32, 64, 256]⟩
abbrev S256x64 : Shape := ⟨2, ![256, 64]⟩
abbrev S32x64 : Shape := ⟨2, ![32, 64]⟩
abbrev S2x2 : Shape := ⟨2, ![2, 2]⟩
abbrev S_ : Shape := ⟨0, ![]⟩
abbrev S32x1x64x1x256 : Shape := ⟨5, ![32, 1, 64, 1, 256]⟩
abbrev S1x2x1x2x1 : Shape := ⟨5, ![1, 2, 1, 2, 1]⟩
abbrev S32x2x64x2x256 : Shape := ⟨5, ![32, 2, 64, 2, 256]⟩
abbrev S32x128x512 : Shape := ⟨3, ![32, 128, 512]⟩
abbrev S1x32x1x64 : Shape := ⟨4, ![1, 32, 1, 64]⟩
abbrev S1x32x2x64 : Shape := ⟨4, ![1, 32, 2, 64]⟩
abbrev S32x128 : Shape := ⟨2, ![32, 128]⟩
abbrev S32x1x128 : Shape := ⟨3, ![32, 1, 128]⟩
abbrev S256x128 : Shape := ⟨2, ![256, 128]⟩
abbrev S4x4x256x128 : Shape := ⟨4, ![4, 4, 256, 128]⟩
abbrev S4096x128 : Shape := ⟨2, ![4096, 128]⟩
abbrev S1x4x256x128 : Shape := ⟨4, ![1, 4, 256, 128]⟩
abbrev S256x512 : Shape := ⟨2, ![256, 512]⟩
abbrev S1x1x128 : Shape := ⟨3, ![1, 1, 128]⟩
abbrev S1x128 : Shape := ⟨2, ![1, 128]⟩
abbrev S1x128x512 : Shape := ⟨3, ![1, 128, 512]⟩
abbrev S128x512 : Shape := ⟨2, ![128, 512]⟩
abbrev S256x256 : Shape := ⟨2, ![256, 256]⟩
abbrev S1x1x256x128 : Shape := ⟨4, ![1, 1, 256, 128]⟩

abbrev nBuf : Space → Nat
  | .hbm => 30
  | .vmem => 9
  | .smem => 0
  | _ => 0

abbrev bufTy : (tb : Table) → Fin (tcTables nBuf tb) → BufTy
  | .hbm, ⟨0, _⟩ => ⟨S16384x256, .f32⟩
  | .hbm, ⟨1, _⟩ => ⟨S1x32x64x256, .f32⟩
  | .hbm, ⟨2, _⟩ => ⟨S1x256x64, .f32⟩
  | .hbm, ⟨3, _⟩ => ⟨S1x32x64, .f32⟩
  | .hbm, ⟨4, _⟩ => ⟨S32x64x256, .f32⟩
  | .hbm, ⟨5, _⟩ => ⟨S256x64, .f32⟩
  | .hbm, ⟨6, _⟩ => ⟨S32x64, .f32⟩
  | .hbm, ⟨7, _⟩ => ⟨S2x2, .i32⟩
  | .hbm, ⟨8, _⟩ => ⟨S2x2, .i32⟩
  | .hbm, ⟨9, _⟩ => ⟨S_, .i32⟩
  | .hbm, ⟨10, _⟩ => ⟨S2x2, .i32⟩
  | .hbm, ⟨11, _⟩ => ⟨S2x2, .i32⟩
  | .hbm, ⟨12, _⟩ => ⟨S2x2, .i1⟩
  | .hbm, ⟨13, _⟩ => ⟨S2x2, .f32⟩
  | .hbm, ⟨14, _⟩ => ⟨S32x1x64x1x256, .f32⟩
  | .hbm, ⟨15, _⟩ => ⟨S1x2x1x2x1, .f32⟩
  | .hbm, ⟨16, _⟩ => ⟨S32x2x64x2x256, .f32⟩
  | .hbm, ⟨17, _⟩ => ⟨S32x2x64x2x256, .f32⟩
  | .hbm, ⟨18, _⟩ => ⟨S32x2x64x2x256, .f32⟩
  | .hbm, ⟨19, _⟩ => ⟨S32x128x512, .f32⟩
  | .hbm, ⟨20, _⟩ => ⟨S1x32x1x64, .f32⟩
  | .hbm, ⟨21, _⟩ => ⟨S1x32x2x64, .f32⟩
  | .hbm, ⟨22, _⟩ => ⟨S32x128, .f32⟩
  | .hbm, ⟨23, _⟩ => ⟨S32x1x128, .f32⟩
  | .hbm, ⟨24, _⟩ => ⟨S32x128x512, .bf16⟩
  | .hbm, ⟨25, _⟩ => ⟨S256x64, .bf16⟩
  | .hbm, ⟨26, _⟩ => ⟨S_, .i32⟩
  | .hbm, ⟨27, _⟩ => ⟨S_, .bf16⟩
  | .hbm, ⟨28, _⟩ => ⟨S256x128, .bf16⟩
  | .hbm, ⟨29, _⟩ => ⟨S4x4x256x128, .bf16⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S32x1x128, .f32⟩
  | .local _ .vmem, ⟨5, _⟩ => ⟨S32x128x512, .bf16⟩
  | .local _ .vmem, ⟨6, _⟩ => ⟨S256x128, .bf16⟩
  | .local _ .vmem, ⟨7, _⟩ => ⟨S1x4x256x128, .bf16⟩
  | .local _ .vmem, ⟨8, _⟩ => ⟨S1x4x256x128, .bf16⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c_0 : Ref sig .tc := ⟨.hbm, 26, rfl⟩
abbrev main_call0_v0 : Ref sig .tc := ⟨.hbm, 27, rfl⟩
abbrev main_v21 : Ref sig .tc := ⟨.hbm, 28, rfl⟩
abbrev main_v22 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x4x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== CmpkRefIdeal.lean ====
abbrev S16384x256 : Shape := ⟨2, ![16384, 256]⟩
abbrev S1x32x64x256 : Shape := ⟨4, ![1, 32, 64, 256]⟩
abbrev S1x256x64 : Shape := ⟨3, ![1, 256, 64]⟩
abbrev S1x32x64 : Shape := ⟨3, ![1, 32, 64]⟩
abbrev S4x256x16x4x64 : Shape := ⟨5, ![4, 256, 16, 4, 64]⟩
abbrev S4x255x16x4x64 : Shape := ⟨5, ![4, 255, 16, 4, 64]⟩
abbrev S4x1x16x4x64 : Shape := ⟨5, ![4, 1, 16, 4, 64]⟩
abbrev S4x256x32x4x64 : Shape := ⟨5, ![4, 256, 32, 4, 64]⟩
abbrev S32x64 : Shape := ⟨2, ![32, 64]⟩
abbrev S1x1x32x1x64 : Shape := ⟨5, ![1, 1, 32, 1, 64]⟩
abbrev S32x64x256 : Shape := ⟨3, ![32, 64, 256]⟩
abbrev S4x256x4x256 : Shape := ⟨4, ![4, 256, 4, 256]⟩
abbrev S_ : Shape := ⟨0, ![]⟩
abbrev S256x64 : Shape := ⟨2, ![256, 64]⟩
abbrev S4x256x4x64 : Shape := ⟨4, ![4, 256, 4, 64]⟩
abbrev S4x4x256x64 : Shape := ⟨4, ![4, 4, 256, 64]⟩
abbrev S4x4x256x128 : Shape := ⟨4, ![4, 4, 256, 128]⟩

abbrev nBuf : Space → Nat
  | .hbm => 39
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S1x32x64x256, .f32⟩
  | .hbm, ⟨2, _⟩ => ⟨S1x256x64, .f32⟩
  | .hbm, ⟨3, _⟩ => ⟨S1x32x64, .f32⟩
  | .hbm, ⟨4, _⟩ => ⟨S4x256x16x4x64, .f32⟩
  | .hbm, ⟨5, _⟩ => ⟨S4x255x16x4x64, .f32⟩
  | .hbm, ⟨6, _⟩ => ⟨S4x1x16x4x64, .f32⟩
  | .hbm, ⟨7, _⟩ => ⟨S4x256x16x4x64, .f32⟩
  | .hbm, ⟨8, _⟩ => ⟨S4x256x32x4x64, .f32⟩
  | .hbm, ⟨9, _⟩ => ⟨S32x64, .f32⟩
  | .hbm, ⟨10, _⟩ => ⟨S1x1x32x1x64, .f32⟩
  | .hbm, ⟨11, _⟩ => ⟨S4x256x32x4x64, .f32⟩
  | .hbm, ⟨12, _⟩ => ⟨S4x256x32x4x64, .f32⟩
  | .hbm, ⟨13, _⟩ => ⟨S32x64x256, .f32⟩
  | .hbm, ⟨14, _⟩ => ⟨S4x256x4x256, .f32⟩
  | .hbm, ⟨15, _⟩ => ⟨S4x256x4x256, .f32⟩
  | .hbm, ⟨16, _⟩ => ⟨S4x256x4x256, .f32⟩
  | .hbm, ⟨17, _⟩ => ⟨S_, .f32⟩
  | .hbm, ⟨18, _⟩ => ⟨S4x256x4x256, .f32⟩
  | .hbm, ⟨19, _⟩ => ⟨S4x256x4x256, .f32⟩
  | .hbm, ⟨20, _⟩ => ⟨S4x256x4x256, .f32⟩
  | .hbm, ⟨21, _⟩ => ⟨S_, .f32⟩
  | .hbm, ⟨22, _⟩ => ⟨S4x256x4x256, .f32⟩
  | .hbm, ⟨23, _⟩ => ⟨S4x256x4x256, .f32⟩
  | .hbm, ⟨24, _⟩ => ⟨S4x256x4x256, .f32⟩
  | .hbm, ⟨25, _⟩ => ⟨S_, .f32⟩
  | .hbm, ⟨26, _⟩ => ⟨S4x256x4x256, .f32⟩
  | .hbm, ⟨27, _⟩ => ⟨S4x256x4x256, .f32⟩
  | .hbm, ⟨28, _⟩ => ⟨S_, .f32⟩
  | .hbm, ⟨29, _⟩ => ⟨S4x256x4x256, .f32⟩
  | .hbm, ⟨30, _⟩ => ⟨S4x256x4x256, .f32⟩
  | .hbm, ⟨31, _⟩ => ⟨S4x256x4x256, .f32⟩
  | .hbm, ⟨32, _⟩ => ⟨S256x64, .f32⟩
  | .hbm, ⟨33, _⟩ => ⟨S4x256x4x64, .f32⟩
  | .hbm, ⟨34, _⟩ => ⟨S4x4x256x64, .f32⟩
  | .hbm, ⟨35, _⟩ => ⟨S_, .i32⟩
  | .hbm, ⟨36, _⟩ => ⟨S_, .f32⟩
  | .hbm, ⟨37, _⟩ => ⟨S4x4x256x128, .f32⟩
  | .hbm, ⟨38, _⟩ => ⟨S4x4x256x128, .bf16⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c : Ref sig .tc := ⟨.hbm, 35, rfl⟩
abbrev main_call0_v0 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Cmpv.lean ====
abbrev S16384x256 : Shape := ⟨2, ![16384, 256]⟩
abbrev S1x32x64x256 : Shape := ⟨4, ![1, 32, 64, 256]⟩
abbrev S1x256x64 : Shape := ⟨3, ![1, 256, 64]⟩
abbrev S1x32x64 : Shape := ⟨3, ![1, 32, 64]⟩
abbrev S32x64x256 : Shape := ⟨3, ![32, 64, 256]⟩
abbrev S256x64 : Shape := ⟨2, ![256, 64]⟩
abbrev S32x64 : Shape := ⟨2, ![32, 64]⟩
abbrev S2x2 : Shape := ⟨2, ![2, 2]⟩
abbrev S_ : Shape := ⟨0, ![]⟩
abbrev S32x1x64x1x256 : Shape := ⟨5, ![32, 1, 64, 1, 256]⟩
abbrev S1x2x1x2x1 : Shape := ⟨5, ![1, 2, 1, 2, 1]⟩
abbrev S32x2x64x2x256 : Shape := ⟨5, ![32, 2, 64, 2, 256]⟩
abbrev S32x128x512 : Shape := ⟨3, ![32, 128, 512]⟩
abbrev S1x32x1x64 : Shape := ⟨4, ![1, 32, 1, 64]⟩
abbrev S1x32x2x64 : Shape := ⟨4, ![1, 32, 2, 64]⟩
abbrev S32x128 : Shape := ⟨2, ![32, 128]⟩
abbrev S32x1x128 : Shape := ⟨3, ![32, 1, 128]⟩
abbrev S64x256 : Shape := ⟨2, ![64, 256]⟩
abbrev S4x4x64x256 : Shape := ⟨4, ![4, 4, 64, 256]⟩
abbrev S4096x128 : Shape := ⟨2, ![4096, 128]⟩
abbrev S1x4x64x256 : Shape := ⟨4, ![1, 4, 64, 256]⟩
abbrev S256x512 : Shape := ⟨2, ![256, 512]⟩
abbrev S256x128 : Shape := ⟨2, ![256, 128]⟩
abbrev S1x1x128 : Shape := ⟨3, ![1, 1, 128]⟩
abbrev S1x128 : Shape := ⟨2, ![1, 128]⟩
abbrev S1x128x512 : Shape := ⟨3, ![1, 128, 512]⟩
abbrev S128x512 : Shape := ⟨2, ![128, 512]⟩
abbrev S256x256 : Shape := ⟨2, ![256, 256]⟩
abbrev S1x1x64x256 : Shape := ⟨4, ![1, 1, 64, 256]⟩

abbrev nBuf : Space → Nat
  | .hbm => 28
  | .vmem => 9
  | .smem => 0
  | _ => 0

abbrev bufTy : (tb : Table) → Fin (tcTables nBuf tb) → BufTy
  | .hbm, ⟨0, _⟩ => ⟨S16384x256, .f32⟩
  | .hbm, ⟨1, _⟩ => ⟨S1x32x64x256, .f32⟩
  | .hbm, ⟨2, _⟩ => ⟨S1x256x64, .f32⟩
  | .hbm, ⟨3, _⟩ => ⟨S1x32x64, .f32⟩
  | .hbm, ⟨4, _⟩ => ⟨S32x64x256, .f32⟩
  | .hbm, ⟨5, _⟩ => ⟨S256x64, .f32⟩
  | .hbm, ⟨6, _⟩ => ⟨S32x64, .f32⟩
  | .hbm, ⟨7, _⟩ => ⟨S2x2, .i32⟩
  | .hbm, ⟨8, _⟩ => ⟨S2x2, .i32⟩
  | .hbm, ⟨9, _⟩ => ⟨S_, .i32⟩
  | .hbm, ⟨10, _⟩ => ⟨S2x2, .i32⟩
  | .hbm, ⟨11, _⟩ => ⟨S2x2, .i32⟩
  | .hbm, ⟨12, _⟩ => ⟨S2x2, .i1⟩
  | .hbm, ⟨13, _⟩ => ⟨S2x2, .f32⟩
  | .hbm, ⟨14, _⟩ => ⟨S32x1x64x1x256, .f32⟩
  | .hbm, ⟨15, _⟩ => ⟨S1x2x1x2x1, .f32⟩
  | .hbm, ⟨16, _⟩ => ⟨S32x2x64x2x256, .f32⟩
  | .hbm, ⟨17, _⟩ => ⟨S32x2x64x2x256, .f32⟩
  | .hbm, ⟨18, _⟩ => ⟨S32x2x64x2x256, .f32⟩
  | .hbm, ⟨19, _⟩ => ⟨S32x128x512, .f32⟩
  | .hbm, ⟨20, _⟩ => ⟨S1x32x1x64, .f32⟩
  | .hbm, ⟨21, _⟩ => ⟨S1x32x2x64, .f32⟩
  | .hbm, ⟨22, _⟩ => ⟨S32x128, .f32⟩
  | .hbm, ⟨23, _⟩ => ⟨S32x1x128, .f32⟩
  | .hbm, ⟨24, _⟩ => ⟨S32x128x512, .bf16⟩
  | .hbm, ⟨25, _⟩ => ⟨S256x64, .bf16⟩
  | .hbm, ⟨26, _⟩ => ⟨S64x256, .bf16⟩
  | .hbm, ⟨27, _⟩ => ⟨S4x4x64x256, .bf16⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S32x1x128, .f32⟩
  | .local _ .vmem, ⟨5, _⟩ => ⟨S32x128x512, .bf16⟩
  | .local _ .vmem, ⟨6, _⟩ => ⟨S64x256, .bf16⟩
  | .local _ .vmem, ⟨7, _⟩ => ⟨S1x4x64x256, .bf16⟩
  | .local _ .vmem, ⟨8, _⟩ => ⟨S1x4x64x256, .bf16⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x4x64x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== CmpvRefIdeal.lean ====
abbrev S16384x256 : Shape := ⟨2, ![16384, 256]⟩
abbrev S1x32x64x256 : Shape := ⟨4, ![1, 32, 64, 256]⟩
abbrev S1x256x64 : Shape := ⟨3, ![1, 256, 64]⟩
abbrev S1x32x64 : Shape := ⟨3, ![1, 32, 64]⟩
abbrev S4x256x16x4x64 : Shape := ⟨5, ![4, 256, 16, 4, 64]⟩
abbrev S4x255x16x4x64 : Shape := ⟨5, ![4, 255, 16, 4, 64]⟩
abbrev S4x1x16x4x64 : Shape := ⟨5, ![4, 1, 16, 4, 64]⟩
abbrev S4x256x32x4x64 : Shape := ⟨5, ![4, 256, 32, 4, 64]⟩
abbrev S32x64 : Shape := ⟨2, ![32, 64]⟩
abbrev S1x1x32x1x64 : Shape := ⟨5, ![1, 1, 32, 1, 64]⟩
abbrev S32x64x256 : Shape := ⟨3, ![32, 64, 256]⟩
abbrev S4x256x4x256 : Shape := ⟨4, ![4, 256, 4, 256]⟩
abbrev S_ : Shape := ⟨0, ![]⟩
abbrev S256x64 : Shape := ⟨2, ![256, 64]⟩
abbrev S4x256x4x64 : Shape := ⟨4, ![4, 256, 4, 64]⟩
abbrev S4x4x64x256 : Shape := ⟨4, ![4, 4, 64, 256]⟩

abbrev nBuf : Space → Nat
  | .hbm => 36
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S1x32x64x256, .f32⟩
  | .hbm, ⟨2, _⟩ => ⟨S1x256x64, .f32⟩
  | .hbm, ⟨3, _⟩ => ⟨S1x32x64, .f32⟩
  | .hbm, ⟨4, _⟩ => ⟨S4x256x16x4x64, .f32⟩
  | .hbm, ⟨5, _⟩ => ⟨S4x255x16x4x64, .f32⟩
  | .hbm, ⟨6, _⟩ => ⟨S4x1x16x4x64, .f32⟩
  | .hbm, ⟨7, _⟩ => ⟨S4x256x16x4x64, .f32⟩
  | .hbm, ⟨8, _⟩ => ⟨S4x256x32x4x64, .f32⟩
  | .hbm, ⟨9, _⟩ => ⟨S32x64, .f32⟩
  | .hbm, ⟨10, _⟩ => ⟨S1x1x32x1x64, .f32⟩
  | .hbm, ⟨11, _⟩ => ⟨S4x256x32x4x64, .f32⟩
  | .hbm, ⟨12, _⟩ => ⟨S4x256x32x4x64, .f32⟩
  | .hbm, ⟨13, _⟩ => ⟨S32x64x256, .f32⟩
  | .hbm, ⟨14, _⟩ => ⟨S4x256x4x256, .f32⟩
  | .hbm, ⟨15, _⟩ => ⟨S4x256x4x256, .f32⟩
  | .hbm, ⟨16, _⟩ => ⟨S4x256x4x256, .f32⟩
  | .hbm, ⟨17, _⟩ => ⟨S_, .f32⟩
  | .hbm, ⟨18, _⟩ => ⟨S4x256x4x256, .f32⟩
  | .hbm, ⟨19, _⟩ => ⟨S4x256x4x256, .f32⟩
  | .hbm, ⟨20, _⟩ => ⟨S4x256x4x256, .f32⟩
  | .hbm, ⟨21, _⟩ => ⟨S_, .f32⟩
  | .hbm, ⟨22, _⟩ => ⟨S4x256x4x256, .f32⟩
  | .hbm, ⟨23, _⟩ => ⟨S4x256x4x256, .f32⟩
  | .hbm, ⟨24, _⟩ => ⟨S4x256x4x256, .f32⟩
  | .hbm, ⟨25, _⟩ => ⟨S_, .f32⟩
  | .hbm, ⟨26, _⟩ => ⟨S4x256x4x256, .f32⟩
  | .hbm, ⟨27, _⟩ => ⟨S4x256x4x256, .f32⟩
  | .hbm, ⟨28, _⟩ => ⟨S_, .f32⟩
  | .hbm, ⟨29, _⟩ => ⟨S4x256x4x256, .f32⟩
  | .hbm, ⟨30, _⟩ => ⟨S4x256x4x256, .f32⟩
  | .hbm, ⟨31, _⟩ => ⟨S4x256x4x256, .f32⟩
  | .hbm, ⟨32, _⟩ => ⟨S256x64, .f32⟩
  | .hbm, ⟨33, _⟩ => ⟨S4x256x4x64, .f32⟩
  | .hbm, ⟨34, _⟩ => ⟨S4x4x64x256, .f32⟩
  | .hbm, ⟨35, _⟩ => ⟨S4x4x64x256, .bf16⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Proof.NsaBody.lean ====
/-
  One grid point of the sparse attention's kernel, run from its twelve buffers at any contents: every load and store
  stays inside its buffer, every loop runs its trips, and the eight inputs are left as they were.
-/
module

public import proofs.«01_k».proof.Proof.NsaBodyPP
public import proofs.«01_k».proof.Proof.NsaBodyPN
public import proofs.«01_k».proof.Proof.NsaBodyNP
public import proofs.«01_k».proof.Proof.NsaBodyNN

@[expose] public section

set_option maxRecDepth 16384

noncomputable section

namespace Cert.Proof.Nsa

open Cert.Nsa Cert.Nsa.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- One grid point of the kernel, from its twelve buffers at any contents: the run ends with the eight inputs
    unchanged and the output and the scratch buffers at some contents. The kernel has three conditionals, so the
    run is made for each of the eight cases. -/
theorem run (c : Dev nD) (i : grid0.Coords) (arg3 : Memref sig .tc .vmem S1x1024x128 .bf16) (harg3 : arg3.IsWhole) (arg4 : Memref sig .tc .vmem S1x128x128 .f32) (harg4 : arg4.IsWhole) (arg5 : Memref sig .tc .vmem S1x4x256x128 .bf16) (harg5 : arg5.IsWhole) (arg6 : Memref sig .tc .vmem S1x4x64x256 .bf16) (harg6 : arg6.IsWhole) (arg7 : Memref sig .tc .vmem S1x4096x256 .bf16) (harg7 : arg7.IsWhole) (arg8 : Memref sig .tc .vmem S1x4096x256 .bf16) (harg8 : arg8.IsWhole) (arg9 : Memref sig .tc .vmem S1x32x256x128 .bf16) (harg9 : arg9.IsWhole) (arg10 : Memref sig .tc .vmem S1x32x256x128 .bf16) (harg10 : arg10.IsWhole) (arg11 : Memref sig .tc .vmem S1x1024x128 .f32) (harg11 : arg11.IsWhole) (arg12 : Memref sig .tc .vmem S4x4096x256 .bf16) (harg12 : arg12.IsWhole) (arg13 : Memref sig .tc .vmem S4x4224x256 .bf16) (harg13 : arg13.IsWhole) (arg14 : Memref sig .tc .vmem S4x64x128 .f32) (harg14 : arg14.IsWhole)
    (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (Q : PUnit → sProp 𝕄) :
    iprop(pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ (iprop(pt c arg3 f3 ∗ pt c arg4 f4 ∗ pt c arg5 f5 ∗ pt c arg6 f6 ∗ pt c arg7 f7 ∗ pt c arg8 f8 ∗ pt c arg9 f9 ∗ pt c arg10 f10 ∗ (∃ f, pt c arg11 f) ∗ (∃ f, pt c arg12 f) ∗ (∃ f, pt c arg13 f) ∗ (∃ f, pt c arg14 f)) -∗ Q ⟨⟩))
    ⊢ wp frame (wpE (defs₀ (F := F)) Variants.none c none) Set.univ (cc0_nsa i arg3 harg3 arg4 harg4 arg5 harg5 arg6 harg6 arg7 harg7 arg8 harg8 arg9 harg9 arg10 harg10 arg11 harg11 arg12 harg12 arg13 harg13 arg14 harg14) Q := by
  by_cases h1 : k0_cond1 i = 1#1 <;> by_cases h2 : k0_cond2 i = 1#1
  · exact runPP c i h1 h2 arg3 harg3 arg4 harg4 arg5 harg5 arg6 harg6 arg7 harg7 arg8 harg8 arg9 harg9 arg10 harg10 arg11 harg11 arg12 harg12 arg13 harg13 arg14 harg14 f3 f4 f5 f6 f7 f8 f9 f10 f11 f12 f13 f14 Q
  · exact runPN c i h1 h2 arg3 harg3 arg4 harg4 arg5 harg5 arg6 harg6 arg7 harg7 arg8 harg8 arg9 harg9 arg10 harg10 arg11 harg11 arg12 harg12 arg13 harg13 arg14 harg14 f3 f4 f5 f6 f7 f8 f9 f10 f11 f12 f13 f14 Q
  · exact runNP c i h1 h2 arg3 harg3 arg4 harg4 arg5 harg5 arg6 harg6 arg7 harg7 arg8 harg8 arg9 harg9 arg10 harg10 arg11 harg11 arg12 harg12 arg13 harg13 arg14 harg14 f3 f4 f5 f6 f7 f8 f9 f10 f11 f12 f13 f14 Q
  · exact runNN c i h1 h2 arg3 harg3 arg4 harg4 arg5 harg5 arg6 harg6 arg7 harg7 arg8 harg8 arg9 harg9 arg10 harg10 arg11 harg11 arg12 harg12 arg13 harg13 arg14 harg14 f3 f4 f5 f6 f7 f8 f9 f10 f11 f12 f13 f14 Q

end Cert.Proof.Nsa

end
-- ==== Proof.NsaIdealBase.lean ====
/-
  What is said of the sparse attention's buffers while one grid point runs.
-/
module

public import proofs.«01_k».proof.Proof.Gen.NsaIdeal.Loops
public import Idealize.ShloMosaic.Lib.Tactic
public import Idealize.ShloMosaic.Lib.Pipeline.Kit

@[expose] public section

set_option maxRecDepth 16384

noncomputable section

namespace Cert.Proof.NsaIdeal

open Cert.NsaIdeal Cert.NsaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The contents of a memref's buffer on a core. -/
abbrev Bf (c : Dev nD) {sp : Space} {S : Shape} {e : EltTy} (M : Memref sig .tc sp S e) : Type := Buf (Elt F) (M.view.loc (c : Thread nD τ))
/-- The buffer held whole at `f`. -/
abbrev pt (c : Dev nD) {sp : Space} {S : Shape} {e : EltTy} (M : Memref sig .tc sp S e) (f : Bf (F := F) c M) : sProp 𝕄 :=
  M.view.loc (c : Thread nD τ) ↦[M.view.set]{fullShare} f

/-- A buffer held at known contents is held at some. -/
theorem some_contents (c : Dev nD) {sp : Space} {S : Shape} {e : EltTy} (M : Memref sig .tc sp S e) (f : Bf (F := F) c M) :
    pt c M f ⊢ iprop(∃ g, pt c M g) := by
  iintro H
  iexists _; iexact H

end Cert.Proof.NsaIdeal

end
-- ==== Proof.NsaIdealBodyPP.lean ====
/-
  One grid point of the sparse attention's kernel with the first conditional taken and the second taken.
-/
module

public import proofs.«01_k».proof.Proof.NsaIdealBase

@[expose] public section

set_option maxRecDepth 16384

noncomputable section

namespace Cert.Proof.NsaIdeal

open Cert.NsaIdeal Cert.NsaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 20000000 in
/-- The run from the twelve buffers at any contents. It is cut in the middle, and the scratch buffers are held at some
    contents from there. -/
theorem runPP (c : Dev nD) (i : grid0.Coords) (k0_h1 : k0_cond1 i = 1#1) (k0_h2 : k0_cond2 i = 1#1) (arg3 : Memref sig .tc .vmem S1x1024x128 .bf16) (harg3 : arg3.IsWhole) (arg4 : Memref sig .tc .vmem S1x128x128 .f32) (harg4 : arg4.IsWhole) (arg5 : Memref sig .tc .vmem S1x4x256x128 .bf16) (harg5 : arg5.IsWhole) (arg6 : Memref sig .tc .vmem S1x4x64x256 .bf16) (harg6 : arg6.IsWhole) (arg7 : Memref sig .tc .vmem S1x4096x256 .bf16) (harg7 : arg7.IsWhole) (arg8 : Memref sig .tc .vmem S1x4096x256 .bf16) (harg8 : arg8.IsWhole) (arg9 : Memref sig .tc .vmem S1x32x256x128 .bf16) (harg9 : arg9.IsWhole) (arg10 : Memref sig .tc .vmem S1x32x256x128 .bf16) (harg10 : arg10.IsWhole) (arg11 : Memref sig .tc .vmem S1x1024x128 .f32) (harg11 : arg11.IsWhole) (arg12 : Memref sig .tc .vmem S4x4096x256 .bf16) (harg12 : arg12.IsWhole) (arg13 : Memref sig .tc .vmem S4x4224x256 .bf16) (harg13 : arg13.IsWhole) (arg14 : Memref sig .tc .vmem S4x64x128 .f32) (harg14 : arg14.IsWhole)
    (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (Q : PUnit → sProp 𝕄) :
    iprop(pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ (iprop(pt c arg3 f3 ∗ pt c arg4 f4 ∗ pt c arg5 f5 ∗ pt c arg6 f6 ∗ pt c arg7 f7 ∗ pt c arg8 f8 ∗ pt c arg9 f9 ∗ pt c arg10 f10 ∗ (∃ f, pt c arg11 f) ∗ (∃ f, pt c arg12 f) ∗ (∃ f, pt c arg13 f) ∗ (∃ f, pt c arg14 f)) -∗ Q ⟨⟩))
    ⊢ wp frame (wpE (defs₀ (F := F)) Variants.none c none) Set.univ (cc0_nsa i arg3 harg3 arg4 harg4 arg5 harg5 arg6 harg6 arg7 harg7 arg8 harg8 arg9 harg9 arg10 harg10 arg11 harg11 arg12 harg12 arg13 harg13 arg14 harg14) Q := by
  by_cases k0_h3 : k0_cond3 i = 1#1
  all_goals
    iintro ⟨H3, H4, H5, H6, H7, H8, H9, H10, H11, H12, H13, H14, Hk⟩
    set_option sl_exec.stopBefore "k0_part48" in sl_exec_parts
    ihave H12 := (some_contents c arg12 _) $$ H12; icases H12 with ⟨%g12, H12⟩
    ihave H13 := (some_contents c arg13 _) $$ H13; icases H13 with ⟨%g13, H13⟩
    ihave H14 := (some_contents c arg14 _) $$ H14; icases H14 with ⟨%g14, H14⟩
    sl_exec_parts
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    iexists _; iexact H14

end Cert.Proof.NsaIdeal

end
-- ==== Proof.NsaIdealBodyPN.lean ====
/-
  One grid point of the sparse attention's kernel with the first conditional taken and the second passed over.
-/
module

public import proofs.«01_k».proof.Proof.NsaIdealBase

@[expose] public section

set_option maxRecDepth 16384

noncomputable section

namespace Cert.Proof.NsaIdeal

open Cert.NsaIdeal Cert.NsaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 20000000 in
/-- The run from the twelve buffers at any contents. It is cut in the middle, and the scratch buffers are held at some
    contents from there. -/
theorem runPN (c : Dev nD) (i : grid0.Coords) (k0_h1 : k0_cond1 i = 1#1) (k0_h2 : ¬k0_cond2 i = 1#1) (arg3 : Memref sig .tc .vmem S1x1024x128 .bf16) (harg3 : arg3.IsWhole) (arg4 : Memref sig .tc .vmem S1x128x128 .f32) (harg4 : arg4.IsWhole) (arg5 : Memref sig .tc .vmem S1x4x256x128 .bf16) (harg5 : arg5.IsWhole) (arg6 : Memref sig .tc .vmem S1x4x64x256 .bf16) (harg6 : arg6.IsWhole) (arg7 : Memref sig .tc .vmem S1x4096x256 .bf16) (harg7 : arg7.IsWhole) (arg8 : Memref sig .tc .vmem S1x4096x256 .bf16) (harg8 : arg8.IsWhole) (arg9 : Memref sig .tc .vmem S1x32x256x128 .bf16) (harg9 : arg9.IsWhole) (arg10 : Memref sig .tc .vmem S1x32x256x128 .bf16) (harg10 : arg10.IsWhole) (arg11 : Memref sig .tc .vmem S1x1024x128 .f32) (harg11 : arg11.IsWhole) (arg12 : Memref sig .tc .vmem S4x4096x256 .bf16) (harg12 : arg12.IsWhole) (arg13 : Memref sig .tc .vmem S4x4224x256 .bf16) (harg13 : arg13.IsWhole) (arg14 : Memref sig .tc .vmem S4x64x128 .f32) (harg14 : arg14.IsWhole)
    (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (Q : PUnit → sProp 𝕄) :
    iprop(pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ (iprop(pt c arg3 f3 ∗ pt c arg4 f4 ∗ pt c arg5 f5 ∗ pt c arg6 f6 ∗ pt c arg7 f7 ∗ pt c arg8 f8 ∗ pt c arg9 f9 ∗ pt c arg10 f10 ∗ (∃ f, pt c arg11 f) ∗ (∃ f, pt c arg12 f) ∗ (∃ f, pt c arg13 f) ∗ (∃ f, pt c arg14 f)) -∗ Q ⟨⟩))
    ⊢ wp frame (wpE (defs₀ (F := F)) Variants.none c none) Set.univ (cc0_nsa i arg3 harg3 arg4 harg4 arg5 harg5 arg6 harg6 arg7 harg7 arg8 harg8 arg9 harg9 arg10 harg10 arg11 harg11 arg12 harg12 arg13 harg13 arg14 harg14) Q := by
  by_cases k0_h3 : k0_cond3 i = 1#1
  all_goals
    iintro ⟨H3, H4, H5, H6, H7, H8, H9, H10, H11, H12, H13, H14, Hk⟩
    set_option sl_exec.stopBefore "k0_part48" in sl_exec_parts
    ihave H12 := (some_contents c arg12 _) $$ H12; icases H12 with ⟨%g12, H12⟩
    ihave H13 := (some_contents c arg13 _) $$ H13; icases H13 with ⟨%g13, H13⟩
    ihave H14 := (some_contents c arg14 _) $$ H14; icases H14 with ⟨%g14, H14⟩
    sl_exec_parts
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    iexists _; iexact H14

end Cert.Proof.NsaIdeal

end
-- ==== Proof.NsaIdealBodyNP.lean ====
/-
  One grid point of the sparse attention's kernel with the first conditional passed over and the second taken.
-/
module

public import proofs.«01_k».proof.Proof.NsaIdealBase

@[expose] public section

set_option maxRecDepth 16384

noncomputable section

namespace Cert.Proof.NsaIdeal

open Cert.NsaIdeal Cert.NsaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 20000000 in
/-- The run from the twelve buffers at any contents. It is cut in the middle, and the scratch buffers are held at some
    contents from there. -/
theorem runNP (c : Dev nD) (i : grid0.Coords) (k0_h1 : ¬k0_cond1 i = 1#1) (k0_h2 : k0_cond2 i = 1#1) (arg3 : Memref sig .tc .vmem S1x1024x128 .bf16) (harg3 : arg3.IsWhole) (arg4 : Memref sig .tc .vmem S1x128x128 .f32) (harg4 : arg4.IsWhole) (arg5 : Memref sig .tc .vmem S1x4x256x128 .bf16) (harg5 : arg5.IsWhole) (arg6 : Memref sig .tc .vmem S1x4x64x256 .bf16) (harg6 : arg6.IsWhole) (arg7 : Memref sig .tc .vmem S1x4096x256 .bf16) (harg7 : arg7.IsWhole) (arg8 : Memref sig .tc .vmem S1x4096x256 .bf16) (harg8 : arg8.IsWhole) (arg9 : Memref sig .tc .vmem S1x32x256x128 .bf16) (harg9 : arg9.IsWhole) (arg10 : Memref sig .tc .vmem S1x32x256x128 .bf16) (harg10 : arg10.IsWhole) (arg11 : Memref sig .tc .vmem S1x1024x128 .f32) (harg11 : arg11.IsWhole) (arg12 : Memref sig .tc .vmem S4x4096x256 .bf16) (harg12 : arg12.IsWhole) (arg13 : Memref sig .tc .vmem S4x4224x256 .bf16) (harg13 : arg13.IsWhole) (arg14 : Memref sig .tc .vmem S4x64x128 .f32) (harg14 : arg14.IsWhole)
    (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (Q : PUnit → sProp 𝕄) :
    iprop(pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ (iprop(pt c arg3 f3 ∗ pt c arg4 f4 ∗ pt c arg5 f5 ∗ pt c arg6 f6 ∗ pt c arg7 f7 ∗ pt c arg8 f8 ∗ pt c arg9 f9 ∗ pt c arg10 f10 ∗ (∃ f, pt c arg11 f) ∗ (∃ f, pt c arg12 f) ∗ (∃ f, pt c arg13 f) ∗ (∃ f, pt c arg14 f)) -∗ Q ⟨⟩))
    ⊢ wp frame (wpE (defs₀ (F := F)) Variants.none c none) Set.univ (cc0_nsa i arg3 harg3 arg4 harg4 arg5 harg5 arg6 harg6 arg7 harg7 arg8 harg8 arg9 harg9 arg10 harg10 arg11 harg11 arg12 harg12 arg13 harg13 arg14 harg14) Q := by
  by_cases k0_h3 : k0_cond3 i = 1#1
  all_goals
    iintro ⟨H3, H4, H5, H6, H7, H8, H9, H10, H11, H12, H13, H14, Hk⟩
    set_option sl_exec.stopBefore "k0_part48" in sl_exec_parts
    ihave H12 := (some_contents c arg12 _) $$ H12; icases H12 with ⟨%g12, H12⟩
    ihave H13 := (some_contents c arg13 _) $$ H13; icases H13 with ⟨%g13, H13⟩
    ihave H14 := (some_contents c arg14 _) $$ H14; icases H14 with ⟨%g14, H14⟩
    sl_exec_parts
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    iexists _; iexact H14

end Cert.Proof.NsaIdeal

end
-- ==== Proof.NsaIdealBodyNN.lean ====
/-
  One grid point of the sparse attention's kernel with the first conditional passed over and the second passed over.
-/
module

public import proofs.«01_k».proof.Proof.NsaIdealBase

@[expose] public section

set_option maxRecDepth 16384

noncomputable section

namespace Cert.Proof.NsaIdeal

open Cert.NsaIdeal Cert.NsaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 20000000 in
/-- The run from the twelve buffers at any contents. It is cut in the middle, and the scratch buffers are held at some
    contents from there. -/
theorem runNN (c : Dev nD) (i : grid0.Coords) (k0_h1 : ¬k0_cond1 i = 1#1) (k0_h2 : ¬k0_cond2 i = 1#1) (arg3 : Memref sig .tc .vmem S1x1024x128 .bf16) (harg3 : arg3.IsWhole) (arg4 : Memref sig .tc .vmem S1x128x128 .f32) (harg4 : arg4.IsWhole) (arg5 : Memref sig .tc .vmem S1x4x256x128 .bf16) (harg5 : arg5.IsWhole) (arg6 : Memref sig .tc .vmem S1x4x64x256 .bf16) (harg6 : arg6.IsWhole) (arg7 : Memref sig .tc .vmem S1x4096x256 .bf16) (harg7 : arg7.IsWhole) (arg8 : Memref sig .tc .vmem S1x4096x256 .bf16) (harg8 : arg8.IsWhole) (arg9 : Memref sig .tc .vmem S1x32x256x128 .bf16) (harg9 : arg9.IsWhole) (arg10 : Memref sig .tc .vmem S1x32x256x128 .bf16) (harg10 : arg10.IsWhole) (arg11 : Memref sig .tc .vmem S1x1024x128 .f32) (harg11 : arg11.IsWhole) (arg12 : Memref sig .tc .vmem S4x4096x256 .bf16) (harg12 : arg12.IsWhole) (arg13 : Memref sig .tc .vmem S4x4224x256 .bf16) (harg13 : arg13.IsWhole) (arg14 : Memref sig .tc .vmem S4x64x128 .f32) (harg14 : arg14.IsWhole)
    (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (Q : PUnit → sProp 𝕄) :
    iprop(pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ (iprop(pt c arg3 f3 ∗ pt c arg4 f4 ∗ pt c arg5 f5 ∗ pt c arg6 f6 ∗ pt c arg7 f7 ∗ pt c arg8 f8 ∗ pt c arg9 f9 ∗ pt c arg10 f10 ∗ (∃ f, pt c arg11 f) ∗ (∃ f, pt c arg12 f) ∗ (∃ f, pt c arg13 f) ∗ (∃ f, pt c arg14 f)) -∗ Q ⟨⟩))
    ⊢ wp frame (wpE (defs₀ (F := F)) Variants.none c none) Set.univ (cc0_nsa i arg3 harg3 arg4 harg4 arg5 harg5 arg6 harg6 arg7 harg7 arg8 harg8 arg9 harg9 arg10 harg10 arg11 harg11 arg12 harg12 arg13 harg13 arg14 harg14) Q := by
  by_cases k0_h3 : k0_cond3 i = 1#1
  all_goals
    iintro ⟨H3, H4, H5, H6, H7, H8, H9, H10, H11, H12, H13, H14, Hk⟩
    set_option sl_exec.stopBefore "k0_part48" in sl_exec_parts
    ihave H12 := (some_contents c arg12 _) $$ H12; icases H12 with ⟨%g12, H12⟩
    ihave H13 := (some_contents c arg13 _) $$ H13; icases H13 with ⟨%g13, H13⟩
    ihave H14 := (some_contents c arg14 _) $$ H14; icases H14 with ⟨%g14, H14⟩
    sl_exec_parts
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    iexists _; iexact H14

end Cert.Proof.NsaIdeal

end
-- ==== Proof.NsaIdealBody.lean ====
/-
  One grid point of the sparse attention's kernel, run from its twelve buffers at any contents: every load and store
  stays inside its buffer, every loop runs its trips, and the eight inputs are left as they were.
-/
module

public import proofs.«01_k».proof.Proof.NsaIdealBodyPP
public import proofs.«01_k».proof.Proof.NsaIdealBodyPN
public import proofs.«01_k».proof.Proof.NsaIdealBodyNP
public import proofs.«01_k».proof.Proof.NsaIdealBodyNN

@[expose] public section

set_option maxRecDepth 16384

noncomputable section

namespace Cert.Proof.NsaIdeal

open Cert.NsaIdeal Cert.NsaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- One grid point of the kernel, from its twelve buffers at any contents: the run ends with the eight inputs
    unchanged and the output and the scratch buffers at some contents. The kernel has three conditionals, so the
    run is made for each of the eight cases. -/
theorem run (c : Dev nD) (i : grid0.Coords) (arg3 : Memref sig .tc .vmem S1x1024x128 .bf16) (harg3 : arg3.IsWhole) (arg4 : Memref sig .tc .vmem S1x128x128 .f32) (harg4 : arg4.IsWhole) (arg5 : Memref sig .tc .vmem S1x4x256x128 .bf16) (harg5 : arg5.IsWhole) (arg6 : Memref sig .tc .vmem S1x4x64x256 .bf16) (harg6 : arg6.IsWhole) (arg7 : Memref sig .tc .vmem S1x4096x256 .bf16) (harg7 : arg7.IsWhole) (arg8 : Memref sig .tc .vmem S1x4096x256 .bf16) (harg8 : arg8.IsWhole) (arg9 : Memref sig .tc .vmem S1x32x256x128 .bf16) (harg9 : arg9.IsWhole) (arg10 : Memref sig .tc .vmem S1x32x256x128 .bf16) (harg10 : arg10.IsWhole) (arg11 : Memref sig .tc .vmem S1x1024x128 .f32) (harg11 : arg11.IsWhole) (arg12 : Memref sig .tc .vmem S4x4096x256 .bf16) (harg12 : arg12.IsWhole) (arg13 : Memref sig .tc .vmem S4x4224x256 .bf16) (harg13 : arg13.IsWhole) (arg14 : Memref sig .tc .vmem S4x64x128 .f32) (harg14 : arg14.IsWhole)
    (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (Q : PUnit → sProp 𝕄) :
    iprop(pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ (iprop(pt c arg3 f3 ∗ pt c arg4 f4 ∗ pt c arg5 f5 ∗ pt c arg6 f6 ∗ pt c arg7 f7 ∗ pt c arg8 f8 ∗ pt c arg9 f9 ∗ pt c arg10 f10 ∗ (∃ f, pt c arg11 f) ∗ (∃ f, pt c arg12 f) ∗ (∃ f, pt c arg13 f) ∗ (∃ f, pt c arg14 f)) -∗ Q ⟨⟩))
    ⊢ wp frame (wpE (defs₀ (F := F)) Variants.none c none) Set.univ (cc0_nsa i arg3 harg3 arg4 harg4 arg5 harg5 arg6 harg6 arg7 harg7 arg8 harg8 arg9 harg9 arg10 harg10 arg11 harg11 arg12 harg12 arg13 harg13 arg14 harg14) Q := by
  by_cases h1 : k0_cond1 i = 1#1 <;> by_cases h2 : k0_cond2 i = 1#1
  · exact runPP c i h1 h2 arg3 harg3 arg4 harg4 arg5 harg5 arg6 harg6 arg7 harg7 arg8 harg8 arg9 harg9 arg10 harg10 arg11 harg11 arg12 harg12 arg13 harg13 arg14 harg14 f3 f4 f5 f6 f7 f8 f9 f10 f11 f12 f13 f14 Q
  · exact runPN c i h1 h2 arg3 harg3 arg4 harg4 arg5 harg5 arg6 harg6 arg7 harg7 arg8 harg8 arg9 harg9 arg10 harg10 arg11 harg11 arg12 harg12 arg13 harg13 arg14 harg14 f3 f4 f5 f6 f7 f8 f9 f10 f11 f12 f13 f14 Q
  · exact runNP c i h1 h2 arg3 harg3 arg4 harg4 arg5 harg5 arg6 harg6 arg7 harg7 arg8 harg8 arg9 harg9 arg10 harg10 arg11 harg11 arg12 harg12 arg13 harg13 arg14 harg14 f3 f4 f5 f6 f7 f8 f9 f10 f11 f12 f13 f14 Q
  · exact runNN c i h1 h2 arg3 harg3 arg4 harg4 arg5 harg5 arg6 harg6 arg7 harg7 arg8 harg8 arg9 harg9 arg10 harg10 arg11 harg11 arg12 harg12 arg13 harg13 arg14 harg14 f3 f4 f5 f6 f7 f8 f9 f10 f11 f12 f13 f14 Q

end Cert.Proof.NsaIdeal

end
-- ==== Proof.NsaIdealFrame.lean ====
/-
  The frame of the sparse-attention kernel over the extended reals: at any values, from any memory with zero counters, every run ends with
  the eight argument arrays as they were and every counter at zero. Of what the kernel leaves in a staging buffer
  nothing is said: all windows are forgotten.
-/
module

public import proofs.«01_k».proof.Proof.NsaIdealBody
public import proofs.«01_k».proof.Proof.Gen.NsaIdeal.Frame

@[expose] public section

set_option maxRecDepth 16384

noncomputable section

namespace Cert.Proof.NsaIdeal

open Cert.NsaIdeal Cert.NsaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's data: the arrays as the region finds them, nothing said of the staging buffers, the scratch at
    some contents between points. -/
def dats (_ : Fin 1) (c : Dev nD) : Dat τ (Elt F) Unit ℕ (UR sig nD τ) ℕ cfg0 c where
  A w := V m c (Pipeline.arrRef spec0 w)
  after w t := Dat.unnamed w t
  Φ _ := Pipeline.ΦA spec0 c
  q _ := fullShare
  owed _ := 0

/-- All windows are forgotten. -/
def fgt : Fin cfg0.W → Bool := fun _ => true

theorem A_eq (c : Dev nD) (w : Fin cfg0.W) : (dats m 0 c).A w = V m c (Pipeline.arrRef spec0 w) := by
  dsimp only [dats]

/-- What the body holds before and after a point: the scratch, what the core owes, and each window's buffer at
    some contents. -/
def held (c : Dev nD) (t : Fin cfg0.N) : sProp 𝕄 :=
  iprop((Pipeline.ΦA spec0 c : sProp 𝕄) ∗ (dats m 0 c).owesAt () t.castSucc
    ∗ (∃ X, owns (c : Thread nD τ) (st0_0 t) fullShare X)
    ∗ (∃ X, owns (c : Thread nD τ) (st0_1 t) fullShare X)
    ∗ (∃ X, owns (c : Thread nD τ) (st0_2 t) fullShare X)
    ∗ (∃ X, owns (c : Thread nD τ) (st0_3 t) fullShare X)
    ∗ (∃ X, owns (c : Thread nD τ) (st0_4 t) fullShare X)
    ∗ (∃ X, owns (c : Thread nD τ) (st0_5 t) fullShare X)
    ∗ (∃ X, owns (c : Thread nD τ) (st0_6 t) fullShare X)
    ∗ (∃ X, owns (c : Thread nD τ) (st0_7 t) fullShare X)
    ∗ (∃ X, owns (c : Thread nD τ) (st0_8 t) fullShare X))

set_option maxHeartbeats 2000000 in
/-- The body at any point. -/
theorem body (c : Dev nD) (t : Fin cfg0.N) :
    held m c t ⊢ wp frame (wpE (defs₀ (F := F)) Variants.none c none) Set.univ (bodyAt0 t) (fun _ => held m c t) := by
  unfold held bodyAt0 Pipeline.ΦA
  rw [scopedRest0_eq]
  unfold owns
  iintro ⟨⟨⟨⟨%f12, H12⟩, ⟨%f13, H13⟩, ⟨%f14, H14⟩⟩, Hr⟩, Ho, ⟨%X0, %f0, -, H0⟩, ⟨%X1, %f1, -, H1⟩, ⟨%X2, %f2, -, H2⟩, ⟨%X3, %f3, -, H3⟩, ⟨%X4, %f4, -, H4⟩, ⟨%X5, %f5, -, H5⟩, ⟨%X6, %f6, -, H6⟩, ⟨%X7, %f7, -, H7⟩, ⟨%X8, %f8, -, H8⟩⟩
  iapply (run c (grid0.coords t) _ _ _ _ _ _ _ _ _ _ _ _ _ _ _ _ _ _ _ _ _ _ _ _ f0 f1 f2 f3 f4 f5 f6 f7 f8 f12 f13 f14 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H12]; · simp only [pt, Memref.view_whole, View.set_whole]; iexact H12
  isplitl [H13]; · simp only [pt, Memref.view_whole, View.set_whole]; iexact H13
  isplitl [H14]; · simp only [pt, Memref.view_whole, View.set_whole]; iexact H14
  simp only [pt, Memref.view_whole, View.set_whole]
  iintro ⟨H0, H1, H2, H3, H4, H5, H6, H7, ⟨%f8, H8⟩, ⟨%f12, H12⟩, ⟨%f13, H13⟩, ⟨%f14, H14⟩⟩
  isplitl [H12 H13 H14 Hr]
  · isplitr [Hr]
    · isplitl [H12]; · iexists _; iexact H12
      isplitl [H13]; · iexists _; iexact H13
      iexists _; iexact H14
    · iexact Hr
  isplitl [Ho]; · iexact Ho
  isplitl [H0]
  · iexists _; iexists f0; isplitr; · ipureintro; rfl
    iexact H0
  isplitl [H1]
  · iexists _; iexists f1; isplitr; · ipureintro; rfl
    iexact H1
  isplitl [H2]
  · iexists _; iexists f2; isplitr; · ipureintro; rfl
    iexact H2
  isplitl [H3]
  · iexists _; iexists f3; isplitr; · ipureintro; rfl
    iexact H3
  isplitl [H4]
  · iexists _; iexists f4; isplitr; · ipureintro; rfl
    iexact H4
  isplitl [H5]
  · iexists _; iexists f5; isplitr; · ipureintro; rfl
    iexact H5
  isplitl [H6]
  · iexists _; iexists f6; isplitr; · ipureintro; rfl
    iexact H6
  isplitl [H7]
  · iexists _; iexists f7; isplitr; · ipureintro; rfl
    iexact H7
  iexists _; iexists f8; isplitr; · ipureintro; rfl
  iexact H8

/-- The body table's row at a point's slots is the body. -/
theorem defs₀_row (t : Fin cfg0.N) :
    defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) Variants.none () Set.univ fgt := fun t => by
  rw [bigSep_W0, bigSep_W0, defs₀_row]
  exact triple_restated (body m c t) rfl .rfl fun _ => .rfl

set_option backward.isDefEq.respectTransparency.types false in
set_option maxHeartbeats 800000 in
/-- The launch. -/
theorem launch : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every run ends, the argument arrays unchanged and every counter at zero. -/
theorem frame_ideal : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ ⟨h, hs⟩ => ⟨fun c => ⟨(Pipeline.RDat.FramePost.arr_in h c 0 rfl).trans (V_main_arg0 m c),
    (Pipeline.RDat.FramePost.arr_in h c 1 rfl).trans (V_main_arg1 m c),
    (Pipeline.RDat.FramePost.arr_in h c 2 rfl).trans (V_main_arg2 m c),
    (Pipeline.RDat.FramePost.arr_in h c 3 rfl).trans (V_main_arg3 m c),
    (Pipeline.RDat.FramePost.arr_in h c 4 rfl).trans (V_main_arg4 m c),
    (Pipeline.RDat.FramePost.arr_in h c 5 rfl).trans (V_main_arg5 m c),
    (Pipeline.RDat.FramePost.arr_in h c 6 rfl).trans (V_main_arg6 m c),
    (Pipeline.RDat.FramePost.arr_in h c 7 rfl).trans (V_main_arg7 m c)⟩, hs⟩) (launch m ρ)

end Cert.Proof.NsaIdeal

end
-- ==== Proof.NsaClaim.lean ====
/-
  The sparse attention's call: its frames, as printed and over the extended reals.
-/
module
public import proofs.«01_k».proof.Proof.NsaFrame
public import proofs.«01_k».proof.Proof.NsaIdealFrame
public import proofs.«01_k».proof.Defs
@[expose] public section
set_option maxRecDepth 16384
noncomputable section
namespace Cert.Proof.NsaClaim
open Idealize.ShloMosaic Idealize.ShloMosaic.TcCoe Idealize.SL.Sem

theorem frame_kernel : Cert.quiescent_Nsa := fun m ρ _ => Cert.Proof.Nsa.frame_kernel m ρ
theorem frame_ideal : Cert.quiescent_NsaIdeal := fun m ρ _ => Cert.Proof.NsaIdeal.frame_ideal m ρ
theorem preserves : Cert.preserves_Nsa_NsaIdeal := trivial

end Cert.Proof.NsaClaim
end
-- ==== Proof.Spec.lean ====
/-
  The layer's arithmetic on one row, over the extended reals: the row norm, the gated product, and the block of a
  feed-forward network, as plain functions of a row and of the weights' columns.  Both sides of every value claim
  are read down to these.
-/
module
public import Idealize.ShloMosaic.Lib.Pointwise
public import Idealize.ShloMosaic.Lib.Pipeline.ValueKit

@[expose] public section
noncomputable section
namespace Layer

open Idealize.ShloMosaic

/-- The factor a row is scaled by: one over the root of its mean square plus the small constant. -/
def scale (x : Fin 2048 → EReal) : EReal :=
  Ideal.rsqrt (Ideal.div (∑ k, x k * x k) (Ideal.ofBits FTy.f32 1157627904#32) + Ideal.ofBits FTy.f32 897988541#32)

/-- The normed row times its gain. -/
def rmsn (x g : Fin 2048 → EReal) (c : Fin 2048) : EReal := x c * scale x * g c

/-- The gated product of one hidden unit: the gate `a` through `a * logistic a`, times the other product. -/
def act (h wg wu : Fin 2048 → EReal) : EReal :=
  (∑ k, h k * wg k) * Ideal.logistic (∑ k, h k * wg k) * ∑ k, h k * wu k

/-- `n` hidden units of the network on one normed row, brought back to output column `c`. -/
def units {n : ℕ} (h : Fin 2048 → EReal) (wg wu : Fin 2048 → Fin n → EReal) (wd : Fin n → Fin 2048 → EReal)
    (c : Fin 2048) : EReal :=
  ∑ f, act h (fun k => wg k f) (fun k => wu k f) * wd f c

/-- A row plus half the network's value on it. -/
def half (x s : Fin 2048 → EReal) (c : Fin 2048) : EReal := x c + Ideal.ofBits FTy.f32 1056964608#32 * s c

/-- Row `R` of an array of 4 sequences of 4096 rows, the rows numbered through. -/
def row (x : (⟨3, ![4, 4096, 2048]⟩ : Shape).Idx → EReal) (R : Fin 16384) (k : Fin 2048) : EReal :=
  x (ix3 ⟨R.val / 4096, by omega⟩ ⟨R.val % 4096, by omega⟩ k)

/-- Hidden unit `f`'s share of output column `c`. -/
def unit (h : Fin 2048 → EReal) (wg wu : (⟨3, ![1, 2048, 5632]⟩ : Shape).Idx → EReal)
    (wd : (⟨3, ![1, 5632, 2048]⟩ : Shape).Idx → EReal) (c : Fin 2048) (f : Fin 5632) : EReal :=
  act h (fun k => wg (ix3 0 k f)) (fun k => wu (ix3 0 k f)) * wd (ix3 0 f c)

/-- A row through the network, half of it added back on. -/
def ffn (x g : Fin 2048 → EReal) (wg wu : (⟨3, ![1, 2048, 5632]⟩ : Shape).Idx → EReal)
    (wd : (⟨3, ![1, 5632, 2048]⟩ : Shape).Idx → EReal) (c : Fin 2048) : EReal :=
  half x (fun c => ∑ f, unit (rmsn x g) wg wu wd c f) c

/-- A sum over the hidden units taken up to the `n`-th. -/
def upto (T : Fin 5632 → EReal) (n : ℕ) : EReal := ∑ k ∈ Finset.range n, if h : k < 5632 then T ⟨k, h⟩ else 0

theorem upto_zero (T : Fin 5632 → EReal) : upto T 0 = 0 := by simp [upto]

/-- One more tile of 512 hidden units. -/
theorem upto_tile (T : Fin 5632 → EReal) (j : ℕ) (hj : j < 11) :
    upto T (512 * (j + 1)) = upto T (512 * j) + ∑ f : Fin 512, T ⟨512 * j + f.val, by omega⟩ := by
  unfold upto
  rw [Nat.mul_add, Nat.mul_one, Finset.sum_range_add]
  congr 1
  rw [Finset.sum_range]
  refine Finset.sum_congr rfl fun f _ => ?_
  rw [dif_pos]

theorem upto_all (T : Fin 5632 → EReal) : upto T 5632 = ∑ f, T f := by
  unfold upto
  rw [Finset.sum_range]
  refine Finset.sum_congr rfl fun f _ => ?_
  rw [dif_pos f.isLt]

/-- A block of rows stored as two halves holds one function when each half does. -/
theorem canon_halves {T H W : ℕ} {e : EltTy} (hT : T = H + H) (G : (⟨2, ![T, W]⟩ : Shape).Idx → Elt Ideal e)
    (h1 : ∀ a, (![H, 0] : Fin 2 → ℕ) a + (![H, W] : Fin 2 → ℕ) a ≤ (![T, W] : Fin 2 → ℕ) a)
    (h0 : ∀ a, (![0, 0] : Fin 2 → ℕ) a + (![H, W] : Fin 2 → ℕ) a ≤ (![T, W] : Fin 2 → ℕ) a)
    (w1 w0 : (⟨2, ![H, W]⟩ : Shape).Idx → Elt Ideal e)
    (e1 : ∀ (r : Fin H) (q : Fin W), w1 (ix2 r q) = G (ix2 ⟨H + r.val, by omega⟩ q))
    (e0 : ∀ (r : Fin H) (q : Fin W), w0 (ix2 r q) = G (ix2 ⟨0 + r.val, by omega⟩ q))
    (r : Fin T) (q : Fin W) :
    View.canon (Val := Elt Ideal) (s := (⟨2, ![T, W]⟩ : Shape)) (e := e)
      [⟨Rect.unit (s := (⟨2, ![T, W]⟩ : Shape)) ![H, 0] ![H, W] h1, w1⟩,
       ⟨Rect.unit (s := (⟨2, ![T, W]⟩ : Shape)) ![0, 0] ![H, W] h0, w0⟩] (ix2 r q) = G (ix2 r q) := by
  refine View.canon_apply_of_pieces G _ ?_ _ ?_
  · intro p hp x
    rcases List.mem_cons.1 hp with rfl | hp
    · obtain ⟨a, b, rfl⟩ : ∃ (a : Fin H) (b : Fin W), x = ix2 a b := ⟨x 0, x 1, eq_ix2 x⟩
      refine (e1 a b).trans (congrArg G (funext fun ax => Fin.ext ?_))
      match ax with
      | ⟨0, _⟩ => show H + a.val = H + 1 * a.val; omega
      | ⟨1, _⟩ => show b.val = 0 + 1 * b.val; omega
    · rcases List.mem_singleton.1 hp with rfl
      obtain ⟨a, b, rfl⟩ : ∃ (a : Fin H) (b : Fin W), x = ix2 a b := ⟨x 0, x 1, eq_ix2 x⟩
      refine (e0 a b).trans (congrArg G (funext fun ax => Fin.ext ?_))
      match ax with
      | ⟨0, _⟩ => show 0 + a.val = 0 + 1 * a.val; omega
      | ⟨1, _⟩ => show b.val = 0 + 1 * b.val; omega
  · by_cases h : r.val < H
    · refine ⟨_, List.mem_cons_of_mem _ (List.mem_singleton_self _), ?_⟩
      rw [Rect.mem_set_unit]
      intro ax
      match ax with
      | ⟨0, _⟩ => show 0 ≤ r.val ∧ r.val < 0 + H; omega
      | ⟨1, _⟩ => show 0 ≤ q.val ∧ q.val < 0 + W; omega
    · refine ⟨_, List.mem_cons_self, ?_⟩
      rw [Rect.mem_set_unit]
      intro ax
      match ax with
      | ⟨0, _⟩ => show H ≤ r.val ∧ r.val < H + H; omega
      | ⟨1, _⟩ => show 0 ≤ q.val ∧ q.val < 0 + W; omega

end Layer
end
-- ==== Proof.Ffn1Block.lean ====
/-
  The first feed-forward call, one grid point at a time: what each case leaves in its blocks, read at an index.
  Beside the network the call carries four weights over to the narrower format.
-/
module
public import proofs.«01_k».proof.Proof.Spec
public import proofs.«01_k».proof.Proof.Gen.Ffn1Ideal.Frame
public import Idealize.ShloMosaic.Lib.Pointwise
public import Idealize.ShloMosaic.Lib.Pipeline.ValueKit
@[expose] public section
set_option maxRecDepth 16384
noncomputable section
namespace Cert.Ffn1Ideal.Block
open Cert.Ffn1Ideal Cert.Ffn1Ideal.Gen Idealize.ShloMosaic Idealize.SL.Sem Layer

section
variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S128x512 .f32) (harg7 : arg7.IsWhole) (arg8 : Memref sig .tc .vmem S128x512 .f32) (harg8 : arg8.IsWhole) (arg9 : Memref sig .tc .vmem S32x2048 .f32) (harg9 : arg9.IsWhole) (arg10 : Memref sig .tc .vmem S128x2048 .f32) (harg10 : arg10.IsWhole) (arg11 : Memref sig .tc .vmem S1024x2048 .f32) (harg11 : arg11.IsWhole) (arg12 : Memref sig .tc .vmem S128x512 .bf16) (harg12 : arg12.IsWhole) (arg13 : Memref sig .tc .vmem S128x512 .bf16) (harg13 : arg13.IsWhole) (arg14 : Memref sig .tc .vmem S32x2048 .bf16) (harg14 : arg14.IsWhole) (arg15 : Memref sig .tc .vmem S128x2048 .bf16) (harg15 : arg15.IsWhole) (arg16 : Memref sig .tc .vmem S1024x2048 .bf16) (harg16 : arg16.IsWhole)
    (x0 : Vec Ideal S1024x2048 .f32) (x1 : Vec Ideal S1x2048 .f32) (x2 : Vec Ideal S2048x512 .bf16) (x3 : Vec Ideal S2048x512 .bf16) (x4 : Vec Ideal S512x2048 .bf16) (x5 x6 : Vec Ideal S128x512 .f32) (x7 : Vec Ideal S32x2048 .f32) (x8 : Vec Ideal S128x2048 .f32) (xo9 : Vec Ideal S1024x2048 .f32) (xs0 : Vec Ideal S1024x2048 .bf16)

/-- The first point of a row block leaves the normed rows in the scratch. -/
theorem hidden_A (hc0 : cond0_0 i) (hc1 : ¬cond0_1 i) (hc2 : ¬cond0_2 i) (r : Fin 1024) (q : Fin 2048) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 (ix2 r q)
      = rmsn (fun k => x0 (ix2 r k)) (fun k => x1 (ix2 0 k)) q := by
  frame_out
  refine canon_halves (T := 1024) (H := 512) (W := 2048) (e := .bf16) rfl (fun y => rmsn (fun k => x0 (ix2 (y 0) k)) (fun k => x1 (ix2 0 k)) (y 1)) _ _ _ _ ?_ ?_ r q
  all_goals intro a b; unfold rmsn scale; unfold_payloads; pointwise; try rfl

/-- … and the first tile of hidden units in the output block. -/
theorem out_A (hc0 : cond0_0 i) (hc1 : ¬cond0_1 i) (hc2 : ¬cond0_2 i) (r : Fin 1024) (q : Fin 2048) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 (ix2 r q)
      = units (rmsn (fun k => x0 (ix2 r k)) (fun k => x1 (ix2 0 k))) (fun k f => x2 (ix2 k f)) (fun k f => x3 (ix2 k f)) (fun f k => x4 (ix2 f k)) q := by
  frame_out
  refine canon_halves (T := 1024) (H := 512) (W := 2048) (e := .f32) rfl (fun y => units (rmsn (fun k => x0 (ix2 (y 0) k)) (fun k => x1 (ix2 0 k))) (fun k f => x2 (ix2 k f)) (fun k f => x3 (ix2 k f)) (fun f k => x4 (ix2 f k)) (y 1)) _ _ _ _ ?_ ?_ r q
  all_goals intro a b; unfold units act rmsn scale; unfold_payloads; pointwise; try rfl

/-- A middle point adds its tile of hidden units. -/
theorem out_B (hc0 : ¬cond0_0 i) (hc1 : cond0_1 i) (hc2 : ¬cond0_2 i) (r : Fin 1024) (q : Fin 2048) :
    out0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xo9 xs0 (ix2 r q)
      = xo9 (ix2 r q) + units (fun k => xs0 (ix2 r k)) (fun k f => x2 (ix2 k f)) (fun k f => x3 (ix2 k f)) (fun f k => x4 (ix2 f k)) q := by
  frame_out
  unfold units act; unfold_payloads; pointwise; try rfl

/-- The last point adds its tile and takes half of the sum onto the row. -/
theorem out_C (hc0 : ¬cond0_0 i) (hc1 : ¬cond0_1 i) (hc2 : cond0_2 i) (r : Fin 1024) (q : Fin 2048) :
    out0_C_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xo9 xs0 (ix2 r q)
      = half (fun k => x0 (ix2 r k)) (fun k => xo9 (ix2 r k) + units (fun k => xs0 (ix2 r k)) (fun k f => x2 (ix2 k f)) (fun k f => x3 (ix2 k f)) (fun f k => x4 (ix2 f k)) k) q := by
  frame_out
  refine canon_halves (T := 1024) (H := 512) (W := 2048) (e := .f32) rfl (fun y => half (fun k => x0 (ix2 (y 0) k)) (fun k => xo9 (ix2 (y 0) k) + units (fun k => xs0 (ix2 (y 0) k)) (fun k f => x2 (ix2 k f)) (fun k f => x3 (ix2 k f)) (fun f k => x4 (ix2 f k)) k) (y 1)) _ _ _ _ ?_ ?_ r q
  all_goals intro a b; unfold half units act; unfold_payloads; pointwise; try rfl

theorem cast_A_10 (hc0 : cond0_0 i) (hc1 : ¬cond0_1 i) (hc2 : ¬cond0_2 i) (r : Fin 128) (q : Fin 512) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 (ix2 r q) = x5 (ix2 r q) := by
  frame_out; unfold_payloads; pointwise

theorem cast_B_10 (hc0 : ¬cond0_0 i) (hc1 : cond0_1 i) (hc2 : ¬cond0_2 i) (r : Fin 128) (q : Fin 512) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xo9 xs0 (ix2 r q) = x5 (ix2 r q) := by
  frame_out; unfold_payloads; pointwise

theorem cast_C_10 (hc0 : ¬cond0_0 i) (hc1 : ¬cond0_1 i) (hc2 : cond0_2 i) (r : Fin 128) (q : Fin 512) :
    out0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xo9 xs0 (ix2 r q) = x5 (ix2 r q) := by
  frame_out; unfold_payloads; pointwise

theorem cast_A_11 (hc0 : cond0_0 i) (hc1 : ¬cond0_1 i) (hc2 : ¬cond0_2 i) (r : Fin 128) (q : Fin 512) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 (ix2 r q) = x6 (ix2 r q) := by
  frame_out; unfold_payloads; pointwise

theorem cast_B_11 (hc0 : ¬cond0_0 i) (hc1 : cond0_1 i) (hc2 : ¬cond0_2 i) (r : Fin 128) (q : Fin 512) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xo9 xs0 (ix2 r q) = x6 (ix2 r q) := by
  frame_out; unfold_payloads; pointwise

theorem cast_C_11 (hc0 : ¬cond0_0 i) (hc1 : ¬cond0_1 i) (hc2 : cond0_2 i) (r : Fin 128) (q : Fin 512) :
    out0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xo9 xs0 (ix2 r q) = x6 (ix2 r q) := by
  frame_out; unfold_payloads; pointwise

theorem cast_A_12 (hc0 : cond0_0 i) (hc1 : ¬cond0_1 i) (hc2 : ¬cond0_2 i) (r : Fin 32) (q : Fin 2048) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 (ix2 r q) = x7 (ix2 r q) := by
  frame_out; unfold_payloads; pointwise

theorem cast_B_12 (hc0 : ¬cond0_0 i) (hc1 : cond0_1 i) (hc2 : ¬cond0_2 i) (r : Fin 32) (q : Fin 2048) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xo9 xs0 (ix2 r q) = x7 (ix2 r q) := by
  frame_out; unfold_payloads; pointwise

theorem cast_C_12 (hc0 : ¬cond0_0 i) (hc1 : ¬cond0_1 i) (hc2 : cond0_2 i) (r : Fin 32) (q : Fin 2048) :
    out0_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xo9 xs0 (ix2 r q) = x7 (ix2 r q) := by
  frame_out; unfold_payloads; pointwise

theorem cast_A_13 (hc0 : cond0_0 i) (hc1 : ¬cond0_1 i) (hc2 : ¬cond0_2 i) (r : Fin 128) (q : Fin 2048) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 (ix2 r q) = x8 (ix2 r q) := by
  frame_out; unfold_payloads; pointwise

theorem cast_B_13 (hc0 : ¬cond0_0 i) (hc1 : cond0_1 i) (hc2 : ¬cond0_2 i) (r : Fin 128) (q : Fin 2048) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xo9 xs0 (ix2 r q) = x8 (ix2 r q) := by
  frame_out; unfold_payloads; pointwise

theorem cast_C_13 (hc0 : ¬cond0_0 i) (hc1 : ¬cond0_1 i) (hc2 : cond0_2 i) (r : Fin 128) (q : Fin 2048) :
    out0_C_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xo9 xs0 (ix2 r q) = x8 (ix2 r q) := by
  frame_out; unfold_payloads; pointwise

end
end Cert.Ffn1Ideal.Block
end
-- ==== Proof.Ffn1In.lean ====
/-
  What the blocks of the first feed-forward call hold, in terms of the arguments: each window's block at a grid
  point, read at an index.
-/
module
public import proofs.«01_k».proof.Proof.Spec
public import proofs.«01_k».proof.Proof.Gen.Ffn1Ideal.Frame
public import Idealize.ShloMosaic.Lib.StableHlo.ReadAt
@[expose] public section
set_option maxRecDepth 16384
noncomputable section
namespace Cert.Ffn1Ideal.In
open Cert.Ffn1Ideal Cert.Ffn1Ideal.Gen Idealize.ShloMosaic Idealize.ShloMosaic.TcCoe Idealize.SL.Sem Layer
variable (m : (ℓ : Loc nD τ sig) → Buf (Elt Ideal) ℓ)

/-- The rows as the region finds them: the argument's, numbered through. -/
theorem rows (c : Dev nD) (r : Fin 16384) (k : Fin 2048) :
    V m c main_v0 (ix2 r k) = row (m ((c : Thread nD τ).loc main_arg0)) r k := by
  unfold V row
  after_reads_at
/-- The gate's weights. -/
theorem gate (c : Dev nD) (k : Fin 2048) (f : Fin 5632) :
    V m c main_v2 (ix2 k f) = m ((c : Thread nD τ).loc main_arg2) (ix3 0 k f) := by
  unfold V
  after_reads_at
/-- The other product's weights. -/
theorem up (c : Dev nD) (k : Fin 2048) (f : Fin 5632) :
    V m c main_v4 (ix2 k f) = m ((c : Thread nD τ).loc main_arg3) (ix3 0 k f) := by
  unfold V
  after_reads_at
/-- The weights that bring the hidden units back. -/
theorem down (c : Dev nD) (f : Fin 5632) (k : Fin 2048) :
    V m c main_v6 (ix2 f k) = m ((c : Thread nD τ).loc main_arg4) (ix3 0 f k) := by
  unfold V
  after_reads_at
/-! The four weights carried over. -/
theorem wide5 (c : Dev nD) (k : Fin 2048) (f : Fin 5632) :
    V m c main_v7 (ix2 k f) = m ((c : Thread nD τ).loc main_arg5) (ix3 0 k f) := by
  unfold V
  after_reads_at
theorem wide6 (c : Dev nD) (k : Fin 2048) (f : Fin 5632) :
    V m c main_v8 (ix2 k f) = m ((c : Thread nD τ).loc main_arg6) (ix3 0 k f) := by
  unfold V
  after_reads_at
theorem tall (c : Dev nD) (k : Fin 5632) (f : Fin 2048) :
    V m c main_v9 (ix2 k f) = m ((c : Thread nD τ).loc main_arg7) (ix3 0 k f) := by
  unfold V
  after_reads_at
theorem square (c : Dev nD) (k : Fin 2048) (f : Fin 2048) :
    V m c main_v10 (ix2 k f) = m ((c : Thread nD τ).loc main_arg8) (ix3 0 k f) := by
  unfold V
  after_reads_at

/-- Where each window's block lies: the row block is the point's number over 11, the tile the remainder. -/
theorem places : ∀ t : Fin cfg0.N, (win0_0.index t (0 : Fin 2) = t.val / 11 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val % 11)
    ∧ (win0_3.index t (0 : Fin 2) = 0 ∧ win0_3.index t (1 : Fin 2) = t.val % 11)
    ∧ (win0_4.index t (0 : Fin 2) = t.val % 11 ∧ win0_4.index t (1 : Fin 2) = 0)
    ∧ (win0_5.index t (0 : Fin 2) = t.val / 11 ∧ win0_5.index t (1 : Fin 2) = t.val % 11)
    ∧ (win0_6.index t (0 : Fin 2) = t.val / 11 ∧ win0_6.index t (1 : Fin 2) = t.val % 11)
    ∧ (win0_7.index t (0 : Fin 2) = t.val ∧ win0_7.index t (1 : Fin 2) = 0)
    ∧ (win0_8.index t (0 : Fin 2) = t.val / 11 ∧ win0_8.index t (1 : Fin 2) = 0) :=
  (by decide +kernel : ∀ t : Fin grid0.N, _)

/-- A point's number over 11 is below 16. -/
theorem blockLt (t : Fin cfg0.N) : t.val / 11 < 16 := by
  have := lt_of_lt_of_eq t.isLt (show cfg0.N = 176 from N_0); omega

theorem blk0 (c : Dev nD) (t : Fin cfg0.N) (r : Fin 1024) (k : Fin 2048) :
    iblk m c 0 t (ix2 r k) = row (m ((c : Thread nD τ).loc main_arg0)) ⟨1024 * (t.val / 11) + r.val, by have := blockLt t; omega⟩ k := by
  obtain ⟨⟨e0, e1⟩, -⟩ := places t
  refine Eq.trans ?_ (rows m c _ k)
  unfold iblk
  rw [View.read_apply]
  show V m c main_v0 _ = V m c main_v0 _
  refine congrArg _ (funext fun a => Fin.ext ?_)
  match a with
  | ⟨0, _⟩ => show win0_0.index t (0 : Fin 2) * 1024 + 1 * r.val = 1024 * (t.val / 11) + r.val; rw [e0]; omega
  | ⟨1, _⟩ => show win0_0.index t (1 : Fin 2) * 2048 + 1 * k.val = k.val; rw [e1]; omega
theorem blk1 (c : Dev nD) (t : Fin cfg0.N) (k : Fin 2048) :
    iblk m c 1 t (ix2 0 k) = m ((c : Thread nD τ).loc main_arg1) (ix2 0 k) := by
  obtain ⟨-, ⟨e0, e1⟩, -⟩ := places t
  rw [← V_main_arg1 m c]
  unfold iblk
  rw [View.read_apply]
  show V m c main_arg1 _ = V m c main_arg1 _
  refine congrArg _ (funext fun a => Fin.ext ?_)
  match a with
  | ⟨0, _⟩ => show win0_1.index t (0 : Fin 2) * 1 + 1 * 0 = 0; rw [e0]
  | ⟨1, _⟩ => show win0_1.index t (1 : Fin 2) * 2048 + 1 * k.val = k.val; rw [e1]; omega
theorem blk2 (c : Dev nD) (t : Fin cfg0.N) (k : Fin 2048) (f : Fin 512) :
    iblk m c 2 t (ix2 k f) = m ((c : Thread nD τ).loc main_arg2) (ix3 0 k ⟨512 * (t.val % 11) + f.val, by omega⟩) := by
  obtain ⟨-, -, ⟨e0, e1⟩, -⟩ := places t
  refine Eq.trans ?_ (gate m c k _)
  unfold iblk
  rw [View.read_apply]
  show V m c main_v2 _ = V m c main_v2 _
  refine congrArg _ (funext fun a => Fin.ext ?_)
  match a with
  | ⟨0, _⟩ => show win0_2.index t (0 : Fin 2) * 2048 + 1 * k.val = k.val; rw [e0]; omega
  | ⟨1, _⟩ => show win0_2.index t (1 : Fin 2) * 512 + 1 * f.val = 512 * (t.val % 11) + f.val; rw [e1]; omega
theorem blk3 (c : Dev nD) (t : Fin cfg0.N) (k : Fin 2048) (f : Fin 512) :
    iblk m c 3 t (ix2 k f) = m ((c : Thread nD τ).loc main_arg3) (ix3 0 k ⟨512 * (t.val % 11) + f.val, by omega⟩) := by
  obtain ⟨-, -, -, ⟨e0, e1⟩, -⟩ := places t
  refine Eq.trans ?_ (up m c k _)
  unfold iblk
  rw [View.read_apply]
  show V m c main_v4 _ = V m c main_v4 _
  refine congrArg _ (funext fun a => Fin.ext ?_)
  match a with
  | ⟨0, _⟩ => show win0_3.index t (0 : Fin 2) * 2048 + 1 * k.val = k.val; rw [e0]; omega
  | ⟨1, _⟩ => show win0_3.index t (1 : Fin 2) * 512 + 1 * f.val = 512 * (t.val % 11) + f.val; rw [e1]; omega
theorem blk4 (c : Dev nD) (t : Fin cfg0.N) (f : Fin 512) (k : Fin 2048) :
    iblk m c 4 t (ix2 f k) = m ((c : Thread nD τ).loc main_arg4) (ix3 0 ⟨512 * (t.val % 11) + f.val, by omega⟩ k) := by
  obtain ⟨-, -, -, -, ⟨e0, e1⟩, -⟩ := places t
  refine Eq.trans ?_ (down m c _ k)
  unfold iblk
  rw [View.read_apply]
  show V m c main_v6 _ = V m c main_v6 _
  refine congrArg _ (funext fun a => Fin.ext ?_)
  match a with
  | ⟨0, _⟩ => show win0_4.index t (0 : Fin 2) * 512 + 1 * f.val = 512 * (t.val % 11) + f.val; rw [e0]; omega
  | ⟨1, _⟩ => show win0_4.index t (1 : Fin 2) * 2048 + 1 * k.val = k.val; rw [e1]; omega
theorem blk5 (c : Dev nD) (t : Fin cfg0.N) (r : Fin 128) (k : Fin 512) :
    iblk m c 5 t (ix2 r k) = m ((c : Thread nD τ).loc main_arg5) (ix3 0 ⟨128 * (t.val / 11) + r.val, by have := blockLt t; omega⟩ ⟨512 * (t.val % 11) + k.val, by omega⟩) := by
  obtain ⟨-, -, -, -, -, ⟨e0, e1⟩, -⟩ := places t
  refine Eq.trans ?_ (wide5 m c _ _)
  unfold iblk
  rw [View.read_apply]
  show V m c main_v7 _ = V m c main_v7 _
  refine congrArg _ (funext fun a => Fin.ext ?_)
  match a with
  | ⟨0, _⟩ => show win0_5.index t (0 : Fin 2) * 128 + 1 * r.val = 128 * (t.val / 11) + r.val; rw [e0]; omega
  | ⟨1, _⟩ => show win0_5.index t (1 : Fin 2) * 512 + 1 * k.val = 512 * (t.val % 11) + k.val; rw [e1]; omega
theorem blk6 (c : Dev nD) (t : Fin cfg0.N) (r : Fin 128) (k : Fin 512) :
    iblk m c 6 t (ix2 r k) = m ((c : Thread nD τ).loc main_arg6) (ix3 0 ⟨128 * (t.val / 11) + r.val, by have := blockLt t; omega⟩ ⟨512 * (t.val % 11) + k.val, by omega⟩) := by
  obtain ⟨-, -, -, -, -, -, ⟨e0, e1⟩, -⟩ := places t
  refine Eq.trans ?_ (wide6 m c _ _)
  unfold iblk
  rw [View.read_apply]
  show V m c main_v8 _ = V m c main_v8 _
  refine congrArg _ (funext fun a => Fin.ext ?_)
  match a with
  | ⟨0, _⟩ => show win0_6.index t (0 : Fin 2) * 128 + 1 * r.val = 128 * (t.val / 11) + r.val; rw [e0]; omega
  | ⟨1, _⟩ => show win0_6.index t (1 : Fin 2) * 512 + 1 * k.val = 512 * (t.val % 11) + k.val; rw [e1]; omega
theorem blk7 (c : Dev nD) (t : Fin cfg0.N) (r : Fin 32) (k : Fin 2048) :
    iblk m c 7 t (ix2 r k) = m ((c : Thread nD τ).loc main_arg7) (ix3 0 ⟨32 * (t.val) + r.val, by have := blockLt t; omega⟩ k) := by
  obtain ⟨-, -, -, -, -, -, -, ⟨e0, e1⟩, -⟩ := places t
  refine Eq.trans ?_ (tall m c _ _)
  unfold iblk
  rw [View.read_apply]
  show V m c main_v9 _ = V m c main_v9 _
  refine congrArg _ (funext fun a => Fin.ext ?_)
  match a with
  | ⟨0, _⟩ => show win0_7.index t (0 : Fin 2) * 32 + 1 * r.val = 32 * (t.val) + r.val; rw [e0]; omega
  | ⟨1, _⟩ => show win0_7.index t (1 : Fin 2) * 2048 + 1 * k.val = k.val; rw [e1]; omega
theorem blk8 (c : Dev nD) (t : Fin cfg0.N) (r : Fin 128) (k : Fin 2048) :
    iblk m c 8 t (ix2 r k) = m ((c : Thread nD τ).loc main_arg8) (ix3 0 ⟨128 * (t.val / 11) + r.val, by have := blockLt t; omega⟩ k) := by
  obtain ⟨-, -, -, -, -, -, -, -, ⟨e0, e1⟩⟩ := places t
  refine Eq.trans ?_ (square m c _ _)
  unfold iblk
  rw [View.read_apply]
  show V m c main_v10 _ = V m c main_v10 _
  refine congrArg _ (funext fun a => Fin.ext ?_)
  match a with
  | ⟨0, _⟩ => show win0_8.index t (0 : Fin 2) * 128 + 1 * r.val = 128 * (t.val / 11) + r.val; rw [e0]; omega
  | ⟨1, _⟩ => show win0_8.index t (1 : Fin 2) * 2048 + 1 * k.val = k.val; rw [e1]; omega
end Cert.Ffn1Ideal.In
end
-- ==== Proof.Ffn1Kernel.lean ====
/-
  What the first feed-forward call leaves in its results: at row `R` and column `q`, the row through the network, half of
  it added back on; and the four weights carried over.  The scratch holds the normed rows of the block from its first
  point on, and the output block the sum over the hidden units met so far.
-/
module
public import proofs.«01_k».proof.Proof.Ffn1Block
public import proofs.«01_k».proof.Proof.Ffn1In
public import proofs.«01_k».proof.Proof.Gen.Ffn1Ideal.Value
@[expose] public section
set_option maxRecDepth 16384
noncomputable section
namespace Cert.Ffn1Ideal.Kernel
open Cert.Ffn1Ideal Cert.Ffn1Ideal.Gen Idealize.ShloMosaic Idealize.ShloMosaic.TcCoe Idealize.SL.Sem Layer
open Cert.Ffn1Ideal.In Cert.Ffn1Ideal.Block
variable (m : (ℓ : Loc nD τ sig) → Buf (Elt Ideal) ℓ)

/-- Row `R`, normed. -/
abbrev hid (c : Dev nD) (R : Fin 16384) : Fin 2048 → EReal :=
  rmsn (row (m ((c : Thread nD τ).loc main_arg0)) R) (fun k => m ((c : Thread nD τ).loc main_arg1) (ix2 0 k))
/-- The hidden units' shares of column `q` on row `R`. -/
abbrev shares (c : Dev nD) (R : Fin 16384) (q : Fin 2048) : Fin 5632 → EReal :=
  unit (hid m c R) (m ((c : Thread nD τ).loc main_arg2)) (m ((c : Thread nD τ).loc main_arg3)) (m ((c : Thread nD τ).loc main_arg4)) q
/-- Row `r` of the block at point `t`, numbered through. -/
abbrev at_ (t : Fin cfg0.N) (r : Fin 1024) : Fin 16384 := ⟨1024 * (t.val / 11) + r.val, by have := blockLt t; omega⟩

/-- A point's tile of the weights gives its 512 hidden units' shares. -/
theorem tile (c : Dev nD) (t : Fin cfg0.N) (h : Fin 2048 → EReal) (q : Fin 2048) :
    units h (fun k f => iblk m c 2 t (ix2 k f)) (fun k f => iblk m c 3 t (ix2 k f)) (fun f k => iblk m c 4 t (ix2 f k)) q
      = ∑ f : Fin 512, unit h (m ((c : Thread nD τ).loc main_arg2)) (m ((c : Thread nD τ).loc main_arg3)) (m ((c : Thread nD τ).loc main_arg4)) q
          ⟨512 * (t.val % 11) + f.val, by omega⟩ := by
  unfold units unit
  simp only [blk2, blk3, blk4]

/-- What a point leaves: the five output blocks and the scratch. -/
abbrev St : Type := Vec Ideal S1024x2048 .f32 × Vec Ideal S128x512 .bf16 × Vec Ideal S128x512 .bf16 × Vec Ideal S32x2048 .bf16 × Vec Ideal S128x2048 .bf16 × Vec Ideal S1024x2048 .bf16

/-- What the points before the last of a row block hold: the normed rows, and the sum over the hidden units so far. -/
def Upto (c : Dev nD) (t : Fin cfg0.N) (S : St) : Prop :=
  (∀ r q, S.2.2.2.2.2 (ix2 r q) = hid m c (at_ t r) q)
    ∧ ∀ r q, S.1 (ix2 r q) = upto (shares m c (at_ t r) q) (512 * (t.val % 11 + 1))

theorem state_A (c : Dev nD) (t : Fin cfg0.N) (h0 : t.val % 11 = 0) : Upto m c t (outsAt0 m c t.val t.isLt) := by
  rw [outsAt0_A m c t h0 (by omega) (by omega)]
  refine ⟨fun r q => ?_, fun r q => ?_⟩
  · dsimp only
    rw [hidden_A]
    simp only [blk0, blk1]
  · dsimp only
    have hz : ∀ T, upto T (512 * (t.val % 11)) = 0 := fun T => by rw [h0]; exact upto_zero T
    rw [out_A, tile, upto_tile _ _ (by omega), hz, zero_add]
    simp only [blk0, blk1]

theorem state_B (c : Dev nD) (t : Fin cfg0.N) (S : St)
    (t' : Fin cfg0.N) (ht' : t'.val + 1 = t.val) (h0 : ¬t.val % 11 = 0) (hS : Upto m c t' S) (r : Fin 1024) (q : Fin 2048) :
    S.1 (ix2 r q) + units (fun k => S.2.2.2.2.2 (ix2 r k)) (fun k f => iblk m c 2 t (ix2 k f)) (fun k f => iblk m c 3 t (ix2 k f)) (fun f k => iblk m c 4 t (ix2 f k)) q
      = upto (shares m c (at_ t r) q) (512 * (t.val % 11 + 1)) := by
  have e : at_ t' r = at_ t r := Fin.ext (show 1024 * (t'.val / 11) + r.val = 1024 * (t.val / 11) + r.val by omega)
  have e' : t'.val % 11 + 1 = t.val % 11 := by omega
  rw [upto_tile _ _ (by omega), tile, hS.2, e, e']
  congr 1
  refine Finset.sum_congr rfl fun f _ => ?_
  refine congrArg (fun h => unit h _ _ _ q _) (funext fun k => ?_)
  rw [hS.1, e]

theorem state_step (c : Dev nD) (t : Fin cfg0.N) (h0 : ¬t.val % 11 = 0) (h2 : t.val % 11 < 10)
    (hp : Upto m c ⟨t.val - 1, Nat.lt_of_le_of_lt (Nat.sub_le _ _) t.isLt⟩ (outsAt0 m c (t.val - 1) (Nat.lt_of_le_of_lt (Nat.sub_le _ _) t.isLt))) :
    Upto m c t (outsAt0 m c t.val t.isLt) := by
  rw [outsAt0_B m c t h0 (by omega) (by omega)]
  refine ⟨fun r q => ?_, fun r q => ?_⟩
  · refine (hp.1 r q).trans (congrArg (fun R => hid m c R q) (Fin.ext ?_))
    show 1024 * ((t.val - 1) / 11) + r.val = 1024 * (t.val / 11) + r.val
    omega
  · dsimp only
    rw [out_B]
    exact state_B m c t _ ⟨t.val - 1, Nat.lt_of_le_of_lt (Nat.sub_le _ _) t.isLt⟩ (by dsimp only; omega) h0 hp r q

theorem state (c : Dev nD) : ∀ (n : ℕ) (hn : n < cfg0.N), n % 11 < 10 → Upto m c ⟨n, hn⟩ (outsAt0 m c n hn) := by
  intro n
  induction n with
  | zero => intro hn _; exact state_A m c ⟨0, hn⟩ rfl
  | succ n ih =>
    intro hn hlt
    by_cases h0 : (n + 1) % 11 = 0
    · exact state_A m c ⟨n + 1, hn⟩ h0
    · exact state_step m c ⟨n + 1, hn⟩ h0 hlt (ih (Nat.lt_of_succ_lt hn) (by omega))

/-- The last point of a row block leaves the finished rows. -/
theorem last (c : Dev nD) (t : Fin cfg0.N) (h2 : t.val % 11 = 10) (r : Fin 1024) (q : Fin 2048) :
    (outsAt0 m c t.val t.isLt).1 (ix2 r q)
      = ffn (row (m ((c : Thread nD τ).loc main_arg0)) (at_ t r)) (fun k => m ((c : Thread nD τ).loc main_arg1) (ix2 0 k))
          (m ((c : Thread nD τ).loc main_arg2)) (m ((c : Thread nD τ).loc main_arg3)) (m ((c : Thread nD τ).loc main_arg4)) q := by
  have hN := lt_of_lt_of_eq t.isLt (show cfg0.N = 176 from N_0)
  have hp := state m c (t.val - 1) (Nat.lt_of_le_of_lt (Nat.sub_le _ _) t.isLt) (by omega)
  rw [outsAt0_C m c t (by omega) (by omega) h2]
  dsimp only
  rw [out_C]
  have e : ∀ k, _ = _ := state_B m c t _ ⟨t.val - 1, Nat.lt_of_le_of_lt (Nat.sub_le _ _) t.isLt⟩ (by dsimp only; omega) (by omega) hp r
  simp only [e, blk0, h2]
  unfold ffn
  simp only [← upto_all]

/-- The result at row `R` and column `q`. -/
theorem array (c : Dev nD) (R : Fin 16384) (q : Fin 2048) : Value.G9 m c (ix2 R q)
    = ffn (row (m ((c : Thread nD τ).loc main_arg0)) R) (fun k => m ((c : Thread nD τ).loc main_arg1) (ix2 0 k))
        (m ((c : Thread nD τ).loc main_arg2)) (m ((c : Thread nD τ).loc main_arg3)) (m ((c : Thread nD τ).loc main_arg4)) q := by
  have hp : Value.pt9Of (ix2 R q) = 11 * (R.val / 1024) + 10 := by
    show 11 * (1 * (R.val / 1024 - 0) + 1 * (q.val / 2048 - 0)) + 10 = _
    omega
  have hlt : Value.pt9Of (ix2 R q) < cfg0.N := by rw [hp, show cfg0.N = 176 from N_0]; omega
  unfold Value.G9
  rw [dif_pos hlt, ← Value.outsAt0_sweep m c _ hlt]
  have hl : Value.loc9Of (ix2 R q) = ix2 ⟨R.val % 1024, Nat.mod_lt _ (by decide)⟩ q := funext fun a => Fin.ext (by
    match a with
    | ⟨0, _⟩ => rfl
    | ⟨1, _⟩ => show q.val % 2048 = q.val; omega)
  rw [hl]
  refine (last m c ⟨Value.pt9Of (ix2 R q), hlt⟩ (by dsimp only; rw [hp]; omega) _ q).trans ?_
  have e : at_ ⟨Value.pt9Of (ix2 R q), hlt⟩ ⟨R.val % 1024, Nat.mod_lt _ (by decide)⟩ = R :=
    Fin.ext (by show 1024 * (Value.pt9Of (ix2 R q) / 11) + R.val % 1024 = R.val; rw [hp]; omega)
  rw [e]

/-! The four weights carried over: every point copies its block of each. -/

theorem copied10 (c : Dev nD) (t : Fin cfg0.N) (r : Fin 128) (q : Fin 512) :
    (outsAt0 m c t.val t.isLt).2.1 (ix2 r q) = iblk m c 5 t (ix2 r q) := by
  by_cases h0 : t.val % 11 = 0
  · rw [outsAt0_A m c t h0 (by omega) (by omega)]; dsimp only; exact cast_A_10 ..
  · by_cases h2 : t.val % 11 = 10
    · rw [outsAt0_C m c t h0 (by omega) h2]; dsimp only; exact cast_C_10 ..
    · rw [outsAt0_B m c t h0 (by omega) h2]; dsimp only; exact cast_B_10 ..

theorem copied11 (c : Dev nD) (t : Fin cfg0.N) (r : Fin 128) (q : Fin 512) :
    (outsAt0 m c t.val t.isLt).2.2.1 (ix2 r q) = iblk m c 6 t (ix2 r q) := by
  by_cases h0 : t.val % 11 = 0
  · rw [outsAt0_A m c t h0 (by omega) (by omega)]; dsimp only; exact cast_A_11 ..
  · by_cases h2 : t.val % 11 = 10
    · rw [outsAt0_C m c t h0 (by omega) h2]; dsimp only; exact cast_C_11 ..
    · rw [outsAt0_B m c t h0 (by omega) h2]; dsimp only; exact cast_B_11 ..

theorem copied12 (c : Dev nD) (t : Fin cfg0.N) (r : Fin 32) (q : Fin 2048) :
    (outsAt0 m c t.val t.isLt).2.2.2.1 (ix2 r q) = iblk m c 7 t (ix2 r q) := by
  by_cases h0 : t.val % 11 = 0
  · rw [outsAt0_A m c t h0 (by omega) (by omega)]; dsimp only; exact cast_A_12 ..
  · by_cases h2 : t.val % 11 = 10
    · rw [outsAt0_C m c t h0 (by omega) h2]; dsimp only; exact cast_C_12 ..
    · rw [outsAt0_B m c t h0 (by omega) h2]; dsimp only; exact cast_B_12 ..

theorem copied13 (c : Dev nD) (t : Fin cfg0.N) (r : Fin 128) (q : Fin 2048) :
    (outsAt0 m c t.val t.isLt).2.2.2.2.1 (ix2 r q) = iblk m c 8 t (ix2 r q) := by
  by_cases h0 : t.val % 11 = 0
  · rw [outsAt0_A m c t h0 (by omega) (by omega)]; dsimp only; exact cast_A_13 ..
  · by_cases h2 : t.val % 11 = 10
    · rw [outsAt0_C m c t h0 (by omega) h2]; dsimp only; exact cast_C_13 ..
    · rw [outsAt0_B m c t h0 (by omega) h2]; dsimp only; exact cast_B_13 ..

theorem array10 (c : Dev nD) (R : Fin 2048) (q : Fin 5632) :
    Value.G10 m c (ix2 R q) = m ((c : Thread nD τ).loc main_arg5) (ix3 0 R q) := by
  have hp : Value.pt10Of (ix2 R q) = 11 * (R.val / 128) + q.val / 512 := by
    show 11 * (R.val / 128 - 0) + 1 * (q.val / 512 - 0) = _
    omega
  have hlt : Value.pt10Of (ix2 R q) < cfg0.N := by rw [hp, show cfg0.N = 176 from N_0]; omega
  unfold Value.G10
  rw [dif_pos hlt, ← Value.outsAt0_sweep m c _ hlt]
  have hl : Value.loc10Of (ix2 R q) = ix2 ⟨R.val % 128, Nat.mod_lt _ (by decide)⟩ ⟨q.val % 512, Nat.mod_lt _ (by decide)⟩ := funext fun a => Fin.ext (by
    match a with
    | ⟨0, _⟩ => rfl
    | ⟨1, _⟩ => rfl)
  rw [hl]
  refine (copied10 m c ⟨Value.pt10Of (ix2 R q), hlt⟩ _ _).trans ((blk5 m c _ _ _).trans (congrArg _ (funext fun a => Fin.ext ?_)))
  match a with
  | ⟨0, _⟩ => rfl
  | ⟨1, _⟩ => show 128 * (Value.pt10Of (ix2 R q) / 11) + R.val % 128 = R.val; rw [hp]; omega
  | ⟨2, _⟩ => show 512 * (Value.pt10Of (ix2 R q) % 11) + q.val % 512 = q.val; rw [hp]; omega

theorem array11 (c : Dev nD) (R : Fin 2048) (q : Fin 5632) :
    Value.G11 m c (ix2 R q) = m ((c : Thread nD τ).loc main_arg6) (ix3 0 R q) := by
  have hp : Value.pt11Of (ix2 R q) = 11 * (R.val / 128) + q.val / 512 := by
    show 11 * (R.val / 128 - 0) + 1 * (q.val / 512 - 0) = _
    omega
  have hlt : Value.pt11Of (ix2 R q) < cfg0.N := by rw [hp, show cfg0.N = 176 from N_0]; omega
  unfold Value.G11
  rw [dif_pos hlt, ← Value.outsAt0_sweep m c _ hlt]
  have hl : Value.loc11Of (ix2 R q) = ix2 ⟨R.val % 128, Nat.mod_lt _ (by decide)⟩ ⟨q.val % 512, Nat.mod_lt _ (by decide)⟩ := funext fun a => Fin.ext (by
    match a with
    | ⟨0, _⟩ => rfl
    | ⟨1, _⟩ => rfl)
  rw [hl]
  refine (copied11 m c ⟨Value.pt11Of (ix2 R q), hlt⟩ _ _).trans ((blk6 m c _ _ _).trans (congrArg _ (funext fun a => Fin.ext ?_)))
  match a with
  | ⟨0, _⟩ => rfl
  | ⟨1, _⟩ => show 128 * (Value.pt11Of (ix2 R q) / 11) + R.val % 128 = R.val; rw [hp]; omega
  | ⟨2, _⟩ => show 512 * (Value.pt11Of (ix2 R q) % 11) + q.val % 512 = q.val; rw [hp]; omega

theorem array12 (c : Dev nD) (R : Fin 5632) (q : Fin 2048) :
    Value.G12 m c (ix2 R q) = m ((c : Thread nD τ).loc main_arg7) (ix3 0 R q) := by
  have hp : Value.pt12Of (ix2 R q) = R.val / 32 := by
    show 1 * (R.val / 32 - 0) + 1 * (q.val / 2048 - 0) = _
    omega
  have hlt : Value.pt12Of (ix2 R q) < cfg0.N := by rw [hp, show cfg0.N = 176 from N_0]; omega
  unfold Value.G12
  rw [dif_pos hlt, ← Value.outsAt0_sweep m c _ hlt]
  have hl : Value.loc12Of (ix2 R q) = ix2 ⟨R.val % 32, Nat.mod_lt _ (by decide)⟩ ⟨q.val % 2048, Nat.mod_lt _ (by decide)⟩ := funext fun a => Fin.ext (by
    match a with
    | ⟨0, _⟩ => rfl
    | ⟨1, _⟩ => rfl)
  rw [hl]
  refine (copied12 m c ⟨Value.pt12Of (ix2 R q), hlt⟩ _ _).trans ((blk7 m c _ _ _).trans (congrArg _ (funext fun a => Fin.ext ?_)))
  match a with
  | ⟨0, _⟩ => rfl
  | ⟨1, _⟩ => show 32 * (Value.pt12Of (ix2 R q)) + R.val % 32 = R.val; rw [hp]; omega
  | ⟨2, _⟩ => show q.val % 2048 = q.val; omega

theorem array13 (c : Dev nD) (R : Fin 2048) (q : Fin 2048) :
    Value.G13 m c (ix2 R q) = m ((c : Thread nD τ).loc main_arg8) (ix3 0 R q) := by
  have hp : Value.pt13Of (ix2 R q) = 11 * (R.val / 128) + 10 := by
    show 11 * (1 * (R.val / 128 - 0) + 1 * (q.val / 2048 - 0)) + 10 = _
    omega
  have hlt : Value.pt13Of (ix2 R q) < cfg0.N := by rw [hp, show cfg0.N = 176 from N_0]; omega
  unfold Value.G13
  rw [dif_pos hlt, ← Value.outsAt0_sweep m c _ hlt]
  have hl : Value.loc13Of (ix2 R q) = ix2 ⟨R.val % 128, Nat.mod_lt _ (by decide)⟩ ⟨q.val % 2048, Nat.mod_lt _ (by decide)⟩ := funext fun a => Fin.ext (by
    match a with
    | ⟨0, _⟩ => rfl
    | ⟨1, _⟩ => rfl)
  rw [hl]
  refine (copied13 m c ⟨Value.pt13Of (ix2 R q), hlt⟩ _ _).trans ((blk8 m c _ _ _).trans (congrArg _ (funext fun a => Fin.ext ?_)))
  match a with
  | ⟨0, _⟩ => rfl
  | ⟨1, _⟩ => show 128 * (Value.pt13Of (ix2 R q) / 11) + R.val % 128 = R.val; rw [hp]; omega
  | ⟨2, _⟩ => show q.val % 2048 = q.val; omega
end Cert.Ffn1Ideal.Kernel
end
-- ==== Proof.Ffn1Ref.lean ====
/-
  The first network as the problem writes it, read at row `R` and column `q`.
-/
module
public import proofs.«01_k».proof.Proof.Gen.Ffn1RefIdeal.Read
public import proofs.«01_k».proof.Proof.Spec
@[expose] public section
set_option maxRecDepth 16384
noncomputable section
namespace Cert.Ffn1RefIdeal.Ref
open Cert.Ffn1RefIdeal Cert.Ffn1RefIdeal.Gen Cert.Ffn1RefIdeal.Read Idealize.ShloMosaic Layer
variable (x0 : (⟨S4x4096x2048, .f32⟩ : BufTy).Contents (Elt Ideal)) (x1 : (⟨S1x2048, .f32⟩ : BufTy).Contents (Elt Ideal))

theorem normed (b : Fin 4) (s : Fin 4096) (k : Fin 2048) :
    val_main_v13 (F := Ideal) x0 x1 (ix3 b s k) = rmsn (fun k => x0 (ix3 b s k)) (fun k => x1 (ix2 0 k)) k := by
  unfold rmsn scale
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  try rfl

variable (x2 x3 : (⟨S1x2048x5632, .f32⟩ : BufTy).Contents (Elt Ideal)) (x4 : (⟨S1x5632x2048, .f32⟩ : BufTy).Contents (Elt Ideal))

theorem gated (b : Fin 4) (s : Fin 4096) (f : Fin 5632) :
    val_main_v20 (F := Ideal) x0 x1 x2 x3 (ix3 b s f)
      = act (rmsn (fun k => x0 (ix3 b s k)) (fun k => x1 (ix2 0 k))) (fun k => x2 (ix3 0 k f)) (fun k => x3 (ix3 0 k f)) := by
  unfold act
  pointwise [val_main_v20, val_main_v19, val_main_v18, val_main_call0_v5, val_main_call0_v4, val_main_call0_cst_0, val_main_call0_v3, val_main_call0_v2, val_main_call0_cst, val_main_call0_v1, val_main_call0_v0, val_main_v17, val_main_v15, val_main_v14]
  simp only [normed]
  rfl

theorem summed (b : Fin 4) (s : Fin 4096) (k : Fin 2048) :
    val_main_v24 (F := Ideal) x0 x1 x2 x3 x4 (ix3 b s k)
      = ffn (fun k => x0 (ix3 b s k)) (fun k => x1 (ix2 0 k)) x2 x3 x4 k := by
  unfold ffn half unit
  pointwise [val_main_v24, val_main_v23, val_main_v22, val_main_v21, val_main_v16, val_main_cst_2]
  simp only [gated]

theorem result (R : Fin 16384) (q : Fin 2048) :
    val_main_v25 (F := Ideal) x0 x1 x2 x3 x4 (ix2 R q) = ffn (row x0 R) (fun k => x1 (ix2 0 k)) x2 x3 x4 q := by
  pointwise [val_main_v25]
  simp only [summed]
  rfl

variable (x7 : (⟨S1x5632x2048, .f32⟩ : BufTy).Contents (Elt Ideal)) (x8 : (⟨S1x2048x2048, .f32⟩ : BufTy).Contents (Elt Ideal))

theorem carried5 (k : Fin 2048) (f : Fin 5632) : val_main_v27 (F := Ideal) x2 (ix2 k f) = x2 (ix3 0 k f) := by
  pointwise [val_main_v27, val_main_v26]
theorem carried6 (k : Fin 2048) (f : Fin 5632) : val_main_v29 (F := Ideal) x2 (ix2 k f) = x2 (ix3 0 k f) := by
  pointwise [val_main_v29, val_main_v28]
theorem carried7 (f : Fin 5632) (k : Fin 2048) : val_main_v31 (F := Ideal) x7 (ix2 f k) = x7 (ix3 0 f k) := by
  pointwise [val_main_v31, val_main_v30]
theorem carried8 (f : Fin 2048) (k : Fin 2048) : val_main_v33 (F := Ideal) x8 (ix2 f k) = x8 (ix3 0 f k) := by
  pointwise [val_main_v33, val_main_v32]
end Cert.Ffn1RefIdeal.Ref
end
-- ==== Proof.Ffn1Claim.lean ====
/-
  The first network's call: its frames, and its values against the problem's own lines.
-/
module
public import proofs.«01_k».proof.Proof.Ffn1Kernel
public import proofs.«01_k».proof.Proof.Ffn1Ref
public import proofs.«01_k».proof.Proof.Gen.Ffn1.Frame
public import proofs.«01_k».proof.Defs
@[expose] public section
set_option maxRecDepth 16384
noncomputable section
namespace Cert.Proof.Ffn1Claim
open Idealize.ShloMosaic Idealize.ShloMosaic.TcCoe Idealize.SL.Sem Layer
open Cert.Ffn1RefIdeal.Read Cert.Ffn1Ideal.Kernel

theorem frame_kernel : Cert.quiescent_Ffn1 := fun m ρ _ => Cert.Ffn1.Gen.frame m ρ
theorem frame_ideal : Cert.quiescent_Ffn1Ideal := fun m ρ _ => Cert.Ffn1Ideal.Gen.frame m ρ
theorem frame_reference : Cert.quiescent_Ffn1RefIdeal := fun m ρ _ =>
  (θ_run Cert.Ffn1RefIdeal.defs _ _).mono (fun r h => ⟨fun c => (h c).2.2.2.2.2, sem_eq_zero_of_no_sems (by decide) r.2⟩)
    (Cert.Ffn1RefIdeal.Value.run (F := Ideal) m ρ)
theorem preserves : Cert.preserves_Ffn1_Ffn1Ideal := trivial

/-- Two arrays of two axes that agree at every row and column are one. -/
theorem ext2 {p q : ℕ} {α : Type} (f g : (⟨2, ![p, q]⟩ : Shape).Idx → α) (h : ∀ (r : Fin p) (k : Fin q), f (ix2 r k) = g (ix2 r k)) : f = g :=
  funext fun j => by rw [show j = ix2 (j 0) (j 1) from eq_ix2 j]; exact h _ _

/-- Both sides are the row through the network, half of it added back on; the weights carried over are the arguments'. -/
theorem algebraic : Cert.algebraic_Ffn1Ideal_Ffn1RefIdeal := by
  intro m ρ m' ρ' _ hagree
  refine ⟨fun c => Cert.Ffn1Ideal.Value.G9 m c, fun c => Cert.Ffn1Ideal.Value.G10 m c, fun c => Cert.Ffn1Ideal.Value.G11 m c,
    fun c => Cert.Ffn1Ideal.Value.G12 m c, fun c => Cert.Ffn1Ideal.Value.G13 m c, Cert.Ffn1Ideal.Value.run (F := Ideal) m ρ, ?_⟩
  refine (θ_run Cert.Ffn1RefIdeal.defs _ _).mono (fun _ h c => ?_) (Cert.Ffn1RefIdeal.Value.run (F := Ideal) m' ρ')
  obtain ⟨e0, e1, e2, e3, e4, e5, e6, e7, e8⟩ := hagree c
  obtain ⟨h9, h10, h11, h12, h13, hk⟩ := h c
  refine ⟨h9.trans ?_, h10.trans ?_, h11.trans ?_, h12.trans ?_, h13.trans ?_, hk⟩
  · rw [val_main_v25_eq, e0, e1, e2, e3, e4]
    exact ext2 _ _ fun R q => (Cert.Ffn1RefIdeal.Ref.result _ _ _ _ _ R q).trans (array m c R q).symm
  · rw [val_main_v27_eq, e5]
    exact ext2 _ _ fun R q => (Cert.Ffn1RefIdeal.Ref.carried5 _ R q).trans (array10 m c R q).symm
  · rw [val_main_v29_eq, e6]
    exact ext2 _ _ fun R q => (Cert.Ffn1RefIdeal.Ref.carried6 _ R q).trans (array11 m c R q).symm
  · rw [val_main_v31_eq, e7]
    exact ext2 _ _ fun R q => (Cert.Ffn1RefIdeal.Ref.carried7 _ R q).trans (array12 m c R q).symm
  · rw [val_main_v33_eq, e8]
    exact ext2 _ _ fun R q => (Cert.Ffn1RefIdeal.Ref.carried8 _ R q).trans (array13 m c R q).symm

end Cert.Proof.Ffn1Claim
end
-- ==== Proof.Ffn2Block.lean ====
/-
  The second feed-forward call, one grid point at a time: what each case leaves in its block and in the scratch, read at an
  index.
-/
module
public import proofs.«01_k».proof.Proof.Spec
public import proofs.«01_k».proof.Proof.Gen.Ffn2Ideal.Frame
public import Idealize.ShloMosaic.Lib.Pointwise
public import Idealize.ShloMosaic.Lib.Pipeline.ValueKit
@[expose] public section
set_option maxRecDepth 16384
noncomputable section
namespace Cert.Ffn2Ideal.Block
open Cert.Ffn2Ideal Cert.Ffn2Ideal.Gen Idealize.ShloMosaic Idealize.SL.Sem Layer

section
variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole)
    (x0 : Vec Ideal S1024x2048 .f32) (x1 : Vec Ideal S1x2048 .f32) (x2 : Vec Ideal S2048x512 .bf16) (x3 : Vec Ideal S2048x512 .bf16) (x4 : Vec Ideal S512x2048 .bf16) (x5 : Vec Ideal S1x2048 .f32) (xo6 : Vec Ideal S1024x2048 .f32) (xs0 : Vec Ideal S1024x2048 .bf16)

/-- The first point of a row block leaves the normed rows in the scratch. -/
theorem hidden_A (hc0 : cond0_0 i) (hc1 : ¬cond0_1 i) (hc2 : ¬cond0_2 i) (r : Fin 1024) (q : Fin 2048) :
    sout0_A_0 c i arg2 harg2 arg3 harg3 arg4 harg4 arg5 harg5 arg6 harg6 arg7 harg7 arg8 harg8 arg9 harg9 hc0 hc1 hc2 x0 x1 x2 x3 x4 x5 (ix2 r q)
      = rmsn (fun k => x0 (ix2 r k)) (fun k => x1 (ix2 0 k)) q := by
  frame_out
  refine canon_halves (T := 1024) (H := 512) (W := 2048) (e := .bf16) rfl (fun y => rmsn (fun k => x0 (ix2 (y 0) k)) (fun k => x1 (ix2 0 k)) (y 1)) _ _ _ _ ?_ ?_ r q
  all_goals intro a b; unfold rmsn scale; unfold_payloads; pointwise; try rfl

/-- … and the first tile of hidden units in the output block. -/
theorem out_A (hc0 : cond0_0 i) (hc1 : ¬cond0_1 i) (hc2 : ¬cond0_2 i) (r : Fin 1024) (q : Fin 2048) :
    out0_A_6 c i arg2 harg2 arg3 harg3 arg4 harg4 arg5 harg5 arg6 harg6 arg7 harg7 arg8 harg8 arg9 harg9 hc0 hc1 hc2 x0 x1 x2 x3 x4 x5 (ix2 r q)
      = units (rmsn (fun k => x0 (ix2 r k)) (fun k => x1 (ix2 0 k))) (fun k f => x2 (ix2 k f)) (fun k f => x3 (ix2 k f)) (fun f k => x4 (ix2 f k)) q := by
  frame_out
  refine canon_halves (T := 1024) (H := 512) (W := 2048) (e := .f32) rfl (fun y => units (rmsn (fun k => x0 (ix2 (y 0) k)) (fun k => x1 (ix2 0 k))) (fun k f => x2 (ix2 k f)) (fun k f => x3 (ix2 k f)) (fun f k => x4 (ix2 f k)) (y 1)) _ _ _ _ ?_ ?_ r q
  all_goals intro a b; unfold units act rmsn scale; unfold_payloads; pointwise; try rfl

/-- A middle point adds its tile of hidden units. -/
theorem out_B (hc0 : ¬cond0_0 i) (hc1 : cond0_1 i) (hc2 : ¬cond0_2 i) (r : Fin 1024) (q : Fin 2048) :
    out0_B_6 c i arg2 harg2 arg3 harg3 arg4 harg4 arg5 harg5 arg6 harg6 arg7 harg7 arg8 harg8 arg9 harg9 hc0 hc1 hc2 x0 x1 x2 x3 x4 x5 xo6 xs0 (ix2 r q)
      = xo6 (ix2 r q) + units (fun k => xs0 (ix2 r k)) (fun k f => x2 (ix2 k f)) (fun k f => x3 (ix2 k f)) (fun f k => x4 (ix2 f k)) q := by
  frame_out
  unfold units act; unfold_payloads; pointwise; try rfl

/-- The last point adds its tile, takes half of the sum onto the row, and norms it. -/
theorem out_C (hc0 : ¬cond0_0 i) (hc1 : ¬cond0_1 i) (hc2 : cond0_2 i) (r : Fin 1024) (q : Fin 2048) :
    out0_C_6 c i arg2 harg2 arg3 harg3 arg4 harg4 arg5 harg5 arg6 harg6 arg7 harg7 arg8 harg8 arg9 harg9 hc0 hc1 hc2 x0 x1 x2 x3 x4 x5 xo6 xs0 (ix2 r q)
      = rmsn (half (fun k => x0 (ix2 r k)) fun k => xo6 (ix2 r k) + units (fun k => xs0 (ix2 r k)) (fun k f => x2 (ix2 k f)) (fun k f => x3 (ix2 k f)) (fun f k => x4 (ix2 f k)) k)
          (fun k => x5 (ix2 0 k)) q := by
  frame_out
  refine canon_halves (T := 1024) (H := 512) (W := 2048) (e := .f32) rfl (fun y => rmsn (half (fun k => x0 (ix2 (y 0) k)) fun k => xo6 (ix2 (y 0) k) + units (fun k => xs0 (ix2 (y 0) k)) (fun k f => x2 (ix2 k f)) (fun k f => x3 (ix2 k f)) (fun f k => x4 (ix2 f k)) k)
          (fun k => x5 (ix2 0 k)) (y 1)) _ _ _ _ ?_ ?_ r q
  all_goals intro a b; unfold rmsn scale half units act; unfold_payloads; pointwise; try rfl

end
end Cert.Ffn2Ideal.Block
end
-- ==== Proof.Ffn2In.lean ====
/-
  What the blocks of the second feed-forward call hold, in terms of the arguments: each window's block at a grid
  point, read at an index.
-/
module
public import proofs.«01_k».proof.Proof.Spec
public import proofs.«01_k».proof.Proof.Gen.Ffn2Ideal.Frame
public import Idealize.ShloMosaic.Lib.StableHlo.ReadAt
@[expose] public section
set_option maxRecDepth 16384
noncomputable section
namespace Cert.Ffn2Ideal.In
open Cert.Ffn2Ideal Cert.Ffn2Ideal.Gen Idealize.ShloMosaic Idealize.ShloMosaic.TcCoe Idealize.SL.Sem Layer
variable (m : (ℓ : Loc nD τ sig) → Buf (Elt Ideal) ℓ)

/-- The rows as the region finds them: the argument's, numbered through. -/
theorem rows (c : Dev nD) (r : Fin 16384) (k : Fin 2048) :
    V m c main_v0 (ix2 r k) = row (m ((c : Thread nD τ).loc main_arg0)) r k := by
  unfold V row
  after_reads_at
/-- The gate's weights. -/
theorem gate (c : Dev nD) (k : Fin 2048) (f : Fin 5632) :
    V m c main_v2 (ix2 k f) = m ((c : Thread nD τ).loc main_arg2) (ix3 0 k f) := by
  unfold V
  after_reads_at
/-- The other product's weights. -/
theorem up (c : Dev nD) (k : Fin 2048) (f : Fin 5632) :
    V m c main_v4 (ix2 k f) = m ((c : Thread nD τ).loc main_arg3) (ix3 0 k f) := by
  unfold V
  after_reads_at
/-- The weights that bring the hidden units back. -/
theorem down (c : Dev nD) (f : Fin 5632) (k : Fin 2048) :
    V m c main_v6 (ix2 f k) = m ((c : Thread nD τ).loc main_arg4) (ix3 0 f k) := by
  unfold V
  after_reads_at
/-- The last gain. -/
theorem gain (c : Dev nD) (k : Fin 2048) :
    V m c main_v7 (ix2 0 k) = m ((c : Thread nD τ).loc main_arg5) (ix1 k) := by
  unfold V
  after_reads_at

/-- Where each window's block lies: the row block is the point's number over 11, the tile the remainder. -/
theorem places : ∀ t : Fin cfg0.N, (win0_0.index t (0 : Fin 2) = t.val / 11 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val % 11)
    ∧ (win0_3.index t (0 : Fin 2) = 0 ∧ win0_3.index t (1 : Fin 2) = t.val % 11)
    ∧ (win0_4.index t (0 : Fin 2) = t.val % 11 ∧ win0_4.index t (1 : Fin 2) = 0)
    ∧ (win0_5.index t (0 : Fin 2) = 0 ∧ win0_5.index t (1 : Fin 2) = 0) :=
  (by decide +kernel : ∀ t : Fin grid0.N, _)

/-- A point's number over 11 is below 16. -/
theorem blockLt (t : Fin cfg0.N) : t.val / 11 < 16 := by
  have := lt_of_lt_of_eq t.isLt (show cfg0.N = 176 from N_0); omega

theorem blk0 (c : Dev nD) (t : Fin cfg0.N) (r : Fin 1024) (k : Fin 2048) :
    iblk m c 0 t (ix2 r k) = row (m ((c : Thread nD τ).loc main_arg0)) ⟨1024 * (t.val / 11) + r.val, by have := blockLt t; omega⟩ k := by
  obtain ⟨⟨e0, e1⟩, -⟩ := places t
  refine Eq.trans ?_ (rows m c _ k)
  unfold iblk
  rw [View.read_apply]
  show V m c main_v0 _ = V m c main_v0 _
  refine congrArg _ (funext fun a => Fin.ext ?_)
  match a with
  | ⟨0, _⟩ => show win0_0.index t (0 : Fin 2) * 1024 + 1 * r.val = 1024 * (t.val / 11) + r.val; rw [e0]; omega
  | ⟨1, _⟩ => show win0_0.index t (1 : Fin 2) * 2048 + 1 * k.val = k.val; rw [e1]; omega
theorem blk1 (c : Dev nD) (t : Fin cfg0.N) (k : Fin 2048) :
    iblk m c 1 t (ix2 0 k) = m ((c : Thread nD τ).loc main_arg1) (ix2 0 k) := by
  obtain ⟨-, ⟨e0, e1⟩, -⟩ := places t
  rw [← V_main_arg1 m c]
  unfold iblk
  rw [View.read_apply]
  show V m c main_arg1 _ = V m c main_arg1 _
  refine congrArg _ (funext fun a => Fin.ext ?_)
  match a with
  | ⟨0, _⟩ => show win0_1.index t (0 : Fin 2) * 1 + 1 * 0 = 0; rw [e0]
  | ⟨1, _⟩ => show win0_1.index t (1 : Fin 2) * 2048 + 1 * k.val = k.val; rw [e1]; omega
theorem blk2 (c : Dev nD) (t : Fin cfg0.N) (k : Fin 2048) (f : Fin 512) :
    iblk m c 2 t (ix2 k f) = m ((c : Thread nD τ).loc main_arg2) (ix3 0 k ⟨512 * (t.val % 11) + f.val, by omega⟩) := by
  obtain ⟨-, -, ⟨e0, e1⟩, -⟩ := places t
  refine Eq.trans ?_ (gate m c k _)
  unfold iblk
  rw [View.read_apply]
  show V m c main_v2 _ = V m c main_v2 _
  refine congrArg _ (funext fun a => Fin.ext ?_)
  match a with
  | ⟨0, _⟩ => show win0_2.index t (0 : Fin 2) * 2048 + 1 * k.val = k.val; rw [e0]; omega
  | ⟨1, _⟩ => show win0_2.index t (1 : Fin 2) * 512 + 1 * f.val = 512 * (t.val % 11) + f.val; rw [e1]; omega
theorem blk3 (c : Dev nD) (t : Fin cfg0.N) (k : Fin 2048) (f : Fin 512) :
    iblk m c 3 t (ix2 k f) = m ((c : Thread nD τ).loc main_arg3) (ix3 0 k ⟨512 * (t.val % 11) + f.val, by omega⟩) := by
  obtain ⟨-, -, -, ⟨e0, e1⟩, -⟩ := places t
  refine Eq.trans ?_ (up m c k _)
  unfold iblk
  rw [View.read_apply]
  show V m c main_v4 _ = V m c main_v4 _
  refine congrArg _ (funext fun a => Fin.ext ?_)
  match a with
  | ⟨0, _⟩ => show win0_3.index t (0 : Fin 2) * 2048 + 1 * k.val = k.val; rw [e0]; omega
  | ⟨1, _⟩ => show win0_3.index t (1 : Fin 2) * 512 + 1 * f.val = 512 * (t.val % 11) + f.val; rw [e1]; omega
theorem blk4 (c : Dev nD) (t : Fin cfg0.N) (f : Fin 512) (k : Fin 2048) :
    iblk m c 4 t (ix2 f k) = m ((c : Thread nD τ).loc main_arg4) (ix3 0 ⟨512 * (t.val % 11) + f.val, by omega⟩ k) := by
  obtain ⟨-, -, -, -, ⟨e0, e1⟩, -⟩ := places t
  refine Eq.trans ?_ (down m c _ k)
  unfold iblk
  rw [View.read_apply]
  show V m c main_v6 _ = V m c main_v6 _
  refine congrArg _ (funext fun a => Fin.ext ?_)
  match a with
  | ⟨0, _⟩ => show win0_4.index t (0 : Fin 2) * 512 + 1 * f.val = 512 * (t.val % 11) + f.val; rw [e0]; omega
  | ⟨1, _⟩ => show win0_4.index t (1 : Fin 2) * 2048 + 1 * k.val = k.val; rw [e1]; omega
theorem blk5 (c : Dev nD) (t : Fin cfg0.N) (k : Fin 2048) :
    iblk m c 5 t (ix2 0 k) = m ((c : Thread nD τ).loc main_arg5) (ix1 k) := by
  obtain ⟨-, -, -, -, -, ⟨e0, e1⟩⟩ := places t
  refine Eq.trans ?_ (gain m c k)
  unfold iblk
  rw [View.read_apply]
  show V m c main_v7 _ = V m c main_v7 _
  refine congrArg _ (funext fun a => Fin.ext ?_)
  match a with
  | ⟨0, _⟩ => show win0_5.index t (0 : Fin 2) * 1 + 1 * 0 = 0; rw [e0]
  | ⟨1, _⟩ => show win0_5.index t (1 : Fin 2) * 2048 + 1 * k.val = k.val; rw [e1]; omega
end Cert.Ffn2Ideal.In
end
-- ==== Proof.Ffn2Kernel.lean ====
/-
  What the second feed-forward call leaves in its result: at row `R` and column `q`, the row through the whole
  network, half of it added back on, normed.  The scratch holds the normed rows of the block from its first point on,
  and the output block the sum over the hidden units met so far.
-/
module
public import proofs.«01_k».proof.Proof.Ffn2Block
public import proofs.«01_k».proof.Proof.Ffn2In
public import proofs.«01_k».proof.Proof.Gen.Ffn2Ideal.Value
@[expose] public section
set_option maxRecDepth 16384
noncomputable section
namespace Cert.Ffn2Ideal.Kernel
open Cert.Ffn2Ideal Cert.Ffn2Ideal.Gen Idealize.ShloMosaic Idealize.ShloMosaic.TcCoe Idealize.SL.Sem Layer
open Cert.Ffn2Ideal.In Cert.Ffn2Ideal.Block
variable (m : (ℓ : Loc nD τ sig) → Buf (Elt Ideal) ℓ)

/-- Row `R`, normed. -/
abbrev hid (c : Dev nD) (R : Fin 16384) : Fin 2048 → EReal :=
  rmsn (row (m ((c : Thread nD τ).loc main_arg0)) R) (fun k => m ((c : Thread nD τ).loc main_arg1) (ix2 0 k))
/-- The hidden units' shares of column `q` on row `R`. -/
abbrev shares (c : Dev nD) (R : Fin 16384) (q : Fin 2048) : Fin 5632 → EReal :=
  unit (hid m c R) (m ((c : Thread nD τ).loc main_arg2)) (m ((c : Thread nD τ).loc main_arg3)) (m ((c : Thread nD τ).loc main_arg4)) q
/-- Row `r` of the block at point `t`, numbered through. -/
abbrev at_ (t : Fin cfg0.N) (r : Fin 1024) : Fin 16384 := ⟨1024 * (t.val / 11) + r.val, by have := blockLt t; omega⟩

/-- A point's tile of the weights gives its 512 hidden units' shares. -/
theorem tile (c : Dev nD) (t : Fin cfg0.N) (h : Fin 2048 → EReal) (q : Fin 2048) :
    units h (fun k f => iblk m c 2 t (ix2 k f)) (fun k f => iblk m c 3 t (ix2 k f)) (fun f k => iblk m c 4 t (ix2 f k)) q
      = ∑ f : Fin 512, unit h (m ((c : Thread nD τ).loc main_arg2)) (m ((c : Thread nD τ).loc main_arg3)) (m ((c : Thread nD τ).loc main_arg4)) q
          ⟨512 * (t.val % 11) + f.val, by omega⟩ := by
  unfold units unit
  simp only [blk2, blk3, blk4]

/-- What the points before the last of a row block hold: the normed rows, and the sum over the hidden units so far. -/
def Upto (c : Dev nD) (t : Fin cfg0.N) (S : Vec Ideal S1024x2048 .f32 × Vec Ideal S1024x2048 .bf16) : Prop :=
  (∀ r q, S.2 (ix2 r q) = hid m c (at_ t r) q)
    ∧ ∀ r q, S.1 (ix2 r q) = upto (shares m c (at_ t r) q) (512 * (t.val % 11 + 1))

theorem state_A (c : Dev nD) (t : Fin cfg0.N) (h0 : t.val % 11 = 0) : Upto m c t (outsAt0 m c t.val t.isLt) := by
  rw [outsAt0_A m c t h0 (by omega) (by omega)]
  refine ⟨fun r q => ?_, fun r q => ?_⟩
  · dsimp only
    rw [hidden_A]
    simp only [blk0, blk1]
  · dsimp only
    have hz : ∀ T, upto T (512 * (t.val % 11)) = 0 := fun T => by rw [h0]; exact upto_zero T
    rw [out_A, tile, upto_tile _ _ (by omega), hz, zero_add]
    simp only [blk0, blk1]

theorem state_B (c : Dev nD) (t : Fin cfg0.N) (S : Vec Ideal S1024x2048 .f32 × Vec Ideal S1024x2048 .bf16)
    (t' : Fin cfg0.N) (ht' : t'.val + 1 = t.val) (h0 : ¬t.val % 11 = 0) (hS : Upto m c t' S) (r : Fin 1024) (q : Fin 2048) :
    S.1 (ix2 r q) + units (fun k => S.2 (ix2 r k)) (fun k f => iblk m c 2 t (ix2 k f)) (fun k f => iblk m c 3 t (ix2 k f)) (fun f k => iblk m c 4 t (ix2 f k)) q
      = upto (shares m c (at_ t r) q) (512 * (t.val % 11 + 1)) := by
  have e : at_ t' r = at_ t r := Fin.ext (show 1024 * (t'.val / 11) + r.val = 1024 * (t.val / 11) + r.val by omega)
  have e' : t'.val % 11 + 1 = t.val % 11 := by omega
  rw [upto_tile _ _ (by omega), tile, hS.2, e, e']
  congr 1
  refine Finset.sum_congr rfl fun f _ => ?_
  refine congrArg (fun h => unit h _ _ _ q _) (funext fun k => ?_)
  rw [hS.1, e]

theorem state_step (c : Dev nD) (t : Fin cfg0.N) (h0 : ¬t.val % 11 = 0) (h2 : t.val % 11 < 10)
    (hp : Upto m c ⟨t.val - 1, Nat.lt_of_le_of_lt (Nat.sub_le _ _) t.isLt⟩ (outsAt0 m c (t.val - 1) (Nat.lt_of_le_of_lt (Nat.sub_le _ _) t.isLt))) :
    Upto m c t (outsAt0 m c t.val t.isLt) := by
  rw [outsAt0_B m c t h0 (by omega) (by omega)]
  refine ⟨fun r q => ?_, fun r q => ?_⟩
  · refine (hp.1 r q).trans (congrArg (fun R => hid m c R q) (Fin.ext ?_))
    show 1024 * ((t.val - 1) / 11) + r.val = 1024 * (t.val / 11) + r.val
    omega
  · dsimp only
    rw [out_B]
    exact state_B m c t _ ⟨t.val - 1, Nat.lt_of_le_of_lt (Nat.sub_le _ _) t.isLt⟩ (by dsimp only; omega) h0 hp r q

theorem state (c : Dev nD) : ∀ (n : ℕ) (hn : n < cfg0.N), n % 11 < 10 → Upto m c ⟨n, hn⟩ (outsAt0 m c n hn) := by
  intro n
  induction n with
  | zero => intro hn _; exact state_A m c ⟨0, hn⟩ rfl
  | succ n ih =>
    intro hn hlt
    by_cases h0 : (n + 1) % 11 = 0
    · exact state_A m c ⟨n + 1, hn⟩ h0
    · exact state_step m c ⟨n + 1, hn⟩ h0 hlt (ih (Nat.lt_of_succ_lt hn) (by omega))

/-- The last point of a row block leaves the finished rows. -/
theorem last (c : Dev nD) (t : Fin cfg0.N) (h2 : t.val % 11 = 10) (r : Fin 1024) (q : Fin 2048) :
    (outsAt0 m c t.val t.isLt).1 (ix2 r q)
      = rmsn (ffn (row (m ((c : Thread nD τ).loc main_arg0)) (at_ t r)) (fun k => m ((c : Thread nD τ).loc main_arg1) (ix2 0 k))
          (m ((c : Thread nD τ).loc main_arg2)) (m ((c : Thread nD τ).loc main_arg3)) (m ((c : Thread nD τ).loc main_arg4)))
        (fun k => m ((c : Thread nD τ).loc main_arg5) (ix1 k)) q := by
  have hN := lt_of_lt_of_eq t.isLt (show cfg0.N = 176 from N_0)
  have hp := state m c (t.val - 1) (Nat.lt_of_le_of_lt (Nat.sub_le _ _) t.isLt) (by omega)
  rw [outsAt0_C m c t (by omega) (by omega) h2]
  dsimp only
  rw [out_C]
  have e : ∀ k, _ = _ := state_B m c t _ ⟨t.val - 1, Nat.lt_of_le_of_lt (Nat.sub_le _ _) t.isLt⟩ (by dsimp only; omega) (by omega) hp r
  simp only [e, blk0, blk5, h2]
  unfold ffn
  simp only [← upto_all]

/-- The result at row `R` and column `q`. -/
def result (c : Dev nD) (R : Fin 16384) (q : Fin 2048) : EReal :=
  rmsn (ffn (row (m ((c : Thread nD τ).loc main_arg0)) R) (fun k => m ((c : Thread nD τ).loc main_arg1) (ix2 0 k))
      (m ((c : Thread nD τ).loc main_arg2)) (m ((c : Thread nD τ).loc main_arg3)) (m ((c : Thread nD τ).loc main_arg4)))
    (fun k => m ((c : Thread nD τ).loc main_arg5) (ix1 k)) q

theorem array (c : Dev nD) (R : Fin 16384) (q : Fin 2048) : Value.G6 m c (ix2 R q) = result m c R q := by
  have hp : Value.pt6Of (ix2 R q) = 11 * (R.val / 1024) + 10 := by
    show 11 * (1 * (R.val / 1024 - 0) + 1 * (q.val / 2048 - 0)) + 10 = _
    omega
  have hlt : Value.pt6Of (ix2 R q) < cfg0.N := by rw [hp, show cfg0.N = 176 from N_0]; omega
  unfold Value.G6
  rw [dif_pos hlt, ← Value.outsAt0_sweep m c _ hlt]
  have hl : Value.loc6Of (ix2 R q) = ix2 ⟨R.val % 1024, Nat.mod_lt _ (by decide)⟩ q := funext fun a => Fin.ext (by
    match a with
    | ⟨0, _⟩ => rfl
    | ⟨1, _⟩ => show q.val % 2048 = q.val; omega)
  rw [hl]
  refine (last m c ⟨Value.pt6Of (ix2 R q), hlt⟩ (by dsimp only; rw [hp]; omega) _ q).trans ?_
  unfold result
  have e : at_ ⟨Value.pt6Of (ix2 R q), hlt⟩ ⟨R.val % 1024, Nat.mod_lt _ (by decide)⟩ = R :=
    Fin.ext (by show 1024 * (Value.pt6Of (ix2 R q) / 11) + R.val % 1024 = R.val; rw [hp]; omega)
  rw [e]
end Cert.Ffn2Ideal.Kernel
end
-- ==== Proof.Ffn2Ref.lean ====
/-
  The second network as the problem writes it, read at row `R` and column `q`.
-/
module
public import proofs.«01_k».proof.Proof.Gen.Ffn2RefIdeal.Read
public import proofs.«01_k».proof.Proof.Spec
@[expose] public section
set_option maxRecDepth 16384
noncomputable section
namespace Cert.Ffn2RefIdeal.Ref
open Cert.Ffn2RefIdeal Cert.Ffn2RefIdeal.Gen Cert.Ffn2RefIdeal.Read Idealize.ShloMosaic Layer
variable (x0 : (⟨S4x4096x2048, .f32⟩ : BufTy).Contents (Elt Ideal)) (x1 : (⟨S1x2048, .f32⟩ : BufTy).Contents (Elt Ideal))

theorem normed (b : Fin 4) (s : Fin 4096) (k : Fin 2048) :
    val_main_v13 (F := Ideal) x0 x1 (ix3 b s k) = rmsn (fun k => x0 (ix3 b s k)) (fun k => x1 (ix2 0 k)) k := by
  unfold rmsn scale
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  try rfl

variable (x2 x3 : (⟨S1x2048x5632, .f32⟩ : BufTy).Contents (Elt Ideal)) (x4 : (⟨S1x5632x2048, .f32⟩ : BufTy).Contents (Elt Ideal))
  (x5 : (⟨S2048, .f32⟩ : BufTy).Contents (Elt Ideal))

theorem gated (b : Fin 4) (s : Fin 4096) (f : Fin 5632) :
    val_main_v20 (F := Ideal) x0 x1 x2 x3 (ix3 b s f)
      = act (rmsn (fun k => x0 (ix3 b s k)) (fun k => x1 (ix2 0 k))) (fun k => x2 (ix3 0 k f)) (fun k => x3 (ix3 0 k f)) := by
  unfold act
  pointwise [val_main_v20, val_main_v19, val_main_v18, val_main_call0_v5, val_main_call0_v4, val_main_call0_cst_0, val_main_call0_v3, val_main_call0_v2, val_main_call0_cst, val_main_call0_v1, val_main_call0_v0, val_main_v17, val_main_v15, val_main_v14]
  simp only [normed]
  rfl

theorem summed (b : Fin 4) (s : Fin 4096) (k : Fin 2048) :
    val_main_v24 (F := Ideal) x0 x1 x2 x3 x4 (ix3 b s k)
      = ffn (fun k => x0 (ix3 b s k)) (fun k => x1 (ix2 0 k)) x2 x3 x4 k := by
  unfold ffn half unit
  pointwise [val_main_v24, val_main_v23, val_main_v22, val_main_v21, val_main_v16, val_main_cst_2]
  simp only [gated]

theorem result (R : Fin 16384) (q : Fin 2048) :
    val_main_v38 (F := Ideal) x0 x1 x2 x3 x4 x5 (ix2 R q)
      = rmsn (ffn (row x0 R) (fun k => x1 (ix2 0 k)) x2 x3 x4) (fun k => x5 (ix1 k)) q := by
  unfold rmsn scale
  pointwise [val_main_v38, val_main_v37, val_main_v36, val_main_v35, val_main_v34, val_main_v33, val_main_v32, val_main_v31, val_main_v30, val_main_v29, val_main_v28, val_main_v27, val_main_v26, val_main_v25, val_main_cst_3, val_main_cst_4, val_main_cst_5]
  simp only [summed]
  rfl
end Cert.Ffn2RefIdeal.Ref
end
-- ==== Proof.Ffn2Claim.lean ====
/-
  The second network's call: its frames, and its value against the problem's own lines.
-/
module
public import proofs.«01_k».proof.Proof.Ffn2Kernel
public import proofs.«01_k».proof.Proof.Ffn2Ref
public import proofs.«01_k».proof.Proof.Gen.Ffn2.Frame
public import proofs.«01_k».proof.Defs
@[expose] public section
set_option maxRecDepth 16384
noncomputable section
namespace Cert.Proof.Ffn2Claim
open Idealize.ShloMosaic Idealize.ShloMosaic.TcCoe Idealize.SL.Sem Layer

theorem frame_kernel : Cert.quiescent_Ffn2 := fun m ρ _ => Cert.Ffn2.Gen.frame m ρ
theorem frame_ideal : Cert.quiescent_Ffn2Ideal := fun m ρ _ => Cert.Ffn2Ideal.Gen.frame m ρ
theorem frame_reference : Cert.quiescent_Ffn2RefIdeal := fun m ρ _ =>
  (θ_run Cert.Ffn2RefIdeal.defs _ _).mono (fun r h => ⟨fun c => (h c).2, sem_eq_zero_of_no_sems (by decide) r.2⟩)
    (Cert.Ffn2RefIdeal.Value.run (F := Ideal) m ρ)
theorem preserves : Cert.preserves_Ffn2_Ffn2Ideal := trivial

/-- Both sides are the row through the network, half of it added back on, normed. -/
theorem algebraic : Cert.algebraic_Ffn2Ideal_Ffn2RefIdeal := by
  intro m ρ m' ρ' _ hagree
  refine ⟨fun c => Cert.Ffn2Ideal.Value.G6 m c, Cert.Ffn2Ideal.Value.run (F := Ideal) m ρ, ?_⟩
  refine (θ_run Cert.Ffn2RefIdeal.defs _ _).mono (fun _ h c => ?_) (Cert.Ffn2RefIdeal.Value.run (F := Ideal) m' ρ')
  refine ⟨(h c).1.trans ?_, (h c).2⟩
  obtain ⟨e0, e1, e2, e3, e4, e5⟩ := hagree c
  rw [Cert.Ffn2RefIdeal.Read.val_main_v38_eq, e0, e1, e2, e3, e4, e5]
  funext j
  obtain ⟨R, q, rfl⟩ : ∃ (R : Fin 16384) (q : Fin 2048), j = ix2 R q := ⟨j 0, j 1, eq_ix2 j⟩
  exact (Cert.Ffn2RefIdeal.Ref.result _ _ _ _ _ _ R q).trans (Cert.Ffn2Ideal.Kernel.array m c R q).symm

end Cert.Proof.Ffn2Claim
end
-- ==== Proof.ConvSpec.lean ====
/-
  The convolution's arithmetic on one row, over the extended reals: the three products of a normed row, the gated
  product the convolution runs over, the three taps, and the norm over the 1024 channels.
-/
module
public import proofs.«01_k».proof.Proof.Spec

@[expose] public section
noncomputable section
namespace Layer

open Idealize.ShloMosaic

/-- A row against a column of weights. -/
def dot (h w : Fin 2048 → EReal) : EReal := ∑ k, h k * w k

/-- A row of 1024 channels normed, times its gain. -/
def rmsc (y g : Fin 1024 → EReal) (c : Fin 1024) : EReal :=
  y c * Ideal.rsqrt (Ideal.div (∑ k, y k * y k) (Ideal.ofBits FTy.f32 1149239296#32) + Ideal.ofBits FTy.f32 897988541#32) * g c

/-- The three taps on the rows two before, one before and at the place, under the other gate. -/
def taps (b u2 u1 u0 w0 w1 w2 : Fin 1024 → EReal) (c : Fin 1024) : EReal :=
  b c * (w0 c * u2 c + w1 c * u1 c + w2 c * u0 c)

/-- Two rows from before a block, then the block's own. -/
def hist (p6 p7 : EReal) (u : ℕ → EReal) : ℕ → EReal
  | 0 => p6
  | 1 => p7
  | n + 2 => u n

/-- Product `n` of row `R`. -/
def chan (x : (⟨3, ![4, 4096, 2048]⟩ : Shape).Idx → EReal) (g : Fin 2048 → EReal)
    (w : (⟨3, ![1, 2048, 5680]⟩ : Shape).Idx → EReal) (R : Fin 16384) (n : Fin 5680) : EReal :=
  dot (rmsn (row x R) g) (fun k => w (ix3 0 k n))

/-- The gated product of row `R` the taps run over. -/
def gat (x : (⟨3, ![4, 4096, 2048]⟩ : Shape).Idx → EReal) (g : Fin 2048 → EReal)
    (w : (⟨3, ![1, 2048, 5680]⟩ : Shape).Idx → EReal) (R : Fin 16384) (q : Fin 1024) : EReal :=
  chan x g w R ⟨2048 + q.val, by omega⟩ * chan x g w R ⟨q.val, by omega⟩

/-- The gated product `s` rows before row `R`, nothing before a sequence's first row. -/
def back (x : (⟨3, ![4, 4096, 2048]⟩ : Shape).Idx → EReal) (g : Fin 2048 → EReal)
    (w : (⟨3, ![1, 2048, 5680]⟩ : Shape).Idx → EReal) (s : ℕ) (R : Fin 16384) (q : Fin 1024) : EReal :=
  if R.val % 4096 < s then 0 else gat x g w ⟨R.val - s, by omega⟩ q

/-- The convolution's row `R`, normed. -/
def convRow (x : (⟨3, ![4, 4096, 2048]⟩ : Shape).Idx → EReal) (g : Fin 2048 → EReal)
    (w : (⟨3, ![1, 2048, 5680]⟩ : Shape).Idx → EReal) (cw : Fin 3 → Fin 1024 → EReal) (go : Fin 1024 → EReal)
    (R : Fin 16384) : Fin 1024 → EReal :=
  rmsc (taps (fun q => chan x g w R ⟨1024 + q.val, by omega⟩) (back x g w 2 R) (back x g w 1 R) (gat x g w R)
    (cw 0) (cw 1) (cw 2)) go

end Layer
end
-- ==== Proof.ConvBlock.lean ====
/-
  The convolution's call, one grid point at a time: what each case leaves in its block and in the scratch, read at an index.
-/
module
public import proofs.«01_k».proof.Proof.ConvSpec
public import proofs.«01_k».proof.Proof.Gen.ConvIdeal.Frame
public import Idealize.ShloMosaic.Lib.Pointwise
public import Idealize.ShloMosaic.Lib.Pipeline.ValueKit
public import Idealize.ShloMosaic.Lib.WordCmp
@[expose] public section
set_option maxRecDepth 16384
noncomputable section
namespace Cert.ConvIdeal.Block
open Cert.ConvIdeal Cert.ConvIdeal.Gen Idealize.ShloMosaic Idealize.SL.Sem Layer

/-- A choice on a row's number being a given one. -/
theorem pick {α : Type} (r j : ℕ) (hr : r < 2 ^ 32) (hj : j < 2 ^ 32) (a b : α) :
    Scalar.select (IntOp.cmpi CmpIPredicate.eq (BitVec.ofNat 32 r) (BitVec.ofNat 32 j)) a b = if r = j then a else b := by
  rw [WordCmp.cmpi_eq_ofNat hr hj]
  by_cases h : r = j <;> simp [Scalar.select, h]

theorem normed0 (v : Vec Ideal S256x2048 .f32) (g : Vec Ideal S1x2048 .f32) (r : Fin 256) (k : Fin 2048) :
    k0_pay4 v g (ix2 r k) = rmsn (fun k => v (ix2 r k)) (fun k => g (ix2 0 k)) k := by
  pointwise [k0_pay4]
  rfl
theorem normed1 (v : Vec Ideal S256x2048 .f32) (g : Vec Ideal S1x2048 .f32) (r : Fin 256) (k : Fin 2048) :
    k0_pay10 v g (ix2 r k) = rmsn (fun k => v (ix2 r k)) (fun k => g (ix2 0 k)) k := by
  pointwise [k0_pay10]
  rfl

/-- The gated product of the first half's row `r`. -/
theorem gated0 (v : Vec Ideal S256x2048 .f32) (g : Vec Ideal S1x2048 .f32) (wc wg : Vec Ideal S2048x1024 .bf16) (r : Fin 256) (q : Fin 1024) :
    k0_pay7 (k0_pay4 v g) (k0_pay5 v g wc) (k0_pay6 wg) (constant S256x1024 FTy.f32 0#32) (ix2 r q)
      = dot (rmsn (fun k => v (ix2 r k)) (fun k => g (ix2 0 k))) (fun k => wg (ix2 k q))
        * dot (rmsn (fun k => v (ix2 r k)) (fun k => g (ix2 0 k))) (fun k => wc (ix2 k q)) := by
  pointwise [k0_pay7, k0_pay5, k0_pay6]
  simp only [normed0]
  rfl
/-- The gated product of the second half's row `r`. -/
theorem gated1 (v : Vec Ideal S256x2048 .f32) (g : Vec Ideal S1x2048 .f32) (wc wg : Vec Ideal S2048x1024 .bf16) (r : Fin 256) (q : Fin 1024) :
    k0_pay15 (k0_pay10 v g) wc wg (ix2 r q)
      = dot (rmsn (fun k => v (ix2 r k)) (fun k => g (ix2 0 k))) (fun k => wg (ix2 k q))
        * dot (rmsn (fun k => v (ix2 r k)) (fun k => g (ix2 0 k))) (fun k => wc (ix2 k q)) := by
  pointwise [k0_pay15]
  simp only [normed1]
  rfl
/-- The first half's other gate. -/
theorem gate0 (v : Vec Ideal S256x2048 .f32) (g : Vec Ideal S1x2048 .f32) (wb : Vec Ideal S2048x1024 .bf16) (r : Fin 256) (q : Fin 1024) :
    k0_pay9 (k0_pay4 v g) wb (ix2 r q) = dot (rmsn (fun k => v (ix2 r k)) (fun k => g (ix2 0 k))) (fun k => wb (ix2 k q)) := by
  pointwise [k0_pay9]
  simp only [normed0]
  rfl

/-- The two rows before the block, then the rows of `u`. -/
abbrev trail (p6 p7 : EReal) (u : FVec Ideal S256x1024 .f32) (q : Fin 1024) : ℕ → EReal :=
  hist p6 p7 (fun n => if h : n < 256 then u (ix2 ⟨n, h⟩ q) else 0)

theorem one_back (p6 p7 : EReal) (u : FVec Ideal S256x1024 .f32) (r : Fin 256) (q : Fin 1024) (hlt : (r.val + 256 - 1) % 256 < 256) :
    (if r.val = 0 then p7 else u (ix2 ⟨(r.val + 256 - 1) % 256, hlt⟩ q)) = trail p6 p7 u q (r.val + 1) := by
  obtain ⟨r, hr⟩ := r
  match r with
  | 0 => rfl
  | n + 1 =>
    have e : (⟨(n + 1 + 256 - 1) % 256, hlt⟩ : Fin 256) = ⟨n, by omega⟩ := Fin.ext (show (n + 1 + 256 - 1) % 256 = n by omega)
    rw [if_neg (Nat.succ_ne_zero n)]
    show u (ix2 ⟨(n + 1 + 256 - 1) % 256, hlt⟩ q) = if h : n < 256 then u (ix2 ⟨n, h⟩ q) else 0
    rw [dif_pos (by omega), e]
theorem two_back (p6 p7 : EReal) (u : FVec Ideal S256x1024 .f32) (r : Fin 256) (q : Fin 1024) (hlt : (r.val + 256 - 2) % 256 < 256) :
    (if r.val = 0 then p6 else if r.val = 1 then p7 else u (ix2 ⟨(r.val + 256 - 2) % 256, hlt⟩ q)) = trail p6 p7 u q r.val := by
  obtain ⟨r, hr⟩ := r
  match r with
  | 0 => rfl
  | 1 => rfl
  | n + 2 =>
    have e : (⟨(n + 2 + 256 - 2) % 256, hlt⟩ : Fin 256) = ⟨n, by omega⟩ := Fin.ext (show (n + 2 + 256 - 2) % 256 = n by omega)
    rw [if_neg (by dsimp only; omega), if_neg (by dsimp only; omega)]
    show u (ix2 ⟨(n + 2 + 256 - 2) % 256, hlt⟩ q) = if h : n < 256 then u (ix2 ⟨n, h⟩ q) else 0
    rw [dif_pos (by omega), e]

/-- The first half's rows moved down by one, the row before the block on top. -/
theorem shift1 (s : Vec Ideal S8x1024 .f32) (v29 : FVec Ideal S256x2048 .bf16) (v32 : FVec Ideal S256x1024 .f32) (v34 : FVec Ideal S2048x1024 .bf16) (z : FVec Ideal S256x1024 .f32) (r : Fin 256) (q : Fin 1024) :
    k0_pay12 s v29 v32 v34 z (ix2 r q) = trail (s (ix2 6 q)) (s (ix2 7 q)) (k0_pay7 v29 v32 v34 z) q (r.val + 1) := by
  unfold k0_pay12 k0_pay11
  generalize k0_pay7 v29 v32 v34 z = u
  pointwise
  rw [pick _ 0 (by omega) (by omega)]
  exact one_back _ _ u r q _
/-- The same moved down by two. -/
theorem shift2 (s : Vec Ideal S8x1024 .f32) (v29 : FVec Ideal S256x2048 .bf16) (v32 : FVec Ideal S256x1024 .f32) (v34 : FVec Ideal S2048x1024 .bf16) (z : FVec Ideal S256x1024 .f32) (r : Fin 256) (q : Fin 1024) :
    k0_pay13 s v29 v32 v34 z (ix2 r q) = trail (s (ix2 6 q)) (s (ix2 7 q)) (k0_pay7 v29 v32 v34 z) q r.val := by
  unfold k0_pay13 k0_pay11
  generalize k0_pay7 v29 v32 v34 z = u
  pointwise
  rw [pick _ 0 (by omega) (by omega), pick _ 1 (by omega) (by omega)]
  exact two_back _ _ u r q _

theorem finish0 (v36 v40 v65 v76 : FVec Ideal S256x1024 .f32) (w0 w1 w2 g : FVec Ideal S1x1024 .f32) (r : Fin 256) (q : Fin 1024) :
    k0_pay14 v36 v40 v65 v76 w0 w1 w2 g (ix2 r q)
      = rmsc (taps (fun q => v40 (ix2 r q)) (fun q => v76 (ix2 r q)) (fun q => v65 (ix2 r q)) (fun q => v36 (ix2 r q))
          (fun q => w0 (ix2 0 q)) (fun q => w1 (ix2 0 q)) (fun q => w2 (ix2 0 q))) (fun q => g (ix2 0 q)) q := by
  pointwise [k0_pay14]
  rfl
theorem finish1 (s : FVec Ideal S8x1024 .f32) (v56 : FVec Ideal S256x2048 .bf16) (u : FVec Ideal S256x1024 .f32) (wb : FVec Ideal S2048x1024 .bf16) (w0 w1 w2 g : FVec Ideal S1x1024 .f32) (r : Fin 256) (q : Fin 1024) :
    k0_pay1 (k0_pay18 s v56 u (k0_pay17 wb) (constant S256x1024 FTy.f32 0#32) w0 w1 w2) g (ix2 r q)
      = rmsc (taps (fun q => dot (fun k => v56 (ix2 r k)) (fun k => wb (ix2 k q))) (fun q => trail (s (ix2 6 q)) (s (ix2 7 q)) u q r.val)
          (fun q => trail (s (ix2 6 q)) (s (ix2 7 q)) u q (r.val + 1)) (fun q => u (ix2 r q))
          (fun q => w0 (ix2 0 q)) (fun q => w1 (ix2 0 q)) (fun q => w2 (ix2 0 q))) (fun q => g (ix2 0 q)) q := by
  pointwise [k0_pay18, k0_pay1, k0_pay17]
  have e1 : ∀ x, _ = _ := fun x : Fin 1024 => one_back (s (ix2 6 x)) (s (ix2 7 x)) u r x (Nat.mod_lt _ (by decide))
  have e2 : ∀ x, _ = _ := fun x : Fin 1024 => two_back (s (ix2 6 x)) (s (ix2 7 x)) u r x (Nat.mod_lt _ (by decide))
  have p0 : ∀ {α : Type} (a b : α), Scalar.select (IntOp.cmpi CmpIPredicate.eq (BitVec.ofNat 32 r.val) 0#32) a b = if r.val = 0 then a else b :=
    fun a b => pick _ 0 (by omega) (by omega) a b
  have p1 : ∀ {α : Type} (a b : α), Scalar.select (IntOp.cmpi CmpIPredicate.eq (BitVec.ofNat 32 r.val) 1#32) a b = if r.val = 1 then a else b :=
    fun a b => pick _ 1 (by omega) (by omega) a b
  simp only [p0, p1, e1, e2]
  rfl

section
variable (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S2048x3072 .bf16) (harg3 : arg3.IsWhole) (arg4 : Memref sig .tc .vmem S3x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S8x1024 .f32) (harg7 : arg7.IsWhole)
    (x0 : Vec Ideal S512x2048 .f32) (x1 : Vec Ideal S1x2048 .f32) (x2 : Vec Ideal S2048x3072 .bf16) (x3 : Vec Ideal S3x1024 .f32) (x4 : Vec Ideal S1x1024 .f32) (xs0 : Vec Ideal S8x1024 .f32)

/-- The gated product at row `r` of the block. -/
def u (r : Fin 512) (q : Fin 1024) : EReal :=
  dot (rmsn (fun k => x0 (ix2 r k)) (fun k => x1 (ix2 0 k))) (fun k => x2 (ix2 k ⟨2048 + q.val, by omega⟩))
    * dot (rmsn (fun k => x0 (ix2 r k)) (fun k => x1 (ix2 0 k))) (fun k => x2 (ix2 k ⟨q.val, by omega⟩))
/-- The rows the taps run over: two from before the block, then the block's own. -/
def seen (p6 p7 : Fin 1024 → EReal) (n : ℕ) (q : Fin 1024) : EReal :=
  hist (p6 q) (p7 q) (fun n => if h : n < 512 then u x0 x1 x2 ⟨n, h⟩ q else 0) n
/-- The block's result at row `r`. -/
def out (p6 p7 : Fin 1024 → EReal) (r : Fin 512) : Fin 1024 → EReal :=
  rmsc (taps (fun q => dot (rmsn (fun k => x0 (ix2 r k)) (fun k => x1 (ix2 0 k))) (fun k => x2 (ix2 k ⟨1024 + q.val, by omega⟩)))
    (seen x0 x1 x2 p6 p7 r.val) (seen x0 x1 x2 p6 p7 (r.val + 1)) (u x0 x1 x2 r)
    (fun q => x3 (ix2 0 q)) (fun q => x3 (ix2 1 q)) (fun q => x3 (ix2 2 q))) (fun q => x4 (ix2 0 q))

theorem rows_first (r : Fin 256) (q : Fin 1024) :
    k0_pay7 (k0_pay4 (View.ld x0 (Rect.unit ![0, 0] ![256, 2048] inb_S512x2048_S256x2048_0_0)) x1)
        (k0_pay5 (View.ld x0 (Rect.unit ![0, 0] ![256, 2048] inb_S512x2048_S256x2048_0_0)) x1
          (View.ld x2 (Rect.unit ![0, 0] ![2048, 1024] inb_S2048x3072_S2048x1024_0_0)))
        (k0_pay6 (View.ld x2 (Rect.unit ![0, 2048] ![2048, 1024] inb_S2048x3072_S2048x1024_0_2048)))
        (constant S256x1024 FTy.f32 0#32) (ix2 r q) = u x0 x1 x2 ⟨r.val, by omega⟩ q := by
  rw [gated0]
  unfold u
  pointwise
theorem rows_second (r : Fin 256) (q : Fin 1024) :
    k0_pay15 (k0_pay10 (View.ld x0 (Rect.unit ![256, 0] ![256, 2048] inb_S512x2048_S256x2048_256_0)) x1)
          (View.ld x2 (Rect.unit ![0, 0] ![2048, 1024] inb_S2048x3072_S2048x1024_0_0))
          (View.ld x2 (Rect.unit ![0, 2048] ![2048, 1024] inb_S2048x3072_S2048x1024_0_2048)) (ix2 r q)
      = u x0 x1 x2 ⟨256 + r.val, by omega⟩ q := by
  rw [gated1]
  unfold u
  pointwise
omit x0 x1 x2 in
theorem tail0 (v29 : FVec Ideal S256x2048 .bf16) (v32 : FVec Ideal S256x1024 .f32) (v34 : FVec Ideal S2048x1024 .bf16) (z : FVec Ideal S256x1024 .f32) (q : Fin 1024) :
    k0_pay8 v29 v32 v34 z (ix2 6 q) = k0_pay7 v29 v32 v34 z (ix2 ⟨254, by omega⟩ q)
      ∧ k0_pay8 v29 v32 v34 z (ix2 7 q) = k0_pay7 v29 v32 v34 z (ix2 ⟨255, by omega⟩ q) := by
  unfold k0_pay8
  generalize k0_pay7 v29 v32 v34 z = u
  constructor <;> pointwise
theorem trail_first (p6 p7 : Fin 1024 → EReal) (U : FVec Ideal S256x1024 .f32)
    (hU : ∀ (r : Fin 256) (q : Fin 1024), U (ix2 r q) = u x0 x1 x2 ⟨r.val, by omega⟩ q) (n : ℕ) (hn : n ≤ 257) (q : Fin 1024) :
    trail (p6 q) (p7 q) U q n = seen x0 x1 x2 p6 p7 n q := by
  match n with
  | 0 => rfl
  | 1 => rfl
  | n + 2 =>
    show (if h : n < 256 then U (ix2 ⟨n, h⟩ q) else 0) = if h : n < 512 then u x0 x1 x2 ⟨n, h⟩ q else 0
    rw [dif_pos (by omega), dif_pos (by omega), hU]
theorem trail_second (p6 p7 : Fin 1024 → EReal) (U : FVec Ideal S256x1024 .f32)
    (hU : ∀ (r : Fin 256) (q : Fin 1024), U (ix2 r q) = u x0 x1 x2 ⟨256 + r.val, by omega⟩ q) (n : ℕ) (hn : n ≤ 257) (q : Fin 1024) :
    trail (u x0 x1 x2 ⟨254, by omega⟩ q) (u x0 x1 x2 ⟨255, by omega⟩ q) U q n = seen x0 x1 x2 p6 p7 (256 + n) q := by
  match n with
  | 0 => rfl
  | 1 => rfl
  | n + 2 =>
    show (if h : n < 256 then U (ix2 ⟨n, h⟩ q) else 0) = if h : 256 + n < 512 then u x0 x1 x2 ⟨256 + n, h⟩ q else 0
    rw [dif_pos (by omega), dif_pos (by omega), hU]

theorem first (s : Vec Ideal S8x1024 .f32) (r : Fin 256) (q : Fin 1024) :
    k0_pay14
      (k0_pay7 (k0_pay4 (View.ld x0 (Rect.unit ![0, 0] ![256, 2048] inb_S512x2048_S256x2048_0_0)) x1)
        (k0_pay5 (View.ld x0 (Rect.unit ![0, 0] ![256, 2048] inb_S512x2048_S256x2048_0_0)) x1
          (View.ld x2 (Rect.unit ![0, 0] ![2048, 1024] inb_S2048x3072_S2048x1024_0_0)))
        (k0_pay6 (View.ld x2 (Rect.unit ![0, 2048] ![2048, 1024] inb_S2048x3072_S2048x1024_0_2048)))
        (constant S256x1024 FTy.f32 0#32))
      (k0_pay9 (k0_pay4 (View.ld x0 (Rect.unit ![0, 0] ![256, 2048] inb_S512x2048_S256x2048_0_0)) x1)
        (View.ld x2 (Rect.unit ![0, 1024] ![2048, 1024] inb_S2048x3072_S2048x1024_0_1024)))
      (k0_pay12 s (k0_pay4 (View.ld x0 (Rect.unit ![0, 0] ![256, 2048] inb_S512x2048_S256x2048_0_0)) x1)
        (k0_pay5 (View.ld x0 (Rect.unit ![0, 0] ![256, 2048] inb_S512x2048_S256x2048_0_0)) x1
          (View.ld x2 (Rect.unit ![0, 0] ![2048, 1024] inb_S2048x3072_S2048x1024_0_0)))
        (k0_pay6 (View.ld x2 (Rect.unit ![0, 2048] ![2048, 1024] inb_S2048x3072_S2048x1024_0_2048)))
        (constant S256x1024 FTy.f32 0#32))
      (k0_pay13 s (k0_pay4 (View.ld x0 (Rect.unit ![0, 0] ![256, 2048] inb_S512x2048_S256x2048_0_0)) x1)
        (k0_pay5 (View.ld x0 (Rect.unit ![0, 0] ![256, 2048] inb_S512x2048_S256x2048_0_0)) x1
          (View.ld x2 (Rect.unit ![0, 0] ![2048, 1024] inb_S2048x3072_S2048x1024_0_0)))
        (k0_pay6 (View.ld x2 (Rect.unit ![0, 2048] ![2048, 1024] inb_S2048x3072_S2048x1024_0_2048)))
        (constant S256x1024 FTy.f32 0#32))
      (View.ld x3 (Rect.unit ![0, 0] ![1, 1024] inb_S3x1024_S1x1024_0_0))
      (View.ld x3 (Rect.unit ![1, 0] ![1, 1024] inb_S3x1024_S1x1024_1_0))
      (View.ld x3 (Rect.unit ![2, 0] ![1, 1024] inb_S3x1024_S1x1024_2_0)) x4 (ix2 r q)
      = out x0 x1 x2 x3 x4 (fun q => s (ix2 6 q)) (fun q => s (ix2 7 q)) ⟨0 + r.val, by omega⟩ q := by
  rw [finish0]
  simp only [shift1, shift2, gate0]
  simp only [gated0]
  unfold out
  have e : ∀ n, n ≤ 257 → ∀ q, _ = _ := fun n hn (q : Fin 1024) => trail_first x0 x1 x2 (fun q => s (ix2 6 q)) (fun q => s (ix2 7 q)) _ (rows_first x0 x1 x2) n hn q
  simp only [e r.val (by omega), e (r.val + 1) (by omega)]
  pointwise
  rfl

theorem second (r : Fin 256) (q : Fin 1024) (p6 p7 : Fin 1024 → EReal) :
    k0_pay1
      (k0_pay18
        (k0_pay8 (k0_pay4 (View.ld x0 (Rect.unit ![0, 0] ![256, 2048] inb_S512x2048_S256x2048_0_0)) x1)
          (k0_pay5 (View.ld x0 (Rect.unit ![0, 0] ![256, 2048] inb_S512x2048_S256x2048_0_0)) x1
            (View.ld x2 (Rect.unit ![0, 0] ![2048, 1024] inb_S2048x3072_S2048x1024_0_0)))
          (k0_pay6 (View.ld x2 (Rect.unit ![0, 2048] ![2048, 1024] inb_S2048x3072_S2048x1024_0_2048)))
          (constant S256x1024 FTy.f32 0#32))
        (k0_pay10 (View.ld x0 (Rect.unit ![256, 0] ![256, 2048] inb_S512x2048_S256x2048_256_0)) x1)
        (k0_pay15 (k0_pay10 (View.ld x0 (Rect.unit ![256, 0] ![256, 2048] inb_S512x2048_S256x2048_256_0)) x1)
          (View.ld x2 (Rect.unit ![0, 0] ![2048, 1024] inb_S2048x3072_S2048x1024_0_0))
          (View.ld x2 (Rect.unit ![0, 2048] ![2048, 1024] inb_S2048x3072_S2048x1024_0_2048)))
        (k0_pay17 (View.ld x2 (Rect.unit ![0, 1024] ![2048, 1024] inb_S2048x3072_S2048x1024_0_1024)))
        (constant S256x1024 FTy.f32 0#32) (View.ld x3 (Rect.unit ![0, 0] ![1, 1024] inb_S3x1024_S1x1024_0_0))
        (View.ld x3 (Rect.unit ![1, 0] ![1, 1024] inb_S3x1024_S1x1024_1_0))
        (View.ld x3 (Rect.unit ![2, 0] ![1, 1024] inb_S3x1024_S1x1024_2_0)))
      x4 (ix2 r q)
      = out x0 x1 x2 x3 x4 p6 p7 ⟨256 + r.val, by omega⟩ q := by
  rw [finish1]
  have e6 : ∀ q, _ = u x0 x1 x2 ⟨254, by omega⟩ q := fun q => rows_first x0 x1 x2 ⟨254, by omega⟩ q
  have e7 : ∀ q, _ = u x0 x1 x2 ⟨255, by omega⟩ q := fun q => rows_first x0 x1 x2 ⟨255, by omega⟩ q
  simp only [tail0]
  unfold out
  have e : ∀ n, n ≤ 257 → ∀ q, _ = _ := fun n hn (q : Fin 1024) => trail_second x0 x1 x2 p6 p7 _ (rows_second x0 x1 x2) n hn q
  simp only [e6, e7, e r.val (by omega), e (r.val + 1) (by omega), normed1]
  simp only [gated1]
  pointwise
  rfl

theorem out_A (hc0 : cond0_0 i) (r : Fin 512) (q : Fin 1024) :
    out0_A_5 c i arg1 harg1 arg2 harg2 arg3 harg3 arg4 harg4 arg5 harg5 arg6 harg6 arg7 harg7 hc0 x0 x1 x2 x3 x4 (ix2 r q)
      = out x0 x1 x2 x3 x4 (fun _ => 0) (fun _ => 0) r q := by
  frame_out
  refine canon_halves (T := 512) (H := 256) (W := 1024) (e := .bf16) rfl
    (fun y => out x0 x1 x2 x3 x4 (fun _ => 0) (fun _ => 0) (y 0) (y 1)) _ _ _ _ ?_ ?_ r q
  · intro a b
    exact second x0 x1 x2 x3 x4 a b (fun _ => 0) (fun _ => 0)
  · intro a b
    have h := first x0 x1 x2 x3 x4 (k0_pay3 (F := Ideal)) a b
    have z : ∀ (j : Fin 8) (q : Fin 1024), k0_pay3 (F := Ideal) (ix2 j q) = 0 := fun j q => by pointwise [k0_pay3]
    simp only [z] at h
    exact h
theorem out_B (hc0 : ¬cond0_0 i) (r : Fin 512) (q : Fin 1024) :
    out0_B_5 c i arg1 harg1 arg2 harg2 arg3 harg3 arg4 harg4 arg5 harg5 arg6 harg6 arg7 harg7 hc0 x0 x1 x2 x3 x4 xs0 (ix2 r q)
      = out x0 x1 x2 x3 x4 (fun q => xs0 (ix2 6 q)) (fun q => xs0 (ix2 7 q)) r q := by
  frame_out
  refine canon_halves (T := 512) (H := 256) (W := 1024) (e := .bf16) rfl
    (fun y => out x0 x1 x2 x3 x4 (fun q => xs0 (ix2 6 q)) (fun q => xs0 (ix2 7 q)) (y 0) (y 1)) _ _ _ _ ?_ ?_ r q
  · intro a b
    exact second x0 x1 x2 x3 x4 a b (fun q => xs0 (ix2 6 q)) (fun q => xs0 (ix2 7 q))
  · intro a b
    exact first x0 x1 x2 x3 x4 xs0 a b

theorem carry_B (hc0 : ¬cond0_0 i) (r : Fin 8) (q : Fin 1024) :
    sout0_B_0 c i arg1 harg1 arg2 harg2 arg3 harg3 arg4 harg4 arg5 harg5 arg6 harg6 arg7 harg7 hc0 x0 x1 x2 x3 x4 xs0 (ix2 r q) = u x0 x1 x2 ⟨256 + (248 + r.val), by omega⟩ q := by
  frame_out
  unfold u dot rmsn scale
  unfold_payloads; pointwise
theorem carry_A (hc0 : cond0_0 i) (r : Fin 8) (q : Fin 1024) :
    sout0_A_0 c i arg1 harg1 arg2 harg2 arg3 harg3 arg4 harg4 arg5 harg5 arg6 harg6 arg7 harg7 hc0 x0 x1 x2 x3 x4 (ix2 r q) = u x0 x1 x2 ⟨256 + (248 + r.val), by omega⟩ q := by
  frame_out
  unfold u dot rmsn scale
  unfold_payloads; pointwise

end
end Cert.ConvIdeal.Block
end
-- ==== Proof.ConvIn.lean ====
/-
  What the blocks of the convolution's call hold, in terms of the arguments: each window's block at a grid point, read
  at an index.
-/
module
public import proofs.«01_k».proof.Proof.ConvSpec
public import proofs.«01_k».proof.Proof.Gen.ConvIdeal.Frame
public import Idealize.ShloMosaic.Lib.StableHlo.ReadAt
@[expose] public section
set_option maxRecDepth 16384
noncomputable section
namespace Cert.ConvIdeal.In
open Cert.ConvIdeal Cert.ConvIdeal.Gen Idealize.ShloMosaic Idealize.ShloMosaic.TcCoe Idealize.SL.Sem Layer
variable (m : (ℓ : Loc nD τ sig) → Buf (Elt Ideal) ℓ)

/-- The rows as the region finds them: the argument's, numbered through. -/
theorem rows (c : Dev nD) (r : Fin 16384) (k : Fin 2048) :
    V m c main_v3 (ix2 r k) = row (m ((c : Thread nD τ).loc main_arg0)) r k := by
  unfold V row
  after_reads_at
/-- The weights' columns, before the padding. -/
theorem weights (c : Dev nD) (k : Fin 2048) (n : Fin 3072) :
    V m c main_v2 (ix2 k ⟨n.val, by omega⟩) = m ((c : Thread nD τ).loc main_arg2) (ix3 0 k ⟨n.val, by omega⟩) := by
  unfold V
  after_reads_at
  exact dif_pos (by omega)
/-- The taps. -/
theorem tapsAt (c : Dev nD) (j : Fin 3) (q : Fin 1024) :
    V m c main_v4 (ix2 j q) = m ((c : Thread nD τ).loc main_arg3) (ix3 0 j q) := by
  unfold V
  after_reads_at

/-- Where each window's block lies: the rows' block is the point's number, every other block the one there is. -/
theorem places : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0) :=
  (by decide +kernel : ∀ t : Fin grid0.N, _)

/-- A point's number is below 32. -/
theorem pointLt (t : Fin cfg0.N) : t.val < 32 := lt_of_lt_of_eq t.isLt (show cfg0.N = 32 from N_0)

theorem blk0 (c : Dev nD) (t : Fin cfg0.N) (r : Fin 512) (k : Fin 2048) :
    iblk m c 0 t (ix2 r k) = row (m ((c : Thread nD τ).loc main_arg0)) ⟨512 * t.val + r.val, by have := pointLt t; omega⟩ k := by
  obtain ⟨⟨e0, e1⟩, -⟩ := places t
  refine Eq.trans ?_ (rows m c _ k)
  unfold iblk
  rw [View.read_apply]
  show V m c main_v3 _ = V m c main_v3 _
  refine congrArg _ (funext fun a => Fin.ext ?_)
  match a with
  | ⟨0, _⟩ => show win0_0.index t (0 : Fin 2) * 512 + 1 * r.val = 512 * t.val + r.val; rw [e0]; omega
  | ⟨1, _⟩ => show win0_0.index t (1 : Fin 2) * 2048 + 1 * k.val = k.val; rw [e1]; omega
theorem blk1 (c : Dev nD) (t : Fin cfg0.N) (k : Fin 2048) :
    iblk m c 1 t (ix2 0 k) = m ((c : Thread nD τ).loc main_arg1) (ix2 0 k) := by
  obtain ⟨-, ⟨e0, e1⟩, -⟩ := places t
  rw [← V_main_arg1 m c]
  unfold iblk
  rw [View.read_apply]
  show V m c main_arg1 _ = V m c main_arg1 _
  refine congrArg _ (funext fun a => Fin.ext ?_)
  match a with
  | ⟨0, _⟩ => show win0_1.index t (0 : Fin 2) * 1 + 1 * 0 = 0; rw [e0]
  | ⟨1, _⟩ => show win0_1.index t (1 : Fin 2) * 2048 + 1 * k.val = k.val; rw [e1]; omega
theorem blk2 (c : Dev nD) (t : Fin cfg0.N) (k : Fin 2048) (n : Fin 3072) :
    X0_2 m c t (ix2 k n) = m ((c : Thread nD τ).loc main_arg2) (ix3 0 k ⟨n.val, by omega⟩) := by
  obtain ⟨-, -, ⟨e0, e1⟩, -⟩ := places t
  refine Eq.trans ?_ (weights m c k n)
  unfold X0_2 Pipeline.Window.fill
  rw [dif_pos (moved0_2 t _)]
  unfold iblk
  rw [View.read_apply]
  show V m c main_v2 _ = V m c main_v2 _
  refine congrArg _ (funext fun a => Fin.ext ?_)
  match a with
  | ⟨0, _⟩ => show win0_2.index t (0 : Fin 2) * 2048 + 1 * k.val = k.val; rw [e0]; omega
  | ⟨1, _⟩ => show win0_2.index t (1 : Fin 2) * 3072 + 1 * n.val = n.val; rw [e1]; omega
theorem blk3 (c : Dev nD) (t : Fin cfg0.N) (j : Fin 3) (q : Fin 1024) :
    iblk m c 3 t (ix2 j q) = m ((c : Thread nD τ).loc main_arg3) (ix3 0 j q) := by
  obtain ⟨-, -, -, ⟨e0, e1⟩, -⟩ := places t
  refine Eq.trans ?_ (tapsAt m c j q)
  unfold iblk
  rw [View.read_apply]
  show V m c main_v4 _ = V m c main_v4 _
  refine congrArg _ (funext fun a => Fin.ext ?_)
  match a with
  | ⟨0, _⟩ => show win0_3.index t (0 : Fin 2) * 3 + 1 * j.val = j.val; rw [e0]; omega
  | ⟨1, _⟩ => show win0_3.index t (1 : Fin 2) * 1024 + 1 * q.val = q.val; rw [e1]; omega
theorem blk4 (c : Dev nD) (t : Fin cfg0.N) (q : Fin 1024) :
    iblk m c 4 t (ix2 0 q) = m ((c : Thread nD τ).loc main_arg4) (ix2 0 q) := by
  obtain ⟨-, -, -, -, ⟨e0, e1⟩⟩ := places t
  rw [← V_main_arg4 m c]
  unfold iblk
  rw [View.read_apply]
  show V m c main_arg4 _ = V m c main_arg4 _
  refine congrArg _ (funext fun a => Fin.ext ?_)
  match a with
  | ⟨0, _⟩ => show win0_4.index t (0 : Fin 2) * 1 + 1 * 0 = 0; rw [e0]
  | ⟨1, _⟩ => show win0_4.index t (1 : Fin 2) * 1024 + 1 * q.val = q.val; rw [e1]; omega
end Cert.ConvIdeal.In
end
-- ==== Proof.ConvKernel.lean ====
/-
  What the convolution's call leaves in its result: row `R` of the convolution, normed.  The scratch holds the last eight
  gated rows of the point before, and the first point of a sequence starts from zeros.
-/
module
public import proofs.«01_k».proof.Proof.ConvBlock
public import proofs.«01_k».proof.Proof.ConvIn
public import proofs.«01_k».proof.Proof.Gen.ConvIdeal.Value
@[expose] public section
set_option maxRecDepth 16384
noncomputable section
namespace Cert.ConvIdeal.Kernel
open Cert.ConvIdeal Cert.ConvIdeal.Gen Idealize.ShloMosaic Idealize.ShloMosaic.TcCoe Idealize.SL.Sem Layer
open Cert.ConvIdeal.In Cert.ConvIdeal.Block
variable (m : (ℓ : Loc nD τ sig) → Buf (Elt Ideal) ℓ)

/-- The gated product of row `R`. -/
abbrev gated (c : Dev nD) : Fin 16384 → Fin 1024 → EReal :=
  gat (m ((c : Thread nD τ).loc main_arg0)) (fun k => m ((c : Thread nD τ).loc main_arg1) (ix2 0 k)) (m ((c : Thread nD τ).loc main_arg2))
/-- The same, `s` rows before. -/
abbrev before (c : Dev nD) : ℕ → Fin 16384 → Fin 1024 → EReal :=
  back (m ((c : Thread nD τ).loc main_arg0)) (fun k => m ((c : Thread nD τ).loc main_arg1) (ix2 0 k)) (m ((c : Thread nD τ).loc main_arg2))
/-- Row `r` of the block at point `t`, numbered through. -/
abbrev at_ (t : Fin cfg0.N) (r : Fin 512) : Fin 16384 := ⟨512 * t.val + r.val, by have := pointLt t; omega⟩

theorem u_at (c : Dev nD) (t : Fin cfg0.N) (r : Fin 512) (q : Fin 1024) :
    u (iblk m c 0 t) (iblk m c 1 t) (X0_2 m c t) r q = gated m c (at_ t r) q := by
  unfold u gated gat chan
  have e : ∀ (k : Fin 2048) (n : Fin 3072), _ = _ := fun k n => blk2 m c t k n
  simp only [blk0, blk1, e]

/-- The two rows seen from before the block are the ones before it in its sequence. -/
def Before (c : Dev nD) (t : Fin cfg0.N) (p6 p7 : Fin 1024 → EReal) : Prop :=
  ∀ q, p6 q = (if t.val % 8 = 0 then 0 else gated m c ⟨512 * t.val - 2, by have := pointLt t; omega⟩ q)
    ∧ p7 q = (if t.val % 8 = 0 then 0 else gated m c ⟨512 * t.val - 1, by have := pointLt t; omega⟩ q)

theorem seen_two (c : Dev nD) (t : Fin cfg0.N) (p6 p7 : Fin 1024 → EReal) (h : Before m c t p6 p7) (r : Fin 512) (q : Fin 1024) :
    seen (iblk m c 0 t) (iblk m c 1 t) (X0_2 m c t) p6 p7 r.val q = before m c 2 (at_ t r) q := by
  unfold before back
  have ht := pointLt t
  obtain ⟨r, hr⟩ := r
  match r with
  | 0 =>
    refine (h q).1.trans ?_
    dsimp only [at_]
    by_cases h0 : t.val % 8 = 0
    · rw [if_pos h0, if_pos (by omega)]
    · rw [if_neg h0, if_neg (by omega)]
      exact congrArg (fun R => gated m c R q) (Fin.ext (show 512 * t.val - 2 = 512 * t.val + 0 - 2 by omega))
  | 1 =>
    refine (h q).2.trans ?_
    dsimp only [at_]
    by_cases h0 : t.val % 8 = 0
    · rw [if_pos h0, if_pos (by omega)]
    · rw [if_neg h0, if_neg (by omega)]
      exact congrArg (fun R => gated m c R q) (Fin.ext (show 512 * t.val - 1 = 512 * t.val + 1 - 2 by omega))
  | n + 2 =>
    dsimp only [at_]
    rw [if_neg (by omega)]
    show (if h : n < 512 then u (iblk m c 0 t) (iblk m c 1 t) (X0_2 m c t) ⟨n, h⟩ q else 0) = _
    rw [dif_pos (by omega), u_at]
    exact congrArg (fun R => gated m c R q) (Fin.ext (show 512 * t.val + n = 512 * t.val + (n + 2) - 2 by omega))

theorem seen_one (c : Dev nD) (t : Fin cfg0.N) (p6 p7 : Fin 1024 → EReal) (h : Before m c t p6 p7) (r : Fin 512) (q : Fin 1024) :
    seen (iblk m c 0 t) (iblk m c 1 t) (X0_2 m c t) p6 p7 (r.val + 1) q = before m c 1 (at_ t r) q := by
  unfold before back
  have ht := pointLt t
  obtain ⟨r, hr⟩ := r
  match r with
  | 0 =>
    refine (h q).2.trans ?_
    dsimp only [at_]
    by_cases h0 : t.val % 8 = 0
    · rw [if_pos h0, if_pos (by omega)]
    · rw [if_neg h0, if_neg (by omega)]
      exact congrArg (fun R => gated m c R q) (Fin.ext (show 512 * t.val - 1 = 512 * t.val + 0 - 1 by omega))
  | n + 1 =>
    dsimp only [at_]
    rw [if_neg (by omega)]
    show (if h : n < 512 then u (iblk m c 0 t) (iblk m c 1 t) (X0_2 m c t) ⟨n, h⟩ q else 0) = _
    rw [dif_pos (by omega), u_at]
    exact congrArg (fun R => gated m c R q) (Fin.ext (show 512 * t.val + n = 512 * t.val + (n + 1) - 1 by omega))

/-- The result at row `R`. -/
def result (c : Dev nD) : Fin 16384 → Fin 1024 → EReal :=
  convRow (m ((c : Thread nD τ).loc main_arg0)) (fun k => m ((c : Thread nD τ).loc main_arg1) (ix2 0 k)) (m ((c : Thread nD τ).loc main_arg2))
    (fun j q => m ((c : Thread nD τ).loc main_arg3) (ix3 0 j q)) (fun q => m ((c : Thread nD τ).loc main_arg4) (ix2 0 q))

theorem out_at (c : Dev nD) (t : Fin cfg0.N) (p6 p7 : Fin 1024 → EReal) (h : Before m c t p6 p7) (r : Fin 512) (q : Fin 1024) :
    out (iblk m c 0 t) (iblk m c 1 t) (X0_2 m c t) (iblk m c 3 t) (iblk m c 4 t) p6 p7 r q = result m c (at_ t r) q := by
  unfold out result convRow
  have e2 : seen (iblk m c 0 t) (iblk m c 1 t) (X0_2 m c t) p6 p7 r.val = before m c 2 (at_ t r) := funext (seen_two m c t p6 p7 h r)
  have e1 : seen (iblk m c 0 t) (iblk m c 1 t) (X0_2 m c t) p6 p7 (r.val + 1) = before m c 1 (at_ t r) := funext (seen_one m c t p6 p7 h r)
  have e0 : u (iblk m c 0 t) (iblk m c 1 t) (X0_2 m c t) r = gated m c (at_ t r) := funext (u_at m c t r)
  have e : ∀ (k : Fin 2048) (n : Fin 3072), _ = _ := fun k n => blk2 m c t k n
  rw [e2, e1, e0]
  simp only [blk0, blk1, e, blk3, blk4]
  rfl

/-- Every point leaves its last eight gated rows in the scratch. -/
theorem carried (c : Dev nD) (t : Fin cfg0.N) (r : Fin 8) (q : Fin 1024) :
    (outsAt0 m c t.val t.isLt).2 (ix2 r q) = gated m c (at_ t ⟨256 + (248 + r.val), by omega⟩) q := by
  by_cases h0 : t.val % 8 = 0
  · rw [outsAt0_A m c t h0]
    dsimp only
    rw [carry_A, u_at]
  · rw [outsAt0_B m c t h0]
    dsimp only
    rw [carry_B, u_at]

/-- Every point leaves its rows of the result in the block. -/
theorem left (c : Dev nD) (t : Fin cfg0.N) (r : Fin 512) (q : Fin 1024) :
    (outsAt0 m c t.val t.isLt).1 (ix2 r q) = result m c (at_ t r) q := by
  by_cases h0 : t.val % 8 = 0
  · rw [outsAt0_A m c t h0]
    dsimp only
    rw [out_A]
    refine out_at m c t _ _ (fun q => ?_) r q
    rw [if_pos h0, if_pos h0]
    exact ⟨rfl, rfl⟩
  · have hc := carried m c ⟨t.val - 1, Nat.lt_of_le_of_lt (Nat.sub_le _ _) t.isLt⟩
    rw [outsAt0_B m c t h0]
    dsimp only
    rw [out_B]
    refine out_at m c t _ _ (fun q => ?_) r q
    rw [if_neg h0, if_neg h0]
    refine ⟨(hc 6 q).trans ?_, (hc 7 q).trans ?_⟩
    · exact congrArg (fun R => gated m c R q) (Fin.ext (show 512 * (t.val - 1) + (256 + (248 + 6)) = 512 * t.val - 2 by omega))
    · exact congrArg (fun R => gated m c R q) (Fin.ext (show 512 * (t.val - 1) + (256 + (248 + 7)) = 512 * t.val - 1 by omega))

theorem array (c : Dev nD) (R : Fin 16384) (q : Fin 1024) : Value.G5 m c (ix2 R q) = result m c R q := by
  have hp : Value.pt5Of (ix2 R q) = R.val / 512 := by
    show 1 * (R.val / 512 - 0) + 1 * (q.val / 1024 - 0) = _
    omega
  have hlt : Value.pt5Of (ix2 R q) < cfg0.N := by rw [hp, show cfg0.N = 32 from N_0]; omega
  unfold Value.G5
  rw [dif_pos hlt, ← Value.outsAt0_sweep m c _ hlt]
  have hl : Value.loc5Of (ix2 R q) = ix2 ⟨R.val % 512, Nat.mod_lt _ (by decide)⟩ q := funext fun a => Fin.ext (by
    match a with
    | ⟨0, _⟩ => rfl
    | ⟨1, _⟩ => show q.val % 1024 = q.val; omega)
  rw [hl]
  refine (left m c ⟨Value.pt5Of (ix2 R q), hlt⟩ _ q).trans (congrArg (fun R => result m c R q) (Fin.ext ?_))
  show 512 * Value.pt5Of (ix2 R q) + R.val % 512 = R.val
  rw [hp]; omega
end Cert.ConvIdeal.Kernel
end
-- ==== Proof.ConvRef.lean ====
/-
  The convolution as the problem writes it, read at row `R` and channel `q`.
-/
module
public import proofs.«01_k».proof.Proof.Gen.ConvRefIdeal.Read
public import proofs.«01_k».proof.Proof.ConvSpec
@[expose] public section
set_option maxRecDepth 16384
noncomputable section
namespace Cert.ConvRefIdeal.Ref
open Cert.ConvRefIdeal Cert.ConvRefIdeal.Gen Cert.ConvRefIdeal.Read Idealize.ShloMosaic Layer
variable (x0 : (⟨S4x4096x2048, .f32⟩ : BufTy).Contents (Elt Ideal)) (x1 : (⟨S1x2048, .f32⟩ : BufTy).Contents (Elt Ideal))

theorem normed (b : Fin 4) (s : Fin 4096) (k : Fin 2048) :
    val_main_v13 (F := Ideal) x0 x1 (ix3 b s k) = rmsn (fun k => x0 (ix3 b s k)) (fun k => x1 (ix2 0 k)) k := by
  unfold rmsn scale
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  try rfl

variable (x2 : (⟨S1x2048x5680, .f32⟩ : BufTy).Contents (Elt Ideal)) (x3 : (⟨S1x3x1024, .f32⟩ : BufTy).Contents (Elt Ideal))
  (x4 : (⟨S1x1024, .f32⟩ : BufTy).Contents (Elt Ideal))

/-- Row `s` of sequence `b`, the rows numbered through. -/
abbrev num (b : Fin 4) (s : Fin 4096) : Fin 16384 := ⟨4096 * b.val + s.val, by omega⟩

theorem row_num (b : Fin 4) (s : Fin 4096) : row x0 (num b s) = fun k => x0 (ix3 b s k) := by
  funext k
  unfold row
  have e1 : (⟨(num b s).val / 4096, by omega⟩ : Fin 4) = b := Fin.ext (show (4096 * b.val + s.val) / 4096 = b.val by omega)
  have e2 : (⟨(num b s).val % 4096, by omega⟩ : Fin 4096) = s := Fin.ext (show (4096 * b.val + s.val) % 4096 = s.val by omega)
  rw [e1, e2]

theorem product (b : Fin 4) (s : Fin 4096) (n : Fin 5680) :
    val_main_v15 (F := Ideal) x0 x1 x2 (ix3 b s n) = chan x0 (fun k => x1 (ix2 0 k)) x2 (num b s) n := by
  unfold chan dot
  rw [row_num]
  pointwise [val_main_v15, val_main_v14]
  simp only [normed]

theorem gated (b : Fin 4) (s : Fin 4096) (q : Fin 1024) :
    val_main_v20 (F := Ideal) x0 x1 x2 (ix3 b s q) = gat x0 (fun k => x1 (ix2 0 k)) x2 (num b s) q := by
  unfold gat
  pointwise [val_main_v20, val_main_v18, val_main_v16]
  simp only [product]

/-- The padded array: two rows of zeros, then the sequence's own. -/
theorem padded (b : Fin 4) (s : Fin 4098) (q : Fin 1024) :
    val_main_v21 (F := Ideal) x0 x1 x2 (ix3 b s q)
      = if h : 2 ≤ s.val then gat x0 (fun k => x1 (ix2 0 k)) x2 (num b ⟨s.val - 2, by omega⟩) q else 0 := by
  unfold val_main_v21
  pointwise [val_main_call0_v0, val_main_c]
  by_cases h : 2 ≤ s.val
  · rw [dif_pos ⟨h, by omega⟩, dif_pos h, gated]
  · rw [dif_neg (fun h' => h h'.1), dif_neg h]
    simp [FloatOps.sitofp]

theorem tap0 (b : Fin 4) (s : Fin 4096) (q : Fin 1024) :
    val_main_v21 (F := Ideal) x0 x1 x2 (ix3 b ⟨s.val, by omega⟩ q) = back x0 (fun k => x1 (ix2 0 k)) x2 2 (num b s) q := by
  rw [padded]
  unfold back
  dsimp only [num]
  by_cases h : 2 ≤ s.val
  · rw [dif_pos h, if_neg (by omega)]
    exact congrArg (fun R => gat x0 (fun k => x1 (ix2 0 k)) x2 R q) (Fin.ext (show 4096 * b.val + (s.val - 2) = 4096 * b.val + s.val - 2 by omega))
  · rw [dif_neg h, if_pos (by omega)]
theorem tap1 (b : Fin 4) (s : Fin 4096) (q : Fin 1024) :
    val_main_v21 (F := Ideal) x0 x1 x2 (ix3 b ⟨1 + s.val, by omega⟩ q) = back x0 (fun k => x1 (ix2 0 k)) x2 1 (num b s) q := by
  rw [padded]
  unfold back
  dsimp only [num]
  by_cases h : 1 ≤ s.val
  · rw [dif_pos (by omega), if_neg (by omega)]
    exact congrArg (fun R => gat x0 (fun k => x1 (ix2 0 k)) x2 R q) (Fin.ext (show 4096 * b.val + (1 + s.val - 2) = 4096 * b.val + s.val - 1 by omega))
  · rw [dif_neg (by omega), if_pos (by omega)]
theorem tap2 (b : Fin 4) (s : Fin 4096) (q : Fin 1024) :
    val_main_v21 (F := Ideal) x0 x1 x2 (ix3 b ⟨2 + s.val, by omega⟩ q) = gat x0 (fun k => x1 (ix2 0 k)) x2 (num b s) q := by
  rw [padded, dif_pos (by dsimp only; omega)]
  exact congrArg (fun R => gat x0 (fun k => x1 (ix2 0 k)) x2 R q) (Fin.ext (show 4096 * b.val + (2 + s.val - 2) = 4096 * b.val + s.val by omega))

theorem mixed (b : Fin 4) (s : Fin 4096) (q : Fin 1024) :
    val_main_v44 (F := Ideal) x0 x1 x2 x3 (ix3 b s q)
      = taps (fun q => chan x0 (fun k => x1 (ix2 0 k)) x2 (num b s) ⟨1024 + q.val, by omega⟩) (back x0 (fun k => x1 (ix2 0 k)) x2 2 (num b s))
          (back x0 (fun k => x1 (ix2 0 k)) x2 1 (num b s)) (gat x0 (fun k => x1 (ix2 0 k)) x2 (num b s))
          (fun q => x3 (ix3 0 0 q)) (fun q => x3 (ix3 0 1 q)) (fun q => x3 (ix3 0 2 q)) q := by
  unfold taps
  pointwise [val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v17, val_main_cst_2]
  rw [tap0, tap1, tap2, product]
  simp only [mul_comm (x3 _)]

theorem result (R : Fin 16384) (q : Fin 1024) :
    val_main_v60 (F := Ideal) x0 x1 x2 x3 x4 (ix2 R q)
      = convRow x0 (fun k => x1 (ix2 0 k)) x2 (fun j q => x3 (ix3 0 j q)) (fun q => x4 (ix2 0 q)) R q := by
  unfold convRow rmsc
  pointwise [val_main_v60, val_main_v59, val_main_v58, val_main_v57, val_main_v56, val_main_v55, val_main_v54, val_main_v53, val_main_v52, val_main_v51, val_main_v50, val_main_v49, val_main_v48, val_main_v47, val_main_v46, val_main_v45, val_main_cst_3, val_main_cst_4, val_main_cst_5]
  simp only [mixed]
  have e : num ⟨R.val / 4096, by omega⟩ ⟨R.val % 4096, by omega⟩ = R := Fin.ext (show 4096 * (R.val / 4096) + R.val % 4096 = R.val by omega)
  rw [e]
end Cert.ConvRefIdeal.Ref
end
-- ==== Proof.ConvClaim.lean ====
/-
  The convolution's call: its frames, and its value against the problem's own lines.
-/
module
public import proofs.«01_k».proof.Proof.ConvKernel
public import proofs.«01_k».proof.Proof.ConvRef
public import proofs.«01_k».proof.Proof.Gen.Conv.Frame
public import proofs.«01_k».proof.Defs
@[expose] public section
set_option maxRecDepth 16384
noncomputable section
namespace Cert.Proof.ConvClaim
open Idealize.ShloMosaic Idealize.ShloMosaic.TcCoe Idealize.SL.Sem Layer

theorem frame_kernel : Cert.quiescent_Conv := fun m ρ _ => Cert.Conv.Gen.frame m ρ
theorem frame_ideal : Cert.quiescent_ConvIdeal := fun m ρ _ => Cert.ConvIdeal.Gen.frame m ρ
theorem frame_reference : Cert.quiescent_ConvRefIdeal := fun m ρ _ =>
  (θ_run Cert.ConvRefIdeal.defs _ _).mono (fun r h => ⟨fun c => (h c).2, sem_eq_zero_of_no_sems (by decide) r.2⟩)
    (Cert.ConvRefIdeal.Value.run (F := Ideal) m ρ)
theorem preserves : Cert.preserves_Conv_ConvIdeal := trivial

/-- Both sides are the row through the gated products, the three taps and the norm. -/
theorem algebraic : Cert.algebraic_ConvIdeal_ConvRefIdeal := by
  intro m ρ m' ρ' _ hagree
  refine ⟨fun c => Cert.ConvIdeal.Value.G5 m c, Cert.ConvIdeal.Value.run (F := Ideal) m ρ, ?_⟩
  refine (θ_run Cert.ConvRefIdeal.defs _ _).mono (fun _ h c => ?_) (Cert.ConvRefIdeal.Value.run (F := Ideal) m' ρ')
  refine ⟨(h c).1.trans ?_, (h c).2⟩
  obtain ⟨e0, e1, e2, e3, e4⟩ := hagree c
  rw [Cert.ConvRefIdeal.Read.val_main_v60_eq, e0, e1, e2, e3, e4]
  funext j
  obtain ⟨R, q, rfl⟩ : ∃ (R : Fin 16384) (q : Fin 1024), j = ix2 R q := ⟨j 0, j 1, eq_ix2 j⟩
  exact (Cert.ConvRefIdeal.Ref.result _ _ _ _ _ R q).trans (Cert.ConvIdeal.Kernel.array m c R q).symm

end Cert.Proof.ConvClaim
end
-- ==== Proof.OutSpec.lean ====
/-
  The output projection's arithmetic on one row, over the extended reals: the convolution's channels and the normed
  attention's channels against the two halves of the weights, and the residual.
-/
module
public import proofs.«01_k».proof.Proof.ConvSpec

@[expose] public section
noncomputable section
namespace Layer

open Idealize.ShloMosaic

/-- A row plus its two groups of 1024 channels, the second normed, against the upper and the lower half of the weights. -/
def mixRow (x : Fin 2048 → EReal) (yc ya g : Fin 1024 → EReal) (wo : Fin 2048 → Fin 2048 → EReal) (q : Fin 2048) : EReal :=
  x q + ((∑ k, yc k * wo ⟨k.val, by omega⟩ q) + ∑ k, rmsc ya g k * wo ⟨1024 + k.val, by omega⟩ q)

/-- A sum over 2048 channels is the sum over the first 1024 and the sum over the others. -/
theorem sum_groups (T : Fin 2048 → EReal) :
    ∑ k, T k = (∑ k : Fin 1024, T ⟨k.val, by omega⟩) + ∑ k : Fin 1024, T ⟨1024 + k.val, by omega⟩ :=
  Fin.sum_univ_add (a := 1024) (b := 1024) T

end Layer
end
-- ==== Proof.OutBlock.lean ====
/-
  The output projection's call, one grid point at a time: what it leaves in its block, read at an index.
-/
module
public import proofs.«01_k».proof.Proof.OutSpec
public import proofs.«01_k».proof.Proof.Gen.OutIdeal.Frame
public import Idealize.ShloMosaic.Lib.Pointwise
public import Idealize.ShloMosaic.Lib.Pipeline.ValueKit
@[expose] public section
set_option maxRecDepth 16384
noncomputable section
namespace Cert.OutIdeal.Block
open Cert.OutIdeal Cert.OutIdeal.Gen Idealize.ShloMosaic Idealize.SL.Sem Layer

variable (x0 : Vec Ideal S512x2048 .f32) (x1 : Vec Ideal S512x1024 .bf16) (x2 : Vec Ideal S1x1024x512 .f32) (x3 : Vec Ideal S1x1024 .f32) (x4 : Vec Ideal S2048x2048 .bf16)

/-- Every point leaves its rows, mixed. -/
theorem out (r : Fin 512) (q : Fin 2048) :
    out0_5 x0 x1 x2 x3 x4 (ix2 r q)
      = mixRow (fun k => x0 (ix2 r k)) (fun k => x1 (ix2 r k)) (fun k => x2 (ix3 0 k r)) (fun k => x3 (ix2 0 k)) (fun k q => x4 (ix2 k q)) q := by
  unfold out0_5
  refine canon_halves (T := 512) (H := 256) (W := 2048) (e := .f32) rfl (fun y => mixRow (fun k => x0 (ix2 (y 0) k)) (fun k => x1 (ix2 (y 0) k)) (fun k => x2 (ix3 0 k (y 0))) (fun k => x3 (ix2 0 k)) (fun k q => x4 (ix2 k q)) (y 1)) _ _ _ _ ?_ ?_ r q
  all_goals intro a b; unfold mixRow rmsc; unfold_payloads; pointwise; try rfl
end Cert.OutIdeal.Block
end
-- ==== Proof.OutIn.lean ====
/-
  What the blocks of the output projection's call hold, in terms of the arguments: each window's block at a grid point,
  read at an index.
-/
module
public import proofs.«01_k».proof.Proof.OutSpec
public import proofs.«01_k».proof.Proof.Gen.OutIdeal.Frame
public import Idealize.ShloMosaic.Lib.StableHlo.ReadAt
@[expose] public section
set_option maxRecDepth 16384
noncomputable section
namespace Cert.OutIdeal.In
open Cert.OutIdeal Cert.OutIdeal.Gen Idealize.ShloMosaic Idealize.ShloMosaic.TcCoe Idealize.SL.Sem Layer
variable (m : (ℓ : Loc nD τ sig) → Buf (Elt Ideal) ℓ)

/-- The rows as the region finds them: the argument's, numbered through. -/
theorem rows (c : Dev nD) (r : Fin 16384) (k : Fin 2048) :
    V m c main_v0 (ix2 r k) = row (m ((c : Thread nD τ).loc main_arg0)) r k := by
  unfold V row
  after_reads_at
/-- The convolution's rows, numbered through. -/
theorem convs (c : Dev nD) (r : Fin 16384) (k : Fin 1024) :
    V m c main_v1 (ix2 r k) = m ((c : Thread nD τ).loc main_arg1) (ix3 ⟨r.val / 4096, by omega⟩ ⟨r.val % 4096, by omega⟩ k) := by
  unfold V
  after_reads_at
/-- The weights. -/
theorem weights (c : Dev nD) (k q : Fin 2048) :
    V m c main_v3 (ix2 k q) = m ((c : Thread nD τ).loc main_arg4) (ix3 0 k q) := by
  unfold V
  after_reads_at

/-- Where each window's block lies. -/
theorem places : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 3) = t.val / 8 ∧ win0_2.index t (1 : Fin 3) = 0 ∧ win0_2.index t (2 : Fin 3) = t.val % 8)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0) :=
  (by decide +kernel : ∀ t : Fin grid0.N, _)

/-- A point's number is below 32. -/
theorem pointLt (t : Fin cfg0.N) : t.val < 32 := lt_of_lt_of_eq t.isLt (show cfg0.N = 32 from N_0)
/-- Row `r` of the block at point `t`, numbered through. -/
abbrev at_ (t : Fin cfg0.N) (r : Fin 512) : Fin 16384 := ⟨512 * t.val + r.val, by have := pointLt t; omega⟩

theorem blk0 (c : Dev nD) (t : Fin cfg0.N) (r : Fin 512) (k : Fin 2048) :
    iblk m c 0 t (ix2 r k) = row (m ((c : Thread nD τ).loc main_arg0)) (at_ t r) k := by
  obtain ⟨⟨e0, e1⟩, -⟩ := places t
  refine Eq.trans ?_ (rows m c _ k)
  unfold iblk
  rw [View.read_apply]
  show V m c main_v0 _ = V m c main_v0 _
  refine congrArg _ (funext fun a => Fin.ext ?_)
  match a with
  | ⟨0, _⟩ => show win0_0.index t (0 : Fin 2) * 512 + 1 * r.val = 512 * t.val + r.val; rw [e0]; omega
  | ⟨1, _⟩ => show win0_0.index t (1 : Fin 2) * 2048 + 1 * k.val = k.val; rw [e1]; omega
theorem blk1 (c : Dev nD) (t : Fin cfg0.N) (r : Fin 512) (k : Fin 1024) :
    iblk m c 1 t (ix2 r k) = m ((c : Thread nD τ).loc main_arg1) (ix3 ⟨(at_ t r).val / 4096, by omega⟩ ⟨(at_ t r).val % 4096, by omega⟩ k) := by
  obtain ⟨-, ⟨e0, e1⟩, -⟩ := places t
  refine Eq.trans ?_ (convs m c _ k)
  unfold iblk
  rw [View.read_apply]
  show V m c main_v1 _ = V m c main_v1 _
  refine congrArg _ (funext fun a => Fin.ext ?_)
  match a with
  | ⟨0, _⟩ => show win0_1.index t (0 : Fin 2) * 512 + 1 * r.val = 512 * t.val + r.val; rw [e0]; omega
  | ⟨1, _⟩ => show win0_1.index t (1 : Fin 2) * 1024 + 1 * k.val = k.val; rw [e1]; omega
theorem blk2 (c : Dev nD) (t : Fin cfg0.N) (r : Fin 512) (k : Fin 1024) :
    iblk m c 2 t (ix3 0 k r) = m ((c : Thread nD τ).loc main_arg2) (ix3 ⟨(at_ t r).val / 4096, by omega⟩ k ⟨(at_ t r).val % 4096, by omega⟩) := by
  obtain ⟨-, -, ⟨e0, e1, e2⟩, -⟩ := places t
  have ht := pointLt t
  rw [← V_main_arg2 m c]
  unfold iblk
  rw [View.read_apply]
  show V m c main_arg2 _ = V m c main_arg2 _
  refine congrArg _ (funext fun a => Fin.ext ?_)
  match a with
  | ⟨0, _⟩ => show win0_2.index t (0 : Fin 3) * 1 + 1 * 0 = (512 * t.val + r.val) / 4096; rw [e0]; omega
  | ⟨1, _⟩ => show win0_2.index t (1 : Fin 3) * 1024 + 1 * k.val = k.val; rw [e1]; omega
  | ⟨2, _⟩ => show win0_2.index t (2 : Fin 3) * 512 + 1 * r.val = (512 * t.val + r.val) % 4096; rw [e2]; omega
theorem blk3 (c : Dev nD) (t : Fin cfg0.N) (k : Fin 1024) :
    iblk m c 3 t (ix2 0 k) = m ((c : Thread nD τ).loc main_arg3) (ix2 0 k) := by
  obtain ⟨-, -, -, ⟨e0, e1⟩, -⟩ := places t
  rw [← V_main_arg3 m c]
  unfold iblk
  rw [View.read_apply]
  show V m c main_arg3 _ = V m c main_arg3 _
  refine congrArg _ (funext fun a => Fin.ext ?_)
  match a with
  | ⟨0, _⟩ => show win0_3.index t (0 : Fin 2) * 1 + 1 * 0 = 0; rw [e0]
  | ⟨1, _⟩ => show win0_3.index t (1 : Fin 2) * 1024 + 1 * k.val = k.val; rw [e1]; omega
theorem blk4 (c : Dev nD) (t : Fin cfg0.N) (k q : Fin 2048) :
    iblk m c 4 t (ix2 k q) = m ((c : Thread nD τ).loc main_arg4) (ix3 0 k q) := by
  obtain ⟨-, -, -, -, ⟨e0, e1⟩, -⟩ := places t
  refine Eq.trans ?_ (weights m c k q)
  unfold iblk
  rw [View.read_apply]
  show V m c main_v3 _ = V m c main_v3 _
  refine congrArg _ (funext fun a => Fin.ext ?_)
  match a with
  | ⟨0, _⟩ => show win0_4.index t (0 : Fin 2) * 2048 + 1 * k.val = k.val; rw [e0]; omega
  | ⟨1, _⟩ => show win0_4.index t (1 : Fin 2) * 2048 + 1 * q.val = q.val; rw [e1]; omega
end Cert.OutIdeal.In
end
-- ==== Proof.OutKernel.lean ====
/-
  What the output projection's call leaves in its result: row `R` plus its two groups of channels against the weights.
  Each row is written by one grid point.
-/
module
public import proofs.«01_k».proof.Proof.OutBlock
public import proofs.«01_k».proof.Proof.OutIn
public import proofs.«01_k».proof.Proof.Gen.OutIdeal.Value
@[expose] public section
set_option maxRecDepth 16384
noncomputable section
namespace Cert.OutIdeal.Kernel
open Cert.OutIdeal Cert.OutIdeal.Gen Idealize.ShloMosaic Idealize.ShloMosaic.TcCoe Idealize.SL.Sem Layer
open Cert.OutIdeal.In Cert.OutIdeal.Block
variable (m : (ℓ : Loc nD τ sig) → Buf (Elt Ideal) ℓ)

/-- The result at row `R`. -/
def result (c : Dev nD) (R : Fin 16384) : Fin 2048 → EReal :=
  mixRow (row (m ((c : Thread nD τ).loc main_arg0)) R)
    (fun k => m ((c : Thread nD τ).loc main_arg1) (ix3 ⟨R.val / 4096, by omega⟩ ⟨R.val % 4096, by omega⟩ k))
    (fun k => m ((c : Thread nD τ).loc main_arg2) (ix3 ⟨R.val / 4096, by omega⟩ k ⟨R.val % 4096, by omega⟩))
    (fun k => m ((c : Thread nD τ).loc main_arg3) (ix2 0 k)) (fun k q => m ((c : Thread nD τ).loc main_arg4) (ix3 0 k q))

theorem left (c : Dev nD) (t : Fin cfg0.N) (r : Fin 512) (q : Fin 2048) :
    out0_5 (iblk m c 0 t) (iblk m c 1 t) (iblk m c 2 t) (iblk m c 3 t) (iblk m c 4 t) (ix2 r q) = result m c (at_ t r) q := by
  rw [out]
  unfold result
  have e4 : ∀ k q : Fin 2048, _ = _ := fun k q => blk4 m c t k q
  simp only [blk0, blk1, blk2, blk3, e4]

theorem array (c : Dev nD) (R : Fin 16384) (q : Fin 2048) : (dats m 0 c).arrAt 5 cfg0.N (ix2 R q) = result m c R q := by
  have hlt : R.val / 512 < cfg0.N := by rw [show cfg0.N = 32 from N_0]; omega
  obtain ⟨t, ht⟩ : ∃ t : Fin cfg0.N, t.val = R.val / 512 := ⟨⟨_, hlt⟩, rfl⟩
  have hf : ∀ t : Fin cfg0.N, (cfg0.win 5).flush t = true := (by decide +kernel : ∀ t : Fin grid0.N, _)
  have h := congrFun (Value.blocks5 m c t (hf t)) (ix2 (⟨R.val % 512, Nat.mod_lt _ (by decide)⟩ : Fin 512) q)
  rw [Value.flushed5, View.read_apply] at h
  obtain ⟨-, -, -, -, -, ⟨e0, e1⟩⟩ := places t
  refine Eq.trans (congrArg _ (funext fun a => Fin.ext ?_)) (h.trans ?_)
  · match a with
    | ⟨0, _⟩ => show R.val = win0_5.index t (0 : Fin 2) * 512 + 1 * (R.val % 512); rw [e0]; omega
    | ⟨1, _⟩ => show q.val = win0_5.index t (1 : Fin 2) * 2048 + 1 * q.val; rw [e1]; omega
  · refine (left m c t ⟨R.val % 512, Nat.mod_lt _ (by decide)⟩ q).trans (congrArg (fun R => result m c R q) (Fin.ext ?_))
    show 512 * t.val + R.val % 512 = R.val
    omega
end Cert.OutIdeal.Kernel
end
-- ==== Proof.OutRef.lean ====
/-
  The output projection as the problem writes it, read at row `R` and column `q`.
-/
module
public import proofs.«01_k».proof.Proof.Gen.OutRefIdeal.Read
public import proofs.«01_k».proof.Proof.OutSpec
@[expose] public section
set_option maxRecDepth 16384
noncomputable section
namespace Cert.OutRefIdeal.Ref
open Cert.OutRefIdeal Cert.OutRefIdeal.Gen Cert.OutRefIdeal.Read Idealize.ShloMosaic Layer
variable (x0 : (⟨S4x4096x2048, .f32⟩ : BufTy).Contents (Elt Ideal)) (x1 : (⟨S4x4096x1024, .bf16⟩ : BufTy).Contents (Elt Ideal))
  (x2 : (⟨S4x1024x4096, .f32⟩ : BufTy).Contents (Elt Ideal)) (x3 : (⟨S1x1024, .f32⟩ : BufTy).Contents (Elt Ideal))
  (x4 : (⟨S1x2048x2048, .f32⟩ : BufTy).Contents (Elt Ideal))

theorem normed (b : Fin 4) (s : Fin 4096) (k : Fin 1024) :
    val_main_v15 (F := Ideal) x2 x3 (ix3 b s k) = rmsc (fun k => x2 (ix3 b k s)) (fun k => x3 (ix2 0 k)) k := by
  unfold rmsc
  pointwise [val_main_v15, val_main_v14, val_main_v13, val_main_v12, val_main_v11, val_main_v10, val_main_v9, val_main_v8, val_main_v7, val_main_v6, val_main_v5, val_main_v4, val_main_v3, val_main_v2, val_main_v0, val_main_cst, val_main_cst_0, val_main_cst_1]
  try rfl

/-- The first group of channels is the convolution's. -/
theorem first (b : Fin 4) (s : Fin 4096) (k : Fin 1024) :
    val_main_v16 (F := Ideal) x1 x2 x3 (ix3 b s ⟨k.val, by omega⟩) = x1 (ix3 b s k) := by
  pointwise [val_main_v16, val_main_v1]
/-- The second is the attention's, normed. -/
theorem second (b : Fin 4) (s : Fin 4096) (k : Fin 1024) :
    val_main_v16 (F := Ideal) x1 x2 x3 (ix3 b s ⟨1024 + k.val, by omega⟩) = rmsc (fun k => x2 (ix3 b k s)) (fun k => x3 (ix2 0 k)) k := by
  rw [← normed]
  pointwise [val_main_v16]

theorem result (R : Fin 16384) (q : Fin 2048) :
    val_main_v20 (F := Ideal) x0 x1 x2 x3 x4 (ix2 R q)
      = mixRow (row x0 R) (fun k => x1 (ix3 ⟨R.val / 4096, by omega⟩ ⟨R.val % 4096, by omega⟩ k))
          (fun k => x2 (ix3 ⟨R.val / 4096, by omega⟩ k ⟨R.val % 4096, by omega⟩)) (fun k => x3 (ix2 0 k)) (fun k q => x4 (ix3 0 k q)) q := by
  unfold mixRow
  pointwise [val_main_v20, val_main_v19, val_main_v18, val_main_v17]
  rw [sum_groups]
  simp only [first, second]
  rfl
end Cert.OutRefIdeal.Ref
end
-- ==== Proof.OutClaim.lean ====
/-
  The output projection's call: its frames, and its value against the problem's own lines.
-/
module
public import proofs.«01_k».proof.Proof.OutKernel
public import proofs.«01_k».proof.Proof.OutRef
public import proofs.«01_k».proof.Proof.Gen.Out.Frame
public import proofs.«01_k».proof.Defs
@[expose] public section
set_option maxRecDepth 16384
noncomputable section
namespace Cert.Proof.OutClaim
open Idealize.ShloMosaic Idealize.ShloMosaic.TcCoe Idealize.SL.Sem Layer

theorem frame_kernel : Cert.quiescent_Out := fun m ρ _ => Cert.Out.Gen.frame m ρ
theorem frame_ideal : Cert.quiescent_OutIdeal := fun m ρ _ => Cert.OutIdeal.Gen.frame m ρ
theorem frame_reference : Cert.quiescent_OutRefIdeal := fun m ρ _ =>
  (θ_run Cert.OutRefIdeal.defs _ _).mono (fun r h => ⟨fun c => (h c).2, sem_eq_zero_of_no_sems (by decide) r.2⟩)
    (Cert.OutRefIdeal.Value.run (F := Ideal) m ρ)
theorem preserves : Cert.preserves_Out_OutIdeal := trivial

/-- Both sides are the row plus its two groups of channels against the weights. -/
theorem algebraic : Cert.algebraic_OutIdeal_OutRefIdeal := by
  intro m ρ m' ρ' _ hagree
  refine ⟨fun c => (Cert.OutIdeal.Gen.dats m 0 c).arrAt 5 Cert.OutIdeal.cfg0.N, Cert.OutIdeal.Value.run_blocks (F := Ideal) m ρ, ?_⟩
  refine (θ_run Cert.OutRefIdeal.defs _ _).mono (fun _ h c => ?_) (Cert.OutRefIdeal.Value.run (F := Ideal) m' ρ')
  refine ⟨(h c).1.trans ?_, (h c).2⟩
  obtain ⟨e0, e1, e2, e3, e4⟩ := hagree c
  rw [Cert.OutRefIdeal.Read.val_main_v20_eq, e0, e1, e2, e3, e4]
  funext j
  obtain ⟨R, q, rfl⟩ : ∃ (R : Fin 16384) (q : Fin 2048), j = ix2 R q := ⟨j 0, j 1, eq_ix2 j⟩
  exact (Cert.OutRefIdeal.Ref.result _ _ _ _ _ R q).trans (Cert.OutIdeal.Kernel.array m c R q).symm

end Cert.Proof.OutClaim
end
-- ==== Proof.AttnTiles.lean ====
/-
  The five ways the attention projection's call stores a block in pieces: a block holds one function when each of its
  pieces does.
-/
module
public import proofs.«01_k».proof.Proof.Gen.AttnIdeal.Frame
public import Idealize.ShloMosaic.Lib.Pointwise
public import Idealize.ShloMosaic.Lib.Pipeline.ValueKit
@[expose] public section
set_option maxRecDepth 16384
noncomputable section
namespace Cert.AttnIdeal.Tiles
open Cert.AttnIdeal Cert.AttnIdeal.Gen Idealize.ShloMosaic Idealize.SL.Sem

/-- One of the sixteen pieces of the queries' block. -/
theorem piece_q {e : EltTy} (G : S1x1024x512.Idx → Elt Ideal e) (w : S1x128x256.Idx → Elt Ideal e) (o a : ℕ) (ho : o + 128 ≤ 1024) (ha : a + 256 ≤ 512)
    (h : ∀ ax, (![0, o, a] : Fin 3 → ℕ) ax + (![1, 128, 256] : Fin 3 → ℕ) ax ≤ S1x1024x512.size ax)
    (hw : ∀ (b : Fin 128) (c : Fin 256), w (ix3 0 b c) = G (ix3 0 ⟨o + b.val, by omega⟩ ⟨a + c.val, by omega⟩)) (x : S1x128x256.Idx) :
    w x = G ((Rect.unit (s := S1x1024x512) ![0, o, a] ![1, 128, 256] h).emb x) := by
  obtain ⟨z, b, c, rfl⟩ : ∃ (z : Fin 1) (b : Fin 128) (c : Fin 256), x = ix3 z b c := ⟨x 0, x 1, x 2, eq_ix3 x⟩
  obtain rfl : z = 0 := Subsingleton.elim _ _
  refine (hw b c).trans (congrArg G (funext fun ax => Fin.ext ?_))
  match ax with
  | ⟨0, _⟩ => rfl
  | ⟨1, _⟩ => show o + b.val = o + 1 * b.val; omega
  | ⟨2, _⟩ => show a + c.val = a + 1 * c.val; omega
theorem mem_q (b : Fin 1024) (c : Fin 512) (o a : ℕ) (h : ∀ ax, (![0, o, a] : Fin 3 → ℕ) ax + (![1, 128, 256] : Fin 3 → ℕ) ax ≤ S1x1024x512.size ax)
    (hb : o ≤ b.val ∧ b.val < o + 128) (hc : a ≤ c.val ∧ c.val < a + 256) :
    (ix3 0 b c : S1x1024x512.Idx) ∈ (Rect.unit (s := S1x1024x512) ![0, o, a] ![1, 128, 256] h).set := by
  rw [Rect.mem_set_unit]
  intro ax
  match ax with
  | ⟨0, _⟩ => exact ⟨Nat.le_refl 0, Nat.one_pos⟩
  | ⟨1, _⟩ => exact hb
  | ⟨2, _⟩ => exact hc
/-- A block of `S512x256` stored in 4 pieces holds one function when each piece does. -/
theorem tiles_r {e : EltTy} (G : S512x256.Idx → Elt Ideal e) (w0 w1 w2 w3 : S256x128.Idx → Elt Ideal e)
    (e0 : ∀ (a : Fin 256) (b : Fin 128), w0 (ix2 a b) = G (ix2 ⟨256 + a.val, by omega⟩ ⟨128 + b.val, by omega⟩))
    (e1 : ∀ (a : Fin 256) (b : Fin 128), w1 (ix2 a b) = G (ix2 ⟨256 + a.val, by omega⟩ ⟨0 + b.val, by omega⟩))
    (e2 : ∀ (a : Fin 256) (b : Fin 128), w2 (ix2 a b) = G (ix2 ⟨0 + a.val, by omega⟩ ⟨128 + b.val, by omega⟩))
    (e3 : ∀ (a : Fin 256) (b : Fin 128), w3 (ix2 a b) = G (ix2 ⟨0 + a.val, by omega⟩ ⟨0 + b.val, by omega⟩))
    (y : S512x256.Idx) :
    View.canon (Val := Elt Ideal) (s := S512x256) (e := e)
      [⟨Rect.unit ![256, 128] ![256, 128] inb_S512x256_S256x128_256_128, w0⟩,
       ⟨Rect.unit ![256, 0] ![256, 128] inb_S512x256_S256x128_256_0, w1⟩,
       ⟨Rect.unit ![0, 128] ![256, 128] inb_S512x256_S256x128_0_128, w2⟩,
       ⟨Rect.unit ![0, 0] ![256, 128] inb_S512x256_S256x128_0_0, w3⟩] y = G y := by
  refine View.canon_apply_of_pieces G _ ?_ _ ?_
  rotate_left
  · obtain ⟨a, b, rfl⟩ : ∃ (a : Fin 512) (b : Fin 256), y = ix2 a b := ⟨y 0, y 1, eq_ix2 y⟩
    by_cases h0_0 : a.val < 256
    · by_cases h1_0 : b.val < 128
      · refine (List.exists_mem_cons_iff _ _ _).2 (Or.inr ?_)
        refine (List.exists_mem_cons_iff _ _ _).2 (Or.inr ?_)
        refine (List.exists_mem_cons_iff _ _ _).2 (Or.inr ?_)
        refine (List.exists_mem_cons_iff _ _ _).2 (Or.inl ?_)
        rw [Rect.mem_set_unit]
        intro ax
        match ax with
        | ⟨0, _⟩ => show 0 ≤ a.val ∧ a.val < 0 + 256; omega
        | ⟨1, _⟩ => show 0 ≤ b.val ∧ b.val < 0 + 128; omega
      · refine (List.exists_mem_cons_iff _ _ _).2 (Or.inr ?_)
        refine (List.exists_mem_cons_iff _ _ _).2 (Or.inr ?_)
        refine (List.exists_mem_cons_iff _ _ _).2 (Or.inl ?_)
        rw [Rect.mem_set_unit]
        intro ax
        match ax with
        | ⟨0, _⟩ => show 0 ≤ a.val ∧ a.val < 0 + 256; omega
        | ⟨1, _⟩ => show 128 ≤ b.val ∧ b.val < 128 + 128; omega
    · by_cases h1_0 : b.val < 128
      · refine (List.exists_mem_cons_iff _ _ _).2 (Or.inr ?_)
        refine (List.exists_mem_cons_iff _ _ _).2 (Or.inl ?_)
        rw [Rect.mem_set_unit]
        intro ax
        match ax with
        | ⟨0, _⟩ => show 256 ≤ a.val ∧ a.val < 256 + 256; omega
        | ⟨1, _⟩ => show 0 ≤ b.val ∧ b.val < 0 + 128; omega
      · refine (List.exists_mem_cons_iff _ _ _).2 (Or.inl ?_)
        rw [Rect.mem_set_unit]
        intro ax
        match ax with
        | ⟨0, _⟩ => show 256 ≤ a.val ∧ a.val < 256 + 256; omega
        | ⟨1, _⟩ => show 128 ≤ b.val ∧ b.val < 128 + 128; omega
  intro p hp x
  rcases List.mem_cons.1 hp with rfl | hp
  · obtain ⟨a, b, rfl⟩ : ∃ (a : Fin 256) (b : Fin 128), x = ix2 a b := ⟨x 0, x 1, eq_ix2 x⟩
    refine (e0 a b).trans (congrArg G (funext fun ax => Fin.ext ?_))
    match ax with
    | ⟨0, _⟩ => show 256 + a.val = 256 + 1 * a.val; omega
    | ⟨1, _⟩ => show 128 + b.val = 128 + 1 * b.val; omega
  rcases List.mem_cons.1 hp with rfl | hp
  · obtain ⟨a, b, rfl⟩ : ∃ (a : Fin 256) (b : Fin 128), x = ix2 a b := ⟨x 0, x 1, eq_ix2 x⟩
    refine (e1 a b).trans (congrArg G (funext fun ax => Fin.ext ?_))
    match ax with
    | ⟨0, _⟩ => show 256 + a.val = 256 + 1 * a.val; omega
    | ⟨1, _⟩ => show 0 + b.val = 0 + 1 * b.val; omega
  rcases List.mem_cons.1 hp with rfl | hp
  · obtain ⟨a, b, rfl⟩ : ∃ (a : Fin 256) (b : Fin 128), x = ix2 a b := ⟨x 0, x 1, eq_ix2 x⟩
    refine (e2 a b).trans (congrArg G (funext fun ax => Fin.ext ?_))
    match ax with
    | ⟨0, _⟩ => show 0 + a.val = 0 + 1 * a.val; omega
    | ⟨1, _⟩ => show 128 + b.val = 128 + 1 * b.val; omega
  rcases List.mem_singleton.1 hp with rfl
  obtain ⟨a, b, rfl⟩ : ∃ (a : Fin 256) (b : Fin 128), x = ix2 a b := ⟨x 0, x 1, eq_ix2 x⟩
  refine (e3 a b).trans (congrArg G (funext fun ax => Fin.ext ?_))
  match ax with
  | ⟨0, _⟩ => show 0 + a.val = 0 + 1 * a.val; omega
  | ⟨1, _⟩ => show 0 + b.val = 0 + 1 * b.val; omega
/-- A block of `S512x256` stored in 2 pieces holds one function when each piece does. -/
theorem tiles_v {e : EltTy} (G : S512x256.Idx → Elt Ideal e) (w0 w1 : S256x256.Idx → Elt Ideal e)
    (e0 : ∀ (a : Fin 256) (b : Fin 256), w0 (ix2 a b) = G (ix2 ⟨256 + a.val, by omega⟩ ⟨0 + b.val, by omega⟩))
    (e1 : ∀ (a : Fin 256) (b : Fin 256), w1 (ix2 a b) = G (ix2 ⟨0 + a.val, by omega⟩ ⟨0 + b.val, by omega⟩))
    (y : S512x256.Idx) :
    View.canon (Val := Elt Ideal) (s := S512x256) (e := e)
      [⟨Rect.unit ![256, 0] ![256, 256] inb_S512x256_S256x256_256_0, w0⟩,
       ⟨Rect.unit ![0, 0] ![256, 256] inb_S512x256_S256x256_0_0, w1⟩] y = G y := by
  refine View.canon_apply_of_pieces G _ ?_ _ ?_
  rotate_left
  · obtain ⟨a, b, rfl⟩ : ∃ (a : Fin 512) (b : Fin 256), y = ix2 a b := ⟨y 0, y 1, eq_ix2 y⟩
    by_cases h0_0 : a.val < 256
    · refine (List.exists_mem_cons_iff _ _ _).2 (Or.inr ?_)
      refine (List.exists_mem_cons_iff _ _ _).2 (Or.inl ?_)
      rw [Rect.mem_set_unit]
      intro ax
      match ax with
      | ⟨0, _⟩ => show 0 ≤ a.val ∧ a.val < 0 + 256; omega
      | ⟨1, _⟩ => show 0 ≤ b.val ∧ b.val < 0 + 256; omega
    · refine (List.exists_mem_cons_iff _ _ _).2 (Or.inl ?_)
      rw [Rect.mem_set_unit]
      intro ax
      match ax with
      | ⟨0, _⟩ => show 256 ≤ a.val ∧ a.val < 256 + 256; omega
      | ⟨1, _⟩ => show 0 ≤ b.val ∧ b.val < 0 + 256; omega
  intro p hp x
  rcases List.mem_cons.1 hp with rfl | hp
  · obtain ⟨a, b, rfl⟩ : ∃ (a : Fin 256) (b : Fin 256), x = ix2 a b := ⟨x 0, x 1, eq_ix2 x⟩
    refine (e0 a b).trans (congrArg G (funext fun ax => Fin.ext ?_))
    match ax with
    | ⟨0, _⟩ => show 256 + a.val = 256 + 1 * a.val; omega
    | ⟨1, _⟩ => show 0 + b.val = 0 + 1 * b.val; omega
  rcases List.mem_singleton.1 hp with rfl
  obtain ⟨a, b, rfl⟩ : ∃ (a : Fin 256) (b : Fin 256), x = ix2 a b := ⟨x 0, x 1, eq_ix2 x⟩
  refine (e1 a b).trans (congrArg G (funext fun ax => Fin.ext ?_))
  match ax with
  | ⟨0, _⟩ => show 0 + a.val = 0 + 1 * a.val; omega
  | ⟨1, _⟩ => show 0 + b.val = 0 + 1 * b.val; omega
/-- A block of `S1x4x256x128` stored in 4 pieces holds one function when each piece does. -/
theorem tiles_c {e : EltTy} (G : S1x4x256x128.Idx → Elt Ideal e) (w0 w1 w2 w3 : S1x1x256x128.Idx → Elt Ideal e)
    (e0 : ∀ (c : Fin 256) (d : Fin 128), w0 (ix4 0 0 c d) = G (ix4 0 3 ⟨0 + c.val, by omega⟩ ⟨0 + d.val, by omega⟩))
    (e1 : ∀ (c : Fin 256) (d : Fin 128), w1 (ix4 0 0 c d) = G (ix4 0 2 ⟨0 + c.val, by omega⟩ ⟨0 + d.val, by omega⟩))
    (e2 : ∀ (c : Fin 256) (d : Fin 128), w2 (ix4 0 0 c d) = G (ix4 0 1 ⟨0 + c.val, by omega⟩ ⟨0 + d.val, by omega⟩))
    (e3 : ∀ (c : Fin 256) (d : Fin 128), w3 (ix4 0 0 c d) = G (ix4 0 0 ⟨0 + c.val, by omega⟩ ⟨0 + d.val, by omega⟩))
    (y : S1x4x256x128.Idx) :
    View.canon (Val := Elt Ideal) (s := S1x4x256x128) (e := e)
      [⟨Rect.unit ![0, 3, 0, 0] ![1, 1, 256, 128] inb_S1x4x256x128_S1x1x256x128_0_3_0_0, w0⟩,
       ⟨Rect.unit ![0, 2, 0, 0] ![1, 1, 256, 128] inb_S1x4x256x128_S1x1x256x128_0_2_0_0, w1⟩,
       ⟨Rect.unit ![0, 1, 0, 0] ![1, 1, 256, 128] inb_S1x4x256x128_S1x1x256x128_0_1_0_0, w2⟩,
       ⟨Rect.unit ![0, 0, 0, 0] ![1, 1, 256, 128] inb_S1x4x256x128_S1x1x256x128_0_0_0_0, w3⟩] y = G y := by
  refine View.canon_apply_of_pieces G _ ?_ _ ?_
  rotate_left
  · obtain ⟨a, b, c, d, rfl⟩ : ∃ (a : Fin 1) (b : Fin 4) (c : Fin 256) (d : Fin 128), y = ix4 a b c d := ⟨y 0, y 1, y 2, y 3, eq_ix4 y⟩
    by_cases h1_0 : b.val < 1
    · refine (List.exists_mem_cons_iff _ _ _).2 (Or.inr ?_)
      refine (List.exists_mem_cons_iff _ _ _).2 (Or.inr ?_)
      refine (List.exists_mem_cons_iff _ _ _).2 (Or.inr ?_)
      refine (List.exists_mem_cons_iff _ _ _).2 (Or.inl ?_)
      rw [Rect.mem_set_unit]
      intro ax
      match ax with
      | ⟨0, _⟩ => show 0 ≤ a.val ∧ a.val < 0 + 1; omega
      | ⟨1, _⟩ => show 0 ≤ b.val ∧ b.val < 0 + 1; omega
      | ⟨2, _⟩ => show 0 ≤ c.val ∧ c.val < 0 + 256; omega
      | ⟨3, _⟩ => show 0 ≤ d.val ∧ d.val < 0 + 128; omega
    · by_cases h1_1 : b.val < 2
      · refine (List.exists_mem_cons_iff _ _ _).2 (Or.inr ?_)
        refine (List.exists_mem_cons_iff _ _ _).2 (Or.inr ?_)
        refine (List.exists_mem_cons_iff _ _ _).2 (Or.inl ?_)
        rw [Rect.mem_set_unit]
        intro ax
        match ax with
        | ⟨0, _⟩ => show 0 ≤ a.val ∧ a.val < 0 + 1; omega
        | ⟨1, _⟩ => show 1 ≤ b.val ∧ b.val < 1 + 1; omega
        | ⟨2, _⟩ => show 0 ≤ c.val ∧ c.val < 0 + 256; omega
        | ⟨3, _⟩ => show 0 ≤ d.val ∧ d.val < 0 + 128; omega
      · by_cases h1_2 : b.val < 3
        · refine (List.exists_mem_cons_iff _ _ _).2 (Or.inr ?_)
          refine (List.exists_mem_cons_iff _ _ _).2 (Or.inl ?_)
          rw [Rect.mem_set_unit]
          intro ax
          match ax with
          | ⟨0, _⟩ => show 0 ≤ a.val ∧ a.val < 0 + 1; omega
          | ⟨1, _⟩ => show 2 ≤ b.val ∧ b.val < 2 + 1; omega
          | ⟨2, _⟩ => show 0 ≤ c.val ∧ c.val < 0 + 256; omega
          | ⟨3, _⟩ => show 0 ≤ d.val ∧ d.val < 0 + 128; omega
        · refine (List.exists_mem_cons_iff _ _ _).2 (Or.inl ?_)
          rw [Rect.mem_set_unit]
          intro ax
          match ax with
          | ⟨0, _⟩ => show 0 ≤ a.val ∧ a.val < 0 + 1; omega
          | ⟨1, _⟩ => show 3 ≤ b.val ∧ b.val < 3 + 1; omega
          | ⟨2, _⟩ => show 0 ≤ c.val ∧ c.val < 0 + 256; omega
          | ⟨3, _⟩ => show 0 ≤ d.val ∧ d.val < 0 + 128; omega
  intro p hp x
  rcases List.mem_cons.1 hp with rfl | hp
  · obtain ⟨a, b, c, d, rfl⟩ : ∃ (a : Fin 1) (b : Fin 1) (c : Fin 256) (d : Fin 128), x = ix4 a b c d := ⟨x 0, x 1, x 2, x 3, eq_ix4 x⟩
    obtain rfl : a = 0 := Subsingleton.elim _ _
    obtain rfl : b = 0 := Subsingleton.elim _ _
    refine (e0 c d).trans (congrArg G (funext fun ax => Fin.ext ?_))
    match ax with
    | ⟨0, _⟩ => rfl
    | ⟨1, _⟩ => rfl
    | ⟨2, _⟩ => show 0 + c.val = 0 + 1 * c.val; omega
    | ⟨3, _⟩ => show 0 + d.val = 0 + 1 * d.val; omega
  rcases List.mem_cons.1 hp with rfl | hp
  · obtain ⟨a, b, c, d, rfl⟩ : ∃ (a : Fin 1) (b : Fin 1) (c : Fin 256) (d : Fin 128), x = ix4 a b c d := ⟨x 0, x 1, x 2, x 3, eq_ix4 x⟩
    obtain rfl : a = 0 := Subsingleton.elim _ _
    obtain rfl : b = 0 := Subsingleton.elim _ _
    refine (e1 c d).trans (congrArg G (funext fun ax => Fin.ext ?_))
    match ax with
    | ⟨0, _⟩ => rfl
    | ⟨1, _⟩ => rfl
    | ⟨2, _⟩ => show 0 + c.val = 0 + 1 * c.val; omega
    | ⟨3, _⟩ => show 0 + d.val = 0 + 1 * d.val; omega
  rcases List.mem_cons.1 hp with rfl | hp
  · obtain ⟨a, b, c, d, rfl⟩ : ∃ (a : Fin 1) (b : Fin 1) (c : Fin 256) (d : Fin 128), x = ix4 a b c d := ⟨x 0, x 1, x 2, x 3, eq_ix4 x⟩
    obtain rfl : a = 0 := Subsingleton.elim _ _
    obtain rfl : b = 0 := Subsingleton.elim _ _
    refine (e2 c d).trans (congrArg G (funext fun ax => Fin.ext ?_))
    match ax with
    | ⟨0, _⟩ => rfl
    | ⟨1, _⟩ => rfl
    | ⟨2, _⟩ => show 0 + c.val = 0 + 1 * c.val; omega
    | ⟨3, _⟩ => show 0 + d.val = 0 + 1 * d.val; omega
  rcases List.mem_singleton.1 hp with rfl
  obtain ⟨a, b, c, d, rfl⟩ : ∃ (a : Fin 1) (b : Fin 1) (c : Fin 256) (d : Fin 128), x = ix4 a b c d := ⟨x 0, x 1, x 2, x 3, eq_ix4 x⟩
  obtain rfl : a = 0 := Subsingleton.elim _ _
  obtain rfl : b = 0 := Subsingleton.elim _ _
  refine (e3 c d).trans (congrArg G (funext fun ax => Fin.ext ?_))
  match ax with
  | ⟨0, _⟩ => rfl
  | ⟨1, _⟩ => rfl
  | ⟨2, _⟩ => show 0 + c.val = 0 + 1 * c.val; omega
  | ⟨3, _⟩ => show 0 + d.val = 0 + 1 * d.val; omega
/-- A block of `S1x128x512` stored in 2 pieces holds one function when each piece does. -/
theorem tiles_g {e : EltTy} (G : S1x128x512.Idx → Elt Ideal e) (w0 w1 : S1x128x256.Idx → Elt Ideal e)
    (e0 : ∀ (b : Fin 128) (c : Fin 256), w0 (ix3 0 b c) = G (ix3 0 ⟨0 + b.val, by omega⟩ ⟨256 + c.val, by omega⟩))
    (e1 : ∀ (b : Fin 128) (c : Fin 256), w1 (ix3 0 b c) = G (ix3 0 ⟨0 + b.val, by omega⟩ ⟨0 + c.val, by omega⟩))
    (y : S1x128x512.Idx) :
    View.canon (Val := Elt Ideal) (s := S1x128x512) (e := e)
      [⟨Rect.unit ![0, 0, 256] ![1, 128, 256] inb_S1x128x512_S1x128x256_0_0_256, w0⟩,
       ⟨Rect.unit ![0, 0, 0] ![1, 128, 256] inb_S1x128x512_S1x128x256_0_0_0, w1⟩] y = G y := by
  refine View.canon_apply_of_pieces G _ ?_ _ ?_
  rotate_left
  · obtain ⟨a, b, c, rfl⟩ : ∃ (a : Fin 1) (b : Fin 128) (c : Fin 512), y = ix3 a b c := ⟨y 0, y 1, y 2, eq_ix3 y⟩
    by_cases h2_0 : c.val < 256
    · refine (List.exists_mem_cons_iff _ _ _).2 (Or.inr ?_)
      refine (List.exists_mem_cons_iff _ _ _).2 (Or.inl ?_)
      rw [Rect.mem_set_unit]
      intro ax
      match ax with
      | ⟨0, _⟩ => show 0 ≤ a.val ∧ a.val < 0 + 1; omega
      | ⟨1, _⟩ => show 0 ≤ b.val ∧ b.val < 0 + 128; omega
      | ⟨2, _⟩ => show 0 ≤ c.val ∧ c.val < 0 + 256; omega
    · refine (List.exists_mem_cons_iff _ _ _).2 (Or.inl ?_)
      rw [Rect.mem_set_unit]
      intro ax
      match ax with
      | ⟨0, _⟩ => show 0 ≤ a.val ∧ a.val < 0 + 1; omega
      | ⟨1, _⟩ => show 0 ≤ b.val ∧ b.val < 0 + 128; omega
      | ⟨2, _⟩ => show 256 ≤ c.val ∧ c.val < 256 + 256; omega
  intro p hp x
  rcases List.mem_cons.1 hp with rfl | hp
  · obtain ⟨a, b, c, rfl⟩ : ∃ (a : Fin 1) (b : Fin 128) (c : Fin 256), x = ix3 a b c := ⟨x 0, x 1, x 2, eq_ix3 x⟩
    obtain rfl : a = 0 := Subsingleton.elim _ _
    refine (e0 b c).trans (congrArg G (funext fun ax => Fin.ext ?_))
    match ax with
    | ⟨0, _⟩ => rfl
    | ⟨1, _⟩ => show 0 + b.val = 0 + 1 * b.val; omega
    | ⟨2, _⟩ => show 256 + c.val = 256 + 1 * c.val; omega
  rcases List.mem_singleton.1 hp with rfl
  obtain ⟨a, b, c, rfl⟩ : ∃ (a : Fin 1) (b : Fin 128) (c : Fin 256), x = ix3 a b c := ⟨x 0, x 1, x 2, eq_ix3 x⟩
  obtain rfl : a = 0 := Subsingleton.elim _ _
  refine (e1 b c).trans (congrArg G (funext fun ax => Fin.ext ?_))
  match ax with
  | ⟨0, _⟩ => rfl
  | ⟨1, _⟩ => show 0 + b.val = 0 + 1 * b.val; omega
  | ⟨2, _⟩ => show 0 + c.val = 0 + 1 * c.val; omega
end Cert.AttnIdeal.Tiles
end
-- ==== Proof.AttnBlock.lean ====
/-
  The attention projection's call, one grid point at a time: what it leaves in each of its eight blocks, read at an index.
  A block of 512 rows is worked in two halves, and the rotated columns in pieces of 128.
-/
module
public import proofs.«01_k».proof.Proof.ConvSpec
public import proofs.«01_k».proof.Proof.AttnTiles
public import Idealize.ShloMosaic.Lib.Pointwise
public import Idealize.ShloMosaic.Lib.Pipeline.ValueKit
public import Idealize.ShloMosaic.Lib.WordCmp
@[expose] public section
set_option maxRecDepth 16384
noncomputable section
namespace Cert.AttnIdeal.Block
open Cert.AttnIdeal Cert.AttnIdeal.Gen Idealize.ShloMosaic Idealize.SL.Sem Layer
open Cert.AttnIdeal.Tiles

/-- Column `n` turned by its partner 32 columns on or back, with the two tables' entries of its lane. -/
def spin (u : ℕ → EReal) (c s : Fin 128 → EReal) (n : ℕ) : EReal :=
  u n * c ⟨n % 128, Nat.mod_lt _ (by decide)⟩
    + (if n % 64 < 32 then u (n + 32) else u (n - 32)) * s ⟨n % 128, Nat.mod_lt _ (by decide)⟩

/-- The lanes of a head's first half: the ones whose number modulo 64 is below 32. -/
theorem lane {α : Type} (l : Fin 128) (a b : α) :
    Scalar.select (IntOp.cmpi CmpIPredicate.slt (IntOp.andi (BitVec.ofNat 32 l.val) 63#32) 32#32) a b = if l.val % 64 < 32 then a else b := by
  have e : ∀ l : Fin 128, IntOp.cmpi CmpIPredicate.slt (IntOp.andi (BitVec.ofNat 32 l.val) 63#32) 32#32 = if l.val % 64 < 32 then 1#1 else 0#1 := by decide +kernel
  rw [e]
  by_cases h : l.val % 64 < 32 <;> simp [Scalar.select, h]

/-- A piece of 128 columns turned: the partner is brought over by one of two rotations of the lanes. -/
def rope (c s p : FVec Ideal S256x128 .f32) : FVec Ideal S256x128 .f32 :=
  addf (mulf p c) (mulf (select k0_pay5 (dynamicRotate 1 96#32 none p rotates_S256x128_d1) (dynamicRotate 1 32#32 none p rotates_S256x128_d1)) s)

theorem rope_apply (c s p : FVec Ideal S256x128 .f32) (r : Fin 256) (u : ℕ → EReal) (o : ℕ) (ho : o % 128 = 0)
    (hp : ∀ l : Fin 128, p (ix2 r l) = u (o + l.val)) (l : Fin 128) :
    rope c s p (ix2 r l) = spin u (fun l => c (ix2 r l)) (fun l => s (ix2 r l)) (o + l.val) := by
  unfold spin
  pointwise [rope, k0_pay5]
  rw [lane]
  simp only [hp]
  have e : (⟨(o + l.val) % 128, Nat.mod_lt _ (by decide)⟩ : Fin 128) = l := Fin.ext (show (o + l.val) % 128 = l.val by omega)
  rw [e]
  by_cases h : l.val % 64 < 32
  · rw [if_pos h, if_pos (by omega)]
    rw [show o + (l.val + 128 - 96) % 128 = o + l.val + 32 by omega]
  · rw [if_neg h, if_neg (by omega)]
    rw [show o + (l.val + 128 - 32) % 128 = o + l.val - 32 by omega]

theorem normed0 (v : Vec Ideal S256x2048 .f32) (g : Vec Ideal S1x2048 .f32) (r : Fin 256) (k : Fin 2048) :
    k0_pay6 v g (ix2 r k) = rmsn (fun k => v (ix2 r k)) (fun k => g (ix2 0 k)) k := by
  pointwise [k0_pay6]
  rfl

/-- The product with a block of 1024 columns, and with one of 256. -/
def wide (h : FVec Ideal S256x2048 .bf16) (w : Vec Ideal S2048x1024 .bf16) : FVec Ideal S256x1024 .f32 := k0_pay46 h w
def narrow (h : FVec Ideal S256x2048 .bf16) (w : Vec Ideal S2048x256 .bf16) : FVec Ideal S256x256 .f32 := k0_pay33 h w
theorem wide_apply (h : FVec Ideal S256x2048 .bf16) (w : Vec Ideal S2048x1024 .bf16) (r : Fin 256) (n : Fin 1024) :
    wide h w (ix2 r n) = dot (fun k => h (ix2 r k)) (fun k => w (ix2 k n)) := by
  pointwise [wide, k0_pay46]
  rfl
theorem narrow_apply (h : FVec Ideal S256x2048 .bf16) (w : Vec Ideal S2048x256 .bf16) (r : Fin 256) (n : Fin 256) :
    narrow h w (ix2 r n) = dot (fun k => h (ix2 r k)) (fun k => w (ix2 k n)) := by
  pointwise [narrow, k0_pay33]
  rfl
theorem gate_apply (h : FVec Ideal S256x2048 .bf16) (w : Vec Ideal S2048x128 .bf16) (r : Fin 256) (n : Fin 128) :
    k0_pay86 h w (ix3 0 n r) = Ideal.logistic (dot (fun k => h (ix2 r k)) (fun k => w (ix2 k n))) := by
  pointwise [k0_pay86]
  rfl
theorem across (h : FVec Ideal S256x2048 .bf16) (w : Vec Ideal S512x2048 .bf16) (j : Fin 512) (r : Fin 256) :
    k0_pay67 h w (ix2 j r) = dot (fun k => h (ix2 r k)) (fun k => w (ix2 j k)) := by
  unfold dot
  simp only [mul_comm (h _)]
  pointwise [k0_pay67]
/-- A turned piece scaled and laid down by columns. -/
theorem scaled (v : FVec Ideal S256x128 .f32) (r : Fin 256) (l : Fin 128) :
    k0_pay28 v (ix3 0 l r) = v (ix2 r l) * Ideal.ofBits FTy.f32 0x3E38AA3B#32 := by
  pointwise [k0_pay28]

theorem slice1024_0 (v : FVec Ideal S256x1024 .f32) (r : Fin 256) (l : Fin 128) :
    extractStridedSlice S256x128 ![0, 0] v slices_S256x1024_o0_0_S256x128 (ix2 r l) = v (ix2 r ⟨0 + l.val, by omega⟩) := by
  pointwise
theorem slice1024_128 (v : FVec Ideal S256x1024 .f32) (r : Fin 256) (l : Fin 128) :
    extractStridedSlice S256x128 ![0, 128] v slices_S256x1024_o0_128_S256x128 (ix2 r l) = v (ix2 r ⟨128 + l.val, by omega⟩) := by
  pointwise
theorem slice1024_256 (v : FVec Ideal S256x1024 .f32) (r : Fin 256) (l : Fin 128) :
    extractStridedSlice S256x128 ![0, 256] v slices_S256x1024_o0_256_S256x128 (ix2 r l) = v (ix2 r ⟨256 + l.val, by omega⟩) := by
  pointwise
theorem slice1024_384 (v : FVec Ideal S256x1024 .f32) (r : Fin 256) (l : Fin 128) :
    extractStridedSlice S256x128 ![0, 384] v slices_S256x1024_o0_384_S256x128 (ix2 r l) = v (ix2 r ⟨384 + l.val, by omega⟩) := by
  pointwise
theorem slice1024_512 (v : FVec Ideal S256x1024 .f32) (r : Fin 256) (l : Fin 128) :
    extractStridedSlice S256x128 ![0, 512] v slices_S256x1024_o0_512_S256x128 (ix2 r l) = v (ix2 r ⟨512 + l.val, by omega⟩) := by
  pointwise
theorem slice1024_640 (v : FVec Ideal S256x1024 .f32) (r : Fin 256) (l : Fin 128) :
    extractStridedSlice S256x128 ![0, 640] v slices_S256x1024_o0_640_S256x128 (ix2 r l) = v (ix2 r ⟨640 + l.val, by omega⟩) := by
  pointwise
theorem slice1024_768 (v : FVec Ideal S256x1024 .f32) (r : Fin 256) (l : Fin 128) :
    extractStridedSlice S256x128 ![0, 768] v slices_S256x1024_o0_768_S256x128 (ix2 r l) = v (ix2 r ⟨768 + l.val, by omega⟩) := by
  pointwise
theorem slice1024_896 (v : FVec Ideal S256x1024 .f32) (r : Fin 256) (l : Fin 128) :
    extractStridedSlice S256x128 ![0, 896] v slices_S256x1024_o0_896_S256x128 (ix2 r l) = v (ix2 r ⟨896 + l.val, by omega⟩) := by
  pointwise
theorem slice256_0 (v : FVec Ideal S256x256 .f32) (r : Fin 256) (l : Fin 128) :
    extractStridedSlice S256x128 ![0, 0] v slices_S256x256_o0_0_S256x128 (ix2 r l) = v (ix2 r ⟨0 + l.val, by omega⟩) := by
  pointwise
theorem slice256_128 (v : FVec Ideal S256x256 .f32) (r : Fin 256) (l : Fin 128) :
    extractStridedSlice S256x128 ![0, 128] v slices_S256x256_o0_128_S256x128 (ix2 r l) = v (ix2 r ⟨128 + l.val, by omega⟩) := by
  pointwise
theorem chunk0_0 (v : FVec Ideal S512x256 .f32) (j : Fin 256) (r : Fin 128) :
    shapeCast S1x1x256x128 (truncf FTy.bf16 (extractStridedSlice S256x128 ![0, 0] v slices_S512x256_o0_0_S256x128) bitsLt_bf16_f32) shapeCasts_S256x128_S1x1x256x128 (ix4 0 0 j r)
      = v (ix2 ⟨0 + j.val, by omega⟩ ⟨0 + r.val, by omega⟩) := by
  pointwise
theorem chunk0_128 (v : FVec Ideal S512x256 .f32) (j : Fin 256) (r : Fin 128) :
    shapeCast S1x1x256x128 (truncf FTy.bf16 (extractStridedSlice S256x128 ![0, 128] v slices_S512x256_o0_128_S256x128) bitsLt_bf16_f32) shapeCasts_S256x128_S1x1x256x128 (ix4 0 0 j r)
      = v (ix2 ⟨0 + j.val, by omega⟩ ⟨128 + r.val, by omega⟩) := by
  pointwise
theorem chunk256_0 (v : FVec Ideal S512x256 .f32) (j : Fin 256) (r : Fin 128) :
    shapeCast S1x1x256x128 (truncf FTy.bf16 (extractStridedSlice S256x128 ![256, 0] v slices_S512x256_o256_0_S256x128) bitsLt_bf16_f32) shapeCasts_S256x128_S1x1x256x128 (ix4 0 0 j r)
      = v (ix2 ⟨256 + j.val, by omega⟩ ⟨0 + r.val, by omega⟩) := by
  pointwise
theorem chunk256_128 (v : FVec Ideal S512x256 .f32) (j : Fin 256) (r : Fin 128) :
    shapeCast S1x1x256x128 (truncf FTy.bf16 (extractStridedSlice S256x128 ![256, 128] v slices_S512x256_o256_128_S256x128) bitsLt_bf16_f32) shapeCasts_S256x128_S1x1x256x128 (ix4 0 0 j r)
      = v (ix2 ⟨256 + j.val, by omega⟩ ⟨128 + r.val, by omega⟩) := by
  pointwise

section
variable (x0 : Vec Ideal S512x2048 .f32) (x1 : Vec Ideal S1x2048 .f32)

/-- Row `r` of the block, normed. -/
def hid (r : Fin 512) : Fin 2048 → EReal := rmsn (fun k => x0 (ix2 r k)) (fun k => x1 (ix2 0 k))
/-- Row `r` against the columns of a block of weights; nothing past its last. -/
def line {W : ℕ} (w : (⟨2, ![2048, W]⟩ : Shape).Idx → EReal) (r : Fin 512) (n : ℕ) : EReal :=
  if h : n < W then dot (hid x0 x1 r) (fun k => w (ix2 k ⟨n, h⟩)) else 0

/-- The normed rows of half 0. -/
abbrev rows0 : FVec Ideal S256x2048 .bf16 := k0_pay6 (View.ld x0 (Rect.unit ![0, 0] ![256, 2048] inb_S512x2048_S256x2048_0_0)) x1
theorem rows0_apply (r : Fin 256) : (fun k => rows0 x0 x1 (ix2 r k)) = hid x0 x1 ⟨0 + r.val, by omega⟩ := by
  funext k
  unfold rows0
  rw [normed0]
  unfold hid
  pointwise
theorem wide0 (w : Vec Ideal S2048x1024 .bf16) (r : Fin 256) (n : Fin 1024) :
    wide (rows0 x0 x1) w (ix2 r n) = line x0 x1 (W := 1024) w ⟨0 + r.val, by omega⟩ n.val := by
  unfold line
  rw [wide_apply, rows0_apply, dif_pos n.isLt]
theorem narrow0 (w : Vec Ideal S2048x256 .bf16) (r : Fin 256) (n : Fin 256) :
    narrow (rows0 x0 x1) w (ix2 r n) = line x0 x1 (W := 256) w ⟨0 + r.val, by omega⟩ n.val := by
  unfold line
  rw [narrow_apply, rows0_apply, dif_pos n.isLt]
/-- The normed rows of half 1. -/
abbrev rows1 : FVec Ideal S256x2048 .bf16 := k0_pay6 (View.ld x0 (Rect.unit ![256, 0] ![256, 2048] inb_S512x2048_S256x2048_256_0)) x1
theorem rows1_apply (r : Fin 256) : (fun k => rows1 x0 x1 (ix2 r k)) = hid x0 x1 ⟨256 + r.val, by omega⟩ := by
  funext k
  unfold rows1
  rw [normed0]
  unfold hid
  pointwise
theorem wide1 (w : Vec Ideal S2048x1024 .bf16) (r : Fin 256) (n : Fin 1024) :
    wide (rows1 x0 x1) w (ix2 r n) = line x0 x1 (W := 1024) w ⟨256 + r.val, by omega⟩ n.val := by
  unfold line
  rw [wide_apply, rows1_apply, dif_pos n.isLt]
theorem narrow1 (w : Vec Ideal S2048x256 .bf16) (r : Fin 256) (n : Fin 256) :
    narrow (rows1 x0 x1) w (ix2 r n) = line x0 x1 (W := 256) w ⟨256 + r.val, by omega⟩ n.val := by
  unfold line
  rw [narrow_apply, rows1_apply, dif_pos n.isLt]

variable (x9 x10 : Vec Ideal S512x128 .f32)
/-- Column `n` of row `r`, turned. -/
def turned {W : ℕ} (w : (⟨2, ![2048, W]⟩ : Shape).Idx → EReal) (r : Fin 512) (n : ℕ) : EReal :=
  spin (line x0 x1 w r) (fun l => x9 (ix2 r l)) (fun l => x10 (ix2 r l)) n

theorem turn0 {W : ℕ} (w : (⟨2, ![2048, W]⟩ : Shape).Idx → EReal) (o : ℕ) (ho : o % 128 = 0) (p : FVec Ideal S256x128 .f32) (r : Fin 256)
    (hp : ∀ l : Fin 128, p (ix2 r l) = line x0 x1 w ⟨0 + r.val, by omega⟩ (o + l.val)) (l : Fin 128) :
    rope (k0_pay7 (View.ld x9 (Rect.unit ![0, 0] ![256, 128] inb_S512x128_S256x128_0_0))) (k0_pay8 (View.ld x10 (Rect.unit ![0, 0] ![256, 128] inb_S512x128_S256x128_0_0))) p (ix2 r l)
      = turned x0 x1 x9 x10 w ⟨0 + r.val, by omega⟩ (o + l.val) := by
  rw [rope_apply _ _ p r _ o ho hp]
  unfold turned
  pointwise [k0_pay7, k0_pay8]
theorem turn1 {W : ℕ} (w : (⟨2, ![2048, W]⟩ : Shape).Idx → EReal) (o : ℕ) (ho : o % 128 = 0) (p : FVec Ideal S256x128 .f32) (r : Fin 256)
    (hp : ∀ l : Fin 128, p (ix2 r l) = line x0 x1 w ⟨256 + r.val, by omega⟩ (o + l.val)) (l : Fin 128) :
    rope (k0_pay7 (View.ld x9 (Rect.unit ![256, 0] ![256, 128] inb_S512x128_S256x128_256_0))) (k0_pay8 (View.ld x10 (Rect.unit ![256, 0] ![256, 128] inb_S512x128_S256x128_256_0))) p (ix2 r l)
      = turned x0 x1 x9 x10 w ⟨256 + r.val, by omega⟩ (o + l.val) := by
  rw [rope_apply _ _ p r _ o ho hp]
  unfold turned
  pointwise [k0_pay7, k0_pay8]

variable (x2 : Vec Ideal S2048x1024 .bf16) (x3 x4 x5 x6 : Vec Ideal S2048x256 .bf16) (x7 : Vec Ideal S2048x128 .bf16) (x8 : Vec Ideal S512x2048 .bf16)

/-- The eight blocks: the scaled queries by columns, the turned and the plain keys and values, the two blocks of values by
chunks, and the gates by columns. -/
def blkQ (y : S1x1024x512.Idx) : EReal := turned x0 x1 x9 x10 (W := 1024) x2 (y 2) (y 1).val * Ideal.ofBits FTy.f32 0x3E38AA3B#32
def blkR (w : Vec Ideal S2048x256 .bf16) (y : S512x256.Idx) : EReal := turned x0 x1 x9 x10 (W := 256) w (y 0) (y 1).val
def blkV (y : S512x256.Idx) : EReal := line x0 x1 (W := 256) x4 (y 0) (y 1).val
/-- The row of the block a chunk's lane is. -/
def rowOf (a : Fin 4) (l : Fin 128) : Fin 512 := ⟨128 * a.val + l.val, by omega⟩
def blkC (o : ℕ) (ho : o ≤ 256) (y : S1x4x256x128.Idx) : EReal := dot (hid x0 x1 (rowOf (y 1) (y 3))) (fun k => x8 (ix2 (⟨o + (y 2).val, by have := (y 2).isLt; change (y 2).val < 256 at this; omega⟩ : Fin 512) k))
def blkG (y : S1x128x512.Idx) : EReal := Ideal.logistic (dot (hid x0 x1 (y 2)) (fun k => x7 (ix2 k (y 1 : Fin 128))))

end
section
variable (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S2048x1024 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x128 .bf16) (harg8 : arg8.IsWhole) (arg9 : Memref sig .tc .vmem S512x2048 .bf16) (harg9 : arg9.IsWhole) (arg10 : Memref sig .tc .vmem S512x128 .f32) (harg10 : arg10.IsWhole) (arg11 : Memref sig .tc .vmem S512x128 .f32) (harg11 : arg11.IsWhole) (arg12 : Memref sig .tc .vmem S1x1024x512 .bf16) (harg12 : arg12.IsWhole) (arg13 : Memref sig .tc .vmem S512x256 .f32) (harg13 : arg13.IsWhole) (arg14 : Memref sig .tc .vmem S512x256 .f32) (harg14 : arg14.IsWhole) (arg15 : Memref sig .tc .vmem S512x256 .bf16) (harg15 : arg15.IsWhole) (arg16 : Memref sig .tc .vmem S512x256 .bf16) (harg16 : arg16.IsWhole) (arg17 : Memref sig .tc .vmem S1x4x256x128 .bf16) (harg17 : arg17.IsWhole) (arg18 : Memref sig .tc .vmem S1x4x256x128 .bf16) (harg18 : arg18.IsWhole) (arg19 : Memref sig .tc .vmem S1x128x512 .f32) (harg19 : arg19.IsWhole)
    (x0 : Vec Ideal S512x2048 .f32) (x1 : Vec Ideal S1x2048 .f32) (x2 : Vec Ideal S2048x1024 .bf16) (x3 : Vec Ideal S2048x256 .bf16) (x4 : Vec Ideal S2048x256 .bf16) (x5 : Vec Ideal S2048x256 .bf16) (x6 : Vec Ideal S2048x256 .bf16) (x7 : Vec Ideal S2048x128 .bf16) (x8 : Vec Ideal S512x2048 .bf16) (x9 : Vec Ideal S512x128 .f32) (x10 : Vec Ideal S512x128 .f32)
theorem left12 (r : Fin 512) (q : Fin 256) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 (ix2 r q) = blkR x0 x1 x9 x10 x3 (ix2 r q) := by
  frame_out
  refine tiles_r (e := .f32) (blkR x0 x1 x9 x10 x3) _ _ _ _ ?_ ?_ ?_ ?_ _
  · intro a b
    refine turn1 x0 x1 x9 x10 (W := 256) x3 128 rfl _ a (fun l => ?_) b
    exact (slice256_128 _ a l).trans (narrow1 x0 x1 x3 a ⟨128 + l.val, by omega⟩)
  · intro a b
    refine turn1 x0 x1 x9 x10 (W := 256) x3 0 rfl _ a (fun l => ?_) b
    exact (slice256_0 _ a l).trans (narrow1 x0 x1 x3 a ⟨0 + l.val, by omega⟩)
  · intro a b
    refine turn0 x0 x1 x9 x10 (W := 256) x3 128 rfl _ a (fun l => ?_) b
    exact (slice256_128 _ a l).trans (narrow0 x0 x1 x3 a ⟨128 + l.val, by omega⟩)
  · intro a b
    refine turn0 x0 x1 x9 x10 (W := 256) x3 0 rfl _ a (fun l => ?_) b
    exact (slice256_0 _ a l).trans (narrow0 x0 x1 x3 a ⟨0 + l.val, by omega⟩)

theorem left14 (r : Fin 512) (q : Fin 256) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 (ix2 r q) = blkR x0 x1 x9 x10 x5 (ix2 r q) := by
  frame_out
  refine tiles_r (e := .bf16) (blkR x0 x1 x9 x10 x5) _ _ _ _ ?_ ?_ ?_ ?_ _
  · intro a b
    refine turn1 x0 x1 x9 x10 (W := 256) x5 128 rfl _ a (fun l => ?_) b
    exact (slice256_128 _ a l).trans (narrow1 x0 x1 x5 a ⟨128 + l.val, by omega⟩)
  · intro a b
    refine turn1 x0 x1 x9 x10 (W := 256) x5 0 rfl _ a (fun l => ?_) b
    exact (slice256_0 _ a l).trans (narrow1 x0 x1 x5 a ⟨0 + l.val, by omega⟩)
  · intro a b
    refine turn0 x0 x1 x9 x10 (W := 256) x5 128 rfl _ a (fun l => ?_) b
    exact (slice256_128 _ a l).trans (narrow0 x0 x1 x5 a ⟨128 + l.val, by omega⟩)
  · intro a b
    refine turn0 x0 x1 x9 x10 (W := 256) x5 0 rfl _ a (fun l => ?_) b
    exact (slice256_0 _ a l).trans (narrow0 x0 x1 x5 a ⟨0 + l.val, by omega⟩)

theorem left15 (r : Fin 512) (q : Fin 256) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 (ix2 r q) = blkR x0 x1 x9 x10 x6 (ix2 r q) := by
  frame_out
  refine tiles_r (e := .bf16) (blkR x0 x1 x9 x10 x6) _ _ _ _ ?_ ?_ ?_ ?_ _
  · intro a b
    refine turn1 x0 x1 x9 x10 (W := 256) x6 128 rfl _ a (fun l => ?_) b
    exact (slice256_128 _ a l).trans (narrow1 x0 x1 x6 a ⟨128 + l.val, by omega⟩)
  · intro a b
    refine turn1 x0 x1 x9 x10 (W := 256) x6 0 rfl _ a (fun l => ?_) b
    exact (slice256_0 _ a l).trans (narrow1 x0 x1 x6 a ⟨0 + l.val, by omega⟩)
  · intro a b
    refine turn0 x0 x1 x9 x10 (W := 256) x6 128 rfl _ a (fun l => ?_) b
    exact (slice256_128 _ a l).trans (narrow0 x0 x1 x6 a ⟨128 + l.val, by omega⟩)
  · intro a b
    refine turn0 x0 x1 x9 x10 (W := 256) x6 0 rfl _ a (fun l => ?_) b
    exact (slice256_0 _ a l).trans (narrow0 x0 x1 x6 a ⟨0 + l.val, by omega⟩)

theorem left11 (q : Fin 1024) (r : Fin 512) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 (ix3 0 q r) = blkQ x0 x1 x9 x10 x2 (ix3 0 q r) := by
  frame_out
  refine View.canon_apply_of_pieces (Val := Elt Ideal) (S := S1x1024x512) (e := .bf16) (blkQ x0 x1 x9 x10 x2) _ ?_ _ ?_
  · refine List.forall_mem_cons.2 ⟨piece_q (e := .bf16) (blkQ x0 x1 x9 x10 x2) _ 896 256 (by omega) (by omega) inb_S1x1024x512_S1x128x256_0_896_256 ?_, ?_⟩
    · intro b c
      refine (scaled _ c b).trans (congrArg (· * Ideal.ofBits FTy.f32 0x3E38AA3B#32) (turn1 x0 x1 x9 x10 (W := 1024) x2 896 rfl _ c (fun l => ?_) b))
      exact (slice1024_896 _ c l).trans (wide1 x0 x1 x2 c ⟨896 + l.val, by omega⟩)
    refine List.forall_mem_cons.2 ⟨piece_q (e := .bf16) (blkQ x0 x1 x9 x10 x2) _ 768 256 (by omega) (by omega) inb_S1x1024x512_S1x128x256_0_768_256 ?_, ?_⟩
    · intro b c
      refine (scaled _ c b).trans (congrArg (· * Ideal.ofBits FTy.f32 0x3E38AA3B#32) (turn1 x0 x1 x9 x10 (W := 1024) x2 768 rfl _ c (fun l => ?_) b))
      exact (slice1024_768 _ c l).trans (wide1 x0 x1 x2 c ⟨768 + l.val, by omega⟩)
    refine List.forall_mem_cons.2 ⟨piece_q (e := .bf16) (blkQ x0 x1 x9 x10 x2) _ 640 256 (by omega) (by omega) inb_S1x1024x512_S1x128x256_0_640_256 ?_, ?_⟩
    · intro b c
      refine (scaled _ c b).trans (congrArg (· * Ideal.ofBits FTy.f32 0x3E38AA3B#32) (turn1 x0 x1 x9 x10 (W := 1024) x2 640 rfl _ c (fun l => ?_) b))
      exact (slice1024_640 _ c l).trans (wide1 x0 x1 x2 c ⟨640 + l.val, by omega⟩)
    refine List.forall_mem_cons.2 ⟨piece_q (e := .bf16) (blkQ x0 x1 x9 x10 x2) _ 512 256 (by omega) (by omega) inb_S1x1024x512_S1x128x256_0_512_256 ?_, ?_⟩
    · intro b c
      refine (scaled _ c b).trans (congrArg (· * Ideal.ofBits FTy.f32 0x3E38AA3B#32) (turn1 x0 x1 x9 x10 (W := 1024) x2 512 rfl _ c (fun l => ?_) b))
      exact (slice1024_512 _ c l).trans (wide1 x0 x1 x2 c ⟨512 + l.val, by omega⟩)
    refine List.forall_mem_cons.2 ⟨piece_q (e := .bf16) (blkQ x0 x1 x9 x10 x2) _ 384 256 (by omega) (by omega) inb_S1x1024x512_S1x128x256_0_384_256 ?_, ?_⟩
    · intro b c
      refine (scaled _ c b).trans (congrArg (· * Ideal.ofBits FTy.f32 0x3E38AA3B#32) (turn1 x0 x1 x9 x10 (W := 1024) x2 384 rfl _ c (fun l => ?_) b))
      exact (slice1024_384 _ c l).trans (wide1 x0 x1 x2 c ⟨384 + l.val, by omega⟩)
    refine List.forall_mem_cons.2 ⟨piece_q (e := .bf16) (blkQ x0 x1 x9 x10 x2) _ 256 256 (by omega) (by omega) inb_S1x1024x512_S1x128x256_0_256_256 ?_, ?_⟩
    · intro b c
      refine (scaled _ c b).trans (congrArg (· * Ideal.ofBits FTy.f32 0x3E38AA3B#32) (turn1 x0 x1 x9 x10 (W := 1024) x2 256 rfl _ c (fun l => ?_) b))
      exact (slice1024_256 _ c l).trans (wide1 x0 x1 x2 c ⟨256 + l.val, by omega⟩)
    refine List.forall_mem_cons.2 ⟨piece_q (e := .bf16) (blkQ x0 x1 x9 x10 x2) _ 128 256 (by omega) (by omega) inb_S1x1024x512_S1x128x256_0_128_256 ?_, ?_⟩
    · intro b c
      refine (scaled _ c b).trans (congrArg (· * Ideal.ofBits FTy.f32 0x3E38AA3B#32) (turn1 x0 x1 x9 x10 (W := 1024) x2 128 rfl _ c (fun l => ?_) b))
      exact (slice1024_128 _ c l).trans (wide1 x0 x1 x2 c ⟨128 + l.val, by omega⟩)
    refine List.forall_mem_cons.2 ⟨piece_q (e := .bf16) (blkQ x0 x1 x9 x10 x2) _ 0 256 (by omega) (by omega) inb_S1x1024x512_S1x128x256_0_0_256 ?_, ?_⟩
    · intro b c
      refine (scaled _ c b).trans (congrArg (· * Ideal.ofBits FTy.f32 0x3E38AA3B#32) (turn1 x0 x1 x9 x10 (W := 1024) x2 0 rfl _ c (fun l => ?_) b))
      exact (slice1024_0 _ c l).trans (wide1 x0 x1 x2 c ⟨0 + l.val, by omega⟩)
    refine List.forall_mem_cons.2 ⟨piece_q (e := .bf16) (blkQ x0 x1 x9 x10 x2) _ 896 0 (by omega) (by omega) inb_S1x1024x512_S1x128x256_0_896_0 ?_, ?_⟩
    · intro b c
      refine (scaled _ c b).trans (congrArg (· * Ideal.ofBits FTy.f32 0x3E38AA3B#32) (turn0 x0 x1 x9 x10 (W := 1024) x2 896 rfl _ c (fun l => ?_) b))
      exact (slice1024_896 _ c l).trans (wide0 x0 x1 x2 c ⟨896 + l.val, by omega⟩)
    refine List.forall_mem_cons.2 ⟨piece_q (e := .bf16) (blkQ x0 x1 x9 x10 x2) _ 768 0 (by omega) (by omega) inb_S1x1024x512_S1x128x256_0_768_0 ?_, ?_⟩
    · intro b c
      refine (scaled _ c b).trans (congrArg (· * Ideal.ofBits FTy.f32 0x3E38AA3B#32) (turn0 x0 x1 x9 x10 (W := 1024) x2 768 rfl _ c (fun l => ?_) b))
      exact (slice1024_768 _ c l).trans (wide0 x0 x1 x2 c ⟨768 + l.val, by omega⟩)
    refine List.forall_mem_cons.2 ⟨piece_q (e := .bf16) (blkQ x0 x1 x9 x10 x2) _ 640 0 (by omega) (by omega) inb_S1x1024x512_S1x128x256_0_640_0 ?_, ?_⟩
    · intro b c
      refine (scaled _ c b).trans (congrArg (· * Ideal.ofBits FTy.f32 0x3E38AA3B#32) (turn0 x0 x1 x9 x10 (W := 1024) x2 640 rfl _ c (fun l => ?_) b))
      exact (slice1024_640 _ c l).trans (wide0 x0 x1 x2 c ⟨640 + l.val, by omega⟩)
    refine List.forall_mem_cons.2 ⟨piece_q (e := .bf16) (blkQ x0 x1 x9 x10 x2) _ 512 0 (by omega) (by omega) inb_S1x1024x512_S1x128x256_0_512_0 ?_, ?_⟩
    · intro b c
      refine (scaled _ c b).trans (congrArg (· * Ideal.ofBits FTy.f32 0x3E38AA3B#32) (turn0 x0 x1 x9 x10 (W := 1024) x2 512 rfl _ c (fun l => ?_) b))
      exact (slice1024_512 _ c l).trans (wide0 x0 x1 x2 c ⟨512 + l.val, by omega⟩)
    refine List.forall_mem_cons.2 ⟨piece_q (e := .bf16) (blkQ x0 x1 x9 x10 x2) _ 384 0 (by omega) (by omega) inb_S1x1024x512_S1x128x256_0_384_0 ?_, ?_⟩
    · intro b c
      refine (scaled _ c b).trans (congrArg (· * Ideal.ofBits FTy.f32 0x3E38AA3B#32) (turn0 x0 x1 x9 x10 (W := 1024) x2 384 rfl _ c (fun l => ?_) b))
      exact (slice1024_384 _ c l).trans (wide0 x0 x1 x2 c ⟨384 + l.val, by omega⟩)
    refine List.forall_mem_cons.2 ⟨piece_q (e := .bf16) (blkQ x0 x1 x9 x10 x2) _ 256 0 (by omega) (by omega) inb_S1x1024x512_S1x128x256_0_256_0 ?_, ?_⟩
    · intro b c
      refine (scaled _ c b).trans (congrArg (· * Ideal.ofBits FTy.f32 0x3E38AA3B#32) (turn0 x0 x1 x9 x10 (W := 1024) x2 256 rfl _ c (fun l => ?_) b))
      exact (slice1024_256 _ c l).trans (wide0 x0 x1 x2 c ⟨256 + l.val, by omega⟩)
    refine List.forall_mem_cons.2 ⟨piece_q (e := .bf16) (blkQ x0 x1 x9 x10 x2) _ 128 0 (by omega) (by omega) inb_S1x1024x512_S1x128x256_0_128_0 ?_, ?_⟩
    · intro b c
      refine (scaled _ c b).trans (congrArg (· * Ideal.ofBits FTy.f32 0x3E38AA3B#32) (turn0 x0 x1 x9 x10 (W := 1024) x2 128 rfl _ c (fun l => ?_) b))
      exact (slice1024_128 _ c l).trans (wide0 x0 x1 x2 c ⟨128 + l.val, by omega⟩)
    refine List.forall_mem_cons.2 ⟨piece_q (e := .bf16) (blkQ x0 x1 x9 x10 x2) _ 0 0 (by omega) (by omega) inb_S1x1024x512_S1x128x256_0_0_0 ?_, ?_⟩
    · intro b c
      refine (scaled _ c b).trans (congrArg (· * Ideal.ofBits FTy.f32 0x3E38AA3B#32) (turn0 x0 x1 x9 x10 (W := 1024) x2 0 rfl _ c (fun l => ?_) b))
      exact (slice1024_0 _ c l).trans (wide0 x0 x1 x2 c ⟨0 + l.val, by omega⟩)
    exact fun p hp => absurd hp List.not_mem_nil
  · by_cases h0 : q.val < 128
    · by_cases hr : r.val < 256
      · refine (List.exists_mem_cons_iff _ _ _).2 (Or.inr ?_)
        refine (List.exists_mem_cons_iff _ _ _).2 (Or.inr ?_)
        refine (List.exists_mem_cons_iff _ _ _).2 (Or.inr ?_)
        refine (List.exists_mem_cons_iff _ _ _).2 (Or.inr ?_)
        refine (List.exists_mem_cons_iff _ _ _).2 (Or.inr ?_)
        refine (List.exists_mem_cons_iff _ _ _).2 (Or.inr ?_)
        refine (List.exists_mem_cons_iff _ _ _).2 (Or.inr ?_)
        refine (List.exists_mem_cons_iff _ _ _).2 (Or.inr ?_)
        refine (List.exists_mem_cons_iff _ _ _).2 (Or.inr ?_)
        refine (List.exists_mem_cons_iff _ _ _).2 (Or.inr ?_)
        refine (List.exists_mem_cons_iff _ _ _).2 (Or.inr ?_)
        refine (List.exists_mem_cons_iff _ _ _).2 (Or.inr ?_)
        refine (List.exists_mem_cons_iff _ _ _).2 (Or.inr ?_)
        refine (List.exists_mem_cons_iff _ _ _).2 (Or.inr ?_)
        refine (List.exists_mem_cons_iff _ _ _).2 (Or.inr ?_)
        exact (List.exists_mem_cons_iff _ _ _).2 (Or.inl (mem_q q r 0 0 inb_S1x1024x512_S1x128x256_0_0_0 ⟨by omega, by omega⟩ ⟨by omega, by omega⟩))
      · refine (List.exists_mem_cons_iff _ _ _).2 (Or.inr ?_)
        refine (List.exists_mem_cons_iff _ _ _).2 (Or.inr ?_)
        refine (List.exists_mem_cons_iff _ _ _).2 (Or.inr ?_)
        refine (List.exists_mem_cons_iff _ _ _).2 (Or.inr ?_)
        refine (List.exists_mem_cons_iff _ _ _).2 (Or.inr ?_)
        refine (List.exists_mem_cons_iff _ _ _).2 (Or.inr ?_)
        refine (List.exists_mem_cons_iff _ _ _).2 (Or.inr ?_)
        exact (List.exists_mem_cons_iff _ _ _).2 (Or.inl (mem_q q r 0 256 inb_S1x1024x512_S1x128x256_0_0_256 ⟨by omega, by omega⟩ ⟨by omega, by omega⟩))
    · by_cases h1 : q.val < 256
      · by_cases hr : r.val < 256
        · refine (List.exists_mem_cons_iff _ _ _).2 (Or.inr ?_)
          refine (List.exists_mem_cons_iff _ _ _).2 (Or.inr ?_)
          refine (List.exists_mem_cons_iff _ _ _).2 (Or.inr ?_)
          refine (List.exists_mem_cons_iff _ _ _).2 (Or.inr ?_)
          refine (List.exists_mem_cons_iff _ _ _).2 (Or.inr ?_)
          refine (List.exists_mem_cons_iff _ _ _).2 (Or.inr ?_)
          refine (List.exists_mem_cons_iff _ _ _).2 (Or.inr ?_)
          refine (List.exists_mem_cons_iff _ _ _).2 (Or.inr ?_)
          refine (List.exists_mem_cons_iff _ _ _).2 (Or.inr ?_)
          refine (List.exists_mem_cons_iff _ _ _).2 (Or.inr ?_)
          refine (List.exists_mem_cons_iff _ _ _).2 (Or.inr ?_)
          refine (List.exists_mem_cons_iff _ _ _).2 (Or.inr ?_)
          refine (List.exists_mem_cons_iff _ _ _).2 (Or.inr ?_)
          refine (List.exists_mem_cons_iff _ _ _).2 (Or.inr ?_)
          exact (List.exists_mem_cons_iff _ _ _).2 (Or.inl (mem_q q r 128 0 inb_S1x1024x512_S1x128x256_0_128_0 ⟨by omega, by omega⟩ ⟨by omega, by omega⟩))
        · refine (List.exists_mem_cons_iff _ _ _).2 (Or.inr ?_)
          refine (List.exists_mem_cons_iff _ _ _).2 (Or.inr ?_)
          refine (List.exists_mem_cons_iff _ _ _).2 (Or.inr ?_)
          refine (List.exists_mem_cons_iff _ _ _).2 (Or.inr ?_)
          refine (List.exists_mem_cons_iff _ _ _).2 (Or.inr ?_)
          refine (List.exists_mem_cons_iff _ _ _).2 (Or.inr ?_)
          exact (List.exists_mem_cons_iff _ _ _).2 (Or.inl (mem_q q r 128 256 inb_S1x1024x512_S1x128x256_0_128_256 ⟨by omega, by omega⟩ ⟨by omega, by omega⟩))
      · by_cases h2 : q.val < 384
        · by_cases hr : r.val < 256
          · refine (List.exists_mem_cons_iff _ _ _).2 (Or.inr ?_)
            refine (List.exists_mem_cons_iff _ _ _).2 (Or.inr ?_)
            refine (List.exists_mem_cons_iff _ _ _).2 (Or.inr ?_)
            refine (List.exists_mem_cons_iff _ _ _).2 (Or.inr ?_)
            refine (List.exists_mem_cons_iff _ _ _).2 (Or.inr ?_)
            refine (List.exists_mem_cons_iff _ _ _).2 (Or.inr ?_)
            refine (List.exists_mem_cons_iff _ _ _).2 (Or.inr ?_)
            refine (List.exists_mem_cons_iff _ _ _).2 (Or.inr ?_)
            refine (List.exists_mem_cons_iff _ _ _).2 (Or.inr ?_)
            refine (List.exists_mem_cons_iff _ _ _).2 (Or.inr ?_)
            refine (List.exists_mem_cons_iff _ _ _).2 (Or.inr ?_)
            refine (List.exists_mem_cons_iff _ _ _).2 (Or.inr ?_)
            refine (List.exists_mem_cons_iff _ _ _).2 (Or.inr ?_)
            exact (List.exists_mem_cons_iff _ _ _).2 (Or.inl (mem_q q r 256 0 inb_S1x1024x512_S1x128x256_0_256_0 ⟨by omega, by omega⟩ ⟨by omega, by omega⟩))
          · refine (List.exists_mem_cons_iff _ _ _).2 (Or.inr ?_)
            refine (List.exists_mem_cons_iff _ _ _).2 (Or.inr ?_)
            refine (List.exists_mem_cons_iff _ _ _).2 (Or.inr ?_)
            refine (List.exists_mem_cons_iff _ _ _).2 (Or.inr ?_)
            refine (List.exists_mem_cons_iff _ _ _).2 (Or.inr ?_)
            exact (List.exists_mem_cons_iff _ _ _).2 (Or.inl (mem_q q r 256 256 inb_S1x1024x512_S1x128x256_0_256_256 ⟨by omega, by omega⟩ ⟨by omega, by omega⟩))
        · by_cases h3 : q.val < 512
          · by_cases hr : r.val < 256
            · refine (List.exists_mem_cons_iff _ _ _).2 (Or.inr ?_)
              refine (List.exists_mem_cons_iff _ _ _).2 (Or.inr ?_)
              refine (List.exists_mem_cons_iff _ _ _).2 (Or.inr ?_)
              refine (List.exists_mem_cons_iff _ _ _).2 (Or.inr ?_)
              refine (List.exists_mem_cons_iff _ _ _).2 (Or.inr ?_)
              refine (List.exists_mem_cons_iff _ _ _).2 (Or.inr ?_)
              refine (List.exists_mem_cons_iff _ _ _).2 (Or.inr ?_)
              refine (List.exists_mem_cons_iff _ _ _).2 (Or.inr ?_)
              refine (List.exists_mem_cons_iff _ _ _).2 (Or.inr ?_)
              refine (List.exists_mem_cons_iff _ _ _).2 (Or.inr ?_)
              refine (List.exists_mem_cons_iff _ _ _).2 (Or.inr ?_)
              refine (List.exists_mem_cons_iff _ _ _).2 (Or.inr ?_)
              exact (List.exists_mem_cons_iff _ _ _).2 (Or.inl (mem_q q r 384 0 inb_S1x1024x512_S1x128x256_0_384_0 ⟨by omega, by omega⟩ ⟨by omega, by omega⟩))
            · refine (List.exists_mem_cons_iff _ _ _).2 (Or.inr ?_)
              refine (List.exists_mem_cons_iff _ _ _).2 (Or.inr ?_)
              refine (List.exists_mem_cons_iff _ _ _).2 (Or.inr ?_)
              refine (List.exists_mem_cons_iff _ _ _).2 (Or.inr ?_)
              exact (List.exists_mem_cons_iff _ _ _).2 (Or.inl (mem_q q r 384 256 inb_S1x1024x512_S1x128x256_0_384_256 ⟨by omega, by omega⟩ ⟨by omega, by omega⟩))
          · by_cases h4 : q.val < 640
            · by_cases hr : r.val < 256
              · refine (List.exists_mem_cons_iff _ _ _).2 (Or.inr ?_)
                refine (List.exists_mem_cons_iff _ _ _).2 (Or.inr ?_)
                refine (List.exists_mem_cons_iff _ _ _).2 (Or.inr ?_)
                refine (List.exists_mem_cons_iff _ _ _).2 (Or.inr ?_)
                refine (List.exists_mem_cons_iff _ _ _).2 (Or.inr ?_)
                refine (List.exists_mem_cons_iff _ _ _).2 (Or.inr ?_)
                refine (List.exists_mem_cons_iff _ _ _).2 (Or.inr ?_)
                refine (List.exists_mem_cons_iff _ _ _).2 (Or.inr ?_)
                refine (List.exists_mem_cons_iff _ _ _).2 (Or.inr ?_)
                refine (List.exists_mem_cons_iff _ _ _).2 (Or.inr ?_)
                refine (List.exists_mem_cons_iff _ _ _).2 (Or.inr ?_)
                exact (List.exists_mem_cons_iff _ _ _).2 (Or.inl (mem_q q r 512 0 inb_S1x1024x512_S1x128x256_0_512_0 ⟨by omega, by omega⟩ ⟨by omega, by omega⟩))
              · refine (List.exists_mem_cons_iff _ _ _).2 (Or.inr ?_)
                refine (List.exists_mem_cons_iff _ _ _).2 (Or.inr ?_)
                refine (List.exists_mem_cons_iff _ _ _).2 (Or.inr ?_)
                exact (List.exists_mem_cons_iff _ _ _).2 (Or.inl (mem_q q r 512 256 inb_S1x1024x512_S1x128x256_0_512_256 ⟨by omega, by omega⟩ ⟨by omega, by omega⟩))
            · by_cases h5 : q.val < 768
              · by_cases hr : r.val < 256
                · refine (List.exists_mem_cons_iff _ _ _).2 (Or.inr ?_)
                  refine (List.exists_mem_cons_iff _ _ _).2 (Or.inr ?_)
                  refine (List.exists_mem_cons_iff _ _ _).2 (Or.inr ?_)
                  refine (List.exists_mem_cons_iff _ _ _).2 (Or.inr ?_)
                  refine (List.exists_mem_cons_iff _ _ _).2 (Or.inr ?_)
                  refine (List.exists_mem_cons_iff _ _ _).2 (Or.inr ?_)
                  refine (List.exists_mem_cons_iff _ _ _).2 (Or.inr ?_)
                  refine (List.exists_mem_cons_iff _ _ _).2 (Or.inr ?_)
                  refine (List.exists_mem_cons_iff _ _ _).2 (Or.inr ?_)
                  refine (List.exists_mem_cons_iff _ _ _).2 (Or.inr ?_)
                  exact (List.exists_mem_cons_iff _ _ _).2 (Or.inl (mem_q q r 640 0 inb_S1x1024x512_S1x128x256_0_640_0 ⟨by omega, by omega⟩ ⟨by omega, by omega⟩))
                · refine (List.exists_mem_cons_iff _ _ _).2 (Or.inr ?_)
                  refine (List.exists_mem_cons_iff _ _ _).2 (Or.inr ?_)
                  exact (List.exists_mem_cons_iff _ _ _).2 (Or.inl (mem_q q r 640 256 inb_S1x1024x512_S1x128x256_0_640_256 ⟨by omega, by omega⟩ ⟨by omega, by omega⟩))
              · by_cases h6 : q.val < 896
                · by_cases hr : r.val < 256
                  · refine (List.exists_mem_cons_iff _ _ _).2 (Or.inr ?_)
                    refine (List.exists_mem_cons_iff _ _ _).2 (Or.inr ?_)
                    refine (List.exists_mem_cons_iff _ _ _).2 (Or.inr ?_)
                    refine (List.exists_mem_cons_iff _ _ _).2 (Or.inr ?_)
                    refine (List.exists_mem_cons_iff _ _ _).2 (Or.inr ?_)
                    refine (List.exists_mem_cons_iff _ _ _).2 (Or.inr ?_)
                    refine (List.exists_mem_cons_iff _ _ _).2 (Or.inr ?_)
                    refine (List.exists_mem_cons_iff _ _ _).2 (Or.inr ?_)
                    refine (List.exists_mem_cons_iff _ _ _).2 (Or.inr ?_)
                    exact (List.exists_mem_cons_iff _ _ _).2 (Or.inl (mem_q q r 768 0 inb_S1x1024x512_S1x128x256_0_768_0 ⟨by omega, by omega⟩ ⟨by omega, by omega⟩))
                  · refine (List.exists_mem_cons_iff _ _ _).2 (Or.inr ?_)
                    exact (List.exists_mem_cons_iff _ _ _).2 (Or.inl (mem_q q r 768 256 inb_S1x1024x512_S1x128x256_0_768_256 ⟨by omega, by omega⟩ ⟨by omega, by omega⟩))
                · by_cases hr : r.val < 256
                  · refine (List.exists_mem_cons_iff _ _ _).2 (Or.inr ?_)
                    refine (List.exists_mem_cons_iff _ _ _).2 (Or.inr ?_)
                    refine (List.exists_mem_cons_iff _ _ _).2 (Or.inr ?_)
                    refine (List.exists_mem_cons_iff _ _ _).2 (Or.inr ?_)
                    refine (List.exists_mem_cons_iff _ _ _).2 (Or.inr ?_)
                    refine (List.exists_mem_cons_iff _ _ _).2 (Or.inr ?_)
                    refine (List.exists_mem_cons_iff _ _ _).2 (Or.inr ?_)
                    refine (List.exists_mem_cons_iff _ _ _).2 (Or.inr ?_)
                    exact (List.exists_mem_cons_iff _ _ _).2 (Or.inl (mem_q q r 896 0 inb_S1x1024x512_S1x128x256_0_896_0 ⟨by omega, by omega⟩ ⟨by omega, by omega⟩))
                  · exact (List.exists_mem_cons_iff _ _ _).2 (Or.inl (mem_q q r 896 256 inb_S1x1024x512_S1x128x256_0_896_256 ⟨by omega, by omega⟩ ⟨by omega, by omega⟩))

theorem left13 (r : Fin 512) (q : Fin 256) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 (ix2 r q) = blkV x0 x1 x4 (ix2 r q) := by
  frame_out
  refine tiles_v (e := .f32) (blkV x0 x1 x4) _ _ ?_ ?_ _
  · intro a b
    refine (narrow1 x0 x1 x4 a b).trans ?_
    exact congrArg (line x0 x1 (W := 256) x4 _) (show b.val = 0 + b.val by omega)
  · intro a b
    refine (narrow0 x0 x1 x4 a b).trans ?_
    exact congrArg (line x0 x1 (W := 256) x4 _) (show b.val = 0 + b.val by omega)

theorem left16 (a : Fin 4) (j : Fin 256) (l : Fin 128) :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 (ix4 0 a j l) = blkC x0 x1 x8 0 (by omega) (ix4 0 a j l) := by
  frame_out
  refine tiles_c (e := .bf16) (blkC x0 x1 x8 0 (by omega)) _ _ _ _ ?_ ?_ ?_ ?_ _
  · intro c d
    refine (chunk0_128 _ c d).trans ((across _ x8 _ _).trans ?_)
    show dot (fun k => rows1 x0 x1 (ix2 ⟨128 + d.val, by omega⟩ k)) _ = dot (hid x0 x1 (rowOf 3 ⟨0 + d.val, by omega⟩)) (fun k => x8 (ix2 (⟨0 + (0 + c.val), by omega⟩ : Fin 512) k))
    rw [rows1_apply]
    have er : (⟨256 + (128 + d.val), by omega⟩ : Fin 512) = rowOf 3 ⟨0 + d.val, by omega⟩ := Fin.ext (show 256 + (128 + d.val) = 128 * 3 + (0 + d.val) by omega)
    have ec : (⟨0 + c.val, by omega⟩ : Fin 512) = ⟨0 + (0 + c.val), by omega⟩ := Fin.ext (show 0 + c.val = 0 + (0 + c.val) by omega)
    rw [← er, ← ec]
  · intro c d
    refine (chunk0_0 _ c d).trans ((across _ x8 _ _).trans ?_)
    show dot (fun k => rows1 x0 x1 (ix2 ⟨0 + d.val, by omega⟩ k)) _ = dot (hid x0 x1 (rowOf 2 ⟨0 + d.val, by omega⟩)) (fun k => x8 (ix2 (⟨0 + (0 + c.val), by omega⟩ : Fin 512) k))
    rw [rows1_apply]
    have er : (⟨256 + (0 + d.val), by omega⟩ : Fin 512) = rowOf 2 ⟨0 + d.val, by omega⟩ := Fin.ext (show 256 + (0 + d.val) = 128 * 2 + (0 + d.val) by omega)
    have ec : (⟨0 + c.val, by omega⟩ : Fin 512) = ⟨0 + (0 + c.val), by omega⟩ := Fin.ext (show 0 + c.val = 0 + (0 + c.val) by omega)
    rw [← er, ← ec]
  · intro c d
    refine (chunk0_128 _ c d).trans ((across _ x8 _ _).trans ?_)
    show dot (fun k => rows0 x0 x1 (ix2 ⟨128 + d.val, by omega⟩ k)) _ = dot (hid x0 x1 (rowOf 1 ⟨0 + d.val, by omega⟩)) (fun k => x8 (ix2 (⟨0 + (0 + c.val), by omega⟩ : Fin 512) k))
    rw [rows0_apply]
    have er : (⟨0 + (128 + d.val), by omega⟩ : Fin 512) = rowOf 1 ⟨0 + d.val, by omega⟩ := Fin.ext (show 0 + (128 + d.val) = 128 * 1 + (0 + d.val) by omega)
    have ec : (⟨0 + c.val, by omega⟩ : Fin 512) = ⟨0 + (0 + c.val), by omega⟩ := Fin.ext (show 0 + c.val = 0 + (0 + c.val) by omega)
    rw [← er, ← ec]
  · intro c d
    refine (chunk0_0 _ c d).trans ((across _ x8 _ _).trans ?_)
    show dot (fun k => rows0 x0 x1 (ix2 ⟨0 + d.val, by omega⟩ k)) _ = dot (hid x0 x1 (rowOf 0 ⟨0 + d.val, by omega⟩)) (fun k => x8 (ix2 (⟨0 + (0 + c.val), by omega⟩ : Fin 512) k))
    rw [rows0_apply]
    have er : (⟨0 + (0 + d.val), by omega⟩ : Fin 512) = rowOf 0 ⟨0 + d.val, by omega⟩ := Fin.ext (show 0 + (0 + d.val) = 128 * 0 + (0 + d.val) by omega)
    have ec : (⟨0 + c.val, by omega⟩ : Fin 512) = ⟨0 + (0 + c.val), by omega⟩ := Fin.ext (show 0 + c.val = 0 + (0 + c.val) by omega)
    rw [← er, ← ec]

theorem left17 (a : Fin 4) (j : Fin 256) (l : Fin 128) :
    out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 (ix4 0 a j l) = blkC x0 x1 x8 256 (by omega) (ix4 0 a j l) := by
  frame_out
  refine tiles_c (e := .bf16) (blkC x0 x1 x8 256 (by omega)) _ _ _ _ ?_ ?_ ?_ ?_ _
  · intro c d
    refine (chunk256_128 _ c d).trans ((across _ x8 _ _).trans ?_)
    show dot (fun k => rows1 x0 x1 (ix2 ⟨128 + d.val, by omega⟩ k)) _ = dot (hid x0 x1 (rowOf 3 ⟨0 + d.val, by omega⟩)) (fun k => x8 (ix2 (⟨256 + (0 + c.val), by omega⟩ : Fin 512) k))
    rw [rows1_apply]
    have er : (⟨256 + (128 + d.val), by omega⟩ : Fin 512) = rowOf 3 ⟨0 + d.val, by omega⟩ := Fin.ext (show 256 + (128 + d.val) = 128 * 3 + (0 + d.val) by omega)
    have ec : (⟨256 + c.val, by omega⟩ : Fin 512) = ⟨256 + (0 + c.val), by omega⟩ := Fin.ext (show 256 + c.val = 256 + (0 + c.val) by omega)
    rw [← er, ← ec]
  · intro c d
    refine (chunk256_0 _ c d).trans ((across _ x8 _ _).trans ?_)
    show dot (fun k => rows1 x0 x1 (ix2 ⟨0 + d.val, by omega⟩ k)) _ = dot (hid x0 x1 (rowOf 2 ⟨0 + d.val, by omega⟩)) (fun k => x8 (ix2 (⟨256 + (0 + c.val), by omega⟩ : Fin 512) k))
    rw [rows1_apply]
    have er : (⟨256 + (0 + d.val), by omega⟩ : Fin 512) = rowOf 2 ⟨0 + d.val, by omega⟩ := Fin.ext (show 256 + (0 + d.val) = 128 * 2 + (0 + d.val) by omega)
    have ec : (⟨256 + c.val, by omega⟩ : Fin 512) = ⟨256 + (0 + c.val), by omega⟩ := Fin.ext (show 256 + c.val = 256 + (0 + c.val) by omega)
    rw [← er, ← ec]
  · intro c d
    refine (chunk256_128 _ c d).trans ((across _ x8 _ _).trans ?_)
    show dot (fun k => rows0 x0 x1 (ix2 ⟨128 + d.val, by omega⟩ k)) _ = dot (hid x0 x1 (rowOf 1 ⟨0 + d.val, by omega⟩)) (fun k => x8 (ix2 (⟨256 + (0 + c.val), by omega⟩ : Fin 512) k))
    rw [rows0_apply]
    have er : (⟨0 + (128 + d.val), by omega⟩ : Fin 512) = rowOf 1 ⟨0 + d.val, by omega⟩ := Fin.ext (show 0 + (128 + d.val) = 128 * 1 + (0 + d.val) by omega)
    have ec : (⟨256 + c.val, by omega⟩ : Fin 512) = ⟨256 + (0 + c.val), by omega⟩ := Fin.ext (show 256 + c.val = 256 + (0 + c.val) by omega)
    rw [← er, ← ec]
  · intro c d
    refine (chunk256_0 _ c d).trans ((across _ x8 _ _).trans ?_)
    show dot (fun k => rows0 x0 x1 (ix2 ⟨0 + d.val, by omega⟩ k)) _ = dot (hid x0 x1 (rowOf 0 ⟨0 + d.val, by omega⟩)) (fun k => x8 (ix2 (⟨256 + (0 + c.val), by omega⟩ : Fin 512) k))
    rw [rows0_apply]
    have er : (⟨0 + (0 + d.val), by omega⟩ : Fin 512) = rowOf 0 ⟨0 + d.val, by omega⟩ := Fin.ext (show 0 + (0 + d.val) = 128 * 0 + (0 + d.val) by omega)
    have ec : (⟨256 + c.val, by omega⟩ : Fin 512) = ⟨256 + (0 + c.val), by omega⟩ := Fin.ext (show 256 + c.val = 256 + (0 + c.val) by omega)
    rw [← er, ← ec]

theorem left18 (q : Fin 128) (r : Fin 512) :
    out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 (ix3 0 q r) = blkG x0 x1 x7 (ix3 0 q r) := by
  frame_out
  refine tiles_g (e := .f32) (blkG x0 x1 x7) _ _ ?_ ?_ _
  · intro b c
    refine ((gate_apply _ x7 c b).trans (congrArg (fun f => Ideal.logistic (dot f (fun k => x7 (ix2 k b)))) (rows1_apply x0 x1 c))).trans ?_
    have eb : (⟨0 + b.val, by omega⟩ : Fin 128) = b := Fin.ext (show 0 + b.val = b.val by omega)
    rw [eb]
    rfl
  · intro b c
    refine ((gate_apply _ x7 c b).trans (congrArg (fun f => Ideal.logistic (dot f (fun k => x7 (ix2 k b)))) (rows0_apply x0 x1 c))).trans ?_
    have eb : (⟨0 + b.val, by omega⟩ : Fin 128) = b := Fin.ext (show 0 + b.val = b.val by omega)
    rw [eb]
    rfl
end
end Cert.AttnIdeal.Block
end
-- ==== Proof.AttnSpec.lean ====
/-
  The attention's part of the projection on one row, over the extended reals: the angles of the rotary positions, and a
  column turned with its partner in the same head.
-/
module
public import proofs.«01_k».proof.Proof.ConvSpec

@[expose] public section
noncomputable section
namespace Layer

open Idealize.ShloMosaic

/-- The angle of pair `j` at position `s`: the position times ten thousand to the power `-2 j / 64`. -/
def angle (s : Fin 4096) (j : Fin 32) : EReal :=
  FloatOps.sitofp (F := Ideal) FTy.f32 (BitVec.ofNat 32 s.val)
    * Ideal.pow (Ideal.ofBits FTy.f32 1176256512#32)
        (Ideal.div (-(Ideal.ofBits FTy.f32 1073741824#32 * FloatOps.sitofp (F := Ideal) FTy.f32 (BitVec.ofNat 32 j.val)))
          (Ideal.ofBits FTy.f32 1115684864#32))

/-- Product `n` of row `R`, nothing past the last. -/
def prod (x : (⟨3, ![4, 4096, 2048]⟩ : Shape).Idx → EReal) (g : Fin 2048 → EReal)
    (w : (⟨3, ![1, 2048, 5680]⟩ : Shape).Idx → EReal) (R : Fin 16384) (n : ℕ) : EReal :=
  if h : n < 5680 then chan x g w R ⟨n, h⟩ else 0

/-- Column `n` turned by the angle of its pair at position `s`: the pair's two columns lie 32 apart in a head of 64. -/
def turn (u : ℕ → EReal) (s : Fin 4096) (n : ℕ) : EReal :=
  u n * Ideal.cos (angle s ⟨n % 32, Nat.mod_lt _ (by decide)⟩)
    + (if n % 64 < 32 then u (n + 32) * -Ideal.sin (angle s ⟨n % 32, Nat.mod_lt _ (by decide)⟩)
        else u (n - 32) * Ideal.sin (angle s ⟨n % 32, Nat.mod_lt _ (by decide)⟩))

/-- Row `s` of sequence `b`, the rows numbered through. -/
abbrev num (b : Fin 4) (s : Fin 4096) : Fin 16384 := ⟨4096 * b.val + s.val, by omega⟩

theorem row_num (x : (⟨3, ![4, 4096, 2048]⟩ : Shape).Idx → EReal) (b : Fin 4) (s : Fin 4096) :
    row x (num b s) = fun k => x (ix3 b s k) := by
  funext k
  unfold row
  have e1 : (⟨(num b s).val / 4096, by omega⟩ : Fin 4) = b := Fin.ext (show (4096 * b.val + s.val) / 4096 = b.val by omega)
  have e2 : (⟨(num b s).val % 4096, by omega⟩ : Fin 4096) = s := Fin.ext (show (4096 * b.val + s.val) % 4096 = s.val by omega)
  rw [e1, e2]
/-- The position of a row in its sequence. -/
abbrev posn (R : Fin 16384) : Fin 4096 := ⟨R.val % 4096, Nat.mod_lt _ (by decide)⟩
/-- The sequence of a row. -/
abbrev seqn (R : Fin 16384) : Fin 4 := ⟨R.val / 4096, by omega⟩
theorem num_split (R : Fin 16384) : num (seqn R) (posn R) = R := Fin.ext (show 4096 * (R.val / 4096) + R.val % 4096 = R.val by omega)

end Layer
end
-- ==== Proof.AttnIn.lean ====
/-
  What the blocks of the attention projection's call hold, in terms of the arguments: the tables of cosines and signed
  sines, the padded weights, and each window's block at a grid point, read at an index.
-/
module
public import proofs.«01_k».proof.Proof.AttnSpec
public import proofs.«01_k».proof.Proof.Gen.AttnIdeal.Frame
public import Idealize.ShloMosaic.Lib.StableHlo.ReadAt
@[expose] public section
set_option maxRecDepth 16384
noncomputable section
namespace Cert.AttnIdeal.In
open Cert.AttnIdeal Cert.AttnIdeal.Gen Idealize.ShloMosaic Idealize.ShloMosaic.TcCoe Idealize.SL.Sem Layer
variable (m : (ℓ : Loc nD τ sig) → Buf (Elt Ideal) ℓ)

/-- The rows as the region finds them: the argument's, numbered through. -/
theorem rows (c : Dev nD) (r : Fin 16384) (k : Fin 2048) :
    V m c main_v34 (ix2 r k) = row (m ((c : Thread nD τ).loc main_arg0)) r k := by
  unfold V row
  after_reads_at
/-- The table of cosines: two heads of 64 side by side, each its 32 angles twice. -/
theorem cosTable (c : Dev nD) (s : Fin 4096) (l : Fin 128) :
    V m c main_v21 (ix2 s l) = Ideal.cos (angle s ⟨l.val % 32, Nat.mod_lt _ (by decide)⟩) := by
  unfold V
  after_reads_at
  by_cases h : l.val % 64 < 32
  · refine (dif_pos h).trans ?_
    have e : (⟨l.val % 32, Nat.mod_lt _ (by decide)⟩ : Fin 32) = ⟨l.val % 64, h⟩ := Fin.ext (show l.val % 32 = l.val % 64 by omega)
    rw [e]
    unfold angle
    after_reads_at
  · refine (dif_neg h).trans ?_
    have e : (⟨l.val % 32, Nat.mod_lt _ (by decide)⟩ : Fin 32) = ⟨l.val % 64 - 32, by omega⟩ := Fin.ext (show l.val % 32 = l.val % 64 - 32 by omega)
    rw [e]
    unfold angle
    after_reads_at
/-- The table of sines, negative in the first half of a head. -/
theorem sinTable (c : Dev nD) (s : Fin 4096) (l : Fin 128) :
    V m c main_v26 (ix2 s l) = if l.val % 64 < 32 then -Ideal.sin (angle s ⟨l.val % 32, Nat.mod_lt _ (by decide)⟩)
      else Ideal.sin (angle s ⟨l.val % 32, Nat.mod_lt _ (by decide)⟩) := by
  unfold V
  after_reads_at
  by_cases h : l.val % 64 < 32
  · refine (dif_pos h).trans ?_
    have e : (⟨l.val % 32, Nat.mod_lt _ (by decide)⟩ : Fin 32) = ⟨l.val % 64, h⟩ := Fin.ext (show l.val % 32 = l.val % 64 by omega)
    rw [if_pos h, e]
    unfold angle
    after_reads_at
  · refine (dif_neg h).trans ?_
    have e : (⟨l.val % 32, Nat.mod_lt _ (by decide)⟩ : Fin 32) = ⟨l.val % 64 - 32, by omega⟩ := Fin.ext (show l.val % 32 = l.val % 64 - 32 by omega)
    rw [if_neg h, e]
    unfold angle
    after_reads_at
/-- The weights, with columns of zeros past the last. -/
theorem weights (c : Dev nD) (k : Fin 2048) (n : Fin 5760) :
    V m c main_v29 (ix2 k n) = if h : n.val < 5680 then m ((c : Thread nD τ).loc main_arg2) (ix3 0 k ⟨n.val, h⟩) else (0 : EReal) := by
  unfold V
  after_reads_at
  by_cases h : n.val < 5680
  · refine (dif_pos h).trans ?_
    rw [dif_pos h]
  · refine (dif_neg h).trans ?_
    rw [dif_neg h]
    simp [FloatOps.sitofp]
/-- The two blocks of value columns, laid down as rows. -/
theorem acrossLow (c : Dev nD) (j : Fin 256) (k : Fin 2048) :
    V m c main_v33 (ix2 (⟨j.val, by omega⟩ : Fin 512) k) = m ((c : Thread nD τ).loc main_arg2) (ix3 0 k ⟨4864 + j.val, by omega⟩) := by
  unfold V
  after_reads_at
  after_reads_at
  exact dif_pos (by omega)
theorem acrossHigh (c : Dev nD) (j : Fin 256) (k : Fin 2048) :
    V m c main_v33 (ix2 (⟨256 + j.val, by omega⟩ : Fin 512) k) = m ((c : Thread nD τ).loc main_arg2) (ix3 0 k ⟨5376 + j.val, by omega⟩) := by
  unfold V
  after_reads_at
  after_reads_at
  exact dif_pos (by omega)
/-- Where each window's block lies. -/
theorem places : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 3)
    ∧ (win0_3.index t (0 : Fin 2) = 0 ∧ win0_3.index t (1 : Fin 2) = 16)
    ∧ (win0_4.index t (0 : Fin 2) = 0 ∧ win0_4.index t (1 : Fin 2) = 17)
    ∧ (win0_5.index t (0 : Fin 2) = 0 ∧ win0_5.index t (1 : Fin 2) = 18)
    ∧ (win0_6.index t (0 : Fin 2) = 0 ∧ win0_6.index t (1 : Fin 2) = 20)
    ∧ (win0_7.index t (0 : Fin 2) = 0 ∧ win0_7.index t (1 : Fin 2) = 44)
    ∧ (win0_8.index t (0 : Fin 2) = 0 ∧ win0_8.index t (1 : Fin 2) = 0)
    ∧ (win0_9.index t (0 : Fin 2) = t.val % 8 ∧ win0_9.index t (1 : Fin 2) = 0)
    ∧ (win0_10.index t (0 : Fin 2) = t.val % 8 ∧ win0_10.index t (1 : Fin 2) = 0) :=
  (by decide +kernel : ∀ t : Fin grid0.N, _)

/-- A point's number is below 32. -/
theorem pointLt (t : Fin cfg0.N) : t.val < 32 := lt_of_lt_of_eq t.isLt (show cfg0.N = 32 from N_0)

theorem blk0 (c : Dev nD) (t : Fin cfg0.N) (r : Fin 512) (k : Fin 2048) :
    iblk m c 0 t (ix2 r k) = row (m ((c : Thread nD τ).loc main_arg0)) ⟨512 * t.val + r.val, by have := pointLt t; omega⟩ k := by
  obtain ⟨⟨e0, e1⟩, -⟩ := places t
  have ht := pointLt t
  refine Eq.trans ?_ (rows m c _ k)
  unfold iblk
  rw [View.read_apply]
  show V m c main_v34 _ = V m c main_v34 _
  refine congrArg _ (funext fun a => Fin.ext ?_)
  match a with
  | ⟨0, _⟩ => show win0_0.index t (0 : Fin 2) * 512 + 1 * r.val = 512 * t.val + r.val; rw [e0]; omega
  | ⟨1, _⟩ => show win0_0.index t (1 : Fin 2) * 2048 + 1 * k.val = k.val; rw [e1]; omega
theorem blk1 (c : Dev nD) (t : Fin cfg0.N) (k : Fin 2048) :
    iblk m c 1 t (ix2 0 k) = m ((c : Thread nD τ).loc main_arg1) (ix2 0 k) := by
  obtain ⟨-, ⟨e0, e1⟩, -⟩ := places t
  have ht := pointLt t
  rw [← V_main_arg1 m c]
  unfold iblk
  rw [View.read_apply]
  show V m c main_arg1 _ = V m c main_arg1 _
  refine congrArg _ (funext fun a => Fin.ext ?_)
  match a with
  | ⟨0, _⟩ => show win0_1.index t (0 : Fin 2) * 1 + 1 * 0 = 0; rw [e0]
  | ⟨1, _⟩ => show win0_1.index t (1 : Fin 2) * 2048 + 1 * k.val = k.val; rw [e1]; omega
theorem blk2 (c : Dev nD) (t : Fin cfg0.N) (k : Fin 2048) (n : Fin 1024) :
    X0_2 m c t (ix2 k n) = m ((c : Thread nD τ).loc main_arg2) (ix3 0 k ⟨3072 + n.val, by omega⟩) := by
  obtain ⟨-, -, ⟨e0, e1⟩, -⟩ := places t
  have ht := pointLt t
  refine Eq.trans ?_ ((weights m c k ⟨3072 + n.val, by omega⟩).trans (dif_pos (show 3072 + n.val < 5680 by omega)))
  unfold X0_2 Pipeline.Window.fill
  rw [dif_pos (moved0_2 t _)]
  unfold iblk
  rw [View.read_apply]
  show V m c main_v29 _ = V m c main_v29 _
  refine congrArg _ (funext fun a => Fin.ext ?_)
  match a with
  | ⟨0, _⟩ => show win0_2.index t (0 : Fin 2) * 2048 + 1 * k.val = k.val; rw [e0]; omega
  | ⟨1, _⟩ => show win0_2.index t (1 : Fin 2) * 1024 + 1 * n.val = 3072 + n.val; rw [e1]; omega
theorem blk3 (c : Dev nD) (t : Fin cfg0.N) (k : Fin 2048) (n : Fin 256) :
    X0_3 m c t (ix2 k n) = m ((c : Thread nD τ).loc main_arg2) (ix3 0 k ⟨4096 + n.val, by omega⟩) := by
  obtain ⟨-, -, -, ⟨e0, e1⟩, -⟩ := places t
  have ht := pointLt t
  refine Eq.trans ?_ ((weights m c k ⟨4096 + n.val, by omega⟩).trans (dif_pos (show 4096 + n.val < 5680 by omega)))
  unfold X0_3 Pipeline.Window.fill
  rw [dif_pos (moved0_3 t _)]
  unfold iblk
  rw [View.read_apply]
  show V m c main_v29 _ = V m c main_v29 _
  refine congrArg _ (funext fun a => Fin.ext ?_)
  match a with
  | ⟨0, _⟩ => show win0_3.index t (0 : Fin 2) * 2048 + 1 * k.val = k.val; rw [e0]; omega
  | ⟨1, _⟩ => show win0_3.index t (1 : Fin 2) * 256 + 1 * n.val = 4096 + n.val; rw [e1]; omega
theorem blk4 (c : Dev nD) (t : Fin cfg0.N) (k : Fin 2048) (n : Fin 256) :
    X0_4 m c t (ix2 k n) = m ((c : Thread nD τ).loc main_arg2) (ix3 0 k ⟨4352 + n.val, by omega⟩) := by
  obtain ⟨-, -, -, -, ⟨e0, e1⟩, -⟩ := places t
  have ht := pointLt t
  refine Eq.trans ?_ ((weights m c k ⟨4352 + n.val, by omega⟩).trans (dif_pos (show 4352 + n.val < 5680 by omega)))
  unfold X0_4 Pipeline.Window.fill
  rw [dif_pos (moved0_4 t _)]
  unfold iblk
  rw [View.read_apply]
  show V m c main_v29 _ = V m c main_v29 _
  refine congrArg _ (funext fun a => Fin.ext ?_)
  match a with
  | ⟨0, _⟩ => show win0_4.index t (0 : Fin 2) * 2048 + 1 * k.val = k.val; rw [e0]; omega
  | ⟨1, _⟩ => show win0_4.index t (1 : Fin 2) * 256 + 1 * n.val = 4352 + n.val; rw [e1]; omega
theorem blk5 (c : Dev nD) (t : Fin cfg0.N) (k : Fin 2048) (n : Fin 256) :
    X0_5 m c t (ix2 k n) = m ((c : Thread nD τ).loc main_arg2) (ix3 0 k ⟨4608 + n.val, by omega⟩) := by
  obtain ⟨-, -, -, -, -, ⟨e0, e1⟩, -⟩ := places t
  have ht := pointLt t
  refine Eq.trans ?_ ((weights m c k ⟨4608 + n.val, by omega⟩).trans (dif_pos (show 4608 + n.val < 5680 by omega)))
  unfold X0_5 Pipeline.Window.fill
  rw [dif_pos (moved0_5 t _)]
  unfold iblk
  rw [View.read_apply]
  show V m c main_v29 _ = V m c main_v29 _
  refine congrArg _ (funext fun a => Fin.ext ?_)
  match a with
  | ⟨0, _⟩ => show win0_5.index t (0 : Fin 2) * 2048 + 1 * k.val = k.val; rw [e0]; omega
  | ⟨1, _⟩ => show win0_5.index t (1 : Fin 2) * 256 + 1 * n.val = 4608 + n.val; rw [e1]; omega
theorem blk6 (c : Dev nD) (t : Fin cfg0.N) (k : Fin 2048) (n : Fin 256) :
    X0_6 m c t (ix2 k n) = m ((c : Thread nD τ).loc main_arg2) (ix3 0 k ⟨5120 + n.val, by omega⟩) := by
  obtain ⟨-, -, -, -, -, -, ⟨e0, e1⟩, -⟩ := places t
  have ht := pointLt t
  refine Eq.trans ?_ ((weights m c k ⟨5120 + n.val, by omega⟩).trans (dif_pos (show 5120 + n.val < 5680 by omega)))
  unfold X0_6 Pipeline.Window.fill
  rw [dif_pos (moved0_6 t _)]
  unfold iblk
  rw [View.read_apply]
  show V m c main_v29 _ = V m c main_v29 _
  refine congrArg _ (funext fun a => Fin.ext ?_)
  match a with
  | ⟨0, _⟩ => show win0_6.index t (0 : Fin 2) * 2048 + 1 * k.val = k.val; rw [e0]; omega
  | ⟨1, _⟩ => show win0_6.index t (1 : Fin 2) * 256 + 1 * n.val = 5120 + n.val; rw [e1]; omega
theorem blk7 (c : Dev nD) (t : Fin cfg0.N) (k : Fin 2048) (n : Fin 128) :
    iblk m c 7 t (ix2 k n) = if h : 5632 + n.val < 5680 then m ((c : Thread nD τ).loc main_arg2) (ix3 0 k ⟨5632 + n.val, h⟩) else (0 : EReal) := by
  obtain ⟨-, -, -, -, -, -, -, ⟨e0, e1⟩, -⟩ := places t
  have ht := pointLt t
  refine Eq.trans ?_ (weights m c k ⟨5632 + n.val, by omega⟩)
  unfold iblk
  rw [View.read_apply]
  show V m c main_v29 _ = V m c main_v29 _
  refine congrArg _ (funext fun a => Fin.ext ?_)
  match a with
  | ⟨0, _⟩ => show win0_7.index t (0 : Fin 2) * 2048 + 1 * k.val = k.val; rw [e0]; omega
  | ⟨1, _⟩ => show win0_7.index t (1 : Fin 2) * 128 + 1 * n.val = 5632 + n.val; rw [e1]; omega
theorem blk8 (c : Dev nD) (t : Fin cfg0.N) (j : Fin 512) (k : Fin 2048) :
    iblk m c 8 t (ix2 j k) = V m c main_v33 (ix2 j k) := by
  obtain ⟨-, -, -, -, -, -, -, -, ⟨e0, e1⟩, -⟩ := places t
  have ht := pointLt t
  skip
  unfold iblk
  rw [View.read_apply]
  show V m c main_v33 _ = V m c main_v33 _
  refine congrArg _ (funext fun a => Fin.ext ?_)
  match a with
  | ⟨0, _⟩ => show win0_8.index t (0 : Fin 2) * 512 + 1 * j.val = j.val; rw [e0]; omega
  | ⟨1, _⟩ => show win0_8.index t (1 : Fin 2) * 2048 + 1 * k.val = k.val; rw [e1]; omega
theorem blk9 (c : Dev nD) (t : Fin cfg0.N) (r : Fin 512) (l : Fin 128) :
    iblk m c 9 t (ix2 r l) = Ideal.cos (angle ⟨512 * (t.val % 8) + r.val, by omega⟩ ⟨l.val % 32, Nat.mod_lt _ (by decide)⟩) := by
  obtain ⟨-, -, -, -, -, -, -, -, -, ⟨e0, e1⟩, -⟩ := places t
  have ht := pointLt t
  refine Eq.trans ?_ (cosTable m c ⟨512 * (t.val % 8) + r.val, by omega⟩ l)
  unfold iblk
  rw [View.read_apply]
  show V m c main_v21 _ = V m c main_v21 _
  refine congrArg _ (funext fun a => Fin.ext ?_)
  match a with
  | ⟨0, _⟩ => show win0_9.index t (0 : Fin 2) * 512 + 1 * r.val = 512 * (t.val % 8) + r.val; rw [e0]; omega
  | ⟨1, _⟩ => show win0_9.index t (1 : Fin 2) * 128 + 1 * l.val = l.val; rw [e1]; omega
theorem blk10 (c : Dev nD) (t : Fin cfg0.N) (r : Fin 512) (l : Fin 128) :
    iblk m c 10 t (ix2 r l) = if l.val % 64 < 32 then -Ideal.sin (angle ⟨512 * (t.val % 8) + r.val, by omega⟩ ⟨l.val % 32, Nat.mod_lt _ (by decide)⟩)
      else Ideal.sin (angle ⟨512 * (t.val % 8) + r.val, by omega⟩ ⟨l.val % 32, Nat.mod_lt _ (by decide)⟩) := by
  obtain ⟨-, -, -, -, -, -, -, -, -, -, ⟨e0, e1⟩⟩ := places t
  have ht := pointLt t
  refine Eq.trans ?_ (sinTable m c ⟨512 * (t.val % 8) + r.val, by omega⟩ l)
  unfold iblk
  rw [View.read_apply]
  show V m c main_v26 _ = V m c main_v26 _
  refine congrArg _ (funext fun a => Fin.ext ?_)
  match a with
  | ⟨0, _⟩ => show win0_10.index t (0 : Fin 2) * 512 + 1 * r.val = 512 * (t.val % 8) + r.val; rw [e0]; omega
  | ⟨1, _⟩ => show win0_10.index t (1 : Fin 2) * 128 + 1 * l.val = l.val; rw [e1]; omega
end Cert.AttnIdeal.In
end
-- ==== Proof.AttnKernel.lean ====
/-
  What the attention projection's call leaves in its eight results, read at an index: the block that holds the index is
  the one its grid point wrote, and the arguments' rows and columns stand behind the block's.
-/
module
public import proofs.«01_k».proof.Proof.AttnBlock
public import proofs.«01_k».proof.Proof.AttnIn
public import proofs.«01_k».proof.Proof.Gen.AttnIdeal.Value
@[expose] public section
set_option maxRecDepth 16384
noncomputable section
namespace Cert.AttnIdeal.Kernel
open Cert.AttnIdeal Cert.AttnIdeal.Gen Idealize.ShloMosaic Idealize.ShloMosaic.TcCoe Idealize.SL.Sem Layer
open Cert.AttnIdeal.In Cert.AttnIdeal.Block

/-- A block's columns turned with the tables' lanes are the layer's columns turned, wherever a block of whole heads starts. -/
theorem spin_turn (u v : ℕ → EReal) (c s : Fin 128 → EReal) (S : Fin 4096) (o W n : ℕ) (ho : o % 128 = 0) (hW : W % 64 = 0) (hn : n < W)
    (hu : ∀ n, n < W → u n = v (o + n)) (hc : ∀ l : Fin 128, c l = Ideal.cos (angle S ⟨l.val % 32, Nat.mod_lt _ (by decide)⟩))
    (hs : ∀ l : Fin 128, s l = if l.val % 64 < 32 then -Ideal.sin (angle S ⟨l.val % 32, Nat.mod_lt _ (by decide)⟩)
      else Ideal.sin (angle S ⟨l.val % 32, Nat.mod_lt _ (by decide)⟩)) :
    spin u c s n = turn v S (o + n) := by
  unfold spin turn
  have e : (⟨(n % 128) % 32, Nat.mod_lt _ (by decide)⟩ : Fin 32) = ⟨(o + n) % 32, Nat.mod_lt _ (by decide)⟩ := Fin.ext (show (n % 128) % 32 = (o + n) % 32 by omega)
  rw [hc, hs, hu n hn]
  dsimp only
  rw [e]
  by_cases h : n % 64 < 32
  · rw [if_pos h, if_pos (show n % 128 % 64 < 32 by omega), if_pos (show (o + n) % 64 < 32 by omega), hu (n + 32) (by omega)]
    rw [show o + (n + 32) = o + n + 32 by omega]
  · rw [if_neg h, if_neg (show ¬ n % 128 % 64 < 32 by omega), if_neg (show ¬ (o + n) % 64 < 32 by omega), hu (n - 32) (by omega)]
    rw [show o + (n - 32) = o + n - 32 by omega]

variable (m : (ℓ : Loc nD τ sig) → Buf (Elt Ideal) ℓ)

/-- The products of row `R`. -/
abbrev U (c : Dev nD) (R : Fin 16384) : ℕ → EReal :=
  prod (m ((c : Thread nD τ).loc main_arg0)) (fun k => m ((c : Thread nD τ).loc main_arg1) (ix2 0 k)) (m ((c : Thread nD τ).loc main_arg2)) R
/-- Row `r` of the block at point `t`, numbered through, and its position. -/
abbrev at_ (t : Fin cfg0.N) (r : Fin 512) : Fin 16384 := ⟨512 * t.val + r.val, by have := pointLt t; omega⟩
abbrev pos_ (t : Fin cfg0.N) (r : Fin 512) : Fin 4096 := ⟨512 * (t.val % 8) + r.val, by omega⟩

theorem hid_at (c : Dev nD) (t : Fin cfg0.N) (r : Fin 512) :
    hid (iblk m c 0 t) (iblk m c 1 t) r
      = rmsn (row (m ((c : Thread nD τ).loc main_arg0)) (at_ t r)) (fun k => m ((c : Thread nD τ).loc main_arg1) (ix2 0 k)) := by
  unfold hid
  simp only [blk0, blk1]

theorem line2 (c : Dev nD) (t : Fin cfg0.N) (r : Fin 512) (n : ℕ) (h : n < 1024) :
    line (iblk m c 0 t) (iblk m c 1 t) (W := 1024) (X0_2 m c t) r n = U m c (at_ t r) (3072 + n) := by
  unfold line U prod
  rw [dif_pos h, dif_pos (by omega), hid_at]
  unfold chan
  exact congrArg (dot _) (funext fun k => blk2 m c t k ⟨n, h⟩)
theorem turned2 (c : Dev nD) (t : Fin cfg0.N) (r : Fin 512) (n : ℕ) (h : n < 1024) :
    turned (iblk m c 0 t) (iblk m c 1 t) (iblk m c 9 t) (iblk m c 10 t) (W := 1024) (X0_2 m c t) r n = turn (U m c (at_ t r)) (pos_ t r) (3072 + n) :=
  spin_turn _ _ _ _ (pos_ t r) 3072 1024 n rfl rfl h (fun n h => line2 m c t r n h) (fun l => blk9 m c t r l) (fun l => blk10 m c t r l)
theorem line3 (c : Dev nD) (t : Fin cfg0.N) (r : Fin 512) (n : ℕ) (h : n < 256) :
    line (iblk m c 0 t) (iblk m c 1 t) (W := 256) (X0_3 m c t) r n = U m c (at_ t r) (4096 + n) := by
  unfold line U prod
  rw [dif_pos h, dif_pos (by omega), hid_at]
  unfold chan
  exact congrArg (dot _) (funext fun k => blk3 m c t k ⟨n, h⟩)
theorem turned3 (c : Dev nD) (t : Fin cfg0.N) (r : Fin 512) (n : ℕ) (h : n < 256) :
    turned (iblk m c 0 t) (iblk m c 1 t) (iblk m c 9 t) (iblk m c 10 t) (W := 256) (X0_3 m c t) r n = turn (U m c (at_ t r)) (pos_ t r) (4096 + n) :=
  spin_turn _ _ _ _ (pos_ t r) 4096 256 n rfl rfl h (fun n h => line3 m c t r n h) (fun l => blk9 m c t r l) (fun l => blk10 m c t r l)
theorem line4 (c : Dev nD) (t : Fin cfg0.N) (r : Fin 512) (n : ℕ) (h : n < 256) :
    line (iblk m c 0 t) (iblk m c 1 t) (W := 256) (X0_4 m c t) r n = U m c (at_ t r) (4352 + n) := by
  unfold line U prod
  rw [dif_pos h, dif_pos (by omega), hid_at]
  unfold chan
  exact congrArg (dot _) (funext fun k => blk4 m c t k ⟨n, h⟩)
theorem line5 (c : Dev nD) (t : Fin cfg0.N) (r : Fin 512) (n : ℕ) (h : n < 256) :
    line (iblk m c 0 t) (iblk m c 1 t) (W := 256) (X0_5 m c t) r n = U m c (at_ t r) (4608 + n) := by
  unfold line U prod
  rw [dif_pos h, dif_pos (by omega), hid_at]
  unfold chan
  exact congrArg (dot _) (funext fun k => blk5 m c t k ⟨n, h⟩)
theorem turned5 (c : Dev nD) (t : Fin cfg0.N) (r : Fin 512) (n : ℕ) (h : n < 256) :
    turned (iblk m c 0 t) (iblk m c 1 t) (iblk m c 9 t) (iblk m c 10 t) (W := 256) (X0_5 m c t) r n = turn (U m c (at_ t r)) (pos_ t r) (4608 + n) :=
  spin_turn _ _ _ _ (pos_ t r) 4608 256 n rfl rfl h (fun n h => line5 m c t r n h) (fun l => blk9 m c t r l) (fun l => blk10 m c t r l)
theorem line6 (c : Dev nD) (t : Fin cfg0.N) (r : Fin 512) (n : ℕ) (h : n < 256) :
    line (iblk m c 0 t) (iblk m c 1 t) (W := 256) (X0_6 m c t) r n = U m c (at_ t r) (5120 + n) := by
  unfold line U prod
  rw [dif_pos h, dif_pos (by omega), hid_at]
  unfold chan
  exact congrArg (dot _) (funext fun k => blk6 m c t k ⟨n, h⟩)
theorem turned6 (c : Dev nD) (t : Fin cfg0.N) (r : Fin 512) (n : ℕ) (h : n < 256) :
    turned (iblk m c 0 t) (iblk m c 1 t) (iblk m c 9 t) (iblk m c 10 t) (W := 256) (X0_6 m c t) r n = turn (U m c (at_ t r)) (pos_ t r) (5120 + n) :=
  spin_turn _ _ _ _ (pos_ t r) 5120 256 n rfl rfl h (fun n h => line6 m c t r n h) (fun l => blk9 m c t r l) (fun l => blk10 m c t r l)
theorem lows (c : Dev nD) (t : Fin cfg0.N) (r : Fin 512) (j : Fin 256) (J : Fin 512) (hJ : J.val = 0 + j.val) :
    dot (hid (iblk m c 0 t) (iblk m c 1 t) r) (fun k => iblk m c 8 t (ix2 J k)) = U m c (at_ t r) (4864 + j.val) := by
  rw [show J = ⟨j.val, by omega⟩ from Fin.ext (hJ.trans (show 0 + j.val = j.val by omega))]
  unfold U prod
  rw [dif_pos (by omega), hid_at]
  unfold chan
  exact congrArg (dot _) (funext fun k => (blk8 m c t _ k).trans (acrossLow m c j k))
theorem highs (c : Dev nD) (t : Fin cfg0.N) (r : Fin 512) (j : Fin 256) (J : Fin 512) (hJ : J.val = 256 + j.val) :
    dot (hid (iblk m c 0 t) (iblk m c 1 t) r) (fun k => iblk m c 8 t (ix2 J k)) = U m c (at_ t r) (5376 + j.val) := by
  rw [show J = ⟨256 + j.val, by omega⟩ from Fin.ext (hJ.trans (show 256 + j.val = 256 + j.val by omega))]
  unfold U prod
  rw [dif_pos (by omega), hid_at]
  unfold chan
  exact congrArg (dot _) (funext fun k => (blk8 m c t _ k).trans (acrossHigh m c j k))
theorem gates (c : Dev nD) (t : Fin cfg0.N) (r : Fin 512) (j : Fin 128) :
    dot (hid (iblk m c 0 t) (iblk m c 1 t) r) (fun k => iblk m c 7 t (ix2 k j)) = U m c (at_ t r) (5632 + j.val) := by
  unfold U prod
  rw [hid_at]
  have e : ∀ k : Fin 2048, _ = _ := fun k => blk7 m c t k j
  simp only [e]
  by_cases h : 5632 + j.val < 5680
  · rw [dif_pos h]
    unfold chan
    exact congrArg (dot _) (funext fun k => dif_pos h)
  · rw [dif_neg h]
    unfold dot
    refine Finset.sum_eq_zero fun k _ => ?_
    dsimp only
    rw [dif_neg h, mul_zero]

/-- Where each result's block lies. -/
theorem lands : ∀ t : Fin cfg0.N,
    (win0_11.index t (0 : Fin 3) = t.val / 8 ∧ win0_11.index t (1 : Fin 3) = 0 ∧ win0_11.index t (2 : Fin 3) = t.val % 8)
    ∧ (win0_12.index t (0 : Fin 2) = t.val ∧ win0_12.index t (1 : Fin 2) = 0)
    ∧ (win0_13.index t (0 : Fin 2) = t.val ∧ win0_13.index t (1 : Fin 2) = 0)
    ∧ (win0_14.index t (0 : Fin 2) = t.val ∧ win0_14.index t (1 : Fin 2) = 0)
    ∧ (win0_15.index t (0 : Fin 2) = t.val ∧ win0_15.index t (1 : Fin 2) = 0) :=
  (by decide +kernel : ∀ t : Fin grid0.N, _)
theorem lands_ : ∀ t : Fin cfg0.N,
    (win0_16.index t (0 : Fin 4) = t.val / 8 ∧ win0_16.index t (1 : Fin 4) = t.val % 8 ∧ win0_16.index t (2 : Fin 4) = 0 ∧ win0_16.index t (3 : Fin 4) = 0)
    ∧ (win0_17.index t (0 : Fin 4) = t.val / 8 ∧ win0_17.index t (1 : Fin 4) = t.val % 8 ∧ win0_17.index t (2 : Fin 4) = 0 ∧ win0_17.index t (3 : Fin 4) = 0)
    ∧ (win0_18.index t (0 : Fin 3) = t.val / 8 ∧ win0_18.index t (1 : Fin 3) = 0 ∧ win0_18.index t (2 : Fin 3) = t.val % 8) :=
  (by decide +kernel : ∀ t : Fin grid0.N, _)

/-- The grid point of row `R`, and of a position in a sequence. -/
abbrev ptR (R : Fin 16384) : Fin cfg0.N := ⟨R.val / 512, by rw [show cfg0.N = 32 from N_0]; omega⟩
abbrev ptS (b : Fin 4) (s : Fin 4096) : Fin cfg0.N := ⟨8 * b.val + s.val / 512, by rw [show cfg0.N = 32 from N_0]; omega⟩
abbrev inR (R : Fin 16384) : Fin 512 := ⟨R.val % 512, Nat.mod_lt _ (by decide)⟩
abbrev inS (s : Fin 4096) : Fin 512 := ⟨s.val % 512, Nat.mod_lt _ (by decide)⟩
theorem atR (R : Fin 16384) : at_ (ptR R) (inR R) = R := Fin.ext (show 512 * (R.val / 512) + R.val % 512 = R.val by omega)
theorem posR (R : Fin 16384) : pos_ (ptR R) (inR R) = posn R := Fin.ext (show 512 * (R.val / 512 % 8) + R.val % 512 = R.val % 4096 by omega)
theorem atS (b : Fin 4) (s : Fin 4096) : at_ (ptS b s) (inS s) = num b s :=
  Fin.ext (show 512 * (8 * b.val + s.val / 512) + s.val % 512 = 4096 * b.val + s.val by omega)
theorem posS (b : Fin 4) (s : Fin 4096) : pos_ (ptS b s) (inS s) = s :=
  Fin.ext (show 512 * ((8 * b.val + s.val / 512) % 8) + s.val % 512 = s.val by omega)

theorem kc (c : Dev nD) (R : Fin 16384) (q : Fin 256) :
    (dats m 0 c).arrAt 12 cfg0.N (ix2 R q) = turn (U m c R) (posn R) (4096 + q.val) := by
  obtain ⟨-, ⟨e0, e1⟩, -⟩ := lands (ptR R)
  have h := congrFun (Value.blocks12 m c (ptR R) (flush0_12 _)) (ix2 (inR R) q)
  rw [View.read_apply, Value.flushed12_A] at h
  refine Eq.trans (congrArg _ (funext fun a => Fin.ext ?_)) (h.trans ?_)
  · match a with
    | ⟨0, _⟩ => show R.val = win0_12.index (ptR R) (0 : Fin 2) * 512 + 1 * (R.val % 512); rw [e0]; dsimp only; omega
    | ⟨1, _⟩ => show q.val = win0_12.index (ptR R) (1 : Fin 2) * 256 + 1 * q.val; rw [e1]; omega
  · refine (left12 _ _ _ _ _ _ _ _ _ _ _ _ _ _ _ _ _ _ _ _ _ _ _ _ _ _ _ _ _ _ _ _ _ _ _ _ _ _ _ _ _ _ _ _ _ _ _ _ _ _ _ (inR R) q).trans ?_
    refine (turned3 m c (ptR R) (inR R) q.val q.isLt).trans ?_
    rw [atR, posR]
theorem ks (c : Dev nD) (R : Fin 16384) (q : Fin 256) :
    (dats m 0 c).arrAt 14 cfg0.N (ix2 R q) = turn (U m c R) (posn R) (4608 + q.val) := by
  obtain ⟨-, -, -, ⟨e0, e1⟩, -⟩ := lands (ptR R)
  have h := congrFun (Value.blocks14 m c (ptR R) (flush0_14 _)) (ix2 (inR R) q)
  rw [View.read_apply, Value.flushed14_A] at h
  refine Eq.trans (congrArg _ (funext fun a => Fin.ext ?_)) (h.trans ?_)
  · match a with
    | ⟨0, _⟩ => show R.val = win0_14.index (ptR R) (0 : Fin 2) * 512 + 1 * (R.val % 512); rw [e0]; dsimp only; omega
    | ⟨1, _⟩ => show q.val = win0_14.index (ptR R) (1 : Fin 2) * 256 + 1 * q.val; rw [e1]; omega
  · refine (left14 _ _ _ _ _ _ _ _ _ _ _ _ _ _ _ _ _ _ _ _ _ _ _ _ _ _ _ _ _ _ _ _ _ _ _ _ _ _ _ _ _ _ _ _ _ _ _ _ _ _ _ (inR R) q).trans ?_
    refine (turned5 m c (ptR R) (inR R) q.val q.isLt).trans ?_
    rw [atR, posR]
theorem kw (c : Dev nD) (R : Fin 16384) (q : Fin 256) :
    (dats m 0 c).arrAt 15 cfg0.N (ix2 R q) = turn (U m c R) (posn R) (5120 + q.val) := by
  obtain ⟨-, -, -, -, ⟨e0, e1⟩⟩ := lands (ptR R)
  have h := congrFun (Value.blocks15 m c (ptR R) (flush0_15 _)) (ix2 (inR R) q)
  rw [View.read_apply, Value.flushed15_A] at h
  refine Eq.trans (congrArg _ (funext fun a => Fin.ext ?_)) (h.trans ?_)
  · match a with
    | ⟨0, _⟩ => show R.val = win0_15.index (ptR R) (0 : Fin 2) * 512 + 1 * (R.val % 512); rw [e0]; dsimp only; omega
    | ⟨1, _⟩ => show q.val = win0_15.index (ptR R) (1 : Fin 2) * 256 + 1 * q.val; rw [e1]; omega
  · refine (left15 _ _ _ _ _ _ _ _ _ _ _ _ _ _ _ _ _ _ _ _ _ _ _ _ _ _ _ _ _ _ _ _ _ _ _ _ _ _ _ _ _ _ _ _ _ _ _ _ _ _ _ (inR R) q).trans ?_
    refine (turned6 m c (ptR R) (inR R) q.val q.isLt).trans ?_
    rw [atR, posR]
theorem vc (c : Dev nD) (R : Fin 16384) (q : Fin 256) :
    (dats m 0 c).arrAt 13 cfg0.N (ix2 R q) = U m c R (4352 + q.val) := by
  obtain ⟨-, -, ⟨e0, e1⟩, -⟩ := lands (ptR R)
  have h := congrFun (Value.blocks13 m c (ptR R) (flush0_13 _)) (ix2 (inR R) q)
  rw [View.read_apply, Value.flushed13_A] at h
  refine Eq.trans (congrArg _ (funext fun a => Fin.ext ?_)) (h.trans ?_)
  · match a with
    | ⟨0, _⟩ => show R.val = win0_13.index (ptR R) (0 : Fin 2) * 512 + 1 * (R.val % 512); rw [e0]; dsimp only; omega
    | ⟨1, _⟩ => show q.val = win0_13.index (ptR R) (1 : Fin 2) * 256 + 1 * q.val; rw [e1]; omega
  · refine (left13 _ _ _ _ _ _ _ _ _ _ _ _ _ _ _ _ _ _ _ _ _ _ _ _ _ _ _ _ _ _ _ _ _ _ _ _ _ _ _ _ _ _ _ _ _ _ _ _ _ _ _ (inR R) q).trans ?_
    refine (line4 m c (ptR R) (inR R) q.val q.isLt).trans ?_
    rw [atR]
theorem queries (c : Dev nD) (b : Fin 4) (q : Fin 1024) (s : Fin 4096) :
    (dats m 0 c).arrAt 11 cfg0.N (ix3 b q s) = turn (U m c (num b s)) s (3072 + q.val) * Ideal.ofBits FTy.f32 0x3E38AA3B#32 := by
  obtain ⟨⟨e0, e1, e2⟩, -⟩ := lands (ptS b s)
  have h := congrFun (Value.blocks11 m c (ptS b s) (flush0_11 _)) (ix3 0 q (inS s))
  rw [View.read_apply, Value.flushed11_A] at h
  refine Eq.trans (congrArg _ (funext fun a => Fin.ext ?_)) (h.trans ?_)
  · match a with
    | ⟨0, _⟩ => show b.val = win0_11.index (ptS b s) (0 : Fin 3) * 1 + 1 * 0; rw [e0]; dsimp only; omega
    | ⟨1, _⟩ => show q.val = win0_11.index (ptS b s) (1 : Fin 3) * 1024 + 1 * q.val; rw [e1]; omega
    | ⟨2, _⟩ => show s.val = win0_11.index (ptS b s) (2 : Fin 3) * 512 + 1 * (s.val % 512); rw [e2]; dsimp only; omega
  · refine (left11 _ _ _ _ _ _ _ _ _ _ _ _ _ _ _ _ _ _ _ _ _ _ _ _ _ _ _ _ _ _ _ _ _ _ _ _ _ _ _ _ _ _ _ _ _ _ _ _ _ _ _ q (inS s)).trans ?_
    refine (congrArg (· * Ideal.ofBits FTy.f32 0x3E38AA3B#32) (turned2 m c (ptS b s) (inS s) q.val q.isLt)).trans ?_
    rw [atS, posS]
theorem vs (c : Dev nD) (b : Fin 4) (n : Fin 32) (j : Fin 256) (l : Fin 128) :
    (dats m 0 c).arrAt 16 cfg0.N (ix4 b n j l) = U m c (num b ⟨n.val * 128 + l.val, by omega⟩) (4864 + j.val) := by
  obtain ⟨⟨e0, e1, e2, e3⟩, -⟩ := lands_ (⟨8 * b.val + n.val / 4, by rw [show cfg0.N = 32 from N_0]; omega⟩)
  have h := congrFun (Value.blocks16 m c (⟨8 * b.val + n.val / 4, by rw [show cfg0.N = 32 from N_0]; omega⟩) (flush0_16 _)) (ix4 0 ⟨n.val % 4, Nat.mod_lt _ (by decide)⟩ j l)
  rw [View.read_apply, Value.flushed16_A] at h
  refine Eq.trans (congrArg _ (funext fun a => Fin.ext ?_)) (h.trans ?_)
  · match a with
    | ⟨0, _⟩ => show b.val = win0_16.index _ (0 : Fin 4) * 1 + 1 * 0; rw [e0]; dsimp only; omega
    | ⟨1, _⟩ => show n.val = win0_16.index _ (1 : Fin 4) * 4 + 1 * (n.val % 4); rw [e1]; dsimp only; omega
    | ⟨2, _⟩ => show j.val = win0_16.index _ (2 : Fin 4) * 256 + 1 * j.val; rw [e2]; omega
    | ⟨3, _⟩ => show l.val = win0_16.index _ (3 : Fin 4) * 128 + 1 * l.val; rw [e3]; omega
  · refine (left16 _ _ _ _ _ _ _ _ _ _ _ _ _ _ _ _ _ _ _ _ _ _ _ _ _ _ _ _ _ _ _ _ _ _ _ _ _ _ _ _ _ _ _ _ _ _ _ _ _ _ _ _ j l).trans ?_
    refine (lows m c _ (rowOf ⟨n.val % 4, Nat.mod_lt _ (by decide)⟩ l) j _ rfl).trans ?_
    refine congrArg (fun R => U m c R (4864 + j.val)) (Fin.ext ?_)
    show 512 * (8 * b.val + n.val / 4) + (128 * (n.val % 4) + l.val) = 4096 * b.val + (n.val * 128 + l.val)
    omega
theorem vw (c : Dev nD) (b : Fin 4) (n : Fin 32) (j : Fin 256) (l : Fin 128) :
    (dats m 0 c).arrAt 17 cfg0.N (ix4 b n j l) = U m c (num b ⟨n.val * 128 + l.val, by omega⟩) (5376 + j.val) := by
  obtain ⟨-, ⟨e0, e1, e2, e3⟩, -⟩ := lands_ (⟨8 * b.val + n.val / 4, by rw [show cfg0.N = 32 from N_0]; omega⟩)
  have h := congrFun (Value.blocks17 m c (⟨8 * b.val + n.val / 4, by rw [show cfg0.N = 32 from N_0]; omega⟩) (flush0_17 _)) (ix4 0 ⟨n.val % 4, Nat.mod_lt _ (by decide)⟩ j l)
  rw [View.read_apply, Value.flushed17_A] at h
  refine Eq.trans (congrArg _ (funext fun a => Fin.ext ?_)) (h.trans ?_)
  · match a with
    | ⟨0, _⟩ => show b.val = win0_17.index _ (0 : Fin 4) * 1 + 1 * 0; rw [e0]; dsimp only; omega
    | ⟨1, _⟩ => show n.val = win0_17.index _ (1 : Fin 4) * 4 + 1 * (n.val % 4); rw [e1]; dsimp only; omega
    | ⟨2, _⟩ => show j.val = win0_17.index _ (2 : Fin 4) * 256 + 1 * j.val; rw [e2]; omega
    | ⟨3, _⟩ => show l.val = win0_17.index _ (3 : Fin 4) * 128 + 1 * l.val; rw [e3]; omega
  · refine (left17 _ _ _ _ _ _ _ _ _ _ _ _ _ _ _ _ _ _ _ _ _ _ _ _ _ _ _ _ _ _ _ _ _ _ _ _ _ _ _ _ _ _ _ _ _ _ _ _ _ _ _ _ j l).trans ?_
    refine (highs m c _ (rowOf ⟨n.val % 4, Nat.mod_lt _ (by decide)⟩ l) j _ rfl).trans ?_
    refine congrArg (fun R => U m c R (5376 + j.val)) (Fin.ext ?_)
    show 512 * (8 * b.val + n.val / 4) + (128 * (n.val % 4) + l.val) = 4096 * b.val + (n.val * 128 + l.val)
    omega
theorem gate (c : Dev nD) (b : Fin 4) (q : Fin 128) (s : Fin 4096) :
    (dats m 0 c).arrAt 18 cfg0.N (ix3 b q s) = Ideal.logistic (U m c (num b s) (5632 + q.val)) := by
  obtain ⟨-, -, ⟨e0, e1, e2⟩⟩ := lands_ (ptS b s)
  have h := congrFun (Value.blocks18 m c (ptS b s) (flush0_18 _)) (ix3 0 q (inS s))
  rw [View.read_apply, Value.flushed18_A] at h
  refine Eq.trans (congrArg _ (funext fun a => Fin.ext ?_)) (h.trans ?_)
  · match a with
    | ⟨0, _⟩ => show b.val = win0_18.index (ptS b s) (0 : Fin 3) * 1 + 1 * 0; rw [e0]; dsimp only; omega
    | ⟨1, _⟩ => show q.val = win0_18.index (ptS b s) (1 : Fin 3) * 128 + 1 * q.val; rw [e1]; omega
    | ⟨2, _⟩ => show s.val = win0_18.index (ptS b s) (2 : Fin 3) * 512 + 1 * (s.val % 512); rw [e2]; dsimp only; omega
  · refine (left18 _ _ _ _ _ _ _ _ _ _ _ _ _ _ _ _ _ _ _ _ _ _ _ _ _ _ _ _ _ _ _ _ _ _ _ _ _ _ _ _ _ _ _ _ _ _ _ _ _ _ _ q (inS s)).trans ?_
    refine (congrArg Ideal.logistic (gates m c (ptS b s) (inS s) q)).trans ?_
    rw [atS]
end Cert.AttnIdeal.Kernel
end
-- ==== Proof.AttnRefBase.lean ====
/-
  The attention's part of the projection as the problem writes it, read at an index of each of its eight results.
-/
module
public import proofs.«01_k».proof.Proof.Gen.AttnRefIdeal.Read
public import proofs.«01_k».proof.Proof.AttnSpec
@[expose] public section
set_option maxRecDepth 16384
noncomputable section
namespace Cert.AttnRefIdeal.Ref
open Cert.AttnRefIdeal Cert.AttnRefIdeal.Gen Cert.AttnRefIdeal.Read Idealize.ShloMosaic Layer

theorem cosine (s : Fin 4096) (j : Fin 32) : val_main_v16 (F := Ideal) (ix2 s j) = Ideal.cos (angle s j) := by
  unfold angle
  pointwise [val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
theorem sine (s : Fin 4096) (j : Fin 32) : val_main_v17 (F := Ideal) (ix2 s j) = Ideal.sin (angle s j) := by
  unfold angle
  pointwise [val_main_v17, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]

variable (x0 : (⟨S4x4096x2048, .f32⟩ : BufTy).Contents (Elt Ideal)) (x1 : (⟨S1x2048, .f32⟩ : BufTy).Contents (Elt Ideal))

theorem normed (b : Fin 4) (s : Fin 4096) (k : Fin 2048) :
    val_main_v31 (F := Ideal) x0 x1 (ix3 b s k) = rmsn (fun k => x0 (ix3 b s k)) (fun k => x1 (ix2 0 k)) k := by
  unfold rmsn scale
  pointwise [val_main_v31, val_main_v30, val_main_v29, val_main_v28, val_main_v27, val_main_v26, val_main_v25, val_main_v24, val_main_v23, val_main_v22, val_main_v21, val_main_v20, val_main_v19, val_main_v18, val_main_cst_3, val_main_cst_4, val_main_cst_5]
  try rfl

variable (x2 : (⟨S1x2048x5680, .f32⟩ : BufTy).Contents (Elt Ideal))

/-- The products of row `R`. -/
abbrev pr (R : Fin 16384) : ℕ → EReal := prod x0 (fun k => x1 (ix2 0 k)) x2 R

theorem product (b : Fin 4) (s : Fin 4096) (n : ℕ) (h : n < 5680) :
    val_main_v33 (F := Ideal) x0 x1 x2 (ix3 b s ⟨n, h⟩) = pr x0 x1 x2 (num b s) n := by
  unfold pr prod
  rw [dif_pos h]
  unfold chan dot
  rw [row_num]
  pointwise [val_main_v33, val_main_v32]
  simp only [normed]
end Cert.AttnRefIdeal.Ref
end
-- ==== Proof.AttnRefQ.lean ====
/-
  The columns of the queries as the problem writes them: cut into heads of 64, and each head turned.
-/
module
public import proofs.«01_k».proof.Proof.Gen.AttnRefIdeal.Read
public import proofs.«01_k».proof.Proof.AttnRefBase
@[expose] public section
set_option maxRecDepth 16384
noncomputable section
namespace Cert.AttnRefIdeal.Ref
open Cert.AttnRefIdeal Cert.AttnRefIdeal.Gen Cert.AttnRefIdeal.Read Idealize.ShloMosaic Layer

variable (x0 : (⟨S4x4096x2048, .f32⟩ : BufTy).Contents (Elt Ideal)) (x1 : (⟨S1x2048, .f32⟩ : BufTy).Contents (Elt Ideal))

variable (x2 : (⟨S1x2048x5680, .f32⟩ : BufTy).Contents (Elt Ideal))

/-- The columns from 3072 on, by heads, and the two halves of a head turned. -/
theorem heads_q (b : Fin 4) (s : Fin 4096) (h : Fin 16) (d : Fin 64) :
    val_main_v43 (F := Ideal) x0 x1 x2 (ix4 b s h d) = pr x0 x1 x2 (num b s) (3072 + (h.val * 64 + d.val)) := by
  pointwise [val_main_v43, val_main_v35]
  rw [product]
theorem low_q (b : Fin 4) (s : Fin 4096) (h : Fin 16) (d : Fin 32) :
    val_main_v52 (F := Ideal) x0 x1 x2 (ix4 b s h d)
      = pr x0 x1 x2 (num b s) (3072 + (h.val * 64 + d.val)) * Ideal.cos (angle s d) - pr x0 x1 x2 (num b s) (3072 + (h.val * 64 + (32 + d.val))) * Ideal.sin (angle s d) := by
  pointwise [val_main_v52, val_main_v51, val_main_v50, val_main_v49, val_main_v48, val_main_v47, val_main_v46, val_main_v45, val_main_v44]
  rw [heads_q, heads_q, cosine, sine]
theorem high_q (b : Fin 4) (s : Fin 4096) (h : Fin 16) (d : Fin 32) :
    val_main_v57 (F := Ideal) x0 x1 x2 (ix4 b s h d)
      = pr x0 x1 x2 (num b s) (3072 + (h.val * 64 + (32 + d.val))) * Ideal.cos (angle s d) + pr x0 x1 x2 (num b s) (3072 + (h.val * 64 + d.val)) * Ideal.sin (angle s d) := by
  pointwise [val_main_v57, val_main_v56, val_main_v55, val_main_v54, val_main_v53, val_main_v51, val_main_v50, val_main_v49, val_main_v48, val_main_v47, val_main_v46, val_main_v45, val_main_v44]
  rw [heads_q, heads_q, cosine, sine]
theorem join_q (b : Fin 4) (s : Fin 4096) (h : Fin 16) (d : Fin 64) :
    val_main_v58 (F := Ideal) x0 x1 x2 (ix4 b s h d)
      = if hl : d.val < 32 then val_main_v52 (F := Ideal) x0 x1 x2 (ix4 b s h ⟨d.val, hl⟩) else val_main_v57 (F := Ideal) x0 x1 x2 (ix4 b s h ⟨d.val - 32, by omega⟩) := by
  pointwise [val_main_v58]
theorem roped_q (b : Fin 4) (s : Fin 4096) (h : Fin 16) (d : Fin 64) :
    val_main_v58 (F := Ideal) x0 x1 x2 (ix4 b s h d) = turn (pr x0 x1 x2 (num b s)) s (3072 + (h.val * 64 + d.val)) := by
  have hh := h.isLt
  have hd := d.isLt
  rw [join_q]
  unfold turn
  by_cases hl : d.val < 32
  · have e : (⟨(3072 + (h.val * 64 + d.val)) % 32, Nat.mod_lt _ (by decide)⟩ : Fin 32) = ⟨d.val, hl⟩ := Fin.ext (show (3072 + (h.val * 64 + d.val)) % 32 = d.val by omega)
    rw [if_pos (by omega), e, dif_pos hl, low_q]
    dsimp only
    rw [sub_eq_add_neg, mul_neg, show 3072 + (h.val * 64 + d.val) + 32 = 3072 + (h.val * 64 + (32 + d.val)) by omega]
  · have e : (⟨(3072 + (h.val * 64 + d.val)) % 32, Nat.mod_lt _ (by decide)⟩ : Fin 32) = ⟨d.val - 32, by omega⟩ := Fin.ext (show (3072 + (h.val * 64 + d.val)) % 32 = d.val - 32 by omega)
    rw [if_neg (by omega), e, dif_neg hl, high_q]
    dsimp only
    rw [show 3072 + (h.val * 64 + d.val) - 32 = 3072 + (h.val * 64 + (d.val - 32)) by omega, show 32 + (d.val - 32) = d.val by omega]
end Cert.AttnRefIdeal.Ref
end
-- ==== Proof.AttnRefKc.lean ====
/-
  The columns of the compressed keys as the problem writes them: cut into heads of 64, and each head turned.
-/
module
public import proofs.«01_k».proof.Proof.Gen.AttnRefIdeal.Read
public import proofs.«01_k».proof.Proof.AttnRefBase
@[expose] public section
set_option maxRecDepth 16384
noncomputable section
namespace Cert.AttnRefIdeal.Ref
open Cert.AttnRefIdeal Cert.AttnRefIdeal.Gen Cert.AttnRefIdeal.Read Idealize.ShloMosaic Layer

variable (x0 : (⟨S4x4096x2048, .f32⟩ : BufTy).Contents (Elt Ideal)) (x1 : (⟨S1x2048, .f32⟩ : BufTy).Contents (Elt Ideal))

variable (x2 : (⟨S1x2048x5680, .f32⟩ : BufTy).Contents (Elt Ideal))

/-- The columns from 4096 on, by heads, and the two halves of a head turned. -/
theorem heads_kc (b : Fin 4) (s : Fin 4096) (h : Fin 4) (d : Fin 64) :
    val_main_v71 (F := Ideal) x0 x1 x2 (ix4 b s h d) = pr x0 x1 x2 (num b s) (4096 + (h.val * 64 + d.val)) := by
  pointwise [val_main_v71, val_main_v36]
  rw [product]
theorem low_kc (b : Fin 4) (s : Fin 4096) (h : Fin 4) (d : Fin 32) :
    val_main_v80 (F := Ideal) x0 x1 x2 (ix4 b s h d)
      = pr x0 x1 x2 (num b s) (4096 + (h.val * 64 + d.val)) * Ideal.cos (angle s d) - pr x0 x1 x2 (num b s) (4096 + (h.val * 64 + (32 + d.val))) * Ideal.sin (angle s d) := by
  pointwise [val_main_v80, val_main_v79, val_main_v78, val_main_v77, val_main_v76, val_main_v75, val_main_v74, val_main_v73, val_main_v72]
  rw [heads_kc, heads_kc, cosine, sine]
theorem high_kc (b : Fin 4) (s : Fin 4096) (h : Fin 4) (d : Fin 32) :
    val_main_v85 (F := Ideal) x0 x1 x2 (ix4 b s h d)
      = pr x0 x1 x2 (num b s) (4096 + (h.val * 64 + (32 + d.val))) * Ideal.cos (angle s d) + pr x0 x1 x2 (num b s) (4096 + (h.val * 64 + d.val)) * Ideal.sin (angle s d) := by
  pointwise [val_main_v85, val_main_v84, val_main_v83, val_main_v82, val_main_v81, val_main_v79, val_main_v78, val_main_v77, val_main_v76, val_main_v75, val_main_v74, val_main_v73, val_main_v72]
  rw [heads_kc, heads_kc, cosine, sine]
theorem join_kc (b : Fin 4) (s : Fin 4096) (h : Fin 4) (d : Fin 64) :
    val_main_v86 (F := Ideal) x0 x1 x2 (ix4 b s h d)
      = if hl : d.val < 32 then val_main_v80 (F := Ideal) x0 x1 x2 (ix4 b s h ⟨d.val, hl⟩) else val_main_v85 (F := Ideal) x0 x1 x2 (ix4 b s h ⟨d.val - 32, by omega⟩) := by
  pointwise [val_main_v86]
theorem roped_kc (b : Fin 4) (s : Fin 4096) (h : Fin 4) (d : Fin 64) :
    val_main_v86 (F := Ideal) x0 x1 x2 (ix4 b s h d) = turn (pr x0 x1 x2 (num b s)) s (4096 + (h.val * 64 + d.val)) := by
  have hh := h.isLt
  have hd := d.isLt
  rw [join_kc]
  unfold turn
  by_cases hl : d.val < 32
  · have e : (⟨(4096 + (h.val * 64 + d.val)) % 32, Nat.mod_lt _ (by decide)⟩ : Fin 32) = ⟨d.val, hl⟩ := Fin.ext (show (4096 + (h.val * 64 + d.val)) % 32 = d.val by omega)
    rw [if_pos (by omega), e, dif_pos hl, low_kc]
    dsimp only
    rw [sub_eq_add_neg, mul_neg, show 4096 + (h.val * 64 + d.val) + 32 = 4096 + (h.val * 64 + (32 + d.val)) by omega]
  · have e : (⟨(4096 + (h.val * 64 + d.val)) % 32, Nat.mod_lt _ (by decide)⟩ : Fin 32) = ⟨d.val - 32, by omega⟩ := Fin.ext (show (4096 + (h.val * 64 + d.val)) % 32 = d.val - 32 by omega)
    rw [if_neg (by omega), e, dif_neg hl, high_kc]
    dsimp only
    rw [show 4096 + (h.val * 64 + d.val) - 32 = 4096 + (h.val * 64 + (d.val - 32)) by omega, show 32 + (d.val - 32) = d.val by omega]
end Cert.AttnRefIdeal.Ref
end
-- ==== Proof.AttnRefKs.lean ====
/-
  The columns of the selected keys as the problem writes them: cut into heads of 64, and each head turned.
-/
module
public import proofs.«01_k».proof.Proof.Gen.AttnRefIdeal.Read
public import proofs.«01_k».proof.Proof.AttnRefBase
@[expose] public section
set_option maxRecDepth 16384
noncomputable section
namespace Cert.AttnRefIdeal.Ref
open Cert.AttnRefIdeal Cert.AttnRefIdeal.Gen Cert.AttnRefIdeal.Read Idealize.ShloMosaic Layer

variable (x0 : (⟨S4x4096x2048, .f32⟩ : BufTy).Contents (Elt Ideal)) (x1 : (⟨S1x2048, .f32⟩ : BufTy).Contents (Elt Ideal))

variable (x2 : (⟨S1x2048x5680, .f32⟩ : BufTy).Contents (Elt Ideal))

/-- The columns from 4608 on, by heads, and the two halves of a head turned. -/
theorem heads_ks (b : Fin 4) (s : Fin 4096) (h : Fin 4) (d : Fin 64) :
    val_main_v90 (F := Ideal) x0 x1 x2 (ix4 b s h d) = pr x0 x1 x2 (num b s) (4608 + (h.val * 64 + d.val)) := by
  pointwise [val_main_v90, val_main_v38]
  rw [product]
theorem low_ks (b : Fin 4) (s : Fin 4096) (h : Fin 4) (d : Fin 32) :
    val_main_v99 (F := Ideal) x0 x1 x2 (ix4 b s h d)
      = pr x0 x1 x2 (num b s) (4608 + (h.val * 64 + d.val)) * Ideal.cos (angle s d) - pr x0 x1 x2 (num b s) (4608 + (h.val * 64 + (32 + d.val))) * Ideal.sin (angle s d) := by
  pointwise [val_main_v99, val_main_v98, val_main_v97, val_main_v96, val_main_v95, val_main_v94, val_main_v93, val_main_v92, val_main_v91]
  rw [heads_ks, heads_ks, cosine, sine]
theorem high_ks (b : Fin 4) (s : Fin 4096) (h : Fin 4) (d : Fin 32) :
    val_main_v104 (F := Ideal) x0 x1 x2 (ix4 b s h d)
      = pr x0 x1 x2 (num b s) (4608 + (h.val * 64 + (32 + d.val))) * Ideal.cos (angle s d) + pr x0 x1 x2 (num b s) (4608 + (h.val * 64 + d.val)) * Ideal.sin (angle s d) := by
  pointwise [val_main_v104, val_main_v103, val_main_v102, val_main_v101, val_main_v100, val_main_v98, val_main_v97, val_main_v96, val_main_v95, val_main_v94, val_main_v93, val_main_v92, val_main_v91]
  rw [heads_ks, heads_ks, cosine, sine]
theorem join_ks (b : Fin 4) (s : Fin 4096) (h : Fin 4) (d : Fin 64) :
    val_main_v105 (F := Ideal) x0 x1 x2 (ix4 b s h d)
      = if hl : d.val < 32 then val_main_v99 (F := Ideal) x0 x1 x2 (ix4 b s h ⟨d.val, hl⟩) else val_main_v104 (F := Ideal) x0 x1 x2 (ix4 b s h ⟨d.val - 32, by omega⟩) := by
  pointwise [val_main_v105]
theorem roped_ks (b : Fin 4) (s : Fin 4096) (h : Fin 4) (d : Fin 64) :
    val_main_v105 (F := Ideal) x0 x1 x2 (ix4 b s h d) = turn (pr x0 x1 x2 (num b s)) s (4608 + (h.val * 64 + d.val)) := by
  have hh := h.isLt
  have hd := d.isLt
  rw [join_ks]
  unfold turn
  by_cases hl : d.val < 32
  · have e : (⟨(4608 + (h.val * 64 + d.val)) % 32, Nat.mod_lt _ (by decide)⟩ : Fin 32) = ⟨d.val, hl⟩ := Fin.ext (show (4608 + (h.val * 64 + d.val)) % 32 = d.val by omega)
    rw [if_pos (by omega), e, dif_pos hl, low_ks]
    dsimp only
    rw [sub_eq_add_neg, mul_neg, show 4608 + (h.val * 64 + d.val) + 32 = 4608 + (h.val * 64 + (32 + d.val)) by omega]
  · have e : (⟨(4608 + (h.val * 64 + d.val)) % 32, Nat.mod_lt _ (by decide)⟩ : Fin 32) = ⟨d.val - 32, by omega⟩ := Fin.ext (show (4608 + (h.val * 64 + d.val)) % 32 = d.val - 32 by omega)
    rw [if_neg (by omega), e, dif_neg hl, high_ks]
    dsimp only
    rw [show 4608 + (h.val * 64 + d.val) - 32 = 4608 + (h.val * 64 + (d.val - 32)) by omega, show 32 + (d.val - 32) = d.val by omega]
end Cert.AttnRefIdeal.Ref
end
-- ==== Proof.AttnRefKw.lean ====
/-
  The columns of the window keys as the problem writes them: cut into heads of 64, and each head turned.
-/
module
public import proofs.«01_k».proof.Proof.Gen.AttnRefIdeal.Read
public import proofs.«01_k».proof.Proof.AttnRefBase
@[expose] public section
set_option maxRecDepth 16384
noncomputable section
namespace Cert.AttnRefIdeal.Ref
open Cert.AttnRefIdeal Cert.AttnRefIdeal.Gen Cert.AttnRefIdeal.Read Idealize.ShloMosaic Layer

variable (x0 : (⟨S4x4096x2048, .f32⟩ : BufTy).Contents (Elt Ideal)) (x1 : (⟨S1x2048, .f32⟩ : BufTy).Contents (Elt Ideal))

variable (x2 : (⟨S1x2048x5680, .f32⟩ : BufTy).Contents (Elt Ideal))

/-- The columns from 5120 on, by heads, and the two halves of a head turned. -/
theorem heads_kw (b : Fin 4) (s : Fin 4096) (h : Fin 4) (d : Fin 64) :
    val_main_v109 (F := Ideal) x0 x1 x2 (ix4 b s h d) = pr x0 x1 x2 (num b s) (5120 + (h.val * 64 + d.val)) := by
  pointwise [val_main_v109, val_main_v40]
  rw [product]
theorem low_kw (b : Fin 4) (s : Fin 4096) (h : Fin 4) (d : Fin 32) :
    val_main_v118 (F := Ideal) x0 x1 x2 (ix4 b s h d)
      = pr x0 x1 x2 (num b s) (5120 + (h.val * 64 + d.val)) * Ideal.cos (angle s d) - pr x0 x1 x2 (num b s) (5120 + (h.val * 64 + (32 + d.val))) * Ideal.sin (angle s d) := by
  pointwise [val_main_v118, val_main_v117, val_main_v116, val_main_v115, val_main_v114, val_main_v113, val_main_v112, val_main_v111, val_main_v110]
  rw [heads_kw, heads_kw, cosine, sine]
theorem high_kw (b : Fin 4) (s : Fin 4096) (h : Fin 4) (d : Fin 32) :
    val_main_v123 (F := Ideal) x0 x1 x2 (ix4 b s h d)
      = pr x0 x1 x2 (num b s) (5120 + (h.val * 64 + (32 + d.val))) * Ideal.cos (angle s d) + pr x0 x1 x2 (num b s) (5120 + (h.val * 64 + d.val)) * Ideal.sin (angle s d) := by
  pointwise [val_main_v123, val_main_v122, val_main_v121, val_main_v120, val_main_v119, val_main_v117, val_main_v116, val_main_v115, val_main_v114, val_main_v113, val_main_v112, val_main_v111, val_main_v110]
  rw [heads_kw, heads_kw, cosine, sine]
theorem join_kw (b : Fin 4) (s : Fin 4096) (h : Fin 4) (d : Fin 64) :
    val_main_v124 (F := Ideal) x0 x1 x2 (ix4 b s h d)
      = if hl : d.val < 32 then val_main_v118 (F := Ideal) x0 x1 x2 (ix4 b s h ⟨d.val, hl⟩) else val_main_v123 (F := Ideal) x0 x1 x2 (ix4 b s h ⟨d.val - 32, by omega⟩) := by
  pointwise [val_main_v124]
theorem roped_kw (b : Fin 4) (s : Fin 4096) (h : Fin 4) (d : Fin 64) :
    val_main_v124 (F := Ideal) x0 x1 x2 (ix4 b s h d) = turn (pr x0 x1 x2 (num b s)) s (5120 + (h.val * 64 + d.val)) := by
  have hh := h.isLt
  have hd := d.isLt
  rw [join_kw]
  unfold turn
  by_cases hl : d.val < 32
  · have e : (⟨(5120 + (h.val * 64 + d.val)) % 32, Nat.mod_lt _ (by decide)⟩ : Fin 32) = ⟨d.val, hl⟩ := Fin.ext (show (5120 + (h.val * 64 + d.val)) % 32 = d.val by omega)
    rw [if_pos (by omega), e, dif_pos hl, low_kw]
    dsimp only
    rw [sub_eq_add_neg, mul_neg, show 5120 + (h.val * 64 + d.val) + 32 = 5120 + (h.val * 64 + (32 + d.val)) by omega]
  · have e : (⟨(5120 + (h.val * 64 + d.val)) % 32, Nat.mod_lt _ (by decide)⟩ : Fin 32) = ⟨d.val - 32, by omega⟩ := Fin.ext (show (5120 + (h.val * 64 + d.val)) % 32 = d.val - 32 by omega)
    rw [if_neg (by omega), e, dif_neg hl, high_kw]
    dsimp only
    rw [show 5120 + (h.val * 64 + d.val) - 32 = 5120 + (h.val * 64 + (d.val - 32)) by omega, show 32 + (d.val - 32) = d.val by omega]

/-- The queries before and after their scale, and the heads put side by side. -/
theorem queries (b : Fin 4) (j : Fin 1024) (s : Fin 4096) :
    val_main_v70 (F := Ideal) x0 x1 x2 (ix3 b j s) = val_main_v61 (F := Ideal) x0 x1 x2 (ix3 b s j) := by
  pointwise [val_main_v70, val_main_v69]
theorem scaled (b : Fin 4) (j : Fin 1024) (s : Fin 4096) :
    val_main_v61 (F := Ideal) x0 x1 x2 (ix3 b s j) = val_main_v59 (F := Ideal) x0 x1 x2 (ix3 b s j) * Ideal.ofBits FTy.f32 0x3E38AA3B#32 := by
  rw [val_main_v61_apply, val_main_v60_apply, val_main_cst_6_apply]
  simp only [Ideal.mulf_def, Ideal.ofBits_def]
theorem flat (b : Fin 4) (j : Fin 1024) (s : Fin 4096) :
    val_main_v59 (F := Ideal) x0 x1 x2 (ix3 b s j)
      = val_main_v58 (F := Ideal) x0 x1 x2 (ix4 b s ⟨j.val / 64, by omega⟩ ⟨j.val % 64, by omega⟩) := by
  pointwise [val_main_v59]
end Cert.AttnRefIdeal.Ref
end
-- ==== Proof.AttnRef.lean ====
/-
  The attention's part of the projection as the problem writes it, read at an index of each of its eight results.
-/
module
public import proofs.«01_k».proof.Proof.Gen.AttnRefIdeal.Read
public import proofs.«01_k».proof.Proof.AttnRefQ
public import proofs.«01_k».proof.Proof.AttnRefKc
public import proofs.«01_k».proof.Proof.AttnRefKs
public import proofs.«01_k».proof.Proof.AttnRefKw
@[expose] public section
set_option maxRecDepth 16384
noncomputable section
namespace Cert.AttnRefIdeal.Ref
open Cert.AttnRefIdeal Cert.AttnRefIdeal.Gen Cert.AttnRefIdeal.Read Idealize.ShloMosaic Layer

variable (x0 : (⟨S4x4096x2048, .f32⟩ : BufTy).Contents (Elt Ideal)) (x1 : (⟨S1x2048, .f32⟩ : BufTy).Contents (Elt Ideal))

variable (x2 : (⟨S1x2048x5680, .f32⟩ : BufTy).Contents (Elt Ideal))

theorem q_at (b : Fin 4) (j : Fin 1024) (s : Fin 4096) :
    val_main_v70 (F := Ideal) x0 x1 x2 (ix3 b j s) = turn (pr x0 x1 x2 (num b s)) s (3072 + j.val) * Ideal.ofBits FTy.f32 0x3E38AA3B#32 := by
  have e : j.val / 64 * 64 + j.val % 64 = j.val := by omega
  rw [queries, scaled, flat, roped_q]
  dsimp only
  rw [e]
theorem kc_at (R : Fin 16384) (j : Fin 256) :
    val_main_v88 (F := Ideal) x0 x1 x2 (ix2 R j) = turn (pr x0 x1 x2 R) (posn R) (4096 + j.val) := by
  have e : j.val / 64 * 64 + j.val % 64 = j.val := by omega
  pointwise [val_main_v88, val_main_v87]
  rw [roped_kc]
  dsimp only
  rw [e]
  rw [num_split R]
theorem ks_at (R : Fin 16384) (j : Fin 256) :
    val_main_v108 (F := Ideal) x0 x1 x2 (ix2 R j) = turn (pr x0 x1 x2 R) (posn R) (4608 + j.val) := by
  have e : j.val / 64 * 64 + j.val % 64 = j.val := by omega
  pointwise [val_main_v108, val_main_v107, val_main_v106]
  rw [roped_ks]
  dsimp only
  rw [e]
  rw [num_split R]
theorem kw_at (R : Fin 16384) (j : Fin 256) :
    val_main_v127 (F := Ideal) x0 x1 x2 (ix2 R j) = turn (pr x0 x1 x2 R) (posn R) (5120 + j.val) := by
  have e : j.val / 64 * 64 + j.val % 64 = j.val := by omega
  pointwise [val_main_v127, val_main_v126, val_main_v125]
  rw [roped_kw]
  dsimp only
  rw [e]
  rw [num_split R]
theorem vc_at (R : Fin 16384) (j : Fin 256) :
    val_main_v89 (F := Ideal) x0 x1 x2 (ix2 R j) = pr x0 x1 x2 R (4352 + j.val) := by
  pointwise [val_main_v89, val_main_v37]
  rw [product]
  rw [num_split R]
theorem vs_at (b : Fin 4) (n : Fin 32) (j : Fin 256) (l : Fin 128) :
    val_main_v130 (F := Ideal) x0 x1 x2 (ix4 b n j l) = pr x0 x1 x2 (num b ⟨n.val * 128 + l.val, by omega⟩) (4864 + j.val) := by
  pointwise [val_main_v130, val_main_v129, val_main_v128, val_main_v39]
  rw [product]
theorem vw_at (b : Fin 4) (n : Fin 32) (j : Fin 256) (l : Fin 128) :
    val_main_v133 (F := Ideal) x0 x1 x2 (ix4 b n j l) = pr x0 x1 x2 (num b ⟨n.val * 128 + l.val, by omega⟩) (5376 + j.val) := by
  pointwise [val_main_v133, val_main_v132, val_main_v131, val_main_v41]
  rw [product]
theorem gate_at (b : Fin 4) (j : Fin 128) (s : Fin 4096) :
    val_main_v134 (F := Ideal) x0 x1 x2 (ix3 b j s) = Ideal.logistic (pr x0 x1 x2 (num b s) (5632 + j.val)) := by
  have e : (if h : j.val < 48 then val_main_v33 (F := Ideal) x0 x1 x2 (ix3 b s ⟨5632 + j.val, by omega⟩) else FloatOps.sitofp (F := Ideal) FTy.f32 0#32)
      = pr x0 x1 x2 (num b s) (5632 + j.val) := by
    by_cases h : j.val < 48
    · rw [dif_pos h, product]
    · rw [dif_neg h]
      unfold pr prod
      rw [dif_neg (by omega)]
      simp [FloatOps.sitofp]
  rw [← e]
  unfold Ideal.logistic
  pointwise [val_main_v134, val_main_v68, val_main_v67, val_main_v66, val_main_v65, val_main_v64, val_main_v63, val_main_v62, val_main_cst_7, val_main_cst_8, val_main_call0_v0, val_main_c, val_main_v42]
end Cert.AttnRefIdeal.Ref
end
-- ==== Proof.AttnClaim.lean ====
/-
  The attention projection's call: its frames, and the value of its eight results against the problem's own lines.
-/
module
public import proofs.«01_k».proof.Proof.Gen.Attn.Frame
public import proofs.«01_k».proof.Proof.AttnKernel
public import proofs.«01_k».proof.Proof.AttnRef
public import proofs.«01_k».proof.Proof.Gen.AttnRefIdeal.Run
public import proofs.«01_k».proof.Defs
@[expose] public section
set_option maxRecDepth 16384
noncomputable section
namespace Cert.Proof.AttnClaim
open Idealize.ShloMosaic Idealize.ShloMosaic.TcCoe Idealize.SL.Sem Layer
open Cert.AttnRefIdeal.Read

theorem frame_kernel : Cert.quiescent_Attn := fun m ρ _ => Cert.Attn.Gen.frame m ρ
theorem frame_ideal : Cert.quiescent_AttnIdeal := fun m ρ _ => Cert.AttnIdeal.Gen.frame m ρ
theorem frame_reference : Cert.quiescent_AttnRefIdeal := fun m ρ _ =>
  (θ_run Cert.AttnRefIdeal.defs _ _).mono (fun r h => ⟨fun c => (h c).2.2.2.2.2.2.2.2, sem_eq_zero_of_no_sems (by decide) r.2⟩)
    (Cert.AttnRefIdeal.Value.run (F := Ideal) m ρ)
theorem preserves : Cert.preserves_Attn_AttnIdeal := trivial

/-- Two arrays are one when they agree at every index. -/
theorem same2 {A B : ℕ} {α : Type} (f g : (⟨2, ![A, B]⟩ : Shape).Idx → α) (h : ∀ a b, f (ix2 a b) = g (ix2 a b)) : f = g :=
  funext fun j => by
    obtain ⟨a, b, rfl⟩ : ∃ (a : Fin A) (b : Fin B), j = ix2 a b := ⟨j 0, j 1, eq_ix2 j⟩
    exact h a b
theorem same3 {A B C : ℕ} {α : Type} (f g : (⟨3, ![A, B, C]⟩ : Shape).Idx → α) (h : ∀ a b c, f (ix3 a b c) = g (ix3 a b c)) : f = g :=
  funext fun j => by
    obtain ⟨a, b, c, rfl⟩ : ∃ (a : Fin A) (b : Fin B) (c : Fin C), j = ix3 a b c := ⟨j 0, j 1, j 2, eq_ix3 j⟩
    exact h a b c
theorem same4 {A B C D : ℕ} {α : Type} (f g : (⟨4, ![A, B, C, D]⟩ : Shape).Idx → α) (h : ∀ a b c d, f (ix4 a b c d) = g (ix4 a b c d)) : f = g :=
  funext fun j => by
    obtain ⟨a, b, c, d, rfl⟩ : ∃ (a : Fin A) (b : Fin B) (c : Fin C) (d : Fin D), j = ix4 a b c d := ⟨j 0, j 1, j 2, j 3, eq_ix4 j⟩
    exact h a b c d

section
variable (m : (ℓ : Loc Cert.AttnIdeal.nD Cert.AttnIdeal.τ Cert.AttnIdeal.sig) → Buf (Elt Ideal) ℓ) (c : Dev Cert.AttnIdeal.nD)

theorem both_queries : val_main_v70 (F := Ideal) (m ((c : Thread Cert.AttnIdeal.nD Cert.AttnIdeal.τ).loc Cert.AttnIdeal.main_arg0)) (m ((c : Thread Cert.AttnIdeal.nD Cert.AttnIdeal.τ).loc Cert.AttnIdeal.main_arg1)) (m ((c : Thread Cert.AttnIdeal.nD Cert.AttnIdeal.τ).loc Cert.AttnIdeal.main_arg2)) = (Cert.AttnIdeal.Gen.dats m 0 c).arrAt 11 Cert.AttnIdeal.cfg0.N :=
  same3 (A := 4) (B := 1024) (C := 4096) (α := EReal) _ _ fun b q s => (Cert.AttnRefIdeal.Ref.q_at _ _ _ b q s).trans (Cert.AttnIdeal.Kernel.queries m c b q s).symm
theorem both_kc : val_main_v88 (F := Ideal) (m ((c : Thread Cert.AttnIdeal.nD Cert.AttnIdeal.τ).loc Cert.AttnIdeal.main_arg0)) (m ((c : Thread Cert.AttnIdeal.nD Cert.AttnIdeal.τ).loc Cert.AttnIdeal.main_arg1)) (m ((c : Thread Cert.AttnIdeal.nD Cert.AttnIdeal.τ).loc Cert.AttnIdeal.main_arg2)) = (Cert.AttnIdeal.Gen.dats m 0 c).arrAt 12 Cert.AttnIdeal.cfg0.N :=
  same2 (A := 16384) (B := 256) (α := EReal) _ _ fun R q => (Cert.AttnRefIdeal.Ref.kc_at _ _ _ R q).trans (Cert.AttnIdeal.Kernel.kc m c R q).symm
theorem both_vc : val_main_v89 (F := Ideal) (m ((c : Thread Cert.AttnIdeal.nD Cert.AttnIdeal.τ).loc Cert.AttnIdeal.main_arg0)) (m ((c : Thread Cert.AttnIdeal.nD Cert.AttnIdeal.τ).loc Cert.AttnIdeal.main_arg1)) (m ((c : Thread Cert.AttnIdeal.nD Cert.AttnIdeal.τ).loc Cert.AttnIdeal.main_arg2)) = (Cert.AttnIdeal.Gen.dats m 0 c).arrAt 13 Cert.AttnIdeal.cfg0.N :=
  same2 (A := 16384) (B := 256) (α := EReal) _ _ fun R q => (Cert.AttnRefIdeal.Ref.vc_at _ _ _ R q).trans (Cert.AttnIdeal.Kernel.vc m c R q).symm
theorem both_ks : val_main_v108 (F := Ideal) (m ((c : Thread Cert.AttnIdeal.nD Cert.AttnIdeal.τ).loc Cert.AttnIdeal.main_arg0)) (m ((c : Thread Cert.AttnIdeal.nD Cert.AttnIdeal.τ).loc Cert.AttnIdeal.main_arg1)) (m ((c : Thread Cert.AttnIdeal.nD Cert.AttnIdeal.τ).loc Cert.AttnIdeal.main_arg2)) = (Cert.AttnIdeal.Gen.dats m 0 c).arrAt 14 Cert.AttnIdeal.cfg0.N :=
  same2 (A := 16384) (B := 256) (α := EReal) _ _ fun R q => (Cert.AttnRefIdeal.Ref.ks_at _ _ _ R q).trans (Cert.AttnIdeal.Kernel.ks m c R q).symm
theorem both_kw : val_main_v127 (F := Ideal) (m ((c : Thread Cert.AttnIdeal.nD Cert.AttnIdeal.τ).loc Cert.AttnIdeal.main_arg0)) (m ((c : Thread Cert.AttnIdeal.nD Cert.AttnIdeal.τ).loc Cert.AttnIdeal.main_arg1)) (m ((c : Thread Cert.AttnIdeal.nD Cert.AttnIdeal.τ).loc Cert.AttnIdeal.main_arg2)) = (Cert.AttnIdeal.Gen.dats m 0 c).arrAt 15 Cert.AttnIdeal.cfg0.N :=
  same2 (A := 16384) (B := 256) (α := EReal) _ _ fun R q => (Cert.AttnRefIdeal.Ref.kw_at _ _ _ R q).trans (Cert.AttnIdeal.Kernel.kw m c R q).symm
theorem both_vs : val_main_v130 (F := Ideal) (m ((c : Thread Cert.AttnIdeal.nD Cert.AttnIdeal.τ).loc Cert.AttnIdeal.main_arg0)) (m ((c : Thread Cert.AttnIdeal.nD Cert.AttnIdeal.τ).loc Cert.AttnIdeal.main_arg1)) (m ((c : Thread Cert.AttnIdeal.nD Cert.AttnIdeal.τ).loc Cert.AttnIdeal.main_arg2)) = (Cert.AttnIdeal.Gen.dats m 0 c).arrAt 16 Cert.AttnIdeal.cfg0.N :=
  same4 (A := 4) (B := 32) (C := 256) (D := 128) (α := EReal) _ _ fun b n j l => (Cert.AttnRefIdeal.Ref.vs_at _ _ _ b n j l).trans (Cert.AttnIdeal.Kernel.vs m c b n j l).symm
theorem both_vw : val_main_v133 (F := Ideal) (m ((c : Thread Cert.AttnIdeal.nD Cert.AttnIdeal.τ).loc Cert.AttnIdeal.main_arg0)) (m ((c : Thread Cert.AttnIdeal.nD Cert.AttnIdeal.τ).loc Cert.AttnIdeal.main_arg1)) (m ((c : Thread Cert.AttnIdeal.nD Cert.AttnIdeal.τ).loc Cert.AttnIdeal.main_arg2)) = (Cert.AttnIdeal.Gen.dats m 0 c).arrAt 17 Cert.AttnIdeal.cfg0.N :=
  same4 (A := 4) (B := 32) (C := 256) (D := 128) (α := EReal) _ _ fun b n j l => (Cert.AttnRefIdeal.Ref.vw_at _ _ _ b n j l).trans (Cert.AttnIdeal.Kernel.vw m c b n j l).symm
theorem both_gate : val_main_v134 (F := Ideal) (m ((c : Thread Cert.AttnIdeal.nD Cert.AttnIdeal.τ).loc Cert.AttnIdeal.main_arg0)) (m ((c : Thread Cert.AttnIdeal.nD Cert.AttnIdeal.τ).loc Cert.AttnIdeal.main_arg1)) (m ((c : Thread Cert.AttnIdeal.nD Cert.AttnIdeal.τ).loc Cert.AttnIdeal.main_arg2)) = (Cert.AttnIdeal.Gen.dats m 0 c).arrAt 18 Cert.AttnIdeal.cfg0.N :=
  same3 (A := 4) (B := 128) (C := 4096) (α := EReal) _ _ fun b q s => (Cert.AttnRefIdeal.Ref.gate_at _ _ _ b q s).trans (Cert.AttnIdeal.Kernel.gate m c b q s).symm
end

set_option maxHeartbeats 4000000 in
/-- Both sides are the row's products: the queries and keys turned by their positions, the values as they are, the gates
through the logistic function, each in the layout its reader wants. -/
theorem algebraic : Cert.algebraic_AttnIdeal_AttnRefIdeal := by
  intro m ρ m' ρ' _ hagree
  refine ⟨fun c => (Cert.AttnIdeal.Gen.dats m 0 c).arrAt 11 Cert.AttnIdeal.cfg0.N, fun c => (Cert.AttnIdeal.Gen.dats m 0 c).arrAt 12 Cert.AttnIdeal.cfg0.N, fun c => (Cert.AttnIdeal.Gen.dats m 0 c).arrAt 13 Cert.AttnIdeal.cfg0.N, fun c => (Cert.AttnIdeal.Gen.dats m 0 c).arrAt 14 Cert.AttnIdeal.cfg0.N, fun c => (Cert.AttnIdeal.Gen.dats m 0 c).arrAt 15 Cert.AttnIdeal.cfg0.N, fun c => (Cert.AttnIdeal.Gen.dats m 0 c).arrAt 16 Cert.AttnIdeal.cfg0.N, fun c => (Cert.AttnIdeal.Gen.dats m 0 c).arrAt 17 Cert.AttnIdeal.cfg0.N, fun c => (Cert.AttnIdeal.Gen.dats m 0 c).arrAt 18 Cert.AttnIdeal.cfg0.N,
    Cert.AttnIdeal.Value.run_blocks (F := Ideal) m ρ, ?_⟩
  refine (θ_run Cert.AttnRefIdeal.defs _ _).mono (fun _ h c => ?_) (Cert.AttnRefIdeal.Value.run (F := Ideal) m' ρ')
  obtain ⟨e0, e1, e2⟩ := hagree c
  obtain ⟨h0, h1, h2, h3, h4, h5, h6, h7, hk⟩ := h c
  refine ⟨h0.trans ?_, h1.trans ?_, h2.trans ?_, h3.trans ?_, h4.trans ?_, h5.trans ?_, h6.trans ?_, h7.trans ?_, hk⟩
  · rw [val_main_v70_eq, e0, e1, e2]
    exact both_queries m c
  · rw [val_main_v88_eq, e0, e1, e2]
    exact both_kc m c
  · rw [val_main_v89_eq, e0, e1, e2]
    exact both_vc m c
  · rw [val_main_v108_eq, e0, e1, e2]
    exact both_ks m c
  · rw [val_main_v127_eq, e0, e1, e2]
    exact both_kw m c
  · rw [val_main_v130_eq, e0, e1, e2]
    exact both_vs m c
  · rw [val_main_v133_eq, e0, e1, e2]
    exact both_vw m c
  · rw [val_main_v134_eq, e0, e1, e2]
    exact both_gate m c

end Cert.Proof.AttnClaim
end
-- ==== Proof.CmpSpec.lean ====
/-
  One hidden unit of the compression network, as the problem states it, and as a sum over two heads' lanes at once.
-/
module
public import proofs.«01_k».proof.Proof.Spec
@[expose] public section
noncomputable section
namespace Layer
open Idealize.ShloMosaic

/-- The network's nonlinearity. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- A block of 32 positions, the first 16 and the next 16, with the positions' own vectors, against a unit's weights. -/
def cell (lo hi : Fin 16 → Fin 64 → EReal) (pe w : Fin 32 → Fin 64 → EReal) : EReal :=
  ∑ d : Fin 64, ∑ l : Fin 32, ((if h : l.val < 16 then lo ⟨l.val, h⟩ d else hi ⟨l.val - 16, by omega⟩ d) + pe l d) * w l d

theorem cell_halves (lo hi : Fin 16 → Fin 64 → EReal) (pe w : Fin 32 → Fin 64 → EReal) :
    cell lo hi pe w = (∑ l : Fin 16, ∑ d : Fin 64, (lo l d + pe ⟨l.val, by omega⟩ d) * w ⟨l.val, by omega⟩ d)
      + ∑ l : Fin 16, ∑ d : Fin 64, (hi l d + pe ⟨16 + l.val, by omega⟩ d) * w ⟨16 + l.val, by omega⟩ d := by
  unfold cell
  rw [Finset.sum_comm]
  refine (Fin.sum_univ_add (a := 16) (b := 16) _).trans ?_
  refine congrArg₂ (· + ·) ?_ ?_
  · refine Finset.sum_congr rfl fun l _ => Finset.sum_congr rfl fun d _ => ?_
    rw [dif_pos (show (Fin.castAdd 16 l).val < 16 from l.isLt)]
    rfl
  · refine Finset.sum_congr rfl fun l _ => Finset.sum_congr rfl fun d _ => ?_
    rw [dif_neg (show ¬ (Fin.natAdd 16 l).val < 16 by show ¬ 16 + l.val < 16; omega)]
    have e : (⟨(Fin.natAdd 16 l).val - 16, by omega⟩ : Fin 16) = l := Fin.ext (show 16 + l.val - 16 = l.val by omega)
    rw [e]
    rfl

/-- One head's first weights on each half of the lanes and of the columns, and nothing across. -/
def across (w : Fin 32 → Fin 64 → Fin 256 → EReal) (l : Fin 32) (j : Fin 128) (q : Fin 512) : EReal :=
  w l ⟨j.val % 64, Nat.mod_lt _ (by decide)⟩ ⟨q.val % 256, Nat.mod_lt _ (by decide)⟩ * (if j.val / 64 = q.val / 256 then 1 else 0)
/-- 64 columns, and zeros after. -/
def widened (w : Fin 256 → Fin 64 → EReal) (f : Fin 256) (q : Fin 128) : EReal := if h : q.val < 64 then w f ⟨q.val, h⟩ else 0

/-- Of two heads' lanes the weights of one head keep that head's. -/
theorem lanes (k : ℕ) (hk : k < 2) (x : Fin 128 → EReal) (p w : Fin 64 → EReal) :
    (∑ j : Fin 128, (x j + p ⟨j.val % 64, Nat.mod_lt _ (by decide)⟩) * (w ⟨j.val % 64, Nat.mod_lt _ (by decide)⟩ * (if j.val / 64 = k then 1 else 0)))
      = ∑ d : Fin 64, (x ⟨64 * k + d.val, by omega⟩ + p d) * w d := by
  refine (Fin.sum_univ_add (a := 64) (b := 64) _).trans ?_
  have m0 : ∀ d : Fin 64, (⟨(Fin.castAdd 64 d).val % 64, Nat.mod_lt _ (by decide)⟩ : Fin 64) = d := fun d => Fin.ext (show d.val % 64 = d.val by omega)
  have m1 : ∀ d : Fin 64, (⟨(Fin.natAdd 64 d).val % 64, Nat.mod_lt _ (by decide)⟩ : Fin 64) = d := fun d => Fin.ext (show (64 + d.val) % 64 = d.val by omega)
  have q0 : ∀ d : Fin 64, (Fin.castAdd 64 d).val / 64 = 0 := fun d => show d.val / 64 = 0 by omega
  have q1 : ∀ d : Fin 64, (Fin.natAdd 64 d).val / 64 = 1 := fun d => show (64 + d.val) / 64 = 1 by omega
  simp only [m0, m1, q0, q1]
  rcases (by omega : k = 0 ∨ k = 1) with rfl | rfl
  · simp only [if_pos, if_neg (show ¬ (1 : ℕ) = 0 by decide), mul_one, mul_zero, Finset.sum_const_zero, add_zero]
    refine Finset.sum_congr rfl fun d _ => ?_
    have e : (Fin.castAdd 64 d : Fin (64 + 64)) = ⟨0 + d.val, by omega⟩ := Fin.ext (show d.val = 0 + d.val by omega)
    rw [← e]
  · simp only [if_pos, if_neg (show ¬ (0 : ℕ) = 1 by decide), mul_one, mul_zero, Finset.sum_const_zero, zero_add]
    refine Finset.sum_congr rfl fun d _ => ?_
    have e : (Fin.natAdd 64 d : Fin (64 + 64)) = ⟨64 * 1 + d.val, by omega⟩ := Fin.ext (show 64 + d.val = 64 * 1 + d.val by omega)
    rw [← e]

/-- Position `l` of block `n` of 16 of sequence `b`, numbered through. -/
abbrev spot (b : Fin 4) (n : Fin 256) (l : Fin 16) : Fin 16384 := ⟨4096 * b.val + 16 * n.val + l.val, by omega⟩
/-- The block after, the last one's being the first. -/
abbrev after (n : Fin 256) : Fin 256 := ⟨(n.val + 1) % 256, Nat.mod_lt _ (by decide)⟩
/-- A compressed block: 32 positions from 16 `n` on through the network, its result on 64 lanes of 128. -/
def squeezed (x : Fin 16384 → Fin 256 → EReal) (w1 : Fin 32 → Fin 64 → Fin 256 → EReal) (w2 : Fin 256 → Fin 64 → EReal) (pe : Fin 32 → Fin 64 → EReal)
    (b h : Fin 4) (n : Fin 256) (q : Fin 128) : EReal :=
  ∑ f : Fin 256, gelu (cell (fun l d => x (spot b n l) ⟨64 * h.val + d.val, by omega⟩) (fun l d => x (spot b (after n) l) ⟨64 * h.val + d.val, by omega⟩)
    pe (fun l d => w1 l d f)) * widened w2 f q

/-- A compressed block: 32 positions from 16 `n` on through the network. -/
def compressed (x : Fin 16384 → Fin 256 → EReal) (w1 : Fin 32 → Fin 64 → Fin 256 → EReal) (w2 : Fin 256 → Fin 64 → EReal) (pe : Fin 32 → Fin 64 → EReal)
    (b h : Fin 4) (q : Fin 64) (n : Fin 256) : EReal :=
  ∑ f : Fin 256, gelu (cell (fun l d => x (spot b n l) ⟨64 * h.val + d.val, by omega⟩) (fun l d => x (spot b (after n) l) ⟨64 * h.val + d.val, by omega⟩)
    pe (fun l d => w1 l d f)) * w2 f q

/-- Sixteen terms, one after another. -/
theorem sum16 (f : Fin 16 → EReal) :
    (((((((((((((((0 + f 0) + f 1) + f 2) + f 3) + f 4) + f 5) + f 6) + f 7) + f 8) + f 9) + f 10) + f 11) + f 12) + f 13) + f 14) + f 15 = ∑ l, f l := by
  simp only [Fin.sum_univ_castSucc, Fin.sum_univ_zero]
  rfl
end Layer
end
-- ==== Proof.CmpkBlock.lean ====
/-
  The key compression's call, one grid point at a time: what it leaves in its block, read at an index. A tile of two
  heads' lanes is summed over 16 positions of a block and the next 16 apart, the second sum brought back by one block.
-/
module
public import proofs.«01_k».proof.Proof.CmpSpec
public import proofs.«01_k».proof.Proof.Gen.CmpkIdeal.Frame
public import Idealize.ShloMosaic.Lib.Pointwise
public import Idealize.ShloMosaic.Lib.Pipeline.ValueKit
@[expose] public section
set_option maxRecDepth 16384
noncomputable section
namespace Cert.CmpkIdeal.Block
open Cert.CmpkIdeal Cert.CmpkIdeal.Gen Idealize.ShloMosaic Idealize.SL.Sem Layer

/-- Position `l` of each block of 16. -/
def slab (x : Vec Ideal S4096x128 .f32) (l : ℕ) (inb : ∀ a, S256x128.size a = 0 ∨ (![l, 0] : Fin 2 → ℕ) a + (![16, 1] : Fin 2 → ℕ) a * (S256x128.size a - 1) < S4096x128.size a) : Vec Ideal S256x128 .f32 :=
  fun j => x (LoadRect.idx { off := ![l, 0], size := ![256, 128], stride := ![16, 1], inb := inb } j)

theorem slab_apply (x : Vec Ideal S4096x128 .f32) (l : ℕ) (hl : l < 16) (inb) (n : Fin 256) (j : Fin 128) :
    slab x l inb (ix2 n j) = x (ix2 ⟨16 * n.val + l, by omega⟩ j) := by
  unfold slab
  refine congrArg x (funext fun a => Fin.ext ?_)
  match a with
  | ⟨0, _⟩ => show l + 16 * n.val = 16 * n.val + l; omega
  | ⟨1, _⟩ => show 0 + 1 * j.val = j.val; omega

/-- One position's rows, with its vector, against its weights, added on. -/
def step (acc : FVec Ideal S256x512 .f32) (v : Vec Ideal S256x128 .f32) (p : Vec Ideal S1x1x128 .f32) (w : Vec Ideal S1x128x512 .bf16) : FVec Ideal S256x512 .f32 :=
  addf acc (matmul (φ₂ := .bf16) dot_S256x128_S128x512_S256x512_1_0_0_1_n_n none
    (truncf .bf16 (addf v (broadcastTo S256x128 (shapeCast S1x128 p shapeCasts_S1x1x128_S1x128) broadcasts_S1x128_S256x128)) bitsLt_bf16_f32)
    (shapeCast S128x512 w shapeCasts_S1x128x512_S128x512) (constant S256x512 .f32 0x00000000#32))

theorem step_apply (acc : FVec Ideal S256x512 .f32) (v : Vec Ideal S256x128 .f32) (p : Vec Ideal S1x1x128 .f32) (w : Vec Ideal S1x128x512 .bf16) (n : Fin 256) (q : Fin 512) :
    step acc v p w (ix2 n q) = acc (ix2 n q) + ∑ j : Fin 128, (v (ix2 n j) + p (ix3 0 0 j)) * w (ix3 0 j q) := by
  pointwise [step]

def zeros : FVec Ideal S256x512 .f32 := broadcast S256x512 (Scalar.ofBits .f32 0x00000000#32)
theorem zeros_apply (n : Fin 256) (q : Fin 512) : zeros (ix2 n q) = 0 := by
  pointwise [zeros]

section
variable (x : Vec Ideal S4096x128 .f32) (x2 : Vec Ideal S32x1x128 .f32) (x3 : Vec Ideal S32x128x512 .bf16)

/-- What position `l` of block `n` of 16 adds to column `q`, with the vector and weights of position `m` of 32. -/
def term (n : Fin 256) (q : Fin 512) (l : Fin 16) (m : Fin 32) : EReal :=
  ∑ j : Fin 128, (x (ix2 ⟨16 * n.val + l.val, by omega⟩ j) + x2 (ix3 m 0 j)) * x3 (ix3 m j q)

theorem step_at (l : ℕ) (hl : l < 16) (m : ℕ) (hm : m < 32) (acc : FVec Ideal S256x512 .f32) (i1 i2 i3) (n : Fin 256) (q : Fin 512) :
    step acc (slab x l i1) (View.ld x2 (Rect.unit ![m, 0, 0] ![1, 1, 128] i2)) (View.ld x3 (Rect.unit ![m, 0, 0] ![1, 128, 512] i3)) (ix2 n q)
      = acc (ix2 n q) + term x x2 x3 n q ⟨l, hl⟩ ⟨m, hm⟩ := by
  rw [step_apply]
  refine congrArg (acc (ix2 n q) + ·) (Finset.sum_congr rfl fun j _ => ?_)
  rw [slab_apply x l hl]
  have e2 : (Rect.unit (s := S32x1x128) ![m, 0, 0] ![1, 1, 128] i2).idx (ix3 0 0 j) = ix3 ⟨m, hm⟩ 0 j := funext fun a => Fin.ext (by
    match a with
    | ⟨0, _⟩ => show m + 1 * 0 = m; omega
    | ⟨1, _⟩ => rfl
    | ⟨2, _⟩ => show 0 + 1 * j.val = j.val; omega)
  have e3 : (Rect.unit (s := S32x128x512) ![m, 0, 0] ![1, 128, 512] i3).idx (ix3 0 j q) = ix3 ⟨m, hm⟩ j q := funext fun a => Fin.ext (by
    match a with
    | ⟨0, _⟩ => show m + 1 * 0 = m; omega
    | ⟨1, _⟩ => show 0 + 1 * j.val = j.val; omega
    | ⟨2, _⟩ => show 0 + 1 * q.val = q.val; omega)
  exact congrArg₂ (fun s t => (_ + s) * t) (congrArg x2 e2) (congrArg x3 e3)

/-- The first 16 positions of each block of 32. -/
def first : FVec Ideal S256x512 .f32 :=
  step (step (step (step (step (step (step (step (step (step (step (step (step (step (step (step zeros (slab x 0 inb_S4096x128_S256x128_0_0_s_16_1) (View.ld x2 (Rect.unit ![0, 0, 0] ![1, 1, 128] inb_S32x1x128_S1x1x128_0_0_0)) (View.ld x3 (Rect.unit ![0, 0, 0] ![1, 128, 512] inb_S32x128x512_S1x128x512_0_0_0))) (slab x 1 inb_S4096x128_S256x128_1_0_s_16_1) (View.ld x2 (Rect.unit ![1, 0, 0] ![1, 1, 128] inb_S32x1x128_S1x1x128_1_0_0)) (View.ld x3 (Rect.unit ![1, 0, 0] ![1, 128, 512] inb_S32x128x512_S1x128x512_1_0_0))) (slab x 2 inb_S4096x128_S256x128_2_0_s_16_1) (View.ld x2 (Rect.unit ![2, 0, 0] ![1, 1, 128] inb_S32x1x128_S1x1x128_2_0_0)) (View.ld x3 (Rect.unit ![2, 0, 0] ![1, 128, 512] inb_S32x128x512_S1x128x512_2_0_0))) (slab x 3 inb_S4096x128_S256x128_3_0_s_16_1) (View.ld x2 (Rect.unit ![3, 0, 0] ![1, 1, 128] inb_S32x1x128_S1x1x128_3_0_0)) (View.ld x3 (Rect.unit ![3, 0, 0] ![1, 128, 512] inb_S32x128x512_S1x128x512_3_0_0))) (slab x 4 inb_S4096x128_S256x128_4_0_s_16_1) (View.ld x2 (Rect.unit ![4, 0, 0] ![1, 1, 128] inb_S32x1x128_S1x1x128_4_0_0)) (View.ld x3 (Rect.unit ![4, 0, 0] ![1, 128, 512] inb_S32x128x512_S1x128x512_4_0_0))) (slab x 5 inb_S4096x128_S256x128_5_0_s_16_1) (View.ld x2 (Rect.unit ![5, 0, 0] ![1, 1, 128] inb_S32x1x128_S1x1x128_5_0_0)) (View.ld x3 (Rect.unit ![5, 0, 0] ![1, 128, 512] inb_S32x128x512_S1x128x512_5_0_0))) (slab x 6 inb_S4096x128_S256x128_6_0_s_16_1) (View.ld x2 (Rect.unit ![6, 0, 0] ![1, 1, 128] inb_S32x1x128_S1x1x128_6_0_0)) (View.ld x3 (Rect.unit ![6, 0, 0] ![1, 128, 512] inb_S32x128x512_S1x128x512_6_0_0))) (slab x 7 inb_S4096x128_S256x128_7_0_s_16_1) (View.ld x2 (Rect.unit ![7, 0, 0] ![1, 1, 128] inb_S32x1x128_S1x1x128_7_0_0)) (View.ld x3 (Rect.unit ![7, 0, 0] ![1, 128, 512] inb_S32x128x512_S1x128x512_7_0_0))) (slab x 8 inb_S4096x128_S256x128_8_0_s_16_1) (View.ld x2 (Rect.unit ![8, 0, 0] ![1, 1, 128] inb_S32x1x128_S1x1x128_8_0_0)) (View.ld x3 (Rect.unit ![8, 0, 0] ![1, 128, 512] inb_S32x128x512_S1x128x512_8_0_0))) (slab x 9 inb_S4096x128_S256x128_9_0_s_16_1) (View.ld x2 (Rect.unit ![9, 0, 0] ![1, 1, 128] inb_S32x1x128_S1x1x128_9_0_0)) (View.ld x3 (Rect.unit ![9, 0, 0] ![1, 128, 512] inb_S32x128x512_S1x128x512_9_0_0))) (slab x 10 inb_S4096x128_S256x128_10_0_s_16_1) (View.ld x2 (Rect.unit ![10, 0, 0] ![1, 1, 128] inb_S32x1x128_S1x1x128_10_0_0)) (View.ld x3 (Rect.unit ![10, 0, 0] ![1, 128, 512] inb_S32x128x512_S1x128x512_10_0_0))) (slab x 11 inb_S4096x128_S256x128_11_0_s_16_1) (View.ld x2 (Rect.unit ![11, 0, 0] ![1, 1, 128] inb_S32x1x128_S1x1x128_11_0_0)) (View.ld x3 (Rect.unit ![11, 0, 0] ![1, 128, 512] inb_S32x128x512_S1x128x512_11_0_0))) (slab x 12 inb_S4096x128_S256x128_12_0_s_16_1) (View.ld x2 (Rect.unit ![12, 0, 0] ![1, 1, 128] inb_S32x1x128_S1x1x128_12_0_0)) (View.ld x3 (Rect.unit ![12, 0, 0] ![1, 128, 512] inb_S32x128x512_S1x128x512_12_0_0))) (slab x 13 inb_S4096x128_S256x128_13_0_s_16_1) (View.ld x2 (Rect.unit ![13, 0, 0] ![1, 1, 128] inb_S32x1x128_S1x1x128_13_0_0)) (View.ld x3 (Rect.unit ![13, 0, 0] ![1, 128, 512] inb_S32x128x512_S1x128x512_13_0_0))) (slab x 14 inb_S4096x128_S256x128_14_0_s_16_1) (View.ld x2 (Rect.unit ![14, 0, 0] ![1, 1, 128] inb_S32x1x128_S1x1x128_14_0_0)) (View.ld x3 (Rect.unit ![14, 0, 0] ![1, 128, 512] inb_S32x128x512_S1x128x512_14_0_0))) (slab x 15 inb_S4096x128_S256x128_15_0_s_16_1) (View.ld x2 (Rect.unit ![15, 0, 0] ![1, 1, 128] inb_S32x1x128_S1x1x128_15_0_0)) (View.ld x3 (Rect.unit ![15, 0, 0] ![1, 128, 512] inb_S32x128x512_S1x128x512_15_0_0))
/-- The last 16 positions, at the block of 16 they lie in. -/
def second : FVec Ideal S256x512 .f32 :=
  step (step (step (step (step (step (step (step (step (step (step (step (step (step (step (step zeros (slab x 0 inb_S4096x128_S256x128_0_0_s_16_1) (View.ld x2 (Rect.unit ![16, 0, 0] ![1, 1, 128] inb_S32x1x128_S1x1x128_16_0_0)) (View.ld x3 (Rect.unit ![16, 0, 0] ![1, 128, 512] inb_S32x128x512_S1x128x512_16_0_0))) (slab x 1 inb_S4096x128_S256x128_1_0_s_16_1) (View.ld x2 (Rect.unit ![17, 0, 0] ![1, 1, 128] inb_S32x1x128_S1x1x128_17_0_0)) (View.ld x3 (Rect.unit ![17, 0, 0] ![1, 128, 512] inb_S32x128x512_S1x128x512_17_0_0))) (slab x 2 inb_S4096x128_S256x128_2_0_s_16_1) (View.ld x2 (Rect.unit ![18, 0, 0] ![1, 1, 128] inb_S32x1x128_S1x1x128_18_0_0)) (View.ld x3 (Rect.unit ![18, 0, 0] ![1, 128, 512] inb_S32x128x512_S1x128x512_18_0_0))) (slab x 3 inb_S4096x128_S256x128_3_0_s_16_1) (View.ld x2 (Rect.unit ![19, 0, 0] ![1, 1, 128] inb_S32x1x128_S1x1x128_19_0_0)) (View.ld x3 (Rect.unit ![19, 0, 0] ![1, 128, 512] inb_S32x128x512_S1x128x512_19_0_0))) (slab x 4 inb_S4096x128_S256x128_4_0_s_16_1) (View.ld x2 (Rect.unit ![20, 0, 0] ![1, 1, 128] inb_S32x1x128_S1x1x128_20_0_0)) (View.ld x3 (Rect.unit ![20, 0, 0] ![1, 128, 512] inb_S32x128x512_S1x128x512_20_0_0))) (slab x 5 inb_S4096x128_S256x128_5_0_s_16_1) (View.ld x2 (Rect.unit ![21, 0, 0] ![1, 1, 128] inb_S32x1x128_S1x1x128_21_0_0)) (View.ld x3 (Rect.unit ![21, 0, 0] ![1, 128, 512] inb_S32x128x512_S1x128x512_21_0_0))) (slab x 6 inb_S4096x128_S256x128_6_0_s_16_1) (View.ld x2 (Rect.unit ![22, 0, 0] ![1, 1, 128] inb_S32x1x128_S1x1x128_22_0_0)) (View.ld x3 (Rect.unit ![22, 0, 0] ![1, 128, 512] inb_S32x128x512_S1x128x512_22_0_0))) (slab x 7 inb_S4096x128_S256x128_7_0_s_16_1) (View.ld x2 (Rect.unit ![23, 0, 0] ![1, 1, 128] inb_S32x1x128_S1x1x128_23_0_0)) (View.ld x3 (Rect.unit ![23, 0, 0] ![1, 128, 512] inb_S32x128x512_S1x128x512_23_0_0))) (slab x 8 inb_S4096x128_S256x128_8_0_s_16_1) (View.ld x2 (Rect.unit ![24, 0, 0] ![1, 1, 128] inb_S32x1x128_S1x1x128_24_0_0)) (View.ld x3 (Rect.unit ![24, 0, 0] ![1, 128, 512] inb_S32x128x512_S1x128x512_24_0_0))) (slab x 9 inb_S4096x128_S256x128_9_0_s_16_1) (View.ld x2 (Rect.unit ![25, 0, 0] ![1, 1, 128] inb_S32x1x128_S1x1x128_25_0_0)) (View.ld x3 (Rect.unit ![25, 0, 0] ![1, 128, 512] inb_S32x128x512_S1x128x512_25_0_0))) (slab x 10 inb_S4096x128_S256x128_10_0_s_16_1) (View.ld x2 (Rect.unit ![26, 0, 0] ![1, 1, 128] inb_S32x1x128_S1x1x128_26_0_0)) (View.ld x3 (Rect.unit ![26, 0, 0] ![1, 128, 512] inb_S32x128x512_S1x128x512_26_0_0))) (slab x 11 inb_S4096x128_S256x128_11_0_s_16_1) (View.ld x2 (Rect.unit ![27, 0, 0] ![1, 1, 128] inb_S32x1x128_S1x1x128_27_0_0)) (View.ld x3 (Rect.unit ![27, 0, 0] ![1, 128, 512] inb_S32x128x512_S1x128x512_27_0_0))) (slab x 12 inb_S4096x128_S256x128_12_0_s_16_1) (View.ld x2 (Rect.unit ![28, 0, 0] ![1, 1, 128] inb_S32x1x128_S1x1x128_28_0_0)) (View.ld x3 (Rect.unit ![28, 0, 0] ![1, 128, 512] inb_S32x128x512_S1x128x512_28_0_0))) (slab x 13 inb_S4096x128_S256x128_13_0_s_16_1) (View.ld x2 (Rect.unit ![29, 0, 0] ![1, 1, 128] inb_S32x1x128_S1x1x128_29_0_0)) (View.ld x3 (Rect.unit ![29, 0, 0] ![1, 128, 512] inb_S32x128x512_S1x128x512_29_0_0))) (slab x 14 inb_S4096x128_S256x128_14_0_s_16_1) (View.ld x2 (Rect.unit ![30, 0, 0] ![1, 1, 128] inb_S32x1x128_S1x1x128_30_0_0)) (View.ld x3 (Rect.unit ![30, 0, 0] ![1, 128, 512] inb_S32x128x512_S1x128x512_30_0_0))) (slab x 15 inb_S4096x128_S256x128_15_0_s_16_1) (View.ld x2 (Rect.unit ![31, 0, 0] ![1, 1, 128] inb_S32x1x128_S1x1x128_31_0_0)) (View.ld x3 (Rect.unit ![31, 0, 0] ![1, 128, 512] inb_S32x128x512_S1x128x512_31_0_0))
theorem first_apply (n : Fin 256) (q : Fin 512) : first x x2 x3 (ix2 n q) = ∑ l : Fin 16, term x x2 x3 n q l ⟨l.val, by omega⟩ := by
  rw [← sum16]
  unfold first
  rw [step_at x x2 x3 15 (by decide) 15 (by decide), step_at x x2 x3 14 (by decide) 14 (by decide), step_at x x2 x3 13 (by decide) 13 (by decide), step_at x x2 x3 12 (by decide) 12 (by decide), step_at x x2 x3 11 (by decide) 11 (by decide), step_at x x2 x3 10 (by decide) 10 (by decide), step_at x x2 x3 9 (by decide) 9 (by decide), step_at x x2 x3 8 (by decide) 8 (by decide), step_at x x2 x3 7 (by decide) 7 (by decide), step_at x x2 x3 6 (by decide) 6 (by decide), step_at x x2 x3 5 (by decide) 5 (by decide), step_at x x2 x3 4 (by decide) 4 (by decide), step_at x x2 x3 3 (by decide) 3 (by decide), step_at x x2 x3 2 (by decide) 2 (by decide), step_at x x2 x3 1 (by decide) 1 (by decide), step_at x x2 x3 0 (by decide) 0 (by decide), zeros_apply]
  rfl
theorem second_apply (n : Fin 256) (q : Fin 512) : second x x2 x3 (ix2 n q) = ∑ l : Fin 16, term x x2 x3 n q l ⟨16 + l.val, by omega⟩ := by
  rw [← sum16]
  unfold second
  rw [step_at x x2 x3 15 (by decide) 31 (by decide), step_at x x2 x3 14 (by decide) 30 (by decide), step_at x x2 x3 13 (by decide) 29 (by decide), step_at x x2 x3 12 (by decide) 28 (by decide), step_at x x2 x3 11 (by decide) 27 (by decide), step_at x x2 x3 10 (by decide) 26 (by decide), step_at x x2 x3 9 (by decide) 25 (by decide), step_at x x2 x3 8 (by decide) 24 (by decide), step_at x x2 x3 7 (by decide) 23 (by decide), step_at x x2 x3 6 (by decide) 22 (by decide), step_at x x2 x3 5 (by decide) 21 (by decide), step_at x x2 x3 4 (by decide) 20 (by decide), step_at x x2 x3 3 (by decide) 19 (by decide), step_at x x2 x3 2 (by decide) 18 (by decide), step_at x x2 x3 1 (by decide) 17 (by decide), step_at x x2 x3 0 (by decide) 16 (by decide), zeros_apply]
  rfl

/-- The two sums joined, and the nonlinearity. -/
def both (f s : FVec Ideal S256x512 .f32) : FVec Ideal S256x512 .f32 := addf f (dynamicRotate 0 255#32 none s rotates_S256x512_d0)
def bent (v : FVec Ideal S256x512 .f32) : FVec Ideal S256x512 .bf16 :=
  truncf .bf16 (mulf v (mulf (broadcast S256x512 (Scalar.ofBits .f32 0x3F000000#32)) (addf (broadcast S256x512 (Scalar.ofBits .f32 0x3F800000#32))
    (tanh (mulf (broadcast S256x512 (Scalar.ofBits .f32 0x3F4C422A#32)) (addf v (mulf (broadcast S256x512 (Scalar.ofBits .f32 0x3D372713#32)) (mulf v (mulf v v))))))))) bitsLt_bf16_f32
theorem both_apply (f s : FVec Ideal S256x512 .f32) (n : Fin 256) (q : Fin 512) :
    both f s (ix2 n q) = f (ix2 n q) + s (ix2 ⟨(n.val + 1) % 256, Nat.mod_lt _ (by decide)⟩ q) := by
  have e : (⟨(n.val + 256 - 255) % 256, Nat.mod_lt _ (by decide)⟩ : Fin 256) = ⟨(n.val + 1) % 256, Nat.mod_lt _ (by decide)⟩ :=
    Fin.ext (show (n.val + 256 - 255) % 256 = (n.val + 1) % 256 by omega)
  pointwise [both]
  exact congrArg (fun k => f (ix2 n q) + s (ix2 k q)) e
theorem bent_apply (v : FVec Ideal S256x512 .f32) (n : Fin 256) (q : Fin 512) :
    bent v (ix2 n q) = gelu (v (ix2 n q)) := by
  unfold gelu
  pointwise [bent]
variable (x4 : Vec Ideal S256x128 .bf16)
/-- One head's units against the second weights. -/
def down (o : ℕ) (h : S256x512.Slices ![0, o] S256x256) (v : FVec Ideal S256x512 .bf16) : FVec Ideal S1x1x256x128 .bf16 :=
  shapeCast S1x1x256x128 (truncf .bf16 (matmul (φ₂ := .bf16) dot_S256x256_S256x128_S256x128_1_0_0_1_n_n none (extractStridedSlice S256x256 ![0, o] v h)
    (shapeCast S256x128 x4 shapeCasts_S256x128_S256x128) (constant S256x128 .f32 0x00000000#32)) bitsLt_bf16_f32) shapeCasts_S256x128_S1x1x256x128
theorem down_0 (v : FVec Ideal S256x512 .bf16) (n : Fin 256) (q : Fin 128) :
    down x4 0 slices_S256x512_o0_0_S256x256 v (ix4 0 0 n q) = ∑ f : Fin 256, v (ix2 n ⟨0 + f.val, by omega⟩) * x4 (ix2 f q) := by
  simp only [zero_add]
  pointwise [down]
theorem down_256 (v : FVec Ideal S256x512 .bf16) (n : Fin 256) (q : Fin 128) :
    down x4 256 slices_S256x512_o0_256_S256x256 v (ix4 0 0 n q) = ∑ f : Fin 256, v (ix2 n ⟨256 + f.val, by omega⟩) * x4 (ix2 f q) := by
  pointwise [down]
end
/-- A block of `S1x4x256x128` stored in 4 pieces holds one function when each piece does. -/
theorem tiles_c {e : EltTy} (G : S1x4x256x128.Idx → Elt Ideal e) (w0 w1 w2 w3 : S1x1x256x128.Idx → Elt Ideal e)
    (e0 : ∀ (c : Fin 256) (d : Fin 128), w0 (ix4 0 0 c d) = G (ix4 0 3 c d))
    (e1 : ∀ (c : Fin 256) (d : Fin 128), w1 (ix4 0 0 c d) = G (ix4 0 2 c d))
    (e2 : ∀ (c : Fin 256) (d : Fin 128), w2 (ix4 0 0 c d) = G (ix4 0 1 c d))
    (e3 : ∀ (c : Fin 256) (d : Fin 128), w3 (ix4 0 0 c d) = G (ix4 0 0 c d))
    (y : S1x4x256x128.Idx) :
    View.canon (Val := Elt Ideal) (s := S1x4x256x128) (e := e)
      [⟨Rect.unit ![0, 3, 0, 0] ![1, 1, 256, 128] inb_S1x4x256x128_S1x1x256x128_0_3_0_0, w0⟩,
       ⟨Rect.unit ![0, 2, 0, 0] ![1, 1, 256, 128] inb_S1x4x256x128_S1x1x256x128_0_2_0_0, w1⟩,
       ⟨Rect.unit ![0, 1, 0, 0] ![1, 1, 256, 128] inb_S1x4x256x128_S1x1x256x128_0_1_0_0, w2⟩,
       ⟨Rect.unit ![0, 0, 0, 0] ![1, 1, 256, 128] inb_S1x4x256x128_S1x1x256x128_0_0_0_0, w3⟩] y = G y := by
  refine View.canon_apply_of_pieces G _ ?_ _ ?_
  rotate_left
  · obtain ⟨a, b, c, d, rfl⟩ : ∃ (a : Fin 1) (b : Fin 4) (c : Fin 256) (d : Fin 128), y = ix4 a b c d := ⟨y 0, y 1, y 2, y 3, eq_ix4 y⟩
    by_cases h1_0 : b.val < 1
    · refine (List.exists_mem_cons_iff _ _ _).2 (Or.inr ?_)
      refine (List.exists_mem_cons_iff _ _ _).2 (Or.inr ?_)
      refine (List.exists_mem_cons_iff _ _ _).2 (Or.inr ?_)
      refine (List.exists_mem_cons_iff _ _ _).2 (Or.inl ?_)
      rw [Rect.mem_set_unit]
      intro ax
      match ax with
      | ⟨0, _⟩ => show 0 ≤ a.val ∧ a.val < 0 + 1; omega
      | ⟨1, _⟩ => show 0 ≤ b.val ∧ b.val < 0 + 1; omega
      | ⟨2, _⟩ => show 0 ≤ c.val ∧ c.val < 0 + 256; omega
      | ⟨3, _⟩ => show 0 ≤ d.val ∧ d.val < 0 + 128; omega
    · by_cases h1_1 : b.val < 2
      · refine (List.exists_mem_cons_iff _ _ _).2 (Or.inr ?_)
        refine (List.exists_mem_cons_iff _ _ _).2 (Or.inr ?_)
        refine (List.exists_mem_cons_iff _ _ _).2 (Or.inl ?_)
        rw [Rect.mem_set_unit]
        intro ax
        match ax with
        | ⟨0, _⟩ => show 0 ≤ a.val ∧ a.val < 0 + 1; omega
        | ⟨1, _⟩ => show 1 ≤ b.val ∧ b.val < 1 + 1; omega
        | ⟨2, _⟩ => show 0 ≤ c.val ∧ c.val < 0 + 256; omega
        | ⟨3, _⟩ => show 0 ≤ d.val ∧ d.val < 0 + 128; omega
      · by_cases h1_2 : b.val < 3
        · refine (List.exists_mem_cons_iff _ _ _).2 (Or.inr ?_)
          refine (List.exists_mem_cons_iff _ _ _).2 (Or.inl ?_)
          rw [Rect.mem_set_unit]
          intro ax
          match ax with
          | ⟨0, _⟩ => show 0 ≤ a.val ∧ a.val < 0 + 1; omega
          | ⟨1, _⟩ => show 2 ≤ b.val ∧ b.val < 2 + 1; omega
          | ⟨2, _⟩ => show 0 ≤ c.val ∧ c.val < 0 + 256; omega
          | ⟨3, _⟩ => show 0 ≤ d.val ∧ d.val < 0 + 128; omega
        · refine (List.exists_mem_cons_iff _ _ _).2 (Or.inl ?_)
          rw [Rect.mem_set_unit]
          intro ax
          match ax with
          | ⟨0, _⟩ => show 0 ≤ a.val ∧ a.val < 0 + 1; omega
          | ⟨1, _⟩ => show 3 ≤ b.val ∧ b.val < 3 + 1; omega
          | ⟨2, _⟩ => show 0 ≤ c.val ∧ c.val < 0 + 256; omega
          | ⟨3, _⟩ => show 0 ≤ d.val ∧ d.val < 0 + 128; omega
  intro p hp x
  rcases List.mem_cons.1 hp with rfl | hp
  · obtain ⟨a, b, c, d, rfl⟩ : ∃ (a : Fin 1) (b : Fin 1) (c : Fin 256) (d : Fin 128), x = ix4 a b c d := ⟨x 0, x 1, x 2, x 3, eq_ix4 x⟩
    obtain rfl : a = 0 := Subsingleton.elim _ _
    obtain rfl : b = 0 := Subsingleton.elim _ _
    refine (e0 c d).trans (congrArg G (funext fun ax => Fin.ext ?_))
    match ax with
    | ⟨0, _⟩ => rfl
    | ⟨1, _⟩ => rfl
    | ⟨2, _⟩ => show c.val = 0 + 1 * c.val; omega
    | ⟨3, _⟩ => show d.val = 0 + 1 * d.val; omega
  rcases List.mem_cons.1 hp with rfl | hp
  · obtain ⟨a, b, c, d, rfl⟩ : ∃ (a : Fin 1) (b : Fin 1) (c : Fin 256) (d : Fin 128), x = ix4 a b c d := ⟨x 0, x 1, x 2, x 3, eq_ix4 x⟩
    obtain rfl : a = 0 := Subsingleton.elim _ _
    obtain rfl : b = 0 := Subsingleton.elim _ _
    refine (e1 c d).trans (congrArg G (funext fun ax => Fin.ext ?_))
    match ax with
    | ⟨0, _⟩ => rfl
    | ⟨1, _⟩ => rfl
    | ⟨2, _⟩ => show c.val = 0 + 1 * c.val; omega
    | ⟨3, _⟩ => show d.val = 0 + 1 * d.val; omega
  rcases List.mem_cons.1 hp with rfl | hp
  · obtain ⟨a, b, c, d, rfl⟩ : ∃ (a : Fin 1) (b : Fin 1) (c : Fin 256) (d : Fin 128), x = ix4 a b c d := ⟨x 0, x 1, x 2, x 3, eq_ix4 x⟩
    obtain rfl : a = 0 := Subsingleton.elim _ _
    obtain rfl : b = 0 := Subsingleton.elim _ _
    refine (e2 c d).trans (congrArg G (funext fun ax => Fin.ext ?_))
    match ax with
    | ⟨0, _⟩ => rfl
    | ⟨1, _⟩ => rfl
    | ⟨2, _⟩ => show c.val = 0 + 1 * c.val; omega
    | ⟨3, _⟩ => show d.val = 0 + 1 * d.val; omega
  rcases List.mem_singleton.1 hp with rfl
  obtain ⟨a, b, c, d, rfl⟩ : ∃ (a : Fin 1) (b : Fin 1) (c : Fin 256) (d : Fin 128), x = ix4 a b c d := ⟨x 0, x 1, x 2, x 3, eq_ix4 x⟩
  obtain rfl : a = 0 := Subsingleton.elim _ _
  obtain rfl : b = 0 := Subsingleton.elim _ _
  refine (e3 c d).trans (congrArg G (funext fun ax => Fin.ext ?_))
  match ax with
  | ⟨0, _⟩ => rfl
  | ⟨1, _⟩ => rfl
  | ⟨2, _⟩ => show c.val = 0 + 1 * c.val; omega
  | ⟨3, _⟩ => show d.val = 0 + 1 * d.val; omega

section
variable (x0 x1 : Vec Ideal S4096x128 .f32) (x2 : Vec Ideal S32x1x128 .f32) (x3 : Vec Ideal S32x128x512 .bf16) (x4 : Vec Ideal S256x128 .bf16)
/-- One hidden unit before the nonlinearity: the first 16 positions at the block, the next 16 at the block after it. -/
def pre (x : Vec Ideal S4096x128 .f32) (n : Fin 256) (q : Fin 512) : EReal :=
  (∑ l : Fin 16, term x x2 x3 n q l ⟨l.val, by omega⟩)
    + ∑ l : Fin 16, term x x2 x3 ⟨(n.val + 1) % 256, Nat.mod_lt _ (by decide)⟩ q l ⟨16 + l.val, by omega⟩
/-- The block at head `h`. -/
def blk (h : Fin 4) (n : Fin 256) (q : Fin 128) : EReal :=
  ∑ f : Fin 256, gelu (pre x2 x3 (if h.val < 2 then x0 else x1) n ⟨256 * (h.val % 2) + f.val, by omega⟩) * x4 (ix2 f q)
theorem blk_hi (h : Fin 4) (hh : ¬ h.val < 2) (n : Fin 256) (q : Fin 128) :
    blk x0 x1 x2 x3 x4 h n q = ∑ f : Fin 256, gelu (pre x2 x3 x1 n ⟨256 * (h.val % 2) + f.val, by omega⟩) * x4 (ix2 f q) := by
  unfold blk
  simp only [if_neg hh]
theorem unit_apply (x : Vec Ideal S4096x128 .f32) (n : Fin 256) (q : Fin 512) :
    bent (both (first x x2 x3) (second x x2 x3)) (ix2 n q) = gelu (pre x2 x3 x n q) := by
  rw [bent_apply, both_apply, first_apply, second_apply]
  rfl
variable (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S32x1x128 .f32) (harg3 : arg3.IsWhole) (arg4 : Memref sig .tc .vmem S32x128x512 .bf16) (harg4 : arg4.IsWhole) (arg5 : Memref sig .tc .vmem S256x128 .bf16) (harg5 : arg5.IsWhole) (arg6 : Memref sig .tc .vmem S1x4x256x128 .bf16) (harg6 : arg6.IsWhole)
/-- Every point leaves its block. -/
theorem out (h : Fin 4) (n : Fin 256) (q : Fin 128) :
    out0_A_5 c i arg1 harg1 arg2 harg2 arg3 harg3 arg4 harg4 arg5 harg5 arg6 harg6 x0 x1 x2 x3 x4 (ix4 0 h n q) = blk x0 x1 x2 x3 x4 h n q := by
  frame_out
  refine tiles_c (e := .bf16) (fun y => blk x0 x1 x2 x3 x4 (y 1) (y 2) (y 3)) _ _ _ _ ?_ ?_ ?_ ?_ _
  · intro n q
    refine Eq.trans (?_ : _ = down x4 256 slices_S256x512_o0_256_S256x256 (bent (both (first x1 x2 x3) (second x1 x2 x3))) (ix4 0 0 n q)) ?_
    · have e : ∀ l i, View.readAt (Elt Ideal) arg2.view { off := ![l, 0], size := ![256, 128], stride := ![16, 1], inb := i } (harg2.unread x1) = slab x1 l i := fun l i => by
        funext j
        rw [View.readAt_apply, harg2.read_unread]
        rfl
      simp only [e]
      refine (show k0_pay3 _ _ _ _ _ = down x4 256 slices_S256x512_o0_256_S256x256 (bent (k0_pay56 _ _ _ _ _ _ _ _ _)) _ from rfl).trans ?_
      refine congrArg (fun v => down x4 256 slices_S256x512_o0_256_S256x256 (bent v) (ix4 0 0 n q)) ?_
      rfl
    · refine Eq.trans ?_ (blk_hi x0 x1 x2 x3 x4 3 (by decide) n q).symm
      exact (down_256 x4 _ n q).trans (Finset.sum_congr rfl fun f _ => congrArg (fun z : EReal => z * x4 (ix2 f q)) (unit_apply x2 x3 x1 n _))
  · intro n q
    refine Eq.trans (?_ : _ = down x4 0 slices_S256x512_o0_0_S256x256 (bent (both (first x1 x2 x3) (second x1 x2 x3))) (ix4 0 0 n q)) ?_
    · have e : ∀ l i, View.readAt (Elt Ideal) arg2.view { off := ![l, 0], size := ![256, 128], stride := ![16, 1], inb := i } (harg2.unread x1) = slab x1 l i := fun l i => by
        funext j
        rw [View.readAt_apply, harg2.read_unread]
        rfl
      simp only [e]
      refine (show k0_pay2 _ _ _ _ _ = down x4 0 slices_S256x512_o0_0_S256x256 (bent (k0_pay56 _ _ _ _ _ _ _ _ _)) _ from rfl).trans ?_
      refine congrArg (fun v => down x4 0 slices_S256x512_o0_0_S256x256 (bent v) (ix4 0 0 n q)) ?_
      rfl
    · refine Eq.trans ?_ (blk_hi x0 x1 x2 x3 x4 2 (by decide) n q).symm
      exact (down_0 x4 _ n q).trans (Finset.sum_congr rfl fun f _ => congrArg (fun z : EReal => z * x4 (ix2 f q)) (unit_apply x2 x3 x1 n _))
  · intro n q
    refine Eq.trans (?_ : _ = down x4 256 slices_S256x512_o0_256_S256x256 (bent (both (first x0 x2 x3) (second x0 x2 x3))) (ix4 0 0 n q)) ?_
    · have e : ∀ l i, View.readAt (Elt Ideal) arg1.view { off := ![l, 0], size := ![256, 128], stride := ![16, 1], inb := i } (harg1.unread x0) = slab x0 l i := fun l i => by
        funext j
        rw [View.readAt_apply, harg1.read_unread]
        rfl
      simp only [e]
      rfl
    · refine (down_256 x4 _ n q).trans (Finset.sum_congr rfl fun f _ => congrArg (fun z : EReal => z * x4 (ix2 f q)) (unit_apply x2 x3 x0 n _))
  · intro n q
    refine Eq.trans (?_ : _ = down x4 0 slices_S256x512_o0_0_S256x256 (bent (both (first x0 x2 x3) (second x0 x2 x3))) (ix4 0 0 n q)) ?_
    · have e : ∀ l i, View.readAt (Elt Ideal) arg1.view { off := ![l, 0], size := ![256, 128], stride := ![16, 1], inb := i } (harg1.unread x0) = slab x0 l i := fun l i => by
        funext j
        rw [View.readAt_apply, harg1.read_unread]
        rfl
      simp only [e]
      rfl
    · refine (down_0 x4 _ n q).trans (Finset.sum_congr rfl fun f _ => congrArg (fun z : EReal => z * x4 (ix2 f q)) (unit_apply x2 x3 x0 n _))
end
end Cert.CmpkIdeal.Block
end
-- ==== Proof.CmpkIn.lean ====
/-
  What the blocks of the key compression's call hold, in terms of the arguments: each window's block at a grid point,
  read at an index.
-/
module
public import proofs.«01_k».proof.Proof.CmpSpec
public import proofs.«01_k».proof.Proof.Gen.CmpkIdeal.Frame
public import Idealize.ShloMosaic.Lib.StableHlo.ReadAt
public import Idealize.ShloMosaic.Lib.Pointwise
@[expose] public section
set_option maxRecDepth 16384
noncomputable section
namespace Cert.CmpkIdeal.In
open Cert.CmpkIdeal Cert.CmpkIdeal.Gen Idealize.ShloMosaic Idealize.ShloMosaic.TcCoe Idealize.SL.Sem Layer
variable (m : (ℓ : Loc nD τ sig) → Buf (Elt Ideal) ℓ)

/-- The positions' own vectors, once per head of a tile. -/
theorem vectors (c : Dev nD) (l : Fin 32) (j : Fin 128) :
    V m c main_v18 (ix3 l 0 j) = m ((c : Thread nD τ).loc main_arg3) (ix3 0 l ⟨j.val % 64, Nat.mod_lt _ (by decide)⟩) := by
  unfold V
  after_reads_at
/-- The first weights, one head's on each half of the lanes and nothing across. -/
theorem weights (c : Dev nD) (l : Fin 32) (j : Fin 128) (q : Fin 512) :
    V m c main_v19 (ix3 l j q) = across (fun l d f => m ((c : Thread nD τ).loc main_arg1) (ix4 0 l d f)) l j q := by
  unfold V
  after_reads_at
  unfold across
  refine congrArg (fun z : EReal => HMul.hMul (α := EReal) _ z) ?_
  rcases (by omega : j.val / 64 = 0 ∨ j.val / 64 = 1) with hj | hj <;> rcases (by omega : q.val / 256 = 0 ∨ q.val / 256 = 1) with hq | hq <;>
    rw [hj, hq] <;> simp [FloatOps.uitofp, IntOp.cmpi, IntOp.addi]
/-- The second weights, 64 columns of them and zeros after. -/
theorem seconds (c : Dev nD) (f : Fin 256) (q : Fin 128) :
    V m c main_v21 (ix2 f q) = widened (fun f q => m ((c : Thread nD τ).loc main_arg2) (ix3 0 f q)) f q := by
  unfold V
  after_reads_at
  unfold widened
  by_cases h : q.val < 64
  · rw [dif_pos h, dif_pos h]
  · rw [dif_neg h, dif_neg h]
    simp [FloatOps.sitofp]
/-- Where each window's block lies. -/
theorem places : ∀ t : Fin cfg0.N, (win0_0.index t (0 : Fin 2) = t.val ∧ win0_0.index t (1 : Fin 2) = 0)
    ∧ (win0_1.index t (0 : Fin 2) = t.val ∧ win0_1.index t (1 : Fin 2) = 1)
    ∧ (win0_2.index t (0 : Fin 3) = 0 ∧ win0_2.index t (1 : Fin 3) = 0 ∧ win0_2.index t (2 : Fin 3) = 0)
    ∧ (win0_3.index t (0 : Fin 3) = 0 ∧ win0_3.index t (1 : Fin 3) = 0 ∧ win0_3.index t (2 : Fin 3) = 0)
    ∧ (win0_4.index t (0 : Fin 2) = 0 ∧ win0_4.index t (1 : Fin 2) = 0)
    ∧ (win0_5.index t (0 : Fin 4) = t.val ∧ win0_5.index t (1 : Fin 4) = 0 ∧ win0_5.index t (2 : Fin 4) = 0 ∧ win0_5.index t (3 : Fin 4) = 0) :=
  (by decide +kernel : ∀ t : Fin grid0.N, _)

/-- A point's number is below 4. -/
theorem pointLt (t : Fin cfg0.N) : t.val < 4 := lt_of_lt_of_eq t.isLt (show cfg0.N = 4 from N_0)
/-- Row `r` of the block at point `t`, numbered through. -/
abbrev at_ (t : Fin cfg0.N) (r : Fin 4096) : Fin 16384 := ⟨4096 * t.val + r.val, by have := pointLt t; omega⟩

theorem blk0 (c : Dev nD) (t : Fin cfg0.N) (r : Fin 4096) (k : Fin 128) :
    iblk m c 0 t (ix2 r k) = m ((c : Thread nD τ).loc main_arg0) (ix2 (at_ t r) ⟨k.val, by omega⟩) := by
  obtain ⟨⟨e0, e1⟩, -⟩ := places t
  rw [← V_main_arg0 m c]
  unfold iblk
  rw [View.read_apply]
  show V m c main_arg0 _ = V m c main_arg0 _
  refine congrArg _ (funext fun a => Fin.ext ?_)
  match a with
  | ⟨0, _⟩ => show win0_0.index t (0 : Fin 2) * 4096 + 1 * r.val = 4096 * t.val + r.val; rw [e0]; omega
  | ⟨1, _⟩ => show win0_0.index t (1 : Fin 2) * 128 + 1 * k.val = k.val; rw [e1]; omega
theorem blk1 (c : Dev nD) (t : Fin cfg0.N) (r : Fin 4096) (k : Fin 128) :
    iblk m c 1 t (ix2 r k) = m ((c : Thread nD τ).loc main_arg0) (ix2 (at_ t r) ⟨128 + k.val, by omega⟩) := by
  obtain ⟨-, ⟨e0, e1⟩, -⟩ := places t
  rw [← V_main_arg0 m c]
  unfold iblk
  rw [View.read_apply]
  show V m c main_arg0 _ = V m c main_arg0 _
  refine congrArg _ (funext fun a => Fin.ext ?_)
  match a with
  | ⟨0, _⟩ => show win0_1.index t (0 : Fin 2) * 4096 + 1 * r.val = 4096 * t.val + r.val; rw [e0]; omega
  | ⟨1, _⟩ => show win0_1.index t (1 : Fin 2) * 128 + 1 * k.val = 128 + k.val; rw [e1]; omega
theorem blk2 (c : Dev nD) (t : Fin cfg0.N) (l : Fin 32) (j : Fin 128) :
    iblk m c 2 t (ix3 l 0 j) = m ((c : Thread nD τ).loc main_arg3) (ix3 0 l ⟨j.val % 64, Nat.mod_lt _ (by decide)⟩) := by
  obtain ⟨-, -, ⟨e0, e1, e2⟩, -⟩ := places t
  refine Eq.trans ?_ (vectors m c l j)
  unfold iblk
  rw [View.read_apply]
  show V m c main_v18 _ = V m c main_v18 _
  refine congrArg _ (funext fun a => Fin.ext ?_)
  match a with
  | ⟨0, _⟩ => show win0_2.index t (0 : Fin 3) * 32 + 1 * l.val = l.val; rw [e0]; omega
  | ⟨1, _⟩ => show win0_2.index t (1 : Fin 3) * 1 + 1 * 0 = 0; rw [e1]
  | ⟨2, _⟩ => show win0_2.index t (2 : Fin 3) * 128 + 1 * j.val = j.val; rw [e2]; omega
theorem blk3 (c : Dev nD) (t : Fin cfg0.N) (l : Fin 32) (j : Fin 128) (q : Fin 512) :
    iblk m c 3 t (ix3 l j q) = across (fun l d f => m ((c : Thread nD τ).loc main_arg1) (ix4 0 l d f)) l j q := by
  obtain ⟨-, -, -, ⟨e0, e1, e2⟩, -⟩ := places t
  refine Eq.trans ?_ (weights m c l j q)
  unfold iblk
  rw [View.read_apply]
  show V m c main_v19 _ = V m c main_v19 _
  refine congrArg _ (funext fun a => Fin.ext ?_)
  match a with
  | ⟨0, _⟩ => show win0_3.index t (0 : Fin 3) * 32 + 1 * l.val = l.val; rw [e0]; omega
  | ⟨1, _⟩ => show win0_3.index t (1 : Fin 3) * 128 + 1 * j.val = j.val; rw [e1]; omega
  | ⟨2, _⟩ => show win0_3.index t (2 : Fin 3) * 512 + 1 * q.val = q.val; rw [e2]; omega
theorem blk4 (c : Dev nD) (t : Fin cfg0.N) (f : Fin 256) (q : Fin 128) :
    iblk m c 4 t (ix2 f q) = widened (fun f q => m ((c : Thread nD τ).loc main_arg2) (ix3 0 f q)) f q := by
  obtain ⟨-, -, -, -, ⟨e0, e1⟩, -⟩ := places t
  refine Eq.trans ?_ (seconds m c f q)
  unfold iblk
  rw [View.read_apply]
  show V m c main_v21 _ = V m c main_v21 _
  refine congrArg _ (funext fun a => Fin.ext ?_)
  match a with
  | ⟨0, _⟩ => show win0_4.index t (0 : Fin 2) * 256 + 1 * f.val = f.val; rw [e0]; omega
  | ⟨1, _⟩ => show win0_4.index t (1 : Fin 2) * 128 + 1 * q.val = q.val; rw [e1]; omega
end Cert.CmpkIdeal.In
end
-- ==== Proof.CmpkKernel.lean ====
/-
  What the key compression's call leaves in its result: each block of 32 positions, 16 apart, through the network. Each
  sequence is written by one grid point.
-/
module
public import proofs.«01_k».proof.Proof.CmpkBlock
public import proofs.«01_k».proof.Proof.CmpkIn
public import proofs.«01_k».proof.Proof.Gen.CmpkIdeal.Value
@[expose] public section
set_option maxRecDepth 16384
noncomputable section
namespace Cert.CmpkIdeal.Kernel
open Cert.CmpkIdeal Cert.CmpkIdeal.Gen Idealize.ShloMosaic Idealize.ShloMosaic.TcCoe Idealize.SL.Sem Layer
open Cert.CmpkIdeal.In Cert.CmpkIdeal.Block

section
variable (x : Vec Ideal S4096x128 .f32) (x2 : Vec Ideal S32x1x128 .f32) (x3 : Vec Ideal S32x128x512 .bf16)
  (P : Fin 32 → Fin 64 → EReal) (W : Fin 32 → Fin 64 → Fin 256 → EReal)
  (h2 : ∀ l j, x2 (ix3 l 0 j) = P l ⟨j.val % 64, Nat.mod_lt _ (by decide)⟩) (h3 : ∀ l j q, x3 (ix3 l j q) = across W l j q)
include h2 h3
/-- One position's part of a head's unit is over that head's lanes. -/
theorem term_at (k : ℕ) (hk : k < 2) (n : Fin 256) (f : Fin 256) (l : Fin 16) (m : Fin 32) :
    term x x2 x3 n ⟨256 * k + f.val, by omega⟩ l m
      = ∑ d : Fin 64, (x (ix2 ⟨16 * n.val + l.val, by omega⟩ ⟨64 * k + d.val, by omega⟩) + P m d) * W m d f := by
  unfold term
  refine Eq.trans (Finset.sum_congr rfl fun j _ => ?_) (lanes k hk (fun j => x (ix2 ⟨16 * n.val + l.val, by omega⟩ j)) (P m) (fun d => W m d f))
  rw [h2, h3]
  unfold across
  have e : (⟨(256 * k + f.val) % 256, Nat.mod_lt _ (by decide)⟩ : Fin 256) = f := Fin.ext (show (256 * k + f.val) % 256 = f.val by omega)
  have e' : (256 * k + f.val) / 256 = k := by omega
  dsimp only
  rw [e, e']
theorem pre_at (k : ℕ) (hk : k < 2) (n : Fin 256) (f : Fin 256) :
    pre x2 x3 x n ⟨256 * k + f.val, by omega⟩
      = cell (fun l d => x (ix2 ⟨16 * n.val + l.val, by omega⟩ ⟨64 * k + d.val, by omega⟩))
          (fun l d => x (ix2 ⟨16 * (after n).val + l.val, by omega⟩ ⟨64 * k + d.val, by omega⟩)) P (fun l d => W l d f) := by
  rw [cell_halves]
  unfold pre
  simp only [term_at x x2 x3 P W h2 h3 k hk]
end

variable (m : (ℓ : Loc nD τ sig) → Buf (Elt Ideal) ℓ)
/-- The result. -/
def result (c : Dev nD) (b h : Fin 4) (n : Fin 256) (q : Fin 128) : EReal :=
  squeezed (fun r k => m ((c : Thread nD τ).loc main_arg0) (ix2 r k)) (fun l d f => m ((c : Thread nD τ).loc main_arg1) (ix4 0 l d f))
    (fun f q => m ((c : Thread nD τ).loc main_arg2) (ix3 0 f q)) (fun l d => m ((c : Thread nD τ).loc main_arg3) (ix3 0 l d)) b h n q

theorem left (c : Dev nD) (t : Fin cfg0.N) (b : Fin 4) (hb : t.val = b.val) (h : Fin 4) (n : Fin 256) (q : Fin 128) :
    blk (iblk m c 0 t) (iblk m c 1 t) (iblk m c 2 t) (iblk m c 3 t) (iblk m c 4 t) h n q = result m c b h n q := by
  unfold blk result squeezed
  refine Finset.sum_congr rfl fun f _ => ?_
  refine congrArg₂ (fun u v : EReal => gelu u * v) ?_ (blk4 m c t f q)
  refine (pre_at _ _ _ (fun l d => m ((c : Thread nD τ).loc main_arg3) (ix3 0 l d)) _ (blk2 m c t) (blk3 m c t) (h.val % 2) (Nat.mod_lt _ (by decide)) n f).trans ?_
  have e : ∀ (n : Fin 256) (l : Fin 16) (d : Fin 64),
      (if h.val < 2 then iblk m c 0 t else iblk m c 1 t : Vec Ideal S4096x128 .f32) (ix2 ⟨16 * n.val + l.val, by omega⟩ ⟨64 * (h.val % 2) + d.val, by omega⟩)
        = m ((c : Thread nD τ).loc main_arg0) (ix2 (spot b n l) ⟨64 * h.val + d.val, by omega⟩) := by
    intro n l d
    by_cases hh : h.val < 2
    · rw [if_pos hh]
      refine (blk0 m c t _ _).trans (congrArg₂ (fun r k => m ((c : Thread nD τ).loc main_arg0) (ix2 r k)) (Fin.ext ?_) (Fin.ext ?_))
      · show 4096 * t.val + (16 * n.val + l.val) = 4096 * b.val + 16 * n.val + l.val; omega
      · show 64 * (h.val % 2) + d.val = 64 * h.val + d.val; omega
    · rw [if_neg hh]
      refine (blk1 m c t _ _).trans (congrArg₂ (fun r k => m ((c : Thread nD τ).loc main_arg0) (ix2 r k)) (Fin.ext ?_) (Fin.ext ?_))
      · show 4096 * t.val + (16 * n.val + l.val) = 4096 * b.val + 16 * n.val + l.val; omega
      · show 128 + (64 * (h.val % 2) + d.val) = 64 * h.val + d.val; omega
  refine congrArg₂ (fun lo hi => cell lo hi _ _) (funext fun l => funext fun d => e n l d) (funext fun l => funext fun d => e (after n) l d)

theorem array (c : Dev nD) (b h : Fin 4) (n : Fin 256) (q : Fin 128) : (dats m 0 c).arrAt 5 cfg0.N (ix4 b h n q) = result m c b h n q := by
  obtain ⟨t, ht⟩ : ∃ t : Fin cfg0.N, t.val = b.val := ⟨⟨b.val, by rw [show cfg0.N = 4 from N_0]; exact b.isLt⟩, rfl⟩
  have hf : ∀ t : Fin cfg0.N, (cfg0.win 5).flush t = true := (by decide +kernel : ∀ t : Fin grid0.N, _)
  have H := congrFun (Value.blocks5 m c t (hf t)) (ix4 0 h n q)
  rw [View.read_apply, Value.flushed5_A] at H
  obtain ⟨-, -, -, -, -, ⟨e0, e1, e2, e3⟩⟩ := places t
  refine Eq.trans (congrArg _ (funext fun a => Fin.ext ?_)) (H.trans ?_)
  · match a with
    | ⟨0, _⟩ => show b.val = win0_5.index t (0 : Fin 4) * 1 + 1 * 0; rw [e0]; omega
    | ⟨1, _⟩ => show h.val = win0_5.index t (1 : Fin 4) * 4 + 1 * h.val; rw [e1]; omega
    | ⟨2, _⟩ => show n.val = win0_5.index t (2 : Fin 4) * 256 + 1 * n.val; rw [e2]; omega
    | ⟨3, _⟩ => show q.val = win0_5.index t (3 : Fin 4) * 128 + 1 * q.val; rw [e3]; omega
  · exact (out _ _ _ _ _ _ _ _ _ _ _ _ _ _ _ _ _ _ _ h n q).trans (left m c t b ht h n q)
end Cert.CmpkIdeal.Kernel
end
-- ==== Proof.CmpkRef.lean ====
/-
  The key compression as the problem writes it, read at an index.
-/
module
public import proofs.«01_k».proof.Proof.Gen.CmpkRefIdeal.Read
public import proofs.«01_k».proof.Proof.CmpSpec
public import Idealize.ShloMosaic.Lib.Pointwise
@[expose] public section
set_option maxRecDepth 16384
noncomputable section
namespace Cert.CmpkRefIdeal.Ref
open Cert.CmpkRefIdeal Cert.CmpkRefIdeal.Gen Cert.CmpkRefIdeal.Read Idealize.ShloMosaic Layer
variable (x0 : (⟨S16384x256, .f32⟩ : BufTy).Contents (Elt Ideal)) (x1 : (⟨S1x32x64x256, .f32⟩ : BufTy).Contents (Elt Ideal))
  (x2 : (⟨S1x256x64, .f32⟩ : BufTy).Contents (Elt Ideal)) (x3 : (⟨S1x32x64, .f32⟩ : BufTy).Contents (Elt Ideal))

/-- The rows, in blocks of 16. -/
theorem blocked (b : Fin 4) (n : Fin 256) (l : Fin 16) (h : Fin 4) (d : Fin 64) :
    val_main_v0 (F := Ideal) x0 (ix5 b n l h d) = x0 (ix2 (spot b n l) ⟨64 * h.val + d.val, by omega⟩) := by
  rw [val_main_v0_apply]
  refine congrArg x0 (funext fun a => Fin.ext ?_)
  match a with
  | ⟨0, _⟩ => show ((((b.val * 256 + n.val) * 16 + l.val) * 4 + h.val) * 64 + d.val) / 256 = 4096 * b.val + 16 * n.val + l.val; omega
  | ⟨1, _⟩ => show ((((b.val * 256 + n.val) * 16 + l.val) * 4 + h.val) * 64 + d.val) % 256 = 64 * h.val + d.val; omega
theorem next_inner (b : Fin 4) (n : Fin 255) (l : Fin 16) (h : Fin 4) (d : Fin 64) :
    val_main_v3 (F := Ideal) x0 (ix5 b ⟨n.val, by omega⟩ l h d) = val_main_v0 (F := Ideal) x0 (ix5 b ⟨1 + n.val, by omega⟩ l h d) := by
  unfold val_main_v3 val_main_v1
  generalize val_main_v0 (F := Ideal) x0 = y
  pointwise
theorem next_last (b : Fin 4) (n : Fin 1) (l : Fin 16) (h : Fin 4) (d : Fin 64) :
    val_main_v3 (F := Ideal) x0 (ix5 b ⟨255 + n.val, by omega⟩ l h d) = val_main_v0 (F := Ideal) x0 (ix5 b ⟨n.val, by omega⟩ l h d) := by
  unfold val_main_v3 val_main_v2
  generalize val_main_v0 (F := Ideal) x0 = y
  pointwise
/-- The block after each. -/
theorem next (b : Fin 4) (n : Fin 256) (l : Fin 16) (h : Fin 4) (d : Fin 64) :
    val_main_v3 (F := Ideal) x0 (ix5 b n l h d) = val_main_v0 (F := Ideal) x0 (ix5 b (after n) l h d) := by
  by_cases hn : n.val < 255
  · refine (next_inner x0 b ⟨n.val, hn⟩ l h d).trans (congrArg (fun k => val_main_v0 (F := Ideal) x0 (ix5 b k l h d)) (Fin.ext ?_))
    show 1 + n.val = (n.val + 1) % 256
    omega
  · have e : n = ⟨255 + (0 : Fin 1).val, by decide⟩ := Fin.ext (show n.val = 255 by omega)
    subst e
    exact next_last x0 b 0 l h d
theorem pair_lo (b : Fin 4) (n : Fin 256) (l : Fin 16) (h : Fin 4) (d : Fin 64) :
    val_main_v4 (F := Ideal) x0 (ix5 b n ⟨l.val, by omega⟩ h d) = val_main_v0 (F := Ideal) x0 (ix5 b n l h d) := by
  unfold val_main_v4
  generalize val_main_v0 (F := Ideal) x0 = y
  generalize val_main_v3 (F := Ideal) x0 = z
  pointwise
theorem pair_hi (b : Fin 4) (n : Fin 256) (l : Fin 16) (h : Fin 4) (d : Fin 64) :
    val_main_v4 (F := Ideal) x0 (ix5 b n ⟨16 + l.val, by omega⟩ h d) = val_main_v3 (F := Ideal) x0 (ix5 b n l h d) := by
  unfold val_main_v4
  generalize val_main_v0 (F := Ideal) x0 = y
  generalize val_main_v3 (F := Ideal) x0 = z
  pointwise
/-- A block of 32. -/
theorem pair (b : Fin 4) (n : Fin 256) (l : Fin 32) (h : Fin 4) (d : Fin 64) :
    val_main_v4 (F := Ideal) x0 (ix5 b n l h d)
      = if hl : l.val < 16 then x0 (ix2 (spot b n ⟨l.val, hl⟩) ⟨64 * h.val + d.val, by omega⟩)
        else x0 (ix2 (spot b (after n) ⟨l.val - 16, by omega⟩) ⟨64 * h.val + d.val, by omega⟩) := by
  by_cases hl : l.val < 16
  · rw [dif_pos hl]
    exact (pair_lo x0 b n ⟨l.val, hl⟩ h d).trans (blocked x0 b n _ h d)
  · rw [dif_neg hl]
    refine Eq.trans ?_ ((pair_hi x0 b n ⟨l.val - 16, by omega⟩ h d).trans ((next x0 b n _ h d).trans (blocked x0 b (after n) _ h d)))
    exact congrArg (fun l => val_main_v4 (F := Ideal) x0 (ix5 b n l h d)) (Fin.ext (show l.val = 16 + (l.val - 16) by omega))

theorem unit (b : Fin 4) (n : Fin 256) (h : Fin 4) (f : Fin 256) :
    val_main_v10 (F := Ideal) x0 x1 x3 (ix4 b n h f)
      = cell (fun l d => x0 (ix2 (spot b n l) ⟨64 * h.val + d.val, by omega⟩)) (fun l d => x0 (ix2 (spot b (after n) l) ⟨64 * h.val + d.val, by omega⟩))
          (fun l d => x3 (ix3 0 l d)) (fun l d => x1 (ix4 0 l d f)) := by
  pointwise [val_main_v10, val_main_v9, val_main_v8, val_main_v7, val_main_v6, val_main_v5]
  unfold cell
  simp only [pair]
theorem bent (b : Fin 4) (n : Fin 256) (h : Fin 4) (f : Fin 256) :
    val_main_v23 (F := Ideal) x0 x1 x3 (ix4 b n h f) = gelu (val_main_v10 (F := Ideal) x0 x1 x3 (ix4 b n h f)) := by
  unfold gelu
  pointwise [val_main_v23, val_main_v22, val_main_v21, val_main_v20, val_main_v19, val_main_v18, val_main_v17, val_main_v16, val_main_v15, val_main_v14, val_main_v13, val_main_v12, val_main_v11, val_main_cst, val_main_cst_0, val_main_cst_1, val_main_cst_2]
  rw [mul_comm (val_main_v10 (F := Ideal) x0 x1 x3 (ix4 b n h f) * val_main_v10 (F := Ideal) x0 x1 x3 (ix4 b n h f))]
theorem result (b h : Fin 4) (n : Fin 256) (q : Fin 128) :
    val_main_v28 (F := Ideal) x0 x1 x2 x3 (ix4 b h n q)
      = squeezed (fun r k => x0 (ix2 r k)) (fun l d f => x1 (ix4 0 l d f)) (fun f q => x2 (ix3 0 f q)) (fun l d => x3 (ix3 0 l d)) b h n q := by
  unfold squeezed widened
  unfold val_main_v28 val_main_v27 val_main_call0_v0 val_main_c
  pointwise [val_main_v26, val_main_v25, val_main_v24]
  by_cases hq : q.val < 64
  · simp only [dif_pos hq, bent, unit]
  · simp only [dif_neg hq, mul_zero, Finset.sum_const_zero]
    simp [FloatOps.sitofp]
end Cert.CmpkRefIdeal.Ref
end
-- ==== Proof.CmpkClaim.lean ====
/-
  The key compression's call: its frames, and its value against the problem's own lines.
-/
module
public import proofs.«01_k».proof.Proof.CmpkKernel
public import proofs.«01_k».proof.Proof.CmpkRef
public import proofs.«01_k».proof.Proof.Gen.Cmpk.Frame
public import proofs.«01_k».proof.Defs
@[expose] public section
set_option maxRecDepth 16384
noncomputable section
namespace Cert.Proof.CmpkClaim
open Idealize.ShloMosaic Idealize.ShloMosaic.TcCoe Idealize.SL.Sem Layer

theorem frame_kernel : Cert.quiescent_Cmpk := fun m ρ _ => Cert.Cmpk.Gen.frame m ρ
theorem frame_ideal : Cert.quiescent_CmpkIdeal := fun m ρ _ => Cert.CmpkIdeal.Gen.frame m ρ
theorem frame_reference : Cert.quiescent_CmpkRefIdeal := fun m ρ _ =>
  (θ_run Cert.CmpkRefIdeal.defs _ _).mono (fun r h => ⟨fun c => (h c).2, sem_eq_zero_of_no_sems (by decide) r.2⟩)
    (Cert.CmpkRefIdeal.Value.run (F := Ideal) m ρ)
theorem preserves : Cert.preserves_Cmpk_CmpkIdeal := trivial

/-- Both sides are each block of 32 positions through the network. -/
theorem algebraic : Cert.algebraic_CmpkIdeal_CmpkRefIdeal := by
  intro m ρ m' ρ' _ hagree
  refine ⟨fun c => (Cert.CmpkIdeal.Gen.dats m 0 c).arrAt 5 Cert.CmpkIdeal.cfg0.N, Cert.CmpkIdeal.Value.run_blocks (F := Ideal) m ρ, ?_⟩
  refine (θ_run Cert.CmpkRefIdeal.defs _ _).mono (fun _ h c => ?_) (Cert.CmpkRefIdeal.Value.run (F := Ideal) m' ρ')
  refine ⟨(h c).1.trans ?_, (h c).2⟩
  obtain ⟨e0, e1, e2, e3⟩ := hagree c
  rw [Cert.CmpkRefIdeal.Read.val_main_v28_eq, e0, e1, e2, e3]
  funext j
  obtain ⟨b, h, n, q, rfl⟩ : ∃ (b h : Fin 4) (n : Fin 256) (q : Fin 128), j = ix4 b h n q := ⟨j 0, j 1, j 2, j 3, eq_ix4 j⟩
  exact (Cert.CmpkRefIdeal.Ref.result _ _ _ _ b h n q).trans (Cert.CmpkIdeal.Kernel.array m c b h n q).symm

end Cert.Proof.CmpkClaim
end
-- ==== Proof.CmpvBlock.lean ====
/-
  The value compression's call, one grid point at a time: what it leaves in its block, read at an index. A tile of two
  heads' lanes is summed over 16 positions of a block and the next 16 apart, the second sum brought back by one block.
-/
module
public import proofs.«01_k».proof.Proof.CmpSpec
public import proofs.«01_k».proof.Proof.Gen.CmpvIdeal.Frame
public import Idealize.ShloMosaic.Lib.Pointwise
public import Idealize.ShloMosaic.Lib.Pipeline.ValueKit
@[expose] public section
set_option maxRecDepth 16384
noncomputable section
namespace Cert.CmpvIdeal.Block
open Cert.CmpvIdeal Cert.CmpvIdeal.Gen Idealize.ShloMosaic Idealize.SL.Sem Layer

/-- Position `l` of each block of 16. -/
def slab (x : Vec Ideal S4096x128 .f32) (l : ℕ) (inb : ∀ a, S256x128.size a = 0 ∨ (![l, 0] : Fin 2 → ℕ) a + (![16, 1] : Fin 2 → ℕ) a * (S256x128.size a - 1) < S4096x128.size a) : Vec Ideal S256x128 .f32 :=
  fun j => x (LoadRect.idx { off := ![l, 0], size := ![256, 128], stride := ![16, 1], inb := inb } j)

theorem slab_apply (x : Vec Ideal S4096x128 .f32) (l : ℕ) (hl : l < 16) (inb) (n : Fin 256) (j : Fin 128) :
    slab x l inb (ix2 n j) = x (ix2 ⟨16 * n.val + l, by omega⟩ j) := by
  unfold slab
  refine congrArg x (funext fun a => Fin.ext ?_)
  match a with
  | ⟨0, _⟩ => show l + 16 * n.val = 16 * n.val + l; omega
  | ⟨1, _⟩ => show 0 + 1 * j.val = j.val; omega

/-- One position's rows, with its vector, against its weights, added on. -/
def step (acc : FVec Ideal S256x512 .f32) (v : Vec Ideal S256x128 .f32) (p : Vec Ideal S1x1x128 .f32) (w : Vec Ideal S1x128x512 .bf16) : FVec Ideal S256x512 .f32 :=
  addf acc (matmul (φ₂ := .bf16) dot_S256x128_S128x512_S256x512_1_0_0_1_n_n none
    (truncf .bf16 (addf v (broadcastTo S256x128 (shapeCast S1x128 p shapeCasts_S1x1x128_S1x128) broadcasts_S1x128_S256x128)) bitsLt_bf16_f32)
    (shapeCast S128x512 w shapeCasts_S1x128x512_S128x512) (constant S256x512 .f32 0x00000000#32))

theorem step_apply (acc : FVec Ideal S256x512 .f32) (v : Vec Ideal S256x128 .f32) (p : Vec Ideal S1x1x128 .f32) (w : Vec Ideal S1x128x512 .bf16) (n : Fin 256) (q : Fin 512) :
    step acc v p w (ix2 n q) = acc (ix2 n q) + ∑ j : Fin 128, (v (ix2 n j) + p (ix3 0 0 j)) * w (ix3 0 j q) := by
  pointwise [step]

def zeros : FVec Ideal S256x512 .f32 := broadcast S256x512 (Scalar.ofBits .f32 0x00000000#32)
theorem zeros_apply (n : Fin 256) (q : Fin 512) : zeros (ix2 n q) = 0 := by
  pointwise [zeros]

section
variable (x : Vec Ideal S4096x128 .f32) (x2 : Vec Ideal S32x1x128 .f32) (x3 : Vec Ideal S32x128x512 .bf16)

/-- What position `l` of block `n` of 16 adds to column `q`, with the vector and weights of position `m` of 32. -/
def term (n : Fin 256) (q : Fin 512) (l : Fin 16) (m : Fin 32) : EReal :=
  ∑ j : Fin 128, (x (ix2 ⟨16 * n.val + l.val, by omega⟩ j) + x2 (ix3 m 0 j)) * x3 (ix3 m j q)

theorem step_at (l : ℕ) (hl : l < 16) (m : ℕ) (hm : m < 32) (acc : FVec Ideal S256x512 .f32) (i1 i2 i3) (n : Fin 256) (q : Fin 512) :
    step acc (slab x l i1) (View.ld x2 (Rect.unit ![m, 0, 0] ![1, 1, 128] i2)) (View.ld x3 (Rect.unit ![m, 0, 0] ![1, 128, 512] i3)) (ix2 n q)
      = acc (ix2 n q) + term x x2 x3 n q ⟨l, hl⟩ ⟨m, hm⟩ := by
  rw [step_apply]
  refine congrArg (acc (ix2 n q) + ·) (Finset.sum_congr rfl fun j _ => ?_)
  rw [slab_apply x l hl]
  have e2 : (Rect.unit (s := S32x1x128) ![m, 0, 0] ![1, 1, 128] i2).idx (ix3 0 0 j) = ix3 ⟨m, hm⟩ 0 j := funext fun a => Fin.ext (by
    match a with
    | ⟨0, _⟩ => show m + 1 * 0 = m; omega
    | ⟨1, _⟩ => rfl
    | ⟨2, _⟩ => show 0 + 1 * j.val = j.val; omega)
  have e3 : (Rect.unit (s := S32x128x512) ![m, 0, 0] ![1, 128, 512] i3).idx (ix3 0 j q) = ix3 ⟨m, hm⟩ j q := funext fun a => Fin.ext (by
    match a with
    | ⟨0, _⟩ => show m + 1 * 0 = m; omega
    | ⟨1, _⟩ => show 0 + 1 * j.val = j.val; omega
    | ⟨2, _⟩ => show 0 + 1 * q.val = q.val; omega)
  exact congrArg₂ (fun s t => (_ + s) * t) (congrArg x2 e2) (congrArg x3 e3)

/-- The first 16 positions of each block of 32. -/
def first : FVec Ideal S256x512 .f32 :=
  step (step (step (step (step (step (step (step (step (step (step (step (step (step (step (step zeros (slab x 0 inb_S4096x128_S256x128_0_0_s_16_1) (View.ld x2 (Rect.unit ![0, 0, 0] ![1, 1, 128] inb_S32x1x128_S1x1x128_0_0_0)) (View.ld x3 (Rect.unit ![0, 0, 0] ![1, 128, 512] inb_S32x128x512_S1x128x512_0_0_0))) (slab x 1 inb_S4096x128_S256x128_1_0_s_16_1) (View.ld x2 (Rect.unit ![1, 0, 0] ![1, 1, 128] inb_S32x1x128_S1x1x128_1_0_0)) (View.ld x3 (Rect.unit ![1, 0, 0] ![1, 128, 512] inb_S32x128x512_S1x128x512_1_0_0))) (slab x 2 inb_S4096x128_S256x128_2_0_s_16_1) (View.ld x2 (Rect.unit ![2, 0, 0] ![1, 1, 128] inb_S32x1x128_S1x1x128_2_0_0)) (View.ld x3 (Rect.unit ![2, 0, 0] ![1, 128, 512] inb_S32x128x512_S1x128x512_2_0_0))) (slab x 3 inb_S4096x128_S256x128_3_0_s_16_1) (View.ld x2 (Rect.unit ![3, 0, 0] ![1, 1, 128] inb_S32x1x128_S1x1x128_3_0_0)) (View.ld x3 (Rect.unit ![3, 0, 0] ![1, 128, 512] inb_S32x128x512_S1x128x512_3_0_0))) (slab x 4 inb_S4096x128_S256x128_4_0_s_16_1) (View.ld x2 (Rect.unit ![4, 0, 0] ![1, 1, 128] inb_S32x1x128_S1x1x128_4_0_0)) (View.ld x3 (Rect.unit ![4, 0, 0] ![1, 128, 512] inb_S32x128x512_S1x128x512_4_0_0))) (slab x 5 inb_S4096x128_S256x128_5_0_s_16_1) (View.ld x2 (Rect.unit ![5, 0, 0] ![1, 1, 128] inb_S32x1x128_S1x1x128_5_0_0)) (View.ld x3 (Rect.unit ![5, 0, 0] ![1, 128, 512] inb_S32x128x512_S1x128x512_5_0_0))) (slab x 6 inb_S4096x128_S256x128_6_0_s_16_1) (View.ld x2 (Rect.unit ![6, 0, 0] ![1, 1, 128] inb_S32x1x128_S1x1x128_6_0_0)) (View.ld x3 (Rect.unit ![6, 0, 0] ![1, 128, 512] inb_S32x128x512_S1x128x512_6_0_0))) (slab x 7 inb_S4096x128_S256x128_7_0_s_16_1) (View.ld x2 (Rect.unit ![7, 0, 0] ![1, 1, 128] inb_S32x1x128_S1x1x128_7_0_0)) (View.ld x3 (Rect.unit ![7, 0, 0] ![1, 128, 512] inb_S32x128x512_S1x128x512_7_0_0))) (slab x 8 inb_S4096x128_S256x128_8_0_s_16_1) (View.ld x2 (Rect.unit ![8, 0, 0] ![1, 1, 128] inb_S32x1x128_S1x1x128_8_0_0)) (View.ld x3 (Rect.unit ![8, 0, 0] ![1, 128, 512] inb_S32x128x512_S1x128x512_8_0_0))) (slab x 9 inb_S4096x128_S256x128_9_0_s_16_1) (View.ld x2 (Rect.unit ![9, 0, 0] ![1, 1, 128] inb_S32x1x128_S1x1x128_9_0_0)) (View.ld x3 (Rect.unit ![9, 0, 0] ![1, 128, 512] inb_S32x128x512_S1x128x512_9_0_0))) (slab x 10 inb_S4096x128_S256x128_10_0_s_16_1) (View.ld x2 (Rect.unit ![10, 0, 0] ![1, 1, 128] inb_S32x1x128_S1x1x128_10_0_0)) (View.ld x3 (Rect.unit ![10, 0, 0] ![1, 128, 512] inb_S32x128x512_S1x128x512_10_0_0))) (slab x 11 inb_S4096x128_S256x128_11_0_s_16_1) (View.ld x2 (Rect.unit ![11, 0, 0] ![1, 1, 128] inb_S32x1x128_S1x1x128_11_0_0)) (View.ld x3 (Rect.unit ![11, 0, 0] ![1, 128, 512] inb_S32x128x512_S1x128x512_11_0_0))) (slab x 12 inb_S4096x128_S256x128_12_0_s_16_1) (View.ld x2 (Rect.unit ![12, 0, 0] ![1, 1, 128] inb_S32x1x128_S1x1x128_12_0_0)) (View.ld x3 (Rect.unit ![12, 0, 0] ![1, 128, 512] inb_S32x128x512_S1x128x512_12_0_0))) (slab x 13 inb_S4096x128_S256x128_13_0_s_16_1) (View.ld x2 (Rect.unit ![13, 0, 0] ![1, 1, 128] inb_S32x1x128_S1x1x128_13_0_0)) (View.ld x3 (Rect.unit ![13, 0, 0] ![1, 128, 512] inb_S32x128x512_S1x128x512_13_0_0))) (slab x 14 inb_S4096x128_S256x128_14_0_s_16_1) (View.ld x2 (Rect.unit ![14, 0, 0] ![1, 1, 128] inb_S32x1x128_S1x1x128_14_0_0)) (View.ld x3 (Rect.unit ![14, 0, 0] ![1, 128, 512] inb_S32x128x512_S1x128x512_14_0_0))) (slab x 15 inb_S4096x128_S256x128_15_0_s_16_1) (View.ld x2 (Rect.unit ![15, 0, 0] ![1, 1, 128] inb_S32x1x128_S1x1x128_15_0_0)) (View.ld x3 (Rect.unit ![15, 0, 0] ![1, 128, 512] inb_S32x128x512_S1x128x512_15_0_0))
/-- The last 16 positions, at the block of 16 they lie in. -/
def second : FVec Ideal S256x512 .f32 :=
  step (step (step (step (step (step (step (step (step (step (step (step (step (step (step (step zeros (slab x 0 inb_S4096x128_S256x128_0_0_s_16_1) (View.ld x2 (Rect.unit ![16, 0, 0] ![1, 1, 128] inb_S32x1x128_S1x1x128_16_0_0)) (View.ld x3 (Rect.unit ![16, 0, 0] ![1, 128, 512] inb_S32x128x512_S1x128x512_16_0_0))) (slab x 1 inb_S4096x128_S256x128_1_0_s_16_1) (View.ld x2 (Rect.unit ![17, 0, 0] ![1, 1, 128] inb_S32x1x128_S1x1x128_17_0_0)) (View.ld x3 (Rect.unit ![17, 0, 0] ![1, 128, 512] inb_S32x128x512_S1x128x512_17_0_0))) (slab x 2 inb_S4096x128_S256x128_2_0_s_16_1) (View.ld x2 (Rect.unit ![18, 0, 0] ![1, 1, 128] inb_S32x1x128_S1x1x128_18_0_0)) (View.ld x3 (Rect.unit ![18, 0, 0] ![1, 128, 512] inb_S32x128x512_S1x128x512_18_0_0))) (slab x 3 inb_S4096x128_S256x128_3_0_s_16_1) (View.ld x2 (Rect.unit ![19, 0, 0] ![1, 1, 128] inb_S32x1x128_S1x1x128_19_0_0)) (View.ld x3 (Rect.unit ![19, 0, 0] ![1, 128, 512] inb_S32x128x512_S1x128x512_19_0_0))) (slab x 4 inb_S4096x128_S256x128_4_0_s_16_1) (View.ld x2 (Rect.unit ![20, 0, 0] ![1, 1, 128] inb_S32x1x128_S1x1x128_20_0_0)) (View.ld x3 (Rect.unit ![20, 0, 0] ![1, 128, 512] inb_S32x128x512_S1x128x512_20_0_0))) (slab x 5 inb_S4096x128_S256x128_5_0_s_16_1) (View.ld x2 (Rect.unit ![21, 0, 0] ![1, 1, 128] inb_S32x1x128_S1x1x128_21_0_0)) (View.ld x3 (Rect.unit ![21, 0, 0] ![1, 128, 512] inb_S32x128x512_S1x128x512_21_0_0))) (slab x 6 inb_S4096x128_S256x128_6_0_s_16_1) (View.ld x2 (Rect.unit ![22, 0, 0] ![1, 1, 128] inb_S32x1x128_S1x1x128_22_0_0)) (View.ld x3 (Rect.unit ![22, 0, 0] ![1, 128, 512] inb_S32x128x512_S1x128x512_22_0_0))) (slab x 7 inb_S4096x128_S256x128_7_0_s_16_1) (View.ld x2 (Rect.unit ![23, 0, 0] ![1, 1, 128] inb_S32x1x128_S1x1x128_23_0_0)) (View.ld x3 (Rect.unit ![23, 0, 0] ![1, 128, 512] inb_S32x128x512_S1x128x512_23_0_0))) (slab x 8 inb_S4096x128_S256x128_8_0_s_16_1) (View.ld x2 (Rect.unit ![24, 0, 0] ![1, 1, 128] inb_S32x1x128_S1x1x128_24_0_0)) (View.ld x3 (Rect.unit ![24, 0, 0] ![1, 128, 512] inb_S32x128x512_S1x128x512_24_0_0))) (slab x 9 inb_S4096x128_S256x128_9_0_s_16_1) (View.ld x2 (Rect.unit ![25, 0, 0] ![1, 1, 128] inb_S32x1x128_S1x1x128_25_0_0)) (View.ld x3 (Rect.unit ![25, 0, 0] ![1, 128, 512] inb_S32x128x512_S1x128x512_25_0_0))) (slab x 10 inb_S4096x128_S256x128_10_0_s_16_1) (View.ld x2 (Rect.unit ![26, 0, 0] ![1, 1, 128] inb_S32x1x128_S1x1x128_26_0_0)) (View.ld x3 (Rect.unit ![26, 0, 0] ![1, 128, 512] inb_S32x128x512_S1x128x512_26_0_0))) (slab x 11 inb_S4096x128_S256x128_11_0_s_16_1) (View.ld x2 (Rect.unit ![27, 0, 0] ![1, 1, 128] inb_S32x1x128_S1x1x128_27_0_0)) (View.ld x3 (Rect.unit ![27, 0, 0] ![1, 128, 512] inb_S32x128x512_S1x128x512_27_0_0))) (slab x 12 inb_S4096x128_S256x128_12_0_s_16_1) (View.ld x2 (Rect.unit ![28, 0, 0] ![1, 1, 128] inb_S32x1x128_S1x1x128_28_0_0)) (View.ld x3 (Rect.unit ![28, 0, 0] ![1, 128, 512] inb_S32x128x512_S1x128x512_28_0_0))) (slab x 13 inb_S4096x128_S256x128_13_0_s_16_1) (View.ld x2 (Rect.unit ![29, 0, 0] ![1, 1, 128] inb_S32x1x128_S1x1x128_29_0_0)) (View.ld x3 (Rect.unit ![29, 0, 0] ![1, 128, 512] inb_S32x128x512_S1x128x512_29_0_0))) (slab x 14 inb_S4096x128_S256x128_14_0_s_16_1) (View.ld x2 (Rect.unit ![30, 0, 0] ![1, 1, 128] inb_S32x1x128_S1x1x128_30_0_0)) (View.ld x3 (Rect.unit ![30, 0, 0] ![1, 128, 512] inb_S32x128x512_S1x128x512_30_0_0))) (slab x 15 inb_S4096x128_S256x128_15_0_s_16_1) (View.ld x2 (Rect.unit ![31, 0, 0] ![1, 1, 128] inb_S32x1x128_S1x1x128_31_0_0)) (View.ld x3 (Rect.unit ![31, 0, 0] ![1, 128, 512] inb_S32x128x512_S1x128x512_31_0_0))
theorem first_apply (n : Fin 256) (q : Fin 512) : first x x2 x3 (ix2 n q) = ∑ l : Fin 16, term x x2 x3 n q l ⟨l.val, by omega⟩ := by
  rw [← sum16]
  unfold first
  rw [step_at x x2 x3 15 (by decide) 15 (by decide), step_at x x2 x3 14 (by decide) 14 (by decide), step_at x x2 x3 13 (by decide) 13 (by decide), step_at x x2 x3 12 (by decide) 12 (by decide), step_at x x2 x3 11 (by decide) 11 (by decide), step_at x x2 x3 10 (by decide) 10 (by decide), step_at x x2 x3 9 (by decide) 9 (by decide), step_at x x2 x3 8 (by decide) 8 (by decide), step_at x x2 x3 7 (by decide) 7 (by decide), step_at x x2 x3 6 (by decide) 6 (by decide), step_at x x2 x3 5 (by decide) 5 (by decide), step_at x x2 x3 4 (by decide) 4 (by decide), step_at x x2 x3 3 (by decide) 3 (by decide), step_at x x2 x3 2 (by decide) 2 (by decide), step_at x x2 x3 1 (by decide) 1 (by decide), step_at x x2 x3 0 (by decide) 0 (by decide), zeros_apply]
  rfl
theorem second_apply (n : Fin 256) (q : Fin 512) : second x x2 x3 (ix2 n q) = ∑ l : Fin 16, term x x2 x3 n q l ⟨16 + l.val, by omega⟩ := by
  rw [← sum16]
  unfold second
  rw [step_at x x2 x3 15 (by decide) 31 (by decide), step_at x x2 x3 14 (by decide) 30 (by decide), step_at x x2 x3 13 (by decide) 29 (by decide), step_at x x2 x3 12 (by decide) 28 (by decide), step_at x x2 x3 11 (by decide) 27 (by decide), step_at x x2 x3 10 (by decide) 26 (by decide), step_at x x2 x3 9 (by decide) 25 (by decide), step_at x x2 x3 8 (by decide) 24 (by decide), step_at x x2 x3 7 (by decide) 23 (by decide), step_at x x2 x3 6 (by decide) 22 (by decide), step_at x x2 x3 5 (by decide) 21 (by decide), step_at x x2 x3 4 (by decide) 20 (by decide), step_at x x2 x3 3 (by decide) 19 (by decide), step_at x x2 x3 2 (by decide) 18 (by decide), step_at x x2 x3 1 (by decide) 17 (by decide), step_at x x2 x3 0 (by decide) 16 (by decide), zeros_apply]
  rfl

/-- The two sums joined, and the nonlinearity. -/
def both (f s : FVec Ideal S256x512 .f32) : FVec Ideal S256x512 .f32 := addf f (dynamicRotate 0 255#32 none s rotates_S256x512_d0)
def bent (v : FVec Ideal S256x512 .f32) : FVec Ideal S256x512 .bf16 :=
  truncf .bf16 (mulf v (mulf (broadcast S256x512 (Scalar.ofBits .f32 0x3F000000#32)) (addf (broadcast S256x512 (Scalar.ofBits .f32 0x3F800000#32))
    (tanh (mulf (broadcast S256x512 (Scalar.ofBits .f32 0x3F4C422A#32)) (addf v (mulf (broadcast S256x512 (Scalar.ofBits .f32 0x3D372713#32)) (mulf v (mulf v v))))))))) bitsLt_bf16_f32
theorem both_apply (f s : FVec Ideal S256x512 .f32) (n : Fin 256) (q : Fin 512) :
    both f s (ix2 n q) = f (ix2 n q) + s (ix2 ⟨(n.val + 1) % 256, Nat.mod_lt _ (by decide)⟩ q) := by
  have e : (⟨(n.val + 256 - 255) % 256, Nat.mod_lt _ (by decide)⟩ : Fin 256) = ⟨(n.val + 1) % 256, Nat.mod_lt _ (by decide)⟩ :=
    Fin.ext (show (n.val + 256 - 255) % 256 = (n.val + 1) % 256 by omega)
  pointwise [both]
  exact congrArg (fun k => f (ix2 n q) + s (ix2 k q)) e
theorem bent_apply (v : FVec Ideal S256x512 .f32) (n : Fin 256) (q : Fin 512) :
    bent v (ix2 n q) = gelu (v (ix2 n q)) := by
  unfold gelu
  pointwise [bent]
variable (x4 : Vec Ideal S64x256 .bf16)
/-- One head's units against the second weights. -/
def down (o : ℕ) (h : S256x512.Slices ![0, o] S256x256) (v : FVec Ideal S256x512 .bf16) : FVec Ideal S1x1x64x256 .bf16 :=
  shapeCast S1x1x64x256 (truncf .bf16 (matmul (φ₁ := .bf16) (φ₂ := .bf16) dot_S64x256_S256x256_S64x256_1_1_0_0_n_n none (shapeCast (α := Ideal .bf16) S64x256 x4 shapeCasts_S64x256_S64x256)
    (extractStridedSlice S256x256 ![0, o] v h) (constant S64x256 .f32 0x00000000#32)) bitsLt_bf16_f32) shapeCasts_S64x256_S1x1x64x256
theorem down_0 (v : FVec Ideal S256x512 .bf16) (q : Fin 64) (n : Fin 256) :
    down x4 0 slices_S256x512_o0_0_S256x256 v (ix4 0 0 q n) = ∑ f : Fin 256, v (ix2 n ⟨0 + f.val, by omega⟩) * x4 (ix2 q f) := by
  simp only [zero_add]
  refine Eq.trans ?_ (Finset.sum_congr rfl fun f _ => mul_comm (x4 (ix2 q f) : EReal) _)
  pointwise [down]
theorem down_256 (v : FVec Ideal S256x512 .bf16) (q : Fin 64) (n : Fin 256) :
    down x4 256 slices_S256x512_o0_256_S256x256 v (ix4 0 0 q n) = ∑ f : Fin 256, v (ix2 n ⟨256 + f.val, by omega⟩) * x4 (ix2 q f) := by
  refine Eq.trans ?_ (Finset.sum_congr rfl fun f _ => mul_comm (x4 (ix2 q f) : EReal) _)
  pointwise [down]
end
/-- A block of `S1x4x64x256` stored in 4 pieces holds one function when each piece does. -/
theorem tiles_c {e : EltTy} (G : S1x4x64x256.Idx → Elt Ideal e) (w0 w1 w2 w3 : S1x1x64x256.Idx → Elt Ideal e)
    (e0 : ∀ (c : Fin 64) (d : Fin 256), w0 (ix4 0 0 c d) = G (ix4 0 3 c d))
    (e1 : ∀ (c : Fin 64) (d : Fin 256), w1 (ix4 0 0 c d) = G (ix4 0 2 c d))
    (e2 : ∀ (c : Fin 64) (d : Fin 256), w2 (ix4 0 0 c d) = G (ix4 0 1 c d))
    (e3 : ∀ (c : Fin 64) (d : Fin 256), w3 (ix4 0 0 c d) = G (ix4 0 0 c d))
    (y : S1x4x64x256.Idx) :
    View.canon (Val := Elt Ideal) (s := S1x4x64x256) (e := e)
      [⟨Rect.unit ![0, 3, 0, 0] ![1, 1, 64, 256] inb_S1x4x64x256_S1x1x64x256_0_3_0_0, w0⟩,
       ⟨Rect.unit ![0, 2, 0, 0] ![1, 1, 64, 256] inb_S1x4x64x256_S1x1x64x256_0_2_0_0, w1⟩,
       ⟨Rect.unit ![0, 1, 0, 0] ![1, 1, 64, 256] inb_S1x4x64x256_S1x1x64x256_0_1_0_0, w2⟩,
       ⟨Rect.unit ![0, 0, 0, 0] ![1, 1, 64, 256] inb_S1x4x64x256_S1x1x64x256_0_0_0_0, w3⟩] y = G y := by
  refine View.canon_apply_of_pieces G _ ?_ _ ?_
  rotate_left
  · obtain ⟨a, b, c, d, rfl⟩ : ∃ (a : Fin 1) (b : Fin 4) (c : Fin 64) (d : Fin 256), y = ix4 a b c d := ⟨y 0, y 1, y 2, y 3, eq_ix4 y⟩
    by_cases h1_0 : b.val < 1
    · refine (List.exists_mem_cons_iff _ _ _).2 (Or.inr ?_)
      refine (List.exists_mem_cons_iff _ _ _).2 (Or.inr ?_)
      refine (List.exists_mem_cons_iff _ _ _).2 (Or.inr ?_)
      refine (List.exists_mem_cons_iff _ _ _).2 (Or.inl ?_)
      rw [Rect.mem_set_unit]
      intro ax
      match ax with
      | ⟨0, _⟩ => show 0 ≤ a.val ∧ a.val < 0 + 1; omega
      | ⟨1, _⟩ => show 0 ≤ b.val ∧ b.val < 0 + 1; omega
      | ⟨2, _⟩ => show 0 ≤ c.val ∧ c.val < 0 + 64; omega
      | ⟨3, _⟩ => show 0 ≤ d.val ∧ d.val < 0 + 256; omega
    · by_cases h1_1 : b.val < 2
      · refine (List.exists_mem_cons_iff _ _ _).2 (Or.inr ?_)
        refine (List.exists_mem_cons_iff _ _ _).2 (Or.inr ?_)
        refine (List.exists_mem_cons_iff _ _ _).2 (Or.inl ?_)
        rw [Rect.mem_set_unit]
        intro ax
        match ax with
        | ⟨0, _⟩ => show 0 ≤ a.val ∧ a.val < 0 + 1; omega
        | ⟨1, _⟩ => show 1 ≤ b.val ∧ b.val < 1 + 1; omega
        | ⟨2, _⟩ => show 0 ≤ c.val ∧ c.val < 0 + 64; omega
        | ⟨3, _⟩ => show 0 ≤ d.val ∧ d.val < 0 + 256; omega
      · by_cases h1_2 : b.val < 3
        · refine (List.exists_mem_cons_iff _ _ _).2 (Or.inr ?_)
          refine (List.exists_mem_cons_iff _ _ _).2 (Or.inl ?_)
          rw [Rect.mem_set_unit]
          intro ax
          match ax with
          | ⟨0, _⟩ => show 0 ≤ a.val ∧ a.val < 0 + 1; omega
          | ⟨1, _⟩ => show 2 ≤ b.val ∧ b.val < 2 + 1; omega
          | ⟨2, _⟩ => show 0 ≤ c.val ∧ c.val < 0 + 64; omega
          | ⟨3, _⟩ => show 0 ≤ d.val ∧ d.val < 0 + 256; omega
        · refine (List.exists_mem_cons_iff _ _ _).2 (Or.inl ?_)
          rw [Rect.mem_set_unit]
          intro ax
          match ax with
          | ⟨0, _⟩ => show 0 ≤ a.val ∧ a.val < 0 + 1; omega
          | ⟨1, _⟩ => show 3 ≤ b.val ∧ b.val < 3 + 1; omega
          | ⟨2, _⟩ => show 0 ≤ c.val ∧ c.val < 0 + 64; omega
          | ⟨3, _⟩ => show 0 ≤ d.val ∧ d.val < 0 + 256; omega
  intro p hp x
  rcases List.mem_cons.1 hp with rfl | hp
  · obtain ⟨a, b, c, d, rfl⟩ : ∃ (a : Fin 1) (b : Fin 1) (c : Fin 64) (d : Fin 256), x = ix4 a b c d := ⟨x 0, x 1, x 2, x 3, eq_ix4 x⟩
    obtain rfl : a = 0 := Subsingleton.elim _ _
    obtain rfl : b = 0 := Subsingleton.elim _ _
    refine (e0 c d).trans (congrArg G (funext fun ax => Fin.ext ?_))
    match ax with
    | ⟨0, _⟩ => rfl
    | ⟨1, _⟩ => rfl
    | ⟨2, _⟩ => show c.val = 0 + 1 * c.val; omega
    | ⟨3, _⟩ => show d.val = 0 + 1 * d.val; omega
  rcases List.mem_cons.1 hp with rfl | hp
  · obtain ⟨a, b, c, d, rfl⟩ : ∃ (a : Fin 1) (b : Fin 1) (c : Fin 64) (d : Fin 256), x = ix4 a b c d := ⟨x 0, x 1, x 2, x 3, eq_ix4 x⟩
    obtain rfl : a = 0 := Subsingleton.elim _ _
    obtain rfl : b = 0 := Subsingleton.elim _ _
    refine (e1 c d).trans (congrArg G (funext fun ax => Fin.ext ?_))
    match ax with
    | ⟨0, _⟩ => rfl
    | ⟨1, _⟩ => rfl
    | ⟨2, _⟩ => show c.val = 0 + 1 * c.val; omega
    | ⟨3, _⟩ => show d.val = 0 + 1 * d.val; omega
  rcases List.mem_cons.1 hp with rfl | hp
  · obtain ⟨a, b, c, d, rfl⟩ : ∃ (a : Fin 1) (b : Fin 1) (c : Fin 64) (d : Fin 256), x = ix4 a b c d := ⟨x 0, x 1, x 2, x 3, eq_ix4 x⟩
    obtain rfl : a = 0 := Subsingleton.elim _ _
    obtain rfl : b = 0 := Subsingleton.elim _ _
    refine (e2 c d).trans (congrArg G (funext fun ax => Fin.ext ?_))
    match ax with
    | ⟨0, _⟩ => rfl
    | ⟨1, _⟩ => rfl
    | ⟨2, _⟩ => show c.val = 0 + 1 * c.val; omega
    | ⟨3, _⟩ => show d.val = 0 + 1 * d.val; omega
  rcases List.mem_singleton.1 hp with rfl
  obtain ⟨a, b, c, d, rfl⟩ : ∃ (a : Fin 1) (b : Fin 1) (c : Fin 64) (d : Fin 256), x = ix4 a b c d := ⟨x 0, x 1, x 2, x 3, eq_ix4 x⟩
  obtain rfl : a = 0 := Subsingleton.elim _ _
  obtain rfl : b = 0 := Subsingleton.elim _ _
  refine (e3 c d).trans (congrArg G (funext fun ax => Fin.ext ?_))
  match ax with
  | ⟨0, _⟩ => rfl
  | ⟨1, _⟩ => rfl
  | ⟨2, _⟩ => show c.val = 0 + 1 * c.val; omega
  | ⟨3, _⟩ => show d.val = 0 + 1 * d.val; omega

section
variable (x0 x1 : Vec Ideal S4096x128 .f32) (x2 : Vec Ideal S32x1x128 .f32) (x3 : Vec Ideal S32x128x512 .bf16) (x4 : Vec Ideal S64x256 .bf16)
/-- One hidden unit before the nonlinearity: the first 16 positions at the block, the next 16 at the block after it. -/
def pre (x : Vec Ideal S4096x128 .f32) (n : Fin 256) (q : Fin 512) : EReal :=
  (∑ l : Fin 16, term x x2 x3 n q l ⟨l.val, by omega⟩)
    + ∑ l : Fin 16, term x x2 x3 ⟨(n.val + 1) % 256, Nat.mod_lt _ (by decide)⟩ q l ⟨16 + l.val, by omega⟩
/-- The block at head `h`. -/
def blk (h : Fin 4) (q : Fin 64) (n : Fin 256) : EReal :=
  ∑ f : Fin 256, gelu (pre x2 x3 (if h.val < 2 then x0 else x1) n ⟨256 * (h.val % 2) + f.val, by omega⟩) * x4 (ix2 q f)
theorem blk_hi (h : Fin 4) (hh : ¬ h.val < 2) (q : Fin 64) (n : Fin 256) :
    blk x0 x1 x2 x3 x4 h q n = ∑ f : Fin 256, gelu (pre x2 x3 x1 n ⟨256 * (h.val % 2) + f.val, by omega⟩) * x4 (ix2 q f) := by
  unfold blk
  simp only [if_neg hh]
theorem unit_apply (x : Vec Ideal S4096x128 .f32) (n : Fin 256) (q : Fin 512) :
    bent (both (first x x2 x3) (second x x2 x3)) (ix2 n q) = gelu (pre x2 x3 x n q) := by
  rw [bent_apply, both_apply, first_apply, second_apply]
  rfl
variable (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S32x1x128 .f32) (harg3 : arg3.IsWhole) (arg4 : Memref sig .tc .vmem S32x128x512 .bf16) (harg4 : arg4.IsWhole) (arg5 : Memref sig .tc .vmem S64x256 .bf16) (harg5 : arg5.IsWhole) (arg6 : Memref sig .tc .vmem S1x4x64x256 .bf16) (harg6 : arg6.IsWhole)
/-- Every point leaves its block. -/
theorem out (h : Fin 4) (q : Fin 64) (n : Fin 256) :
    out0_A_5 c i arg1 harg1 arg2 harg2 arg3 harg3 arg4 harg4 arg5 harg5 arg6 harg6 x0 x1 x2 x3 x4 (ix4 0 h q n) = blk x0 x1 x2 x3 x4 h q n := by
  frame_out
  refine tiles_c (e := .bf16) (fun y => blk x0 x1 x2 x3 x4 (y 1) (y 2) (y 3)) _ _ _ _ ?_ ?_ ?_ ?_ _
  · intro q n
    refine Eq.trans (?_ : _ = down x4 256 slices_S256x512_o0_256_S256x256 (bent (both (first x1 x2 x3) (second x1 x2 x3))) (ix4 0 0 q n)) ?_
    · have e : ∀ l i, View.readAt (Elt Ideal) arg2.view { off := ![l, 0], size := ![256, 128], stride := ![16, 1], inb := i } (harg2.unread x1) = slab x1 l i := fun l i => by
        funext j
        rw [View.readAt_apply, harg2.read_unread]
        rfl
      simp only [e]
      refine (show k0_pay3 _ _ _ _ _ = down x4 256 slices_S256x512_o0_256_S256x256 (bent (k0_pay56 _ _ _ _ _ _ _ _ _)) _ from rfl).trans ?_
      refine congrArg (fun v => down x4 256 slices_S256x512_o0_256_S256x256 (bent v) (ix4 0 0 q n)) ?_
      rfl
    · refine Eq.trans ?_ (blk_hi x0 x1 x2 x3 x4 3 (by decide) q n).symm
      exact (down_256 x4 _ q n).trans (Finset.sum_congr rfl fun f _ => congrArg (fun z : EReal => z * x4 (ix2 q f)) (unit_apply x2 x3 x1 n _))
  · intro q n
    refine Eq.trans (?_ : _ = down x4 0 slices_S256x512_o0_0_S256x256 (bent (both (first x1 x2 x3) (second x1 x2 x3))) (ix4 0 0 q n)) ?_
    · have e : ∀ l i, View.readAt (Elt Ideal) arg2.view { off := ![l, 0], size := ![256, 128], stride := ![16, 1], inb := i } (harg2.unread x1) = slab x1 l i := fun l i => by
        funext j
        rw [View.readAt_apply, harg2.read_unread]
        rfl
      simp only [e]
      refine (show k0_pay2 _ _ _ _ _ = down x4 0 slices_S256x512_o0_0_S256x256 (bent (k0_pay56 _ _ _ _ _ _ _ _ _)) _ from rfl).trans ?_
      refine congrArg (fun v => down x4 0 slices_S256x512_o0_0_S256x256 (bent v) (ix4 0 0 q n)) ?_
      rfl
    · refine Eq.trans ?_ (blk_hi x0 x1 x2 x3 x4 2 (by decide) q n).symm
      exact (down_0 x4 _ q n).trans (Finset.sum_congr rfl fun f _ => congrArg (fun z : EReal => z * x4 (ix2 q f)) (unit_apply x2 x3 x1 n _))
  · intro q n
    refine Eq.trans (?_ : _ = down x4 256 slices_S256x512_o0_256_S256x256 (bent (both (first x0 x2 x3) (second x0 x2 x3))) (ix4 0 0 q n)) ?_
    · have e : ∀ l i, View.readAt (Elt Ideal) arg1.view { off := ![l, 0], size := ![256, 128], stride := ![16, 1], inb := i } (harg1.unread x0) = slab x0 l i := fun l i => by
        funext j
        rw [View.readAt_apply, harg1.read_unread]
        rfl
      simp only [e]
      refine (show k0_pay30 (k0_pay27 _ _ _ _ _ _ _) _ _ = down x4 256 slices_S256x512_o0_256_S256x256 (k0_pay27 _ _ _ _ _ _ _) _ from rfl).trans ?_
      refine congrArg (fun v => down x4 256 slices_S256x512_o0_256_S256x256 v (ix4 0 0 q n)) ?_
      rfl
    · refine (down_256 x4 _ q n).trans (Finset.sum_congr rfl fun f _ => congrArg (fun z : EReal => z * x4 (ix2 q f)) (unit_apply x2 x3 x0 n _))
  · intro q n
    refine Eq.trans (?_ : _ = down x4 0 slices_S256x512_o0_0_S256x256 (bent (both (first x0 x2 x3) (second x0 x2 x3))) (ix4 0 0 q n)) ?_
    · have e : ∀ l i, View.readAt (Elt Ideal) arg1.view { off := ![l, 0], size := ![256, 128], stride := ![16, 1], inb := i } (harg1.unread x0) = slab x0 l i := fun l i => by
        funext j
        rw [View.readAt_apply, harg1.read_unread]
        rfl
      simp only [e]
      refine (show k0_pay29 (k0_pay28 _ _ _ _ _ _ _ _) _ = down x4 0 slices_S256x512_o0_0_S256x256 (k0_pay27 _ _ _ _ _ _ _) _ from rfl).trans ?_
      refine congrArg (fun v => down x4 0 slices_S256x512_o0_0_S256x256 v (ix4 0 0 q n)) ?_
      rfl
    · refine (down_0 x4 _ q n).trans (Finset.sum_congr rfl fun f _ => congrArg (fun z : EReal => z * x4 (ix2 q f)) (unit_apply x2 x3 x0 n _))
end
end Cert.CmpvIdeal.Block
end
-- ==== Proof.CmpvIn.lean ====
/-
  What the blocks of the value compression's call hold, in terms of the arguments: each window's block at a grid point,
  read at an index.
-/
module
public import proofs.«01_k».proof.Proof.CmpSpec
public import proofs.«01_k».proof.Proof.Gen.CmpvIdeal.Frame
public import Idealize.ShloMosaic.Lib.StableHlo.ReadAt
public import Idealize.ShloMosaic.Lib.Pointwise
@[expose] public section
set_option maxRecDepth 16384
noncomputable section
namespace Cert.CmpvIdeal.In
open Cert.CmpvIdeal Cert.CmpvIdeal.Gen Idealize.ShloMosaic Idealize.ShloMosaic.TcCoe Idealize.SL.Sem Layer
variable (m : (ℓ : Loc nD τ sig) → Buf (Elt Ideal) ℓ)

/-- The positions' own vectors, once per head of a tile. -/
theorem vectors (c : Dev nD) (l : Fin 32) (j : Fin 128) :
    V m c main_v18 (ix3 l 0 j) = m ((c : Thread nD τ).loc main_arg3) (ix3 0 l ⟨j.val % 64, Nat.mod_lt _ (by decide)⟩) := by
  unfold V
  after_reads_at
/-- The first weights, one head's on each half of the lanes and nothing across. -/
theorem weights (c : Dev nD) (l : Fin 32) (j : Fin 128) (q : Fin 512) :
    V m c main_v19 (ix3 l j q) = across (fun l d f => m ((c : Thread nD τ).loc main_arg1) (ix4 0 l d f)) l j q := by
  unfold V
  after_reads_at
  unfold across
  refine congrArg (fun z : EReal => HMul.hMul (α := EReal) _ z) ?_
  rcases (by omega : j.val / 64 = 0 ∨ j.val / 64 = 1) with hj | hj <;> rcases (by omega : q.val / 256 = 0 ∨ q.val / 256 = 1) with hq | hq <;>
    rw [hj, hq] <;> simp [FloatOps.uitofp, IntOp.cmpi, IntOp.addi]
/-- The second weights, columns first. -/
theorem seconds (c : Dev nD) (q : Fin 64) (f : Fin 256) :
    V m c main_v21 (ix2 q f) = m ((c : Thread nD τ).loc main_arg2) (ix3 0 f q) := by
  unfold V
  after_reads_at
/-- Where each window's block lies. -/
theorem places : ∀ t : Fin cfg0.N, (win0_0.index t (0 : Fin 2) = t.val ∧ win0_0.index t (1 : Fin 2) = 0)
    ∧ (win0_1.index t (0 : Fin 2) = t.val ∧ win0_1.index t (1 : Fin 2) = 1)
    ∧ (win0_2.index t (0 : Fin 3) = 0 ∧ win0_2.index t (1 : Fin 3) = 0 ∧ win0_2.index t (2 : Fin 3) = 0)
    ∧ (win0_3.index t (0 : Fin 3) = 0 ∧ win0_3.index t (1 : Fin 3) = 0 ∧ win0_3.index t (2 : Fin 3) = 0)
    ∧ (win0_4.index t (0 : Fin 2) = 0 ∧ win0_4.index t (1 : Fin 2) = 0)
    ∧ (win0_5.index t (0 : Fin 4) = t.val ∧ win0_5.index t (1 : Fin 4) = 0 ∧ win0_5.index t (2 : Fin 4) = 0 ∧ win0_5.index t (3 : Fin 4) = 0) :=
  (by decide +kernel : ∀ t : Fin grid0.N, _)

/-- A point's number is below 4. -/
theorem pointLt (t : Fin cfg0.N) : t.val < 4 := lt_of_lt_of_eq t.isLt (show cfg0.N = 4 from N_0)
/-- Row `r` of the block at point `t`, numbered through. -/
abbrev at_ (t : Fin cfg0.N) (r : Fin 4096) : Fin 16384 := ⟨4096 * t.val + r.val, by have := pointLt t; omega⟩

theorem blk0 (c : Dev nD) (t : Fin cfg0.N) (r : Fin 4096) (k : Fin 128) :
    iblk m c 0 t (ix2 r k) = m ((c : Thread nD τ).loc main_arg0) (ix2 (at_ t r) ⟨k.val, by omega⟩) := by
  obtain ⟨⟨e0, e1⟩, -⟩ := places t
  rw [← V_main_arg0 m c]
  unfold iblk
  rw [View.read_apply]
  show V m c main_arg0 _ = V m c main_arg0 _
  refine congrArg _ (funext fun a => Fin.ext ?_)
  match a with
  | ⟨0, _⟩ => show win0_0.index t (0 : Fin 2) * 4096 + 1 * r.val = 4096 * t.val + r.val; rw [e0]; omega
  | ⟨1, _⟩ => show win0_0.index t (1 : Fin 2) * 128 + 1 * k.val = k.val; rw [e1]; omega
theorem blk1 (c : Dev nD) (t : Fin cfg0.N) (r : Fin 4096) (k : Fin 128) :
    iblk m c 1 t (ix2 r k) = m ((c : Thread nD τ).loc main_arg0) (ix2 (at_ t r) ⟨128 + k.val, by omega⟩) := by
  obtain ⟨-, ⟨e0, e1⟩, -⟩ := places t
  rw [← V_main_arg0 m c]
  unfold iblk
  rw [View.read_apply]
  show V m c main_arg0 _ = V m c main_arg0 _
  refine congrArg _ (funext fun a => Fin.ext ?_)
  match a with
  | ⟨0, _⟩ => show win0_1.index t (0 : Fin 2) * 4096 + 1 * r.val = 4096 * t.val + r.val; rw [e0]; omega
  | ⟨1, _⟩ => show win0_1.index t (1 : Fin 2) * 128 + 1 * k.val = 128 + k.val; rw [e1]; omega
theorem blk2 (c : Dev nD) (t : Fin cfg0.N) (l : Fin 32) (j : Fin 128) :
    iblk m c 2 t (ix3 l 0 j) = m ((c : Thread nD τ).loc main_arg3) (ix3 0 l ⟨j.val % 64, Nat.mod_lt _ (by decide)⟩) := by
  obtain ⟨-, -, ⟨e0, e1, e2⟩, -⟩ := places t
  refine Eq.trans ?_ (vectors m c l j)
  unfold iblk
  rw [View.read_apply]
  show V m c main_v18 _ = V m c main_v18 _
  refine congrArg _ (funext fun a => Fin.ext ?_)
  match a with
  | ⟨0, _⟩ => show win0_2.index t (0 : Fin 3) * 32 + 1 * l.val = l.val; rw [e0]; omega
  | ⟨1, _⟩ => show win0_2.index t (1 : Fin 3) * 1 + 1 * 0 = 0; rw [e1]
  | ⟨2, _⟩ => show win0_2.index t (2 : Fin 3) * 128 + 1 * j.val = j.val; rw [e2]; omega
theorem blk3 (c : Dev nD) (t : Fin cfg0.N) (l : Fin 32) (j : Fin 128) (q : Fin 512) :
    iblk m c 3 t (ix3 l j q) = across (fun l d f => m ((c : Thread nD τ).loc main_arg1) (ix4 0 l d f)) l j q := by
  obtain ⟨-, -, -, ⟨e0, e1, e2⟩, -⟩ := places t
  refine Eq.trans ?_ (weights m c l j q)
  unfold iblk
  rw [View.read_apply]
  show V m c main_v19 _ = V m c main_v19 _
  refine congrArg _ (funext fun a => Fin.ext ?_)
  match a with
  | ⟨0, _⟩ => show win0_3.index t (0 : Fin 3) * 32 + 1 * l.val = l.val; rw [e0]; omega
  | ⟨1, _⟩ => show win0_3.index t (1 : Fin 3) * 128 + 1 * j.val = j.val; rw [e1]; omega
  | ⟨2, _⟩ => show win0_3.index t (2 : Fin 3) * 512 + 1 * q.val = q.val; rw [e2]; omega
theorem blk4 (c : Dev nD) (t : Fin cfg0.N) (q : Fin 64) (f : Fin 256) :
    iblk m c 4 t (ix2 q f) = m ((c : Thread nD τ).loc main_arg2) (ix3 0 f q) := by
  obtain ⟨-, -, -, -, ⟨e0, e1⟩, -⟩ := places t
  refine Eq.trans ?_ (seconds m c q f)
  unfold iblk
  rw [View.read_apply]
  show V m c main_v21 _ = V m c main_v21 _
  refine congrArg _ (funext fun a => Fin.ext ?_)
  match a with
  | ⟨0, _⟩ => show win0_4.index t (0 : Fin 2) * 64 + 1 * q.val = q.val; rw [e0]; omega
  | ⟨1, _⟩ => show win0_4.index t (1 : Fin 2) * 256 + 1 * f.val = f.val; rw [e1]; omega
end Cert.CmpvIdeal.In
end
-- ==== Proof.CmpvKernel.lean ====
/-
  What the value compression's call leaves in its result: each block of 32 positions, 16 apart, through the network. Each
  sequence is written by one grid point.
-/
module
public import proofs.«01_k».proof.Proof.CmpvBlock
public import proofs.«01_k».proof.Proof.CmpvIn
public import proofs.«01_k».proof.Proof.Gen.CmpvIdeal.Value
@[expose] public section
set_option maxRecDepth 16384
noncomputable section
namespace Cert.CmpvIdeal.Kernel
open Cert.CmpvIdeal Cert.CmpvIdeal.Gen Idealize.ShloMosaic Idealize.ShloMosaic.TcCoe Idealize.SL.Sem Layer
open Cert.CmpvIdeal.In Cert.CmpvIdeal.Block

section
variable (x : Vec Ideal S4096x128 .f32) (x2 : Vec Ideal S32x1x128 .f32) (x3 : Vec Ideal S32x128x512 .bf16)
  (P : Fin 32 → Fin 64 → EReal) (W : Fin 32 → Fin 64 → Fin 256 → EReal)
  (h2 : ∀ l j, x2 (ix3 l 0 j) = P l ⟨j.val % 64, Nat.mod_lt _ (by decide)⟩) (h3 : ∀ l j q, x3 (ix3 l j q) = across W l j q)
include h2 h3
/-- One position's part of a head's unit is over that head's lanes. -/
theorem term_at (k : ℕ) (hk : k < 2) (n : Fin 256) (f : Fin 256) (l : Fin 16) (m : Fin 32) :
    term x x2 x3 n ⟨256 * k + f.val, by omega⟩ l m
      = ∑ d : Fin 64, (x (ix2 ⟨16 * n.val + l.val, by omega⟩ ⟨64 * k + d.val, by omega⟩) + P m d) * W m d f := by
  unfold term
  refine Eq.trans (Finset.sum_congr rfl fun j _ => ?_) (lanes k hk (fun j => x (ix2 ⟨16 * n.val + l.val, by omega⟩ j)) (P m) (fun d => W m d f))
  rw [h2, h3]
  unfold across
  have e : (⟨(256 * k + f.val) % 256, Nat.mod_lt _ (by decide)⟩ : Fin 256) = f := Fin.ext (show (256 * k + f.val) % 256 = f.val by omega)
  have e' : (256 * k + f.val) / 256 = k := by omega
  dsimp only
  rw [e, e']
theorem pre_at (k : ℕ) (hk : k < 2) (n : Fin 256) (f : Fin 256) :
    pre x2 x3 x n ⟨256 * k + f.val, by omega⟩
      = cell (fun l d => x (ix2 ⟨16 * n.val + l.val, by omega⟩ ⟨64 * k + d.val, by omega⟩))
          (fun l d => x (ix2 ⟨16 * (after n).val + l.val, by omega⟩ ⟨64 * k + d.val, by omega⟩)) P (fun l d => W l d f) := by
  rw [cell_halves]
  unfold pre
  simp only [term_at x x2 x3 P W h2 h3 k hk]
end

variable (m : (ℓ : Loc nD τ sig) → Buf (Elt Ideal) ℓ)
/-- The result. -/
def result (c : Dev nD) (b h : Fin 4) (q : Fin 64) (n : Fin 256) : EReal :=
  compressed (fun r k => m ((c : Thread nD τ).loc main_arg0) (ix2 r k)) (fun l d f => m ((c : Thread nD τ).loc main_arg1) (ix4 0 l d f))
    (fun f q => m ((c : Thread nD τ).loc main_arg2) (ix3 0 f q)) (fun l d => m ((c : Thread nD τ).loc main_arg3) (ix3 0 l d)) b h q n

theorem left (c : Dev nD) (t : Fin cfg0.N) (b : Fin 4) (hb : t.val = b.val) (h : Fin 4) (q : Fin 64) (n : Fin 256) :
    blk (iblk m c 0 t) (iblk m c 1 t) (iblk m c 2 t) (iblk m c 3 t) (iblk m c 4 t) h q n = result m c b h q n := by
  unfold blk result compressed
  refine Finset.sum_congr rfl fun f _ => ?_
  refine congrArg₂ (fun u v : EReal => gelu u * v) ?_ (blk4 m c t q f)
  refine (pre_at _ _ _ (fun l d => m ((c : Thread nD τ).loc main_arg3) (ix3 0 l d)) _ (blk2 m c t) (blk3 m c t) (h.val % 2) (Nat.mod_lt _ (by decide)) n f).trans ?_
  have e : ∀ (n : Fin 256) (l : Fin 16) (d : Fin 64),
      (if h.val < 2 then iblk m c 0 t else iblk m c 1 t : Vec Ideal S4096x128 .f32) (ix2 ⟨16 * n.val + l.val, by omega⟩ ⟨64 * (h.val % 2) + d.val, by omega⟩)
        = m ((c : Thread nD τ).loc main_arg0) (ix2 (spot b n l) ⟨64 * h.val + d.val, by omega⟩) := by
    intro n l d
    by_cases hh : h.val < 2
    · rw [if_pos hh]
      refine (blk0 m c t _ _).trans (congrArg₂ (fun r k => m ((c : Thread nD τ).loc main_arg0) (ix2 r k)) (Fin.ext ?_) (Fin.ext ?_))
      · show 4096 * t.val + (16 * n.val + l.val) = 4096 * b.val + 16 * n.val + l.val; omega
      · show 64 * (h.val % 2) + d.val = 64 * h.val + d.val; omega
    · rw [if_neg hh]
      refine (blk1 m c t _ _).trans (congrArg₂ (fun r k => m ((c : Thread nD τ).loc main_arg0) (ix2 r k)) (Fin.ext ?_) (Fin.ext ?_))
      · show 4096 * t.val + (16 * n.val + l.val) = 4096 * b.val + 16 * n.val + l.val; omega
      · show 128 + (64 * (h.val % 2) + d.val) = 64 * h.val + d.val; omega
  refine congrArg₂ (fun lo hi => cell lo hi _ _) (funext fun l => funext fun d => e n l d) (funext fun l => funext fun d => e (after n) l d)

theorem array (c : Dev nD) (b h : Fin 4) (q : Fin 64) (n : Fin 256) : (dats m 0 c).arrAt 5 cfg0.N (ix4 b h q n) = result m c b h q n := by
  obtain ⟨t, ht⟩ : ∃ t : Fin cfg0.N, t.val = b.val := ⟨⟨b.val, by rw [show cfg0.N = 4 from N_0]; exact b.isLt⟩, rfl⟩
  have hf : ∀ t : Fin cfg0.N, (cfg0.win 5).flush t = true := (by decide +kernel : ∀ t : Fin grid0.N, _)
  have H := congrFun (Value.blocks5 m c t (hf t)) (ix4 0 h q n)
  rw [View.read_apply, Value.flushed5_A] at H
  obtain ⟨-, -, -, -, -, ⟨e0, e1, e2, e3⟩⟩ := places t
  refine Eq.trans (congrArg _ (funext fun a => Fin.ext ?_)) (H.trans ?_)
  · match a with
    | ⟨0, _⟩ => show b.val = win0_5.index t (0 : Fin 4) * 1 + 1 * 0; rw [e0]; omega
    | ⟨1, _⟩ => show h.val = win0_5.index t (1 : Fin 4) * 4 + 1 * h.val; rw [e1]; omega
    | ⟨2, _⟩ => show q.val = win0_5.index t (2 : Fin 4) * 64 + 1 * q.val; rw [e2]; omega
    | ⟨3, _⟩ => show n.val = win0_5.index t (3 : Fin 4) * 256 + 1 * n.val; rw [e3]; omega
  · exact (out _ _ _ _ _ _ _ _ _ _ _ _ _ _ _ _ _ _ _ h q n).trans (left m c t b ht h q n)
end Cert.CmpvIdeal.Kernel
end
-- ==== Proof.CmpvRef.lean ====
/-
  The value compression as the problem writes it, read at an index.
-/
module
public import proofs.«01_k».proof.Proof.Gen.CmpvRefIdeal.Read
public import proofs.«01_k».proof.Proof.CmpSpec
public import Idealize.ShloMosaic.Lib.Pointwise
@[expose] public section
set_option maxRecDepth 16384
noncomputable section
namespace Cert.CmpvRefIdeal.Ref
open Cert.CmpvRefIdeal Cert.CmpvRefIdeal.Gen Cert.CmpvRefIdeal.Read Idealize.ShloMosaic Layer
variable (x0 : (⟨S16384x256, .f32⟩ : BufTy).Contents (Elt Ideal)) (x1 : (⟨S1x32x64x256, .f32⟩ : BufTy).Contents (Elt Ideal))
  (x2 : (⟨S1x256x64, .f32⟩ : BufTy).Contents (Elt Ideal)) (x3 : (⟨S1x32x64, .f32⟩ : BufTy).Contents (Elt Ideal))

/-- The rows, in blocks of 16. -/
theorem blocked (b : Fin 4) (n : Fin 256) (l : Fin 16) (h : Fin 4) (d : Fin 64) :
    val_main_v0 (F := Ideal) x0 (ix5 b n l h d) = x0 (ix2 (spot b n l) ⟨64 * h.val + d.val, by omega⟩) := by
  rw [val_main_v0_apply]
  refine congrArg x0 (funext fun a => Fin.ext ?_)
  match a with
  | ⟨0, _⟩ => show ((((b.val * 256 + n.val) * 16 + l.val) * 4 + h.val) * 64 + d.val) / 256 = 4096 * b.val + 16 * n.val + l.val; omega
  | ⟨1, _⟩ => show ((((b.val * 256 + n.val) * 16 + l.val) * 4 + h.val) * 64 + d.val) % 256 = 64 * h.val + d.val; omega
theorem next_inner (b : Fin 4) (n : Fin 255) (l : Fin 16) (h : Fin 4) (d : Fin 64) :
    val_main_v3 (F := Ideal) x0 (ix5 b ⟨n.val, by omega⟩ l h d) = val_main_v0 (F := Ideal) x0 (ix5 b ⟨1 + n.val, by omega⟩ l h d) := by
  unfold val_main_v3 val_main_v1
  generalize val_main_v0 (F := Ideal) x0 = y
  pointwise
theorem next_last (b : Fin 4) (n : Fin 1) (l : Fin 16) (h : Fin 4) (d : Fin 64) :
    val_main_v3 (F := Ideal) x0 (ix5 b ⟨255 + n.val, by omega⟩ l h d) = val_main_v0 (F := Ideal) x0 (ix5 b ⟨n.val, by omega⟩ l h d) := by
  unfold val_main_v3 val_main_v2
  generalize val_main_v0 (F := Ideal) x0 = y
  pointwise
/-- The block after each. -/
theorem next (b : Fin 4) (n : Fin 256) (l : Fin 16) (h : Fin 4) (d : Fin 64) :
    val_main_v3 (F := Ideal) x0 (ix5 b n l h d) = val_main_v0 (F := Ideal) x0 (ix5 b (after n) l h d) := by
  by_cases hn : n.val < 255
  · refine (next_inner x0 b ⟨n.val, hn⟩ l h d).trans (congrArg (fun k => val_main_v0 (F := Ideal) x0 (ix5 b k l h d)) (Fin.ext ?_))
    show 1 + n.val = (n.val + 1) % 256
    omega
  · have e : n = ⟨255 + (0 : Fin 1).val, by decide⟩ := Fin.ext (show n.val = 255 by omega)
    subst e
    exact next_last x0 b 0 l h d
theorem pair_lo (b : Fin 4) (n : Fin 256) (l : Fin 16) (h : Fin 4) (d : Fin 64) :
    val_main_v4 (F := Ideal) x0 (ix5 b n ⟨l.val, by omega⟩ h d) = val_main_v0 (F := Ideal) x0 (ix5 b n l h d) := by
  unfold val_main_v4
  generalize val_main_v0 (F := Ideal) x0 = y
  generalize val_main_v3 (F := Ideal) x0 = z
  pointwise
theorem pair_hi (b : Fin 4) (n : Fin 256) (l : Fin 16) (h : Fin 4) (d : Fin 64) :
    val_main_v4 (F := Ideal) x0 (ix5 b n ⟨16 + l.val, by omega⟩ h d) = val_main_v3 (F := Ideal) x0 (ix5 b n l h d) := by
  unfold val_main_v4
  generalize val_main_v0 (F := Ideal) x0 = y
  generalize val_main_v3 (F := Ideal) x0 = z
  pointwise
/-- A block of 32. -/
theorem pair (b : Fin 4) (n : Fin 256) (l : Fin 32) (h : Fin 4) (d : Fin 64) :
    val_main_v4 (F := Ideal) x0 (ix5 b n l h d)
      = if hl : l.val < 16 then x0 (ix2 (spot b n ⟨l.val, hl⟩) ⟨64 * h.val + d.val, by omega⟩)
        else x0 (ix2 (spot b (after n) ⟨l.val - 16, by omega⟩) ⟨64 * h.val + d.val, by omega⟩) := by
  by_cases hl : l.val < 16
  · rw [dif_pos hl]
    exact (pair_lo x0 b n ⟨l.val, hl⟩ h d).trans (blocked x0 b n _ h d)
  · rw [dif_neg hl]
    refine Eq.trans ?_ ((pair_hi x0 b n ⟨l.val - 16, by omega⟩ h d).trans ((next x0 b n _ h d).trans (blocked x0 b (after n) _ h d)))
    exact congrArg (fun l => val_main_v4 (F := Ideal) x0 (ix5 b n l h d)) (Fin.ext (show l.val = 16 + (l.val - 16) by omega))

theorem unit (b : Fin 4) (n : Fin 256) (h : Fin 4) (f : Fin 256) :
    val_main_v10 (F := Ideal) x0 x1 x3 (ix4 b n h f)
      = cell (fun l d => x0 (ix2 (spot b n l) ⟨64 * h.val + d.val, by omega⟩)) (fun l d => x0 (ix2 (spot b (after n) l) ⟨64 * h.val + d.val, by omega⟩))
          (fun l d => x3 (ix3 0 l d)) (fun l d => x1 (ix4 0 l d f)) := by
  pointwise [val_main_v10, val_main_v9, val_main_v8, val_main_v7, val_main_v6, val_main_v5]
  unfold cell
  simp only [pair]
theorem bent (b : Fin 4) (n : Fin 256) (h : Fin 4) (f : Fin 256) :
    val_main_v23 (F := Ideal) x0 x1 x3 (ix4 b n h f) = gelu (val_main_v10 (F := Ideal) x0 x1 x3 (ix4 b n h f)) := by
  unfold gelu
  pointwise [val_main_v23, val_main_v22, val_main_v21, val_main_v20, val_main_v19, val_main_v18, val_main_v17, val_main_v16, val_main_v15, val_main_v14, val_main_v13, val_main_v12, val_main_v11, val_main_cst, val_main_cst_0, val_main_cst_1, val_main_cst_2]
  rw [mul_comm (val_main_v10 (F := Ideal) x0 x1 x3 (ix4 b n h f) * val_main_v10 (F := Ideal) x0 x1 x3 (ix4 b n h f))]
theorem result (b h : Fin 4) (q : Fin 64) (n : Fin 256) :
    val_main_v27 (F := Ideal) x0 x1 x2 x3 (ix4 b h q n)
      = compressed (fun r k => x0 (ix2 r k)) (fun l d f => x1 (ix4 0 l d f)) (fun f q => x2 (ix3 0 f q)) (fun l d => x3 (ix3 0 l d)) b h q n := by
  unfold compressed
  pointwise [val_main_v27, val_main_v26, val_main_v25, val_main_v24]
  simp only [bent, unit]
end Cert.CmpvRefIdeal.Ref
end
-- ==== Proof.CmpvClaim.lean ====
/-
  The value compression's call: its frames, and its value against the problem's own lines.
-/
module
public import proofs.«01_k».proof.Proof.CmpvKernel
public import proofs.«01_k».proof.Proof.CmpvRef
public import proofs.«01_k».proof.Proof.Gen.Cmpv.Frame
public import proofs.«01_k».proof.Defs
@[expose] public section
set_option maxRecDepth 16384
noncomputable section
namespace Cert.Proof.CmpvClaim
open Idealize.ShloMosaic Idealize.ShloMosaic.TcCoe Idealize.SL.Sem Layer

theorem frame_kernel : Cert.quiescent_Cmpv := fun m ρ _ => Cert.Cmpv.Gen.frame m ρ
theorem frame_ideal : Cert.quiescent_CmpvIdeal := fun m ρ _ => Cert.CmpvIdeal.Gen.frame m ρ
theorem frame_reference : Cert.quiescent_CmpvRefIdeal := fun m ρ _ =>
  (θ_run Cert.CmpvRefIdeal.defs _ _).mono (fun r h => ⟨fun c => (h c).2, sem_eq_zero_of_no_sems (by decide) r.2⟩)
    (Cert.CmpvRefIdeal.Value.run (F := Ideal) m ρ)
theorem preserves : Cert.preserves_Cmpv_CmpvIdeal := trivial

/-- Both sides are each block of 32 positions through the network. -/
theorem algebraic : Cert.algebraic_CmpvIdeal_CmpvRefIdeal := by
  intro m ρ m' ρ' _ hagree
  refine ⟨fun c => (Cert.CmpvIdeal.Gen.dats m 0 c).arrAt 5 Cert.CmpvIdeal.cfg0.N, Cert.CmpvIdeal.Value.run_blocks (F := Ideal) m ρ, ?_⟩
  refine (θ_run Cert.CmpvRefIdeal.defs _ _).mono (fun _ h c => ?_) (Cert.CmpvRefIdeal.Value.run (F := Ideal) m' ρ')
  refine ⟨(h c).1.trans ?_, (h c).2⟩
  obtain ⟨e0, e1, e2, e3⟩ := hagree c
  rw [Cert.CmpvRefIdeal.Read.val_main_v27_eq, e0, e1, e2, e3]
  funext j
  obtain ⟨b, h, q, n, rfl⟩ : ∃ (b h : Fin 4) (q : Fin 64) (n : Fin 256), j = ix4 b h q n := ⟨j 0, j 1, j 2, j 3, eq_ix4 j⟩
  exact (Cert.CmpvRefIdeal.Ref.result _ _ _ _ b h q n).trans (Cert.CmpvIdeal.Kernel.array m c b h q n).symm

end Cert.Proof.CmpvClaim
end
-- ==== Proof.lean ====
/-
  The claim, put together: for each of the calls its frames, and for all but the sparse attention its value against the
  problem's own lines.
-/
module
public import proofs.«01_k».proof.Proof.NsaClaim
public import proofs.«01_k».proof.Proof.Ffn1Claim
public import proofs.«01_k».proof.Proof.Ffn2Claim
public import proofs.«01_k».proof.Proof.ConvClaim
public import proofs.«01_k».proof.Proof.OutClaim
public import proofs.«01_k».proof.Proof.AttnClaim
public import proofs.«01_k».proof.Proof.CmpkClaim
public import proofs.«01_k».proof.Proof.CmpvClaim
public import proofs.«01_k».proof.Defs

@[expose] public section

noncomputable section

namespace Cert.Proof

open Idealize.ShloMosaic Idealize.SL.Sem

theorem claim : Cert.Claim :=
  ⟨Cert.Nsa.Gen.facts, Cert.NsaIdeal.Gen.facts, Cert.Ffn1.Gen.facts, Cert.Ffn1Ideal.Gen.facts, Cert.Ffn1RefIdeal.Gen.facts, Cert.Ffn2.Gen.facts, Cert.Ffn2Ideal.Gen.facts, Cert.Ffn2RefIdeal.Gen.facts, Cert.Conv.Gen.facts, Cert.ConvIdeal.Gen.facts, Cert.ConvRefIdeal.Gen.facts, Cert.Out.Gen.facts, Cert.OutIdeal.Gen.facts, Cert.OutRefIdeal.Gen.facts, Cert.Attn.Gen.facts, Cert.AttnIdeal.Gen.facts, Cert.AttnRefIdeal.Gen.facts, Cert.Cmpk.Gen.facts, Cert.CmpkIdeal.Gen.facts, Cert.CmpkRefIdeal.Gen.facts, Cert.Cmpv.Gen.facts, Cert.CmpvIdeal.Gen.facts, Cert.CmpvRefIdeal.Gen.facts,
    NsaClaim.frame_kernel, NsaClaim.frame_ideal, Ffn1Claim.frame_kernel, Ffn1Claim.frame_ideal, Ffn1Claim.frame_reference, Ffn2Claim.frame_kernel, Ffn2Claim.frame_ideal, Ffn2Claim.frame_reference, ConvClaim.frame_kernel, ConvClaim.frame_ideal, ConvClaim.frame_reference, OutClaim.frame_kernel, OutClaim.frame_ideal, OutClaim.frame_reference, AttnClaim.frame_kernel, AttnClaim.frame_ideal, AttnClaim.frame_reference, CmpkClaim.frame_kernel, CmpkClaim.frame_ideal, CmpkClaim.frame_reference, CmpvClaim.frame_kernel, CmpvClaim.frame_ideal, CmpvClaim.frame_reference,
    NsaClaim.preserves, Ffn1Claim.preserves, Ffn1Claim.algebraic, Ffn2Claim.preserves, Ffn2Claim.algebraic, ConvClaim.preserves, ConvClaim.algebraic, OutClaim.preserves, OutClaim.algebraic, AttnClaim.preserves, AttnClaim.algebraic, CmpkClaim.preserves, CmpkClaim.algebraic, CmpvClaim.preserves, CmpvClaim.algebraic⟩

end Cert.Proof

end
